-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Bff1 (m : (ℓ : Loc Cert.Bff1.nD Cert.Bff1.τ Cert.Bff1.sig) → Buf (Elt Bits) ℓ) : Prop :=
  True

def Pre_Bff1Ideal (m : (ℓ : Loc Cert.Bff1Ideal.nD Cert.Bff1Ideal.τ Cert.Bff1Ideal.sig) → Buf (Elt Ideal) ℓ) : Prop :=
  True

def Pre_Bff1RefIdeal (m : (ℓ : Loc Cert.Bff1RefIdeal.nD Cert.Bff1RefIdeal.τ Cert.Bff1RefIdeal.sig) → Buf (Elt Ideal) ℓ) : Prop :=
  True

def Pre_Bff2 (m : (ℓ : Loc Cert.Bff2.nD Cert.Bff2.τ Cert.Bff2.sig) → Buf (Elt Bits) ℓ) : Prop :=
  True

def Pre_Bff2Ideal (m : (ℓ : Loc Cert.Bff2Ideal.nD Cert.Bff2Ideal.τ Cert.Bff2Ideal.sig) → Buf (Elt Ideal) ℓ) : Prop :=
  True

def Pre_Bff2RefIdeal (m : (ℓ : Loc Cert.Bff2RefIdeal.nD Cert.Bff2RefIdeal.τ Cert.Bff2RefIdeal.sig) → Buf (Elt Ideal) ℓ) : Prop :=
  True

def Pre_Wff2 (m : (ℓ : Loc Cert.Wff2.nD Cert.Wff2.τ Cert.Wff2.sig) → Buf (Elt Bits) ℓ) : Prop :=
  True

def Pre_Wff2Ideal (m : (ℓ : Loc Cert.Wff2Ideal.nD Cert.Wff2Ideal.τ Cert.Wff2Ideal.sig) → Buf (Elt Ideal) ℓ) : Prop :=
  True

def Pre_Wff2RefIdeal (m : (ℓ : Loc Cert.Wff2RefIdeal.nD Cert.Wff2RefIdeal.τ Cert.Wff2RefIdeal.sig) → Buf (Elt Ideal) ℓ) : Prop :=
  True

def Pre_Wff1 (m : (ℓ : Loc Cert.Wff1.nD Cert.Wff1.τ Cert.Wff1.sig) → Buf (Elt Bits) ℓ) : Prop :=
  True

def Pre_Wff1Ideal (m : (ℓ : Loc Cert.Wff1Ideal.nD Cert.Wff1Ideal.τ Cert.Wff1Ideal.sig) → Buf (Elt Ideal) ℓ) : Prop :=
  True

def Pre_Wff1RefIdeal (m : (ℓ : Loc Cert.Wff1RefIdeal.nD Cert.Wff1RefIdeal.τ Cert.Wff1RefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_Bin (m : (ℓ : Loc Cert.Bin.nD Cert.Bin.τ Cert.Bin.sig) → Buf (Elt Bits) ℓ) : Prop :=
  True

def Pre_BinIdeal (m : (ℓ : Loc Cert.BinIdeal.nD Cert.BinIdeal.τ Cert.BinIdeal.sig) → Buf (Elt Ideal) ℓ) : Prop :=
  True

def Pre_BinRefIdeal (m : (ℓ : Loc Cert.BinRefIdeal.nD Cert.BinRefIdeal.τ Cert.BinRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Bout (m : (ℓ : Loc Cert.Bout.nD Cert.Bout.τ Cert.Bout.sig) → Buf (Elt Bits) ℓ) : Prop :=
  True

def Pre_BoutIdeal (m : (ℓ : Loc Cert.BoutIdeal.nD Cert.BoutIdeal.τ Cert.BoutIdeal.sig) → Buf (Elt Ideal) ℓ) : Prop :=
  True

def Pre_BoutRefIdeal (m : (ℓ : Loc Cert.BoutRefIdeal.nD Cert.BoutRefIdeal.τ Cert.BoutRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Wglu (m : (ℓ : Loc Cert.Wglu.nD Cert.Wglu.τ Cert.Wglu.sig) → Buf (Elt Bits) ℓ) : Prop :=
  True

def Pre_WgluIdeal (m : (ℓ : Loc Cert.WgluIdeal.nD Cert.WgluIdeal.τ Cert.WgluIdeal.sig) → Buf (Elt Ideal) ℓ) : Prop :=
  True

def Pre_WgluRefIdeal (m : (ℓ : Loc Cert.WgluRefIdeal.nD Cert.WgluRefIdeal.τ Cert.WgluRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Bglu (m : (ℓ : Loc Cert.Bglu.nD Cert.Bglu.τ Cert.Bglu.sig) → Buf (Elt Bits) ℓ) : Prop :=
  True

def Pre_BgluIdeal (m : (ℓ : Loc Cert.BgluIdeal.nD Cert.BgluIdeal.τ Cert.BgluIdeal.sig) → Buf (Elt Ideal) ℓ) : Prop :=
  True

def Pre_BgluIdeal_finite_bglu [hPre_finite_bglu : Cert.Pre_finite_bglu.Facts] (m : (ℓ : Loc Cert.BgluIdeal.nD Cert.BgluIdeal.τ Cert.BgluIdeal.sig) → Buf (Elt Ideal) ℓ) : Prop :=
  ∀ c : Dev Cert.BgluIdeal.nD,
    (Cert.Pre_finite_bglu.fn (F := Ideal) (m ((c.tc : Thread Cert.BgluIdeal.nD Cert.BgluIdeal.τ).loc Cert.BgluIdeal.main_arg0)) (m ((c.tc : Thread Cert.BgluIdeal.nD Cert.BgluIdeal.τ).loc Cert.BgluIdeal.main_arg1)) (m ((c.tc : Thread Cert.BgluIdeal.nD Cert.BgluIdeal.τ).loc Cert.BgluIdeal.main_arg2))) = (fun _ => 1#1)

def Pre_BgluRefIdeal (m : (ℓ : Loc Cert.BgluRefIdeal.nD Cert.BgluRefIdeal.τ Cert.BgluRefIdeal.sig) → Buf (Elt Ideal) ℓ) : Prop :=
  True

def Pre_BgluRefIdeal_finite_bglu [hPre_finite_bglu : Cert.Pre_finite_bglu.Facts] (m : (ℓ : Loc Cert.BgluRefIdeal.nD Cert.BgluRefIdeal.τ Cert.BgluRefIdeal.sig) → Buf (Elt Ideal) ℓ) : Prop :=
  ∀ c : Dev Cert.BgluRefIdeal.nD,
    (Cert.Pre_finite_bglu.fn (F := Ideal) (m ((c.tc : Thread Cert.BgluRefIdeal.nD Cert.BgluRefIdeal.τ).loc Cert.BgluRefIdeal.main_arg0)) (m ((c.tc : Thread Cert.BgluRefIdeal.nD Cert.BgluRefIdeal.τ).loc Cert.BgluRefIdeal.main_arg1)) (m ((c.tc : Thread Cert.BgluRefIdeal.nD Cert.BgluRefIdeal.τ).loc Cert.BgluRefIdeal.main_arg2))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkIdeal_finite_qk [hPre_finite_qk : Cert.Pre_finite_qk.Facts] (m : (ℓ : Loc Cert.QkIdeal.nD Cert.QkIdeal.τ Cert.QkIdeal.sig) → Buf (Elt Ideal) ℓ) : Prop :=
  ∀ c : Dev Cert.QkIdeal.nD,
    (Cert.Pre_finite_qk.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2))) = (fun _ => 1#1)

def Pre_QkRefIdeal (m : (ℓ : Loc Cert.QkRefIdeal.nD Cert.QkRefIdeal.τ Cert.QkRefIdeal.sig) → Buf (Elt Ideal) ℓ) : Prop :=
  True

def Pre_QkRefIdeal_finite_qk [hPre_finite_qk : Cert.Pre_finite_qk.Facts] (m : (ℓ : Loc Cert.QkRefIdeal.nD Cert.QkRefIdeal.τ Cert.QkRefIdeal.sig) → Buf (Elt Ideal) ℓ) : Prop :=
  ∀ c : Dev Cert.QkRefIdeal.nD,
    (Cert.Pre_finite_qk.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2))) = (fun _ => 1#1)

def Pre_Gz (m : (ℓ : Loc Cert.Gz.nD Cert.Gz.τ Cert.Gz.sig) → Buf (Elt Bits) ℓ) : Prop :=
  True

def Pre_GzIdeal (m : (ℓ : Loc Cert.GzIdeal.nD Cert.GzIdeal.τ Cert.GzIdeal.sig) → Buf (Elt Ideal) ℓ) : Prop :=
  True

def Pre_GzIdeal_finite_gz [hPre_finite_gz : Cert.Pre_finite_gz.Facts] (m : (ℓ : Loc Cert.GzIdeal.nD Cert.GzIdeal.τ Cert.GzIdeal.sig) → Buf (Elt Ideal) ℓ) : Prop :=
  ∀ c : Dev Cert.GzIdeal.nD,
    (Cert.Pre_finite_gz.fn (F := Ideal) (m ((c.tc : Thread Cert.GzIdeal.nD Cert.GzIdeal.τ).loc Cert.GzIdeal.main_arg0)) (m ((c.tc : Thread Cert.GzIdeal.nD Cert.GzIdeal.τ).loc Cert.GzIdeal.main_arg1)) (m ((c.tc : Thread Cert.GzIdeal.nD Cert.GzIdeal.τ).loc Cert.GzIdeal.main_arg2)) (m ((c.tc : Thread Cert.GzIdeal.nD Cert.GzIdeal.τ).loc Cert.GzIdeal.main_arg3)) (m ((c.tc : Thread Cert.GzIdeal.nD Cert.GzIdeal.τ).loc Cert.GzIdeal.main_arg4)) (m ((c.tc : Thread Cert.GzIdeal.nD Cert.GzIdeal.τ).loc Cert.GzIdeal.main_arg5)) (m ((c.tc : Thread Cert.GzIdeal.nD Cert.GzIdeal.τ).loc Cert.GzIdeal.main_arg6)) (m ((c.tc : Thread Cert.GzIdeal.nD Cert.GzIdeal.τ).loc Cert.GzIdeal.main_arg7)) (m ((c.tc : Thread Cert.GzIdeal.nD Cert.GzIdeal.τ).loc Cert.GzIdeal.main_arg8))) = (fun _ => 1#1)

def Pre_GzRefIdeal (m : (ℓ : Loc Cert.GzRefIdeal.nD Cert.GzRefIdeal.τ Cert.GzRefIdeal.sig) → Buf (Elt Ideal) ℓ) : Prop :=
  True

def Pre_GzRefIdeal_finite_gz [hPre_finite_gz : Cert.Pre_finite_gz.Facts] (m : (ℓ : Loc Cert.GzRefIdeal.nD Cert.GzRefIdeal.τ Cert.GzRefIdeal.sig) → Buf (Elt Ideal) ℓ) : Prop :=
  ∀ c : Dev Cert.GzRefIdeal.nD,
    (Cert.Pre_finite_gz.fn (F := Ideal) (m ((c.tc : Thread Cert.GzRefIdeal.nD Cert.GzRefIdeal.τ).loc Cert.GzRefIdeal.main_arg0)) (m ((c.tc : Thread Cert.GzRefIdeal.nD Cert.GzRefIdeal.τ).loc Cert.GzRefIdeal.main_arg1)) (m ((c.tc : Thread Cert.GzRefIdeal.nD Cert.GzRefIdeal.τ).loc Cert.GzRefIdeal.main_arg2)) (m ((c.tc : Thread Cert.GzRefIdeal.nD Cert.GzRefIdeal.τ).loc Cert.GzRefIdeal.main_arg3)) (m ((c.tc : Thread Cert.GzRefIdeal.nD Cert.GzRefIdeal.τ).loc Cert.GzRefIdeal.main_arg4)) (m ((c.tc : Thread Cert.GzRefIdeal.nD Cert.GzRefIdeal.τ).loc Cert.GzRefIdeal.main_arg5)) (m ((c.tc : Thread Cert.GzRefIdeal.nD Cert.GzRefIdeal.τ).loc Cert.GzRefIdeal.main_arg6)) (m ((c.tc : Thread Cert.GzRefIdeal.nD Cert.GzRefIdeal.τ).loc Cert.GzRefIdeal.main_arg7)) (m ((c.tc : Thread Cert.GzRefIdeal.nD Cert.GzRefIdeal.τ).loc Cert.GzRefIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Bff1 [hBff1 : Cert.Bff1.Facts] : Prop :=
  ∀ (m : (ℓ : Loc Cert.Bff1.nD Cert.Bff1.τ Cert.Bff1.sig) → Buf (Elt Bits) ℓ) (g : Dev Cert.Bff1.nD → PrngReg), Pre_Bff1 m →
    θ_run (Cert.Bff1.defs (F := Bits)) (onTc (τ := Cert.Bff1.τ) (Cert.Bff1.main (F := Bits))) ⟨m, fun _ => 0, g⟩ (fun r => (∀ c : Dev Cert.Bff1.nD,
      r.2.mem ((c.tc : Thread Cert.Bff1.nD Cert.Bff1.τ).loc Cert.Bff1.main_arg0) = m ((c.tc : Thread Cert.Bff1.nD Cert.Bff1.τ).loc Cert.Bff1.main_arg0)
      ∧ r.2.mem ((c.tc : Thread Cert.Bff1.nD Cert.Bff1.τ).loc Cert.Bff1.main_arg1) = m ((c.tc : Thread Cert.Bff1.nD Cert.Bff1.τ).loc Cert.Bff1.main_arg1)
      ∧ r.2.mem ((c.tc : Thread Cert.Bff1.nD Cert.Bff1.τ).loc Cert.Bff1.main_arg2) = m ((c.tc : Thread Cert.Bff1.nD Cert.Bff1.τ).loc Cert.Bff1.main_arg2)
      ∧ r.2.mem ((c.tc : Thread Cert.Bff1.nD Cert.Bff1.τ).loc Cert.Bff1.main_arg3) = m ((c.tc : Thread Cert.Bff1.nD Cert.Bff1.τ).loc Cert.Bff1.main_arg3)
      ∧ r.2.mem ((c.tc : Thread Cert.Bff1.nD Cert.Bff1.τ).loc Cert.Bff1.main_arg4) = m ((c.tc : Thread Cert.Bff1.nD Cert.Bff1.τ).loc Cert.Bff1.main_arg4))
      ∧ r.2.sem = fun _ => 0)

def quiescent_Bff1Ideal [hBff1Ideal : Cert.Bff1Ideal.Facts] : Prop :=
  ∀ (m : (ℓ : Loc Cert.Bff1Ideal.nD Cert.Bff1Ideal.τ Cert.Bff1Ideal.sig) → Buf (Elt Ideal) ℓ) (g : Dev Cert.Bff1Ideal.nD → PrngReg), Pre_Bff1Ideal m →
    θ_run (Cert.Bff1Ideal.defs (F := Ideal)) (onTc (τ := Cert.Bff1Ideal.τ) (Cert.Bff1Ideal.main (F := Ideal))) ⟨m, fun _ => 0, g⟩ (fun r => (∀ c : Dev Cert.Bff1Ideal.nD,
      r.2.mem ((c.tc : Thread Cert.Bff1Ideal.nD Cert.Bff1Ideal.τ).loc Cert.Bff1Ideal.main_arg0) = m ((c.tc : Thread Cert.Bff1Ideal.nD Cert.Bff1Ideal.τ).loc Cert.Bff1Ideal.main_arg0)
      ∧ r.2.mem ((c.tc : Thread Cert.Bff1Ideal.nD Cert.Bff1Ideal.τ).loc Cert.Bff1Ideal.main_arg1) = m ((c.tc : Thread Cert.Bff1Ideal.nD Cert.Bff1Ideal.τ).loc Cert.Bff1Ideal.main_arg1)
      ∧ r.2.mem ((c.tc : Thread Cert.Bff1Ideal.nD Cert.Bff1Ideal.τ).loc Cert.Bff1Ideal.main_arg2) = m ((c.tc : Thread Cert.Bff1Ideal.nD Cert.Bff1Ideal.τ).loc Cert.Bff1Ideal.main_arg2)
      ∧ r.2.mem ((c.tc : Thread Cert.Bff1Ideal.nD Cert.Bff1Ideal.τ).loc Cert.Bff1Ideal.main_arg3) = m ((c.tc : Thread Cert.Bff1Ideal.nD Cert.Bff1Ideal.τ).loc Cert.Bff1Ideal.main_arg3)
      ∧ r.2.mem ((c.tc : Thread Cert.Bff1Ideal.nD Cert.Bff1Ideal.τ).loc Cert.Bff1Ideal.main_arg4) = m ((c.tc : Thread Cert.Bff1Ideal.nD Cert.Bff1Ideal.τ).loc Cert.Bff1Ideal.main_arg4))
      ∧ r.2.sem = fun _ => 0)

def quiescent_Bff1RefIdeal [hBff1RefIdeal : Cert.Bff1RefIdeal.Facts] : Prop :=
  ∀ (m : (ℓ : Loc Cert.Bff1RefIdeal.nD Cert.Bff1RefIdeal.τ Cert.Bff1RefIdeal.sig) → Buf (Elt Ideal) ℓ) (g : Dev Cert.Bff1RefIdeal.nD → PrngReg), Pre_Bff1RefIdeal m →
    θ_run (Cert.Bff1RefIdeal.defs (F := Ideal)) (onTc (τ := Cert.Bff1RefIdeal.τ) (Cert.Bff1RefIdeal.main (F := Ideal))) ⟨m, fun _ => 0, g⟩ (fun r => (∀ c : Dev Cert.Bff1RefIdeal.nD,
      r.2.mem ((c.tc : Thread Cert.Bff1RefIdeal.nD Cert.Bff1RefIdeal.τ).loc Cert.Bff1RefIdeal.main_arg0) = m ((c.tc : Thread Cert.Bff1RefIdeal.nD Cert.Bff1RefIdeal.τ).loc Cert.Bff1RefIdeal.main_arg0)
      ∧ r.2.mem ((c.tc : Thread Cert.Bff1RefIdeal.nD Cert.Bff1RefIdeal.τ).loc Cert.Bff1RefIdeal.main_arg1) = m ((c.tc : Thread Cert.Bff1RefIdeal.nD Cert.Bff1RefIdeal.τ).loc Cert.Bff1RefIdeal.main_arg1)
      ∧ r.2.mem ((c.tc : Thread Cert.Bff1RefIdeal.nD Cert.Bff1RefIdeal.τ).loc Cert.Bff1RefIdeal.main_arg2) = m ((c.tc : Thread Cert.Bff1RefIdeal.nD Cert.Bff1RefIdeal.τ).loc Cert.Bff1RefIdeal.main_arg2)
      ∧ r.2.mem ((c.tc : Thread Cert.Bff1RefIdeal.nD Cert.Bff1RefIdeal.τ).loc Cert.Bff1RefIdeal.main_arg3) = m ((c.tc : Thread Cert.Bff1RefIdeal.nD Cert.Bff1RefIdeal.τ).loc Cert.Bff1RefIdeal.main_arg3)
      ∧ r.2.mem ((c.tc : Thread Cert.Bff1RefIdeal.nD Cert.Bff1RefIdeal.τ).loc Cert.Bff1RefIdeal.main_arg4) = m ((c.tc : Thread Cert.Bff1RefIdeal.nD Cert.Bff1RefIdeal.τ).loc Cert.Bff1RefIdeal.main_arg4))
      ∧ r.2.sem = fun _ => 0)

def quiescent_Bff2 [hBff2 : Cert.Bff2.Facts] : Prop :=
  ∀ (m : (ℓ : Loc Cert.Bff2.nD Cert.Bff2.τ Cert.Bff2.sig) → Buf (Elt Bits) ℓ) (g : Dev Cert.Bff2.nD → PrngReg), Pre_Bff2 m →
    θ_run (Cert.Bff2.defs (F := Bits)) (onTc (τ := Cert.Bff2.τ) (Cert.Bff2.main (F := Bits))) ⟨m, fun _ => 0, g⟩ (fun r => (∀ c : Dev Cert.Bff2.nD,
      r.2.mem ((c.tc : Thread Cert.Bff2.nD Cert.Bff2.τ).loc Cert.Bff2.main_arg0) = m ((c.tc : Thread Cert.Bff2.nD Cert.Bff2.τ).loc Cert.Bff2.main_arg0)
      ∧ r.2.mem ((c.tc : Thread Cert.Bff2.nD Cert.Bff2.τ).loc Cert.Bff2.main_arg1) = m ((c.tc : Thread Cert.Bff2.nD Cert.Bff2.τ).loc Cert.Bff2.main_arg1)
      ∧ r.2.mem ((c.tc : Thread Cert.Bff2.nD Cert.Bff2.τ).loc Cert.Bff2.main_arg2) = m ((c.tc : Thread Cert.Bff2.nD Cert.Bff2.τ).loc Cert.Bff2.main_arg2))
      ∧ r.2.sem = fun _ => 0)

def quiescent_Bff2Ideal [hBff2Ideal : Cert.Bff2Ideal.Facts] : Prop :=
  ∀ (m : (ℓ : Loc Cert.Bff2Ideal.nD Cert.Bff2Ideal.τ Cert.Bff2Ideal.sig) → Buf (Elt Ideal) ℓ) (g : Dev Cert.Bff2Ideal.nD → PrngReg), Pre_Bff2Ideal m →
    θ_run (Cert.Bff2Ideal.defs (F := Ideal)) (onTc (τ := Cert.Bff2Ideal.τ) (Cert.Bff2Ideal.main (F := Ideal))) ⟨m, fun _ => 0, g⟩ (fun r => (∀ c : Dev Cert.Bff2Ideal.nD,
      r.2.mem ((c.tc : Thread Cert.Bff2Ideal.nD Cert.Bff2Ideal.τ).loc Cert.Bff2Ideal.main_arg0) = m ((c.tc : Thread Cert.Bff2Ideal.nD Cert.Bff2Ideal.τ).loc Cert.Bff2Ideal.main_arg0)
      ∧ r.2.mem ((c.tc : Thread Cert.Bff2Ideal.nD Cert.Bff2Ideal.τ).loc Cert.Bff2Ideal.main_arg1) = m ((c.tc : Thread Cert.Bff2Ideal.nD Cert.Bff2Ideal.τ).loc Cert.Bff2Ideal.main_arg1)
      ∧ r.2.mem ((c.tc : Thread Cert.Bff2Ideal.nD Cert.Bff2Ideal.τ).loc Cert.Bff2Ideal.main_arg2) = m ((c.tc : Thread Cert.Bff2Ideal.nD Cert.Bff2Ideal.τ).loc Cert.Bff2Ideal.main_arg2))
      ∧ r.2.sem = fun _ => 0)

def quiescent_Bff2RefIdeal [hBff2RefIdeal : Cert.Bff2RefIdeal.Facts] : Prop :=
  ∀ (m : (ℓ : Loc Cert.Bff2RefIdeal.nD Cert.Bff2RefIdeal.τ Cert.Bff2RefIdeal.sig) → Buf (Elt Ideal) ℓ) (g : Dev Cert.Bff2RefIdeal.nD → PrngReg), Pre_Bff2RefIdeal m →
    θ_run (Cert.Bff2RefIdeal.defs (F := Ideal)) (onTc (τ := Cert.Bff2RefIdeal.τ) (Cert.Bff2RefIdeal.main (F := Ideal))) ⟨m, fun _ => 0, g⟩ (fun r => (∀ c : Dev Cert.Bff2RefIdeal.nD,
      r.2.mem ((c.tc : Thread Cert.Bff2RefIdeal.nD Cert.Bff2RefIdeal.τ).loc Cert.Bff2RefIdeal.main_arg0) = m ((c.tc : Thread Cert.Bff2RefIdeal.nD Cert.Bff2RefIdeal.τ).loc Cert.Bff2RefIdeal.main_arg0)
      ∧ r.2.mem ((c.tc : Thread Cert.Bff2RefIdeal.nD Cert.Bff2RefIdeal.τ).loc Cert.Bff2RefIdeal.main_arg1) = m ((c.tc : Thread Cert.Bff2RefIdeal.nD Cert.Bff2RefIdeal.τ).loc Cert.Bff2RefIdeal.main_arg1)
      ∧ r.2.mem ((c.tc : Thread Cert.Bff2RefIdeal.nD Cert.Bff2RefIdeal.τ).loc Cert.Bff2RefIdeal.main_arg2) = m ((c.tc : Thread Cert.Bff2RefIdeal.nD Cert.Bff2RefIdeal.τ).loc Cert.Bff2RefIdeal.main_arg2))
      ∧ r.2.sem = fun _ => 0)

def quiescent_Wff2 [hWff2 : Cert.Wff2.Facts] : Prop :=
  ∀ (m : (ℓ : Loc Cert.Wff2.nD Cert.Wff2.τ Cert.Wff2.sig) → Buf (Elt Bits) ℓ) (g : Dev Cert.Wff2.nD → PrngReg), Pre_Wff2 m →
    θ_run (Cert.Wff2.defs (F := Bits)) (onTc (τ := Cert.Wff2.τ) (Cert.Wff2.main (F := Bits))) ⟨m, fun _ => 0, g⟩ (fun r => (∀ c : Dev Cert.Wff2.nD,
      r.2.mem ((c.tc : Thread Cert.Wff2.nD Cert.Wff2.τ).loc Cert.Wff2.main_arg0) = m ((c.tc : Thread Cert.Wff2.nD Cert.Wff2.τ).loc Cert.Wff2.main_arg0)
      ∧ r.2.mem ((c.tc : Thread Cert.Wff2.nD Cert.Wff2.τ).loc Cert.Wff2.main_arg1) = m ((c.tc : Thread Cert.Wff2.nD Cert.Wff2.τ).loc Cert.Wff2.main_arg1))
      ∧ r.2.sem = fun _ => 0)

def quiescent_Wff2Ideal [hWff2Ideal : Cert.Wff2Ideal.Facts] : Prop :=
  ∀ (m : (ℓ : Loc Cert.Wff2Ideal.nD Cert.Wff2Ideal.τ Cert.Wff2Ideal.sig) → Buf (Elt Ideal) ℓ) (g : Dev Cert.Wff2Ideal.nD → PrngReg), Pre_Wff2Ideal m →
    θ_run (Cert.Wff2Ideal.defs (F := Ideal)) (onTc (τ := Cert.Wff2Ideal.τ) (Cert.Wff2Ideal.main (F := Ideal))) ⟨m, fun _ => 0, g⟩ (fun r => (∀ c : Dev Cert.Wff2Ideal.nD,
      r.2.mem ((c.tc : Thread Cert.Wff2Ideal.nD Cert.Wff2Ideal.τ).loc Cert.Wff2Ideal.main_arg0) = m ((c.tc : Thread Cert.Wff2Ideal.nD Cert.Wff2Ideal.τ).loc Cert.Wff2Ideal.main_arg0)
      ∧ r.2.mem ((c.tc : Thread Cert.Wff2Ideal.nD Cert.Wff2Ideal.τ).loc Cert.Wff2Ideal.main_arg1) = m ((c.tc : Thread Cert.Wff2Ideal.nD Cert.Wff2Ideal.τ).loc Cert.Wff2Ideal.main_arg1))
      ∧ r.2.sem = fun _ => 0)

def quiescent_Wff2RefIdeal [hWff2RefIdeal : Cert.Wff2RefIdeal.Facts] : Prop :=
  ∀ (m : (ℓ : Loc Cert.Wff2RefIdeal.nD Cert.Wff2RefIdeal.τ Cert.Wff2RefIdeal.sig) → Buf (Elt Ideal) ℓ) (g : Dev Cert.Wff2RefIdeal.nD → PrngReg), Pre_Wff2RefIdeal m →
    θ_run (Cert.Wff2RefIdeal.defs (F := Ideal)) (onTc (τ := Cert.Wff2RefIdeal.τ) (Cert.Wff2RefIdeal.main (F := Ideal))) ⟨m, fun _ => 0, g⟩ (fun r => (∀ c : Dev Cert.Wff2RefIdeal.nD,
      r.2.mem ((c.tc : Thread Cert.Wff2RefIdeal.nD Cert.Wff2RefIdeal.τ).loc Cert.Wff2RefIdeal.main_arg0) = m ((c.tc : Thread Cert.Wff2RefIdeal.nD Cert.Wff2RefIdeal.τ).loc Cert.Wff2RefIdeal.main_arg0)
      ∧ r.2.mem ((c.tc : Thread Cert.Wff2RefIdeal.nD Cert.Wff2RefIdeal.τ).loc Cert.Wff2RefIdeal.main_arg1) = m ((c.tc : Thread Cert.Wff2RefIdeal.nD Cert.Wff2RefIdeal.τ).loc Cert.Wff2RefIdeal.main_arg1))
      ∧ r.2.sem = fun _ => 0)

def quiescent_Wff1 [hWff1 : Cert.Wff1.Facts] : Prop :=
  ∀ (m : (ℓ : Loc Cert.Wff1.nD Cert.Wff1.τ Cert.Wff1.sig) → Buf (Elt Bits) ℓ) (g : Dev Cert.Wff1.nD → PrngReg), Pre_Wff1 m →
    θ_run (Cert.Wff1.defs (F := Bits)) (onTc (τ := Cert.Wff1.τ) (Cert.Wff1.main (F := Bits))) ⟨m, fun _ => 0, g⟩ (fun r => (∀ c : Dev Cert.Wff1.nD,
      r.2.mem ((c.tc : Thread Cert.Wff1.nD Cert.Wff1.τ).loc Cert.Wff1.main_arg0) = m ((c.tc : Thread Cert.Wff1.nD Cert.Wff1.τ).loc Cert.Wff1.main_arg0)
      ∧ r.2.mem ((c.tc : Thread Cert.Wff1.nD Cert.Wff1.τ).loc Cert.Wff1.main_arg1) = m ((c.tc : Thread Cert.Wff1.nD Cert.Wff1.τ).loc Cert.Wff1.main_arg1)
      ∧ r.2.mem ((c.tc : Thread Cert.Wff1.nD Cert.Wff1.τ).loc Cert.Wff1.main_arg2) = m ((c.tc : Thread Cert.Wff1.nD Cert.Wff1.τ).loc Cert.Wff1.main_arg2))
      ∧ r.2.sem = fun _ => 0)

def quiescent_Wff1Ideal [hWff1Ideal : Cert.Wff1Ideal.Facts] : Prop :=
  ∀ (m : (ℓ : Loc Cert.Wff1Ideal.nD Cert.Wff1Ideal.τ Cert.Wff1Ideal.sig) → Buf (Elt Ideal) ℓ) (g : Dev Cert.Wff1Ideal.nD → PrngReg), Pre_Wff1Ideal m →
    θ_run (Cert.Wff1Ideal.defs (F := Ideal)) (onTc (τ := Cert.Wff1Ideal.τ) (Cert.Wff1Ideal.main (F := Ideal))) ⟨m, fun _ => 0, g⟩ (fun r => (∀ c : Dev Cert.Wff1Ideal.nD,
      r.2.mem ((c.tc : Thread Cert.Wff1Ideal.nD Cert.Wff1Ideal.τ).loc Cert.Wff1Ideal.main_arg0) = m ((c.tc : Thread Cert.Wff1Ideal.nD Cert.Wff1Ideal.τ).loc Cert.Wff1Ideal.main_arg0)
      ∧ r.2.mem ((c.tc : Thread Cert.Wff1Ideal.nD Cert.Wff1Ideal.τ).loc Cert.Wff1Ideal.main_arg1) = m ((c.tc : Thread Cert.Wff1Ideal.nD Cert.Wff1Ideal.τ).loc Cert.Wff1Ideal.main_arg1)
      ∧ r.2.mem ((c.tc : Thread Cert.Wff1Ideal.nD Cert.Wff1Ideal.τ).loc Cert.Wff1Ideal.main_arg2) = m ((c.tc : Thread Cert.Wff1Ideal.nD Cert.Wff1Ideal.τ).loc Cert.Wff1Ideal.main_arg2))
      ∧ r.2.sem = fun _ => 0)

def quiescent_Wff1RefIdeal [hWff1RefIdeal : Cert.Wff1RefIdeal.Facts] : Prop :=
  ∀ (m : (ℓ : Loc Cert.Wff1RefIdeal.nD Cert.Wff1RefIdeal.τ Cert.Wff1RefIdeal.sig) → Buf (Elt Ideal) ℓ) (g : Dev Cert.Wff1RefIdeal.nD → PrngReg), Pre_Wff1RefIdeal m →
    θ_run (Cert.Wff1RefIdeal.defs (F := Ideal)) (onTc (τ := Cert.Wff1RefIdeal.τ) (Cert.Wff1RefIdeal.main (F := Ideal))) ⟨m, fun _ => 0, g⟩ (fun r => (∀ c : Dev Cert.Wff1RefIdeal.nD,
      r.2.mem ((c.tc : Thread Cert.Wff1RefIdeal.nD Cert.Wff1RefIdeal.τ).loc Cert.Wff1RefIdeal.main_arg0) = m ((c.tc : Thread Cert.Wff1RefIdeal.nD Cert.Wff1RefIdeal.τ).loc Cert.Wff1RefIdeal.main_arg0)
      ∧ r.2.mem ((c.tc : Thread Cert.Wff1RefIdeal.nD Cert.Wff1RefIdeal.τ).loc Cert.Wff1RefIdeal.main_arg1) = m ((c.tc : Thread Cert.Wff1RefIdeal.nD Cert.Wff1RefIdeal.τ).loc Cert.Wff1RefIdeal.main_arg1)
      ∧ r.2.mem ((c.tc : Thread Cert.Wff1RefIdeal.nD Cert.Wff1RefIdeal.τ).loc Cert.Wff1RefIdeal.main_arg2) = m ((c.tc : Thread Cert.Wff1RefIdeal.nD Cert.Wff1RefIdeal.τ).loc Cert.Wff1RefIdeal.main_arg2))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1)
      ∧ r.2.mem ((c.tc : Thread Cert.Ff1.nD Cert.Ff1.τ).loc Cert.Ff1.main_arg2) = m ((c.tc : Thread Cert.Ff1.nD Cert.Ff1.τ).loc Cert.Ff1.main_arg2))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
      ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1)
      ∧ r.2.mem ((c.tc : Thread Cert.Ff1RefIdeal.nD Cert.Ff1RefIdeal.τ).loc Cert.Ff1RefIdeal.main_arg2) = m ((c.tc : Thread Cert.Ff1RefIdeal.nD Cert.Ff1RefIdeal.τ).loc Cert.Ff1RefIdeal.main_arg2))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2))
      ∧ r.2.sem = fun _ => 0)

def quiescent_Bin [hBin : Cert.Bin.Facts] : Prop :=
  ∀ (m : (ℓ : Loc Cert.Bin.nD Cert.Bin.τ Cert.Bin.sig) → Buf (Elt Bits) ℓ) (g : Dev Cert.Bin.nD → PrngReg), Pre_Bin m →
    θ_run (Cert.Bin.defs (F := Bits)) (onTc (τ := Cert.Bin.τ) (Cert.Bin.main (F := Bits))) ⟨m, fun _ => 0, g⟩ (fun r => (∀ c : Dev Cert.Bin.nD,
      r.2.mem ((c.tc : Thread Cert.Bin.nD Cert.Bin.τ).loc Cert.Bin.main_arg0) = m ((c.tc : Thread Cert.Bin.nD Cert.Bin.τ).loc Cert.Bin.main_arg0)
      ∧ r.2.mem ((c.tc : Thread Cert.Bin.nD Cert.Bin.τ).loc Cert.Bin.main_arg1) = m ((c.tc : Thread Cert.Bin.nD Cert.Bin.τ).loc Cert.Bin.main_arg1)
      ∧ r.2.mem ((c.tc : Thread Cert.Bin.nD Cert.Bin.τ).loc Cert.Bin.main_arg2) = m ((c.tc : Thread Cert.Bin.nD Cert.Bin.τ).loc Cert.Bin.main_arg2)
      ∧ r.2.mem ((c.tc : Thread Cert.Bin.nD Cert.Bin.τ).loc Cert.Bin.main_arg3) = m ((c.tc : Thread Cert.Bin.nD Cert.Bin.τ).loc Cert.Bin.main_arg3)
      ∧ r.2.mem ((c.tc : Thread Cert.Bin.nD Cert.Bin.τ).loc Cert.Bin.main_arg4) = m ((c.tc : Thread Cert.Bin.nD Cert.Bin.τ).loc Cert.Bin.main_arg4))
      ∧ r.2.sem = fun _ => 0)

def quiescent_BinIdeal [hBinIdeal : Cert.BinIdeal.Facts] : Prop :=
  ∀ (m : (ℓ : Loc Cert.BinIdeal.nD Cert.BinIdeal.τ Cert.BinIdeal.sig) → Buf (Elt Ideal) ℓ) (g : Dev Cert.BinIdeal.nD → PrngReg), Pre_BinIdeal m →
    θ_run (Cert.BinIdeal.defs (F := Ideal)) (onTc (τ := Cert.BinIdeal.τ) (Cert.BinIdeal.main (F := Ideal))) ⟨m, fun _ => 0, g⟩ (fun r => (∀ c : Dev Cert.BinIdeal.nD,
      r.2.mem ((c.tc : Thread Cert.BinIdeal.nD Cert.BinIdeal.τ).loc Cert.BinIdeal.main_arg0) = m ((c.tc : Thread Cert.BinIdeal.nD Cert.BinIdeal.τ).loc Cert.BinIdeal.main_arg0)
      ∧ r.2.mem ((c.tc : Thread Cert.BinIdeal.nD Cert.BinIdeal.τ).loc Cert.BinIdeal.main_arg1) = m ((c.tc : Thread Cert.BinIdeal.nD Cert.BinIdeal.τ).loc Cert.BinIdeal.main_arg1)
      ∧ r.2.mem ((c.tc : Thread Cert.BinIdeal.nD Cert.BinIdeal.τ).loc Cert.BinIdeal.main_arg2) = m ((c.tc : Thread Cert.BinIdeal.nD Cert.BinIdeal.τ).loc Cert.BinIdeal.main_arg2)
      ∧ r.2.mem ((c.tc : Thread Cert.BinIdeal.nD Cert.BinIdeal.τ).loc Cert.BinIdeal.main_arg3) = m ((c.tc : Thread Cert.BinIdeal.nD Cert.BinIdeal.τ).loc Cert.BinIdeal.main_arg3)
      ∧ r.2.mem ((c.tc : Thread Cert.BinIdeal.nD Cert.BinIdeal.τ).loc Cert.BinIdeal.main_arg4) = m ((c.tc : Thread Cert.BinIdeal.nD Cert.BinIdeal.τ).loc Cert.BinIdeal.main_arg4))
      ∧ r.2.sem = fun _ => 0)

def quiescent_BinRefIdeal [hBinRefIdeal : Cert.BinRefIdeal.Facts] : Prop :=
  ∀ (m : (ℓ : Loc Cert.BinRefIdeal.nD Cert.BinRefIdeal.τ Cert.BinRefIdeal.sig) → Buf (Elt Ideal) ℓ) (g : Dev Cert.BinRefIdeal.nD → PrngReg), Pre_BinRefIdeal m →
    θ_run (Cert.BinRefIdeal.defs (F := Ideal)) (onTc (τ := Cert.BinRefIdeal.τ) (Cert.BinRefIdeal.main (F := Ideal))) ⟨m, fun _ => 0, g⟩ (fun r => (∀ c : Dev Cert.BinRefIdeal.nD,
      r.2.mem ((c.tc : Thread Cert.BinRefIdeal.nD Cert.BinRefIdeal.τ).loc Cert.BinRefIdeal.main_arg0) = m ((c.tc : Thread Cert.BinRefIdeal.nD Cert.BinRefIdeal.τ).loc Cert.BinRefIdeal.main_arg0)
      ∧ r.2.mem ((c.tc : Thread Cert.BinRefIdeal.nD Cert.BinRefIdeal.τ).loc Cert.BinRefIdeal.main_arg1) = m ((c.tc : Thread Cert.BinRefIdeal.nD Cert.BinRefIdeal.τ).loc Cert.BinRefIdeal.main_arg1)
      ∧ r.2.mem ((c.tc : Thread Cert.BinRefIdeal.nD Cert.BinRefIdeal.τ).loc Cert.BinRefIdeal.main_arg2) = m ((c.tc : Thread Cert.BinRefIdeal.nD Cert.BinRefIdeal.τ).loc Cert.BinRefIdeal.main_arg2)
      ∧ r.2.mem ((c.tc : Thread Cert.BinRefIdeal.nD Cert.BinRefIdeal.τ).loc Cert.BinRefIdeal.main_arg3) = m ((c.tc : Thread Cert.BinRefIdeal.nD Cert.BinRefIdeal.τ).loc Cert.BinRefIdeal.main_arg3)
      ∧ r.2.mem ((c.tc : Thread Cert.BinRefIdeal.nD Cert.BinRefIdeal.τ).loc Cert.BinRefIdeal.main_arg4) = m ((c.tc : Thread Cert.BinRefIdeal.nD Cert.BinRefIdeal.τ).loc Cert.BinRefIdeal.main_arg4))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_Bout [hBout : Cert.Bout.Facts] : Prop :=
  ∀ (m : (ℓ : Loc Cert.Bout.nD Cert.Bout.τ Cert.Bout.sig) → Buf (Elt Bits) ℓ) (g : Dev Cert.Bout.nD → PrngReg), Pre_Bout m →
    θ_run (Cert.Bout.defs (F := Bits)) (onTc (τ := Cert.Bout.τ) (Cert.Bout.main (F := Bits))) ⟨m, fun _ => 0, g⟩ (fun r => (∀ c : Dev Cert.Bout.nD,
      r.2.mem ((c.tc : Thread Cert.Bout.nD Cert.Bout.τ).loc Cert.Bout.main_arg0) = m ((c.tc : Thread Cert.Bout.nD Cert.Bout.τ).loc Cert.Bout.main_arg0)
      ∧ r.2.mem ((c.tc : Thread Cert.Bout.nD Cert.Bout.τ).loc Cert.Bout.main_arg1) = m ((c.tc : Thread Cert.Bout.nD Cert.Bout.τ).loc Cert.Bout.main_arg1))
      ∧ r.2.sem = fun _ => 0)

def quiescent_BoutIdeal [hBoutIdeal : Cert.BoutIdeal.Facts] : Prop :=
  ∀ (m : (ℓ : Loc Cert.BoutIdeal.nD Cert.BoutIdeal.τ Cert.BoutIdeal.sig) → Buf (Elt Ideal) ℓ) (g : Dev Cert.BoutIdeal.nD → PrngReg), Pre_BoutIdeal m →
    θ_run (Cert.BoutIdeal.defs (F := Ideal)) (onTc (τ := Cert.BoutIdeal.τ) (Cert.BoutIdeal.main (F := Ideal))) ⟨m, fun _ => 0, g⟩ (fun r => (∀ c : Dev Cert.BoutIdeal.nD,
      r.2.mem ((c.tc : Thread Cert.BoutIdeal.nD Cert.BoutIdeal.τ).loc Cert.BoutIdeal.main_arg0) = m ((c.tc : Thread Cert.BoutIdeal.nD Cert.BoutIdeal.τ).loc Cert.BoutIdeal.main_arg0)
      ∧ r.2.mem ((c.tc : Thread Cert.BoutIdeal.nD Cert.BoutIdeal.τ).loc Cert.BoutIdeal.main_arg1) = m ((c.tc : Thread Cert.BoutIdeal.nD Cert.BoutIdeal.τ).loc Cert.BoutIdeal.main_arg1))
      ∧ r.2.sem = fun _ => 0)

def quiescent_BoutRefIdeal [hBoutRefIdeal : Cert.BoutRefIdeal.Facts] : Prop :=
  ∀ (m : (ℓ : Loc Cert.BoutRefIdeal.nD Cert.BoutRefIdeal.τ Cert.BoutRefIdeal.sig) → Buf (Elt Ideal) ℓ) (g : Dev Cert.BoutRefIdeal.nD → PrngReg), Pre_BoutRefIdeal m →
    θ_run (Cert.BoutRefIdeal.defs (F := Ideal)) (onTc (τ := Cert.BoutRefIdeal.τ) (Cert.BoutRefIdeal.main (F := Ideal))) ⟨m, fun _ => 0, g⟩ (fun r => (∀ c : Dev Cert.BoutRefIdeal.nD,
      r.2.mem ((c.tc : Thread Cert.BoutRefIdeal.nD Cert.BoutRefIdeal.τ).loc Cert.BoutRefIdeal.main_arg0) = m ((c.tc : Thread Cert.BoutRefIdeal.nD Cert.BoutRefIdeal.τ).loc Cert.BoutRefIdeal.main_arg0)
      ∧ r.2.mem ((c.tc : Thread Cert.BoutRefIdeal.nD Cert.BoutRefIdeal.τ).loc Cert.BoutRefIdeal.main_arg1) = m ((c.tc : Thread Cert.BoutRefIdeal.nD Cert.BoutRefIdeal.τ).loc Cert.BoutRefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Wglu [hWglu : Cert.Wglu.Facts] : Prop :=
  ∀ (m : (ℓ : Loc Cert.Wglu.nD Cert.Wglu.τ Cert.Wglu.sig) → Buf (Elt Bits) ℓ) (g : Dev Cert.Wglu.nD → PrngReg), Pre_Wglu m →
    θ_run (Cert.Wglu.defs (F := Bits)) (onTc (τ := Cert.Wglu.τ) (Cert.Wglu.main (F := Bits))) ⟨m, fun _ => 0, g⟩ (fun r => (∀ c : Dev Cert.Wglu.nD,
      r.2.mem ((c.tc : Thread Cert.Wglu.nD Cert.Wglu.τ).loc Cert.Wglu.main_arg0) = m ((c.tc : Thread Cert.Wglu.nD Cert.Wglu.τ).loc Cert.Wglu.main_arg0)
      ∧ r.2.mem ((c.tc : Thread Cert.Wglu.nD Cert.Wglu.τ).loc Cert.Wglu.main_arg1) = m ((c.tc : Thread Cert.Wglu.nD Cert.Wglu.τ).loc Cert.Wglu.main_arg1))
      ∧ r.2.sem = fun _ => 0)

def quiescent_WgluIdeal [hWgluIdeal : Cert.WgluIdeal.Facts] : Prop :=
  ∀ (m : (ℓ : Loc Cert.WgluIdeal.nD Cert.WgluIdeal.τ Cert.WgluIdeal.sig) → Buf (Elt Ideal) ℓ) (g : Dev Cert.WgluIdeal.nD → PrngReg), Pre_WgluIdeal m →
    θ_run (Cert.WgluIdeal.defs (F := Ideal)) (onTc (τ := Cert.WgluIdeal.τ) (Cert.WgluIdeal.main (F := Ideal))) ⟨m, fun _ => 0, g⟩ (fun r => (∀ c : Dev Cert.WgluIdeal.nD,
      r.2.mem ((c.tc : Thread Cert.WgluIdeal.nD Cert.WgluIdeal.τ).loc Cert.WgluIdeal.main_arg0) = m ((c.tc : Thread Cert.WgluIdeal.nD Cert.WgluIdeal.τ).loc Cert.WgluIdeal.main_arg0)
      ∧ r.2.mem ((c.tc : Thread Cert.WgluIdeal.nD Cert.WgluIdeal.τ).loc Cert.WgluIdeal.main_arg1) = m ((c.tc : Thread Cert.WgluIdeal.nD Cert.WgluIdeal.τ).loc Cert.WgluIdeal.main_arg1))
      ∧ r.2.sem = fun _ => 0)

def quiescent_WgluRefIdeal [hWgluRefIdeal : Cert.WgluRefIdeal.Facts] : Prop :=
  ∀ (m : (ℓ : Loc Cert.WgluRefIdeal.nD Cert.WgluRefIdeal.τ Cert.WgluRefIdeal.sig) → Buf (Elt Ideal) ℓ) (g : Dev Cert.WgluRefIdeal.nD → PrngReg), Pre_WgluRefIdeal m →
    θ_run (Cert.WgluRefIdeal.defs (F := Ideal)) (onTc (τ := Cert.WgluRefIdeal.τ) (Cert.WgluRefIdeal.main (F := Ideal))) ⟨m, fun _ => 0, g⟩ (fun r => (∀ c : Dev Cert.WgluRefIdeal.nD,
      r.2.mem ((c.tc : Thread Cert.WgluRefIdeal.nD Cert.WgluRefIdeal.τ).loc Cert.WgluRefIdeal.main_arg0) = m ((c.tc : Thread Cert.WgluRefIdeal.nD Cert.WgluRefIdeal.τ).loc Cert.WgluRefIdeal.main_arg0)
      ∧ r.2.mem ((c.tc : Thread Cert.WgluRefIdeal.nD Cert.WgluRefIdeal.τ).loc Cert.WgluRefIdeal.main_arg1) = m ((c.tc : Thread Cert.WgluRefIdeal.nD Cert.WgluRefIdeal.τ).loc Cert.WgluRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4)
      ∧ r.2.mem ((c.tc : Thread Cert.Glu.nD Cert.Glu.τ).loc Cert.Glu.main_arg5) = m ((c.tc : Thread Cert.Glu.nD Cert.Glu.τ).loc Cert.Glu.main_arg5))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
      ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4)
      ∧ r.2.mem ((c.tc : Thread Cert.GluRefIdeal.nD Cert.GluRefIdeal.τ).loc Cert.GluRefIdeal.main_arg5) = m ((c.tc : Thread Cert.GluRefIdeal.nD Cert.GluRefIdeal.τ).loc Cert.GluRefIdeal.main_arg5))
      ∧ r.2.sem = fun _ => 0)

def quiescent_Bglu [hBglu : Cert.Bglu.Facts] : Prop :=
  ∀ (m : (ℓ : Loc Cert.Bglu.nD Cert.Bglu.τ Cert.Bglu.sig) → Buf (Elt Bits) ℓ) (g : Dev Cert.Bglu.nD → PrngReg), Pre_Bglu m →
    θ_run (Cert.Bglu.defs (F := Bits)) (onTc (τ := Cert.Bglu.τ) (Cert.Bglu.main (F := Bits))) ⟨m, fun _ => 0, g⟩ (fun r => (∀ c : Dev Cert.Bglu.nD,
      r.2.mem ((c.tc : Thread Cert.Bglu.nD Cert.Bglu.τ).loc Cert.Bglu.main_arg0) = m ((c.tc : Thread Cert.Bglu.nD Cert.Bglu.τ).loc Cert.Bglu.main_arg0)
      ∧ r.2.mem ((c.tc : Thread Cert.Bglu.nD Cert.Bglu.τ).loc Cert.Bglu.main_arg1) = m ((c.tc : Thread Cert.Bglu.nD Cert.Bglu.τ).loc Cert.Bglu.main_arg1)
      ∧ r.2.mem ((c.tc : Thread Cert.Bglu.nD Cert.Bglu.τ).loc Cert.Bglu.main_arg2) = m ((c.tc : Thread Cert.Bglu.nD Cert.Bglu.τ).loc Cert.Bglu.main_arg2))
      ∧ r.2.sem = fun _ => 0)

def quiescent_BgluIdeal [hBgluIdeal : Cert.BgluIdeal.Facts] : Prop :=
  ∀ (m : (ℓ : Loc Cert.BgluIdeal.nD Cert.BgluIdeal.τ Cert.BgluIdeal.sig) → Buf (Elt Ideal) ℓ) (g : Dev Cert.BgluIdeal.nD → PrngReg), Pre_BgluIdeal m →
    θ_run (Cert.BgluIdeal.defs (F := Ideal)) (onTc (τ := Cert.BgluIdeal.τ) (Cert.BgluIdeal.main (F := Ideal))) ⟨m, fun _ => 0, g⟩ (fun r => (∀ c : Dev Cert.BgluIdeal.nD,
      r.2.mem ((c.tc : Thread Cert.BgluIdeal.nD Cert.BgluIdeal.τ).loc Cert.BgluIdeal.main_arg0) = m ((c.tc : Thread Cert.BgluIdeal.nD Cert.BgluIdeal.τ).loc Cert.BgluIdeal.main_arg0)
      ∧ r.2.mem ((c.tc : Thread Cert.BgluIdeal.nD Cert.BgluIdeal.τ).loc Cert.BgluIdeal.main_arg1) = m ((c.tc : Thread Cert.BgluIdeal.nD Cert.BgluIdeal.τ).loc Cert.BgluIdeal.main_arg1)
      ∧ r.2.mem ((c.tc : Thread Cert.BgluIdeal.nD Cert.BgluIdeal.τ).loc Cert.BgluIdeal.main_arg2) = m ((c.tc : Thread Cert.BgluIdeal.nD Cert.BgluIdeal.τ).loc Cert.BgluIdeal.main_arg2))
      ∧ r.2.sem = fun _ => 0)

def quiescent_BgluIdeal_pre_finite_bglu [hBgluIdeal : Cert.BgluIdeal.Facts] [hPre_finite_bglu : Cert.Pre_finite_bglu.Facts] : Prop :=
  ∀ (m : (ℓ : Loc Cert.BgluIdeal.nD Cert.BgluIdeal.τ Cert.BgluIdeal.sig) → Buf (Elt Ideal) ℓ) (g : Dev Cert.BgluIdeal.nD → PrngReg), Pre_BgluIdeal_finite_bglu m →
    θ_run (Cert.BgluIdeal.defs (F := Ideal)) (onTc (τ := Cert.BgluIdeal.τ) (Cert.BgluIdeal.main (F := Ideal))) ⟨m, fun _ => 0, g⟩ (fun r => (∀ c : Dev Cert.BgluIdeal.nD,
      r.2.mem ((c.tc : Thread Cert.BgluIdeal.nD Cert.BgluIdeal.τ).loc Cert.BgluIdeal.main_arg0) = m ((c.tc : Thread Cert.BgluIdeal.nD Cert.BgluIdeal.τ).loc Cert.BgluIdeal.main_arg0)
      ∧ r.2.mem ((c.tc : Thread Cert.BgluIdeal.nD Cert.BgluIdeal.τ).loc Cert.BgluIdeal.main_arg1) = m ((c.tc : Thread Cert.BgluIdeal.nD Cert.BgluIdeal.τ).loc Cert.BgluIdeal.main_arg1)
      ∧ r.2.mem ((c.tc : Thread Cert.BgluIdeal.nD Cert.BgluIdeal.τ).loc Cert.BgluIdeal.main_arg2) = m ((c.tc : Thread Cert.BgluIdeal.nD Cert.BgluIdeal.τ).loc Cert.BgluIdeal.main_arg2))
      ∧ r.2.sem = fun _ => 0)

def quiescent_BgluRefIdeal [hBgluRefIdeal : Cert.BgluRefIdeal.Facts] : Prop :=
  ∀ (m : (ℓ : Loc Cert.BgluRefIdeal.nD Cert.BgluRefIdeal.τ Cert.BgluRefIdeal.sig) → Buf (Elt Ideal) ℓ) (g : Dev Cert.BgluRefIdeal.nD → PrngReg), Pre_BgluRefIdeal m →
    θ_run (Cert.BgluRefIdeal.defs (F := Ideal)) (onTc (τ := Cert.BgluRefIdeal.τ) (Cert.BgluRefIdeal.main (F := Ideal))) ⟨m, fun _ => 0, g⟩ (fun r => (∀ c : Dev Cert.BgluRefIdeal.nD,
      r.2.mem ((c.tc : Thread Cert.BgluRefIdeal.nD Cert.BgluRefIdeal.τ).loc Cert.BgluRefIdeal.main_arg0) = m ((c.tc : Thread Cert.BgluRefIdeal.nD Cert.BgluRefIdeal.τ).loc Cert.BgluRefIdeal.main_arg0)
      ∧ r.2.mem ((c.tc : Thread Cert.BgluRefIdeal.nD Cert.BgluRefIdeal.τ).loc Cert.BgluRefIdeal.main_arg1) = m ((c.tc : Thread Cert.BgluRefIdeal.nD Cert.BgluRefIdeal.τ).loc Cert.BgluRefIdeal.main_arg1)
      ∧ r.2.mem ((c.tc : Thread Cert.BgluRefIdeal.nD Cert.BgluRefIdeal.τ).loc Cert.BgluRefIdeal.main_arg2) = m ((c.tc : Thread Cert.BgluRefIdeal.nD Cert.BgluRefIdeal.τ).loc Cert.BgluRefIdeal.main_arg2))
      ∧ r.2.sem = fun _ => 0)

def quiescent_BgluRefIdeal_pre_finite_bglu [hBgluRefIdeal : Cert.BgluRefIdeal.Facts] [hPre_finite_bglu : Cert.Pre_finite_bglu.Facts] : Prop :=
  ∀ (m : (ℓ : Loc Cert.BgluRefIdeal.nD Cert.BgluRefIdeal.τ Cert.BgluRefIdeal.sig) → Buf (Elt Ideal) ℓ) (g : Dev Cert.BgluRefIdeal.nD → PrngReg), Pre_BgluRefIdeal_finite_bglu m →
    θ_run (Cert.BgluRefIdeal.defs (F := Ideal)) (onTc (τ := Cert.BgluRefIdeal.τ) (Cert.BgluRefIdeal.main (F := Ideal))) ⟨m, fun _ => 0, g⟩ (fun r => (∀ c : Dev Cert.BgluRefIdeal.nD,
      r.2.mem ((c.tc : Thread Cert.BgluRefIdeal.nD Cert.BgluRefIdeal.τ).loc Cert.BgluRefIdeal.main_arg0) = m ((c.tc : Thread Cert.BgluRefIdeal.nD Cert.BgluRefIdeal.τ).loc Cert.BgluRefIdeal.main_arg0)
      ∧ r.2.mem ((c.tc : Thread Cert.BgluRefIdeal.nD Cert.BgluRefIdeal.τ).loc Cert.BgluRefIdeal.main_arg1) = m ((c.tc : Thread Cert.BgluRefIdeal.nD Cert.BgluRefIdeal.τ).loc Cert.BgluRefIdeal.main_arg1)
      ∧ r.2.mem ((c.tc : Thread Cert.BgluRefIdeal.nD Cert.BgluRefIdeal.τ).loc Cert.BgluRefIdeal.main_arg2) = m ((c.tc : Thread Cert.BgluRefIdeal.nD Cert.BgluRefIdeal.τ).loc Cert.BgluRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2))
      ∧ r.2.sem = fun _ => 0)

def quiescent_QkIdeal_pre_finite_qk [hQkIdeal : Cert.QkIdeal.Facts] [hPre_finite_qk : Cert.Pre_finite_qk.Facts] : Prop :=
  ∀ (m : (ℓ : Loc Cert.QkIdeal.nD Cert.QkIdeal.τ Cert.QkIdeal.sig) → Buf (Elt Ideal) ℓ) (g : Dev Cert.QkIdeal.nD → PrngReg), Pre_QkIdeal_finite_qk m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2))
      ∧ r.2.sem = fun _ => 0)

def quiescent_QkRefIdeal_pre_finite_qk [hQkRefIdeal : Cert.QkRefIdeal.Facts] [hPre_finite_qk : Cert.Pre_finite_qk.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal_finite_qk m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2))
      ∧ r.2.sem = fun _ => 0)

def quiescent_Gz [hGz : Cert.Gz.Facts] : Prop :=
  ∀ (m : (ℓ : Loc Cert.Gz.nD Cert.Gz.τ Cert.Gz.sig) → Buf (Elt Bits) ℓ) (g : Dev Cert.Gz.nD → PrngReg), Pre_Gz m →
    θ_run (Cert.Gz.defs (F := Bits)) (onTc (τ := Cert.Gz.τ) (Cert.Gz.main (F := Bits))) ⟨m, fun _ => 0, g⟩ (fun r => (∀ c : Dev Cert.Gz.nD,
      r.2.mem ((c.tc : Thread Cert.Gz.nD Cert.Gz.τ).loc Cert.Gz.main_arg0) = m ((c.tc : Thread Cert.Gz.nD Cert.Gz.τ).loc Cert.Gz.main_arg0)
      ∧ r.2.mem ((c.tc : Thread Cert.Gz.nD Cert.Gz.τ).loc Cert.Gz.main_arg1) = m ((c.tc : Thread Cert.Gz.nD Cert.Gz.τ).loc Cert.Gz.main_arg1)
      ∧ r.2.mem ((c.tc : Thread Cert.Gz.nD Cert.Gz.τ).loc Cert.Gz.main_arg2) = m ((c.tc : Thread Cert.Gz.nD Cert.Gz.τ).loc Cert.Gz.main_arg2)
      ∧ r.2.mem ((c.tc : Thread Cert.Gz.nD Cert.Gz.τ).loc Cert.Gz.main_arg3) = m ((c.tc : Thread Cert.Gz.nD Cert.Gz.τ).loc Cert.Gz.main_arg3)
      ∧ r.2.mem ((c.tc : Thread Cert.Gz.nD Cert.Gz.τ).loc Cert.Gz.main_arg4) = m ((c.tc : Thread Cert.Gz.nD Cert.Gz.τ).loc Cert.Gz.main_arg4)
      ∧ r.2.mem ((c.tc : Thread Cert.Gz.nD Cert.Gz.τ).loc Cert.Gz.main_arg5) = m ((c.tc : Thread Cert.Gz.nD Cert.Gz.τ).loc Cert.Gz.main_arg5)
      ∧ r.2.mem ((c.tc : Thread Cert.Gz.nD Cert.Gz.τ).loc Cert.Gz.main_arg6) = m ((c.tc : Thread Cert.Gz.nD Cert.Gz.τ).loc Cert.Gz.main_arg6)
      ∧ r.2.mem ((c.tc : Thread Cert.Gz.nD Cert.Gz.τ).loc Cert.Gz.main_arg7) = m ((c.tc : Thread Cert.Gz.nD Cert.Gz.τ).loc Cert.Gz.main_arg7)
      ∧ r.2.mem ((c.tc : Thread Cert.Gz.nD Cert.Gz.τ).loc Cert.Gz.main_arg8) = m ((c.tc : Thread Cert.Gz.nD Cert.Gz.τ).loc Cert.Gz.main_arg8))
      ∧ r.2.sem = fun _ => 0)

def quiescent_GzIdeal [hGzIdeal : Cert.GzIdeal.Facts] : Prop :=
  ∀ (m : (ℓ : Loc Cert.GzIdeal.nD Cert.GzIdeal.τ Cert.GzIdeal.sig) → Buf (Elt Ideal) ℓ) (g : Dev Cert.GzIdeal.nD → PrngReg), Pre_GzIdeal m →
    θ_run (Cert.GzIdeal.defs (F := Ideal)) (onTc (τ := Cert.GzIdeal.τ) (Cert.GzIdeal.main (F := Ideal))) ⟨m, fun _ => 0, g⟩ (fun r => (∀ c : Dev Cert.GzIdeal.nD,
      r.2.mem ((c.tc : Thread Cert.GzIdeal.nD Cert.GzIdeal.τ).loc Cert.GzIdeal.main_arg0) = m ((c.tc : Thread Cert.GzIdeal.nD Cert.GzIdeal.τ).loc Cert.GzIdeal.main_arg0)
      ∧ r.2.mem ((c.tc : Thread Cert.GzIdeal.nD Cert.GzIdeal.τ).loc Cert.GzIdeal.main_arg1) = m ((c.tc : Thread Cert.GzIdeal.nD Cert.GzIdeal.τ).loc Cert.GzIdeal.main_arg1)
      ∧ r.2.mem ((c.tc : Thread Cert.GzIdeal.nD Cert.GzIdeal.τ).loc Cert.GzIdeal.main_arg2) = m ((c.tc : Thread Cert.GzIdeal.nD Cert.GzIdeal.τ).loc Cert.GzIdeal.main_arg2)
      ∧ r.2.mem ((c.tc : Thread Cert.GzIdeal.nD Cert.GzIdeal.τ).loc Cert.GzIdeal.main_arg3) = m ((c.tc : Thread Cert.GzIdeal.nD Cert.GzIdeal.τ).loc Cert.GzIdeal.main_arg3)
      ∧ r.2.mem ((c.tc : Thread Cert.GzIdeal.nD Cert.GzIdeal.τ).loc Cert.GzIdeal.main_arg4) = m ((c.tc : Thread Cert.GzIdeal.nD Cert.GzIdeal.τ).loc Cert.GzIdeal.main_arg4)
      ∧ r.2.mem ((c.tc : Thread Cert.GzIdeal.nD Cert.GzIdeal.τ).loc Cert.GzIdeal.main_arg5) = m ((c.tc : Thread Cert.GzIdeal.nD Cert.GzIdeal.τ).loc Cert.GzIdeal.main_arg5)
      ∧ r.2.mem ((c.tc : Thread Cert.GzIdeal.nD Cert.GzIdeal.τ).loc Cert.GzIdeal.main_arg6) = m ((c.tc : Thread Cert.GzIdeal.nD Cert.GzIdeal.τ).loc Cert.GzIdeal.main_arg6)
      ∧ r.2.mem ((c.tc : Thread Cert.GzIdeal.nD Cert.GzIdeal.τ).loc Cert.GzIdeal.main_arg7) = m ((c.tc : Thread Cert.GzIdeal.nD Cert.GzIdeal.τ).loc Cert.GzIdeal.main_arg7)
      ∧ r.2.mem ((c.tc : Thread Cert.GzIdeal.nD Cert.GzIdeal.τ).loc Cert.GzIdeal.main_arg8) = m ((c.tc : Thread Cert.GzIdeal.nD Cert.GzIdeal.τ).loc Cert.GzIdeal.main_arg8))
      ∧ r.2.sem = fun _ => 0)

def quiescent_GzIdeal_pre_finite_gz [hGzIdeal : Cert.GzIdeal.Facts] [hPre_finite_gz : Cert.Pre_finite_gz.Facts] : Prop :=
  ∀ (m : (ℓ : Loc Cert.GzIdeal.nD Cert.GzIdeal.τ Cert.GzIdeal.sig) → Buf (Elt Ideal) ℓ) (g : Dev Cert.GzIdeal.nD → PrngReg), Pre_GzIdeal_finite_gz m →
    θ_run (Cert.GzIdeal.defs (F := Ideal)) (onTc (τ := Cert.GzIdeal.τ) (Cert.GzIdeal.main (F := Ideal))) ⟨m, fun _ => 0, g⟩ (fun r => (∀ c : Dev Cert.GzIdeal.nD,
      r.2.mem ((c.tc : Thread Cert.GzIdeal.nD Cert.GzIdeal.τ).loc Cert.GzIdeal.main_arg0) = m ((c.tc : Thread Cert.GzIdeal.nD Cert.GzIdeal.τ).loc Cert.GzIdeal.main_arg0)
      ∧ r.2.mem ((c.tc : Thread Cert.GzIdeal.nD Cert.GzIdeal.τ).loc Cert.GzIdeal.main_arg1) = m ((c.tc : Thread Cert.GzIdeal.nD Cert.GzIdeal.τ).loc Cert.GzIdeal.main_arg1)
      ∧ r.2.mem ((c.tc : Thread Cert.GzIdeal.nD Cert.GzIdeal.τ).loc Cert.GzIdeal.main_arg2) = m ((c.tc : Thread Cert.GzIdeal.nD Cert.GzIdeal.τ).loc Cert.GzIdeal.main_arg2)
      ∧ r.2.mem ((c.tc : Thread Cert.GzIdeal.nD Cert.GzIdeal.τ).loc Cert.GzIdeal.main_arg3) = m ((c.tc : Thread Cert.GzIdeal.nD Cert.GzIdeal.τ).loc Cert.GzIdeal.main_arg3)
      ∧ r.2.mem ((c.tc : Thread Cert.GzIdeal.nD Cert.GzIdeal.τ).loc Cert.GzIdeal.main_arg4) = m ((c.tc : Thread Cert.GzIdeal.nD Cert.GzIdeal.τ).loc Cert.GzIdeal.main_arg4)
      ∧ r.2.mem ((c.tc : Thread Cert.GzIdeal.nD Cert.GzIdeal.τ).loc Cert.GzIdeal.main_arg5) = m ((c.tc : Thread Cert.GzIdeal.nD Cert.GzIdeal.τ).loc Cert.GzIdeal.main_arg5)
      ∧ r.2.mem ((c.tc : Thread Cert.GzIdeal.nD Cert.GzIdeal.τ).loc Cert.GzIdeal.main_arg6) = m ((c.tc : Thread Cert.GzIdeal.nD Cert.GzIdeal.τ).loc Cert.GzIdeal.main_arg6)
      ∧ r.2.mem ((c.tc : Thread Cert.GzIdeal.nD Cert.GzIdeal.τ).loc Cert.GzIdeal.main_arg7) = m ((c.tc : Thread Cert.GzIdeal.nD Cert.GzIdeal.τ).loc Cert.GzIdeal.main_arg7)
      ∧ r.2.mem ((c.tc : Thread Cert.GzIdeal.nD Cert.GzIdeal.τ).loc Cert.GzIdeal.main_arg8) = m ((c.tc : Thread Cert.GzIdeal.nD Cert.GzIdeal.τ).loc Cert.GzIdeal.main_arg8))
      ∧ r.2.sem = fun _ => 0)

def quiescent_GzRefIdeal [hGzRefIdeal : Cert.GzRefIdeal.Facts] : Prop :=
  ∀ (m : (ℓ : Loc Cert.GzRefIdeal.nD Cert.GzRefIdeal.τ Cert.GzRefIdeal.sig) → Buf (Elt Ideal) ℓ) (g : Dev Cert.GzRefIdeal.nD → PrngReg), Pre_GzRefIdeal m →
    θ_run (Cert.GzRefIdeal.defs (F := Ideal)) (onTc (τ := Cert.GzRefIdeal.τ) (Cert.GzRefIdeal.main (F := Ideal))) ⟨m, fun _ => 0, g⟩ (fun r => (∀ c : Dev Cert.GzRefIdeal.nD,
      r.2.mem ((c.tc : Thread Cert.GzRefIdeal.nD Cert.GzRefIdeal.τ).loc Cert.GzRefIdeal.main_arg0) = m ((c.tc : Thread Cert.GzRefIdeal.nD Cert.GzRefIdeal.τ).loc Cert.GzRefIdeal.main_arg0)
      ∧ r.2.mem ((c.tc : Thread Cert.GzRefIdeal.nD Cert.GzRefIdeal.τ).loc Cert.GzRefIdeal.main_arg1) = m ((c.tc : Thread Cert.GzRefIdeal.nD Cert.GzRefIdeal.τ).loc Cert.GzRefIdeal.main_arg1)
      ∧ r.2.mem ((c.tc : Thread Cert.GzRefIdeal.nD Cert.GzRefIdeal.τ).loc Cert.GzRefIdeal.main_arg2) = m ((c.tc : Thread Cert.GzRefIdeal.nD Cert.GzRefIdeal.τ).loc Cert.GzRefIdeal.main_arg2)
      ∧ r.2.mem ((c.tc : Thread Cert.GzRefIdeal.nD Cert.GzRefIdeal.τ).loc Cert.GzRefIdeal.main_arg3) = m ((c.tc : Thread Cert.GzRefIdeal.nD Cert.GzRefIdeal.τ).loc Cert.GzRefIdeal.main_arg3)
      ∧ r.2.mem ((c.tc : Thread Cert.GzRefIdeal.nD Cert.GzRefIdeal.τ).loc Cert.GzRefIdeal.main_arg4) = m ((c.tc : Thread Cert.GzRefIdeal.nD Cert.GzRefIdeal.τ).loc Cert.GzRefIdeal.main_arg4)
      ∧ r.2.mem ((c.tc : Thread Cert.GzRefIdeal.nD Cert.GzRefIdeal.τ).loc Cert.GzRefIdeal.main_arg5) = m ((c.tc : Thread Cert.GzRefIdeal.nD Cert.GzRefIdeal.τ).loc Cert.GzRefIdeal.main_arg5)
      ∧ r.2.mem ((c.tc : Thread Cert.GzRefIdeal.nD Cert.GzRefIdeal.τ).loc Cert.GzRefIdeal.main_arg6) = m ((c.tc : Thread Cert.GzRefIdeal.nD Cert.GzRefIdeal.τ).loc Cert.GzRefIdeal.main_arg6)
      ∧ r.2.mem ((c.tc : Thread Cert.GzRefIdeal.nD Cert.GzRefIdeal.τ).loc Cert.GzRefIdeal.main_arg7) = m ((c.tc : Thread Cert.GzRefIdeal.nD Cert.GzRefIdeal.τ).loc Cert.GzRefIdeal.main_arg7)
      ∧ r.2.mem ((c.tc : Thread Cert.GzRefIdeal.nD Cert.GzRefIdeal.τ).loc Cert.GzRefIdeal.main_arg8) = m ((c.tc : Thread Cert.GzRefIdeal.nD Cert.GzRefIdeal.τ).loc Cert.GzRefIdeal.main_arg8))
      ∧ r.2.sem = fun _ => 0)

def quiescent_GzRefIdeal_pre_finite_gz [hGzRefIdeal : Cert.GzRefIdeal.Facts] [hPre_finite_gz : Cert.Pre_finite_gz.Facts] : Prop :=
  ∀ (m : (ℓ : Loc Cert.GzRefIdeal.nD Cert.GzRefIdeal.τ Cert.GzRefIdeal.sig) → Buf (Elt Ideal) ℓ) (g : Dev Cert.GzRefIdeal.nD → PrngReg), Pre_GzRefIdeal_finite_gz m →
    θ_run (Cert.GzRefIdeal.defs (F := Ideal)) (onTc (τ := Cert.GzRefIdeal.τ) (Cert.GzRefIdeal.main (F := Ideal))) ⟨m, fun _ => 0, g⟩ (fun r => (∀ c : Dev Cert.GzRefIdeal.nD,
      r.2.mem ((c.tc : Thread Cert.GzRefIdeal.nD Cert.GzRefIdeal.τ).loc Cert.GzRefIdeal.main_arg0) = m ((c.tc : Thread Cert.GzRefIdeal.nD Cert.GzRefIdeal.τ).loc Cert.GzRefIdeal.main_arg0)
      ∧ r.2.mem ((c.tc : Thread Cert.GzRefIdeal.nD Cert.GzRefIdeal.τ).loc Cert.GzRefIdeal.main_arg1) = m ((c.tc : Thread Cert.GzRefIdeal.nD Cert.GzRefIdeal.τ).loc Cert.GzRefIdeal.main_arg1)
      ∧ r.2.mem ((c.tc : Thread Cert.GzRefIdeal.nD Cert.GzRefIdeal.τ).loc Cert.GzRefIdeal.main_arg2) = m ((c.tc : Thread Cert.GzRefIdeal.nD Cert.GzRefIdeal.τ).loc Cert.GzRefIdeal.main_arg2)
      ∧ r.2.mem ((c.tc : Thread Cert.GzRefIdeal.nD Cert.GzRefIdeal.τ).loc Cert.GzRefIdeal.main_arg3) = m ((c.tc : Thread Cert.GzRefIdeal.nD Cert.GzRefIdeal.τ).loc Cert.GzRefIdeal.main_arg3)
      ∧ r.2.mem ((c.tc : Thread Cert.GzRefIdeal.nD Cert.GzRefIdeal.τ).loc Cert.GzRefIdeal.main_arg4) = m ((c.tc : Thread Cert.GzRefIdeal.nD Cert.GzRefIdeal.τ).loc Cert.GzRefIdeal.main_arg4)
      ∧ r.2.mem ((c.tc : Thread Cert.GzRefIdeal.nD Cert.GzRefIdeal.τ).loc Cert.GzRefIdeal.main_arg5) = m ((c.tc : Thread Cert.GzRefIdeal.nD Cert.GzRefIdeal.τ).loc Cert.GzRefIdeal.main_arg5)
      ∧ r.2.mem ((c.tc : Thread Cert.GzRefIdeal.nD Cert.GzRefIdeal.τ).loc Cert.GzRefIdeal.main_arg6) = m ((c.tc : Thread Cert.GzRefIdeal.nD Cert.GzRefIdeal.τ).loc Cert.GzRefIdeal.main_arg6)
      ∧ r.2.mem ((c.tc : Thread Cert.GzRefIdeal.nD Cert.GzRefIdeal.τ).loc Cert.GzRefIdeal.main_arg7) = m ((c.tc : Thread Cert.GzRefIdeal.nD Cert.GzRefIdeal.τ).loc Cert.GzRefIdeal.main_arg7)
      ∧ r.2.mem ((c.tc : Thread Cert.GzRefIdeal.nD Cert.GzRefIdeal.τ).loc Cert.GzRefIdeal.main_arg8) = m ((c.tc : Thread Cert.GzRefIdeal.nD Cert.GzRefIdeal.τ).loc Cert.GzRefIdeal.main_arg8))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_v169) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Bff1_Bff1Ideal : Prop :=
  True

def algebraic_Bff1Ideal_Bff1RefIdeal [hBff1Ideal : Cert.Bff1Ideal.Facts] [hBff1RefIdeal : Cert.Bff1RefIdeal.Facts] : Prop :=
  ∀ (m : (ℓ : Loc Cert.Bff1Ideal.nD Cert.Bff1Ideal.τ Cert.Bff1Ideal.sig) → Buf (Elt Ideal) ℓ) (g : Dev Cert.Bff1Ideal.nD → PrngReg)
    (m' : (ℓ : Loc Cert.Bff1RefIdeal.nD Cert.Bff1RefIdeal.τ Cert.Bff1RefIdeal.sig) → Buf (Elt Ideal) ℓ) (g' : Dev Cert.Bff1RefIdeal.nD → PrngReg), Pre_Bff1Ideal m →
    (∀ c : Dev Cert.Bff1Ideal.nD,
      m' ((c.tc : Thread Cert.Bff1RefIdeal.nD Cert.Bff1RefIdeal.τ).loc Cert.Bff1RefIdeal.main_arg0) = m ((c.tc : Thread Cert.Bff1Ideal.nD Cert.Bff1Ideal.τ).loc Cert.Bff1Ideal.main_arg0)
      ∧ m' ((c.tc : Thread Cert.Bff1RefIdeal.nD Cert.Bff1RefIdeal.τ).loc Cert.Bff1RefIdeal.main_arg1) = m ((c.tc : Thread Cert.Bff1Ideal.nD Cert.Bff1Ideal.τ).loc Cert.Bff1Ideal.main_arg1)
      ∧ m' ((c.tc : Thread Cert.Bff1RefIdeal.nD Cert.Bff1RefIdeal.τ).loc Cert.Bff1RefIdeal.main_arg2) = m ((c.tc : Thread Cert.Bff1Ideal.nD Cert.Bff1Ideal.τ).loc Cert.Bff1Ideal.main_arg2)
      ∧ m' ((c.tc : Thread Cert.Bff1RefIdeal.nD Cert.Bff1RefIdeal.τ).loc Cert.Bff1RefIdeal.main_arg3) = m ((c.tc : Thread Cert.Bff1Ideal.nD Cert.Bff1Ideal.τ).loc Cert.Bff1Ideal.main_arg3)
      ∧ m' ((c.tc : Thread Cert.Bff1RefIdeal.nD Cert.Bff1RefIdeal.τ).loc Cert.Bff1RefIdeal.main_arg4) = m ((c.tc : Thread Cert.Bff1Ideal.nD Cert.Bff1Ideal.τ).loc Cert.Bff1Ideal.main_arg4)) →
    ∃ (v0 : (c : Dev Cert.Bff1Ideal.nD) → Buf (Elt Ideal) ((c.tc : Thread Cert.Bff1Ideal.nD Cert.Bff1Ideal.τ).loc Cert.Bff1Ideal.main_v5_0)) (v1 : (c : Dev Cert.Bff1Ideal.nD) → Buf (Elt Ideal) ((c.tc : Thread Cert.Bff1Ideal.nD Cert.Bff1Ideal.τ).loc Cert.Bff1Ideal.main_v5_1)) (v2 : (c : Dev Cert.Bff1Ideal.nD) → Buf (Elt Ideal) ((c.tc : Thread Cert.Bff1Ideal.nD Cert.Bff1Ideal.τ).loc Cert.Bff1Ideal.main_v5_2)),
      θ_run (Cert.Bff1Ideal.defs (F := Ideal)) (onTc (τ := Cert.Bff1Ideal.τ) (Cert.Bff1Ideal.main (F := Ideal))) ⟨m, fun _ => 0, g⟩ (fun r => ∀ c : Dev Cert.Bff1Ideal.nD,
          r.2.mem ((c.tc : Thread Cert.Bff1Ideal.nD Cert.Bff1Ideal.τ).loc Cert.Bff1Ideal.main_v5_0) = v0 c
          ∧ r.2.mem ((c.tc : Thread Cert.Bff1Ideal.nD Cert.Bff1Ideal.τ).loc Cert.Bff1Ideal.main_v5_1) = v1 c
          ∧ r.2.mem ((c.tc : Thread Cert.Bff1Ideal.nD Cert.Bff1Ideal.τ).loc Cert.Bff1Ideal.main_v5_2) = v2 c
          ∧ r.2.mem ((c.tc : Thread Cert.Bff1Ideal.nD Cert.Bff1Ideal.τ).loc Cert.Bff1Ideal.main_arg0) = m ((c.tc : Thread Cert.Bff1Ideal.nD Cert.Bff1Ideal.τ).loc Cert.Bff1Ideal.main_arg0)
          ∧ r.2.mem ((c.tc : Thread Cert.Bff1Ideal.nD Cert.Bff1Ideal.τ).loc Cert.Bff1Ideal.main_arg1) = m ((c.tc : Thread Cert.Bff1Ideal.nD Cert.Bff1Ideal.τ).loc Cert.Bff1Ideal.main_arg1)
          ∧ r.2.mem ((c.tc : Thread Cert.Bff1Ideal.nD Cert.Bff1Ideal.τ).loc Cert.Bff1Ideal.main_arg2) = m ((c.tc : Thread Cert.Bff1Ideal.nD Cert.Bff1Ideal.τ).loc Cert.Bff1Ideal.main_arg2)
          ∧ r.2.mem ((c.tc : Thread Cert.Bff1Ideal.nD Cert.Bff1Ideal.τ).loc Cert.Bff1Ideal.main_arg3) = m ((c.tc : Thread Cert.Bff1Ideal.nD Cert.Bff1Ideal.τ).loc Cert.Bff1Ideal.main_arg3)
          ∧ r.2.mem ((c.tc : Thread Cert.Bff1Ideal.nD Cert.Bff1Ideal.τ).loc Cert.Bff1Ideal.main_arg4) = m ((c.tc : Thread Cert.Bff1Ideal.nD Cert.Bff1Ideal.τ).loc Cert.Bff1Ideal.main_arg4))
      ∧ θ_run (Cert.Bff1RefIdeal.defs (F := Ideal)) (onTc (τ := Cert.Bff1RefIdeal.τ) (Cert.Bff1RefIdeal.main (F := Ideal))) ⟨m', fun _ => 0, g'⟩ (fun r => ∀ c : Dev Cert.Bff1RefIdeal.nD,
          r.2.mem ((c.tc : Thread Cert.Bff1RefIdeal.nD Cert.Bff1RefIdeal.τ).loc Cert.Bff1RefIdeal.main_v45) = v0 c
          ∧ r.2.mem ((c.tc : Thread Cert.Bff1RefIdeal.nD Cert.Bff1RefIdeal.τ).loc Cert.Bff1RefIdeal.main_v46) = v1 c
          ∧ r.2.mem ((c.tc : Thread Cert.Bff1RefIdeal.nD Cert.Bff1RefIdeal.τ).loc Cert.Bff1RefIdeal.main_v29) = v2 c
          ∧ r.2.mem ((c.tc : Thread Cert.Bff1RefIdeal.nD Cert.Bff1RefIdeal.τ).loc Cert.Bff1RefIdeal.main_arg0) = m' ((c.tc : Thread Cert.Bff1RefIdeal.nD Cert.Bff1RefIdeal.τ).loc Cert.Bff1RefIdeal.main_arg0)
          ∧ r.2.mem ((c.tc : Thread Cert.Bff1RefIdeal.nD Cert.Bff1RefIdeal.τ).loc Cert.Bff1RefIdeal.main_arg1) = m' ((c.tc : Thread Cert.Bff1RefIdeal.nD Cert.Bff1RefIdeal.τ).loc Cert.Bff1RefIdeal.main_arg1)
          ∧ r.2.mem ((c.tc : Thread Cert.Bff1RefIdeal.nD Cert.Bff1RefIdeal.τ).loc Cert.Bff1RefIdeal.main_arg2) = m' ((c.tc : Thread Cert.Bff1RefIdeal.nD Cert.Bff1RefIdeal.τ).loc Cert.Bff1RefIdeal.main_arg2)
          ∧ r.2.mem ((c.tc : Thread Cert.Bff1RefIdeal.nD Cert.Bff1RefIdeal.τ).loc Cert.Bff1RefIdeal.main_arg3) = m' ((c.tc : Thread Cert.Bff1RefIdeal.nD Cert.Bff1RefIdeal.τ).loc Cert.Bff1RefIdeal.main_arg3)
          ∧ r.2.mem ((c.tc : Thread Cert.Bff1RefIdeal.nD Cert.Bff1RefIdeal.τ).loc Cert.Bff1RefIdeal.main_arg4) = m' ((c.tc : Thread Cert.Bff1RefIdeal.nD Cert.Bff1RefIdeal.τ).loc Cert.Bff1RefIdeal.main_arg4))

def preserves_Bff2_Bff2Ideal : Prop :=
  True

def algebraic_Bff2Ideal_Bff2RefIdeal [hBff2Ideal : Cert.Bff2Ideal.Facts] [hBff2RefIdeal : Cert.Bff2RefIdeal.Facts] : Prop :=
  ∀ (m : (ℓ : Loc Cert.Bff2Ideal.nD Cert.Bff2Ideal.τ Cert.Bff2Ideal.sig) → Buf (Elt Ideal) ℓ) (g : Dev Cert.Bff2Ideal.nD → PrngReg)
    (m' : (ℓ : Loc Cert.Bff2RefIdeal.nD Cert.Bff2RefIdeal.τ Cert.Bff2RefIdeal.sig) → Buf (Elt Ideal) ℓ) (g' : Dev Cert.Bff2RefIdeal.nD → PrngReg), Pre_Bff2Ideal m →
    (∀ c : Dev Cert.Bff2Ideal.nD,
      m' ((c.tc : Thread Cert.Bff2RefIdeal.nD Cert.Bff2RefIdeal.τ).loc Cert.Bff2RefIdeal.main_arg0) = m ((c.tc : Thread Cert.Bff2Ideal.nD Cert.Bff2Ideal.τ).loc Cert.Bff2Ideal.main_arg0)
      ∧ m' ((c.tc : Thread Cert.Bff2RefIdeal.nD Cert.Bff2RefIdeal.τ).loc Cert.Bff2RefIdeal.main_arg1) = m ((c.tc : Thread Cert.Bff2Ideal.nD Cert.Bff2Ideal.τ).loc Cert.Bff2Ideal.main_arg1)
      ∧ m' ((c.tc : Thread Cert.Bff2RefIdeal.nD Cert.Bff2RefIdeal.τ).loc Cert.Bff2RefIdeal.main_arg2) = m ((c.tc : Thread Cert.Bff2Ideal.nD Cert.Bff2Ideal.τ).loc Cert.Bff2Ideal.main_arg2)) →
    ∃ (v0 : (c : Dev Cert.Bff2Ideal.nD) → Buf (Elt Ideal) ((c.tc : Thread Cert.Bff2Ideal.nD Cert.Bff2Ideal.τ).loc Cert.Bff2Ideal.main_v5)),
      θ_run (Cert.Bff2Ideal.defs (F := Ideal)) (onTc (τ := Cert.Bff2Ideal.τ) (Cert.Bff2Ideal.main (F := Ideal))) ⟨m, fun _ => 0, g⟩ (fun r => ∀ c : Dev Cert.Bff2Ideal.nD,
          r.2.mem ((c.tc : Thread Cert.Bff2Ideal.nD Cert.Bff2Ideal.τ).loc Cert.Bff2Ideal.main_v5) = v0 c
          ∧ r.2.mem ((c.tc : Thread Cert.Bff2Ideal.nD Cert.Bff2Ideal.τ).loc Cert.Bff2Ideal.main_arg0) = m ((c.tc : Thread Cert.Bff2Ideal.nD Cert.Bff2Ideal.τ).loc Cert.Bff2Ideal.main_arg0)
          ∧ r.2.mem ((c.tc : Thread Cert.Bff2Ideal.nD Cert.Bff2Ideal.τ).loc Cert.Bff2Ideal.main_arg1) = m ((c.tc : Thread Cert.Bff2Ideal.nD Cert.Bff2Ideal.τ).loc Cert.Bff2Ideal.main_arg1)
          ∧ r.2.mem ((c.tc : Thread Cert.Bff2Ideal.nD Cert.Bff2Ideal.τ).loc Cert.Bff2Ideal.main_arg2) = m ((c.tc : Thread Cert.Bff2Ideal.nD Cert.Bff2Ideal.τ).loc Cert.Bff2Ideal.main_arg2))
      ∧ θ_run (Cert.Bff2RefIdeal.defs (F := Ideal)) (onTc (τ := Cert.Bff2RefIdeal.τ) (Cert.Bff2RefIdeal.main (F := Ideal))) ⟨m', fun _ => 0, g'⟩ (fun r => ∀ c : Dev Cert.Bff2RefIdeal.nD,
          r.2.mem ((c.tc : Thread Cert.Bff2RefIdeal.nD Cert.Bff2RefIdeal.τ).loc Cert.Bff2RefIdeal.main_v13) = v0 c
          ∧ r.2.mem ((c.tc : Thread Cert.Bff2RefIdeal.nD Cert.Bff2RefIdeal.τ).loc Cert.Bff2RefIdeal.main_arg0) = m' ((c.tc : Thread Cert.Bff2RefIdeal.nD Cert.Bff2RefIdeal.τ).loc Cert.Bff2RefIdeal.main_arg0)
          ∧ r.2.mem ((c.tc : Thread Cert.Bff2RefIdeal.nD Cert.Bff2RefIdeal.τ).loc Cert.Bff2RefIdeal.main_arg1) = m' ((c.tc : Thread Cert.Bff2RefIdeal.nD Cert.Bff2RefIdeal.τ).loc Cert.Bff2RefIdeal.main_arg1)
          ∧ r.2.mem ((c.tc : Thread Cert.Bff2RefIdeal.nD Cert.Bff2RefIdeal.τ).loc Cert.Bff2RefIdeal.main_arg2) = m' ((c.tc : Thread Cert.Bff2RefIdeal.nD Cert.Bff2RefIdeal.τ).loc Cert.Bff2RefIdeal.main_arg2))

def preserves_Wff2_Wff2Ideal : Prop :=
  True

def algebraic_Wff2Ideal_Wff2RefIdeal [hWff2Ideal : Cert.Wff2Ideal.Facts] [hWff2RefIdeal : Cert.Wff2RefIdeal.Facts] : Prop :=
  ∀ (m : (ℓ : Loc Cert.Wff2Ideal.nD Cert.Wff2Ideal.τ Cert.Wff2Ideal.sig) → Buf (Elt Ideal) ℓ) (g : Dev Cert.Wff2Ideal.nD → PrngReg)
    (m' : (ℓ : Loc Cert.Wff2RefIdeal.nD Cert.Wff2RefIdeal.τ Cert.Wff2RefIdeal.sig) → Buf (Elt Ideal) ℓ) (g' : Dev Cert.Wff2RefIdeal.nD → PrngReg), Pre_Wff2Ideal m →
    (∀ c : Dev Cert.Wff2Ideal.nD,
      m' ((c.tc : Thread Cert.Wff2RefIdeal.nD Cert.Wff2RefIdeal.τ).loc Cert.Wff2RefIdeal.main_arg0) = m ((c.tc : Thread Cert.Wff2Ideal.nD Cert.Wff2Ideal.τ).loc Cert.Wff2Ideal.main_arg0)
      ∧ m' ((c.tc : Thread Cert.Wff2RefIdeal.nD Cert.Wff2RefIdeal.τ).loc Cert.Wff2RefIdeal.main_arg1) = m ((c.tc : Thread Cert.Wff2Ideal.nD Cert.Wff2Ideal.τ).loc Cert.Wff2Ideal.main_arg1)) →
    ∃ (v0 : (c : Dev Cert.Wff2Ideal.nD) → Buf (Elt Ideal) ((c.tc : Thread Cert.Wff2Ideal.nD Cert.Wff2Ideal.τ).loc Cert.Wff2Ideal.main_v3)),
      θ_run (Cert.Wff2Ideal.defs (F := Ideal)) (onTc (τ := Cert.Wff2Ideal.τ) (Cert.Wff2Ideal.main (F := Ideal))) ⟨m, fun _ => 0, g⟩ (fun r => ∀ c : Dev Cert.Wff2Ideal.nD,
          r.2.mem ((c.tc : Thread Cert.Wff2Ideal.nD Cert.Wff2Ideal.τ).loc Cert.Wff2Ideal.main_v3) = v0 c
          ∧ r.2.mem ((c.tc : Thread Cert.Wff2Ideal.nD Cert.Wff2Ideal.τ).loc Cert.Wff2Ideal.main_arg0) = m ((c.tc : Thread Cert.Wff2Ideal.nD Cert.Wff2Ideal.τ).loc Cert.Wff2Ideal.main_arg0)
          ∧ r.2.mem ((c.tc : Thread Cert.Wff2Ideal.nD Cert.Wff2Ideal.τ).loc Cert.Wff2Ideal.main_arg1) = m ((c.tc : Thread Cert.Wff2Ideal.nD Cert.Wff2Ideal.τ).loc Cert.Wff2Ideal.main_arg1))
      ∧ θ_run (Cert.Wff2RefIdeal.defs (F := Ideal)) (onTc (τ := Cert.Wff2RefIdeal.τ) (Cert.Wff2RefIdeal.main (F := Ideal))) ⟨m', fun _ => 0, g'⟩ (fun r => ∀ c : Dev Cert.Wff2RefIdeal.nD,
          r.2.mem ((c.tc : Thread Cert.Wff2RefIdeal.nD Cert.Wff2RefIdeal.τ).loc Cert.Wff2RefIdeal.main_v6) = v0 c
          ∧ r.2.mem ((c.tc : Thread Cert.Wff2RefIdeal.nD Cert.Wff2RefIdeal.τ).loc Cert.Wff2RefIdeal.main_arg0) = m' ((c.tc : Thread Cert.Wff2RefIdeal.nD Cert.Wff2RefIdeal.τ).loc Cert.Wff2RefIdeal.main_arg0)
          ∧ r.2.mem ((c.tc : Thread Cert.Wff2RefIdeal.nD Cert.Wff2RefIdeal.τ).loc Cert.Wff2RefIdeal.main_arg1) = m' ((c.tc : Thread Cert.Wff2RefIdeal.nD Cert.Wff2RefIdeal.τ).loc Cert.Wff2RefIdeal.main_arg1))

def preserves_Wff1_Wff1Ideal : Prop :=
  True

def algebraic_Wff1Ideal_Wff1RefIdeal [hWff1Ideal : Cert.Wff1Ideal.Facts] [hWff1RefIdeal : Cert.Wff1RefIdeal.Facts] : Prop :=
  ∀ (m : (ℓ : Loc Cert.Wff1Ideal.nD Cert.Wff1Ideal.τ Cert.Wff1Ideal.sig) → Buf (Elt Ideal) ℓ) (g : Dev Cert.Wff1Ideal.nD → PrngReg)
    (m' : (ℓ : Loc Cert.Wff1RefIdeal.nD Cert.Wff1RefIdeal.τ Cert.Wff1RefIdeal.sig) → Buf (Elt Ideal) ℓ) (g' : Dev Cert.Wff1RefIdeal.nD → PrngReg), Pre_Wff1Ideal m →
    (∀ c : Dev Cert.Wff1Ideal.nD,
      m' ((c.tc : Thread Cert.Wff1RefIdeal.nD Cert.Wff1RefIdeal.τ).loc Cert.Wff1RefIdeal.main_arg0) = m ((c.tc : Thread Cert.Wff1Ideal.nD Cert.Wff1Ideal.τ).loc Cert.Wff1Ideal.main_arg0)
      ∧ m' ((c.tc : Thread Cert.Wff1RefIdeal.nD Cert.Wff1RefIdeal.τ).loc Cert.Wff1RefIdeal.main_arg1) = m ((c.tc : Thread Cert.Wff1Ideal.nD Cert.Wff1Ideal.τ).loc Cert.Wff1Ideal.main_arg1)
      ∧ m' ((c.tc : Thread Cert.Wff1RefIdeal.nD Cert.Wff1RefIdeal.τ).loc Cert.Wff1RefIdeal.main_arg2) = m ((c.tc : Thread Cert.Wff1Ideal.nD Cert.Wff1Ideal.τ).loc Cert.Wff1Ideal.main_arg2)) →
    ∃ (v0 : (c : Dev Cert.Wff1Ideal.nD) → Buf (Elt Ideal) ((c.tc : Thread Cert.Wff1Ideal.nD Cert.Wff1Ideal.τ).loc Cert.Wff1Ideal.main_v14)),
      θ_run (Cert.Wff1Ideal.defs (F := Ideal)) (onTc (τ := Cert.Wff1Ideal.τ) (Cert.Wff1Ideal.main (F := Ideal))) ⟨m, fun _ => 0, g⟩ (fun r => ∀ c : Dev Cert.Wff1Ideal.nD,
          r.2.mem ((c.tc : Thread Cert.Wff1Ideal.nD Cert.Wff1Ideal.τ).loc Cert.Wff1Ideal.main_v14) = v0 c
          ∧ r.2.mem ((c.tc : Thread Cert.Wff1Ideal.nD Cert.Wff1Ideal.τ).loc Cert.Wff1Ideal.main_arg0) = m ((c.tc : Thread Cert.Wff1Ideal.nD Cert.Wff1Ideal.τ).loc Cert.Wff1Ideal.main_arg0)
          ∧ r.2.mem ((c.tc : Thread Cert.Wff1Ideal.nD Cert.Wff1Ideal.τ).loc Cert.Wff1Ideal.main_arg1) = m ((c.tc : Thread Cert.Wff1Ideal.nD Cert.Wff1Ideal.τ).loc Cert.Wff1Ideal.main_arg1)
          ∧ r.2.mem ((c.tc : Thread Cert.Wff1Ideal.nD Cert.Wff1Ideal.τ).loc Cert.Wff1Ideal.main_arg2) = m ((c.tc : Thread Cert.Wff1Ideal.nD Cert.Wff1Ideal.τ).loc Cert.Wff1Ideal.main_arg2))
      ∧ θ_run (Cert.Wff1RefIdeal.defs (F := Ideal)) (onTc (τ := Cert.Wff1RefIdeal.τ) (Cert.Wff1RefIdeal.main (F := Ideal))) ⟨m', fun _ => 0, g'⟩ (fun r => ∀ c : Dev Cert.Wff1RefIdeal.nD,
          r.2.mem ((c.tc : Thread Cert.Wff1RefIdeal.nD Cert.Wff1RefIdeal.τ).loc Cert.Wff1RefIdeal.main_v19) = v0 c
          ∧ r.2.mem ((c.tc : Thread Cert.Wff1RefIdeal.nD Cert.Wff1RefIdeal.τ).loc Cert.Wff1RefIdeal.main_arg0) = m' ((c.tc : Thread Cert.Wff1RefIdeal.nD Cert.Wff1RefIdeal.τ).loc Cert.Wff1RefIdeal.main_arg0)
          ∧ r.2.mem ((c.tc : Thread Cert.Wff1RefIdeal.nD Cert.Wff1RefIdeal.τ).loc Cert.Wff1RefIdeal.main_arg1) = m' ((c.tc : Thread Cert.Wff1RefIdeal.nD Cert.Wff1RefIdeal.τ).loc Cert.Wff1RefIdeal.main_arg1)
          ∧ r.2.mem ((c.tc : Thread Cert.Wff1RefIdeal.nD Cert.Wff1RefIdeal.τ).loc Cert.Wff1RefIdeal.main_arg2) = m' ((c.tc : Thread Cert.Wff1RefIdeal.nD Cert.Wff1RefIdeal.τ).loc Cert.Wff1RefIdeal.main_arg2))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)
      ∧ m' ((c.tc : Thread Cert.Ff1RefIdeal.nD Cert.Ff1RefIdeal.τ).loc Cert.Ff1RefIdeal.main_arg2) = m ((c.tc : Thread Cert.Ff1Ideal.nD Cert.Ff1Ideal.τ).loc Cert.Ff1Ideal.main_arg2)) →
    ∃ (v0 : (c : Dev Cert.Ff1Ideal.nD) → Buf (Elt Ideal) ((c.tc : Thread Cert.Ff1Ideal.nD Cert.Ff1Ideal.τ).loc Cert.Ff1Ideal.main_v5_0)) (v1 : (c : Dev Cert.Ff1Ideal.nD) → Buf (Elt Ideal) ((c.tc : Thread Cert.Ff1Ideal.nD Cert.Ff1Ideal.τ).loc Cert.Ff1Ideal.main_v5_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v5_0) = v0 c
          ∧ r.2.mem ((c.tc : Thread Cert.Ff1Ideal.nD Cert.Ff1Ideal.τ).loc Cert.Ff1Ideal.main_v5_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
          ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v13) = v0 c
          ∧ r.2.mem ((c.tc : Thread Cert.Ff1RefIdeal.nD Cert.Ff1RefIdeal.τ).loc Cert.Ff1RefIdeal.main_v17) = v1 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1)
          ∧ r.2.mem ((c.tc : Thread Cert.Ff1RefIdeal.nD Cert.Ff1RefIdeal.τ).loc Cert.Ff1RefIdeal.main_arg2) = m' ((c.tc : Thread Cert.Ff1RefIdeal.nD Cert.Ff1RefIdeal.τ).loc Cert.Ff1RefIdeal.main_arg2))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)
      ∧ m' ((c.tc : Thread Cert.Ff2RefIdeal.nD Cert.Ff2RefIdeal.τ).loc Cert.Ff2RefIdeal.main_arg2) = m ((c.tc : Thread Cert.Ff2Ideal.nD Cert.Ff2Ideal.τ).loc Cert.Ff2Ideal.main_arg2)) →
    ∃ (v0 : (c : Dev Cert.Ff2Ideal.nD) → Buf (Elt Ideal) ((c.tc : Thread Cert.Ff2Ideal.nD Cert.Ff2Ideal.τ).loc Cert.Ff2Ideal.main_v2)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v2) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v2) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1)
          ∧ r.2.mem ((c.tc : Thread Cert.Ff2RefIdeal.nD Cert.Ff2RefIdeal.τ).loc Cert.Ff2RefIdeal.main_arg2) = m' ((c.tc : Thread Cert.Ff2RefIdeal.nD Cert.Ff2RefIdeal.τ).loc Cert.Ff2RefIdeal.main_arg2))

def preserves_Bin_BinIdeal : Prop :=
  True

def algebraic_BinIdeal_BinRefIdeal [hBinIdeal : Cert.BinIdeal.Facts] [hBinRefIdeal : Cert.BinRefIdeal.Facts] : Prop :=
  ∀ (m : (ℓ : Loc Cert.BinIdeal.nD Cert.BinIdeal.τ Cert.BinIdeal.sig) → Buf (Elt Ideal) ℓ) (g : Dev Cert.BinIdeal.nD → PrngReg)
    (m' : (ℓ : Loc Cert.BinRefIdeal.nD Cert.BinRefIdeal.τ Cert.BinRefIdeal.sig) → Buf (Elt Ideal) ℓ) (g' : Dev Cert.BinRefIdeal.nD → PrngReg), Pre_BinIdeal m →
    (∀ c : Dev Cert.BinIdeal.nD,
      m' ((c.tc : Thread Cert.BinRefIdeal.nD Cert.BinRefIdeal.τ).loc Cert.BinRefIdeal.main_arg0) = m ((c.tc : Thread Cert.BinIdeal.nD Cert.BinIdeal.τ).loc Cert.BinIdeal.main_arg0)
      ∧ m' ((c.tc : Thread Cert.BinRefIdeal.nD Cert.BinRefIdeal.τ).loc Cert.BinRefIdeal.main_arg1) = m ((c.tc : Thread Cert.BinIdeal.nD Cert.BinIdeal.τ).loc Cert.BinIdeal.main_arg1)
      ∧ m' ((c.tc : Thread Cert.BinRefIdeal.nD Cert.BinRefIdeal.τ).loc Cert.BinRefIdeal.main_arg2) = m ((c.tc : Thread Cert.BinIdeal.nD Cert.BinIdeal.τ).loc Cert.BinIdeal.main_arg2)
      ∧ m' ((c.tc : Thread Cert.BinRefIdeal.nD Cert.BinRefIdeal.τ).loc Cert.BinRefIdeal.main_arg3) = m ((c.tc : Thread Cert.BinIdeal.nD Cert.BinIdeal.τ).loc Cert.BinIdeal.main_arg3)
      ∧ m' ((c.tc : Thread Cert.BinRefIdeal.nD Cert.BinRefIdeal.τ).loc Cert.BinRefIdeal.main_arg4) = m ((c.tc : Thread Cert.BinIdeal.nD Cert.BinIdeal.τ).loc Cert.BinIdeal.main_arg4)) →
    ∃ (v0 : (c : Dev Cert.BinIdeal.nD) → Buf (Elt Ideal) ((c.tc : Thread Cert.BinIdeal.nD Cert.BinIdeal.τ).loc Cert.BinIdeal.main_v3_0)) (v1 : (c : Dev Cert.BinIdeal.nD) → Buf (Elt Ideal) ((c.tc : Thread Cert.BinIdeal.nD Cert.BinIdeal.τ).loc Cert.BinIdeal.main_v3_1)) (v2 : (c : Dev Cert.BinIdeal.nD) → Buf (Elt Ideal) ((c.tc : Thread Cert.BinIdeal.nD Cert.BinIdeal.τ).loc Cert.BinIdeal.main_v3_2)),
      θ_run (Cert.BinIdeal.defs (F := Ideal)) (onTc (τ := Cert.BinIdeal.τ) (Cert.BinIdeal.main (F := Ideal))) ⟨m, fun _ => 0, g⟩ (fun r => ∀ c : Dev Cert.BinIdeal.nD,
          r.2.mem ((c.tc : Thread Cert.BinIdeal.nD Cert.BinIdeal.τ).loc Cert.BinIdeal.main_v3_0) = v0 c
          ∧ r.2.mem ((c.tc : Thread Cert.BinIdeal.nD Cert.BinIdeal.τ).loc Cert.BinIdeal.main_v3_1) = v1 c
          ∧ r.2.mem ((c.tc : Thread Cert.BinIdeal.nD Cert.BinIdeal.τ).loc Cert.BinIdeal.main_v3_2) = v2 c
          ∧ r.2.mem ((c.tc : Thread Cert.BinIdeal.nD Cert.BinIdeal.τ).loc Cert.BinIdeal.main_arg0) = m ((c.tc : Thread Cert.BinIdeal.nD Cert.BinIdeal.τ).loc Cert.BinIdeal.main_arg0)
          ∧ r.2.mem ((c.tc : Thread Cert.BinIdeal.nD Cert.BinIdeal.τ).loc Cert.BinIdeal.main_arg1) = m ((c.tc : Thread Cert.BinIdeal.nD Cert.BinIdeal.τ).loc Cert.BinIdeal.main_arg1)
          ∧ r.2.mem ((c.tc : Thread Cert.BinIdeal.nD Cert.BinIdeal.τ).loc Cert.BinIdeal.main_arg2) = m ((c.tc : Thread Cert.BinIdeal.nD Cert.BinIdeal.τ).loc Cert.BinIdeal.main_arg2)
          ∧ r.2.mem ((c.tc : Thread Cert.BinIdeal.nD Cert.BinIdeal.τ).loc Cert.BinIdeal.main_arg3) = m ((c.tc : Thread Cert.BinIdeal.nD Cert.BinIdeal.τ).loc Cert.BinIdeal.main_arg3)
          ∧ r.2.mem ((c.tc : Thread Cert.BinIdeal.nD Cert.BinIdeal.τ).loc Cert.BinIdeal.main_arg4) = m ((c.tc : Thread Cert.BinIdeal.nD Cert.BinIdeal.τ).loc Cert.BinIdeal.main_arg4))
      ∧ θ_run (Cert.BinRefIdeal.defs (F := Ideal)) (onTc (τ := Cert.BinRefIdeal.τ) (Cert.BinRefIdeal.main (F := Ideal))) ⟨m', fun _ => 0, g'⟩ (fun r => ∀ c : Dev Cert.BinRefIdeal.nD,
          r.2.mem ((c.tc : Thread Cert.BinRefIdeal.nD Cert.BinRefIdeal.τ).loc Cert.BinRefIdeal.main_v45) = v0 c
          ∧ r.2.mem ((c.tc : Thread Cert.BinRefIdeal.nD Cert.BinRefIdeal.τ).loc Cert.BinRefIdeal.main_v46) = v1 c
          ∧ r.2.mem ((c.tc : Thread Cert.BinRefIdeal.nD Cert.BinRefIdeal.τ).loc Cert.BinRefIdeal.main_v29) = v2 c
          ∧ r.2.mem ((c.tc : Thread Cert.BinRefIdeal.nD Cert.BinRefIdeal.τ).loc Cert.BinRefIdeal.main_arg0) = m' ((c.tc : Thread Cert.BinRefIdeal.nD Cert.BinRefIdeal.τ).loc Cert.BinRefIdeal.main_arg0)
          ∧ r.2.mem ((c.tc : Thread Cert.BinRefIdeal.nD Cert.BinRefIdeal.τ).loc Cert.BinRefIdeal.main_arg1) = m' ((c.tc : Thread Cert.BinRefIdeal.nD Cert.BinRefIdeal.τ).loc Cert.BinRefIdeal.main_arg1)
          ∧ r.2.mem ((c.tc : Thread Cert.BinRefIdeal.nD Cert.BinRefIdeal.τ).loc Cert.BinRefIdeal.main_arg2) = m' ((c.tc : Thread Cert.BinRefIdeal.nD Cert.BinRefIdeal.τ).loc Cert.BinRefIdeal.main_arg2)
          ∧ r.2.mem ((c.tc : Thread Cert.BinRefIdeal.nD Cert.BinRefIdeal.τ).loc Cert.BinRefIdeal.main_arg3) = m' ((c.tc : Thread Cert.BinRefIdeal.nD Cert.BinRefIdeal.τ).loc Cert.BinRefIdeal.main_arg3)
          ∧ r.2.mem ((c.tc : Thread Cert.BinRefIdeal.nD Cert.BinRefIdeal.τ).loc Cert.BinRefIdeal.main_arg4) = m' ((c.tc : Thread Cert.BinRefIdeal.nD Cert.BinRefIdeal.τ).loc Cert.BinRefIdeal.main_arg4))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)) →
    ∃ (v0 : (c : Dev Cert.WinIdeal.nD) → Buf (Elt Ideal) ((c.tc : Thread Cert.WinIdeal.nD Cert.WinIdeal.τ).loc Cert.WinIdeal.main_v14)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v14) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v17) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2))

def preserves_Bout_BoutIdeal : Prop :=
  True

def algebraic_BoutIdeal_BoutRefIdeal [hBoutIdeal : Cert.BoutIdeal.Facts] [hBoutRefIdeal : Cert.BoutRefIdeal.Facts] : Prop :=
  ∀ (m : (ℓ : Loc Cert.BoutIdeal.nD Cert.BoutIdeal.τ Cert.BoutIdeal.sig) → Buf (Elt Ideal) ℓ) (g : Dev Cert.BoutIdeal.nD → PrngReg)
    (m' : (ℓ : Loc Cert.BoutRefIdeal.nD Cert.BoutRefIdeal.τ Cert.BoutRefIdeal.sig) → Buf (Elt Ideal) ℓ) (g' : Dev Cert.BoutRefIdeal.nD → PrngReg), Pre_BoutIdeal m →
    (∀ c : Dev Cert.BoutIdeal.nD,
      m' ((c.tc : Thread Cert.BoutRefIdeal.nD Cert.BoutRefIdeal.τ).loc Cert.BoutRefIdeal.main_arg0) = m ((c.tc : Thread Cert.BoutIdeal.nD Cert.BoutIdeal.τ).loc Cert.BoutIdeal.main_arg0)
      ∧ m' ((c.tc : Thread Cert.BoutRefIdeal.nD Cert.BoutRefIdeal.τ).loc Cert.BoutRefIdeal.main_arg1) = m ((c.tc : Thread Cert.BoutIdeal.nD Cert.BoutIdeal.τ).loc Cert.BoutIdeal.main_arg1)) →
    ∃ (v0 : (c : Dev Cert.BoutIdeal.nD) → Buf (Elt Ideal) ((c.tc : Thread Cert.BoutIdeal.nD Cert.BoutIdeal.τ).loc Cert.BoutIdeal.main_v2)),
      θ_run (Cert.BoutIdeal.defs (F := Ideal)) (onTc (τ := Cert.BoutIdeal.τ) (Cert.BoutIdeal.main (F := Ideal))) ⟨m, fun _ => 0, g⟩ (fun r => ∀ c : Dev Cert.BoutIdeal.nD,
          r.2.mem ((c.tc : Thread Cert.BoutIdeal.nD Cert.BoutIdeal.τ).loc Cert.BoutIdeal.main_v2) = v0 c
          ∧ r.2.mem ((c.tc : Thread Cert.BoutIdeal.nD Cert.BoutIdeal.τ).loc Cert.BoutIdeal.main_arg0) = m ((c.tc : Thread Cert.BoutIdeal.nD Cert.BoutIdeal.τ).loc Cert.BoutIdeal.main_arg0)
          ∧ r.2.mem ((c.tc : Thread Cert.BoutIdeal.nD Cert.BoutIdeal.τ).loc Cert.BoutIdeal.main_arg1) = m ((c.tc : Thread Cert.BoutIdeal.nD Cert.BoutIdeal.τ).loc Cert.BoutIdeal.main_arg1))
      ∧ θ_run (Cert.BoutRefIdeal.defs (F := Ideal)) (onTc (τ := Cert.BoutRefIdeal.τ) (Cert.BoutRefIdeal.main (F := Ideal))) ⟨m', fun _ => 0, g'⟩ (fun r => ∀ c : Dev Cert.BoutRefIdeal.nD,
          r.2.mem ((c.tc : Thread Cert.BoutRefIdeal.nD Cert.BoutRefIdeal.τ).loc Cert.BoutRefIdeal.main_v3) = v0 c
          ∧ r.2.mem ((c.tc : Thread Cert.BoutRefIdeal.nD Cert.BoutRefIdeal.τ).loc Cert.BoutRefIdeal.main_arg0) = m' ((c.tc : Thread Cert.BoutRefIdeal.nD Cert.BoutRefIdeal.τ).loc Cert.BoutRefIdeal.main_arg0)
          ∧ r.2.mem ((c.tc : Thread Cert.BoutRefIdeal.nD Cert.BoutRefIdeal.τ).loc Cert.BoutRefIdeal.main_arg1) = m' ((c.tc : Thread Cert.BoutRefIdeal.nD Cert.BoutRefIdeal.τ).loc Cert.BoutRefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v0)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v5) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Wglu_WgluIdeal : Prop :=
  True

def algebraic_WgluIdeal_WgluRefIdeal [hWgluIdeal : Cert.WgluIdeal.Facts] [hWgluRefIdeal : Cert.WgluRefIdeal.Facts] : Prop :=
  ∀ (m : (ℓ : Loc Cert.WgluIdeal.nD Cert.WgluIdeal.τ Cert.WgluIdeal.sig) → Buf (Elt Ideal) ℓ) (g : Dev Cert.WgluIdeal.nD → PrngReg)
    (m' : (ℓ : Loc Cert.WgluRefIdeal.nD Cert.WgluRefIdeal.τ Cert.WgluRefIdeal.sig) → Buf (Elt Ideal) ℓ) (g' : Dev Cert.WgluRefIdeal.nD → PrngReg), Pre_WgluIdeal m →
    (∀ c : Dev Cert.WgluIdeal.nD,
      m' ((c.tc : Thread Cert.WgluRefIdeal.nD Cert.WgluRefIdeal.τ).loc Cert.WgluRefIdeal.main_arg0) = m ((c.tc : Thread Cert.WgluIdeal.nD Cert.WgluIdeal.τ).loc Cert.WgluIdeal.main_arg0)
      ∧ m' ((c.tc : Thread Cert.WgluRefIdeal.nD Cert.WgluRefIdeal.τ).loc Cert.WgluRefIdeal.main_arg1) = m ((c.tc : Thread Cert.WgluIdeal.nD Cert.WgluIdeal.τ).loc Cert.WgluIdeal.main_arg1)) →
    ∃ (v0 : (c : Dev Cert.WgluIdeal.nD) → Buf (Elt Ideal) ((c.tc : Thread Cert.WgluIdeal.nD Cert.WgluIdeal.τ).loc Cert.WgluIdeal.main_v14)),
      θ_run (Cert.WgluIdeal.defs (F := Ideal)) (onTc (τ := Cert.WgluIdeal.τ) (Cert.WgluIdeal.main (F := Ideal))) ⟨m, fun _ => 0, g⟩ (fun r => ∀ c : Dev Cert.WgluIdeal.nD,
          r.2.mem ((c.tc : Thread Cert.WgluIdeal.nD Cert.WgluIdeal.τ).loc Cert.WgluIdeal.main_v14) = v0 c
          ∧ r.2.mem ((c.tc : Thread Cert.WgluIdeal.nD Cert.WgluIdeal.τ).loc Cert.WgluIdeal.main_arg0) = m ((c.tc : Thread Cert.WgluIdeal.nD Cert.WgluIdeal.τ).loc Cert.WgluIdeal.main_arg0)
          ∧ r.2.mem ((c.tc : Thread Cert.WgluIdeal.nD Cert.WgluIdeal.τ).loc Cert.WgluIdeal.main_arg1) = m ((c.tc : Thread Cert.WgluIdeal.nD Cert.WgluIdeal.τ).loc Cert.WgluIdeal.main_arg1))
      ∧ θ_run (Cert.WgluRefIdeal.defs (F := Ideal)) (onTc (τ := Cert.WgluRefIdeal.τ) (Cert.WgluRefIdeal.main (F := Ideal))) ⟨m', fun _ => 0, g'⟩ (fun r => ∀ c : Dev Cert.WgluRefIdeal.nD,
          r.2.mem ((c.tc : Thread Cert.WgluRefIdeal.nD Cert.WgluRefIdeal.τ).loc Cert.WgluRefIdeal.main_v19) = v0 c
          ∧ r.2.mem ((c.tc : Thread Cert.WgluRefIdeal.nD Cert.WgluRefIdeal.τ).loc Cert.WgluRefIdeal.main_arg0) = m' ((c.tc : Thread Cert.WgluRefIdeal.nD Cert.WgluRefIdeal.τ).loc Cert.WgluRefIdeal.main_arg0)
          ∧ r.2.mem ((c.tc : Thread Cert.WgluRefIdeal.nD Cert.WgluRefIdeal.τ).loc Cert.WgluRefIdeal.main_arg1) = m' ((c.tc : Thread Cert.WgluRefIdeal.nD Cert.WgluRefIdeal.τ).loc Cert.WgluRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v3_0)) (v1 : (c : Dev Cert.InIdeal.nD) → Buf (Elt Ideal) ((c.tc : Thread Cert.InIdeal.nD Cert.InIdeal.τ).loc Cert.InIdeal.main_v3_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3_0) = v0 c
          ∧ r.2.mem ((c.tc : Thread Cert.InIdeal.nD Cert.InIdeal.τ).loc Cert.InIdeal.main_v3_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v13) = v0 c
          ∧ r.2.mem ((c.tc : Thread Cert.InRefIdeal.nD Cert.InRefIdeal.τ).loc Cert.InRefIdeal.main_v14) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)
      ∧ m' ((c.tc : Thread Cert.GluRefIdeal.nD Cert.GluRefIdeal.τ).loc Cert.GluRefIdeal.main_arg5) = m ((c.tc : Thread Cert.GluIdeal.nD Cert.GluIdeal.τ).loc Cert.GluIdeal.main_arg5)) →
    ∃ (v0 : (c : Dev Cert.GluIdeal.nD) → Buf (Elt Ideal) ((c.tc : Thread Cert.GluIdeal.nD Cert.GluIdeal.τ).loc Cert.GluIdeal.main_v5_0)) (v1 : (c : Dev Cert.GluIdeal.nD) → Buf (Elt Ideal) ((c.tc : Thread Cert.GluIdeal.nD Cert.GluIdeal.τ).loc Cert.GluIdeal.main_v5_1)) (v2 : (c : Dev Cert.GluIdeal.nD) → Buf (Elt Ideal) ((c.tc : Thread Cert.GluIdeal.nD Cert.GluIdeal.τ).loc Cert.GluIdeal.main_v5_2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v5_0) = v0 c
          ∧ r.2.mem ((c.tc : Thread Cert.GluIdeal.nD Cert.GluIdeal.τ).loc Cert.GluIdeal.main_v5_1) = v1 c
          ∧ r.2.mem ((c.tc : Thread Cert.GluIdeal.nD Cert.GluIdeal.τ).loc Cert.GluIdeal.main_v5_2) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
          ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v5) = v0 c
          ∧ r.2.mem ((c.tc : Thread Cert.GluRefIdeal.nD Cert.GluRefIdeal.τ).loc Cert.GluRefIdeal.main_v19) = v1 c
          ∧ r.2.mem ((c.tc : Thread Cert.GluRefIdeal.nD Cert.GluRefIdeal.τ).loc Cert.GluRefIdeal.main_v31) = v2 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4)
          ∧ r.2.mem ((c.tc : Thread Cert.GluRefIdeal.nD Cert.GluRefIdeal.τ).loc Cert.GluRefIdeal.main_arg5) = m' ((c.tc : Thread Cert.GluRefIdeal.nD Cert.GluRefIdeal.τ).loc Cert.GluRefIdeal.main_arg5))

def preserves_Bglu_BgluIdeal : Prop :=
  IdealRules.named_const.Statement Cert.BgluIdeal.κ "gelu" .f32 0x3D372713#32 ((8943 / 200000 : ℝ) : EReal)
  ∧ IdealRules.named_const.Statement Cert.BgluIdeal.κ "gelu3" .f32 0x3E095D4F#32 ((26829 / 200000 : ℝ) : EReal)

def algebraic_BgluIdeal_BgluRefIdeal_pre_finite_bglu [hBgluIdeal : Cert.BgluIdeal.Facts] [hBgluRefIdeal : Cert.BgluRefIdeal.Facts] [hPre_finite_bglu : Cert.Pre_finite_bglu.Facts] : Prop :=
  ∀ (m : (ℓ : Loc Cert.BgluIdeal.nD Cert.BgluIdeal.τ Cert.BgluIdeal.sig) → Buf (Elt Ideal) ℓ) (g : Dev Cert.BgluIdeal.nD → PrngReg)
    (m' : (ℓ : Loc Cert.BgluRefIdeal.nD Cert.BgluRefIdeal.τ Cert.BgluRefIdeal.sig) → Buf (Elt Ideal) ℓ) (g' : Dev Cert.BgluRefIdeal.nD → PrngReg), Pre_BgluIdeal_finite_bglu m →
    (∀ c : Dev Cert.BgluIdeal.nD,
      m' ((c.tc : Thread Cert.BgluRefIdeal.nD Cert.BgluRefIdeal.τ).loc Cert.BgluRefIdeal.main_arg0) = m ((c.tc : Thread Cert.BgluIdeal.nD Cert.BgluIdeal.τ).loc Cert.BgluIdeal.main_arg0)
      ∧ m' ((c.tc : Thread Cert.BgluRefIdeal.nD Cert.BgluRefIdeal.τ).loc Cert.BgluRefIdeal.main_arg1) = m ((c.tc : Thread Cert.BgluIdeal.nD Cert.BgluIdeal.τ).loc Cert.BgluIdeal.main_arg1)
      ∧ m' ((c.tc : Thread Cert.BgluRefIdeal.nD Cert.BgluRefIdeal.τ).loc Cert.BgluRefIdeal.main_arg2) = m ((c.tc : Thread Cert.BgluIdeal.nD Cert.BgluIdeal.τ).loc Cert.BgluIdeal.main_arg2)) →
    ∃ (v0 : (c : Dev Cert.BgluIdeal.nD) → Buf (Elt Ideal) ((c.tc : Thread Cert.BgluIdeal.nD Cert.BgluIdeal.τ).loc Cert.BgluIdeal.main_v20_0)) (v1 : (c : Dev Cert.BgluIdeal.nD) → Buf (Elt Ideal) ((c.tc : Thread Cert.BgluIdeal.nD Cert.BgluIdeal.τ).loc Cert.BgluIdeal.main_v20_1)) (v2 : (c : Dev Cert.BgluIdeal.nD) → Buf (Elt Ideal) ((c.tc : Thread Cert.BgluIdeal.nD Cert.BgluIdeal.τ).loc Cert.BgluIdeal.main_v20_2)),
      θ_run (Cert.BgluIdeal.defs (F := Ideal)) (onTc (τ := Cert.BgluIdeal.τ) (Cert.BgluIdeal.main (F := Ideal))) ⟨m, fun _ => 0, g⟩ (fun r => ∀ c : Dev Cert.BgluIdeal.nD,
          r.2.mem ((c.tc : Thread Cert.BgluIdeal.nD Cert.BgluIdeal.τ).loc Cert.BgluIdeal.main_v20_0) = v0 c
          ∧ r.2.mem ((c.tc : Thread Cert.BgluIdeal.nD Cert.BgluIdeal.τ).loc Cert.BgluIdeal.main_v20_1) = v1 c
          ∧ r.2.mem ((c.tc : Thread Cert.BgluIdeal.nD Cert.BgluIdeal.τ).loc Cert.BgluIdeal.main_v20_2) = v2 c
          ∧ r.2.mem ((c.tc : Thread Cert.BgluIdeal.nD Cert.BgluIdeal.τ).loc Cert.BgluIdeal.main_arg0) = m ((c.tc : Thread Cert.BgluIdeal.nD Cert.BgluIdeal.τ).loc Cert.BgluIdeal.main_arg0)
          ∧ r.2.mem ((c.tc : Thread Cert.BgluIdeal.nD Cert.BgluIdeal.τ).loc Cert.BgluIdeal.main_arg1) = m ((c.tc : Thread Cert.BgluIdeal.nD Cert.BgluIdeal.τ).loc Cert.BgluIdeal.main_arg1)
          ∧ r.2.mem ((c.tc : Thread Cert.BgluIdeal.nD Cert.BgluIdeal.τ).loc Cert.BgluIdeal.main_arg2) = m ((c.tc : Thread Cert.BgluIdeal.nD Cert.BgluIdeal.τ).loc Cert.BgluIdeal.main_arg2))
      ∧ θ_run (Cert.BgluRefIdeal.defs (F := Ideal)) (onTc (τ := Cert.BgluRefIdeal.τ) (Cert.BgluRefIdeal.main (F := Ideal))) ⟨m', fun _ => 0, g'⟩ (fun r => ∀ c : Dev Cert.BgluRefIdeal.nD,
          r.2.mem ((c.tc : Thread Cert.BgluRefIdeal.nD Cert.BgluRefIdeal.τ).loc Cert.BgluRefIdeal.main_v88) = v0 c
          ∧ r.2.mem ((c.tc : Thread Cert.BgluRefIdeal.nD Cert.BgluRefIdeal.τ).loc Cert.BgluRefIdeal.main_v104) = v1 c
          ∧ r.2.mem ((c.tc : Thread Cert.BgluRefIdeal.nD Cert.BgluRefIdeal.τ).loc Cert.BgluRefIdeal.main_v87) = v2 c
          ∧ r.2.mem ((c.tc : Thread Cert.BgluRefIdeal.nD Cert.BgluRefIdeal.τ).loc Cert.BgluRefIdeal.main_arg0) = m' ((c.tc : Thread Cert.BgluRefIdeal.nD Cert.BgluRefIdeal.τ).loc Cert.BgluRefIdeal.main_arg0)
          ∧ r.2.mem ((c.tc : Thread Cert.BgluRefIdeal.nD Cert.BgluRefIdeal.τ).loc Cert.BgluRefIdeal.main_arg1) = m' ((c.tc : Thread Cert.BgluRefIdeal.nD Cert.BgluRefIdeal.τ).loc Cert.BgluRefIdeal.main_arg1)
          ∧ r.2.mem ((c.tc : Thread Cert.BgluRefIdeal.nD Cert.BgluRefIdeal.τ).loc Cert.BgluRefIdeal.main_arg2) = m' ((c.tc : Thread Cert.BgluRefIdeal.nD Cert.BgluRefIdeal.τ).loc Cert.BgluRefIdeal.main_arg2))

def preserves_Attn_AttnIdeal : Prop :=
  IdealRules.named_const.Statement Cert.AttnIdeal.κ "mask" .f32 0xFF61B1E6#32 ⊥

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v88) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v31) = v0 c
          ∧ r.2.mem ((c.tc : Thread Cert.LossRefIdeal.nD Cert.LossRefIdeal.τ).loc Cert.LossRefIdeal.main_v32) = v1 c
          ∧ r.2.mem ((c.tc : Thread Cert.LossRefIdeal.nD Cert.LossRefIdeal.τ).loc Cert.LossRefIdeal.main_v3) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)) →
    ∃ (v0 : (c : Dev Cert.AdamIdeal.nD) → Buf (Elt Ideal) ((c.tc : Thread Cert.AdamIdeal.nD Cert.AdamIdeal.τ).loc Cert.AdamIdeal.main_v3_0)) (v1 : (c : Dev Cert.AdamIdeal.nD) → Buf (Elt Ideal) ((c.tc : Thread Cert.AdamIdeal.nD Cert.AdamIdeal.τ).loc Cert.AdamIdeal.main_v3_1)) (v2 : (c : Dev Cert.AdamIdeal.nD) → Buf (Elt Ideal) ((c.tc : Thread Cert.AdamIdeal.nD Cert.AdamIdeal.τ).loc Cert.AdamIdeal.main_v3_2)) (v3 : (c : Dev Cert.AdamIdeal.nD) → Buf (Elt Ideal) ((c.tc : Thread Cert.AdamIdeal.nD Cert.AdamIdeal.τ).loc Cert.AdamIdeal.main_v3_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v3_0) = v0 c
          ∧ r.2.mem ((c.tc : Thread Cert.AdamIdeal.nD Cert.AdamIdeal.τ).loc Cert.AdamIdeal.main_v3_1) = v1 c
          ∧ r.2.mem ((c.tc : Thread Cert.AdamIdeal.nD Cert.AdamIdeal.τ).loc Cert.AdamIdeal.main_v3_2) = v2 c
          ∧ r.2.mem ((c.tc : Thread Cert.AdamIdeal.nD Cert.AdamIdeal.τ).loc Cert.AdamIdeal.main_v3_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v8) = v0 c
          ∧ r.2.mem ((c.tc : Thread Cert.AdamRefIdeal.nD Cert.AdamRefIdeal.τ).loc Cert.AdamRefIdeal.main_v35) = v1 c
          ∧ r.2.mem ((c.tc : Thread Cert.AdamRefIdeal.nD Cert.AdamRefIdeal.τ).loc Cert.AdamRefIdeal.main_v14) = v2 c
          ∧ r.2.mem ((c.tc : Thread Cert.AdamRefIdeal.nD Cert.AdamRefIdeal.τ).loc Cert.AdamRefIdeal.main_v21) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5))

def preserves_Qk_QkIdeal : Prop :=
  True

def algebraic_QkIdeal_QkRefIdeal_pre_finite_qk [hQkIdeal : Cert.QkIdeal.Facts] [hQkRefIdeal : Cert.QkRefIdeal.Facts] [hPre_finite_qk : Cert.Pre_finite_qk.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal_finite_qk m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)
      ∧ m' ((c.tc : Thread Cert.QkRefIdeal.nD Cert.QkRefIdeal.τ).loc Cert.QkRefIdeal.main_arg2) = m ((c.tc : Thread Cert.QkIdeal.nD Cert.QkIdeal.τ).loc Cert.QkIdeal.main_arg2)) →
    ∃ (v0 : (c : Dev Cert.QkIdeal.nD) → Buf (Elt Ideal) ((c.tc : Thread Cert.QkIdeal.nD Cert.QkIdeal.τ).loc Cert.QkIdeal.main_v26_0)) (v1 : (c : Dev Cert.QkIdeal.nD) → Buf (Elt Ideal) ((c.tc : Thread Cert.QkIdeal.nD Cert.QkIdeal.τ).loc Cert.QkIdeal.main_v26_1)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v26_0) = v0 c
          ∧ r.2.mem ((c.tc : Thread Cert.QkIdeal.nD Cert.QkIdeal.τ).loc Cert.QkIdeal.main_v26_1) = v1 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v36) = v0 c
          ∧ r.2.mem ((c.tc : Thread Cert.QkRefIdeal.nD Cert.QkRefIdeal.τ).loc Cert.QkRefIdeal.main_v37) = v1 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2))

def preserves_Gz_GzIdeal : Prop :=
  True

def algebraic_GzIdeal_GzRefIdeal_pre_finite_gz [hGzIdeal : Cert.GzIdeal.Facts] [hGzRefIdeal : Cert.GzRefIdeal.Facts] [hPre_finite_gz : Cert.Pre_finite_gz.Facts] : Prop :=
  ∀ (m : (ℓ : Loc Cert.GzIdeal.nD Cert.GzIdeal.τ Cert.GzIdeal.sig) → Buf (Elt Ideal) ℓ) (g : Dev Cert.GzIdeal.nD → PrngReg)
    (m' : (ℓ : Loc Cert.GzRefIdeal.nD Cert.GzRefIdeal.τ Cert.GzRefIdeal.sig) → Buf (Elt Ideal) ℓ) (g' : Dev Cert.GzRefIdeal.nD → PrngReg), Pre_GzIdeal_finite_gz m →
    (∀ c : Dev Cert.GzIdeal.nD,
      m' ((c.tc : Thread Cert.GzRefIdeal.nD Cert.GzRefIdeal.τ).loc Cert.GzRefIdeal.main_arg0) = m ((c.tc : Thread Cert.GzIdeal.nD Cert.GzIdeal.τ).loc Cert.GzIdeal.main_arg0)
      ∧ m' ((c.tc : Thread Cert.GzRefIdeal.nD Cert.GzRefIdeal.τ).loc Cert.GzRefIdeal.main_arg1) = m ((c.tc : Thread Cert.GzIdeal.nD Cert.GzIdeal.τ).loc Cert.GzIdeal.main_arg1)
      ∧ m' ((c.tc : Thread Cert.GzRefIdeal.nD Cert.GzRefIdeal.τ).loc Cert.GzRefIdeal.main_arg2) = m ((c.tc : Thread Cert.GzIdeal.nD Cert.GzIdeal.τ).loc Cert.GzIdeal.main_arg2)
      ∧ m' ((c.tc : Thread Cert.GzRefIdeal.nD Cert.GzRefIdeal.τ).loc Cert.GzRefIdeal.main_arg3) = m ((c.tc : Thread Cert.GzIdeal.nD Cert.GzIdeal.τ).loc Cert.GzIdeal.main_arg3)
      ∧ m' ((c.tc : Thread Cert.GzRefIdeal.nD Cert.GzRefIdeal.τ).loc Cert.GzRefIdeal.main_arg4) = m ((c.tc : Thread Cert.GzIdeal.nD Cert.GzIdeal.τ).loc Cert.GzIdeal.main_arg4)
      ∧ m' ((c.tc : Thread Cert.GzRefIdeal.nD Cert.GzRefIdeal.τ).loc Cert.GzRefIdeal.main_arg5) = m ((c.tc : Thread Cert.GzIdeal.nD Cert.GzIdeal.τ).loc Cert.GzIdeal.main_arg5)
      ∧ m' ((c.tc : Thread Cert.GzRefIdeal.nD Cert.GzRefIdeal.τ).loc Cert.GzRefIdeal.main_arg6) = m ((c.tc : Thread Cert.GzIdeal.nD Cert.GzIdeal.τ).loc Cert.GzIdeal.main_arg6)
      ∧ m' ((c.tc : Thread Cert.GzRefIdeal.nD Cert.GzRefIdeal.τ).loc Cert.GzRefIdeal.main_arg7) = m ((c.tc : Thread Cert.GzIdeal.nD Cert.GzIdeal.τ).loc Cert.GzIdeal.main_arg7)
      ∧ m' ((c.tc : Thread Cert.GzRefIdeal.nD Cert.GzRefIdeal.τ).loc Cert.GzRefIdeal.main_arg8) = m ((c.tc : Thread Cert.GzIdeal.nD Cert.GzIdeal.τ).loc Cert.GzIdeal.main_arg8)) →
    ∃ (v0 : (c : Dev Cert.GzIdeal.nD) → Buf (Elt Ideal) ((c.tc : Thread Cert.GzIdeal.nD Cert.GzIdeal.τ).loc Cert.GzIdeal.main_v27_0)) (v1 : (c : Dev Cert.GzIdeal.nD) → Buf (Elt Ideal) ((c.tc : Thread Cert.GzIdeal.nD Cert.GzIdeal.τ).loc Cert.GzIdeal.main_v27_1)) (v2 : (c : Dev Cert.GzIdeal.nD) → Buf (Elt Ideal) ((c.tc : Thread Cert.GzIdeal.nD Cert.GzIdeal.τ).loc Cert.GzIdeal.main_v27_2)) (v3 : (c : Dev Cert.GzIdeal.nD) → Buf (Elt Ideal) ((c.tc : Thread Cert.GzIdeal.nD Cert.GzIdeal.τ).loc Cert.GzIdeal.main_v27_3)),
      θ_run (Cert.GzIdeal.defs (F := Ideal)) (onTc (τ := Cert.GzIdeal.τ) (Cert.GzIdeal.main (F := Ideal))) ⟨m, fun _ => 0, g⟩ (fun r => ∀ c : Dev Cert.GzIdeal.nD,
          r.2.mem ((c.tc : Thread Cert.GzIdeal.nD Cert.GzIdeal.τ).loc Cert.GzIdeal.main_v27_0) = v0 c
          ∧ r.2.mem ((c.tc : Thread Cert.GzIdeal.nD Cert.GzIdeal.τ).loc Cert.GzIdeal.main_v27_1) = v1 c
          ∧ r.2.mem ((c.tc : Thread Cert.GzIdeal.nD Cert.GzIdeal.τ).loc Cert.GzIdeal.main_v27_2) = v2 c
          ∧ r.2.mem ((c.tc : Thread Cert.GzIdeal.nD Cert.GzIdeal.τ).loc Cert.GzIdeal.main_v27_3) = v3 c
          ∧ r.2.mem ((c.tc : Thread Cert.GzIdeal.nD Cert.GzIdeal.τ).loc Cert.GzIdeal.main_arg0) = m ((c.tc : Thread Cert.GzIdeal.nD Cert.GzIdeal.τ).loc Cert.GzIdeal.main_arg0)
          ∧ r.2.mem ((c.tc : Thread Cert.GzIdeal.nD Cert.GzIdeal.τ).loc Cert.GzIdeal.main_arg1) = m ((c.tc : Thread Cert.GzIdeal.nD Cert.GzIdeal.τ).loc Cert.GzIdeal.main_arg1)
          ∧ r.2.mem ((c.tc : Thread Cert.GzIdeal.nD Cert.GzIdeal.τ).loc Cert.GzIdeal.main_arg2) = m ((c.tc : Thread Cert.GzIdeal.nD Cert.GzIdeal.τ).loc Cert.GzIdeal.main_arg2)
          ∧ r.2.mem ((c.tc : Thread Cert.GzIdeal.nD Cert.GzIdeal.τ).loc Cert.GzIdeal.main_arg3) = m ((c.tc : Thread Cert.GzIdeal.nD Cert.GzIdeal.τ).loc Cert.GzIdeal.main_arg3)
          ∧ r.2.mem ((c.tc : Thread Cert.GzIdeal.nD Cert.GzIdeal.τ).loc Cert.GzIdeal.main_arg4) = m ((c.tc : Thread Cert.GzIdeal.nD Cert.GzIdeal.τ).loc Cert.GzIdeal.main_arg4)
          ∧ r.2.mem ((c.tc : Thread Cert.GzIdeal.nD Cert.GzIdeal.τ).loc Cert.GzIdeal.main_arg5) = m ((c.tc : Thread Cert.GzIdeal.nD Cert.GzIdeal.τ).loc Cert.GzIdeal.main_arg5)
          ∧ r.2.mem ((c.tc : Thread Cert.GzIdeal.nD Cert.GzIdeal.τ).loc Cert.GzIdeal.main_arg6) = m ((c.tc : Thread Cert.GzIdeal.nD Cert.GzIdeal.τ).loc Cert.GzIdeal.main_arg6)
          ∧ r.2.mem ((c.tc : Thread Cert.GzIdeal.nD Cert.GzIdeal.τ).loc Cert.GzIdeal.main_arg7) = m ((c.tc : Thread Cert.GzIdeal.nD Cert.GzIdeal.τ).loc Cert.GzIdeal.main_arg7)
          ∧ r.2.mem ((c.tc : Thread Cert.GzIdeal.nD Cert.GzIdeal.τ).loc Cert.GzIdeal.main_arg8) = m ((c.tc : Thread Cert.GzIdeal.nD Cert.GzIdeal.τ).loc Cert.GzIdeal.main_arg8))
      ∧ θ_run (Cert.GzRefIdeal.defs (F := Ideal)) (onTc (τ := Cert.GzRefIdeal.τ) (Cert.GzRefIdeal.main (F := Ideal))) ⟨m', fun _ => 0, g'⟩ (fun r => ∀ c : Dev Cert.GzRefIdeal.nD,
          r.2.mem ((c.tc : Thread Cert.GzRefIdeal.nD Cert.GzRefIdeal.τ).loc Cert.GzRefIdeal.main_v174) = v0 c
          ∧ r.2.mem ((c.tc : Thread Cert.GzRefIdeal.nD Cert.GzRefIdeal.τ).loc Cert.GzRefIdeal.main_v175) = v1 c
          ∧ r.2.mem ((c.tc : Thread Cert.GzRefIdeal.nD Cert.GzRefIdeal.τ).loc Cert.GzRefIdeal.main_v176) = v2 c
          ∧ r.2.mem ((c.tc : Thread Cert.GzRefIdeal.nD Cert.GzRefIdeal.τ).loc Cert.GzRefIdeal.main_v89) = v3 c
          ∧ r.2.mem ((c.tc : Thread Cert.GzRefIdeal.nD Cert.GzRefIdeal.τ).loc Cert.GzRefIdeal.main_arg0) = m' ((c.tc : Thread Cert.GzRefIdeal.nD Cert.GzRefIdeal.τ).loc Cert.GzRefIdeal.main_arg0)
          ∧ r.2.mem ((c.tc : Thread Cert.GzRefIdeal.nD Cert.GzRefIdeal.τ).loc Cert.GzRefIdeal.main_arg1) = m' ((c.tc : Thread Cert.GzRefIdeal.nD Cert.GzRefIdeal.τ).loc Cert.GzRefIdeal.main_arg1)
          ∧ r.2.mem ((c.tc : Thread Cert.GzRefIdeal.nD Cert.GzRefIdeal.τ).loc Cert.GzRefIdeal.main_arg2) = m' ((c.tc : Thread Cert.GzRefIdeal.nD Cert.GzRefIdeal.τ).loc Cert.GzRefIdeal.main_arg2)
          ∧ r.2.mem ((c.tc : Thread Cert.GzRefIdeal.nD Cert.GzRefIdeal.τ).loc Cert.GzRefIdeal.main_arg3) = m' ((c.tc : Thread Cert.GzRefIdeal.nD Cert.GzRefIdeal.τ).loc Cert.GzRefIdeal.main_arg3)
          ∧ r.2.mem ((c.tc : Thread Cert.GzRefIdeal.nD Cert.GzRefIdeal.τ).loc Cert.GzRefIdeal.main_arg4) = m' ((c.tc : Thread Cert.GzRefIdeal.nD Cert.GzRefIdeal.τ).loc Cert.GzRefIdeal.main_arg4)
          ∧ r.2.mem ((c.tc : Thread Cert.GzRefIdeal.nD Cert.GzRefIdeal.τ).loc Cert.GzRefIdeal.main_arg5) = m' ((c.tc : Thread Cert.GzRefIdeal.nD Cert.GzRefIdeal.τ).loc Cert.GzRefIdeal.main_arg5)
          ∧ r.2.mem ((c.tc : Thread Cert.GzRefIdeal.nD Cert.GzRefIdeal.τ).loc Cert.GzRefIdeal.main_arg6) = m' ((c.tc : Thread Cert.GzRefIdeal.nD Cert.GzRefIdeal.τ).loc Cert.GzRefIdeal.main_arg6)
          ∧ r.2.mem ((c.tc : Thread Cert.GzRefIdeal.nD Cert.GzRefIdeal.τ).loc Cert.GzRefIdeal.main_arg7) = m' ((c.tc : Thread Cert.GzRefIdeal.nD Cert.GzRefIdeal.τ).loc Cert.GzRefIdeal.main_arg7)
          ∧ r.2.mem ((c.tc : Thread Cert.GzRefIdeal.nD Cert.GzRefIdeal.τ).loc Cert.GzRefIdeal.main_arg8) = m' ((c.tc : Thread Cert.GzRefIdeal.nD Cert.GzRefIdeal.τ).loc Cert.GzRefIdeal.main_arg8))

def Claim : Prop :=
  ∃ (hKernel : Cert.Kernel.Facts) (hKernelIdeal : Cert.KernelIdeal.Facts) (hReferenceIdeal : Cert.ReferenceIdeal.Facts) (hBff1 : Cert.Bff1.Facts) (hBff1Ideal : Cert.Bff1Ideal.Facts) (hBff1RefIdeal : Cert.Bff1RefIdeal.Facts) (hBff2 : Cert.Bff2.Facts) (hBff2Ideal : Cert.Bff2Ideal.Facts) (hBff2RefIdeal : Cert.Bff2RefIdeal.Facts) (hWff2 : Cert.Wff2.Facts) (hWff2Ideal : Cert.Wff2Ideal.Facts) (hWff2RefIdeal : Cert.Wff2RefIdeal.Facts) (hWff1 : Cert.Wff1.Facts) (hWff1Ideal : Cert.Wff1Ideal.Facts) (hWff1RefIdeal : Cert.Wff1RefIdeal.Facts) (hFf1 : Cert.Ff1.Facts) (hFf1Ideal : Cert.Ff1Ideal.Facts) (hFf1RefIdeal : Cert.Ff1RefIdeal.Facts) (hFf2 : Cert.Ff2.Facts) (hFf2Ideal : Cert.Ff2Ideal.Facts) (hFf2RefIdeal : Cert.Ff2RefIdeal.Facts) (hBin : Cert.Bin.Facts) (hBinIdeal : Cert.BinIdeal.Facts) (hBinRefIdeal : Cert.BinRefIdeal.Facts) (hWin : Cert.Win.Facts) (hWinIdeal : Cert.WinIdeal.Facts) (hWinRefIdeal : Cert.WinRefIdeal.Facts) (hBout : Cert.Bout.Facts) (hBoutIdeal : Cert.BoutIdeal.Facts) (hBoutRefIdeal : Cert.BoutRefIdeal.Facts) (hWout : Cert.Wout.Facts) (hWoutIdeal : Cert.WoutIdeal.Facts) (hWoutRefIdeal : Cert.WoutRefIdeal.Facts) (hWglu : Cert.Wglu.Facts) (hWgluIdeal : Cert.WgluIdeal.Facts) (hWgluRefIdeal : Cert.WgluRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hGlu : Cert.Glu.Facts) (hGluIdeal : Cert.GluIdeal.Facts) (hGluRefIdeal : Cert.GluRefIdeal.Facts) (hBglu : Cert.Bglu.Facts) (hBgluIdeal : Cert.BgluIdeal.Facts) (hBgluRefIdeal : Cert.BgluRefIdeal.Facts) (hAttn : Cert.Attn.Facts) (hAttnIdeal : Cert.AttnIdeal.Facts) (hAttnRefIdeal : Cert.AttnRefIdeal.Facts) (hLoss : Cert.Loss.Facts) (hLossIdeal : Cert.LossIdeal.Facts) (hLossRefIdeal : Cert.LossRefIdeal.Facts) (hAdam : Cert.Adam.Facts) (hAdamIdeal : Cert.AdamIdeal.Facts) (hAdamRefIdeal : Cert.AdamRefIdeal.Facts) (hQk : Cert.Qk.Facts) (hQkIdeal : Cert.QkIdeal.Facts) (hQkRefIdeal : Cert.QkRefIdeal.Facts) (hGz : Cert.Gz.Facts) (hGzIdeal : Cert.GzIdeal.Facts) (hGzRefIdeal : Cert.GzRefIdeal.Facts) (hPre_finite : Cert.Pre_finite.Facts) (hPre_finite_bglu : Cert.Pre_finite_bglu.Facts) (hPre_finite_attn : Cert.Pre_finite_attn.Facts) (hPre_finite_qk : Cert.Pre_finite_qk.Facts) (hPre_finite_gz : Cert.Pre_finite_gz.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Bff1 (hBff1 := hBff1)
    ∧ quiescent_Bff1Ideal (hBff1Ideal := hBff1Ideal)
    ∧ quiescent_Bff1RefIdeal (hBff1RefIdeal := hBff1RefIdeal)
    ∧ quiescent_Bff2 (hBff2 := hBff2)
    ∧ quiescent_Bff2Ideal (hBff2Ideal := hBff2Ideal)
    ∧ quiescent_Bff2RefIdeal (hBff2RefIdeal := hBff2RefIdeal)
    ∧ quiescent_Wff2 (hWff2 := hWff2)
    ∧ quiescent_Wff2Ideal (hWff2Ideal := hWff2Ideal)
    ∧ quiescent_Wff2RefIdeal (hWff2RefIdeal := hWff2RefIdeal)
    ∧ quiescent_Wff1 (hWff1 := hWff1)
    ∧ quiescent_Wff1Ideal (hWff1Ideal := hWff1Ideal)
    ∧ quiescent_Wff1RefIdeal (hWff1RefIdeal := hWff1RefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_Bin (hBin := hBin)
    ∧ quiescent_BinIdeal (hBinIdeal := hBinIdeal)
    ∧ quiescent_BinRefIdeal (hBinRefIdeal := hBinRefIdeal)
    ∧ quiescent_Win (hWin := hWin)
    ∧ quiescent_WinIdeal (hWinIdeal := hWinIdeal)
    ∧ quiescent_WinRefIdeal (hWinRefIdeal := hWinRefIdeal)
    ∧ quiescent_Bout (hBout := hBout)
    ∧ quiescent_BoutIdeal (hBoutIdeal := hBoutIdeal)
    ∧ quiescent_BoutRefIdeal (hBoutRefIdeal := hBoutRefIdeal)
    ∧ quiescent_Wout (hWout := hWout)
    ∧ quiescent_WoutIdeal (hWoutIdeal := hWoutIdeal)
    ∧ quiescent_WoutRefIdeal (hWoutRefIdeal := hWoutRefIdeal)
    ∧ quiescent_Wglu (hWglu := hWglu)
    ∧ quiescent_WgluIdeal (hWgluIdeal := hWgluIdeal)
    ∧ quiescent_WgluRefIdeal (hWgluRefIdeal := hWgluRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_Glu (hGlu := hGlu)
    ∧ quiescent_GluIdeal (hGluIdeal := hGluIdeal)
    ∧ quiescent_GluRefIdeal (hGluRefIdeal := hGluRefIdeal)
    ∧ quiescent_Bglu (hBglu := hBglu)
    ∧ quiescent_BgluIdeal (hBgluIdeal := hBgluIdeal)
    ∧ quiescent_BgluIdeal_pre_finite_bglu (hBgluIdeal := hBgluIdeal) (hPre_finite_bglu := hPre_finite_bglu)
    ∧ quiescent_BgluRefIdeal (hBgluRefIdeal := hBgluRefIdeal)
    ∧ quiescent_BgluRefIdeal_pre_finite_bglu (hBgluRefIdeal := hBgluRefIdeal) (hPre_finite_bglu := hPre_finite_bglu)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Loss (hLoss := hLoss)
    ∧ quiescent_LossIdeal (hLossIdeal := hLossIdeal)
    ∧ quiescent_LossRefIdeal (hLossRefIdeal := hLossRefIdeal)
    ∧ quiescent_Adam (hAdam := hAdam)
    ∧ quiescent_AdamIdeal (hAdamIdeal := hAdamIdeal)
    ∧ quiescent_AdamRefIdeal (hAdamRefIdeal := hAdamRefIdeal)
    ∧ quiescent_Qk (hQk := hQk)
    ∧ quiescent_QkIdeal (hQkIdeal := hQkIdeal)
    ∧ quiescent_QkIdeal_pre_finite_qk (hQkIdeal := hQkIdeal) (hPre_finite_qk := hPre_finite_qk)
    ∧ quiescent_QkRefIdeal (hQkRefIdeal := hQkRefIdeal)
    ∧ quiescent_QkRefIdeal_pre_finite_qk (hQkRefIdeal := hQkRefIdeal) (hPre_finite_qk := hPre_finite_qk)
    ∧ quiescent_Gz (hGz := hGz)
    ∧ quiescent_GzIdeal (hGzIdeal := hGzIdeal)
    ∧ quiescent_GzIdeal_pre_finite_gz (hGzIdeal := hGzIdeal) (hPre_finite_gz := hPre_finite_gz)
    ∧ quiescent_GzRefIdeal (hGzRefIdeal := hGzRefIdeal)
    ∧ quiescent_GzRefIdeal_pre_finite_gz (hGzRefIdeal := hGzRefIdeal) (hPre_finite_gz := hPre_finite_gz)
    ∧ preserves_Kernel_KernelIdeal
    ∧ algebraic_KernelIdeal_ReferenceIdeal_pre_finite (hKernelIdeal := hKernelIdeal) (hReferenceIdeal := hReferenceIdeal) (hPre_finite := hPre_finite)
    ∧ preserves_Bff1_Bff1Ideal
    ∧ algebraic_Bff1Ideal_Bff1RefIdeal (hBff1Ideal := hBff1Ideal) (hBff1RefIdeal := hBff1RefIdeal)
    ∧ preserves_Bff2_Bff2Ideal
    ∧ algebraic_Bff2Ideal_Bff2RefIdeal (hBff2Ideal := hBff2Ideal) (hBff2RefIdeal := hBff2RefIdeal)
    ∧ preserves_Wff2_Wff2Ideal
    ∧ algebraic_Wff2Ideal_Wff2RefIdeal (hWff2Ideal := hWff2Ideal) (hWff2RefIdeal := hWff2RefIdeal)
    ∧ preserves_Wff1_Wff1Ideal
    ∧ algebraic_Wff1Ideal_Wff1RefIdeal (hWff1Ideal := hWff1Ideal) (hWff1RefIdeal := hWff1RefIdeal)
    ∧ preserves_Ff1_Ff1Ideal
    ∧ algebraic_Ff1Ideal_Ff1RefIdeal (hFf1Ideal := hFf1Ideal) (hFf1RefIdeal := hFf1RefIdeal)
    ∧ preserves_Ff2_Ff2Ideal
    ∧ algebraic_Ff2Ideal_Ff2RefIdeal (hFf2Ideal := hFf2Ideal) (hFf2RefIdeal := hFf2RefIdeal)
    ∧ preserves_Bin_BinIdeal
    ∧ algebraic_BinIdeal_BinRefIdeal (hBinIdeal := hBinIdeal) (hBinRefIdeal := hBinRefIdeal)
    ∧ preserves_Win_WinIdeal
    ∧ algebraic_WinIdeal_WinRefIdeal (hWinIdeal := hWinIdeal) (hWinRefIdeal := hWinRefIdeal)
    ∧ preserves_Bout_BoutIdeal
    ∧ algebraic_BoutIdeal_BoutRefIdeal (hBoutIdeal := hBoutIdeal) (hBoutRefIdeal := hBoutRefIdeal)
    ∧ preserves_Wout_WoutIdeal
    ∧ algebraic_WoutIdeal_WoutRefIdeal (hWoutIdeal := hWoutIdeal) (hWoutRefIdeal := hWoutRefIdeal)
    ∧ preserves_Wglu_WgluIdeal
    ∧ algebraic_WgluIdeal_WgluRefIdeal (hWgluIdeal := hWgluIdeal) (hWgluRefIdeal := hWgluRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_Glu_GluIdeal
    ∧ algebraic_GluIdeal_GluRefIdeal (hGluIdeal := hGluIdeal) (hGluRefIdeal := hGluRefIdeal)
    ∧ preserves_Bglu_BgluIdeal
    ∧ algebraic_BgluIdeal_BgluRefIdeal_pre_finite_bglu (hBgluIdeal := hBgluIdeal) (hBgluRefIdeal := hBgluRefIdeal) (hPre_finite_bglu := hPre_finite_bglu)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Loss_LossIdeal
    ∧ algebraic_LossIdeal_LossRefIdeal (hLossIdeal := hLossIdeal) (hLossRefIdeal := hLossRefIdeal)
    ∧ preserves_Adam_AdamIdeal
    ∧ algebraic_AdamIdeal_AdamRefIdeal (hAdamIdeal := hAdamIdeal) (hAdamRefIdeal := hAdamRefIdeal)
    ∧ preserves_Qk_QkIdeal
    ∧ algebraic_QkIdeal_QkRefIdeal_pre_finite_qk (hQkIdeal := hQkIdeal) (hQkRefIdeal := hQkRefIdeal) (hPre_finite_qk := hPre_finite_qk)
    ∧ preserves_Gz_GzIdeal
    ∧ algebraic_GzIdeal_GzRefIdeal_pre_finite_gz (hGzIdeal := hGzIdeal) (hGzRefIdeal := hGzRefIdeal) (hPre_finite_gz := hPre_finite_gz)
-- ==== Pre_finite.lean ====
abbrev S8192x512 : Shape := ⟨2, ![8192, 512]⟩
abbrev S8192x256 : Shape := ⟨2, ![8192, 256]⟩
abbrev S8192x1024 : Shape := ⟨2, ![8192, 1024]⟩
abbrev S8 : Shape := ⟨1, ![8]⟩
abbrev S1x8 : Shape := ⟨2, ![1, 8]⟩
abbrev S8192x8 : Shape := ⟨2, ![8192, 8]⟩
abbrev S8192x1800 : Shape := ⟨2, ![8192, 1800]⟩
abbrev S_ : Shape := ⟨0, ![]⟩

class Facts : Prop where
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bitsLt_bf16_f32 : FTy.bits .bf16 < FTy.bits .f32
  concatenates_S8192x512_S8192x256_S8192x1024_S8192x8_S8192x1800_d1 : Shape.Concatenates [S8192x512, S8192x256, S8192x1024, S8192x8] S8192x1800 1
  bcast_S_S8192x1800 : S_.BroadcastsInDim S8192x1800 (![] : Fin 0 → Fin S8192x1800.rank)

variable [Facts]

def fn {F : FTy → Type} [FloatOps F] (main_arg0 : FVec F S8192x512 .bf16) (main_arg1 : FVec F S8192x256 .bf16) (main_arg2 : FVec F S8192x1024 .f32) (main_arg3 : FVec F S8 .f32) : IVec S8192x1800 1 :=
  let main_v0 : FVec F S1x8 .f32 := broadcastInDim S1x8 ![1] bcast_S8_S1x8_1 main_arg3
  let main_v1 : FVec F S8192x8 .f32 := broadcastInDim S8192x8 ![0, 1] bcast_S1x8_S8192x8_0_1 main_v0
  let main_v2 : FVec F S8192x512 .f32 := (extf .f32 · bitsLt_bf16_f32) main_arg0
  let main_v3 : FVec F S8192x256 .f32 := (extf .f32 · bitsLt_bf16_f32) main_arg1
  let main_v4 : FVec F S8192x1800 .f32 := concatenate S8192x1800 1 [⟨S8192x512, main_v2⟩, ⟨S8192x256, main_v3⟩, ⟨S8192x1024, main_arg2⟩, ⟨S8192x8, main_v1⟩] concatenates_S8192x512_S8192x256_S8192x1024_S8192x8_S8192x1800_d1
  let main_v5 : FVec F S8192x1800 .f32 := Host.absf main_v4
  let main_cst : FVec F S_ .f32 := constant S_ .f32 0x7F800000#32
  let main_v6 : FVec F S8192x1800 .f32 := broadcastInDim S8192x1800 ![] bcast_S_S8192x1800 main_cst
  let main_v7 : IVec S8192x1800 1 := cmpf .olt main_v5 main_v6
  main_v7
-- ==== Pre_finite_attn.lean ====
abbrev S8192x512 : Shape := ⟨2, ![8192, 512]⟩
abbrev S8192x256 : Shape := ⟨2, ![8192, 256]⟩
abbrev S8 : Shape := ⟨1, ![8]⟩
abbrev S1x8 : Shape := ⟨2, ![1, 8]⟩
abbrev S8192x8 : Shape := ⟨2, ![8192, 8]⟩
abbrev S8192x776 : Shape := ⟨2, ![8192, 776]⟩
abbrev S_ : Shape := ⟨0, ![]⟩

class Facts : Prop where
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bitsLt_bf16_f32 : FTy.bits .bf16 < FTy.bits .f32
  concatenates_S8192x512_S8192x256_S8192x8_S8192x776_d1 : Shape.Concatenates [S8192x512, S8192x256, S8192x8] S8192x776 1
  bcast_S_S8192x776 : S_.BroadcastsInDim S8192x776 (![] : Fin 0 → Fin S8192x776.rank)

variable [Facts]

def fn {F : FTy → Type} [FloatOps F] (main_arg0 : FVec F S8192x512 .bf16) (main_arg1 : FVec F S8192x256 .bf16) (main_arg2 : FVec F S8 .f32) : IVec S8192x776 1 :=
  let main_v0 : FVec F S1x8 .f32 := broadcastInDim S1x8 ![1] bcast_S8_S1x8_1 main_arg2
  let main_v1 : FVec F S8192x8 .f32 := broadcastInDim S8192x8 ![0, 1] bcast_S1x8_S8192x8_0_1 main_v0
  let main_v2 : FVec F S8192x512 .f32 := (extf .f32 · bitsLt_bf16_f32) main_arg0
  let main_v3 : FVec F S8192x256 .f32 := (extf .f32 · bitsLt_bf16_f32) main_arg1
  let main_v4 : FVec F S8192x776 .f32 := concatenate S8192x776 1 [⟨S8192x512, main_v2⟩, ⟨S8192x256, main_v3⟩, ⟨S8192x8, main_v1⟩] concatenates_S8192x512_S8192x256_S8192x8_S8192x776_d1
  let main_v5 : FVec F S8192x776 .f32 := Host.absf main_v4
  let main_cst : FVec F S_ .f32 := constant S_ .f32 0x7F800000#32
  let main_v6 : FVec F S8192x776 .f32 := broadcastInDim S8192x776 ![] bcast_S_S8192x776 main_cst
  let main_v7 : IVec S8192x776 1 := cmpf .olt main_v5 main_v6
  main_v7
-- ==== Pre_finite_bglu.lean ====
abbrev S8192x1024 : Shape := ⟨2, ![8192, 1024]⟩
abbrev S8192x512 : Shape := ⟨2, ![8192, 512]⟩
abbrev S512x1024 : Shape := ⟨2, ![512, 1024]⟩
abbrev S8704x1024 : Shape := ⟨2, ![8704, 1024]⟩
abbrev S_ : Shape := ⟨0, ![]⟩

class Facts : Prop where
  slices_S8192x1024_S8192x512_0_512 : S8192x1024.Slices ![0, 512] S8192x512
  concatenates_S8192x512_S8192x512_S8192x1024_d1 : Shape.Concatenates [S8192x512, S8192x512] S8192x1024 1
  concatenates_S8192x1024_S512x1024_S8704x1024_d0 : Shape.Concatenates [S8192x1024, S512x1024] S8704x1024 0
  bcast_S_S8704x1024 : S_.BroadcastsInDim S8704x1024 (![] : Fin 0 → Fin S8704x1024.rank)

variable [Facts]

def fn {F : FTy → Type} [FloatOps F] (main_arg0 : FVec F S8192x1024 .f32) (main_arg1 : FVec F S8192x512 .f32) (main_arg2 : FVec F S512x1024 .f32) : IVec S8704x1024 1 :=
  let main_v0 : FVec F S8192x512 .f32 := (extractStridedSlice S8192x512 ![0, 512] · slices_S8192x1024_S8192x512_0_512) main_arg0
  let main_v1 : FVec F S8192x1024 .f32 := (fun a b => concatenate S8192x1024 1 [⟨S8192x512, a⟩, ⟨S8192x512, b⟩] concatenates_S8192x512_S8192x512_S8192x1024_d1) main_v0 main_arg1
  let main_v2 : FVec F S8704x1024 .f32 := (fun a b => concatenate S8704x1024 0 [⟨S8192x1024, a⟩, ⟨S512x1024, b⟩] concatenates_S8192x1024_S512x1024_S8704x1024_d0) main_v1 main_arg2
  let main_v3 : FVec F S8704x1024 .f32 := Host.absf main_v2
  let main_cst : FVec F S_ .f32 := constant S_ .f32 0x7F800000#32
  let main_v4 : FVec F S8704x1024 .f32 := broadcastInDim S8704x1024 ![] bcast_S_S8704x1024 main_cst
  let main_v5 : IVec S8704x1024 1 := cmpf .olt main_v3 main_v4
  main_v5
-- ==== Pre_finite_gz.lean ====
abbrev S8192x512 : Shape := ⟨2, ![8192, 512]⟩
abbrev S3x8192x256 : Shape := ⟨3, ![3, 8192, 256]⟩
abbrev S8192x1280 : Shape := ⟨2, ![8192, 1280]⟩
abbrev S64 : Shape := ⟨1, ![64]⟩
abbrev S512 : Shape := ⟨1, ![512]⟩
abbrev S128 : Shape := ⟨1, ![128]⟩
abbrev S1x128 : Shape := ⟨2, ![1, 128]⟩
abbrev S8192x128 : Shape := ⟨2, ![8192, 128]⟩
abbrev S1x8192x128 : Shape := ⟨3, ![1, 8192, 128]⟩
abbrev S8192x640 : Shape := ⟨2, ![8192, 640]⟩
abbrev S8192x1664 : Shape := ⟨2, ![8192, 1664]⟩
abbrev S_ : Shape := ⟨0, ![]⟩

class Facts : Prop where
  concatenates_S64_S64_S128_d0 : Shape.Concatenates [S64, S64] S128 0
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  slices_S3x8192x256_S1x8192x128_0_0_0 : S3x8192x256.Slices ![0, 0, 0] S1x8192x128
  shapeCasts_S1x8192x128_S8192x128 : S1x8192x128.ShapeCasts S8192x128
  slices_S3x8192x256_S1x8192x128_1_0_0 : S3x8192x256.Slices ![1, 0, 0] S1x8192x128
  slices_S3x8192x256_S1x8192x128_2_0_0 : S3x8192x256.Slices ![2, 0, 0] S1x8192x128
  slices_S8192x1280_S8192x640_0_0 : S8192x1280.Slices ![0, 0] S8192x640
  concatenates_S8192x512_S8192x128_S8192x128_S8192x128_S8192x640_S8192x128_S8192x1664_d1 : Shape.Concatenates [S8192x512, S8192x128, S8192x128, S8192x128, S8192x640, S8192x128] S8192x1664 1
  bcast_S_S8192x1664 : S_.BroadcastsInDim S8192x1664 (![] : Fin 0 → Fin S8192x1664.rank)

variable [Facts]

def fn {F : FTy → Type} [FloatOps F] (main_arg0 : FVec F S8192x512 .f32) (main_arg1 : FVec F S3x8192x256 .f32) (main_arg2 : FVec F S8192x1280 .f32) (main_arg3 : FVec F S64 .f32) (main_arg4 : FVec F S64 .f32) (main_arg5 : FVec F S8192x512 .f32) (main_arg6 : FVec F S8192x512 .f32) (main_arg7 : FVec F S8192x512 .f32) (main_arg8 : FVec F S512 .f32) : IVec S8192x1664 1 :=
  let main_v0 : FVec F S128 .f32 := (fun a b => concatenate S128 0 [⟨S64, a⟩, ⟨S64, b⟩] concatenates_S64_S64_S128_d0) main_arg3 main_arg4
  let main_v1 : FVec F S1x128 .f32 := broadcastInDim S1x128 ![1] bcast_S128_S1x128_1 main_v0
  let main_v2 : FVec F S8192x128 .f32 := broadcastInDim S8192x128 ![0, 1] bcast_S1x128_S8192x128_0_1 main_v1
  let main_v3 : FVec F S1x8192x128 .f32 := (extractStridedSlice S1x8192x128 ![0, 0, 0] · slices_S3x8192x256_S1x8192x128_0_0_0) main_arg1
  let main_v4 : FVec F S8192x128 .f32 := shapeCast S8192x128 main_v3 shapeCasts_S1x8192x128_S8192x128
  let main_v5 : FVec F S1x8192x128 .f32 := (extractStridedSlice S1x8192x128 ![1, 0, 0] · slices_S3x8192x256_S1x8192x128_1_0_0) main_arg1
  let main_v6 : FVec F S8192x128 .f32 := shapeCast S8192x128 main_v5 shapeCasts_S1x8192x128_S8192x128
  let main_v7 : FVec F S1x8192x128 .f32 := (extractStridedSlice S1x8192x128 ![2, 0, 0] · slices_S3x8192x256_S1x8192x128_2_0_0) main_arg1
  let main_v8 : FVec F S8192x128 .f32 := shapeCast S8192x128 main_v7 shapeCasts_S1x8192x128_S8192x128
  let main_v9 : FVec F S8192x640 .f32 := (extractStridedSlice S8192x640 ![0, 0] · slices_S8192x1280_S8192x640_0_0) main_arg2
  let main_v10 : FVec F S8192x1664 .f32 := concatenate S8192x1664 1 [⟨S8192x512, main_arg0⟩, ⟨S8192x128, main_v4⟩, ⟨S8192x128, main_v6⟩, ⟨S8192x128, main_v8⟩, ⟨S8192x640, main_v9⟩, ⟨S8192x128, main_v2⟩] concatenates_S8192x512_S8192x128_S8192x128_S8192x128_S8192x640_S8192x128_S8192x1664_d1
  let main_v11 : FVec F S8192x1664 .f32 := Host.absf main_v10
  let main_cst : FVec F S_ .f32 := constant S_ .f32 0x7F800000#32
  let main_v12 : FVec F S8192x1664 .f32 := broadcastInDim S8192x1664 ![] bcast_S_S8192x1664 main_cst
  let main_v13 : IVec S8192x1664 1 := cmpf .olt main_v11 main_v12
  main_v13
-- ==== Pre_finite_qk.lean ====
abbrev S8192x1280 : Shape := ⟨2, ![8192, 1280]⟩
abbrev S64 : Shape := ⟨1, ![64]⟩
abbrev S8192x640 : Shape := ⟨2, ![8192, 640]⟩
abbrev S_ : Shape := ⟨0, ![]⟩

class Facts : Prop where
  slices_S8192x1280_S8192x640_0_0 : S8192x1280.Slices ![0, 0] S8192x640
  bcast_S_S8192x640 : S_.BroadcastsInDim S8192x640 (![] : Fin 0 → Fin S8192x640.rank)

variable [Facts]

def fn {F : FTy → Type} [FloatOps F] (main_arg0 : FVec F S8192x1280 .f32) (main_arg1 : FVec F S64 .f32) (main_arg2 : FVec F S64 .f32) : IVec S8192x640 1 :=
  let main_v0 : FVec F S8192x640 .f32 := (extractStridedSlice S8192x640 ![0, 0] · slices_S8192x1280_S8192x640_0_0) main_arg0
  let main_v1 : FVec F S8192x640 .f32 := Host.absf main_v0
  let main_cst : FVec F S_ .f32 := constant S_ .f32 0x7F800000#32
  let main_v2 : FVec F S8192x640 .f32 := broadcastInDim S8192x640 ![] bcast_S_S8192x640 main_cst
  let main_v3 : IVec S8192x640 1 := cmpf .olt main_v1 main_v2
  main_v3
-- ==== Kernel.lean ====
abbrev S8192x512 : Shape := ⟨2, ![8192, 512]⟩
abbrev S8192x256 : Shape := ⟨2, ![8192, 256]⟩
abbrev S8192x1024 : Shape := ⟨2, ![8192, 1024]⟩
abbrev S8 : Shape := ⟨1, ![8]⟩
abbrev S3x8192x256 : Shape := ⟨3, ![3, 8192, 256]⟩
abbrev S8x128 : Shape := ⟨2, ![8, 128]⟩
abbrev S128x512 : Shape := ⟨2, ![128, 512]⟩
abbrev S128x256 : Shape := ⟨2, ![128, 256]⟩
abbrev S3x128x256 : Shape := ⟨3, ![3, 128, 256]⟩
abbrev S512x384 : Shape := ⟨2, ![512, 384]⟩
abbrev S384x256 : Shape := ⟨2, ![384, 256]⟩
abbrev S384x64 : Shape := ⟨2, ![384, 64]⟩
abbrev S128x64 : Shape := ⟨2, ![128, 64]⟩
abbrev S512x64 : Shape := ⟨2, ![512, 64]⟩
abbrev S512x1 : Shape := ⟨2, ![512, 1]⟩
abbrev S1 : Shape := ⟨1, ![1]⟩
abbrev S512 : Shape := ⟨1, ![512]⟩
abbrev S1x128 : Shape := ⟨2, ![1, 128]⟩
abbrev S128x1 : Shape := ⟨2, ![128, 1]⟩
abbrev S1x1 : Shape := ⟨2, ![1, 1]⟩
abbrev S1x128x64 : Shape := ⟨3, ![1, 128, 64]⟩

abbrev nBuf : Space → Nat
  | .hbm => 7
  | .vmem => 15
  | .smem => 1
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x1024, .f32⟩
  | .hbm, ⟨3, _⟩ => ⟨S8, .f32⟩
  | .hbm, ⟨4, _⟩ => ⟨S8192x512, .f32⟩
  | .hbm, ⟨5, _⟩ => ⟨S3x8192x256, .f32⟩
  | .hbm, ⟨6, _⟩ => ⟨S8x128, .f32⟩
  | .local _ .vmem, ⟨0, _⟩ => ⟨S128x512, .bf16⟩
  | .local _ .vmem, ⟨1, _⟩ => ⟨S128x512, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S3x128x256, .f32⟩
  | .local _ .vmem, ⟨13, _⟩ => ⟨S3x128x256, .f32⟩
  | .local _ .vmem, ⟨14, _⟩ => ⟨S8x128, .f32⟩
  | .local _ .smem, ⟨0, _⟩ => ⟨S8, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S8192x512 : Shape := ⟨2, ![8192, 512]⟩
abbrev S8192x256 : Shape := ⟨2, ![8192, 256]⟩
abbrev S8192x1024 : Shape := ⟨2, ![8192, 1024]⟩
abbrev S8 : Shape := ⟨1, ![8]⟩
abbrev S1x8192x8x64 : Shape := ⟨4, ![1, 8192, 8, 64]⟩
abbrev S8192x128 : Shape := ⟨2, ![8192, 128]⟩
abbrev S1x8192x2x64 : Shape := ⟨4, ![1, 8192, 2, 64]⟩
abbrev S_ : Shape := ⟨0, ![]⟩
abbrev S1x8448x2x64 : Shape := ⟨4, ![1, 8448, 2, 64]⟩
abbrev S1x66x128x2x64 : Shape := ⟨5, ![1, 66, 128, 2, 64]⟩
abbrev S1x64x128x2x64 : Shape := ⟨5, ![1, 64, 128, 2, 64]⟩
abbrev S1x64x384x2x64 : Shape := ⟨5, ![1, 64, 384, 2, 64]⟩
abbrev S1x64x128x2x4x64 : Shape := ⟨6, ![1, 64, 128, 2, 4, 64]⟩
abbrev S1x64x2x384x128x4 : Shape := ⟨6, ![1, 64, 2, 384, 128, 4]⟩
abbrev S1x64x2x4x128x384 : Shape := ⟨6, ![1, 64, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S2x4 : Shape := ⟨2, ![2, 4]⟩
abbrev S2x4x1x1 : Shape := ⟨4, ![2, 4, 1, 1]⟩
abbrev S1x1x128x384 : Shape := ⟨4, ![1, 1, 128, 384]⟩
abbrev S2x4x128x384 : Shape := ⟨4, ![2, 4, 128, 384]⟩
abbrev S1x64x1x1x128x384 : Shape := ⟨6, ![1, 64, 1, 1, 128, 384]⟩
abbrev S1x1x2x4x128x384 : Shape := ⟨6, ![1, 1, 2, 4, 128, 384]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S1x8192x512 : Shape := ⟨3, ![1, 8192, 512]⟩
abbrev S1x64x2x64x384 : Shape := ⟨5, ![1, 64, 2, 64, 384]⟩
abbrev S1x2x4x1 : Shape := ⟨4, ![1, 2, 4, 1]⟩
abbrev S64x2x4x128 : Shape := ⟨4, ![64, 2, 4, 128]⟩
abbrev S1x64x2x128x4x64 : Shape := ⟨6, ![1, 64, 2, 128, 4, 64]⟩
abbrev S1x64x2x384x64 : Shape := ⟨5, ![1, 64, 2, 384, 64]⟩
abbrev S64x3x128x128 : Shape := ⟨4, ![64, 3, 128, 128]⟩
abbrev S3x64x128x128 : Shape := ⟨4, ![3, 64, 128, 128]⟩
abbrev S3x8192x128 : Shape := ⟨3, ![3, 8192, 128]⟩
abbrev S3x8192x256 : Shape := ⟨3, ![3, 8192, 256]⟩
abbrev S8x1 : Shape := ⟨2, ![8, 1]⟩
abbrev S8x128 : Shape := ⟨2, ![8, 128]⟩

abbrev nBuf : Space → Nat
  | .hbm => 209
  | .vmem => 0
  | .smem => 0
  | _ => 0

abbrev hbmTy0_0 (i : Nat) : BufTy := match i % 128 with
  | 0 => ⟨S8192x512, .bf16⟩
  | 1 => ⟨S8192x256, .bf16⟩
  | 2 => ⟨S8192x1024, .f32⟩
  | 3 => ⟨S8, .f32⟩
  | 4 => ⟨S8, .f32⟩
  | 5 => ⟨S8192x512, .f32⟩
  | 6 => ⟨S1x8192x8x64, .f32⟩
  | 7 => ⟨S8192x256, .f32⟩
  | 8 => ⟨S8192x128, .f32⟩
  | 9 => ⟨S1x8192x2x64, .f32⟩
  | 10 => ⟨S8192x128, .f32⟩
  | 11 => ⟨S1x8192x2x64, .f32⟩
  | 12 => ⟨S_, .i32⟩
  | 13 => ⟨S_, .f32⟩
  | 14 => ⟨S1x8448x2x64, .f32⟩
  | 15 => ⟨S1x66x128x2x64, .f32⟩
  | 16 => ⟨S1x64x128x2x64, .f32⟩
  | 17 => ⟨S1x64x128x2x64, .f32⟩
  | 18 => ⟨S1x64x128x2x64, .f32⟩
  | 19 => ⟨S1x64x384x2x64, .f32⟩
  | 20 => ⟨S_, .i32⟩
  | 21 => ⟨S_, .f32⟩
  | 22 => ⟨S1x8448x2x64, .f32⟩
  | 23 => ⟨S1x66x128x2x64, .f32⟩
  | 24 => ⟨S1x64x128x2x64, .f32⟩
  | 25 => ⟨S1x64x128x2x64, .f32⟩
  | 26 => ⟨S1x64x128x2x64, .f32⟩
  | 27 => ⟨S1x64x384x2x64, .f32⟩
  | 28 => ⟨S1x64x128x2x4x64, .f32⟩
  | 29 => ⟨S1x64x2x384x128x4, .f32⟩
  | 30 => ⟨S1x64x2x4x128x384, .f32⟩
  | 31 => ⟨S128, .i32⟩
  | 32 => ⟨S128x1, .i32⟩
  | 33 => ⟨S384, .i32⟩
  | 34 => ⟨S1x384, .i32⟩
  | 35 => ⟨S128x384, .i32⟩
  | 36 => ⟨S128x384, .i32⟩
  | 37 => ⟨S128x384, .i32⟩
  | 38 => ⟨S_, .i32⟩
  | 39 => ⟨S128x384, .i32⟩
  | 40 => ⟨S128x384, .i32⟩
  | 41 => ⟨S128x384, .i32⟩
  | 42 => ⟨S64, .i32⟩
  | 43 => ⟨S64x1, .i32⟩
  | 44 => ⟨S_, .i32⟩
  | 45 => ⟨S64x1, .i32⟩
  | 46 => ⟨S64x1, .i32⟩
  | 47 => ⟨S_, .i32⟩
  | 48 => ⟨S64x1, .i32⟩
  | 49 => ⟨S64x1, .i32⟩
  | 50 => ⟨S384, .i32⟩
  | 51 => ⟨S1x384, .i32⟩
  | 52 => ⟨S64x384, .i32⟩
  | 53 => ⟨S64x384, .i32⟩
  | 54 => ⟨S64x384, .i32⟩
  | 55 => ⟨S_, .i32⟩
  | 56 => ⟨S128x384, .i32⟩
  | 57 => ⟨S128x384, .i1⟩
  | 58 => ⟨S1x128x384, .i1⟩
  | 59 => ⟨S_, .i32⟩
  | 60 => ⟨S64x384, .i32⟩
  | 61 => ⟨S64x384, .i1⟩
  | 62 => ⟨S_, .i32⟩
  | 63 => ⟨S64x384, .i32⟩
  | 64 => ⟨S64x384, .i1⟩
  | 65 => ⟨S64x384, .i1⟩
  | 66 => ⟨S64x1x384, .i1⟩
  | 67 => ⟨S64x128x384, .i1⟩
  | 68 => ⟨S64x128x384, .i1⟩
  | 69 => ⟨S64x128x384, .i1⟩
  | 70 => ⟨S2x4, .f32⟩
  | 71 => ⟨S2x4x1x1, .f32⟩
  | 72 => ⟨S2x4x1x1, .f32⟩
  | 73 => ⟨S128x384, .f32⟩
  | 74 => ⟨S1x1x128x384, .f32⟩
  | 75 => ⟨S2x4x128x384, .f32⟩
  | 76 => ⟨S2x4x128x384, .f32⟩
  | 77 => ⟨S2x4x128x384, .f32⟩
  | 78 => ⟨S1x64x1x1x128x384, .i1⟩
  | 79 => ⟨S1x1x2x4x128x384, .f32⟩
  | 80 => ⟨S1x64x2x4x128x384, .f32⟩
  | 81 => ⟨S1x64x2x4x128x384, .f32⟩
  | 82 => ⟨S_, .f32⟩
  | 83 => ⟨S_, .f32⟩
  | 84 => ⟨S1x64x2x4x128x384, .i1⟩
  | 85 => ⟨S1x64x2x4x128x384, .f32⟩
  | 86 => ⟨S1x64x2x4x128x384, .f32⟩
  | 87 => ⟨S_, .f32⟩
  | 88 => ⟨S1x64x2x4x128x384, .f32⟩
  | 89 => ⟨S1x1x2x4x1x1, .f32⟩
  | 90 => ⟨S_, .f32⟩
  | 91 => ⟨S1x64x2x4x128, .f32⟩
  | 92 => ⟨S1x64x2x4x128x1, .f32⟩
  | 93 => ⟨S1x64x2x4x128x384, .f32⟩
  | 94 => ⟨S1x64x2x4x128x384, .i1⟩
  | 95 => ⟨S1x64x2x4x128x384, .f32⟩
  | 96 => ⟨S_, .f32⟩
  | 97 => ⟨S1x64x2x4x128, .f32⟩
  | 98 => ⟨S1x64x2x4x128x1, .f32⟩
  | 99 => ⟨S1x64x2x4x128x1, .f32⟩
  | 100 => ⟨S1x64x2x4x128x1, .f32⟩
  | 101 => ⟨S1x64x2x4x128x1, .f32⟩
  | 102 => ⟨S1x64x2x4x128x1, .i1⟩
  | 103 => ⟨S1x64x2x4x128x1, .f32⟩
  | 104 => ⟨S1x64x2x4x128x1, .i1⟩
  | 105 => ⟨S_, .f32⟩
  | 106 => ⟨S1x64x2x4x128x1, .f32⟩
  | 107 => ⟨S_, .f32⟩
  | 108 => ⟨S1x64x2x4x128x1, .f32⟩
  | 109 => ⟨S_, .f32⟩
  | 110 => ⟨S1x64x2x4x128x1, .f32⟩
  | 111 => ⟨S1x64x2x4x128x1, .f32⟩
  | 112 => ⟨S1x64x2x4x128x1, .f32⟩
  | 113 => ⟨S1x64x2x4x128x1, .f32⟩
  | 114 => ⟨S1x64x2x4x128x1, .i1⟩
  | 115 => ⟨S1x64x2x4x128x1, .f32⟩
  | 116 => ⟨S1x64x2x4x128x1, .i1⟩
  | 117 => ⟨S_, .f32⟩
  | 118 => ⟨S1x64x2x4x128x1, .f32⟩
  | 119 => ⟨S_, .f32⟩
  | 120 => ⟨S1x64x2x4x128x1, .f32⟩
  | 121 => ⟨S_, .f32⟩
  | 122 => ⟨S1x64x2x4x128x1, .f32⟩
  | 123 => ⟨S1x64x2x4x128x1, .f32⟩
  | 124 => ⟨S1x64x2x4x128x1, .f32⟩
  | 125 => ⟨S1x64x2x4x128x384, .f32⟩
  | 126 => ⟨S1x64x2x4x128x384, .f32⟩
  | 127 => ⟨S1x64x2x4x128x384, .f32⟩
  | _ => ⟨S8192x512, .bf16⟩

abbrev hbmTy0_1 (i : Nat) : BufTy := match i % 128 with
  | 0 => ⟨S_, .f32⟩
  | 1 => ⟨S1x64x2x4x128, .f32⟩
  | 2 => ⟨S1x64x2x4x128x1, .f32⟩
  | 3 => ⟨S1x64x2x4x128x1, .f32⟩
  | 4 => ⟨S1x64x2x4x128x1, .f32⟩
  | 5 => ⟨S1x64x2x4x128x1, .f32⟩
  | 6 => ⟨S1x64x2x4x128x1, .f32⟩
  | 7 => ⟨S1x64x2x4x128x384, .f32⟩
  | 8 => ⟨S1x64x2x4x128x384, .f32⟩
  | 9 => ⟨S1x64x2x4x128x1, .f32⟩
  | 10 => ⟨S_, .f32⟩
  | 11 => ⟨S1x64x2x4x128x1, .f32⟩
  | 12 => ⟨S1x64x2x4x128x1, .f32⟩
  | 13 => ⟨S1x64x2x64x4x128, .f32⟩
  | 14 => ⟨S1x64x128x2x4x64, .f32⟩
  | 15 => ⟨S1x8192x512, .f32⟩
  | 16 => ⟨S8192x512, .f32⟩
  | 17 => ⟨S1x8192x512, .f32⟩
  | 18 => ⟨S1x64x128x2x4x64, .f32⟩
  | 19 => ⟨S1x64x2x64x4x128, .f32⟩
  | 20 => ⟨S1x64x2x4x128x384, .f32⟩
  | 21 => ⟨S1x64x2x64x384, .f32⟩
  | 22 => ⟨S1x64x384x2x64, .f32⟩
  | 23 => ⟨S1x64x2x4x128x384, .f32⟩
  | 24 => ⟨S1x64x2x4x128x384, .f32⟩
  | 25 => ⟨S1x64x2x4x128x384, .f32⟩
  | 26 => ⟨S_, .f32⟩
  | 27 => ⟨S1x64x2x4x128, .f32⟩
  | 28 => ⟨S1x64x2x4x128x1, .f32⟩
  | 29 => ⟨S1x64x2x4x128x1, .f32⟩
  | 30 => ⟨S1x64x2x4x128x384, .f32⟩
  | 31 => ⟨S1x64x2x4x128x384, .f32⟩
  | 32 => ⟨S1x64x2x4x128x1, .f32⟩
  | 33 => ⟨S_, .f32⟩
  | 34 => ⟨S1x2x4x1, .f32⟩
  | 35 => ⟨S1x1x2x4x1x1, .f32⟩
  | 36 => ⟨S1x64x2x4x128x1, .f32⟩
  | 37 => ⟨S_, .f32⟩
  | 38 => ⟨S64x2x4x128, .f32⟩
  | 39 => ⟨S1x64x2x4x128, .f32⟩
  | 40 => ⟨S1x64x2x4x128x384, .f32⟩
  | 41 => ⟨S1x64x2x4x128x384, .f32⟩
  | 42 => ⟨S1x64x2x4x128x384, .f32⟩
  | 43 => ⟨S1x64x2x4x128x384, .f32⟩
  | 44 => ⟨S_, .f32⟩
  | 45 => ⟨S1x64x2x4x128, .f32⟩
  | 46 => ⟨S1x64x2x4x128x1, .f32⟩
  | 47 => ⟨S1x64x2x4x128x1, .f32⟩
  | 48 => ⟨S1x64x2x4x128x1, .f32⟩
  | 49 => ⟨S_, .f32⟩
  | 50 => ⟨S1x2x4x1, .f32⟩
  | 51 => ⟨S1x1x2x4x1x1, .f32⟩
  | 52 => ⟨S1x1x2x4x1x1, .f32⟩
  | 53 => ⟨S1x64x2x4x128x1, .f32⟩
  | 54 => ⟨S_, .f32⟩
  | 55 => ⟨S64x2x4x128, .f32⟩
  | 56 => ⟨S1x64x2x4x128, .f32⟩
  | 57 => ⟨S1x64x2x4x128, .f32⟩
  | 58 => ⟨S1x64x2x4x128x384, .f32⟩
  | 59 => ⟨S1x64x2x4x128x384, .f32⟩
  | 60 => ⟨S1x64x2x4x128x384, .f32⟩
  | 61 => ⟨S8, .f32⟩
  | 62 => ⟨S_, .f32⟩
  | 63 => ⟨S1x64x2x4x128x384, .f32⟩
  | 64 => ⟨S1x64x2x4x128x384, .f32⟩
  | 65 => ⟨S1x64x2x384x128x4, .f32⟩
  | 66 => ⟨S1x64x2x128x4x64, .f32⟩
  | 67 => ⟨S1x64x128x2x4x64, .f32⟩
  | 68 => ⟨S1x64x2x384x64, .f32⟩
  | 69 => ⟨S1x64x384x2x64, .f32⟩
  | 70 => ⟨S1x8192x8x64, .f32⟩
  | 71 => ⟨S8192x512, .f32⟩
  | 72 => ⟨S64x3x128x128, .f32⟩
  | 73 => ⟨S3x64x128x128, .f32⟩
  | 74 => ⟨S3x8192x128, .f32⟩
  | 75 => ⟨S64x3x128x128, .f32⟩
  | 76 => ⟨S3x64x128x128, .f32⟩
  | 77 => ⟨S3x8192x128, .f32⟩
  | 78 => ⟨S3x8192x256, .f32⟩
  | 79 => ⟨S8x1, .f32⟩
  | 80 => ⟨S8x128, .f32⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_2 : Ref sig .tc := ⟨.hbm, 44, rfl⟩
abbrev main_v34 : Ref sig .tc := ⟨.hbm, 45, rfl⟩
abbrev main_v35 : Ref sig .tc := ⟨.hbm, 46, rfl⟩
abbrev main_c_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_7 : Ref sig .tc := ⟨.hbm, 82, rfl⟩
abbrev main_call2_v0 : Ref sig .tc := ⟨.hbm, 83, rfl⟩
abbrev main_v67_1 : Ref sig .tc := ⟨.hbm, 84, rfl⟩
abbrev main_call2_v2 : Ref sig .tc := ⟨.hbm, 85, rfl⟩
abbrev main_v67_0 : Ref sig .tc := ⟨.hbm, 86, rfl⟩
abbrev main_call2_cst : Ref sig .tc := ⟨.hbm, 87, rfl⟩
abbrev main_v67_2 : Ref sig .tc := ⟨.hbm, 88, rfl⟩
abbrev main_v68 : Ref sig .tc := ⟨.hbm, 89, rfl⟩
abbrev main_cst_8 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_9 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_10 : Ref sig .tc := ⟨.hbm, 105, rfl⟩
abbrev main_v82 : Ref sig .tc := ⟨.hbm, 106, rfl⟩
abbrev main_cst_11 : Ref sig .tc := ⟨.hbm, 107, rfl⟩
abbrev main_v83 : Ref sig .tc := ⟨.hbm, 108, rfl⟩
abbrev main_cst_12 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_13 : Ref sig .tc := ⟨.hbm, 117, rfl⟩
abbrev main_v91 : Ref sig .tc := ⟨.hbm, 118, rfl⟩
abbrev main_cst_14 : Ref sig .tc := ⟨.hbm, 119, rfl⟩
abbrev main_v92 : Ref sig .tc := ⟨.hbm, 120, rfl⟩
abbrev main_cst_15 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_16 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_17 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_18 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_19 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_cst_20 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_cst_21 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_cst_22 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_23 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_call3_cst : Ref sig .tc := ⟨.hbm, 190, rfl⟩
abbrev main_call3_v0 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩

abbrev nD : Nat := 1
abbrev τ : Topo := Topo.v7x

variable {F : FTy → Type} [FloatOps F]
-- ==== Bff1.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S1024x4x1024 : Shape := ⟨3, ![1024, 4, 1024]⟩
abbrev S4x1024x1024 : Shape := ⟨3, ![4, 1024, 1024]⟩
abbrev S1x4x1024x1024 : Shape := ⟨4, ![1, 4, 1024, 1024]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S1x1x1024x1024 : Shape := ⟨4, ![1, 1, 1024, 1024]⟩
abbrev S1024x1024 : Shape := ⟨2, ![1024, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S1x4x1024x1024, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S1x4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Bff1RefIdeal.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S1x1024 : Shape := ⟨2, ![1, 1024]⟩
abbrev S8x1024 : Shape := ⟨2, ![8, 1024]⟩
abbrev S_ : Shape := ⟨0, ![]⟩
abbrev S8192 : Shape := ⟨1, ![8192]⟩
abbrev S8192x1 : Shape := ⟨2, ![8192, 1]⟩
abbrev S1024x8x1024 : Shape := ⟨3, ![1024, 8, 1024]⟩
abbrev S1x8x1024 : Shape := ⟨3, ![1, 8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1024x8x1024, .f32⟩
  | .hbm, ⟨25, _⟩ => ⟨S1x8x1024, .f32⟩
  | .hbm, ⟨26, _⟩ => ⟨S1024x8x1024, .f32⟩
  | .hbm, ⟨27, _⟩ => ⟨S1024x8x1024, .f32⟩
  | .hbm, ⟨28, _⟩ => ⟨S8192x1024, .f32⟩
  | .hbm, ⟨29, _⟩ => ⟨S8192x4096, .f32⟩
  | .hbm, ⟨30, _⟩ => ⟨S8192x4096, .f32⟩
  | .hbm, ⟨31, _⟩ => ⟨S8192x1024, .f32⟩
  | .hbm, ⟨32, _⟩ => ⟨S1024x8x1024, .f32⟩
  | .hbm, ⟨33, _⟩ => ⟨S1024x8x1024, .f32⟩
  | .hbm, ⟨34, _⟩ => ⟨S_, .f32⟩
  | .hbm, ⟨35, _⟩ => ⟨S8x1024, .f32⟩
  | .hbm, ⟨36, _⟩ => ⟨S1x8x1024, .f32⟩
  | .hbm, ⟨37, _⟩ => ⟨S1024x8x1024, .f32⟩
  | .hbm, ⟨38, _⟩ => ⟨S1024x8x1024, .f32⟩
  | .hbm, ⟨39, _⟩ => ⟨S_, .f32⟩
  | .hbm, ⟨40, _⟩ => ⟨S8x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Bff2.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩
abbrev S1x4096x1024 : Shape := ⟨3, ![1, 4096, 1024]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S4096x1024, .bf16⟩
  | .hbm, ⟨9, _⟩ => ⟨S1x4096x1024, .bf16⟩
  | .hbm, ⟨10, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1x4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Bff2RefIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x1024, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Wff2.lean ====
abbrev S8192x1024 : Shape := ⟨2, ![8192, 1024]⟩
abbrev S8192x4096 : Shape := ⟨2, ![8192, 4096]⟩
abbrev S_ : Shape := ⟨0, ![]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Wff2RefIdeal.lean ====
abbrev S8192x1024 : Shape := ⟨2, ![8192, 1024]⟩
abbrev S8192x4096 : Shape := ⟨2, ![8192, 4096]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S1024x4096, .f32⟩
  | .hbm, ⟨11, _⟩ => ⟨S4096x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Wff1.lean ====
abbrev S8192x4096 : Shape := ⟨2, ![8192, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Wff1RefIdeal.lean ====
abbrev S8192x4096 : Shape := ⟨2, ![8192, 4096]⟩
abbrev S8192x1024 : Shape := ⟨2, ![8192, 1024]⟩
abbrev S1024 : Shape := ⟨1, ![1024]⟩
abbrev S_ : Shape := ⟨0, ![]⟩
abbrev S1024x4096 : Shape := ⟨2, ![1024, 4096]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .f32⟩
  | .hbm, ⟨23, _⟩ => ⟨S4096x1024, .f32⟩
  | .hbm, ⟨24, _⟩ => ⟨S1024x4096, .f32⟩
  | .hbm, ⟨25, _⟩ => ⟨S1024x4x1024, .f32⟩
  | .hbm, ⟨26, _⟩ => ⟨S4x1024x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Ff1.lean ====
abbrev S8192x1024 : Shape := ⟨2, ![8192, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x4x1024x1024 : Shape := ⟨4, ![1, 4, 1024, 1024]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1x1024x1024 : Shape := ⟨4, ![1, 1, 1024, 1024]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1024x4x1024, .bf16⟩
  | .hbm, ⟨5, _⟩ => ⟨S4x1024x1024, .bf16⟩
  | .hbm, ⟨6, _⟩ => ⟨S1x4x1024x1024, .bf16⟩
  | .hbm, ⟨7, _⟩ => ⟨S1x1024, .f32⟩
  | .hbm, ⟨8, _⟩ => ⟨S8192x1024, .bf16⟩
  | .hbm, ⟨9, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x4x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Ff1RefIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Ff2.lean ====
abbrev S8192x4096 : Shape := ⟨2, ![8192, 4096]⟩
abbrev S4096x1024 : Shape := ⟨2, ![4096, 1024]⟩
abbrev S8192x1024 : Shape := ⟨2, ![8192, 1024]⟩
abbrev S1x4096x1024 : Shape := ⟨3, ![1, 4096, 1024]⟩
abbrev S512x4096 : Shape := ⟨2, ![512, 4096]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S4096x1024, .bf16⟩
  | .hbm, ⟨4, _⟩ => ⟨S1x4096x1024, .bf16⟩
  | .hbm, ⟨5, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Ff2RefIdeal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S8192x4096, .f32⟩
  | .hbm, ⟨4, _⟩ => ⟨S8192x1024, .f32⟩
  | .hbm, ⟨5, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Bin.lean ====
abbrev S8192x1280 : Shape := ⟨2, ![8192, 1280]⟩
abbrev S1024x1280 : Shape := ⟨2, ![1024, 1280]⟩
abbrev S8192x1024 : Shape := ⟨2, ![8192, 1024]⟩
abbrev S1024 : Shape := ⟨1, ![1024]⟩
abbrev S1x1024x1280 : Shape := ⟨3, ![1, 1024, 1280]⟩
abbrev S1x1024 : Shape := ⟨2, ![1, 1024]⟩
abbrev S8x1024 : Shape := ⟨2, ![8, 1024]⟩
abbrev S512x1280 : Shape := ⟨2, ![512, 1280]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 11
  | .vmem => 13
  | .smem => 0
  | _ => 0

abbrev bufTy : (tb : Table) → Fin (tcTables nBuf tb) → BufTy
  | .hbm, ⟨0, _⟩ => ⟨S8192x1280, .bf16⟩
  | .hbm, ⟨1, _⟩ => ⟨S1024x1280, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x1280, .bf16⟩
  | .hbm, ⟨6, _⟩ => ⟨S1x1024x1280, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S8x1024, .f32⟩
  | .local _ .vmem, ⟨0, _⟩ => ⟨S512x1280, .bf16⟩
  | .local _ .vmem, ⟨1, _⟩ => ⟨S512x1280, .bf16⟩
  | .local _ .vmem, ⟨2, _⟩ => ⟨S1x1024x1280, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== BinRefIdeal.lean ====
abbrev S8192x1280 : Shape := ⟨2, ![8192, 1280]⟩
abbrev S1024x1280 : Shape := ⟨2, ![1024, 1280]⟩
abbrev S8192x1024 : Shape := ⟨2, ![8192, 1024]⟩
abbrev S1024 : Shape := ⟨1, ![1024]⟩
abbrev S1x1024 : Shape := ⟨2, ![1, 1024]⟩
abbrev S8x1024 : Shape := ⟨2, ![8, 1024]⟩
abbrev S_ : Shape := ⟨0, ![]⟩
abbrev S8192 : Shape := ⟨1, ![8192]⟩
abbrev S8192x1 : Shape := ⟨2, ![8192, 1]⟩
abbrev S1024x8x1024 : Shape := ⟨3, ![1024, 8, 1024]⟩
abbrev S1x8x1024 : Shape := ⟨3, ![1, 8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S1024x1280, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1024x8x1024, .f32⟩
  | .hbm, ⟨25, _⟩ => ⟨S1x8x1024, .f32⟩
  | .hbm, ⟨26, _⟩ => ⟨S1024x8x1024, .f32⟩
  | .hbm, ⟨27, _⟩ => ⟨S1024x8x1024, .f32⟩
  | .hbm, ⟨28, _⟩ => ⟨S8192x1024, .f32⟩
  | .hbm, ⟨29, _⟩ => ⟨S8192x1280, .f32⟩
  | .hbm, ⟨30, _⟩ => ⟨S8192x1280, .f32⟩
  | .hbm, ⟨31, _⟩ => ⟨S8192x1024, .f32⟩
  | .hbm, ⟨32, _⟩ => ⟨S1024x8x1024, .f32⟩
  | .hbm, ⟨33, _⟩ => ⟨S1024x8x1024, .f32⟩
  | .hbm, ⟨34, _⟩ => ⟨S_, .f32⟩
  | .hbm, ⟨35, _⟩ => ⟨S8x1024, .f32⟩
  | .hbm, ⟨36, _⟩ => ⟨S1x8x1024, .f32⟩
  | .hbm, ⟨37, _⟩ => ⟨S1024x8x1024, .f32⟩
  | .hbm, ⟨38, _⟩ => ⟨S1024x8x1024, .f32⟩
  | .hbm, ⟨39, _⟩ => ⟨S_, .f32⟩
  | .hbm, ⟨40, _⟩ => ⟨S8x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Win.lean ====
abbrev S8192x1280 : Shape := ⟨2, ![8192, 1280]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1280 : Shape := ⟨2, ![1024, 1280]⟩
abbrev S2048x1024 : Shape := ⟨2, ![2048, 1024]⟩
abbrev S2048x640 : Shape := ⟨2, ![2048, 640]⟩
abbrev S1024x640 : Shape := ⟨2, ![1024, 640]⟩

abbrev nBuf : Space → Nat
  | .hbm => 21
  | .vmem => 6
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x1280, .f32⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinRefIdeal.lean ====
abbrev S8192x1280 : Shape := ⟨2, ![8192, 1280]⟩
abbrev S8192x1024 : Shape := ⟨2, ![8192, 1024]⟩
abbrev S1024 : Shape := ⟨1, ![1024]⟩
abbrev S_ : Shape := ⟨0, ![]⟩
abbrev S1024x1280 : Shape := ⟨2, ![1024, 1280]⟩
abbrev S8192 : Shape := ⟨1, ![8192]⟩
abbrev S8192x1 : Shape := ⟨2, ![8192, 1]⟩
abbrev S1x1024 : Shape := ⟨2, ![1, 1024]⟩
abbrev S1280x1024 : Shape := ⟨2, ![1280, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024x1280, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1280, .f32⟩
  | .hbm, ⟨22, _⟩ => ⟨S8192x1280, .f32⟩
  | .hbm, ⟨23, _⟩ => ⟨S1280x1024, .f32⟩
  | .hbm, ⟨24, _⟩ => ⟨S1024x1280, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Bout.lean ====
abbrev S8192x1024 : Shape := ⟨2, ![8192, 1024]⟩
abbrev S1024x1024 : Shape := ⟨2, ![1024, 1024]⟩
abbrev S1x1024x1024 : Shape := ⟨3, ![1, 1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024x1024, .bf16⟩
  | .hbm, ⟨3, _⟩ => ⟨S1x1024x1024, .bf16⟩
  | .hbm, ⟨4, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BoutRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Wout.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WoutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wglu.lean ====
abbrev S8192x1024 : Shape := ⟨2, ![8192, 1024]⟩
abbrev S8192x512 : Shape := ⟨2, ![8192, 512]⟩
abbrev S_ : Shape := ⟨0, ![]⟩
abbrev S4x512x256 : Shape := ⟨3, ![4, 512, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .bf16⟩
  | .hbm, ⟨20, _⟩ => ⟨S4x512x256, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .f32⟩
  | .local _ .vmem, ⟨5, _⟩ => ⟨S1x512x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgluRefIdeal.lean ====
abbrev S8192x1024 : Shape := ⟨2, ![8192, 1024]⟩
abbrev S8192x512 : Shape := ⟨2, ![8192, 512]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x1024, .f32⟩
  | .hbm, ⟨22, _⟩ => ⟨S8192x1024, .f32⟩
  | .hbm, ⟨23, _⟩ => ⟨S1024x512, .f32⟩
  | .hbm, ⟨24, _⟩ => ⟨S512x1024, .f32⟩
  | .hbm, ⟨25, _⟩ => ⟨S512x4x256, .f32⟩
  | .hbm, ⟨26, _⟩ => ⟨S4x512x256, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== In.lean ====
abbrev S8192x1024 : Shape := ⟨2, ![8192, 1024]⟩
abbrev S1024 : Shape := ⟨1, ![1024]⟩
abbrev S1024x1280 : Shape := ⟨2, ![1024, 1280]⟩
abbrev S1x1024x1280 : Shape := ⟨3, ![1, 1024, 1280]⟩
abbrev S1x1024 : Shape := ⟨2, ![1, 1024]⟩
abbrev S8192x1280 : Shape := ⟨2, ![8192, 1280]⟩
abbrev S512x1024 : Shape := ⟨2, ![512, 1024]⟩
abbrev S512x1280 : Shape := ⟨2, ![512, 1280]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1280, .f32⟩
  | .hbm, ⟨3, _⟩ => ⟨S1024x1280, .bf16⟩
  | .hbm, ⟨4, _⟩ => ⟨S1x1024x1280, .bf16⟩
  | .hbm, ⟨5, _⟩ => ⟨S1x1024, .f32⟩
  | .hbm, ⟨6, _⟩ => ⟨S8192x1024, .bf16⟩
  | .hbm, ⟨7, _⟩ => ⟨S8192x1280, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1280, .bf16⟩
  | .local _ .vmem, ⟨4, _⟩ => ⟨S512x1024, .bf16⟩
  | .local _ .vmem, ⟨5, _⟩ => ⟨S512x1024, .bf16⟩
  | .local _ .vmem, ⟨6, _⟩ => ⟨S512x1280, .f32⟩
  | .local _ .vmem, ⟨7, _⟩ => ⟨S512x1280, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InRefIdeal.lean ====
abbrev S8192x1024 : Shape := ⟨2, ![8192, 1024]⟩
abbrev S1024 : Shape := ⟨1, ![1024]⟩
abbrev S1024x1280 : Shape := ⟨2, ![1024, 1280]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1280 : Shape := ⟨2, ![8192, 1280]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1280, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1280, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S1x1024x1024 : Shape := ⟨3, ![1, 1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S1x1024x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Glu.lean ====
abbrev S8192x512 : Shape := ⟨2, ![8192, 512]⟩
abbrev S8192x1280 : Shape := ⟨2, ![8192, 1280]⟩
abbrev S512 : Shape := ⟨1, ![512]⟩
abbrev S512x1024 : Shape := ⟨2, ![512, 1024]⟩
abbrev S512x4x256 : Shape := ⟨3, ![512, 4, 256]⟩
abbrev S4x512x256 : Shape := ⟨3, ![4, 512, 256]⟩
abbrev S1x4x512x256 : Shape := ⟨4, ![1, 4, 512, 256]⟩
abbrev S1x512 : Shape := ⟨2, ![1, 512]⟩
abbrev S8192x1024 : Shape := ⟨2, ![8192, 1024]⟩
abbrev S512x512 : Shape := ⟨2, ![512, 512]⟩
abbrev S512x256 : Shape := ⟨2, ![512, 256]⟩
abbrev S1x1x512x256 : Shape := ⟨4, ![1, 1, 512, 256]⟩

abbrev nBuf : Space → Nat
  | .hbm => 14
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1280, .f32⟩
  | .hbm, ⟨3, _⟩ => ⟨S8192x512, .bf16⟩
  | .hbm, ⟨4, _⟩ => ⟨S512, .f32⟩
  | .hbm, ⟨5, _⟩ => ⟨S512x1024, .f32⟩
  | .hbm, ⟨6, _⟩ => ⟨S512x1024, .bf16⟩
  | .hbm, ⟨7, _⟩ => ⟨S512x4x256, .bf16⟩
  | .hbm, ⟨8, _⟩ => ⟨S4x512x256, .bf16⟩
  | .hbm, ⟨9, _⟩ => ⟨S1x4x512x256, .bf16⟩
  | .hbm, ⟨10, _⟩ => ⟨S1x512, .f32⟩
  | .hbm, ⟨11, _⟩ => ⟨S8192x512, .f32⟩
  | .hbm, ⟨12, _⟩ => ⟨S8192x1024, .f32⟩
  | .hbm, ⟨13, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x512, .bf16⟩
  | .local _ .vmem, ⟨9, _⟩ => ⟨S512x512, .bf16⟩
  | .local _ .vmem, ⟨10, _⟩ => ⟨S1x512, .f32⟩
  | .local _ .vmem, ⟨11, _⟩ => ⟨S1x4x512x256, .bf16⟩
  | .local _ .vmem, ⟨12, _⟩ => ⟨S512x512, .f32⟩
  | .local _ .vmem, ⟨13, _⟩ => ⟨S512x512, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GluRefIdeal.lean ====
abbrev S8192x512 : Shape := ⟨2, ![8192, 512]⟩
abbrev S8192x1280 : Shape := ⟨2, ![8192, 1280]⟩
abbrev S512 : Shape := ⟨1, ![512]⟩
abbrev S512x1024 : Shape := ⟨2, ![512, 1024]⟩
abbrev S1x512 : Shape := ⟨2, ![1, 512]⟩
abbrev S_ : Shape := ⟨0, ![]⟩
abbrev S8192x1024 : Shape := ⟨2, ![8192, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1280, .f32⟩
  | .hbm, ⟨3, _⟩ => ⟨S8192x512, .bf16⟩
  | .hbm, ⟨4, _⟩ => ⟨S512, .f32⟩
  | .hbm, ⟨5, _⟩ => ⟨S512x1024, .f32⟩
  | .hbm, ⟨6, _⟩ => ⟨S8192x512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x1024, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x1024, .f32⟩
  | .hbm, ⟨43, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Bglu.lean ====
abbrev S8192x1024 : Shape := ⟨2, ![8192, 1024]⟩
abbrev S8192x512 : Shape := ⟨2, ![8192, 512]⟩
abbrev S512x1024 : Shape := ⟨2, ![512, 1024]⟩
abbrev S_ : Shape := ⟨0, ![]⟩
abbrev S512x4x256 : Shape := ⟨3, ![512, 4, 256]⟩
abbrev S4x512x256 : Shape := ⟨3, ![4, 512, 256]⟩
abbrev S1x4x512x256 : Shape := ⟨4, ![1, 4, 512, 256]⟩
abbrev S512x512 : Shape := ⟨2, ![512, 512]⟩
abbrev S512x256 : Shape := ⟨2, ![512, 256]⟩
abbrev S1x1x512x256 : Shape := ⟨4, ![1, 1, 512, 256]⟩

abbrev nBuf : Space → Nat
  | .hbm => 31
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S512x1024, .f32⟩
  | .hbm, ⟨3, _⟩ => ⟨S_, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x1024, .f32⟩
  | .hbm, ⟨24, _⟩ => ⟨S512x1024, .bf16⟩
  | .hbm, ⟨25, _⟩ => ⟨S512x4x256, .bf16⟩
  | .hbm, ⟨26, _⟩ => ⟨S4x512x256, .bf16⟩
  | .hbm, ⟨27, _⟩ => ⟨S1x4x512x256, .bf16⟩
  | .hbm, ⟨28, _⟩ => ⟨S8192x1024, .bf16⟩
  | .hbm, ⟨29, _⟩ => ⟨S8192x512, .bf16⟩
  | .hbm, ⟨30, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S1x4x512x256, .bf16⟩
  | .local _ .vmem, ⟨7, _⟩ => ⟨S512x1024, .bf16⟩
  | .local _ .vmem, ⟨8, _⟩ => ⟨S512x1024, .bf16⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== BgluIdeal.lean ====
variable {F : FTy → Type} [FloatOps F] [Named F]
def κ : String → Option EReal := fun
  | "gelu" => some ((8943 / 200000 : ℝ) : EReal)
  | "gelu3" => some ((26829 / 200000 : ℝ) : EReal)
  | _ => none
-- ==== BgluRefIdeal.lean ====
abbrev S8192x1024 : Shape := ⟨2, ![8192, 1024]⟩
abbrev S8192x512 : Shape := ⟨2, ![8192, 512]⟩
abbrev S512x1024 : Shape := ⟨2, ![512, 1024]⟩
abbrev S_ : Shape := ⟨0, ![]⟩

abbrev nBuf : Space → Nat
  | .hbm => 136
  | .vmem => 0
  | .smem => 0
  | _ => 0

abbrev hbmTy0_0 (i : Nat) : BufTy := match i % 128 with
  | 0 => ⟨S8192x1024, .f32⟩
  | 1 => ⟨S8192x512, .f32⟩
  | 2 => ⟨S512x1024, .f32⟩
  | 3 => ⟨S8192x512, .f32⟩
  | 4 => ⟨S_, .f32⟩
  | 5 => ⟨S8192x512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S8192x1024, .f32⟩
  | 25 => ⟨S8192x512, .f32⟩
  | 26 => ⟨S8192x512, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S8192x512, .f32⟩
  | 39 => ⟨S8192x512, .f32⟩
  | 40 => ⟨S8192x512, .f32⟩
  | 41 => ⟨S8192x512, .f32⟩
  | 42 => ⟨S8192x512, .f32⟩
  | 43 => ⟨S8192x1024, .f32⟩
  | 44 => ⟨S_, .f32⟩
  | 45 => ⟨S8192x512, .f32⟩
  | 46 => ⟨S8192x512, .f32⟩
  | 47 => ⟨S8192x512, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S8192x512, .f32⟩
  | 60 => ⟨S_, .f32⟩
  | 61 => ⟨S8192x512, .f32⟩
  | 62 => ⟨S8192x512, .f32⟩
  | 63 => ⟨S8192x512, .f32⟩
  | 64 => ⟨S_, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S8192x512, .f32⟩
  | 71 => ⟨S_, .f32⟩
  | 72 => ⟨S8192x512, .f32⟩
  | 73 => ⟨S8192x512, .f32⟩
  | 74 => ⟨S8192x512, .f32⟩
  | 75 => ⟨S8192x1024, .f32⟩
  | 76 => ⟨S8192x512, .f32⟩
  | 77 => ⟨S8192x512, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S_, .f32⟩
  | 84 => ⟨S8192x512, .f32⟩
  | 85 => ⟨S8192x512, .f32⟩
  | 86 => ⟨S_, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S8192x1024, .f32⟩
  | 95 => ⟨S8192x512, .f32⟩
  | 96 => ⟨S8192x512, .f32⟩
  | 97 => ⟨S8192x512, .f32⟩
  | 98 => ⟨S8192x512, .f32⟩
  | 99 => ⟨S_, .f32⟩
  | 100 => ⟨S8192x512, .f32⟩
  | 101 => ⟨S8192x512, .f32⟩
  | 102 => ⟨S_, .f32⟩
  | 103 => ⟨S8192x512, .f32⟩
  | 104 => ⟨S8192x512, .f32⟩
  | 105 => ⟨S_, .f32⟩
  | 106 => ⟨S8192x512, .f32⟩
  | 107 => ⟨S8192x512, .f32⟩
  | 108 => ⟨S8192x512, .f32⟩
  | 109 => ⟨S8192x512, .f32⟩
  | 110 => ⟨S_, .f32⟩
  | 111 => ⟨S8192x512, .f32⟩
  | 112 => ⟨S8192x512, .f32⟩
  | 113 => ⟨S8192x512, .f32⟩
  | 114 => ⟨S8192x1024, .bf16⟩
  | 115 => ⟨S_, .f32⟩
  | 116 => ⟨S8192x512, .f32⟩
  | 117 => ⟨S8192x512, .f32⟩
  | 118 => ⟨S8192x512, .f32⟩
  | 119 => ⟨S8192x512, .f32⟩
  | 120 => ⟨S_, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S8192x512, .f32⟩
  | 127 => ⟨S_, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x512, .f32⟩
  | 3 => ⟨S_, .f32⟩
  | 4 => ⟨S8192x512, .f32⟩
  | 5 => ⟨S8192x512, .f32⟩
  | 6 => ⟨S8192x512, .f32⟩
  | 7 => ⟨S8192x512, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_v49 : Ref sig .tc := ⟨.hbm, 66, rfl⟩
abbrev main_cst_13 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_14 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_15 : Ref sig .tc := ⟨.hbm, 80, rfl⟩
abbrev main_v61 : Ref sig .tc := ⟨.hbm, 81, rfl⟩
abbrev main_v62 : Ref sig .tc := ⟨.hbm, 82, rfl⟩
abbrev main_cst_16 : Ref sig .tc := ⟨.hbm, 83, rfl⟩
abbrev main_v63 : Ref sig .tc := ⟨.hbm, 84, rfl⟩
abbrev main_v64 : Ref sig .tc := ⟨.hbm, 85, rfl⟩
abbrev main_cst_17 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_18 : Ref sig .tc := ⟨.hbm, 99, rfl⟩
abbrev main_v77 : Ref sig .tc := ⟨.hbm, 100, rfl⟩
abbrev main_v78 : Ref sig .tc := ⟨.hbm, 101, rfl⟩
abbrev main_cst_19 : Ref sig .tc := ⟨.hbm, 102, rfl⟩
abbrev main_v79 : Ref sig .tc := ⟨.hbm, 103, rfl⟩
abbrev main_v80 : Ref sig .tc := ⟨.hbm, 104, rfl⟩
abbrev main_cst_20 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_21 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_22 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_23 : Ref sig .tc := ⟨.hbm, 120, rfl⟩
abbrev main_v93 : Ref sig .tc := ⟨.hbm, 121, rfl⟩
abbrev main_v94 : Ref sig .tc := ⟨.hbm, 122, rfl⟩
abbrev main_cst_24 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_25 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_26 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩

abbrev nD : Nat := 1
abbrev τ : Topo := Topo.v7x

variable {F : FTy → Type} [FloatOps F]
-- ==== Attn.lean ====
abbrev S8192x512 : Shape := ⟨2, ![8192, 512]⟩
abbrev S8192x256 : Shape := ⟨2, ![8192, 256]⟩
abbrev S8 : Shape := ⟨1, ![8]⟩
abbrev S128x512 : Shape := ⟨2, ![128, 512]⟩
abbrev S128x256 : Shape := ⟨2, ![128, 256]⟩
abbrev S512x384 : Shape := ⟨2, ![512, 384]⟩
abbrev S384x256 : Shape := ⟨2, ![384, 256]⟩
abbrev S384x64 : Shape := ⟨2, ![384, 64]⟩
abbrev S128x64 : Shape := ⟨2, ![128, 64]⟩
abbrev S512x64 : Shape := ⟨2, ![512, 64]⟩
abbrev S512x1 : Shape := ⟨2, ![512, 1]⟩
abbrev S1 : Shape := ⟨1, ![1]⟩
abbrev S512 : Shape := ⟨1, ![512]⟩

abbrev nBuf : Space → Nat
  | .hbm => 4
  | .vmem => 10
  | .smem => 1
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8, .f32⟩
  | .hbm, ⟨3, _⟩ => ⟨S8192x512, .bf16⟩
  | .local _ .vmem, ⟨0, _⟩ => ⟨S128x512, .bf16⟩
  | .local _ .vmem, ⟨1, _⟩ => ⟨S128x512, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x512, .bf16⟩
  | .local _ .vmem, ⟨9, _⟩ => ⟨S128x512, .bf16⟩
  | .local _ .smem, ⟨0, _⟩ => ⟨S8, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S8192x512 : Shape := ⟨2, ![8192, 512]⟩
abbrev S8192x256 : Shape := ⟨2, ![8192, 256]⟩
abbrev S8 : Shape := ⟨1, ![8]⟩
abbrev S8192x128 : Shape := ⟨2, ![8192, 128]⟩
abbrev S1x8192x2x64 : Shape := ⟨4, ![1, 8192, 2, 64]⟩
abbrev S1x8192x8x64 : Shape := ⟨4, ![1, 8192, 8, 64]⟩
abbrev S_ : Shape := ⟨0, ![]⟩
abbrev S1x8448x2x64 : Shape := ⟨4, ![1, 8448, 2, 64]⟩
abbrev S1x66x128x2x64 : Shape := ⟨5, ![1, 66, 128, 2, 64]⟩
abbrev S1x64x128x2x64 : Shape := ⟨5, ![1, 64, 128, 2, 64]⟩
abbrev S1x64x384x2x64 : Shape := ⟨5, ![1, 64, 384, 2, 64]⟩
abbrev S1x64x128x2x4x64 : Shape := ⟨6, ![1, 64, 128, 2, 4, 64]⟩
abbrev S1x64x2x384x128x4 : Shape := ⟨6, ![1, 64, 2, 384, 128, 4]⟩
abbrev S1x64x2x4x128x384 : Shape := ⟨6, ![1, 64, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S2x4 : Shape := ⟨2, ![2, 4]⟩
abbrev S2x4x1x1 : Shape := ⟨4, ![2, 4, 1, 1]⟩
abbrev S1x1x128x384 : Shape := ⟨4, ![1, 1, 128, 384]⟩
abbrev S2x4x128x384 : Shape := ⟨4, ![2, 4, 128, 384]⟩
abbrev S1x64x1x1x128x384 : Shape := ⟨6, ![1, 64, 1, 1, 128, 384]⟩
abbrev S1x1x2x4x128x384 : Shape := ⟨6, ![1, 1, 2, 4, 128, 384]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S1x8192x512 : Shape := ⟨3, ![1, 8192, 512]⟩

abbrev nBuf : Space → Nat
  | .hbm => 109
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8, .f32⟩
  | .hbm, ⟨3, _⟩ => ⟨S8, .f32⟩
  | .hbm, ⟨4, _⟩ => ⟨S8192x256, .f32⟩
  | .hbm, ⟨5, _⟩ => ⟨S8192x128, .f32⟩
  | .hbm, ⟨6, _⟩ => ⟨S1x8192x2x64, .f32⟩
  | .hbm, ⟨7, _⟩ => ⟨S8192x128, .f32⟩
  | .hbm, ⟨8, _⟩ => ⟨S1x8192x2x64, .f32⟩
  | .hbm, ⟨9, _⟩ => ⟨S8192x512, .f32⟩
  | .hbm, ⟨10, _⟩ => ⟨S1x8192x8x64, .f32⟩
  | .hbm, ⟨11, _⟩ => ⟨S_, .i32⟩
  | .hbm, ⟨12, _⟩ => ⟨S_, .f32⟩
  | .hbm, ⟨13, _⟩ => ⟨S1x8448x2x64, .f32⟩
  | .hbm, ⟨14, _⟩ => ⟨S1x66x128x2x64, .f32⟩
  | .hbm, ⟨15, _⟩ => ⟨S1x64x128x2x64, .f32⟩
  | .hbm, ⟨16, _⟩ => ⟨S1x64x128x2x64, .f32⟩
  | .hbm, ⟨17, _⟩ => ⟨S1x64x128x2x64, .f32⟩
  | .hbm, ⟨18, _⟩ => ⟨S1x64x384x2x64, .f32⟩
  | .hbm, ⟨19, _⟩ => ⟨S_, .i32⟩
  | .hbm, ⟨20, _⟩ => ⟨S_, .f32⟩
  | .hbm, ⟨21, _⟩ => ⟨S1x8448x2x64, .f32⟩
  | .hbm, ⟨22, _⟩ => ⟨S1x66x128x2x64, .f32⟩
  | .hbm, ⟨23, _⟩ => ⟨S1x64x128x2x64, .f32⟩
  | .hbm, ⟨24, _⟩ => ⟨S1x64x128x2x64, .f32⟩
  | .hbm, ⟨25, _⟩ => ⟨S1x64x128x2x64, .f32⟩
  | .hbm, ⟨26, _⟩ => ⟨S1x64x384x2x64, .f32⟩
  | .hbm, ⟨27, _⟩ => ⟨S1x64x128x2x4x64, .f32⟩
  | .hbm, ⟨28, _⟩ => ⟨S1x64x2x384x128x4, .f32⟩
  | .hbm, ⟨29, _⟩ => ⟨S1x64x2x4x128x384, .f32⟩
  | .hbm, ⟨30, _⟩ => ⟨S128, .i32⟩
  | .hbm, ⟨31, _⟩ => ⟨S128x1, .i32⟩
  | .hbm, ⟨32, _⟩ => ⟨S384, .i32⟩
  | .hbm, ⟨33, _⟩ => ⟨S1x384, .i32⟩
  | .hbm, ⟨34, _⟩ => ⟨S128x384, .i32⟩
  | .hbm, ⟨35, _⟩ => ⟨S128x384, .i32⟩
  | .hbm, ⟨36, _⟩ => ⟨S128x384, .i32⟩
  | .hbm, ⟨37, _⟩ => ⟨S_, .i32⟩
  | .hbm, ⟨38, _⟩ => ⟨S128x384, .i32⟩
  | .hbm, ⟨39, _⟩ => ⟨S128x384, .i32⟩
  | .hbm, ⟨40, _⟩ => ⟨S128x384, .i32⟩
  | .hbm, ⟨41, _⟩ => ⟨S64, .i32⟩
  | .hbm, ⟨42, _⟩ => ⟨S64x1, .i32⟩
  | .hbm, ⟨43, _⟩ => ⟨S_, .i32⟩
  | .hbm, ⟨44, _⟩ => ⟨S64x1, .i32⟩
  | .hbm, ⟨45, _⟩ => ⟨S64x1, .i32⟩
  | .hbm, ⟨46, _⟩ => ⟨S_, .i32⟩
  | .hbm, ⟨47, _⟩ => ⟨S64x1, .i32⟩
  | .hbm, ⟨48, _⟩ => ⟨S64x1, .i32⟩
  | .hbm, ⟨49, _⟩ => ⟨S384, .i32⟩
  | .hbm, ⟨50, _⟩ => ⟨S1x384, .i32⟩
  | .hbm, ⟨51, _⟩ => ⟨S64x384, .i32⟩
  | .hbm, ⟨52, _⟩ => ⟨S64x384, .i32⟩
  | .hbm, ⟨53, _⟩ => ⟨S64x384, .i32⟩
  | .hbm, ⟨54, _⟩ => ⟨S_, .i32⟩
  | .hbm, ⟨55, _⟩ => ⟨S128x384, .i32⟩
  | .hbm, ⟨56, _⟩ => ⟨S128x384, .i1⟩
  | .hbm, ⟨57, _⟩ => ⟨S1x128x384, .i1⟩
  | .hbm, ⟨58, _⟩ => ⟨S_, .i32⟩
  | .hbm, ⟨59, _⟩ => ⟨S64x384, .i32⟩
  | .hbm, ⟨60, _⟩ => ⟨S64x384, .i1⟩
  | .hbm, ⟨61, _⟩ => ⟨S_, .i32⟩
  | .hbm, ⟨62, _⟩ => ⟨S64x384, .i32⟩
  | .hbm, ⟨63, _⟩ => ⟨S64x384, .i1⟩
  | .hbm, ⟨64, _⟩ => ⟨S64x384, .i1⟩
  | .hbm, ⟨65, _⟩ => ⟨S64x1x384, .i1⟩
  | .hbm, ⟨66, _⟩ => ⟨S64x128x384, .i1⟩
  | .hbm, ⟨67, _⟩ => ⟨S64x128x384, .i1⟩
  | .hbm, ⟨68, _⟩ => ⟨S64x128x384, .i1⟩
  | .hbm, ⟨69, _⟩ => ⟨S2x4, .f32⟩
  | .hbm, ⟨70, _⟩ => ⟨S2x4x1x1, .f32⟩
  | .hbm, ⟨71, _⟩ => ⟨S2x4x1x1, .f32⟩
  | .hbm, ⟨72, _⟩ => ⟨S128x384, .f32⟩
  | .hbm, ⟨73, _⟩ => ⟨S1x1x128x384, .f32⟩
  | .hbm, ⟨74, _⟩ => ⟨S2x4x128x384, .f32⟩
  | .hbm, ⟨75, _⟩ => ⟨S2x4x128x384, .f32⟩
  | .hbm, ⟨76, _⟩ => ⟨S2x4x128x384, .f32⟩
  | .hbm, ⟨77, _⟩ => ⟨S1x64x1x1x128x384, .i1⟩
  | .hbm, ⟨78, _⟩ => ⟨S1x1x2x4x128x384, .f32⟩
  | .hbm, ⟨79, _⟩ => ⟨S1x64x2x4x128x384, .f32⟩
  | .hbm, ⟨80, _⟩ => ⟨S1x64x2x4x128x384, .f32⟩
  | .hbm, ⟨81, _⟩ => ⟨S_, .f32⟩
  | .hbm, ⟨82, _⟩ => ⟨S_, .f32⟩
  | .hbm, ⟨83, _⟩ => ⟨S1x64x2x4x128x384, .i1⟩
  | .hbm, ⟨84, _⟩ => ⟨S1x64x2x4x128x384, .f32⟩
  | .hbm, ⟨85, _⟩ => ⟨S1x64x2x4x128x384, .f32⟩
  | .hbm, ⟨86, _⟩ => ⟨S1x1x2x4x1x1, .f32⟩
  | .hbm, ⟨87, _⟩ => ⟨S_, .f32⟩
  | .hbm, ⟨88, _⟩ => ⟨S1x64x2x4x128, .f32⟩
  | .hbm, ⟨89, _⟩ => ⟨S1x64x2x4x128x1, .f32⟩
  | .hbm, ⟨90, _⟩ => ⟨S1x64x2x4x128x1, .f32⟩
  | .hbm, ⟨91, _⟩ => ⟨S1x64x2x4x128x1, .f32⟩
  | .hbm, ⟨92, _⟩ => ⟨S1x64x2x4x128x384, .f32⟩
  | .hbm, ⟨93, _⟩ => ⟨S1x64x2x4x128x384, .f32⟩
  | .hbm, ⟨94, _⟩ => ⟨S1x64x2x4x128x384, .f32⟩
  | .hbm, ⟨95, _⟩ => ⟨S_, .f32⟩
  | .hbm, ⟨96, _⟩ => ⟨S1x64x2x4x128, .f32⟩
  | .hbm, ⟨97, _⟩ => ⟨S1x64x2x4x128x1, .f32⟩
  | .hbm, ⟨98, _⟩ => ⟨S1x64x2x4x128x1, .f32⟩
  | .hbm, ⟨99, _⟩ => ⟨S1x64x2x4x128x1, .f32⟩
  | .hbm, ⟨100, _⟩ => ⟨S1x64x2x4x128x1, .f32⟩
  | .hbm, ⟨101, _⟩ => ⟨S1x64x2x4x128x1, .f32⟩
  | .hbm, ⟨102, _⟩ => ⟨S1x64x2x4x128x384, .f32⟩
  | .hbm, ⟨103, _⟩ => ⟨S1x64x2x4x128x384, .f32⟩
  | .hbm, ⟨104, _⟩ => ⟨S1x64x2x64x4x128, .f32⟩
  | .hbm, ⟨105, _⟩ => ⟨S1x64x128x2x4x64, .f32⟩
  | .hbm, ⟨106, _⟩ => ⟨S1x8192x512, .f32⟩
  | .hbm, ⟨107, _⟩ => ⟨S8192x512, .f32⟩
  | .hbm, ⟨108, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_2 : Ref sig .tc := ⟨.hbm, 43, rfl⟩
abbrev main_v34 : Ref sig .tc := ⟨.hbm, 44, rfl⟩
abbrev main_v35 : Ref sig .tc := ⟨.hbm, 45, rfl⟩
abbrev main_c_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_5 : Ref sig .tc := ⟨.hbm, 58, rfl⟩
abbrev main_v46 : Ref sig .tc := ⟨.hbm, 59, rfl⟩
abbrev main_v47 : Ref sig .tc := ⟨.hbm, 60, rfl⟩
abbrev main_c_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_7 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_9 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩

abbrev nD : Nat := 1
abbrev τ : Topo := Topo.v7x

variable {F : FTy → Type} [FloatOps F]
-- ==== Loss.lean ====
abbrev S8192x1024 : Shape := ⟨2, ![8192, 1024]⟩
abbrev S8x1024 : Shape := ⟨2, ![8, 1024]⟩
abbrev S512x1024 : Shape := ⟨2, ![512, 1024]⟩
abbrev S64x8x1024 : Shape := ⟨3, ![64, 8, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossRefIdeal.lean ====
abbrev S8192x1024 : Shape := ⟨2, ![8192, 1024]⟩
abbrev S1024x8x1024 : Shape := ⟨3, ![1024, 8, 1024]⟩
abbrev S_ : Shape := ⟨0, ![]⟩
abbrev S8x1024 : Shape := ⟨2, ![8, 1024]⟩
abbrev S8192 : Shape := ⟨1, ![8192]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x8x1024, .f32⟩
  | .hbm, ⟨5, _⟩ => ⟨S_, .f32⟩
  | .hbm, ⟨6, _⟩ => ⟨S8x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S1024x8x1024, .f32⟩
  | .hbm, ⟨24, _⟩ => ⟨S_, .f32⟩
  | .hbm, ⟨25, _⟩ => ⟨S8x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_cst_11 : Ref sig .tc := ⟨.hbm, 40, rfl⟩
abbrev main_cst_12 : Ref sig .tc := ⟨.hbm, 41, rfl⟩
abbrev main_v26 : Ref sig .tc := ⟨.hbm, 42, rfl⟩
abbrev main_v27 : Ref sig .tc := ⟨.hbm, 43, rfl⟩
abbrev main_cst_13 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Adam.lean ====
abbrev S1 : Shape := ⟨1, ![1]⟩
abbrev S4x1024x1024 : Shape := ⟨3, ![4, 1024, 1024]⟩
abbrev S4x512x1024 : Shape := ⟨3, ![4, 512, 1024]⟩
abbrev S4x2x512x1024 : Shape := ⟨4, ![4, 2, 512, 1024]⟩
abbrev S1x1x256x1024 : Shape := ⟨4, ![1, 1, 256, 1024]⟩
abbrev S1x256x1024 : Shape := ⟨3, ![1, 256, 1024]⟩
abbrev S256x1024 : Shape := ⟨2, ![256, 1024]⟩

abbrev nBuf : Space → Nat
  | .hbm => 13
  | .vmem => 18
  | .smem => 1
  | _ => 0

abbrev bufTy : (tb : Table) → Fin (tcTables nBuf tb) → BufTy
  | .hbm, ⟨0, _⟩ => ⟨S1, .i32⟩
  | .hbm, ⟨1, _⟩ => ⟨S4x1024x1024, .f32⟩
  | .hbm, ⟨2, _⟩ => ⟨S4x512x1024, .f32⟩
  | .hbm, ⟨3, _⟩ => ⟨S4x512x1024, .f32⟩
  | .hbm, ⟨4, _⟩ => ⟨S4x1024x1024, .f32⟩
  | .hbm, ⟨5, _⟩ => ⟨S4x1024x1024, .f32⟩
  | .hbm, ⟨6, _⟩ => ⟨S4x2x512x1024, .f32⟩
  | .hbm, ⟨7, _⟩ => ⟨S4x2x512x1024, .f32⟩
  | .hbm, ⟨8, _⟩ => ⟨S4x2x512x1024, .f32⟩
  | .hbm, ⟨9, _⟩ => ⟨S4x2x512x1024, .f32⟩
  | .hbm, ⟨10, _⟩ => ⟨S4x2x512x1024, .f32⟩
  | .hbm, ⟨11, _⟩ => ⟨S4x2x512x1024, .f32⟩
  | .hbm, ⟨12, _⟩ => ⟨S4x2x512x1024, .f32⟩
  | .local _ .vmem, ⟨0, _⟩ => ⟨S1x1x256x1024, .f32⟩
  | .local _ .vmem, ⟨1, _⟩ => ⟨S1x1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x256x1024, .f32⟩
  | .local _ .vmem, ⟨7, _⟩ => ⟨S1x1x256x1024, .f32⟩
  | .local _ .vmem, ⟨8, _⟩ => ⟨S1x1x256x1024, .f32⟩
  | .local _ .vmem, ⟨9, _⟩ => ⟨S1x1x256x1024, .f32⟩
  | .local _ .vmem, ⟨10, _⟩ => ⟨S1x1x256x1024, .f32⟩
  | .local _ .vmem, ⟨11, _⟩ => ⟨S1x1x256x1024, .f32⟩
  | .local _ .vmem, ⟨12, _⟩ => ⟨S1x1x256x1024, .f32⟩
  | .local _ .vmem, ⟨13, _⟩ => ⟨S1x1x256x1024, .f32⟩
  | .local _ .vmem, ⟨14, _⟩ => ⟨S1x1x256x1024, .f32⟩
  | .local _ .vmem, ⟨15, _⟩ => ⟨S1x1x256x1024, .f32⟩
  | .local _ .vmem, ⟨16, _⟩ => ⟨S1x1x256x1024, .f32⟩
  | .local _ .vmem, ⟨17, _⟩ => ⟨S1x1x256x1024, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AdamRefIdeal.lean ====
abbrev S1 : Shape := ⟨1, ![1]⟩
abbrev S4x1024x1024 : Shape := ⟨3, ![4, 1024, 1024]⟩
abbrev S4x512x1024 : Shape := ⟨3, ![4, 512, 1024]⟩
abbrev S_ : Shape := ⟨0, ![]⟩
abbrev S4x1x512x1024 : Shape := ⟨4, ![4, 1, 512, 1024]⟩
abbrev S4x2x512x1024 : Shape := ⟨4, ![4, 2, 512, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1024x1024, .f32⟩
  | .hbm, ⟨2, _⟩ => ⟨S4x512x1024, .f32⟩
  | .hbm, ⟨3, _⟩ => ⟨S4x512x1024, .f32⟩
  | .hbm, ⟨4, _⟩ => ⟨S4x1024x1024, .f32⟩
  | .hbm, ⟨5, _⟩ => ⟨S4x1024x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x512x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x512x1024, .f32⟩
  | .hbm, ⟨14, _⟩ => ⟨S4x1x512x1024, .f32⟩
  | .hbm, ⟨15, _⟩ => ⟨S4x1x512x1024, .f32⟩
  | .hbm, ⟨16, _⟩ => ⟨S4x2x512x1024, .f32⟩
  | .hbm, ⟨17, _⟩ => ⟨S4x2x512x1024, .f32⟩
  | .hbm, ⟨18, _⟩ => ⟨S_, .f32⟩
  | .hbm, ⟨19, _⟩ => ⟨S4x2x512x1024, .f32⟩
  | .hbm, ⟨20, _⟩ => ⟨S4x2x512x1024, .f32⟩
  | .hbm, ⟨21, _⟩ => ⟨S_, .f32⟩
  | .hbm, ⟨22, _⟩ => ⟨S4x2x512x1024, .f32⟩
  | .hbm, ⟨23, _⟩ => ⟨S4x2x512x1024, .f32⟩
  | .hbm, ⟨24, _⟩ => ⟨S4x2x512x1024, .f32⟩
  | .hbm, ⟨25, _⟩ => ⟨S4x2x512x1024, .f32⟩
  | .hbm, ⟨26, _⟩ => ⟨S_, .f32⟩
  | .hbm, ⟨27, _⟩ => ⟨S4x2x512x1024, .f32⟩
  | .hbm, ⟨28, _⟩ => ⟨S4x2x512x1024, .f32⟩
  | .hbm, ⟨29, _⟩ => ⟨S4x2x512x1024, .f32⟩
  | .hbm, ⟨30, _⟩ => ⟨S_, .f32⟩
  | .hbm, ⟨31, _⟩ => ⟨S4x2x512x1024, .f32⟩
  | .hbm, ⟨32, _⟩ => ⟨S4x2x512x1024, .f32⟩
  | .hbm, ⟨33, _⟩ => ⟨S4x2x512x1024, .f32⟩
  | .hbm, ⟨34, _⟩ => ⟨S_, .f32⟩
  | .hbm, ⟨35, _⟩ => ⟨S4x2x512x1024, .f32⟩
  | .hbm, ⟨36, _⟩ => ⟨S4x2x512x1024, .f32⟩
  | .hbm, ⟨37, _⟩ => ⟨S_, .f32⟩
  | .hbm, ⟨38, _⟩ => ⟨S4x2x512x1024, .f32⟩
  | .hbm, ⟨39, _⟩ => ⟨S4x2x512x1024, .f32⟩
  | .hbm, ⟨40, _⟩ => ⟨S4x2x512x1024, .f32⟩
  | .hbm, ⟨41, _⟩ => ⟨S_, .f32⟩
  | .hbm, ⟨42, _⟩ => ⟨S4x2x512x1024, .f32⟩
  | .hbm, ⟨43, _⟩ => ⟨S4x2x512x1024, .f32⟩
  | .hbm, ⟨44, _⟩ => ⟨S4x2x512x1024, .f32⟩
  | .hbm, ⟨45, _⟩ => ⟨S4x2x512x1024, .f32⟩
  | .hbm, ⟨46, _⟩ => ⟨S_, .f32⟩
  | .hbm, ⟨47, _⟩ => ⟨S4x2x512x1024, .f32⟩
  | .hbm, ⟨48, _⟩ => ⟨S4x2x512x1024, .f32⟩
  | .hbm, ⟨49, _⟩ => ⟨S4x2x512x1024, .f32⟩
  | .hbm, ⟨50, _⟩ => ⟨S_, .f32⟩
  | .hbm, ⟨51, _⟩ => ⟨S4x2x512x1024, .f32⟩
  | .hbm, ⟨52, _⟩ => ⟨S4x2x512x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Qk.lean ====
abbrev S8192x1280 : Shape := ⟨2, ![8192, 1280]⟩
abbrev S64 : Shape := ⟨1, ![64]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S2x2 : Shape := ⟨2, ![2, 2]⟩
abbrev S2x1x2x1 : Shape := ⟨4, ![2, 1, 2, 1]⟩
abbrev S2x64x2x64 : Shape := ⟨4, ![2, 64, 2, 64]⟩
abbrev S128x128 : Shape := ⟨2, ![128, 128]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S8192x512 : Shape := ⟨2, ![8192, 512]⟩
abbrev S8192x256 : Shape := ⟨2, ![8192, 256]⟩
abbrev S512x1280 : Shape := ⟨2, ![512, 1280]⟩
abbrev S512x256 : Shape := ⟨2, ![512, 256]⟩
abbrev S512x128 : Shape := ⟨2, ![512, 128]⟩

abbrev nBuf : Space → Nat
  | .hbm => 45
  | .vmem => 10
  | .smem => 0
  | _ => 0

abbrev bufTy : (tb : Table) → Fin (tcTables nBuf tb) → BufTy
  | .hbm, ⟨0, _⟩ => ⟨S8192x1280, .f32⟩
  | .hbm, ⟨1, _⟩ => ⟨S64, .f32⟩
  | .hbm, ⟨2, _⟩ => ⟨S64, .f32⟩
  | .hbm, ⟨3, _⟩ => ⟨S8x8, .i32⟩
  | .hbm, ⟨4, _⟩ => ⟨S8x8, .i32⟩
  | .hbm, ⟨5, _⟩ => ⟨S_, .i32⟩
  | .hbm, ⟨6, _⟩ => ⟨S8x8, .i32⟩
  | .hbm, ⟨7, _⟩ => ⟨S8x8, .i32⟩
  | .hbm, ⟨8, _⟩ => ⟨S8x8, .i1⟩
  | .hbm, ⟨9, _⟩ => ⟨S8x8, .f32⟩
  | .hbm, ⟨10, _⟩ => ⟨S_, .f32⟩
  | .hbm, ⟨11, _⟩ => ⟨S64x64, .f32⟩
  | .hbm, ⟨12, _⟩ => ⟨S8x1x8x1, .f32⟩
  | .hbm, ⟨13, _⟩ => ⟨S1x64x1x64, .f32⟩
  | .hbm, ⟨14, _⟩ => ⟨S8x64x8x64, .f32⟩
  | .hbm, ⟨15, _⟩ => ⟨S8x64x8x64, .f32⟩
  | .hbm, ⟨16, _⟩ => ⟨S8x64x8x64, .f32⟩
  | .hbm, ⟨17, _⟩ => ⟨S512x512, .f32⟩
  | .hbm, ⟨18, _⟩ => ⟨S512x512, .bf16⟩
  | .hbm, ⟨19, _⟩ => ⟨S2x2, .i32⟩
  | .hbm, ⟨20, _⟩ => ⟨S2x2, .i32⟩
  | .hbm, ⟨21, _⟩ => ⟨S_, .i32⟩
  | .hbm, ⟨22, _⟩ => ⟨S2x2, .i32⟩
  | .hbm, ⟨23, _⟩ => ⟨S2x2, .i32⟩
  | .hbm, ⟨24, _⟩ => ⟨S2x2, .i1⟩
  | .hbm, ⟨25, _⟩ => ⟨S2x2, .f32⟩
  | .hbm, ⟨26, _⟩ => ⟨S_, .f32⟩
  | .hbm, ⟨27, _⟩ => ⟨S64x64, .f32⟩
  | .hbm, ⟨28, _⟩ => ⟨S2x1x2x1, .f32⟩
  | .hbm, ⟨29, _⟩ => ⟨S1x64x1x64, .f32⟩
  | .hbm, ⟨30, _⟩ => ⟨S2x64x2x64, .f32⟩
  | .hbm, ⟨31, _⟩ => ⟨S2x64x2x64, .f32⟩
  | .hbm, ⟨32, _⟩ => ⟨S2x64x2x64, .f32⟩
  | .hbm, ⟨33, _⟩ => ⟨S128x128, .f32⟩
  | .hbm, ⟨34, _⟩ => ⟨S128x128, .bf16⟩
  | .hbm, ⟨35, _⟩ => ⟨S1x64, .f32⟩
  | .hbm, ⟨36, _⟩ => ⟨S1x1x1x64, .f32⟩
  | .hbm, ⟨37, _⟩ => ⟨S1x1x8x64, .f32⟩
  | .hbm, ⟨38, _⟩ => ⟨S1x512, .f32⟩
  | .hbm, ⟨39, _⟩ => ⟨S1x64, .f32⟩
  | .hbm, ⟨40, _⟩ => ⟨S1x1x1x64, .f32⟩
  | .hbm, ⟨41, _⟩ => ⟨S1x1x2x64, .f32⟩
  | .hbm, ⟨42, _⟩ => ⟨S1x128, .f32⟩
  | .hbm, ⟨43, _⟩ => ⟨S8192x512, .bf16⟩
  | .hbm, ⟨44, _⟩ => ⟨S8192x256, .bf16⟩
  | .local _ .vmem, ⟨0, _⟩ => ⟨S512x1280, .f32⟩
  | .local _ .vmem, ⟨1, _⟩ => ⟨S512x1280, .f32⟩
  | .local _ .vmem, ⟨2, _⟩ => ⟨S1x512, .f32⟩
  | .local _ .vmem, ⟨3, _⟩ => ⟨S1x128, .f32⟩
  | .local _ .vmem, ⟨4, _⟩ => ⟨S512x512, .bf16⟩
  | .local _ .vmem, ⟨5, _⟩ => ⟨S128x128, .bf16⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkRefIdeal.lean ====
abbrev S8192x1280 : Shape := ⟨2, ![8192, 1280]⟩
abbrev S64 : Shape := ⟨1, ![64]⟩
abbrev S8192x512 : Shape := ⟨2, ![8192, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x1x64 : Shape := ⟨3, ![1, 1, 64]⟩
abbrev S8192x128 : Shape := ⟨2, ![8192, 128]⟩
abbrev S8192x2x64 : Shape := ⟨3, ![8192, 2, 64]⟩
abbrev S8192x2 : Shape := ⟨2, ![8192, 2]⟩
abbrev S8192x2x1 : Shape := ⟨3, ![8192, 2, 1]⟩
abbrev S8192x256 : Shape := ⟨2, ![8192, 256]⟩

abbrev nBuf : Space → Nat
  | .hbm => 48
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S64, .f32⟩
  | .hbm, ⟨2, _⟩ => ⟨S64, .f32⟩
  | .hbm, ⟨3, _⟩ => ⟨S8192x512, .f32⟩
  | .hbm, ⟨4, _⟩ => ⟨S8192x8x64, .f32⟩
  | .hbm, ⟨5, _⟩ => ⟨S8192x8x64, .f32⟩
  | .hbm, ⟨6, _⟩ => ⟨S_, .f32⟩
  | .hbm, ⟨7, _⟩ => ⟨S8192x8, .f32⟩
  | .hbm, ⟨8, _⟩ => ⟨S8192x8x1, .f32⟩
  | .hbm, ⟨9, _⟩ => ⟨S_, .f32⟩
  | .hbm, ⟨10, _⟩ => ⟨S8192x8x1, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x64, .f32⟩
  | .hbm, ⟨17, _⟩ => ⟨S8192x8x64, .f32⟩
  | .hbm, ⟨18, _⟩ => ⟨S1x1x64, .f32⟩
  | .hbm, ⟨19, _⟩ => ⟨S8192x8x64, .f32⟩
  | .hbm, ⟨20, _⟩ => ⟨S8192x8x64, .f32⟩
  | .hbm, ⟨21, _⟩ => ⟨S_, .f32⟩
  | .hbm, ⟨22, _⟩ => ⟨S8192x8x64, .f32⟩
  | .hbm, ⟨23, _⟩ => ⟨S8192x8x64, .f32⟩
  | .hbm, ⟨24, _⟩ => ⟨S8192x128, .f32⟩
  | .hbm, ⟨25, _⟩ => ⟨S8192x2x64, .f32⟩
  | .hbm, ⟨26, _⟩ => ⟨S8192x2x64, .f32⟩
  | .hbm, ⟨27, _⟩ => ⟨S_, .f32⟩
  | .hbm, ⟨28, _⟩ => ⟨S8192x2, .f32⟩
  | .hbm, ⟨29, _⟩ => ⟨S8192x2x1, .f32⟩
  | .hbm, ⟨30, _⟩ => ⟨S_, .f32⟩
  | .hbm, ⟨31, _⟩ => ⟨S8192x2x1, .f32⟩
  | .hbm, ⟨32, _⟩ => ⟨S8192x2x1, .f32⟩
  | .hbm, ⟨33, _⟩ => ⟨S_, .f32⟩
  | .hbm, ⟨34, _⟩ => ⟨S8192x2x1, .f32⟩
  | .hbm, ⟨35, _⟩ => ⟨S8192x2x1, .f32⟩
  | .hbm, ⟨36, _⟩ => ⟨S8192x2x1, .f32⟩
  | .hbm, ⟨37, _⟩ => ⟨S8192x2x64, .f32⟩
  | .hbm, ⟨38, _⟩ => ⟨S8192x2x64, .f32⟩
  | .hbm, ⟨39, _⟩ => ⟨S1x1x64, .f32⟩
  | .hbm, ⟨40, _⟩ => ⟨S8192x2x64, .f32⟩
  | .hbm, ⟨41, _⟩ => ⟨S8192x2x64, .f32⟩
  | .hbm, ⟨42, _⟩ => ⟨S8192x128, .f32⟩
  | .hbm, ⟨43, _⟩ => ⟨S8192x128, .f32⟩
  | .hbm, ⟨44, _⟩ => ⟨S8192x256, .f32⟩
  | .hbm, ⟨45, _⟩ => ⟨S8192x512, .f32⟩
  | .hbm, ⟨46, _⟩ => ⟨S8192x512, .bf16⟩
  | .hbm, ⟨47, _⟩ => ⟨S8192x256, .bf16⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Gz.lean ====
abbrev S8192x512 : Shape := ⟨2, ![8192, 512]⟩
abbrev S3x8192x256 : Shape := ⟨3, ![3, 8192, 256]⟩
abbrev S8192x1280 : Shape := ⟨2, ![8192, 1280]⟩
abbrev S64 : Shape := ⟨1, ![64]⟩
abbrev S512 : Shape := ⟨1, ![512]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S2x2 : Shape := ⟨2, ![2, 2]⟩
abbrev S2x1x2x1 : Shape := ⟨4, ![2, 1, 2, 1]⟩
abbrev S2x64x2x64 : Shape := ⟨4, ![2, 64, 2, 64]⟩
abbrev S128x128 : Shape := ⟨2, ![128, 128]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S8x512 : Shape := ⟨2, ![8, 512]⟩
abbrev S8x128 : Shape := ⟨2, ![8, 128]⟩
abbrev S128x512 : Shape := ⟨2, ![128, 512]⟩
abbrev S1x128x256 : Shape := ⟨3, ![1, 128, 256]⟩
abbrev S128x1280 : Shape := ⟨2, ![128, 1280]⟩
abbrev S16x8x512 : Shape := ⟨3, ![16, 8, 512]⟩
abbrev S128x256 : Shape := ⟨2, ![128, 256]⟩
abbrev S16x8x128 : Shape := ⟨3, ![16, 8, 128]⟩

abbrev nBuf : Space → Nat
  | .hbm => 54
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S3x8192x256, .f32⟩
  | .hbm, ⟨2, _⟩ => ⟨S8192x1280, .f32⟩
  | .hbm, ⟨3, _⟩ => ⟨S64, .f32⟩
  | .hbm, ⟨4, _⟩ => ⟨S64, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S512, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S_, .f32⟩
  | .hbm, ⟨17, _⟩ => ⟨S64x64, .f32⟩
  | .hbm, ⟨18, _⟩ => ⟨S8x1x8x1, .f32⟩
  | .hbm, ⟨19, _⟩ => ⟨S1x64x1x64, .f32⟩
  | .hbm, ⟨20, _⟩ => ⟨S8x64x8x64, .f32⟩
  | .hbm, ⟨21, _⟩ => ⟨S8x64x8x64, .f32⟩
  | .hbm, ⟨22, _⟩ => ⟨S8x64x8x64, .f32⟩
  | .hbm, ⟨23, _⟩ => ⟨S512x512, .f32⟩
  | .hbm, ⟨24, _⟩ => ⟨S512x512, .bf16⟩
  | .hbm, ⟨25, _⟩ => ⟨S2x2, .i32⟩
  | .hbm, ⟨26, _⟩ => ⟨S2x2, .i32⟩
  | .hbm, ⟨27, _⟩ => ⟨S_, .i32⟩
  | .hbm, ⟨28, _⟩ => ⟨S2x2, .i32⟩
  | .hbm, ⟨29, _⟩ => ⟨S2x2, .i32⟩
  | .hbm, ⟨30, _⟩ => ⟨S2x2, .i1⟩
  | .hbm, ⟨31, _⟩ => ⟨S2x2, .f32⟩
  | .hbm, ⟨32, _⟩ => ⟨S_, .f32⟩
  | .hbm, ⟨33, _⟩ => ⟨S64x64, .f32⟩
  | .hbm, ⟨34, _⟩ => ⟨S2x1x2x1, .f32⟩
  | .hbm, ⟨35, _⟩ => ⟨S1x64x1x64, .f32⟩
  | .hbm, ⟨36, _⟩ => ⟨S2x64x2x64, .f32⟩
  | .hbm, ⟨37, _⟩ => ⟨S2x64x2x64, .f32⟩
  | .hbm, ⟨38, _⟩ => ⟨S2x64x2x64, .f32⟩
  | .hbm, ⟨39, _⟩ => ⟨S128x128, .f32⟩
  | .hbm, ⟨40, _⟩ => ⟨S128x128, .bf16⟩
  | .hbm, ⟨41, _⟩ => ⟨S1x64, .f32⟩
  | .hbm, ⟨42, _⟩ => ⟨S1x1x1x64, .f32⟩
  | .hbm, ⟨43, _⟩ => ⟨S1x1x8x64, .f32⟩
  | .hbm, ⟨44, _⟩ => ⟨S1x512, .f32⟩
  | .hbm, ⟨45, _⟩ => ⟨S1x64, .f32⟩
  | .hbm, ⟨46, _⟩ => ⟨S1x1x1x64, .f32⟩
  | .hbm, ⟨47, _⟩ => ⟨S1x1x2x64, .f32⟩
  | .hbm, ⟨48, _⟩ => ⟨S1x128, .f32⟩
  | .hbm, ⟨49, _⟩ => ⟨S1x512, .f32⟩
  | .hbm, ⟨50, _⟩ => ⟨S8192x1280, .bf16⟩
  | .hbm, ⟨51, _⟩ => ⟨S8x512, .f32⟩
  | .hbm, ⟨52, _⟩ => ⟨S8x128, .f32⟩
  | .hbm, ⟨53, _⟩ => ⟨S8x512, .f32⟩
  | .local _ .vmem, ⟨0, _⟩ => ⟨S128x512, .f32⟩
  | .local _ .vmem, ⟨1, _⟩ => ⟨S128x512, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S128x1280, .f32⟩
  | .local _ .vmem, ⟨9, _⟩ => ⟨S128x1280, .f32⟩
  | .local _ .vmem, ⟨10, _⟩ => ⟨S1x512, .f32⟩
  | .local _ .vmem, ⟨11, _⟩ => ⟨S1x128, .f32⟩
  | .local _ .vmem, ⟨12, _⟩ => ⟨S512x512, .bf16⟩
  | .local _ .vmem, ⟨13, _⟩ => ⟨S128x128, .bf16⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S1x512, .f32⟩
  | .local _ .vmem, ⟨21, _⟩ => ⟨S128x1280, .bf16⟩
  | .local _ .vmem, ⟨22, _⟩ => ⟨S128x1280, .bf16⟩
  | .local _ .vmem, ⟨23, _⟩ => ⟨S8x512, .f32⟩
  | .local _ .vmem, ⟨24, _⟩ => ⟨S8x128, .f32⟩
  | .local _ .vmem, ⟨25, _⟩ => ⟨S8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_v27_2 : Ref sig .tc := ⟨.hbm, 52, rfl⟩
abbrev main_v27_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  ![c2_i32.toNat, v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1280 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== GzRefIdeal.lean ====
abbrev S8192x512 : Shape := ⟨2, ![8192, 512]⟩
abbrev S3x8192x256 : Shape := ⟨3, ![3, 8192, 256]⟩
abbrev S8192x1280 : Shape := ⟨2, ![8192, 1280]⟩
abbrev S64 : Shape := ⟨1, ![64]⟩
abbrev S512 : Shape := ⟨1, ![512]⟩
abbrev S8x8x64 : Shape := ⟨3, ![8, 8, 64]⟩
abbrev S8x2x64 : Shape := ⟨3, ![8, 2, 64]⟩
abbrev S8x512 : Shape := ⟨2, ![8, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1024x8x8x64 : Shape := ⟨4, ![1024, 8, 8, 64]⟩
abbrev S1x8x8x64 : Shape := ⟨4, ![1, 8, 8, 64]⟩
abbrev S8192x128 : Shape := ⟨2, ![8192, 128]⟩
abbrev S8192x2x64 : Shape := ⟨3, ![8192, 2, 64]⟩
abbrev S8192x2 : Shape := ⟨2, ![8192, 2]⟩
abbrev S8192x2x1 : Shape := ⟨3, ![8192, 2, 1]⟩
abbrev S1024x8x2x64 : Shape := ⟨4, ![1024, 8, 2, 64]⟩
abbrev S1x8x2x64 : Shape := ⟨4, ![1, 8, 2, 64]⟩
abbrev S1x8192x2x64 : Shape := ⟨4, ![1, 8192, 2, 64]⟩
abbrev S1x128x2x64 : Shape := ⟨4, ![1, 128, 2, 64]⟩
abbrev S1x8448x2x64 : Shape := ⟨4, ![1, 8448, 2, 64]⟩
abbrev S1x66x128x2x64 : Shape := ⟨5, ![1, 66, 128, 2, 64]⟩
abbrev S1x64x128x2x64 : Shape := ⟨5, ![1, 64, 128, 2, 64]⟩
abbrev S1x64x384x2x64 : Shape := ⟨5, ![1, 64, 384, 2, 64]⟩
abbrev S1024x8x512 : Shape := ⟨3, ![1024, 8, 512]⟩
abbrev S1x8x512 : Shape := ⟨3, ![1, 8, 512]⟩
abbrev S3x8192x128 : Shape := ⟨3, ![3, 8192, 128]⟩
abbrev S3x64x128x2x64 : Shape := ⟨5, ![3, 64, 128, 2, 64]⟩
abbrev S64x3x128x2x64 : Shape := ⟨5, ![64, 3, 128, 2, 64]⟩
abbrev S8x128 : Shape := ⟨2, ![8, 128]⟩

abbrev nBuf : Space → Nat
  | .hbm => 226
  | .vmem => 0
  | .smem => 0
  | _ => 0

abbrev hbmTy0_0 (i : Nat) : BufTy := match i % 128 with
  | 0 => ⟨S8192x512, .f32⟩
  | 1 => ⟨S3x8192x256, .f32⟩
  | 2 => ⟨S8192x1280, .f32⟩
  | 3 => ⟨S64, .f32⟩
  | 4 => ⟨S64, .f32⟩
  | 5 => ⟨S8192x512, .f32⟩
  | 6 => ⟨S8192x512, .f32⟩
  | 7 => ⟨S8192x512, .f32⟩
  | 8 => ⟨S512, .f32⟩
  | 9 => ⟨S8x8x64, .f32⟩
  | 10 => ⟨S8x2x64, .f32⟩
  | 11 => ⟨S8x512, .f32⟩
  | 12 => ⟨S8192x512, .f32⟩
  | 13 => ⟨S8192x8x64, .f32⟩
  | 14 => ⟨S8192x8x64, .f32⟩
  | 15 => ⟨S_, .f32⟩
  | 16 => ⟨S8192x8, .f32⟩
  | 17 => ⟨S8192x8x1, .f32⟩
  | 18 => ⟨S_, .f32⟩
  | 19 => ⟨S8192x8x1, .f32⟩
  | 20 => ⟨S8192x8x1, .f32⟩
  | 21 => ⟨S_, .f32⟩
  | 22 => ⟨S8192x8x1, .f32⟩
  | 23 => ⟨S8192x8x1, .f32⟩
  | 24 => ⟨S8192x8x1, .f32⟩
  | 25 => ⟨S8192x8x1, .f32⟩
  | 26 => ⟨S_, .f32⟩
  | 27 => ⟨S8192x8x1, .f32⟩
  | 28 => ⟨S8192x8x1, .f32⟩
  | 29 => ⟨S8192x8x64, .f32⟩
  | 30 => ⟨S8192x8x64, .f32⟩
  | 31 => ⟨S1024x8x8x64, .f32⟩
  | 32 => ⟨S1x8x8x64, .f32⟩
  | 33 => ⟨S1024x8x8x64, .f32⟩
  | 34 => ⟨S1024x8x8x64, .f32⟩
  | 35 => ⟨S8192x8x64, .f32⟩
  | 36 => ⟨S_, .f32⟩
  | 37 => ⟨S8192x8x64, .f32⟩
  | 38 => ⟨S8192x8x64, .f32⟩
  | 39 => ⟨S8192x128, .f32⟩
  | 40 => ⟨S8192x2x64, .f32⟩
  | 41 => ⟨S8192x2x64, .f32⟩
  | 42 => ⟨S_, .f32⟩
  | 43 => ⟨S8192x2, .f32⟩
  | 44 => ⟨S8192x2x1, .f32⟩
  | 45 => ⟨S_, .f32⟩
  | 46 => ⟨S8192x2x1, .f32⟩
  | 47 => ⟨S8192x2x1, .f32⟩
  | 48 => ⟨S_, .f32⟩
  | 49 => ⟨S8192x2x1, .f32⟩
  | 50 => ⟨S8192x2x1, .f32⟩
  | 51 => ⟨S8192x2x1, .f32⟩
  | 52 => ⟨S8192x2x1, .f32⟩
  | 53 => ⟨S_, .f32⟩
  | 54 => ⟨S8192x2x1, .f32⟩
  | 55 => ⟨S8192x2x1, .f32⟩
  | 56 => ⟨S8192x2x64, .f32⟩
  | 57 => ⟨S8192x2x64, .f32⟩
  | 58 => ⟨S1024x8x2x64, .f32⟩
  | 59 => ⟨S1x8x2x64, .f32⟩
  | 60 => ⟨S1024x8x2x64, .f32⟩
  | 61 => ⟨S1024x8x2x64, .f32⟩
  | 62 => ⟨S8192x2x64, .f32⟩
  | 63 => ⟨S8192x128, .f32⟩
  | 64 => ⟨S8192x2x64, .f32⟩
  | 65 => ⟨S8192x512, .f32⟩
  | 66 => ⟨S1x8192x2x64, .f32⟩
  | 67 => ⟨S_, .f32⟩
  | 68 => ⟨S1x128x2x64, .f32⟩
  | 69 => ⟨S1x8448x2x64, .f32⟩
  | 70 => ⟨S_, .f32⟩
  | 71 => ⟨S1x128x2x64, .f32⟩
  | 72 => ⟨S_, .f32⟩
  | 73 => ⟨S1x128x2x64, .f32⟩
  | 74 => ⟨S1x66x128x2x64, .f32⟩
  | 75 => ⟨S1x64x128x2x64, .f32⟩
  | 76 => ⟨S1x64x128x2x64, .f32⟩
  | 77 => ⟨S1x64x128x2x64, .f32⟩
  | 78 => ⟨S1x64x384x2x64, .f32⟩
  | 79 => ⟨S1x8192x2x64, .f32⟩
  | 80 => ⟨S_, .f32⟩
  | 81 => ⟨S1x128x2x64, .f32⟩
  | 82 => ⟨S1x8448x2x64, .f32⟩
  | 83 => ⟨S_, .f32⟩
  | 84 => ⟨S1x128x2x64, .f32⟩
  | 85 => ⟨S_, .f32⟩
  | 86 => ⟨S1x128x2x64, .f32⟩
  | 87 => ⟨S1x66x128x2x64, .f32⟩
  | 88 => ⟨S1x64x128x2x64, .f32⟩
  | 89 => ⟨S1x64x128x2x64, .f32⟩
  | 90 => ⟨S1x64x128x2x64, .f32⟩
  | 91 => ⟨S1x64x384x2x64, .f32⟩
  | 92 => ⟨S1024x8x512, .f32⟩
  | 93 => ⟨S1x8x512, .f32⟩
  | 94 => ⟨S1024x8x512, .f32⟩
  | 95 => ⟨S1024x8x512, .f32⟩
  | 96 => ⟨S8192x512, .f32⟩
  | 97 => ⟨S8192x8x64, .f32⟩
  | 98 => ⟨S3x8192x128, .f32⟩
  | 99 => ⟨S3x64x128x2x64, .f32⟩
  | 100 => ⟨S64x3x128x2x64, .f32⟩
  | 101 => ⟨S1x64x384x2x64, .f32⟩
  | 102 => ⟨S3x8192x128, .f32⟩
  | 103 => ⟨S3x64x128x2x64, .f32⟩
  | 104 => ⟨S64x3x128x2x64, .f32⟩
  | 105 => ⟨S1x64x384x2x64, .f32⟩
  | 106 => ⟨S8192x512, .f32⟩
  | 107 => ⟨S1024x8x512, .f32⟩
  | 108 => ⟨S1024x8x512, .f32⟩
  | 109 => ⟨S_, .f32⟩
  | 110 => ⟨S8x512, .f32⟩
  | 111 => ⟨S1x8x512, .f32⟩
  | 112 => ⟨S1024x8x512, .f32⟩
  | 113 => ⟨S1024x8x512, .f32⟩
  | 114 => ⟨S_, .f32⟩
  | 115 => ⟨S8x512, .f32⟩
  | 116 => ⟨S8192x512, .f32⟩
  | 117 => ⟨S8192x512, .f32⟩
  | 118 => ⟨S1x64x128x2x64, .f32⟩
  | 119 => ⟨S1x64x128x2x64, .f32⟩
  | 120 => ⟨S1x64x128x2x64, .f32⟩
  | 121 => ⟨S_, .f32⟩
  | 122 => ⟨S1x66x128x2x64, .f32⟩
  | 123 => ⟨S_, .f32⟩
  | 124 => ⟨S1x66x128x2x64, .f32⟩
  | 125 => ⟨S1x66x128x2x64, .f32⟩
  | 126 => ⟨S_, .f32⟩
  | 127 => ⟨S1x66x128x2x64, .f32⟩
  | _ => ⟨S8192x512, .f32⟩

abbrev hbmTy0_1 (i : Nat) : BufTy := match i % 128 with
  | 0 => ⟨S1x66x128x2x64, .f32⟩
  | 1 => ⟨S1x8448x2x64, .f32⟩
  | 2 => ⟨S1x128x2x64, .f32⟩
  | 3 => ⟨S1x8192x2x64, .f32⟩
  | 4 => ⟨S1x128x2x64, .f32⟩
  | 5 => ⟨S_, .f32⟩
  | 6 => ⟨S8192x2x64, .f32⟩
  | 7 => ⟨S1x64x128x2x64, .f32⟩
  | 8 => ⟨S1x64x128x2x64, .f32⟩
  | 9 => ⟨S1x64x128x2x64, .f32⟩
  | 10 => ⟨S_, .f32⟩
  | 11 => ⟨S1x66x128x2x64, .f32⟩
  | 12 => ⟨S_, .f32⟩
  | 13 => ⟨S1x66x128x2x64, .f32⟩
  | 14 => ⟨S1x66x128x2x64, .f32⟩
  | 15 => ⟨S_, .f32⟩
  | 16 => ⟨S1x66x128x2x64, .f32⟩
  | 17 => ⟨S1x66x128x2x64, .f32⟩
  | 18 => ⟨S1x8448x2x64, .f32⟩
  | 19 => ⟨S1x128x2x64, .f32⟩
  | 20 => ⟨S1x8192x2x64, .f32⟩
  | 21 => ⟨S1x128x2x64, .f32⟩
  | 22 => ⟨S_, .f32⟩
  | 23 => ⟨S8192x2x64, .f32⟩
  | 24 => ⟨S_, .f32⟩
  | 25 => ⟨S8192x1280, .f32⟩
  | 26 => ⟨S8192x128, .f32⟩
  | 27 => ⟨S_, .f32⟩
  | 28 => ⟨S8192x1280, .f32⟩
  | 29 => ⟨S8192x1280, .f32⟩
  | 30 => ⟨S1024x8x2x64, .f32⟩
  | 31 => ⟨S1024x8x2x64, .f32⟩
  | 32 => ⟨S_, .f32⟩
  | 33 => ⟨S8x2x64, .f32⟩
  | 34 => ⟨S1x8x2x64, .f32⟩
  | 35 => ⟨S1024x8x2x64, .f32⟩
  | 36 => ⟨S1024x8x2x64, .f32⟩
  | 37 => ⟨S_, .f32⟩
  | 38 => ⟨S8x2x64, .f32⟩
  | 39 => ⟨S8192x2x64, .f32⟩
  | 40 => ⟨S8192x2x64, .f32⟩
  | 41 => ⟨S_, .f32⟩
  | 42 => ⟨S8192x2, .f32⟩
  | 43 => ⟨S8192x2x1, .f32⟩
  | 44 => ⟨S8192x2x64, .f32⟩
  | 45 => ⟨S8192x2x64, .f32⟩
  | 46 => ⟨S8192x2x1, .f32⟩
  | 47 => ⟨S_, .f32⟩
  | 48 => ⟨S8192x2x1, .f32⟩
  | 49 => ⟨S8192x2x1, .f32⟩
  | 50 => ⟨S_, .f32⟩
  | 51 => ⟨S8192x2, .f32⟩
  | 52 => ⟨S8192x2x64, .f32⟩
  | 53 => ⟨S8192x2x64, .f32⟩
  | 54 => ⟨S8192x2x64, .f32⟩
  | 55 => ⟨S8192x2x64, .f32⟩
  | 56 => ⟨S8192x2x64, .f32⟩
  | 57 => ⟨S8192x128, .f32⟩
  | 58 => ⟨S_, .f32⟩
  | 59 => ⟨S8192x1280, .f32⟩
  | 60 => ⟨S8192x1280, .f32⟩
  | 61 => ⟨S_, .f32⟩
  | 62 => ⟨S8192x8x64, .f32⟩
  | 63 => ⟨S8192x8x64, .f32⟩
  | 64 => ⟨S1024x8x8x64, .f32⟩
  | 65 => ⟨S1024x8x8x64, .f32⟩
  | 66 => ⟨S_, .f32⟩
  | 67 => ⟨S8x8x64, .f32⟩
  | 68 => ⟨S1x8x8x64, .f32⟩
  | 69 => ⟨S1024x8x8x64, .f32⟩
  | 70 => ⟨S1024x8x8x64, .f32⟩
  | 71 => ⟨S_, .f32⟩
  | 72 => ⟨S8x8x64, .f32⟩
  | 73 => ⟨S8192x8x64, .f32⟩
  | 74 => ⟨S8192x8x64, .f32⟩
  | 75 => ⟨S_, .f32⟩
  | 76 => ⟨S8192x8, .f32⟩
  | 77 => ⟨S8192x8x1, .f32⟩
  | 78 => ⟨S8192x8x64, .f32⟩
  | 79 => ⟨S8192x8x64, .f32⟩
  | 80 => ⟨S8192x8x1, .f32⟩
  | 81 => ⟨S_, .f32⟩
  | 82 => ⟨S8192x8x1, .f32⟩
  | 83 => ⟨S8192x8x1, .f32⟩
  | 84 => ⟨S_, .f32⟩
  | 85 => ⟨S8192x8, .f32⟩
  | 86 => ⟨S8192x8x64, .f32⟩
  | 87 => ⟨S8192x8x64, .f32⟩
  | 88 => ⟨S8192x8x64, .f32⟩
  | 89 => ⟨S8192x8x64, .f32⟩
  | 90 => ⟨S8192x8x64, .f32⟩
  | 91 => ⟨S8192x512, .f32⟩
  | 92 => ⟨S_, .f32⟩
  | 93 => ⟨S8192x1280, .f32⟩
  | 94 => ⟨S8192x1280, .f32⟩
  | 95 => ⟨S8192x1280, .bf16⟩
  | 96 => ⟨S8x512, .f32⟩
  | 97 => ⟨S8x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_14 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_15 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_16 : Ref sig .tc := ⟨.hbm, 121, rfl⟩
abbrev main_v95 : Ref sig .tc := ⟨.hbm, 122, rfl⟩
abbrev main_cst_17 : Ref sig .tc := ⟨.hbm, 123, rfl⟩
abbrev main_v96 : Ref sig .tc := ⟨.hbm, 124, rfl⟩
abbrev main_v97 : Ref sig .tc := ⟨.hbm, 125, rfl⟩
abbrev main_cst_18 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_19 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_20 : Ref sig .tc := ⟨.hbm, 138, rfl⟩
abbrev main_v108 : Ref sig .tc := ⟨.hbm, 139, rfl⟩
abbrev main_cst_21 : Ref sig .tc := ⟨.hbm, 140, rfl⟩
abbrev main_v109 : Ref sig .tc := ⟨.hbm, 141, rfl⟩
abbrev main_v110 : Ref sig .tc := ⟨.hbm, 142, rfl⟩
abbrev main_cst_22 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_23 : Ref sig .tc := ⟨.hbm, 150, rfl⟩
abbrev main_v117 : Ref sig .tc := ⟨.hbm, 151, rfl⟩
abbrev main_cst_24 : Ref sig .tc := ⟨.hbm, 152, rfl⟩
abbrev main_v118 : Ref sig .tc := ⟨.hbm, 153, rfl⟩
abbrev main_v119 : Ref sig .tc := ⟨.hbm, 154, rfl⟩
abbrev main_cst_25 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_26 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_27 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_28 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_29 : Ref sig .tc := ⟨.hbm, 175, rfl⟩
abbrev main_v136 : Ref sig .tc := ⟨.hbm, 176, rfl⟩
abbrev main_v137 : Ref sig .tc := ⟨.hbm, 177, rfl⟩
abbrev main_cst_30 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_31 : Ref sig .tc := ⟨.hbm, 186, rfl⟩
abbrev main_v145 : Ref sig .tc := ⟨.hbm, 187, rfl⟩
abbrev main_v146 : Ref sig .tc := ⟨.hbm, 188, rfl⟩
abbrev main_cst_32 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_33 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_34 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_cst_35 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_cst_36 : Ref sig .tc := ⟨.hbm, 209, rfl⟩
abbrev main_v163 : Ref sig .tc := ⟨.hbm, 210, rfl⟩
abbrev main_v164 : Ref sig .tc := ⟨.hbm, 211, rfl⟩
abbrev main_cst_37 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_cst_38 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩

abbrev nD : Nat := 1
abbrev τ : Topo := Topo.v7x

variable {F : FTy → Type} [FloatOps F]
-- ==== Proof.Row.lean ====
/- One row of the attention with a sink, over the extended reals: the scores of one query against its
   384 key slots (⊥ where masked), the sink, and the products of the gradient with the values.
   Two texts of its gradient, the kernel's and the one `jax.vjp` writes, are equal where the inputs are real. -/
module

public import Idealize.ShloMosaic.Lib.Pointwise

@[expose] public section

noncomputable section

namespace Cert.Row

open Idealize.ShloMosaic

/-- A finite sum of reals, read in the extended reals. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- The value is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.zero : IsReal 0 := ⟨0, EReal.coe_zero.symm⟩

theorem IsReal.coe (r : ℝ) : IsReal (r : EReal) := ⟨r, rfl⟩

theorem IsReal.sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- A negated sum of reals is the sum of the negations. -/
theorem neg_sum {ι : Type*} (s : Finset ι) (f : ι → EReal) (h : ∀ i, IsReal (f i)) :
    -(∑ i ∈ s, f i) = ∑ i ∈ s, -f i := by
  choose g hg using h
  have : f = fun i => (g i : EReal) := funext hg
  subst this
  simp only [← EReal.coe_neg, ← coe_sum, Finset.sum_neg_distrib]

section
variable {n : Nat} (S G : Fin n → EReal) (sk w : EReal)

/-- The largest score. -/
def top : EReal := (Finset.univ : Finset (Fin n)).fold max ⊥ S
/-- The largest of the scores and the sink. -/
def mx : EReal := max (top S) sk
/-- The exponential of a score below the maximum. -/
def ex (c : Fin n) : EReal := Ideal.exp (S c - mx S sk)
/-- The exponential of the sink below the maximum. -/
def es : EReal := Ideal.exp (sk - mx S sk)
/-- The softmax's denominator. -/
def den : EReal := (∑ c, ex S sk c) + es S sk

/-- The probability of a key, by the reciprocal of the denominator. -/
def p (c : Fin n) : EReal := ex S sk c * Ideal.div 1 (den S sk)
/-- The probability of the sink. -/
def ps : EReal := es S sk * Ideal.div 1 (den S sk)
/-- The probabilities' sum against the gradient. -/
def dlt : EReal := ∑ c, p S sk c * G c
/-- The gradient of a score. -/
def ds (c : Fin n) : EReal := p S sk c * (G c - dlt S G sk)
/-- The sink's share, which the kernel subtracts. -/
def gsk : EReal := ps S sk * dlt S G sk

/-- The gradient of the denominator. -/
def rA : EReal := -(∑ c, G c * Ideal.div 1 (den S sk * den S sk) * ex S sk c)
/-- The gradient of a score through its exponential. -/
def rds0 (c : Fin n) : EReal := (Ideal.div (G c) (den S sk) + rA S G sk) * ex S sk c
/-- The gradient of the subtracted maximum. -/
def rgm : EReal := -(rA S G sk * es S sk) + ∑ c, -(rds0 S G sk c)
/-- Whether a score is the row's largest, as 1 or 0. -/
def hit (c : Fin n) : EReal := if S c = top S then 1 else 0
/-- The gradient of a score: through its exponential, and through the maximum shared among the largest. -/
def rds (c : Fin n) : EReal := rds0 S G sk c + Ideal.div (rgm S G sk * w) (∑ c', hit S c') * hit S c
/-- The gradient of the sink of one row. -/
def rgs : EReal := rA S G sk * es S sk
end

/-- What the inputs of a row satisfy: every score is real or masked, one is real, the sink is real. -/
structure Ok {n : Nat} (S : Fin n → EReal) (sk : EReal) : Prop where
  score : ∀ c, S c = ⊥ ∨ IsReal (S c)
  one : ∃ c, IsReal (S c)
  sink : IsReal sk

section
variable {n : Nat} {S G G' : Fin n → EReal} {sk w : EReal}

theorem top_hit (h : Ok S sk) : ∃ c, S c = top S := by
  obtain ⟨c, r, hc⟩ := h.one
  obtain ⟨c', -, h'⟩ := Finset.exists_max_image (Finset.univ : Finset (Fin n)) S ⟨c, Finset.mem_univ c⟩
  refine ⟨c', le_antisymm ((Finset.le_fold_max _).2 (.inr ⟨c', Finset.mem_univ _, le_rfl⟩))
    ((Finset.fold_max_le _).2 ⟨bot_le, fun x hx => h' x hx⟩)⟩

theorem top_real (h : Ok S sk) : IsReal (top S) := by
  obtain ⟨c, hc⟩ := top_hit h
  obtain ⟨c', r, hr⟩ := h.one
  rcases h.score c with hb | hr'
  · exfalso
    have : S c' ≤ top S := (Finset.le_fold_max _).2 (.inr ⟨c', Finset.mem_univ _, le_rfl⟩)
    rw [← hc, hb, hr] at this
    exact absurd (le_bot_iff.1 this) (EReal.coe_ne_bot r)
  · rwa [← hc]

theorem mx_real (h : Ok S sk) : IsReal (mx S sk) := by
  unfold mx
  rcases max_choice (top S) sk with e | e <;> rw [e]
  exacts [top_real h, h.sink]

/-- The exponentials and the denominator as reals. -/
theorem reals (h : Ok S sk) : ∃ (e : Fin n → ℝ) (f : ℝ), (∀ c, ex S sk c = (e c : EReal)) ∧ es S sk = (f : EReal)
    ∧ den S sk = (((∑ c, e c) + f : ℝ) : EReal) ∧ (∑ c, e c) + f ≠ 0 ∧ (∀ c, S c = ⊥ → e c = 0) := by
  obtain ⟨m, hm⟩ := mx_real h
  obtain ⟨s, hs⟩ := h.sink
  have hex : ∀ c, ∃ e : ℝ, ex S sk c = (e : EReal) ∧ 0 ≤ e ∧ (S c = ⊥ → e = 0) := by
    intro c
    unfold ex
    rw [hm]
    rcases h.score c with hb | ⟨r, hr⟩
    · refine ⟨0, ?_, le_rfl, fun _ => rfl⟩
      rw [hb, EReal.bot_sub, Ideal.exp_bot, EReal.coe_zero]
    · refine ⟨Real.exp (r - m), ?_, (Real.exp_pos _).le, fun hb => absurd (hr.symm.trans hb) (EReal.coe_ne_bot r)⟩
      rw [hr, ← EReal.coe_sub, Ideal.exp_coe]
  choose e he hpos hz using hex
  have hf : es S sk = ((Real.exp (s - m) : ℝ) : EReal) := by
    unfold es
    rw [hm, hs, ← EReal.coe_sub, Ideal.exp_coe]
  refine ⟨e, Real.exp (s - m), he, hf, ?_, ?_, hz⟩
  · unfold den
    rw [hf, EReal.coe_add, coe_sum]
    simp only [he]
  · have := Finset.sum_nonneg (s := (Finset.univ : Finset (Fin n))) (f := e) fun c _ => hpos c
    have := Real.exp_pos (s - m)
    positivity

variable (h : Ok S sk) (hG : ∀ c, IsReal (G c)) (hGG : ∀ c, S c ≠ ⊥ → G' c = G c)

include h hG hGG in
/-- Every value of the row as a real, of both texts. -/
theorem values : ∃ (e g : Fin n → ℝ) (f : ℝ), (∑ c, e c) + f ≠ 0 ∧ (∀ c, S c = ⊥ → e c = 0) ∧ (∀ c, G c = (g c : EReal))
    ∧ (∀ c, p S sk c = ((e c / ((∑ c, e c) + f) : ℝ) : EReal))
    ∧ (∀ c, Ideal.div (ex S sk c) (den S sk) = ((e c / ((∑ c, e c) + f) : ℝ) : EReal))
    ∧ ps S sk = ((f / ((∑ c, e c) + f) : ℝ) : EReal)
    ∧ dlt S G' sk = ((∑ c, e c / ((∑ c, e c) + f) * g c : ℝ) : EReal)
    ∧ rA S G sk = ((-(∑ c, g c * (1 / (((∑ c, e c) + f) * ((∑ c, e c) + f))) * e c) : ℝ) : EReal)
    ∧ es S sk = (f : EReal) ∧ (∀ c, ex S sk c = (e c : EReal)) ∧ den S sk = (((∑ c, e c) + f : ℝ) : EReal) := by
  obtain ⟨e, f, he, hf, hd, hD, hz⟩ := reals h
  choose g hg using hG
  set D := (∑ c, e c) + f with hDdef
  have hp : ∀ c, p S sk c = ((e c / D : ℝ) : EReal) := fun c => by
    unfold p
    rw [he, hd, Ideal.div_coe hD, one_mul, ← EReal.coe_mul, mul_one_div]
  refine ⟨e, g, f, hD, hz, hg, hp, fun c => ?_, ?_, ?_, ?_, hf, he, hd⟩
  · rw [he, hd, Ideal.div_coe hD, ← EReal.coe_mul, mul_one_div]
  · unfold ps
    rw [hf, hd, Ideal.div_coe hD, one_mul, ← EReal.coe_mul, mul_one_div]
  · unfold dlt
    rw [coe_sum]
    refine Finset.sum_congr rfl fun c _ => ?_
    by_cases hc : S c = ⊥
    · rw [hp, hz c hc]; simp
    · rw [hp, hGG c hc, hg, ← EReal.coe_mul]
  · unfold rA
    rw [EReal.coe_neg, coe_sum]
    congr 1
    refine Finset.sum_congr rfl fun c _ => ?_
    rw [hg, he, hd, ← EReal.coe_mul, Ideal.div_coe (mul_ne_zero hD hD), one_mul, ← EReal.coe_mul, ← EReal.coe_mul]

include h hG in
/-- The gradient of the subtracted maximum vanishes. -/
theorem rgm_zero : rgm S G sk = 0 := by
  obtain ⟨e, g, f, hD, hz, hg, hp, hq, hps, hdl, hA, hf, he, hd⟩ := values h hG fun _ _ => rfl
  have h0 : ∀ c, -(rds0 S G sk c) = ((-((g c * (1 / ((∑ c, e c) + f)) + -(∑ c, g c * (1 / (((∑ c, e c) + f) * ((∑ c, e c) + f))) * e c)) * e c) : ℝ) : EReal) := fun c => by
    unfold rds0
    rw [hA, he, hg, hd, Ideal.div_coe hD, ← EReal.coe_mul, ← EReal.coe_add, ← EReal.coe_mul, ← EReal.coe_neg]
  unfold rgm
  simp only [h0]
  rw [hA, hf, ← coe_sum, ← EReal.coe_mul, ← EReal.coe_neg, ← EReal.coe_add, ← EReal.coe_zero]
  congr 1
  set D := (∑ c, e c) + f with hDd
  have e1 : ∑ c, g c * (1 / (D * D)) * e c = (∑ c, g c * e c) * (1 / (D * D)) := by
    rw [Finset.sum_mul]; exact Finset.sum_congr rfl fun c _ => by ring
  rw [e1]
  set X := ∑ c, g c * e c with hX
  have e2 : ∑ c, -((g c * (1 / D) + -(X * (1 / (D * D)))) * e c) = -(X * (1 / D)) + X * (1 / (D * D)) * ∑ c, e c := by
    have e3 : ∀ c, -((g c * (1 / D) + -(X * (1 / (D * D)))) * e c) = -(g c * e c * (1 / D)) + X * (1 / (D * D)) * e c :=
      fun c => by ring
    simp only [e3]
    rw [Finset.sum_add_distrib, Finset.sum_neg_distrib, ← Finset.sum_mul, ← Finset.mul_sum]
  rw [e2, show ∑ c, e c = D - f by rw [hDd]; ring]
  field_simp
  ring

include h hG in
theorem rds_eq_rds0 (c : Fin n) : rds S G sk w c = rds0 S G sk c := by
  have hit0 : ∀ c, 0 ≤ hit S c := fun c => by unfold hit; split <;> simp
  have hc : ∑ c', hit S c' ≠ 0 := by
    obtain ⟨c, hc⟩ := top_hit h
    have h1 : hit S c = 1 := by simp [hit, hc]
    have := Finset.single_le_sum (f := hit S) (fun c _ => hit0 c) (Finset.mem_univ c)
    rw [h1] at this
    exact (lt_of_lt_of_le zero_lt_one this).ne'
  unfold rds
  rw [rgm_zero h hG, zero_mul, Ideal.div, if_neg hc, zero_mul, zero_mul, add_zero]

include h hG hGG in
/-- The two gradients of a score. -/
theorem ds_eq (c : Fin n) : ds S G' sk c = rds S G sk w c := by
  rw [rds_eq_rds0 h hG]
  obtain ⟨e, g, f, hD, hz, hg, hp, hq, hps, hdl, hA, hf, he, hd⟩ := values h hG hGG
  unfold ds rds0
  rw [hdl, hp]
  by_cases hc : S c = ⊥
  · rw [hz c hc, he, hz c hc]; simp
  rw [hGG c hc, hA, he, hg, hd, Ideal.div_coe hD, ← EReal.coe_mul, ← EReal.coe_add, ← EReal.coe_mul, ← EReal.coe_sub, ← EReal.coe_mul]
  congr 1
  have e1 : ∀ c, g c * (1 / (((∑ c, e c) + f) * ((∑ c, e c) + f))) * e c = (g c * e c) * (1 / (((∑ c, e c) + f) * ((∑ c, e c) + f))) := fun c => by ring
  have e2 : ∀ c, e c / ((∑ c, e c) + f) * g c = (g c * e c) * (1 / ((∑ c, e c) + f)) := fun c => by ring
  simp only [e1, e2, ← Finset.sum_mul]
  field_simp
  ring

include h hG hGG in
/-- The two shares of the sink: the kernel's is subtracted, the other added. -/
theorem gsk_eq : rgs S G sk = -gsk S G' sk := by
  obtain ⟨e, g, f, hD, hz, hg, hp, hq, hps, hdl, hA, hf, he, hd⟩ := values h hG hGG
  unfold rgs gsk
  rw [hA, hf, hps, hdl, ← EReal.coe_mul, ← EReal.coe_mul, ← EReal.coe_neg]
  congr 1
  have e1 : ∀ c, g c * (1 / (((∑ c, e c) + f) * ((∑ c, e c) + f))) * e c = (g c * e c) * (1 / (((∑ c, e c) + f) * ((∑ c, e c) + f))) := fun c => by ring
  have e2 : ∀ c, e c / ((∑ c, e c) + f) * g c = (g c * e c) * (1 / ((∑ c, e c) + f)) := fun c => by ring
  simp only [e1, e2, ← Finset.sum_mul]
  field_simp

include h hG hGG in
theorem gsk_real : IsReal (gsk S G' sk) := by
  obtain ⟨e, g, f, hD, hz, hg, hp, hq, hps, hdl, hA, hf, he, hd⟩ := values h hG hGG
  unfold gsk
  rw [hps, hdl]
  exact (IsReal.coe _).mul (IsReal.coe _)

include h hG hGG in
/-- The two probabilities. -/
theorem p_eq (c : Fin n) : p S sk c = Ideal.div (ex S sk c) (den S sk) := by
  obtain ⟨e, g, f, hD, hz, hg, hp, hq, -⟩ := values h hG hGG
  rw [hp, hq]

include h hG hGG in
theorem p_masked (c : Fin n) (hc : S c = ⊥) : p S sk c = 0 ∧ ds S G' sk c = 0 := by
  obtain ⟨e, g, f, hD, hz, hg, hp, -⟩ := values h hG hGG
  have : p S sk c = 0 := by rw [hp, hz c hc]; simp
  exact ⟨this, by unfold ds; rw [this, zero_mul]⟩

end

end Cert.Row

end
-- ==== Proof.Spec.lean ====
/- The gradient of the attention over arrays of extended reals: the kernel's form of each result,
   `jax.vjp`'s form of it, and that the two are equal where the arrays are real. -/
module

public import proofs.«01_k».proof.Proof.Row
public import Idealize.ShloMosaic.Lib.WordCmp

@[expose] public section

set_option maxRecDepth 16384

noncomputable section

namespace Cert.Spec

open Idealize.ShloMosaic Cert.Row

/-- The word of a query row's distance to a key slot, before and after the absolute value. -/
abbrev off (r c : Nat) : BitVec 32 := IntOp.addi (IntOp.subi (BitVec.ofNat 32 r) (BitVec.ofNat 32 c)) 128#32
abbrev adist (r c : Nat) : BitVec 32 := IntOp.absi (off r c)

theorem off_toInt (r c : Nat) (hr : r < 128) (hc : c < 384) : (off r c).toInt = (r : Int) - c + 128 := by
  unfold off IntOp.addi IntOp.subi
  rw [BitVec.toInt_add, BitVec.toInt_sub, WordCmp.toInt_ofNat_of_lt (by omega), WordCmp.toInt_ofNat_of_lt (by omega)]
  have : (128#32 : BitVec 32).toInt = 128 := by decide
  rw [this]
  simp only [Int.bmod]
  omega

theorem near (r c : Nat) (hr : r < 128) (hc : c < 384) : (adist r c).sle 128#32 = true ↔ r ≤ c ∧ c ≤ r + 256 := by
  have h := off_toInt r c hr hc
  have h128 : (128#32 : BitVec 32).toInt = 128 := by decide
  unfold adist IntOp.absi
  rw [BitVec.sle_iff_toInt_le, h128]
  split
  · rename_i hm
    rw [BitVec.toInt_neg, h]
    rw [BitVec.msb_eq_toInt, decide_eq_true_iff, h] at hm
    simp only [Int.bmod]
    omega
  · rename_i hm
    rw [BitVec.msb_eq_toInt, decide_eq_true_iff, h] at hm
    rw [h]
    omega

/-- A query row of a block sees a key slot: within 128 positions, and the position exists. -/
def Valid (n : Fin 64) (r : Fin 128) (c : Fin 384) : Prop :=
  (r.val ≤ c.val ∧ c.val ≤ r.val + 256) ∧ 128 ≤ n.val * 128 + c.val ∧ n.val * 128 + c.val < 8320

instance (n : Fin 64) (r : Fin 128) (c : Fin 384) : Decidable (Valid n r c) := by unfold Valid; infer_instance

/-- The key slot's row, zero outside the sequence. -/
def pad (X : (⟨2, ![8192, 256]⟩ : Shape).Idx → EReal) (n : Fin 64) (c : Fin 384) (w : Fin 256) : EReal :=
  if h : 128 ≤ n.val * 128 + c.val ∧ n.val * 128 + c.val < 8320 then
    X (ix2 ⟨n.val * 128 + c.val - 128, by omega⟩ w) else 0

/-- The row that the kernel's three blocks hold at a key slot: the first and the last block are taken twice. -/
def slot (n : Fin 64) (c : Fin 384) : Fin 8192 :=
  ⟨if c.val < 128 then (n.val - 1) * 128 + c.val
    else if c.val < 256 then n.val * 128 + (c.val - 128)
    else min (n.val + 1) 63 * 128 + (c.val - 256), by split_ifs <;> omega⟩

theorem pad_eq (X : (⟨2, ![8192, 256]⟩ : Shape).Idx → EReal) (n : Fin 64) (r : Fin 128) (c : Fin 384) (w : Fin 256)
    (h : Valid n r c) : pad X n c w = X (ix2 (slot n c) w) := by
  unfold pad
  rw [dif_pos h.2]
  congr 2
  apply Fin.ext
  unfold slot
  obtain ⟨h1, h2, h3⟩ := h
  dsimp only
  split_ifs <;> omega

/-- A column of the keys, of the values, of a query's head. -/
abbrev kcol (k : Fin 2) (d : Fin 64) : Fin 256 := ⟨k.val * 64 + d.val, by omega⟩
abbrev vcol (k : Fin 2) (d : Fin 64) : Fin 256 := ⟨128 + (k.val * 64 + d.val), by omega⟩
abbrev qcol (k : Fin 2) (g : Fin 4) (d : Fin 64) : Fin 512 := ⟨k.val * 256 + g.val * 64 + d.val, by omega⟩
abbrev gcol (k : Fin 2) (g : Fin 4) (d : Fin 64) : Fin 1024 := ⟨k.val * 256 + g.val * 64 + d.val, by omega⟩
abbrev qrow (n : Fin 64) (r : Fin 128) : Fin 8192 := ⟨n.val * 128 + r.val, by omega⟩
abbrev head (k : Fin 2) (g : Fin 4) : Fin 8 := ⟨k.val * 4 + g.val, by omega⟩

/-- The slope of a head's linear bias: 2^-(h+1). -/
def slope (k : Fin 2) (g : Fin 4) : EReal := (((2 : ℝ) ^ (k.val * 4 + g.val + 1))⁻¹ : ℝ)

/-! The words of the eight slopes. -/
theorem slope0 : (Ideal.ofBits FTy.f32 0x3F000000#32 : EReal) = (((2 : ℝ) ^ (0 + 1))⁻¹ : ℝ) := by
  simp [Ideal.ofBits, Ideal.ieee, -EReal.coe_mul] <;> norm_num [← EReal.coe_mul, -EReal.coe_mul]
theorem slope1 : (Ideal.ofBits FTy.f32 0x3E800000#32 : EReal) = (((2 : ℝ) ^ (1 + 1))⁻¹ : ℝ) := by
  simp [Ideal.ofBits, Ideal.ieee, -EReal.coe_mul] <;> norm_num [← EReal.coe_mul, -EReal.coe_mul]
theorem slope2 : (Ideal.ofBits FTy.f32 0x3E000000#32 : EReal) = (((2 : ℝ) ^ (2 + 1))⁻¹ : ℝ) := by
  simp [Ideal.ofBits, Ideal.ieee, -EReal.coe_mul] <;> norm_num [← EReal.coe_mul, -EReal.coe_mul]
theorem slope3 : (Ideal.ofBits FTy.f32 0x3D800000#32 : EReal) = (((2 : ℝ) ^ (3 + 1))⁻¹ : ℝ) := by
  simp [Ideal.ofBits, Ideal.ieee, -EReal.coe_mul] <;> norm_num [← EReal.coe_mul, -EReal.coe_mul]
theorem slope4 : (Ideal.ofBits FTy.f32 0x3D000000#32 : EReal) = (((2 : ℝ) ^ (4 + 1))⁻¹ : ℝ) := by
  simp [Ideal.ofBits, Ideal.ieee, -EReal.coe_mul] <;> norm_num [← EReal.coe_mul, -EReal.coe_mul]
theorem slope5 : (Ideal.ofBits FTy.f32 0x3C800000#32 : EReal) = (((2 : ℝ) ^ (5 + 1))⁻¹ : ℝ) := by
  simp [Ideal.ofBits, Ideal.ieee, -EReal.coe_mul] <;> norm_num [← EReal.coe_mul, -EReal.coe_mul]
theorem slope6 : (Ideal.ofBits FTy.f32 0x3C000000#32 : EReal) = (((2 : ℝ) ^ (6 + 1))⁻¹ : ℝ) := by
  simp [Ideal.ofBits, Ideal.ieee, -EReal.coe_mul] <;> norm_num [← EReal.coe_mul, -EReal.coe_mul]
theorem slope7 : (Ideal.ofBits FTy.f32 0x3B800000#32 : EReal) = (((2 : ℝ) ^ (7 + 1))⁻¹ : ℝ) := by
  simp [Ideal.ofBits, Ideal.ieee, -EReal.coe_mul] <;> norm_num [← EReal.coe_mul, -EReal.coe_mul]

/-- The distance as a number. -/
def dist (r : Fin 128) (c : Fin 384) : EReal := (((adist r.val c.val).toInt : ℝ) : EReal)

section
variable (Q : (⟨2, ![8192, 512]⟩ : Shape).Idx → EReal) (X : (⟨2, ![8192, 256]⟩ : Shape).Idx → EReal)
  (D : (⟨2, ![8192, 1024]⟩ : Shape).Idx → EReal) (Z : (⟨1, ![8]⟩ : Shape).Idx → EReal)

/-- The kernel's scores, masked. -/
def Sk (n : Fin 64) (k : Fin 2) (g : Fin 4) (r : Fin 128) (c : Fin 384) : EReal :=
  if Valid n r c then
    (∑ d : Fin 64, Q (ix2 (qrow n r) (qcol k g d)) * X (ix2 (slot n c) (kcol k d))) - slope k g * dist r c
  else ⊥

/-- The kernel's products of the gradient with the values. -/
def Gk (n : Fin 64) (k : Fin 2) (g : Fin 4) (r : Fin 128) (c : Fin 384) : EReal :=
  ∑ d : Fin 64, D (ix2 (qrow n r) (gcol k g d)) * X (ix2 (slot n c) (vcol k d))

/-- The reference's scores, masked. -/
def Sr (n : Fin 64) (k : Fin 2) (g : Fin 4) (r : Fin 128) (c : Fin 384) : EReal :=
  if Valid n r c then
    (∑ d : Fin 64, pad X n c (kcol k d) * Q (ix2 (qrow n r) (qcol k g d))) + -slope k g * dist r c
  else ⊥

/-- The reference's products of the gradient with the values. -/
def Gr (n : Fin 64) (k : Fin 2) (g : Fin 4) (r : Fin 128) (c : Fin 384) : EReal :=
  ∑ d : Fin 64, D (ix2 (qrow n r) (gcol k g d)) * pad X n c (vcol k d)

/-- The sink of a head. -/
def snk (k : Fin 2) (g : Fin 4) : EReal := Z (ix1 (head k g))

/-- The kernel's gradient of a score, its probability and its share of the sink. -/
def dsk (n : Fin 64) (k : Fin 2) (g : Fin 4) (r : Fin 128) (c : Fin 384) : EReal :=
  ds (Sk Q X n k g r) (Gk X D n k g r) (snk Z k g) c
def pk (n : Fin 64) (k : Fin 2) (g : Fin 4) (r : Fin 128) (c : Fin 384) : EReal :=
  p (Sk Q X n k g r) (snk Z k g) c
def gsk (n : Fin 64) (k : Fin 2) (g : Fin 4) (r : Fin 128) : EReal :=
  Row.gsk (Sk Q X n k g r) (Gk X D n k g r) (snk Z k g)

/-- The reference's gradient of a score (`w`: its weight of the tie between the scores and the sink). -/
def dsr (w : EReal) (n : Fin 64) (k : Fin 2) (g : Fin 4) (r : Fin 128) (c : Fin 384) : EReal :=
  if Valid n r c then rds (Sr Q X n k g r) (Gr X D n k g r) (snk Z k g) w c else 0
def pr (n : Fin 64) (k : Fin 2) (g : Fin 4) (r : Fin 128) (c : Fin 384) : EReal :=
  Ideal.div (ex (Sr Q X n k g r) (snk Z k g) c) (den (Sr Q X n k g r) (snk Z k g))
def gsr (n : Fin 64) (k : Fin 2) (g : Fin 4) (r : Fin 128) : EReal :=
  rgs (Sr Q X n k g r) (Gr X D n k g r) (snk Z k g)

/-- The arrays are real. -/
structure AllReal : Prop where
  q : ∀ i, IsReal (Q i)
  x : ∀ i, IsReal (X i)
  d : ∀ i, IsReal (D i)
  z : ∀ i, IsReal (Z i)
end

section
variable {Q : (⟨2, ![8192, 512]⟩ : Shape).Idx → EReal} {X : (⟨2, ![8192, 256]⟩ : Shape).Idx → EReal}
  {D : (⟨2, ![8192, 1024]⟩ : Shape).Idx → EReal} {Z : (⟨1, ![8]⟩ : Shape).Idx → EReal}
  (h : AllReal Q X D Z) (n : Fin 64) (k : Fin 2) (g : Fin 4) (r : Fin 128) (c : Fin 384)

include h in
theorem pad_real (w : Fin 256) : IsReal (pad X n c w) := by
  unfold pad
  split
  · exact h.x _
  · exact IsReal.zero

omit h in
theorem scores_eq : Sr Q X n k g r = Sk Q X n k g r := by
  funext c
  unfold Sr Sk
  split
  · rename_i hv
    rw [EReal.neg_mul, ← sub_eq_add_neg]
    congr 1
    exact Finset.sum_congr rfl fun d _ => by rw [pad_eq X n r c _ hv, mul_comm]
  · rfl

omit h in
theorem grads_eq (hv : Valid n r c) : Gk X D n k g r c = Gr X D n k g r c := by
  unfold Gr Gk
  exact Finset.sum_congr rfl fun d _ => by rw [pad_eq X n r c _ hv]

omit h in
theorem valid_of_score (hs : Sk Q X n k g r c ≠ ⊥) : Valid n r c := by
  by_contra hv
  exact hs (if_neg hv)

omit h in
theorem masked (hv : ¬ Valid n r c) : Sk Q X n k g r c = ⊥ := if_neg hv

include h in
theorem grads_real : IsReal (Gr X D n k g r c) :=
  IsReal.sum _ _ fun d => (h.d _).mul (pad_real h n c _)

include h in
theorem ok : Ok (Sk Q X n k g r) (snk Z k g) := by
  have hreal : ∀ c, Valid n r c → IsReal (Sk Q X n k g r c) := fun c hv => by
    unfold Sk
    rw [if_pos hv, sub_eq_add_neg]
    exact (IsReal.sum _ _ fun d => (h.q _).mul (h.x _)).add ((IsReal.coe _).mul (IsReal.coe _)).neg
  refine ⟨fun c => ?_, ⟨⟨r.val + 128, by omega⟩, hreal _ ?_⟩, h.z _⟩
  · by_cases hv : Valid n r c
    · exact .inr (hreal c hv)
    · exact .inl (masked n k g r c hv)
  · unfold Valid
    dsimp only
    omega

include h in
theorem ds_eq (w : EReal) : dsk Q X D Z n k g r c = dsr Q X D Z w n k g r c := by
  unfold dsk dsr
  rw [scores_eq]
  split
  · exact Row.ds_eq (ok h n k g r) (fun c => grads_real h n k g r c)
      (fun c hc => grads_eq n k g r c (valid_of_score n k g r c hc)) c
  · rename_i hv
    exact (Row.p_masked (G := Gr X D n k g r) (ok h n k g r) (fun c => grads_real h n k g r c)
      (fun c hc => grads_eq n k g r c (valid_of_score n k g r c hc)) c (masked n k g r c hv)).2

include h in
theorem p_eq : pk Q X Z n k g r c = pr Q X Z n k g r c := by
  unfold pk pr
  rw [scores_eq]
  exact Row.p_eq (G := Gr X D n k g r) (G' := Gr X D n k g r) (ok h n k g r) (fun c => grads_real h n k g r c) (fun _ _ => rfl) c

include h in
theorem gs_eq : gsr Q X D Z n k g r = -gsk Q X D Z n k g r := by
  unfold gsr gsk
  rw [scores_eq]
  exact Row.gsk_eq (ok h n k g r) (fun c => grads_real h n k g r c)
    (fun c hc => grads_eq n k g r c (valid_of_score n k g r c hc))

include h in
theorem gsk_real : IsReal (gsk Q X D Z n k g r) :=
  Row.gsk_real (ok h n k g r) (fun c => grads_real h n k g r c)
    (fun c hc => grads_eq n k g r c (valid_of_score n k g r c hc))

include h in
theorem rgm_zero : rgm (Sr Q X n k g r) (Gr X D n k g r) (snk Z k g) = 0 := by
  rw [scores_eq]
  exact Row.rgm_zero (ok h n k g r) (fun c => grads_real h n k g r c)

include h in
theorem ds_masked (hv : ¬ Valid n r c) : dsk Q X D Z n k g r c = 0 := by
  rw [ds_eq h n k g r c 0, dsr, if_neg hv]

/-! ### The results -/

include h in
/-- The gradient of the queries. -/
theorem gq_eq (w : EReal) (d : Fin 64) :
    ∑ c, dsk Q X D Z n k g r c * X (ix2 (slot n c) (kcol k d)) = ∑ c, dsr Q X D Z w n k g r c * pad X n c (kcol k d) := by
  refine Finset.sum_congr rfl fun c _ => ?_
  rw [← ds_eq h]
  by_cases hv : Valid n r c
  · rw [pad_eq X n r c _ hv]
  · rw [ds_masked h n k g r c hv, zero_mul, zero_mul]

include h in
/-- The gradient of the sink of one block of queries. -/
theorem gs_sum : (0 : EReal) - ∑ r, gsk Q X D Z n k g r = ∑ r, gsr Q X D Z n k g r := by
  rw [sub_eq_add_neg, zero_add, neg_sum _ _ fun r => gsk_real h n k g r]
  exact Finset.sum_congr rfl fun r _ => (gs_eq h n k g r).symm

end

end Cert.Spec

end
-- ==== Proof.Fin.lean ====
/- The precondition: every entry of the four arguments is a real number. -/
module

public import proofs.«01_k».proof.Pre_finite
public import proofs.«01_k».proof.Proof.Spec
public import Idealize.ShloMosaic.Lib.Pointwise

@[expose] public section

set_option maxRecDepth 16384

noncomputable section

namespace Cert.Pre_finite

open Idealize.ShloMosaic

instance facts : Cert.Pre_finite.Facts where
  bcast_S8_S1x8_1 := by decide
  bcast_S1x8_S8192x8_0_1 := by decide
  bitsLt_bf16_f32 := by decide
  concatenates_S8192x512_S8192x256_S8192x1024_S8192x8_S8192x1800_d1 := by decide
  bcast_S_S8192x1800 := by decide

variable (Q : FVec Ideal S8192x512 .bf16) (X : FVec Ideal S8192x256 .bf16) (D : FVec Ideal S8192x1024 .f32) (Z : FVec Ideal S8 .f32)

/-- What a row holds: the three arrays' rows, then the sinks. -/
def cat (n : Fin 8192) (w : Fin 1800) : EReal :=
  if h : w.val < 512 then Q (ix2 n ⟨w.val, h⟩)
  else if h : w.val - 512 < 256 then X (ix2 n ⟨w.val - 512, h⟩)
  else if h : w.val - 512 - 256 < 1024 then D (ix2 n ⟨w.val - 512 - 256, h⟩)
  else Z (ix1 ⟨w.val - 512 - 256 - 1024, by omega⟩)

theorem pinf : (Ideal.ofBits FTy.f32 0x7F800000#32 : EReal) = ⊤ := by
  simp [Ideal.ofBits, Ideal.ieee]

theorem fn_at (n : Fin 8192) (w : Fin 1800) :
    fn Q X D Z (ix2 n w) = BitVec.ofBool (decide (max (cat Q X D Z n w) (-(cat Q X D Z n w)) < ⊤)) := by
  rw [← pinf]
  unfold fn
  pointwise
  rfl

theorem isReal_of (x : EReal) (h : BitVec.ofBool (decide (max x (-x) < ⊤)) = 1#1) : Row.IsReal x := by
  have h' : max x (-x) < ⊤ := by
    by_contra hc
    rw [decide_eq_false hc] at h
    exact absurd h (by decide)
  induction x using EReal.rec with
  | bot => exact absurd h' (by simp)
  | top => exact absurd h' (by simp)
  | coe r => exact ⟨r, rfl⟩

theorem allReal (h : fn (F := Ideal) Q X D Z = fun _ => 1#1) : Spec.AllReal Q X D Z := by
  have hr : ∀ n w, Row.IsReal (cat Q X D Z n w) := fun n w =>
    isReal_of _ ((fn_at Q X D Z n w).symm.trans (congrFun h (ix2 n w)))
  refine ⟨fun i => ?_, fun i => ?_, fun i => ?_, fun i => ?_⟩
  · have hi := hr (i 0) ⟨(i 1).val, by have : (i 1).val < 512 := (i 1).isLt; omega⟩
    have hl : (i 1).val < 512 := (i 1).isLt
    unfold cat at hi
    rw [dif_pos hl] at hi
    rw [eq_ix2 i]
    exact hi
  · have hl : (i 1).val < 256 := (i 1).isLt
    have hi := hr (i 0) ⟨512 + (i 1).val, by omega⟩
    unfold cat at hi
    rw [dif_neg (by show ¬ 512 + (i 1).val < 512; omega), dif_pos (show 512 + (i 1).val - 512 < 256 by omega)] at hi
    rw [eq_ix2 i]
    refine Eq.mp (congrArg (fun j => Row.IsReal (X (ix2 (i 0) j))) (Fin.ext ?_)) hi
    show 512 + (i 1).val - 512 = (i 1).val
    omega
  · have hl : (i 1).val < 1024 := (i 1).isLt
    have hi := hr (i 0) ⟨768 + (i 1).val, by omega⟩
    unfold cat at hi
    rw [dif_neg (by show ¬ 768 + (i 1).val < 512; omega), dif_neg (show ¬ 768 + (i 1).val - 512 < 256 by omega),
      dif_pos (show 768 + (i 1).val - 512 - 256 < 1024 by omega)] at hi
    rw [eq_ix2 i]
    refine Eq.mp (congrArg (fun j => Row.IsReal (D (ix2 (i 0) j))) (Fin.ext ?_)) hi
    show 768 + (i 1).val - 512 - 256 = (i 1).val
    omega
  · have hl : (i 0).val < 8 := (i 0).isLt
    have hi := hr 0 ⟨1792 + (i 0).val, by omega⟩
    unfold cat at hi
    rw [dif_neg (by show ¬ 1792 + (i 0).val < 512; omega), dif_neg (show ¬ 1792 + (i 0).val - 512 < 256 by omega),
      dif_neg (show ¬ 1792 + (i 0).val - 512 - 256 < 1024 by omega)] at hi
    rw [eq_ix1 i]
    refine Eq.mp (congrArg (fun j => Row.IsReal (Z (ix1 j))) (Fin.ext ?_)) hi
    show 1792 + (i 0).val - 512 - 256 - 1024 = (i 0).val
    omega

end Cert.Pre_finite

end
-- ==== Proof.RefRow.lean ====
/- The reference's arrays at an index, from its arguments at an index. -/
module

public import proofs.«01_k».proof.Proof.Gen.ReferenceIdeal.Run
public import Idealize.ShloMosaic.Lib.Pointwise
public import proofs.«01_k».proof.Proof.Spec
public import Idealize.ShloMosaic.Lib.Tactic.CleanTypes

@[expose] public section

set_option maxRecDepth 16384

noncomputable section

namespace Cert.ReferenceIdeal.At

open Cert.ReferenceIdeal Cert.ReferenceIdeal.Gen Cert.ReferenceIdeal.Value Idealize.ShloMosaic Idealize.ShloMosaic.TcCoe Idealize.SL.Sem

/-- The indices of a rank-6 array that a reduction of its last axis reads at one place. -/
theorem fiber_d5 (z : Fin 1) (n : Fin 64) (k : Fin 2) (g : Fin 4) (r : Fin 128) (i : S1x64x2x4x128x384.Idx) :
    Shape.ReducesTo.drop reducesTo_S1x64x2x4x128x384_S1x64x2x4x128_d5 i = ix5 z n k g r ↔ ∃ c : Fin 384, ix6 z n k g r c = i := by
  constructor
  · intro e
    refine ⟨i 5, ?_⟩
    funext a; apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => exact (congrArg Fin.val (congrFun e ⟨3, by decide⟩)).symm
    | ⟨4, _⟩ => exact (congrArg Fin.val (congrFun e ⟨4, by decide⟩)).symm
    | ⟨5, _⟩ => rfl
  · rintro ⟨c, rfl⟩
    funext b; apply Fin.ext
    match b with
    | ⟨0, _⟩ => rfl
    | ⟨1, _⟩ => rfl
    | ⟨2, _⟩ => rfl
    | ⟨3, _⟩ => rfl
    | ⟨4, _⟩ => rfl

theorem sum_d5 (v : S1x64x2x4x128x384.Idx → EReal) (init : EReal) (z : Fin 1) (n : Fin 64) (k : Fin 2) (g : Fin 4) (r : Fin 128) :
    Ideal.hostReduceAdd reducesTo_S1x64x2x4x128x384_S1x64x2x4x128_d5 v init (ix5 z n k g r) = init + ∑ c : Fin 384, v (ix6 z n k g r c) :=
  congrArg (init + ·) (Finset.sum_filter_eq_sum_of_fiber _ (fun c : Fin 384 => ix6 z n k g r c) (fun _ _ e => congrFun e 5)
    (fiber_d5 z n k g r) v)

theorem fold_d5 (b : EReal) (v : S1x64x2x4x128x384.Idx → EReal) (z : Fin 1) (n : Fin 64) (k : Fin 2) (g : Fin 4) (r : Fin 128) :
    (Finset.univ.filter (fun i => Shape.ReducesTo.drop reducesTo_S1x64x2x4x128x384_S1x64x2x4x128_d5 i = ix5 z n k g r)).fold max b v
      = (Finset.univ : Finset (Fin 384)).fold max b (fun c => v (ix6 z n k g r c)) :=
  Finset.fold_filter_eq_fold_of_fiber max _ (fun c : Fin 384 => ix6 z n k g r c) (fun _ _ e => congrFun e 5)
    (fiber_d5 z n k g r) b v

/-- A reduction of the first and the last of six axes, both of one element. -/
theorem sum_d0_5 (v : S1x64x2x4x128x1.Idx → EReal) (init : EReal) (n : Fin 64) (k : Fin 2) (g : Fin 4) (r : Fin 128) :
    Ideal.hostReduceAdd reducesTo_S1x64x2x4x128x1_S64x2x4x128_d0_5 v init (ix4 n k g r) = init + v (ix6 0 n k g r 0) := by
  refine congrArg (init + ·) ((Finset.sum_filter_eq_sum_of_fiber _ (fun _ : Fin 1 => ix6 (0 : Fin 1) n k g r (0 : Fin 1))
    (fun _ _ _ => Subsingleton.elim _ _) (fun i => ?_) v).trans (Fin.sum_univ_one _))
  constructor
  · intro e
    refine ⟨0, ?_⟩
    funext a; apply Fin.ext
    match a with
    | ⟨0, _⟩ => exact (Nat.lt_one_iff.1 (i 0).isLt).symm
    | ⟨1, _⟩ => exact (congrArg Fin.val (congrFun e ⟨0, by decide⟩)).symm
    | ⟨2, _⟩ => exact (congrArg Fin.val (congrFun e ⟨1, by decide⟩)).symm
    | ⟨3, _⟩ => exact (congrArg Fin.val (congrFun e ⟨2, by decide⟩)).symm
    | ⟨4, _⟩ => exact (congrArg Fin.val (congrFun e ⟨3, by decide⟩)).symm
    | ⟨5, _⟩ => exact (Nat.lt_one_iff.1 (i 5).isLt).symm
  · rintro ⟨c, rfl⟩
    funext b; apply Fin.ext
    match b with
    | ⟨0, _⟩ => rfl
    | ⟨1, _⟩ => rfl
    | ⟨2, _⟩ => rfl
    | ⟨3, _⟩ => rfl

/-- A reduction of the blocks and the rows: the sum over both. -/
theorem sum_d1_4 (v : S1x64x2x4x128x1.Idx → EReal) (init : EReal) (k : Fin 2) (g : Fin 4) :
    Ideal.hostReduceAdd reducesTo_S1x64x2x4x128x1_S1x2x4x1_d1_4 v init (ix4 0 k g 0)
      = init + ∑ x : Fin 64 × Fin 128, v (ix6 0 x.1 k g x.2 0) := by
  refine congrArg (init + ·) (Finset.sum_filter_eq_sum_of_fiber _ (fun x : Fin 64 × Fin 128 => ix6 (0 : Fin 1) x.1 k g x.2 (0 : Fin 1))
    (fun _ _ e => Prod.ext (congrFun e 1) (congrFun e 4)) (fun i => ?_) v)
  constructor
  · intro e
    refine ⟨(i 1, i 4), ?_⟩
    funext a; apply Fin.ext
    match a with
    | ⟨0, _⟩ => exact (Nat.lt_one_iff.1 (i 0).isLt).symm
    | ⟨1, _⟩ => rfl
    | ⟨2, _⟩ => exact (congrArg Fin.val (congrFun e ⟨1, by decide⟩)).symm
    | ⟨3, _⟩ => exact (congrArg Fin.val (congrFun e ⟨2, by decide⟩)).symm
    | ⟨4, _⟩ => rfl
    | ⟨5, _⟩ => exact (Nat.lt_one_iff.1 (i 5).isLt).symm
  · rintro ⟨c, rfl⟩
    funext b; apply Fin.ext
    match b with
    | ⟨0, _⟩ => rfl
    | ⟨1, _⟩ => rfl
    | ⟨2, _⟩ => rfl
    | ⟨3, _⟩ => rfl

variable (V : Valuation τ sig (Elt Ideal))

theorem v68 (k : Fin 2) (g : Fin 4) :
    (res_main_v68 V (ix6 0 0 k g 0 0) : EReal) = Spec.snk (V (Proc.devRef .tc main_arg3)) k g := by
  unfold res_main_v68 Spec.snk
  clean_types
  pointwise

/-- The scores of a row, and the products of the gradient with the values. -/
def S (n : Fin 64) (k : Fin 2) (g : Fin 4) (r : Fin 128) (c : Fin 384) : EReal := res_main_v67_0 V (ix6 0 n k g r c)
def G (n : Fin 64) (k : Fin 2) (g : Fin 4) (r : Fin 128) (c : Fin 384) : EReal := res_main_v117 V (ix6 0 n k g r c)
/-- The sink of a head. -/
abbrev Z (k : Fin 2) (g : Fin 4) : EReal := Spec.snk (V (Proc.devRef .tc main_arg3)) k g

theorem v67 (n : Fin 64) (k : Fin 2) (g : Fin 4) (r : Fin 128) (c : Fin 384) :
    (res_main_v67_0 V (ix6 0 n k g r c) : EReal) = S V n k g r c := rfl
theorem v117' (n : Fin 64) (k : Fin 2) (g : Fin 4) (r : Fin 128) (c : Fin 384) :
    (res_main_v117 V (ix6 0 n k g r c) : EReal) = G V n k g r c := rfl

theorem ninf : Ideal.ofBits FTy.f32 4286578688#32 = (⊥ : EReal) := by simp [Ideal.ofBits, Ideal.ieee]

theorem v69 (n : Fin 64) (k : Fin 2) (g : Fin 4) (r : Fin 128) :
    (res_main_v69 V (ix5 0 n k g r) : EReal) = Row.top (S V n k g r) := by
  unfold res_main_v69 Row.top
  clean_types
  pointwise [fold_d5, ninf]
  rfl

theorem v75 (n : Fin 64) (k : Fin 2) (g : Fin 4) (r : Fin 128) :
    (res_main_v75 V (ix6 0 n k g r 0) : EReal) = Row.top (S V n k g r) := by
  unfold res_main_v75
  clean_types
  pointwise [v69]

/-- The sink spread over the blocks and rows. -/
theorem bc68 (y : FVec Idealize.ShloMosaic.Ideal S1x1x2x4x1x1 .f32) (n : Fin 64) (k : Fin 2) (g : Fin 4) (r : Fin 128) :
    (broadcastInDim S1x64x2x4x128x1 ![0, 1, 2, 3, 4, 5] bcast_S1x1x2x4x1x1_S1x64x2x4x128x1_0_1_2_3_4_5 y (ix6 0 n k g r 0) : EReal)
      = y (ix6 0 0 k g 0 0) := by
  unfold broadcastInDim
  refine congrArg y (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

theorem max_at (x y : FVec Idealize.ShloMosaic.Ideal S1x64x2x4x128x1 .f32) (i : S1x64x2x4x128x1.Idx) :
   (maximumf x y i : EReal) = max (x i : EReal) (y i) := rfl

theorem v77 (n : Fin 64) (k : Fin 2) (g : Fin 4) (r : Fin 128) :
    (res_main_v77 V (ix6 0 n k g r 0) : EReal) = Row.mx (S V n k g r) (Z V k g) := by
  unfold res_main_v77
  clean_types
  rw [max_at, bc68, v75, v68]
  rfl

theorem v98 (n : Fin 64) (k : Fin 2) (g : Fin 4) (r : Fin 128) (c : Fin 384) :
    (res_main_v98 V (ix6 0 n k g r c) : EReal) = Row.ex (S V n k g r) (Z V k g) c := by
  unfold res_main_v98 Row.ex
  clean_types
  pointwise [v77, v67]

theorem v103 (n : Fin 64) (k : Fin 2) (g : Fin 4) (r : Fin 128) :
    (res_main_v103 V (ix6 0 n k g r 0) : EReal) = Row.es (S V n k g r) (Z V k g) := by
  unfold res_main_v103 Row.es
  clean_types
  pointwise [v77, v68]

theorem v104 (n : Fin 64) (k : Fin 2) (g : Fin 4) (r : Fin 128) :
    (res_main_v104 V (ix6 0 n k g r 0) : EReal) = Row.den (S V n k g r) (Z V k g) := by
  unfold res_main_v104 Row.den
  clean_types
  pointwise [sum_d5, v98, v103]

theorem v106 (n : Fin 64) (k : Fin 2) (g : Fin 4) (r : Fin 128) (c : Fin 384) :
    (res_main_v106 V (ix6 0 n k g r c) : EReal)
      = Ideal.div (Row.ex (S V n k g r) (Z V k g) c) (Row.den (S V n k g r) (Z V k g)) := by
  unfold res_main_v106
  clean_types
  pointwise [v98, v104]

theorem v73 (n : Fin 64) (k : Fin 2) (g : Fin 4) (r : Fin 128) (c : Fin 384) :
    (res_main_v73 V (ix6 0 n k g r c) : EReal) = Row.hit (S V n k g r) c := by
  unfold res_main_v73 Row.hit
  clean_types
  pointwise [v67, v69]
  split <;> rename_i h <;> simp only [h, decide_true, decide_false]
  · show (((1#1 : BitVec 1).toNat : ℝ) : EReal) = 1
    simp
  · show (((0#1 : BitVec 1).toNat : ℝ) : EReal) = 0
    simp

theorem v125 (n : Fin 64) (k : Fin 2) (g : Fin 4) (r : Fin 128) :
    (res_main_v125 V (ix6 0 n k g r 0) : EReal) = Row.rA (S V n k g r) (G V n k g r) (Z V k g) := by
  unfold res_main_v125 Row.rA
  clean_types
  pointwise [sum_d5, v98, v104, v117']

theorem v128 (n : Fin 64) (k : Fin 2) (g : Fin 4) (r : Fin 128) :
    (res_main_v128 V (ix6 0 n k g r 0) : EReal) = Row.rgs (S V n k g r) (G V n k g r) (Z V k g) := by
  unfold res_main_v128 Row.rgs
  clean_types
  pointwise [v125, v103]

theorem v136 (n : Fin 64) (k : Fin 2) (g : Fin 4) (r : Fin 128) (c : Fin 384) :
    (res_main_v136 V (ix6 0 n k g r c) : EReal) = Row.rds0 (S V n k g r) (G V n k g r) (Z V k g) c := by
  unfold res_main_v136 Row.rds0
  clean_types
  pointwise [sum_d0_5, v125, v98, v104, v117']

theorem v140 (n : Fin 64) (k : Fin 2) (g : Fin 4) (r : Fin 128) :
    (res_main_v140 V (ix6 0 n k g r 0) : EReal) = Row.rgm (S V n k g r) (G V n k g r) (Z V k g) := by
  unfold res_main_v140 Row.rgm
  clean_types
  pointwise [sum_d5, v128, v136]
  rfl

/-- The weight with which the maximum's gradient goes to the scores, and that to the sink. -/
def W : FVec Idealize.ShloMosaic.Ideal S1x64x2x4x128x1 .f32 := select (cmpf .ogt (res_main_v75 V) (broadcastInDim S1x64x2x4x128x1 ![0, 1, 2, 3, 4, 5] bcast_S1x1x2x4x1x1_S1x64x2x4x128x1_0_1_2_3_4_5 (res_main_v68 V))) (broadcastInDim S1x64x2x4x128x1 ![] bcast_S_S1x64x2x4x128x1 (constant S_ .f32 0x3F800000#32)) (select (cmpf .oeq (res_main_v75 V) (broadcastInDim S1x64x2x4x128x1 ![0, 1, 2, 3, 4, 5] bcast_S1x1x2x4x1x1_S1x64x2x4x128x1_0_1_2_3_4_5 (res_main_v68 V))) (broadcastInDim S1x64x2x4x128x1 ![] bcast_S_S1x64x2x4x128x1 (constant S_ .f32 0x3F000000#32)) (broadcastInDim S1x64x2x4x128x1 ![] bcast_S_S1x64x2x4x128x1 (constant S_ .f32 0x00000000#32)))
def W' : FVec Idealize.ShloMosaic.Ideal S1x64x2x4x128x1 .f32 := select (cmpf .ogt (broadcastInDim S1x64x2x4x128x1 ![0, 1, 2, 3, 4, 5] bcast_S1x1x2x4x1x1_S1x64x2x4x128x1_0_1_2_3_4_5 (res_main_v68 V)) (res_main_v75 V)) (broadcastInDim S1x64x2x4x128x1 ![] bcast_S_S1x64x2x4x128x1 (constant S_ .f32 0x3F800000#32)) (select (cmpf .oeq (broadcastInDim S1x64x2x4x128x1 ![0, 1, 2, 3, 4, 5] bcast_S1x1x2x4x1x1_S1x64x2x4x128x1_0_1_2_3_4_5 (res_main_v68 V)) (res_main_v75 V)) (broadcastInDim S1x64x2x4x128x1 ![] bcast_S_S1x64x2x4x128x1 (constant S_ .f32 0x3F000000#32)) (broadcastInDim S1x64x2x4x128x1 ![] bcast_S_S1x64x2x4x128x1 (constant S_ .f32 0x00000000#32)))

/-- `res_main_v154` with the weight named. -/
theorem v154_W : (res_main_v154 V : FVec Idealize.ShloMosaic.Ideal S1x64x2x384x128x4 .f32)
    = transpose S1x64x2x384x128x4 [0, 1, 2, 5, 4, 3] (select (res_main_v67_1 V) (addf (res_main_v136 V) (mulf (broadcastInDim S1x64x2x4x128x384 ![0, 1, 2, 3, 4] bcast_S1x64x2x4x128_S1x64x2x4x128x384_0_1_2_3_4 (Host.divf (broadcastInDim S1x64x2x4x128 ![1, 2, 3, 4] bcast_S64x2x4x128_S1x64x2x4x128_1_2_3_4 (Host.reduceAdd (mulf (res_main_v140 V) (W V)) (constant S_ .f32 0x00000000#32) reducesTo_S1x64x2x4x128x1_S64x2x4x128_d0_5 h_S_)) (Host.reduceAdd (res_main_v73 V) (constant S_ .f32 0x00000000#32) reducesTo_S1x64x2x4x128x384_S1x64x2x4x128_d5 h_S_))) (res_main_v73 V))) (broadcastInDim S1x64x2x4x128x384 ![] bcast_S_S1x64x2x4x128x384 (constant S_ .f32 0x00000000#32))) transposes_S1x64x2x4x128x384_S1x64x2x384x128x4_0_1_2_5_4_3 := rfl

theorem v154 (n : Fin 64) (k : Fin 2) (g : Fin 4) (r : Fin 128) (c : Fin 384) :
    (res_main_v154 V (ix6 0 n k c r g) : EReal)
      = Scalar.select (res_main_v67_1 V (ix6 0 n k g r c)) (Row.rds (S V n k g r) (G V n k g r) (Z V k g) (W V (ix6 0 n k g r 0)) c) 0 := by
  rw [v154_W]
  unfold Row.rds
  pointwise [sum_d0_5, sum_d5, v136, v140, v73]

/-! ### The scores -/

/-- The three padded blocks at a key slot. -/
theorem pad_cases (X : (⟨2, ![8192, 256]⟩ : Shape).Idx → EReal) (n : Fin 64) (c : Fin 384) (w : Fin 256)
    (h0 : 128 ≤ n.val * 128 + c.val ∧ n.val * 128 + c.val - 128 < 8192 → n.val * 128 + c.val - 128 < 8192)
    (h1 : 128 ≤ (1 + n.val) * 128 + (c.val - 128) ∧ (1 + n.val) * 128 + (c.val - 128) - 128 < 8192 → (1 + n.val) * 128 + (c.val - 128) - 128 < 8192)
    (h2 : 128 ≤ (2 + n.val) * 128 + (c.val - 128 - 128) ∧ (2 + n.val) * 128 + (c.val - 128 - 128) - 128 < 8192 → (2 + n.val) * 128 + (c.val - 128 - 128) - 128 < 8192) :
    (if _ : c.val < 128 then
      if h : 128 ≤ n.val * 128 + c.val ∧ n.val * 128 + c.val - 128 < 8192 then X (ix2 ⟨n.val * 128 + c.val - 128, h0 h⟩ w) else 0
    else if _ : c.val - 128 < 128 then
      if h : 128 ≤ (1 + n.val) * 128 + (c.val - 128) ∧ (1 + n.val) * 128 + (c.val - 128) - 128 < 8192 then
        X (ix2 ⟨(1 + n.val) * 128 + (c.val - 128) - 128, h1 h⟩ w) else 0
    else
      if h : 128 ≤ (2 + n.val) * 128 + (c.val - 128 - 128) ∧ (2 + n.val) * 128 + (c.val - 128 - 128) - 128 < 8192 then
        X (ix2 ⟨(2 + n.val) * 128 + (c.val - 128 - 128) - 128, h2 h⟩ w) else 0) = Spec.pad X n c w := by
  have key : ∀ (a : Fin 8192) (hp : 128 ≤ n.val * 128 + c.val ∧ n.val * 128 + c.val < 8320), a.val = n.val * 128 + c.val - 128 →
      X (ix2 a w) = Spec.pad X n c w := fun a hp ha => by
    unfold Spec.pad
    rw [dif_pos hp]
    exact congrArg (fun a => X (ix2 a w)) (Fin.ext ha)
  have zero : ¬ (128 ≤ n.val * 128 + c.val ∧ n.val * 128 + c.val < 8320) → (0 : EReal) = Spec.pad X n c w := fun hp => by
    unfold Spec.pad
    rw [dif_neg hp]
  split
  · split
    · exact key _ (by omega) (by dsimp only)
    · exact zero (by omega)
  · split
    · split
      · exact key _ (by omega) (by dsimp only; omega)
      · exact zero (by omega)
    · split
      · exact key _ (by omega) (by dsimp only; omega)
      · exact zero (by omega)

theorem fp_zero : (FloatOps.sitofp (F := Idealize.ShloMosaic.Ideal) FTy.f32 0#32 : EReal) = 0 := by
  show (((0#32 : BitVec 32).toInt : ℝ) : EReal) = 0
  simp

theorem v12 (n : Fin 64) (c : Fin 384) (k : Fin 2) (d : Fin 64) :
    (res_main_v12 V (ix5 0 n c k d) : EReal) = Spec.pad (V (Proc.devRef .tc main_arg1)) n c (Spec.kcol k d) := by
  unfold res_main_v12 res_main_v8 res_main_v2
  clean_types
  pointwise [fp_zero]
  exact pad_cases (V (Proc.devRef .tc main_arg1)) n c (Spec.kcol k d) (fun h => h.2) (fun h => h.2) (fun h => h.2)

theorem v18 (n : Fin 64) (c : Fin 384) (k : Fin 2) (d : Fin 64) :
    (res_main_v18 V (ix5 0 n c k d) : EReal) = Spec.pad (V (Proc.devRef .tc main_arg1)) n c (Spec.vcol k d) := by
  unfold res_main_v18 res_main_v14 res_main_v2
  clean_types
  pointwise [fp_zero]
  exact pad_cases (V (Proc.devRef .tc main_arg1)) n c (Spec.vcol k d) (fun h => h.2) (fun h => h.2) (fun h => h.2)

theorem v19 (n : Fin 64) (r : Fin 128) (k : Fin 2) (g : Fin 4) (d : Fin 64) :
    (res_main_v19 V (ix6 0 n r k g d) : EReal) = V (Proc.devRef .tc main_arg0) (ix2 (Spec.qrow n r) (Spec.qcol k g d)) := by
  unfold res_main_v19
  clean_types
  pointwise

theorem v116 (n : Fin 64) (k : Fin 2) (d : Fin 64) (g : Fin 4) (r : Fin 128) :
    (res_main_v116 V (ix6 0 n k d g r) : EReal) = V (Proc.devRef .tc main_arg2) (ix2 (Spec.qrow n r) (Spec.gcol k g d)) := by
  unfold res_main_v116
  clean_types
  pointwise

theorem G_eq (n : Fin 64) (k : Fin 2) (g : Fin 4) (r : Fin 128) (c : Fin 384) :
    G V n k g r c = Spec.Gr (V (Proc.devRef .tc main_arg1)) (V (Proc.devRef .tc main_arg2)) n k g r c := by
  unfold G res_main_v117 Spec.Gr
  clean_types
  pointwise [v116, v18]

theorem v31 (r : Fin 128) (c : Fin 384) : res_main_v31 V (ix2 r c) = Spec.adist r.val c.val := by
  unfold res_main_v31
  clean_types
  pointwise

theorem v42 (n : Fin 64) (c : Fin 384) : res_main_v42 V (ix2 n c)
    = IntOp.addi (IntOp.muli (IntOp.subi (BitVec.ofNat 32 n) 1#32) 128#32) (BitVec.ofNat 32 c) := by
  unfold res_main_v42
  clean_types
  pointwise

theorem pos_toInt (n : Fin 64) (c : Fin 384) :
    (IntOp.addi (IntOp.muli (IntOp.subi (BitVec.ofNat 32 n.val) 1#32) 128#32) (BitVec.ofNat 32 c.val)).toInt
      = (n.val : Int) * 128 + c.val - 128 := by
  have h1 : (1#32 : BitVec 32).toInt = 1 := by decide
  have h2 : (128#32 : BitVec 32).toInt = 128 := by decide
  unfold IntOp.addi IntOp.muli IntOp.subi
  rw [BitVec.toInt_add, BitVec.toInt_mul, BitVec.toInt_sub, h1, h2, WordCmp.toInt_ofNat_of_lt (by omega),
    WordCmp.toInt_ofNat_of_lt (by omega)]
  simp only [Int.bmod]
  omega

theorem v67_1 (n : Fin 64) (k : Fin 2) (g : Fin 4) (r : Fin 128) (c : Fin 384) :
    (res_main_v67_1 V (ix6 0 n k g r c)) = if Spec.Valid n r c then 1#1 else 0#1 := by
  unfold res_main_v67_1
  clean_types
  pointwise [v31, v42]
  unfold IntOp.andi IntOp.cmpi
  have hn := Spec.near r.val c.val r.isLt c.isLt
  have hp := pos_toInt n c
  have hlo : (0#32).sle (IntOp.addi (IntOp.muli (IntOp.subi (BitVec.ofNat 32 n.val) 1#32) 128#32) (BitVec.ofNat 32 c.val)) = true
      ↔ 128 ≤ n.val * 128 + c.val := by
    rw [BitVec.sle_iff_toInt_le, hp, show (0#32 : BitVec 32).toInt = 0 by decide]; omega
  have hhi : (IntOp.addi (IntOp.muli (IntOp.subi (BitVec.ofNat 32 n.val) 1#32) 128#32) (BitVec.ofNat 32 c.val)).slt 8192#32 = true
      ↔ n.val * 128 + c.val < 8320 := by
    rw [BitVec.slt_iff_toInt_lt, hp, show (8192#32 : BitVec 32).toInt = 8192 by decide]; omega
  dsimp only
  have hv : Spec.Valid n r c ↔ _ ∧ _ ∧ _ := and_congr hn.symm (and_congr hlo.symm hhi.symm)
  clear hn hp hlo hhi
  revert hv
  generalize (Spec.adist r.val c.val).sle 128#32 = a
  generalize (0#32).sle (IntOp.addi (IntOp.muli (IntOp.subi (BitVec.ofNat 32 n.val) 1#32) 128#32) (BitVec.ofNat 32 c.val)) = b
  generalize (IntOp.addi (IntOp.muli (IntOp.subi (BitVec.ofNat 32 n.val) 1#32) 128#32) (BitVec.ofNat 32 c.val)).slt 8192#32 = e
  intro hv
  by_cases h : Spec.Valid n r c
  · obtain ⟨rfl, rfl, rfl⟩ := hv.1 h
    rw [if_pos h]
    rfl
  · rw [if_neg h]
    cases a <;> cases b <;> cases e <;> first | rfl | exact absurd (hv.2 ⟨rfl, rfl, rfl⟩) h

theorem slope_eq (k : Fin 2) (g : Fin 4) :
    (Idealize.ShloMosaic.Ideal.ofBits FTy.f32 (lit0 (S8.rowMajor (ix1 (Spec.head k g)))) : EReal) = Spec.slope k g := by
  have : ∀ h : Fin 8, (Idealize.ShloMosaic.Ideal.ofBits FTy.f32 (lit0 h) : EReal) = (((2 : ℝ) ^ (h.val + 1))⁻¹ : ℝ)
    | 0 => Spec.slope0 | 1 => Spec.slope1 | 2 => Spec.slope2 | 3 => Spec.slope3
    | 4 => Spec.slope4 | 5 => Spec.slope5 | 6 => Spec.slope6 | 7 => Spec.slope7
  have e : S8.rowMajor (ix1 (Spec.head k g)) = Spec.head k g := Fin.ext (Shape.rowMajor_val_one _)
  rw [e]
  exact this _

theorem S_eq (n : Fin 64) (k : Fin 2) (g : Fin 4) (r : Fin 128) (c : Fin 384) :
    S V n k g r c = Spec.Sr (V (Proc.devRef .tc main_arg0)) (V (Proc.devRef .tc main_arg1)) n k g r c := by
  unfold S res_main_v67_0 Spec.Sr
  clean_types
  pointwise [v12, v19, v67_1, v31, slope_eq]
  by_cases hv : Spec.Valid n r c
  · rw [if_pos hv, if_pos hv]
    rfl
  · rw [if_neg hv, if_neg hv]
    exact ninf

/-- The arguments' arrays, as functions of their index. -/
abbrev Qa : (⟨2, ![8192, 512]⟩ : Shape).Idx → EReal := V (Proc.devRef .tc main_arg0)
abbrev Xa : (⟨2, ![8192, 256]⟩ : Shape).Idx → EReal := V (Proc.devRef .tc main_arg1)
abbrev Da : (⟨2, ![8192, 1024]⟩ : Shape).Idx → EReal := V (Proc.devRef .tc main_arg2)
abbrev Za : (⟨1, ![8]⟩ : Shape).Idx → EReal := V (Proc.devRef .tc main_arg3)

theorem S_fun (n : Fin 64) (k : Fin 2) (g : Fin 4) (r : Fin 128) : S V n k g r = Spec.Sr (Qa V) (Xa V) n k g r :=
  funext fun c => S_eq V n k g r c
theorem G_fun (n : Fin 64) (k : Fin 2) (g : Fin 4) (r : Fin 128) : G V n k g r = Spec.Gr (Xa V) (Da V) n k g r :=
  funext fun c => G_eq V n k g r c

/-- The gradient of a score. -/
theorem ds_at (n : Fin 64) (k : Fin 2) (g : Fin 4) (r : Fin 128) (c : Fin 384) :
    (res_main_v154 V (ix6 0 n k c r g) : EReal) = Spec.dsr (Qa V) (Xa V) (Da V) (Za V) (W V (ix6 0 n k g r 0)) n k g r c := by
  rw [v154, v67_1, S_fun, G_fun]
  unfold Spec.dsr
  by_cases h : Spec.Valid n r c
  · rw [if_pos h, if_pos h]
    rfl
  · rw [if_neg h, if_neg h]
    rfl

/-- The probability of a key. -/
theorem p_at (n : Fin 64) (k : Fin 2) (g : Fin 4) (r : Fin 128) (c : Fin 384) :
    (res_main_v106 V (ix6 0 n k g r c) : EReal) = Spec.pr (Qa V) (Xa V) (Za V) n k g r c := by
  rw [v106, S_fun]
  rfl

/-- The sink's gradient of a row. -/
theorem gs_at (n : Fin 64) (k : Fin 2) (g : Fin 4) (r : Fin 128) :
    (res_main_v128 V (ix6 0 n k g r 0) : EReal) = Spec.gsr (Qa V) (Xa V) (Da V) (Za V) n k g r := by
  rw [v128, S_fun, G_fun]
  rfl

/-- The maximum's gradient of a row. -/
theorem gm_at (n : Fin 64) (k : Fin 2) (g : Fin 4) (r : Fin 128) :
    (res_main_v140 V (ix6 0 n k g r 0) : EReal) = Row.rgm (Spec.Sr (Qa V) (Xa V) n k g r) (Spec.Gr (Xa V) (Da V) n k g r) (Spec.snk (Za V) k g) := by
  rw [v140, S_fun, G_fun]

end Cert.ReferenceIdeal.At

end
-- ==== Proof.RefRes.lean ====
/- The reference's three results at an index. -/
module

public import proofs.«01_k».proof.Proof.Gen.ReferenceIdeal.Run
public import Idealize.ShloMosaic.Lib.Pointwise
public import proofs.«01_k».proof.Proof.RefRow
public import Idealize.ShloMosaic.Lib.Tactic.CleanTypes

@[expose] public section

set_option maxRecDepth 16384

noncomputable section

namespace Cert.ReferenceIdeal.At

open Cert.ReferenceIdeal Cert.ReferenceIdeal.Gen Cert.ReferenceIdeal.Value Idealize.ShloMosaic Idealize.ShloMosaic.TcCoe Idealize.SL.Sem

variable (V : Valuation τ sig (Elt Ideal))

/-- The three results as `run` states them. -/
def gq : FVec Idealize.ShloMosaic.Ideal S8192x512 .f32 := shapeCast _ (shapeCast _ (transpose S1x64x128x2x4x64 [0, 1, 3, 2, 4, 5] (Host.dotGeneral (φ₁ := .f32) (φ₂ := .f32) dot_S1x64x2x384x128x4_S1x64x384x2x64_S1x64x2x128x4x64_3_2_45_4_012_013 none (res_main_v154 V) (res_main_v12 V)) transposes_S1x64x2x128x4x64_S1x64x128x2x4x64_0_1_3_2_4_5) shapeCasts_S1x64x128x2x4x64_S1x8192x8x64) shapeCasts_S1x8192x8x64_S8192x512
def dkv : FVec Idealize.ShloMosaic.Ideal S3x8192x256 .f32 := concatenate S3x8192x256 2 [⟨S3x8192x128, (shapeCast _ (transpose S3x64x128x128 [1, 0, 2, 3] (shapeCast _ (transpose S1x64x384x2x64 [0, 1, 3, 2, 4] (Host.dotGeneral (φ₁ := .f32) (φ₂ := .f32) dot_S1x64x2x384x128x4_S1x64x128x2x4x64_S1x64x2x384x64_45_24_3_5_012_013 none (res_main_v154 V) (res_main_v19 V)) transposes_S1x64x2x384x64_S1x64x384x2x64_0_1_3_2_4) shapeCasts_S1x64x384x2x64_S64x3x128x128) transposes_S64x3x128x128_S3x64x128x128_1_0_2_3) shapeCasts_S3x64x128x128_S3x8192x128)⟩, ⟨S3x8192x128, (shapeCast _ (transpose S3x64x128x128 [1, 0, 2, 3] (shapeCast _ (transpose S1x64x384x2x64 [0, 1, 4, 2, 3] (Host.dotGeneral (φ₁ := .f32) (φ₂ := .f32) dot_S1x64x2x64x4x128_S1x64x2x4x128x384_S1x64x2x64x384_45_34_3_5_012_012 none (res_main_v116 V) (res_main_v106 V)) transposes_S1x64x2x64x384_S1x64x384x2x64_0_1_4_2_3) shapeCasts_S1x64x384x2x64_S64x3x128x128) transposes_S64x3x128x128_S3x64x128x128_1_0_2_3) shapeCasts_S3x64x128x128_S3x8192x128)⟩] concatenates_S3x8192x128_S3x8192x128_S3x8192x256_d2
def gs : FVec Idealize.ShloMosaic.Ideal S8x128 .f32 := broadcastInDim S8x128 ![0, 1] bcast_S8x1_S8x128_0_1 (broadcastInDim S8x1 ![0] bcast_S8_S8x1_0 (shapeCast _ (addf (shapeCast _ (Host.reduceAdd (res_main_v128 V) (constant S_ .f32 0x00000000#32) reducesTo_S1x64x2x4x128x1_S1x2x4x1_d1_4 h_S_) shapeCasts_S1x2x4x1_S1x1x2x4x1x1) (shapeCast _ (Host.reduceAdd (mulf (res_main_v140 V) (W' V)) (constant S_ .f32 0x00000000#32) reducesTo_S1x64x2x4x128x1_S1x2x4x1_d1_4 h_S_) shapeCasts_S1x2x4x1_S1x1x2x4x1x1)) shapeCasts_S1x1x2x4x1x1_S8))

/-- A key slot of the three blocks. -/
abbrev kslot (b : Fin 3) (j : Fin 128) : Fin 384 := ⟨b.val * 128 + j.val, by omega⟩

theorem gq_at (n : Fin 64) (k : Fin 2) (g : Fin 4) (r : Fin 128) (d : Fin 64) :
    (gq V (ix2 (Spec.qrow n r) (Spec.qcol k g d)) : EReal)
      = ∑ c : Fin 384, Spec.dsr (Qa V) (Xa V) (Da V) (Za V) (W V (ix6 0 n k g r 0)) n k g r c * Spec.pad (Xa V) n c (Spec.kcol k d) := by
  unfold gq
  pointwise
  simp only [show (n.val * 128 + r.val) / 128 = n.val by omega, show (n.val * 128 + r.val) % 128 = r.val by omega,
    show (k.val * 256 + g.val * 64 + d.val) / 256 = k.val by omega, show (k.val * 256 + g.val * 64 + d.val) / 64 % 4 = g.val by omega,
    show (k.val * 256 + g.val * 64 + d.val) % 64 = d.val by omega, Fin.eta, ds_at, v12]

theorem dk_at (b : Fin 3) (n : Fin 64) (j : Fin 128) (k : Fin 2) (d : Fin 64) :
    (dkv V (ix3 b (Spec.qrow n j) (Spec.kcol k d)) : EReal)
      = ∑ r : Fin 128, ∑ g : Fin 4, Spec.dsr (Qa V) (Xa V) (Da V) (Za V) (W V (ix6 0 n k g r 0)) n k g r (kslot b j)
          * Qa V (ix2 (Spec.qrow n r) (Spec.qcol k g d)) := by
  unfold dkv
  pointwise
  rw [dif_pos (by omega)]
  simp only [ds_at, v19]

theorem dv_at (b : Fin 3) (n : Fin 64) (j : Fin 128) (k : Fin 2) (d : Fin 64) :
    (dkv V (ix3 b (Spec.qrow n j) (Spec.vcol k d)) : EReal)
      = ∑ g : Fin 4, ∑ r : Fin 128, Da V (ix2 (Spec.qrow n r) (Spec.gcol k g d)) * Spec.pr (Qa V) (Xa V) (Za V) n k g r (kslot b j) := by
  unfold dkv
  pointwise
  simp only [v116, p_at]

theorem gs_sums (k : Fin 2) (g : Fin 4) (l : Fin 128) :
    (gs V (ix2 (Spec.head k g) l) : EReal)
      = ∑ x : Fin 64 × Fin 128, Spec.gsr (Qa V) (Xa V) (Da V) (Za V) x.1 k g x.2
        + ∑ x : Fin 64 × Fin 128, Row.rgm (Spec.Sr (Qa V) (Xa V) x.1 k g x.2) (Spec.Gr (Xa V) (Da V) x.1 k g x.2) (Spec.snk (Za V) k g)
            * W' V (ix6 0 x.1 k g x.2 0) := by
  unfold gs
  pointwise [sum_d1_4]
  simp only [gs_at, gm_at]

/-! ### The results are the kernel's, where the arguments are real -/

section
variable {V} (h : Spec.AllReal (Qa V) (Xa V) (Da V) (Za V))

include h in
theorem gq_res (n : Fin 64) (k : Fin 2) (g : Fin 4) (r : Fin 128) (d : Fin 64) :
    (gq V (ix2 (Spec.qrow n r) (Spec.qcol k g d)) : EReal)
      = ∑ c : Fin 384, Spec.dsk (Qa V) (Xa V) (Da V) (Za V) n k g r c * Xa V (ix2 (Spec.slot n c) (Spec.kcol k d)) :=
  (gq_at V n k g r d).trans (Spec.gq_eq h n k g r _ d).symm

include h in
theorem dk_res (b : Fin 3) (n : Fin 64) (j : Fin 128) (k : Fin 2) (d : Fin 64) :
    (dkv V (ix3 b (Spec.qrow n j) (Spec.kcol k d)) : EReal)
      = ∑ g : Fin 4, ∑ r : Fin 128, Spec.dsk (Qa V) (Xa V) (Da V) (Za V) n k g r (kslot b j)
          * Qa V (ix2 (Spec.qrow n r) (Spec.qcol k g d)) := by
  rw [dk_at, Finset.sum_comm]
  exact Finset.sum_congr rfl fun g _ => Finset.sum_congr rfl fun r _ => by rw [Spec.ds_eq h]

include h in
theorem dv_res (b : Fin 3) (n : Fin 64) (j : Fin 128) (k : Fin 2) (d : Fin 64) :
    (dkv V (ix3 b (Spec.qrow n j) (Spec.vcol k d)) : EReal)
      = ∑ g : Fin 4, ∑ r : Fin 128, Spec.pk (Qa V) (Xa V) (Za V) n k g r (kslot b j)
          * Da V (ix2 (Spec.qrow n r) (Spec.gcol k g d)) := by
  rw [dv_at]
  exact Finset.sum_congr rfl fun g _ => Finset.sum_congr rfl fun r _ => by rw [Spec.p_eq h, mul_comm]

include h in
theorem gs_res (k : Fin 2) (g : Fin 4) (l : Fin 128) :
    (gs V (ix2 (Spec.head k g) l) : EReal)
      = ∑ n : Fin 64, ((0 : EReal) - ∑ r : Fin 128, Spec.gsk (Qa V) (Xa V) (Da V) (Za V) n k g r) := by
  rw [gs_sums]
  simp only [Spec.rgm_zero h, zero_mul, Finset.sum_const_zero, add_zero, Spec.gs_sum h]
  exact Fintype.sum_prod_type _
end

end Cert.ReferenceIdeal.At

end
-- ==== Proof.KerRow.lean ====
/- The kernel's payloads of one head's rows, at an index: the softmax with its sink and the gradient of a row. -/
module

public import proofs.«01_k».proof.Proof.Gen.KernelIdeal.Skeleton
public import proofs.«01_k».proof.Proof.Spec
public import Idealize.ShloMosaic.Lib.Pointwise
public import Idealize.ShloMosaic.Lib.Tactic.CleanTypes

@[expose] public section

set_option maxRecDepth 16384

noncomputable section

namespace Cert.KernelIdeal.At

open Idealize.ShloMosaic Idealize.SL.Sem Cert.KernelIdeal Cert.KernelIdeal.Gen

theorem ninf : (Ideal.ofBits FTy.f32 0xFF800000#32 : EReal) = ⊥ := by
  simp [Ideal.ofBits, Ideal.ieee]

section
variable {v24 : IVec S512x384 1} {v25 v43 : FVec Ideal S512x384 .f32} {v65 v69 : FVec Ideal S512x1 .f32} {v71 : IVec S512x1 1} {v72 : Elt Ideal .f32}
  {v31 : FVec Ideal S384x64 .bf16} {v42 : FVec Ideal S512x64 .bf16}
  {S G : Fin 384 → EReal} {sk : EReal} {x : Fin 512}
  (hS : ∀ c, (k0_pay15 v24 v25 v43 v69 (ix2 x c) : EReal) = S c)
  (hk : (k0_pay14 v65 v71 v72 (ix2 x 0) : EReal) = sk)
  (hG : ∀ c, (k0_pay21 v31 v42 (ix2 x c) : EReal) = G c)

include hS hk in
theorem mx_at : (k0_pay16 v24 v25 v43 v65 v69 v71 v72 (ix2 x 0) : EReal) = Row.mx S sk := by
  unfold k0_pay16
  pointwise [hS, hk, ninf]
  rfl

include hS hk in
theorem ex_at (c : Fin 384) : (k0_pay17 v24 v25 v43 v65 v69 v71 v72 (ix2 x c) : EReal) = Row.ex S sk c := by
  unfold k0_pay17
  pointwise [hS, mx_at hS hk]
  rfl

include hS hk in
theorem es_at : (k0_pay18 v24 v25 v43 v65 v69 v71 v72 (ix2 x 0) : EReal) = Row.es S sk := by
  unfold k0_pay18
  pointwise [hk, mx_at hS hk]
  rfl

include hS hk in
theorem inv_at : (k0_pay19 v24 v25 v43 v65 v69 v71 v72 (ix2 x 0) : EReal) = Ideal.div 1 (Row.den S sk) := by
  unfold k0_pay19
  pointwise [ex_at hS hk, es_at hS hk]
  rfl

include hS hk in
theorem p_at (c : Fin 384) : (k0_pay20 v24 v25 v43 v65 v69 v71 v72 (ix2 x c) : EReal) = Row.p S sk c := by
  unfold k0_pay20
  pointwise [ex_at hS hk, inv_at hS hk]
  rfl

include hS hk hG in
theorem dlt_at : (k0_pay22 v24 v25 v31 v42 v43 v65 v69 v71 v72 (ix2 x 0) : EReal) = Row.dlt S G sk := by
  unfold k0_pay22
  pointwise [p_at hS hk, hG]
  rfl

include hS hk hG in
theorem gsk_at : (k0_pay23 v24 v25 v31 v42 v43 v65 v69 v71 v72 (ix2 x 0) : EReal) = Row.gsk S G sk := by
  unfold k0_pay23
  pointwise [es_at hS hk, inv_at hS hk, dlt_at hS hk hG]
  rfl

include hS hk hG in
theorem ds_at (c : Fin 384) : (k0_pay30 (k0_pay20 v24 v25 v43 v65 v69 v71 v72) (k0_pay21 v31 v42) (k0_pay22 v24 v25 v31 v42 v43 v65 v69 v71 v72) (ix2 x c) : EReal)
    = Row.ds S G sk c := by
  unfold k0_pay30
  pointwise [p_at hS hk, hG, dlt_at hS hk hG]
  rfl

end

/-- A row of the four query heads' stack. -/
abbrev stk (g : Fin 4) (r : Fin 128) : Fin 512 := ⟨g.val * 128 + r.val, by omega⟩

/-- Masking a word's low seven bits drops the head from a row of the stack. -/
theorem low7 (g : Fin 4) (r : Fin 128) : IntOp.andi (BitVec.ofNat 32 (g.val * 128 + r.val)) 127#32 = BitVec.ofNat 32 r.val := by
  unfold IntOp.andi
  apply BitVec.eq_of_toNat_eq
  have h : (127 : Nat) = 2 ^ 7 - 1 := by norm_num
  rw [BitVec.toNat_and, WordCmp.toNat_ofNat_of_lt (by omega), WordCmp.toNat_ofNat_of_lt (by omega), WordCmp.toNat_ofNat_of_lt (by omega), h,
    Nat.and_two_pow_sub_one_eq_mod]
  show (g.val * 128 + r.val) % 2 ^ 7 = r.val
  omega

theorem dist_at (g : Fin 4) (r : Fin 128) (c : Fin 384) : (k0_pay2 (ix2 (stk g r) c) : BitVec 32) = Spec.adist r.val c.val := by
  unfold k0_pay2
  pointwise [low7]
  try rfl

theorem fdist_at (g : Fin 4) (r : Fin 128) (c : Fin 384) : (k0_pay4 (F := Ideal) (ix2 (stk g r) c) : EReal) = Spec.dist r c := by
  unfold k0_pay4
  pointwise [dist_at]
  rfl

theorem valid_at (i : grid0.Coords) (n : Fin 64) (hi : (i 0).val = n.val) (g : Fin 4) (r : Fin 128) (c : Fin 384) :
    (k0_pay3 i (ix2 (stk g r) c) : BitVec 1) = 1#1 ↔ Spec.Valid n r c := by
  unfold k0_pay3
  pointwise [dist_at]
  rw [hi]
  have h := Spec.near r.val c.val r.isLt c.isLt
  rw [show IntOp.cmpi .sle (Spec.adist r.val c.val) 128#32 = BitVec.ofBool ((Spec.adist r.val c.val).sle 128#32) from rfl]
  generalize (Spec.adist r.val c.val).sle 128#32 = b at h ⊢
  unfold Spec.Valid
  rw [← h]
  simp only [WordCmp.scalar_cmpi_eq, WordCmp.cmpi_sge_ofNat (w := 32) (a := c.val) (b := 128) (by omega) (by omega),
    WordCmp.cmpi_slt_ofNat (w := 32) (a := c.val) (b := 256) (by omega) (by omega),
    WordCmp.cmpi_sge_ofNat (w := 32) (a := n.val) (b := 1) (by omega) (by omega),
    WordCmp.cmpi_sle_ofNat (w := 32) (a := n.val) (b := 62) (by omega) (by omega),
    WordCmp.andi_ofBool, WordCmp.ori_ofBool, WordCmp.ofBool_eq_one_iff, Bool.and_eq_true, Bool.or_eq_true, decide_eq_true_iff, and_assoc]
  have hn := n.isLt
  have hc := c.isLt
  refine and_congr_right fun _ => ?_
  omega

/-- A chain of selections over the stack's rows takes the row's head. -/
theorem pick {α : Type} (f : Fin 4 → α) (a b c d : α) (h0 : a = f 0) (h1 : b = f 1) (h2 : c = f 2) (h3 : d = f 3) (g : Fin 4) (r : Fin 128) :
    Scalar.select (IntOp.cmpi .sge (BitVec.ofNat 32 (stk g r).val) 384#32) d
      (Scalar.select (IntOp.cmpi .sge (BitVec.ofNat 32 (stk g r).val) 256#32) c
        (Scalar.select (IntOp.cmpi .sge (BitVec.ofNat 32 (stk g r).val) 128#32) b a)) = f g := by
  subst h0 h1 h2 h3
  simp only [WordCmp.cmpi_sge_ofNat (w := 32) (a := (stk g r).val) (b := 384) (by omega) (by omega),
    WordCmp.cmpi_sge_ofNat (w := 32) (a := (stk g r).val) (b := 256) (by omega) (by omega),
    WordCmp.cmpi_sge_ofNat (w := 32) (a := (stk g r).val) (b := 128) (by omega) (by omega), WordCmp.select_ofBool, decide_eq_true_iff]
  have e : (stk g r).val = g.val * 128 + r.val := rfl
  have hr := r.isLt
  split_ifs
  · exact congrArg f (Fin.ext (by show 3 = g.val; omega))
  · exact congrArg f (Fin.ext (by show 2 = g.val; omega))
  · exact congrArg f (Fin.ext (by show 1 = g.val; omega))
  · exact congrArg f (Fin.ext (by show 0 = g.val; omega))

theorem slope_lo (g : Fin 4) (r : Fin 128) : (k0_pay12 (F := Ideal) (ix2 (stk g r) 0) : EReal) = Spec.slope 0 g := by
  unfold k0_pay12
  pointwise
  exact pick (Spec.slope 0) _ _ _ _ Spec.slope0 Spec.slope1 Spec.slope2 Spec.slope3 g r

theorem slope_hi (g : Fin 4) (r : Fin 128) :
    (select (k0_pay51) (broadcast S512x1 (Scalar.ofBits (F := Ideal) .f32 0x3B800000#32)) (k0_pay49 (F := Ideal)) (ix2 (stk g r) 0) : EReal) = Spec.slope 1 g := by
  unfold k0_pay51 k0_pay49
  pointwise
  exact pick (Spec.slope 1) _ _ _ _ Spec.slope4 Spec.slope5 Spec.slope6 Spec.slope7 g r

theorem snk_at (f : Fin 4 → EReal) (v46 v54 v63 v72 : Elt Ideal .f32) (h0 : v46 = f 0) (h1 : v54 = f 1) (h2 : v63 = f 2) (h3 : v72 = f 3)
    (g : Fin 4) (r : Fin 128) : (k0_pay14 (k0_pay11 v46 v54 v63) k0_pay13 v72 (ix2 (stk g r) 0) : EReal) = f g := by
  unfold k0_pay14 k0_pay11 k0_pay13
  pointwise
  exact pick f _ _ _ _ h0 h1 h2 h3 g r

theorem score_at (v24 : IVec S512x384 1) (v25 v43 : FVec Ideal S512x384 .f32) (v69 : FVec Ideal S512x1 .f32) (x : Fin 512) (c : Fin 384) :
    (k0_pay15 v24 v25 v43 v69 (ix2 x c) : EReal) = if v24 (ix2 x c) = 1#1 then v43 (ix2 x c) - v69 (ix2 x 0) * v25 (ix2 x c) else ⊥ := by
  unfold k0_pay15
  pointwise
  rfl

/-! ## One key head at one query block -/

section
variable (Q : (⟨2, ![8192, 512]⟩ : Shape).Idx → EReal) (X : (⟨2, ![8192, 256]⟩ : Shape).Idx → EReal)
  (D : (⟨2, ![8192, 1024]⟩ : Shape).Idx → EReal) (Z : (⟨1, ![8]⟩ : Shape).Idx → EReal)

/-- What the kernel holds of a key head at a query block: mask and distances, keys, values, the four heads' queries and gradients
    stacked, the slopes and the sinks. -/
structure Held (n : Fin 64) (k : Fin 2) (v24 : IVec S512x384 1) (v25 : FVec Ideal S512x384 .f32) (v30 v31 : FVec Ideal S384x64 .bf16)
    (v36 v42 : FVec Ideal S512x64 .bf16) (v43 : FVec Ideal S512x384 .f32) (v65 v69 : FVec Ideal S512x1 .f32) (v71 : IVec S512x1 1) (v72 : Elt Ideal .f32) : Prop where
  mask : ∀ g r c, v24 (ix2 (stk g r) c) = 1#1 ↔ Spec.Valid n r c
  dist : ∀ g r c, (v25 (ix2 (stk g r) c) : EReal) = Spec.dist r c
  key : ∀ c d, (v30 (ix2 c d) : EReal) = X (ix2 (Spec.slot n c) (Spec.kcol k d))
  val : ∀ c d, (v31 (ix2 c d) : EReal) = X (ix2 (Spec.slot n c) (Spec.vcol k d))
  qry : ∀ g r d, (v36 (ix2 (stk g r) d) : EReal) = Q (ix2 (Spec.qrow n r) (Spec.qcol k g d))
  grd : ∀ g r d, (v42 (ix2 (stk g r) d) : EReal) = D (ix2 (Spec.qrow n r) (Spec.gcol k g d))
  dot : ∀ x c, (v43 (ix2 x c) : EReal) = ∑ d : Fin 64, v36 (ix2 x d) * v30 (ix2 c d)
  slope : ∀ g r, (v69 (ix2 (stk g r) 0) : EReal) = Spec.slope k g
  sink : ∀ g r, (k0_pay14 v65 v71 v72 (ix2 (stk g r) 0) : EReal) = Spec.snk Z k g
end

/-- A sum over the stack's rows, head by head. -/
theorem sum_stk (f : Fin 512 → EReal) : (∑ x : Fin 512, f x) = ∑ g : Fin 4, ∑ r : Fin 128, f (stk g r) := by
  rw [← Fintype.sum_prod_type' (fun g r => f (stk g r))]
  refine (Fintype.sum_equiv (finProdFinEquiv (m := 4) (n := 128)) _ _ fun x => congrArg f (Fin.ext ?_)).symm
  show x.1.val * 128 + x.2.val = x.2.val + 128 * x.1.val
  omega

section
variable {Q : (⟨2, ![8192, 512]⟩ : Shape).Idx → EReal} {X : (⟨2, ![8192, 256]⟩ : Shape).Idx → EReal}
  {D : (⟨2, ![8192, 1024]⟩ : Shape).Idx → EReal} {Z : (⟨1, ![8]⟩ : Shape).Idx → EReal}
  {n : Fin 64} {k : Fin 2} {v24 : IVec S512x384 1} {v25 : FVec Ideal S512x384 .f32} {v30 v31 : FVec Ideal S384x64 .bf16}
  {v36 v42 : FVec Ideal S512x64 .bf16} {v43 : FVec Ideal S512x384 .f32} {v65 v69 : FVec Ideal S512x1 .f32} {v71 : IVec S512x1 1} {v72 : Elt Ideal .f32}
  (H : Held Q X D Z n k v24 v25 v30 v31 v36 v42 v43 v65 v69 v71 v72)

include H in
theorem Held.s (g : Fin 4) (r : Fin 128) (c : Fin 384) : (k0_pay15 v24 v25 v43 v69 (ix2 (stk g r) c) : EReal) = Spec.Sk Q X n k g r c := by
  rw [score_at]
  unfold Spec.Sk
  by_cases hv : Spec.Valid n r c
  · rw [if_pos ((H.mask g r c).mpr hv), if_pos hv, H.dot, H.slope, H.dist]
    simp only [H.qry, H.key]
  · rw [if_neg (fun h => hv ((H.mask g r c).mp h)), if_neg hv]

include H in
theorem Held.g (g : Fin 4) (r : Fin 128) (c : Fin 384) : (k0_pay21 v31 v42 (ix2 (stk g r) c) : EReal) = Spec.Gk X D n k g r c := by
  unfold k0_pay21
  pointwise
  simp only [H.grd, H.val]
  rfl

include H in
theorem Held.p (g : Fin 4) (r : Fin 128) (c : Fin 384) :
    (k0_pay20 v24 v25 v43 v65 v69 v71 v72 (ix2 (stk g r) c) : EReal) = Spec.pk Q X Z n k g r c :=
  p_at (H.s g r) (H.sink g r) c

include H in
theorem Held.gsk (g : Fin 4) (r : Fin 128) :
    (k0_pay23 v24 v25 v31 v42 v43 v65 v69 v71 v72 (ix2 (stk g r) 0) : EReal) = Spec.gsk Q X D Z n k g r :=
  gsk_at (H.s g r) (H.sink g r) (H.g g r)

include H in
theorem Held.ds (g : Fin 4) (r : Fin 128) (c : Fin 384) :
    (k0_pay30 (k0_pay20 v24 v25 v43 v65 v69 v71 v72) (k0_pay21 v31 v42) (k0_pay22 v24 v25 v31 v42 v43 v65 v69 v71 v72) (ix2 (stk g r) c) : EReal)
      = Spec.dsk Q X D Z n k g r c :=
  ds_at (H.s g r) (H.sink g r) (H.g g r) c

include H in
theorem Held.gq (g : Fin 4) (r : Fin 128) (d : Fin 64) :
    (k0_pay33 v30 (k0_pay20 v24 v25 v43 v65 v69 v71 v72) (k0_pay21 v31 v42) (k0_pay22 v24 v25 v31 v42 v43 v65 v69 v71 v72) (ix2 (stk g r) d) : EReal)
      = ∑ c : Fin 384, Spec.dsk Q X D Z n k g r c * X (ix2 (Spec.slot n c) (Spec.kcol k d)) := by
  unfold k0_pay33
  pointwise
  simp only [H.ds, H.key]

include H in
theorem Held.gk (c : Fin 384) (d : Fin 64) :
    (k0_pay32 v36 (k0_pay20 v24 v25 v43 v65 v69 v71 v72) (k0_pay21 v31 v42) (k0_pay22 v24 v25 v31 v42 v43 v65 v69 v71 v72) (ix2 c d) : EReal)
      = ∑ g : Fin 4, ∑ r : Fin 128, Spec.dsk Q X D Z n k g r c * Q (ix2 (Spec.qrow n r) (Spec.qcol k g d)) := by
  unfold k0_pay32
  pointwise [sum_stk]
  simp only [H.ds, H.qry]

include H in
theorem Held.gv (c : Fin 384) (d : Fin 64) :
    (k0_pay31 v42 (k0_pay20 v24 v25 v43 v65 v69 v71 v72) (ix2 c d) : EReal)
      = ∑ g : Fin 4, ∑ r : Fin 128, Spec.pk Q X Z n k g r c * D (ix2 (Spec.qrow n r) (Spec.gcol k g d)) := by
  unfold k0_pay31
  pointwise [sum_stk]
  simp only [H.p, H.grd]

end

end Cert.KernelIdeal.At

end
-- ==== Proof.KerHeld.lean ====
/- What the kernel holds of each of its two key heads, from the blocks it loads. -/
module

public import proofs.«01_k».proof.Proof.KerRow

@[expose] public section

set_option maxRecDepth 16384

noncomputable section

namespace Cert.KernelIdeal.At

open Idealize.ShloMosaic Idealize.SL.Sem Cert.KernelIdeal Cert.KernelIdeal.Gen

/-- A key slot of the three blocks. -/
abbrev kslot (b : Fin 3) (j : Fin 128) : Fin 384 := ⟨b.val * 128 + j.val, by omega⟩

theorem slots (c : Fin 384) : ∃ b j, c = kslot b j :=
  ⟨⟨c.val / 128, by omega⟩, ⟨c.val % 128, by omega⟩, Fin.ext (by show c.val = c.val / 128 * 128 + c.val % 128; omega)⟩

theorem rows_of (x : Fin 512) : ∃ g r, x = stk g r :=
  ⟨⟨x.val / 128, by omega⟩, ⟨x.val % 128, by omega⟩, Fin.ext (by show x.val = x.val / 128 * 128 + x.val % 128; omega)⟩

/-- Three blocks of keys and values one under the other. -/
theorem kv_at {x1 x2 x3 : Vec Ideal S128x256 .bf16} {f : Fin 384 → Fin 256 → EReal}
    (h1 : ∀ j w, (x1 (ix2 j w) : EReal) = f (kslot 0 j) w) (h2 : ∀ j w, (x2 (ix2 j w) : EReal) = f (kslot 1 j) w)
    (h3 : ∀ j w, (x3 (ix2 j w) : EReal) = f (kslot 2 j) w) (c : Fin 384) (w : Fin 256) :
    (k0_pay5 x1 x2 x3 (ix2 c w) : EReal) = f c w := by
  unfold k0_pay5
  pointwise
  by_cases a : c.val < 128
  · rw [dif_pos a, h1]
    exact congrArg (f · w) (Fin.ext (by show 0 * 128 + c.val = c.val; omega))
  · rw [dif_neg a]
    by_cases b : c.val - 128 < 128
    · rw [dif_pos b, h2]
      exact congrArg (f · w) (Fin.ext (by show 1 * 128 + (c.val - 128) = c.val; omega))
    · rw [dif_neg b, h3]
      exact congrArg (f · w) (Fin.ext (by show 2 * 128 + (c.val - 128 - 128) = c.val; omega))

/-- A chain of cases over the stack's rows takes the row's head. -/
theorem stack {a0 a1 a2 a3 : (⟨2, ![128, 64]⟩ : Shape).Idx → EReal} {f : Fin 4 → Fin 128 → Fin 64 → EReal}
    (h0 : ∀ r d, a0 (ix2 r d) = f 0 r d) (h1 : ∀ r d, a1 (ix2 r d) = f 1 r d)
    (h2 : ∀ r d, a2 (ix2 r d) = f 2 r d) (h3 : ∀ r d, a3 (ix2 r d) = f 3 r d)
    (g : Fin 4) (r : Fin 128) (d : Fin 64) :
    (if h : g.val * 128 + r.val < 128 then a0 (ix2 ⟨g.val * 128 + r.val, h⟩ d)
      else if h : g.val * 128 + r.val - 128 < 128 then a1 (ix2 ⟨g.val * 128 + r.val - 128, h⟩ d)
      else if h : g.val * 128 + r.val - 128 - 128 < 128 then a2 (ix2 ⟨g.val * 128 + r.val - 128 - 128, h⟩ d)
      else a3 (ix2 ⟨g.val * 128 + r.val - 128 - 128 - 128, by omega⟩ d)) = f g r d := by
  have hr := r.isLt
  by_cases a : g.val * 128 + r.val < 128
  · rw [dif_pos a, h0]
    exact congrArg₂ (f · · d) (Fin.ext (by show 0 = g.val; omega)) (Fin.ext (by show g.val * 128 + r.val = r.val; omega))
  rw [dif_neg a]
  by_cases b : g.val * 128 + r.val - 128 < 128
  · rw [dif_pos b, h1]
    exact congrArg₂ (f · · d) (Fin.ext (by show 1 = g.val; omega)) (Fin.ext (by show g.val * 128 + r.val - 128 = r.val; omega))
  rw [dif_neg b]
  by_cases e : g.val * 128 + r.val - 128 - 128 < 128
  · rw [dif_pos e, h2]
    exact congrArg₂ (f · · d) (Fin.ext (by show 2 = g.val; omega)) (Fin.ext (by show g.val * 128 + r.val - 128 - 128 = r.val; omega))
  · rw [dif_neg e, h3]
    exact congrArg₂ (f · · d) (Fin.ext (by show 3 = g.val; omega)) (Fin.ext (by show g.val * 128 + r.val - 128 - 128 - 128 = r.val; omega))

theorem stack_q {a0 a1 a2 a3 : Vec Ideal S128x64 .bf16} {f : Fin 4 → Fin 128 → Fin 64 → EReal}
    (h0 : ∀ r d, (a0 (ix2 r d) : EReal) = f 0 r d) (h1 : ∀ r d, (a1 (ix2 r d) : EReal) = f 1 r d)
    (h2 : ∀ r d, (a2 (ix2 r d) : EReal) = f 2 r d) (h3 : ∀ r d, (a3 (ix2 r d) : EReal) = f 3 r d)
    (g : Fin 4) (r : Fin 128) (d : Fin 64) : (k0_pay8 a0 a1 a2 a3 (ix2 (stk g r) d) : EReal) = f g r d := by
  unfold k0_pay8
  pointwise
  exact stack h0 h1 h2 h3 g r d

theorem stack_o {a0 a1 a2 a3 : Vec Ideal S128x64 .f32} {f : Fin 4 → Fin 128 → Fin 64 → EReal}
    (h0 : ∀ r d, (a0 (ix2 r d) : EReal) = f 0 r d) (h1 : ∀ r d, (a1 (ix2 r d) : EReal) = f 1 r d)
    (h2 : ∀ r d, (a2 (ix2 r d) : EReal) = f 2 r d) (h3 : ∀ r d, (a3 (ix2 r d) : EReal) = f 3 r d)
    (g : Fin 4) (r : Fin 128) (d : Fin 64) : (k0_pay9 a0 a1 a2 a3 (ix2 (stk g r) d) : EReal) = f g r d := by
  unfold k0_pay9
  pointwise
  exact stack h0 h1 h2 h3 g r d

theorem dot_at (v30 : FVec Ideal S384x64 .bf16) (a0 a1 a2 a3 : Vec Ideal S128x64 .bf16) (x : Fin 512) (c : Fin 384) :
    (k0_pay10 v30 a0 a1 a2 a3 (ix2 x c) : EReal) = ∑ d : Fin 64, k0_pay8 a0 a1 a2 a3 (ix2 x d) * v30 (ix2 c d) := by
  unfold k0_pay10
  pointwise

section
variable {Q : (⟨2, ![8192, 512]⟩ : Shape).Idx → EReal} {X : (⟨2, ![8192, 256]⟩ : Shape).Idx → EReal}
  {D : (⟨2, ![8192, 1024]⟩ : Shape).Idx → EReal} {Z : (⟨1, ![8]⟩ : Shape).Idx → EReal}
  {n : Fin 64} {i : grid0.Coords} {x1 x2 x3 : Vec Ideal S128x256 .bf16} {q0 q1 q2 q3 : Vec Ideal S128x64 .bf16}
  {o0 o1 o2 o3 : Vec Ideal S128x64 .f32} {s0 s1 s2 s3 : Elt Ideal .f32}

variable (Q X D Z n i) in
/-- The blocks that the kernel loads for a key head at a query block. -/
structure Loads (k : Fin 2) (x1 x2 x3 : Vec Ideal S128x256 .bf16) (q0 q1 q2 q3 : Vec Ideal S128x64 .bf16)
    (o0 o1 o2 o3 : Vec Ideal S128x64 .f32) (s0 s1 s2 s3 : Elt Ideal .f32) : Prop where
  i : (i 0).val = n.val
  x1 : ∀ j w, (x1 (ix2 j w) : EReal) = X (ix2 (Spec.slot n (kslot 0 j)) w)
  x2 : ∀ j w, (x2 (ix2 j w) : EReal) = X (ix2 (Spec.slot n (kslot 1 j)) w)
  x3 : ∀ j w, (x3 (ix2 j w) : EReal) = X (ix2 (Spec.slot n (kslot 2 j)) w)
  q0 : ∀ r d, (q0 (ix2 r d) : EReal) = Q (ix2 (Spec.qrow n r) (Spec.qcol k 0 d))
  q1 : ∀ r d, (q1 (ix2 r d) : EReal) = Q (ix2 (Spec.qrow n r) (Spec.qcol k 1 d))
  q2 : ∀ r d, (q2 (ix2 r d) : EReal) = Q (ix2 (Spec.qrow n r) (Spec.qcol k 2 d))
  q3 : ∀ r d, (q3 (ix2 r d) : EReal) = Q (ix2 (Spec.qrow n r) (Spec.qcol k 3 d))
  o0 : ∀ r d, (o0 (ix2 r d) : EReal) = D (ix2 (Spec.qrow n r) (Spec.gcol k 0 d))
  o1 : ∀ r d, (o1 (ix2 r d) : EReal) = D (ix2 (Spec.qrow n r) (Spec.gcol k 1 d))
  o2 : ∀ r d, (o2 (ix2 r d) : EReal) = D (ix2 (Spec.qrow n r) (Spec.gcol k 2 d))
  o3 : ∀ r d, (o3 (ix2 r d) : EReal) = D (ix2 (Spec.qrow n r) (Spec.gcol k 3 d))
  s0 : (s0 : EReal) = Spec.snk Z k 0
  s1 : (s1 : EReal) = Spec.snk Z k 1
  s2 : (s2 : EReal) = Spec.snk Z k 2
  s3 : (s3 : EReal) = Spec.snk Z k 3

theorem Loads.lo (h : Loads Q X D Z n i 0 x1 x2 x3 q0 q1 q2 q3 o0 o1 o2 o3 s0 s1 s2 s3) :
    Held Q X D Z n 0 (k0_pay3 i) (k0_pay4 (F := Ideal)) (k0_pay6 x1 x2 x3) (k0_pay7 x1 x2 x3) (k0_pay8 q0 q1 q2 q3) (k0_pay9 o0 o1 o2 o3)
      (k0_pay10 (k0_pay6 x1 x2 x3) q0 q1 q2 q3) (k0_pay11 s0 s1 s2) (k0_pay12 (F := Ideal)) k0_pay13 s3 where
  mask := valid_at i n h.i
  dist := fdist_at
  key c d := by
    unfold k0_pay6
    pointwise [kv_at (f := fun c w => X (ix2 (Spec.slot n c) w)) h.x1 h.x2 h.x3]
    exact congrArg X (congrArg (ix2 (Spec.slot n c)) (Fin.ext (by show d.val = 0 * 64 + d.val; omega)))
  val c d := by
    unfold k0_pay7
    pointwise [kv_at (f := fun c w => X (ix2 (Spec.slot n c) w)) h.x1 h.x2 h.x3]
    exact congrArg X (congrArg (ix2 (Spec.slot n c)) (Fin.ext (by show 128 + d.val = 128 + (0 * 64 + d.val); omega)))
  qry := stack_q (f := fun g r d => Q (ix2 (Spec.qrow n r) (Spec.qcol 0 g d))) h.q0 h.q1 h.q2 h.q3
  grd := stack_o (f := fun g r d => D (ix2 (Spec.qrow n r) (Spec.gcol 0 g d))) h.o0 h.o1 h.o2 h.o3
  dot := dot_at _ _ _ _ _
  slope := slope_lo
  sink := snk_at (Spec.snk Z 0) _ _ _ _ h.s0 h.s1 h.s2 h.s3

/-- The second key head's slopes and the last head's rows, as its payloads write them. -/
abbrev slopes : FVec Ideal S512x1 .f32 :=
  select (k0_pay51) (broadcast S512x1 (Scalar.ofBits (F := Ideal) .f32 0x3B800000#32)) (k0_pay49 (F := Ideal))
abbrev lastHead : IVec S512x1 1 := cmpi .sge (iota .tc S512x1 32 [0] iota_S512x1_d0_w32) (broadcast S512x1 384#32)

theorem Loads.hi (h : Loads Q X D Z n i 1 x1 x2 x3 q0 q1 q2 q3 o0 o1 o2 o3 s0 s1 s2 s3) :
    Held Q X D Z n 1 (k0_pay3 i) (k0_pay4 (F := Ideal)) (k0_pay44 (k0_pay5 x1 x2 x3)) (k0_pay45 (k0_pay5 x1 x2 x3)) (k0_pay46 q0 q1 q2 q3)
      (k0_pay47 o0 o1 o2 o3) (k0_pay48 (k0_pay44 (k0_pay5 x1 x2 x3)) q0 q1 q2 q3) (k0_pay50 s0 s1 s2) slopes lastHead s3 where
  mask := valid_at i n h.i
  dist := fdist_at
  key c d := by
    unfold k0_pay44
    pointwise [kv_at (f := fun c w => X (ix2 (Spec.slot n c) w)) h.x1 h.x2 h.x3]
    rfl
  val c d := by
    unfold k0_pay45
    pointwise [kv_at (f := fun c w => X (ix2 (Spec.slot n c) w)) h.x1 h.x2 h.x3]
    exact congrArg X (congrArg (ix2 (Spec.slot n c)) (Fin.ext (by show 192 + d.val = 128 + (1 * 64 + d.val); omega)))
  qry := stack_q (f := fun g r d => Q (ix2 (Spec.qrow n r) (Spec.qcol 1 g d))) h.q0 h.q1 h.q2 h.q3
  grd := stack_o (f := fun g r d => D (ix2 (Spec.qrow n r) (Spec.gcol 1 g d))) h.o0 h.o1 h.o2 h.o3
  dot := dot_at _ _ _ _ _
  slope := slope_hi
  sink := snk_at (Spec.snk Z 1) _ _ _ _ h.s0 h.s1 h.s2 h.s3
end

end Cert.KernelIdeal.At

end
-- ==== Proof.KerArr.lean ====
/- The kernel's three result arrays, at an index. -/
module

public import proofs.«01_k».proof.Proof.Gen.KernelIdeal.Value
public import proofs.«01_k».proof.Proof.KerHeld
public import Idealize.ShloMosaic.Lib.Pipeline.ReadBack
public import Idealize.ShloMosaic.Lib.Pipeline.ValueKit

@[expose] public section

set_option maxRecDepth 16384

noncomputable section

namespace Cert.KernelIdeal.At

open Idealize.ShloMosaic Idealize.SL.Sem Idealize.ShloMosaic.TcCoe Cert.KernelIdeal Cert.KernelIdeal.Gen

variable (m : (ℓ : Loc nD τ sig) → Buf (Elt Ideal) ℓ)

abbrev Qa (c : Dev nD) : (⟨2, ![8192, 512]⟩ : Shape).Idx → EReal := m ((c : Thread nD τ).loc main_arg0)
abbrev Xa (c : Dev nD) : (⟨2, ![8192, 256]⟩ : Shape).Idx → EReal := m ((c : Thread nD τ).loc main_arg1)
abbrev Da (c : Dev nD) : (⟨2, ![8192, 1024]⟩ : Shape).Idx → EReal := m ((c : Thread nD τ).loc main_arg2)
abbrev Za (c : Dev nD) : (⟨1, ![8]⟩ : Shape).Idx → EReal := m ((c : Thread nD τ).loc main_arg3)

/-- The blocks that the windows read at a point. -/
theorem idx : ∀ t : Fin cfg0.N, win0_0.index t = ![t.val, 0] ∧ win0_1.index t = ![t.val - 1, 0] ∧ win0_2.index t = ![t.val, 0]
    ∧ win0_3.index t = ![min (t.val + 1) 63, 0] ∧ win0_4.index t = ![0] ∧ win0_5.index t = ![t.val, 0]
    ∧ win0_6.index t = ![t.val, 0] ∧ win0_7.index t = ![0, t.val, 0] ∧ ((grid0.coords t) 0).val = t.val :=
  (by decide +kernel : ∀ t : Fin grid0.N, _)

section
variable (c : Dev nD) (t : Fin cfg0.N) (n : Fin 64) (hn : n.val = t.val)

include hn in
theorem q_at (o : Nat) (inb) (k : Fin 2) (g : Fin 4) (ho : o = k.val * 256 + g.val * 64) (r : Fin 128) (d : Fin 64) :
    (View.ld (iblk m c 0 t) (Rect.unit (s := S128x512) ![0, o] ![128, 64] inb) (ix2 r d) : EReal)
      = Qa m c (ix2 (Spec.qrow n r) (Spec.qcol k g d)) := by
  subst ho
  refine (View.ld_unit_apply_of _ _ _ inb (ix2 r d) (ix2 r ⟨k.val * 256 + g.val * 64 + d.val, by omega⟩)
    (fun a => by fin_cases a <;> simp)).trans ?_
  blk_ext [iblk, V, idx t]
  all_goals simp [Spec.qrow, Spec.qcol, hn]

include hn in
theorem o_at (o : Nat) (inb) (k : Fin 2) (g : Fin 4) (ho : o = k.val * 256 + g.val * 64) (r : Fin 128) (d : Fin 64) :
    (View.ld (iblk m c 5 t) (Rect.unit (s := S128x512) ![0, o] ![128, 64] inb) (ix2 r d) : EReal)
      = Da m c (ix2 (Spec.qrow n r) (Spec.gcol k g d)) := by
  subst ho
  refine (View.ld_unit_apply_of _ _ _ inb (ix2 r d) (ix2 r ⟨k.val * 256 + g.val * 64 + d.val, by omega⟩)
    (fun a => by fin_cases a <;> simp)).trans ?_
  blk_ext [iblk, V, idx t]
  all_goals simp [Spec.qrow, Spec.gcol, hn]

include hn in
theorem x1_at (j : Fin 128) (w : Fin 256) : (iblk m c 1 t (ix2 j w) : EReal) = Xa m c (ix2 (Spec.slot n (kslot 0 j)) w) := by
  blk_ext [iblk, V, idx t]
  simp [Spec.slot, kslot, hn]

include hn in
theorem x2_at (j : Fin 128) (w : Fin 256) : (iblk m c 2 t (ix2 j w) : EReal) = Xa m c (ix2 (Spec.slot n (kslot 1 j)) w) := by
  blk_ext [iblk, V, idx t]
  simp [Spec.slot, kslot, hn]
  omega

include hn in
theorem x3_at (j : Fin 128) (w : Fin 256) : (iblk m c 3 t (ix2 j w) : EReal) = Xa m c (ix2 (Spec.slot n (kslot 2 j)) w) := by
  blk_ext [iblk, V, idx t]
  simp [Spec.slot, kslot, hn]
  omega

theorem s_at (o : Nat) (inb) (k : Fin 2) (g : Fin 4) (ho : o = k.val * 4 + g.val) (h) :
    (View.ld (iblk m c 4 t) (Rect.unit (s := S8) ![o] ![1] inb) (Shape.Idx.first h) : EReal) = Spec.snk (Za m c) k g := by
  subst ho
  refine (View.ld_unit_apply_of _ _ _ inb _ (ix1 ⟨k.val * 4 + g.val, by omega⟩)
    (fun a => by fin_cases a; simp [Shape.Idx.first])).trans ?_
  blk_ext [iblk, V, idx t]
  all_goals simp [Spec.head]

theorem loads (k : Fin 2) (a0 a1 a2 a3 : Nat) (z0 z1 z2 z3 : Nat) (i0 i1 i2 i3 j0 j1 j2 j3 w0 w1 w2 w3 f0 f1 f2 f3)
    (ha0 : a0 = k.val * 256 + 0 * 64) (ha1 : a1 = k.val * 256 + 1 * 64) (ha2 : a2 = k.val * 256 + 2 * 64) (ha3 : a3 = k.val * 256 + 3 * 64)
    (hz0 : z0 = k.val * 4 + 0) (hz1 : z1 = k.val * 4 + 1) (hz2 : z2 = k.val * 4 + 2) (hz3 : z3 = k.val * 4 + 3) :
    Loads (Qa m c) (Xa m c) (Da m c) (Za m c) ⟨t.val, t.isLt⟩ (grid0.coords t) k (iblk m c 1 t) (iblk m c 2 t) (iblk m c 3 t)
      (View.ld (iblk m c 0 t) (Rect.unit (s := S128x512) ![0, a0] ![128, 64] i0))
      (View.ld (iblk m c 0 t) (Rect.unit (s := S128x512) ![0, a1] ![128, 64] i1))
      (View.ld (iblk m c 0 t) (Rect.unit (s := S128x512) ![0, a2] ![128, 64] i2))
      (View.ld (iblk m c 0 t) (Rect.unit (s := S128x512) ![0, a3] ![128, 64] i3))
      (View.ld (iblk m c 5 t) (Rect.unit (s := S128x512) ![0, a0] ![128, 64] j0))
      (View.ld (iblk m c 5 t) (Rect.unit (s := S128x512) ![0, a1] ![128, 64] j1))
      (View.ld (iblk m c 5 t) (Rect.unit (s := S128x512) ![0, a2] ![128, 64] j2))
      (View.ld (iblk m c 5 t) (Rect.unit (s := S128x512) ![0, a3] ![128, 64] j3))
      (View.ld (iblk m c 4 t) (Rect.unit (s := S8) ![z0] ![1] w0) (Shape.Idx.first f0))
      (View.ld (iblk m c 4 t) (Rect.unit (s := S8) ![z1] ![1] w1) (Shape.Idx.first f1))
      (View.ld (iblk m c 4 t) (Rect.unit (s := S8) ![z2] ![1] w2) (Shape.Idx.first f2))
      (View.ld (iblk m c 4 t) (Rect.unit (s := S8) ![z3] ![1] w3) (Shape.Idx.first f3)) where
  i := (idx t).2.2.2.2.2.2.2.2
  x1 := x1_at m c t _ rfl
  x2 := x2_at m c t _ rfl
  x3 := x3_at m c t _ rfl
  q0 := q_at m c t _ rfl _ _ k 0 ha0
  q1 := q_at m c t _ rfl _ _ k 1 ha1
  q2 := q_at m c t _ rfl _ _ k 2 ha2
  q3 := q_at m c t _ rfl _ _ k 3 ha3
  o0 := o_at m c t _ rfl _ _ k 0 ha0
  o1 := o_at m c t _ rfl _ _ k 1 ha1
  o2 := o_at m c t _ rfl _ _ k 2 ha2
  o3 := o_at m c t _ rfl _ _ k 3 ha3
  s0 := s_at m c t _ _ k 0 hz0 _
  s1 := s_at m c t _ _ k 1 hz1 _
  s2 := s_at m c t _ _ k 2 hz2 _
  s3 := s_at m c t _ _ k 3 hz3 _

/-- What the body holds at a point for the first key head. -/
theorem held_lo : Held (Qa m c) (Xa m c) (Da m c) (Za m c) ⟨t.val, t.isLt⟩ 0 (k0_pay3 (grid0.coords t)) (k0_pay4 (F := Ideal))
    (k0_pay6 (iblk m c 1 t) (iblk m c 2 t) (iblk m c 3 t)) (k0_pay7 (iblk m c 1 t) (iblk m c 2 t) (iblk m c 3 t))
    (k0_pay8 (View.ld (iblk m c 0 t) (Rect.unit (s := S128x512) ![0, 0] ![128, 64] inb_S128x512_S128x64_0_0)) (View.ld (iblk m c 0 t) (Rect.unit (s := S128x512) ![0, 64] ![128, 64] inb_S128x512_S128x64_0_64)) (View.ld (iblk m c 0 t) (Rect.unit (s := S128x512) ![0, 128] ![128, 64] inb_S128x512_S128x64_0_128)) (View.ld (iblk m c 0 t) (Rect.unit (s := S128x512) ![0, 192] ![128, 64] inb_S128x512_S128x64_0_192)))
    (k0_pay9 (View.ld (iblk m c 5 t) (Rect.unit (s := S128x512) ![0, 0] ![128, 64] inb_S128x512_S128x64_0_0)) (View.ld (iblk m c 5 t) (Rect.unit (s := S128x512) ![0, 64] ![128, 64] inb_S128x512_S128x64_0_64)) (View.ld (iblk m c 5 t) (Rect.unit (s := S128x512) ![0, 128] ![128, 64] inb_S128x512_S128x64_0_128)) (View.ld (iblk m c 5 t) (Rect.unit (s := S128x512) ![0, 192] ![128, 64] inb_S128x512_S128x64_0_192)))
    (k0_pay10 (k0_pay6 (iblk m c 1 t) (iblk m c 2 t) (iblk m c 3 t)) (View.ld (iblk m c 0 t) (Rect.unit (s := S128x512) ![0, 0] ![128, 64] inb_S128x512_S128x64_0_0)) (View.ld (iblk m c 0 t) (Rect.unit (s := S128x512) ![0, 64] ![128, 64] inb_S128x512_S128x64_0_64)) (View.ld (iblk m c 0 t) (Rect.unit (s := S128x512) ![0, 128] ![128, 64] inb_S128x512_S128x64_0_128)) (View.ld (iblk m c 0 t) (Rect.unit (s := S128x512) ![0, 192] ![128, 64] inb_S128x512_S128x64_0_192)))
    (k0_pay11 (View.ld (iblk m c 4 t) (Rect.unit (s := S8) ![0] ![1] inb_S8_S1_0) (Shape.Idx.first (s := S1) (by decide))) (View.ld (iblk m c 4 t) (Rect.unit (s := S8) ![1] ![1] inb_S8_S1_1) (Shape.Idx.first (s := S1) (by decide))) (View.ld (iblk m c 4 t) (Rect.unit (s := S8) ![2] ![1] inb_S8_S1_2) (Shape.Idx.first (s := S1) (by decide))))
    (k0_pay12 (F := Ideal)) k0_pay13 (View.ld (iblk m c 4 t) (Rect.unit (s := S8) ![3] ![1] inb_S8_S1_3) (Shape.Idx.first (s := S1) (by decide))) :=
  Loads.lo (loads m c t 0 0 64 128 192 0 1 2 3 _ _ _ _ _ _ _ _ _ _ _ _ _ _ _ _ (by decide) (by decide) (by decide) (by decide) (by decide) (by decide) (by decide) (by decide))

/-- What the body holds at a point for the second key head. -/
theorem held_hi : Held (Qa m c) (Xa m c) (Da m c) (Za m c) ⟨t.val, t.isLt⟩ 1 (k0_pay3 (grid0.coords t)) (k0_pay4 (F := Ideal))
    (k0_pay44 (k0_pay5 (iblk m c 1 t) (iblk m c 2 t) (iblk m c 3 t))) (k0_pay45 (k0_pay5 (iblk m c 1 t) (iblk m c 2 t) (iblk m c 3 t)))
    (k0_pay46 (View.ld (iblk m c 0 t) (Rect.unit (s := S128x512) ![0, 256] ![128, 64] inb_S128x512_S128x64_0_256)) (View.ld (iblk m c 0 t) (Rect.unit (s := S128x512) ![0, 320] ![128, 64] inb_S128x512_S128x64_0_320)) (View.ld (iblk m c 0 t) (Rect.unit (s := S128x512) ![0, 384] ![128, 64] inb_S128x512_S128x64_0_384)) (View.ld (iblk m c 0 t) (Rect.unit (s := S128x512) ![0, 448] ![128, 64] inb_S128x512_S128x64_0_448)))
    (k0_pay47 (View.ld (iblk m c 5 t) (Rect.unit (s := S128x512) ![0, 256] ![128, 64] inb_S128x512_S128x64_0_256)) (View.ld (iblk m c 5 t) (Rect.unit (s := S128x512) ![0, 320] ![128, 64] inb_S128x512_S128x64_0_320)) (View.ld (iblk m c 5 t) (Rect.unit (s := S128x512) ![0, 384] ![128, 64] inb_S128x512_S128x64_0_384)) (View.ld (iblk m c 5 t) (Rect.unit (s := S128x512) ![0, 448] ![128, 64] inb_S128x512_S128x64_0_448)))
    (k0_pay48 (k0_pay44 (k0_pay5 (iblk m c 1 t) (iblk m c 2 t) (iblk m c 3 t))) (View.ld (iblk m c 0 t) (Rect.unit (s := S128x512) ![0, 256] ![128, 64] inb_S128x512_S128x64_0_256)) (View.ld (iblk m c 0 t) (Rect.unit (s := S128x512) ![0, 320] ![128, 64] inb_S128x512_S128x64_0_320)) (View.ld (iblk m c 0 t) (Rect.unit (s := S128x512) ![0, 384] ![128, 64] inb_S128x512_S128x64_0_384)) (View.ld (iblk m c 0 t) (Rect.unit (s := S128x512) ![0, 448] ![128, 64] inb_S128x512_S128x64_0_448)))
    (k0_pay50 (View.ld (iblk m c 4 t) (Rect.unit (s := S8) ![4] ![1] inb_S8_S1_4) (Shape.Idx.first (s := S1) (by decide))) (View.ld (iblk m c 4 t) (Rect.unit (s := S8) ![5] ![1] inb_S8_S1_5) (Shape.Idx.first (s := S1) (by decide))) (View.ld (iblk m c 4 t) (Rect.unit (s := S8) ![6] ![1] inb_S8_S1_6) (Shape.Idx.first (s := S1) (by decide))))
    slopes lastHead (View.ld (iblk m c 4 t) (Rect.unit (s := S8) ![7] ![1] inb_S8_S1_7) (Shape.Idx.first (s := S1) (by decide))) :=
  Loads.hi (loads m c t 1 256 320 384 448 4 5 6 7 _ _ _ _ _ _ _ _ _ _ _ _ _ _ _ _ (by decide) (by decide) (by decide) (by decide) (by decide) (by decide) (by decide) (by decide))

end

section
variable {Q : (⟨2, ![8192, 512]⟩ : Shape).Idx → EReal} {X : (⟨2, ![8192, 256]⟩ : Shape).Idx → EReal}
  {D : (⟨2, ![8192, 1024]⟩ : Shape).Idx → EReal} {Z : (⟨1, ![8]⟩ : Shape).Idx → EReal}
  {n : Fin 64} {k : Fin 2} {v24 : IVec S512x384 1} {v25 : FVec Ideal S512x384 .f32} {v30 v31 : FVec Ideal S384x64 .bf16}
  {v36 v42 : FVec Ideal S512x64 .bf16} {v43 : FVec Ideal S512x384 .f32} {v65 v69 : FVec Ideal S512x1 .f32} {v71 : IVec S512x1 1} {v72 : Elt Ideal .f32}
  (H : Held Q X D Z n k v24 v25 v30 v31 v36 v42 v43 v65 v69 v71 v72)

include H in
theorem Held.gq0 (r : Fin 128) (d : Fin 64) : (k0_pay34 v30 (k0_pay20 v24 v25 v43 v65 v69 v71 v72) (k0_pay21 v31 v42) (k0_pay22 v24 v25 v31 v42 v43 v65 v69 v71 v72) (ix2 r d) : EReal)
    = ∑ e : Fin 384, Spec.dsk Q X D Z n k 0 r e * X (ix2 (Spec.slot n e) (Spec.kcol k d)) := by
  rw [← H.gq]
  unfold k0_pay34
  pointwise
  exact congrArg _ (congrArg (ix2 · d) (Fin.ext (by simp [stk, kslot])))

include H in
theorem Held.gq1 (r : Fin 128) (d : Fin 64) : (k0_pay35 v30 (k0_pay20 v24 v25 v43 v65 v69 v71 v72) (k0_pay21 v31 v42) (k0_pay22 v24 v25 v31 v42 v43 v65 v69 v71 v72) (ix2 r d) : EReal)
    = ∑ e : Fin 384, Spec.dsk Q X D Z n k 1 r e * X (ix2 (Spec.slot n e) (Spec.kcol k d)) := by
  rw [← H.gq]
  unfold k0_pay35
  pointwise
  exact congrArg _ (congrArg (ix2 · d) (Fin.ext (by simp [stk, kslot])))

include H in
theorem Held.gq2 (r : Fin 128) (d : Fin 64) : (k0_pay36 v30 (k0_pay20 v24 v25 v43 v65 v69 v71 v72) (k0_pay21 v31 v42) (k0_pay22 v24 v25 v31 v42 v43 v65 v69 v71 v72) (ix2 r d) : EReal)
    = ∑ e : Fin 384, Spec.dsk Q X D Z n k 2 r e * X (ix2 (Spec.slot n e) (Spec.kcol k d)) := by
  rw [← H.gq]
  unfold k0_pay36
  pointwise
  exact congrArg _ (congrArg (ix2 · d) (Fin.ext (by simp [stk, kslot])))

include H in
theorem Held.gq3 (r : Fin 128) (d : Fin 64) : (k0_pay37 (k0_pay33 v30 (k0_pay20 v24 v25 v43 v65 v69 v71 v72) (k0_pay21 v31 v42) (k0_pay22 v24 v25 v31 v42 v43 v65 v69 v71 v72)) (ix2 r d) : EReal)
    = ∑ e : Fin 384, Spec.dsk Q X D Z n k 3 r e * X (ix2 (Spec.slot n e) (Spec.kcol k d)) := by
  rw [← H.gq]
  unfold k0_pay37
  pointwise
  exact congrArg _ (congrArg (ix2 · d) (Fin.ext (by simp [stk, kslot])))

include H in
theorem Held.gk0 (z : Fin 1) (j : Fin 128) (d : Fin 64) : (k0_pay38 (k0_pay32 v36 (k0_pay20 v24 v25 v43 v65 v69 v71 v72) (k0_pay21 v31 v42) (k0_pay22 v24 v25 v31 v42 v43 v65 v69 v71 v72)) (ix3 z j d) : EReal)
    = ∑ g : Fin 4, ∑ r : Fin 128, Spec.dsk Q X D Z n k g r (kslot 0 j) * Q (ix2 (Spec.qrow n r) (Spec.qcol k g d)) := by
  rw [← H.gk]
  unfold k0_pay38
  pointwise
  exact congrArg _ (congrArg (ix2 · d) (Fin.ext (by simp [stk, kslot])))

include H in
theorem Held.gv0 (z : Fin 1) (j : Fin 128) (d : Fin 64) : (k0_pay39 (k0_pay31 v42 (k0_pay20 v24 v25 v43 v65 v69 v71 v72)) (ix3 z j d) : EReal)
    = ∑ g : Fin 4, ∑ r : Fin 128, Spec.pk Q X Z n k g r (kslot 0 j) * D (ix2 (Spec.qrow n r) (Spec.gcol k g d)) := by
  rw [← H.gv]
  unfold k0_pay39
  pointwise
  exact congrArg _ (congrArg (ix2 · d) (Fin.ext (by simp [stk, kslot])))

include H in
theorem Held.gk1 (z : Fin 1) (j : Fin 128) (d : Fin 64) : (k0_pay40 (k0_pay32 v36 (k0_pay20 v24 v25 v43 v65 v69 v71 v72) (k0_pay21 v31 v42) (k0_pay22 v24 v25 v31 v42 v43 v65 v69 v71 v72)) (ix3 z j d) : EReal)
    = ∑ g : Fin 4, ∑ r : Fin 128, Spec.dsk Q X D Z n k g r (kslot 1 j) * Q (ix2 (Spec.qrow n r) (Spec.qcol k g d)) := by
  rw [← H.gk]
  unfold k0_pay40
  pointwise
  exact congrArg _ (congrArg (ix2 · d) (Fin.ext (by simp [stk, kslot])))

include H in
theorem Held.gv1 (z : Fin 1) (j : Fin 128) (d : Fin 64) : (k0_pay41 (k0_pay31 v42 (k0_pay20 v24 v25 v43 v65 v69 v71 v72)) (ix3 z j d) : EReal)
    = ∑ g : Fin 4, ∑ r : Fin 128, Spec.pk Q X Z n k g r (kslot 1 j) * D (ix2 (Spec.qrow n r) (Spec.gcol k g d)) := by
  rw [← H.gv]
  unfold k0_pay41
  pointwise
  exact congrArg _ (congrArg (ix2 · d) (Fin.ext (by simp [stk, kslot])))

include H in
theorem Held.gk2 (z : Fin 1) (j : Fin 128) (d : Fin 64) : (k0_pay42 (k0_pay32 v36 (k0_pay20 v24 v25 v43 v65 v69 v71 v72) (k0_pay21 v31 v42) (k0_pay22 v24 v25 v31 v42 v43 v65 v69 v71 v72)) (ix3 z j d) : EReal)
    = ∑ g : Fin 4, ∑ r : Fin 128, Spec.dsk Q X D Z n k g r (kslot 2 j) * Q (ix2 (Spec.qrow n r) (Spec.qcol k g d)) := by
  rw [← H.gk]
  unfold k0_pay42
  pointwise
  exact congrArg _ (congrArg (ix2 · d) (Fin.ext (by simp [stk, kslot])))

include H in
theorem Held.gv2 (z : Fin 1) (j : Fin 128) (d : Fin 64) : (k0_pay43 (k0_pay31 v42 (k0_pay20 v24 v25 v43 v65 v69 v71 v72)) (ix3 z j d) : EReal)
    = ∑ g : Fin 4, ∑ r : Fin 128, Spec.pk Q X Z n k g r (kslot 2 j) * D (ix2 (Spec.qrow n r) (Spec.gcol k g d)) := by
  rw [← H.gv]
  unfold k0_pay43
  pointwise
  exact congrArg _ (congrArg (ix2 · d) (Fin.ext (by simp [stk, kslot])))

theorem sub_form (a s t : EReal) (h : s = t) : a - s = a + ((0 : EReal) - t) := by
  subst h
  rw [sub_eq_add_neg, sub_eq_add_neg, zero_add]

include H in
theorem Held.gs0 (v : Vec Ideal S1x128 .f32) (z : Fin 1) (l : Fin 128) : (k0_pay24 v24 v25 v31 v42 v43 v65 v69 v71 v72 v (ix2 z l) : EReal)
    = v (ix2 z l) + ((0 : EReal) - ∑ r : Fin 128, Spec.gsk Q X D Z n k 0 r) := by
  simp only [← H.gsk]
  unfold k0_pay24
  pointwise
  exact sub_form _ _ _ (Finset.sum_congr rfl fun r _ => congrArg _ (congrArg (ix2 · 0) (Fin.ext (by simp [stk]))))

include H in
theorem Held.gs1 (v : Vec Ideal S1x128 .f32) (z : Fin 1) (l : Fin 128) : (k0_pay27 (k0_pay25 v) (k0_pay26 v24 v25 v31 v42 v43 v65 v69 v71 v72) (ix2 z l) : EReal)
    = v (ix2 z l) + ((0 : EReal) - ∑ r : Fin 128, Spec.gsk Q X D Z n k 1 r) := by
  simp only [← H.gsk]
  unfold k0_pay27 k0_pay25 k0_pay26
  pointwise
  exact sub_form _ _ _ (Finset.sum_congr rfl fun r _ => congrArg _ (congrArg (ix2 · 0) (Fin.ext (by simp [stk]))))

include H in
theorem Held.gs2 (v : Vec Ideal S1x128 .f32) (z : Fin 1) (l : Fin 128) : (k0_pay28 (k0_pay23 v24 v25 v31 v42 v43 v65 v69 v71 v72) v (ix2 z l) : EReal)
    = v (ix2 z l) + ((0 : EReal) - ∑ r : Fin 128, Spec.gsk Q X D Z n k 2 r) := by
  simp only [← H.gsk]
  unfold k0_pay28
  pointwise
  exact sub_form _ _ _ (Finset.sum_congr rfl fun r _ => congrArg _ (congrArg (ix2 · 0) (Fin.ext (by simp [stk]))))

include H in
theorem Held.gs3 (v : Vec Ideal S1x128 .f32) (z : Fin 1) (l : Fin 128) : (k0_pay29 (k0_pay23 v24 v25 v31 v42 v43 v65 v69 v71 v72) v (ix2 z l) : EReal)
    = v (ix2 z l) + ((0 : EReal) - ∑ r : Fin 128, Spec.gsk Q X D Z n k 3 r) := by
  simp only [← H.gsk]
  unfold k0_pay29
  pointwise
  exact sub_form _ _ _ (Finset.sum_congr rfl fun r _ => congrArg _ (congrArg (ix2 · 0) (Fin.ext (by simp [stk]))))

end

theorem q_piece (c : Dev nD) (G : S8192x512.Idx → EReal) (t : Fin cfg0.N) (y : ((cfg0.win 6).xblock (cfg0.grid.coords t)).Idx)
    (x : S128x64.Idx) (k : Fin 2) (g : Fin 4) (f : Fin 64 → Fin 2 → Fin 4 → Fin 128 → Fin 64 → EReal)
    (hG : ∀ n k g r d, G (ix2 (Spec.qrow n r) (Spec.qcol k g d)) = f n k g r d)
    (P : S128x64.Idx → EReal) (hP : ∀ r d, P (ix2 r d) = f ⟨t.val, t.isLt⟩ k g r d) (h0 : (y 0).val = (x 0).val)
    (h1 : (y 1).val = k.val * 256 + g.val * 64 + (x 1).val) : P x = G (((View.whole main_v0_0).slice (win0_6.rect t)).emb y) := by
  refine (congrArg P (ix2_eta x).symm).trans ((hP (x 0) (x 1)).trans ((hG _ _ _ _ _).symm.trans ?_))
  blk_ext [idx t]

theorem kv_piece (c : Dev nD) (G : S3x8192x256.Idx → EReal) (t : Fin cfg0.N) (y : ((cfg0.win 7).xblock (cfg0.grid.coords t)).Idx)
    (x : S1x128x64.Idx) (b : Fin 3) (k : Fin 2) (o : Nat) (col : Fin 2 → Fin 64 → Fin 256) (hcol : ∀ d, (col k d).val = o + d.val)
    (f : Fin 3 → Fin 64 → Fin 128 → Fin 2 → Fin 64 → EReal)
    (hG : ∀ b n j k d, G (ix3 b (Spec.qrow n j) (col k d)) = f b n j k d)
    (P : S1x128x64.Idx → EReal) (hP : ∀ z j d, P (ix3 z j d) = f b ⟨t.val, t.isLt⟩ j k d) (h0 : (y 0).val = b.val + (x 0).val)
    (h1 : (y 1).val = (x 1).val) (h2 : (y 2).val = o + (x 2).val) :
    P x = G (((View.whole main_v0_1).slice (win0_7.rect t)).emb y) := by
  refine (congrArg P (ix3_eta x).symm).trans ((hP (x 0) (x 1) (x 2)).trans ((hG _ _ _ _ _).symm.trans ?_))
  have hx : (x 0).val < 1 := (x 0).isLt
  have hc := hcol (x 2)
  blk_ext [idx t]

set_option maxHeartbeats 2000000 in
/-- The kernel's gradient of the queries. -/
theorem arr6 (c : Dev nD) (G : S8192x512.Idx → EReal)
    (hG : ∀ n k g r d, G (ix2 (Spec.qrow n r) (Spec.qcol k g d))
      = ∑ e : Fin 384, Spec.dsk (Qa m c) (Xa m c) (Da m c) (Za m c) n k g r e * Xa m c (ix2 (Spec.slot n e) (Spec.kcol k d))) :
    (dats m 0 c).arrAt 6 cfg0.N = G := by
  refine (dats m 0 c).arrAt_eq_of_covers 6 _ (by decide +kernel) fun t hf y => ?_
  blk_simp
  rw [after0_6]
  by_cases h : t.val % 64 = 0
  · rw [outsAt0_A m c t h]
    frame_out
    canon_tiles x hx
    · exact q_piece c G t y x 1 3 _ hG _ ((held_hi m c t).gq3) hx0 hx1
    · exact q_piece c G t y x 1 2 _ hG _ ((held_hi m c t).gq2) hx0 hx1
    · exact q_piece c G t y x 1 1 _ hG _ ((held_hi m c t).gq1) hx0 hx1
    · exact q_piece c G t y x 1 0 _ hG _ ((held_hi m c t).gq0) hx0 hx1
    · exact q_piece c G t y x 0 3 _ hG _ ((held_lo m c t).gq3) hx0 hx1
    · exact q_piece c G t y x 0 2 _ hG _ ((held_lo m c t).gq2) hx0 hx1
    · exact q_piece c G t y x 0 1 _ hG _ ((held_lo m c t).gq1) hx0 hx1
    · exact q_piece c G t y x 0 0 _ hG _ ((held_lo m c t).gq0) hx0 (by simpa using hx1)
  · rw [outsAt0_B m c t h]
    frame_out
    canon_tiles x hx
    · exact q_piece c G t y x 1 3 _ hG _ ((held_hi m c t).gq3) hx0 hx1
    · exact q_piece c G t y x 1 2 _ hG _ ((held_hi m c t).gq2) hx0 hx1
    · exact q_piece c G t y x 1 1 _ hG _ ((held_hi m c t).gq1) hx0 hx1
    · exact q_piece c G t y x 1 0 _ hG _ ((held_hi m c t).gq0) hx0 hx1
    · exact q_piece c G t y x 0 3 _ hG _ ((held_lo m c t).gq3) hx0 hx1
    · exact q_piece c G t y x 0 2 _ hG _ ((held_lo m c t).gq2) hx0 hx1
    · exact q_piece c G t y x 0 1 _ hG _ ((held_lo m c t).gq1) hx0 hx1
    · exact q_piece c G t y x 0 0 _ hG _ ((held_lo m c t).gq0) hx0 (by simpa using hx1)

set_option maxHeartbeats 2000000 in
/-- The kernel's gradient of the keys and values, block by block. -/
theorem arr7 (c : Dev nD) (G : S3x8192x256.Idx → EReal)
    (hK : ∀ b n j k d, G (ix3 b (Spec.qrow n j) (Spec.kcol k d))
      = ∑ g : Fin 4, ∑ r : Fin 128, Spec.dsk (Qa m c) (Xa m c) (Da m c) (Za m c) n k g r (kslot b j) * Qa m c (ix2 (Spec.qrow n r) (Spec.qcol k g d)))
    (hV : ∀ b n j k d, G (ix3 b (Spec.qrow n j) (Spec.vcol k d))
      = ∑ g : Fin 4, ∑ r : Fin 128, Spec.pk (Qa m c) (Xa m c) (Za m c) n k g r (kslot b j) * Da m c (ix2 (Spec.qrow n r) (Spec.gcol k g d))) :
    (dats m 0 c).arrAt 7 cfg0.N = G := by
  refine (dats m 0 c).arrAt_eq_of_covers 7 _ (by decide +kernel) fun t hf y => ?_
  blk_simp
  rw [after0_7]
  by_cases h : t.val % 64 = 0
  · rw [outsAt0_A m c t h]
    frame_out
    canon_tiles x hx
    · exact kv_piece c G t y x 2 1 192 Spec.vcol (fun d => by simp [Spec.vcol] <;> omega) _ hV _ ((held_hi m c t).gv2) (by simpa using hx0) hx1 (by simpa using hx2)
    · exact kv_piece c G t y x 2 1 64 Spec.kcol (fun d => by simp [Spec.kcol] <;> omega) _ hK _ ((held_hi m c t).gk2) (by simpa using hx0) hx1 (by simpa using hx2)
    · exact kv_piece c G t y x 1 1 192 Spec.vcol (fun d => by simp [Spec.vcol] <;> omega) _ hV _ ((held_hi m c t).gv1) (by simpa using hx0) hx1 (by simpa using hx2)
    · exact kv_piece c G t y x 1 1 64 Spec.kcol (fun d => by simp [Spec.kcol] <;> omega) _ hK _ ((held_hi m c t).gk1) (by simpa using hx0) hx1 (by simpa using hx2)
    · exact kv_piece c G t y x 0 1 192 Spec.vcol (fun d => by simp [Spec.vcol] <;> omega) _ hV _ ((held_hi m c t).gv0) (by simpa using hx0) hx1 (by simpa using hx2)
    · exact kv_piece c G t y x 0 1 64 Spec.kcol (fun d => by simp [Spec.kcol] <;> omega) _ hK _ ((held_hi m c t).gk0) (by simpa using hx0) hx1 (by simpa using hx2)
    · exact kv_piece c G t y x 2 0 128 Spec.vcol (fun d => by simp [Spec.vcol] <;> omega) _ hV _ ((held_lo m c t).gv2) (by simpa using hx0) hx1 (by simpa using hx2)
    · exact kv_piece c G t y x 2 0 0 Spec.kcol (fun d => by simp [Spec.kcol] <;> omega) _ hK _ ((held_lo m c t).gk2) (by simpa using hx0) hx1 (by simpa using hx2)
    · exact kv_piece c G t y x 1 0 128 Spec.vcol (fun d => by simp [Spec.vcol] <;> omega) _ hV _ ((held_lo m c t).gv1) (by simpa using hx0) hx1 (by simpa using hx2)
    · exact kv_piece c G t y x 1 0 0 Spec.kcol (fun d => by simp [Spec.kcol] <;> omega) _ hK _ ((held_lo m c t).gk1) (by simpa using hx0) hx1 (by simpa using hx2)
    · exact kv_piece c G t y x 0 0 128 Spec.vcol (fun d => by simp [Spec.vcol] <;> omega) _ hV _ ((held_lo m c t).gv0) (by simpa using hx0) hx1 (by simpa using hx2)
    · exact kv_piece c G t y x 0 0 0 Spec.kcol (fun d => by simp [Spec.kcol] <;> omega) _ hK _ ((held_lo m c t).gk0) (by simpa using hx0) hx1 (by simpa using hx2)
  · rw [outsAt0_B m c t h]
    frame_out
    canon_tiles x hx
    · exact kv_piece c G t y x 2 1 192 Spec.vcol (fun d => by simp [Spec.vcol] <;> omega) _ hV _ ((held_hi m c t).gv2) (by simpa using hx0) hx1 (by simpa using hx2)
    · exact kv_piece c G t y x 2 1 64 Spec.kcol (fun d => by simp [Spec.kcol] <;> omega) _ hK _ ((held_hi m c t).gk2) (by simpa using hx0) hx1 (by simpa using hx2)
    · exact kv_piece c G t y x 1 1 192 Spec.vcol (fun d => by simp [Spec.vcol] <;> omega) _ hV _ ((held_hi m c t).gv1) (by simpa using hx0) hx1 (by simpa using hx2)
    · exact kv_piece c G t y x 1 1 64 Spec.kcol (fun d => by simp [Spec.kcol] <;> omega) _ hK _ ((held_hi m c t).gk1) (by simpa using hx0) hx1 (by simpa using hx2)
    · exact kv_piece c G t y x 0 1 192 Spec.vcol (fun d => by simp [Spec.vcol] <;> omega) _ hV _ ((held_hi m c t).gv0) (by simpa using hx0) hx1 (by simpa using hx2)
    · exact kv_piece c G t y x 0 1 64 Spec.kcol (fun d => by simp [Spec.kcol] <;> omega) _ hK _ ((held_hi m c t).gk0) (by simpa using hx0) hx1 (by simpa using hx2)
    · exact kv_piece c G t y x 2 0 128 Spec.vcol (fun d => by simp [Spec.vcol] <;> omega) _ hV _ ((held_lo m c t).gv2) (by simpa using hx0) hx1 (by simpa using hx2)
    · exact kv_piece c G t y x 2 0 0 Spec.kcol (fun d => by simp [Spec.kcol] <;> omega) _ hK _ ((held_lo m c t).gk2) (by simpa using hx0) hx1 (by simpa using hx2)
    · exact kv_piece c G t y x 1 0 128 Spec.vcol (fun d => by simp [Spec.vcol] <;> omega) _ hV _ ((held_lo m c t).gv1) (by simpa using hx0) hx1 (by simpa using hx2)
    · exact kv_piece c G t y x 1 0 0 Spec.kcol (fun d => by simp [Spec.kcol] <;> omega) _ hK _ ((held_lo m c t).gk1) (by simpa using hx0) hx1 (by simpa using hx2)
    · exact kv_piece c G t y x 0 0 128 Spec.vcol (fun d => by simp [Spec.vcol] <;> omega) _ hV _ ((held_lo m c t).gv0) (by simpa using hx0) hx1 (by simpa using hx2)
    · exact kv_piece c G t y x 0 0 0 Spec.kcol (fun d => by simp [Spec.kcol] <;> omega) _ hK _ ((held_lo m c t).gk0) (by simpa using hx0) hx1 (by simpa using hx2)

end Cert.KernelIdeal.At

end
-- ==== Proof.KerSum.lean ====
/- The kernel's third result: the gradient of the sinks, summed over the grid. -/
module

public import proofs.«01_k».proof.Proof.KerArr

@[expose] public section

set_option maxRecDepth 16384

noncomputable section

namespace Cert.KernelIdeal.At

open Idealize.ShloMosaic Idealize.SL.Sem Idealize.ShloMosaic.TcCoe Cert.KernelIdeal Cert.KernelIdeal.Gen

variable (m : (ℓ : Loc nD τ sig) → Buf (Elt Ideal) ℓ)

/-- A first store that later stores hide does not show where they cover. -/
theorem canon_front {Val : EltTy → Type} {S : Shape} {e : EltTy} [∀ e, Nonempty (Val e)] (p : View.Piece Val S e) (y : S.Idx) :
    ∀ L : List (View.Piece Val S e), (∃ q ∈ L, y ∈ q.1.set) → View.canon (L ++ [p]) y = View.canon L y
  | [], hc => by obtain ⟨_, hq, _⟩ := hc; exact absurd hq List.not_mem_nil
  | q :: L, hc => by
    by_cases hm : y ∈ q.1.set
    · obtain ⟨x, rfl⟩ := q.1.exists_idx_of_mem hm
      rw [List.cons_append, show q.1.idx x = q.1.emb x from rfl, View.canon_cons_emb, View.canon_cons_emb]
    · rw [List.cons_append, View.canon_cons_of_not_mem _ _ hm, View.canon_cons_of_not_mem _ _ hm]
      refine canon_front p y L ?_
      obtain ⟨u, hu, hyu⟩ := hc
      rcases List.mem_cons.mp hu with rfl | hu'
      · exact absurd hyu hm
      · exact ⟨u, hu', hyu⟩

theorem canon_front8 {Val : EltTy → Type} {S : Shape} {e : EltTy} [∀ e, Nonempty (Val e)] (p0 p1 p2 p3 p4 p5 p6 p7 p : View.Piece Val S e) (y : S.Idx)
    (hc : ∃ q ∈ [p0, p1, p2, p3, p4, p5, p6, p7], y ∈ q.1.set) :
    View.canon [p0, p1, p2, p3, p4, p5, p6, p7, p] y = View.canon [p0, p1, p2, p3, p4, p5, p6, p7] y :=
  canon_front p y [p0, p1, p2, p3, p4, p5, p6, p7] hc

theorem s_piece (f : Fin 2 → Fin 4 → EReal) (k k' : Fin 2) (g g' : Fin 4) (l : Fin 128) (o : Nat) (ho : o = k'.val * 4 + g'.val)
    (Y : S8x128.Idx → EReal) (y0 : EReal) (hY : Y (ix2 (Spec.head k g) l) = y0) (inb)
    (P : S1x128.Idx → EReal)
    (hP : ∀ z l, P (ix2 z l) = (View.ld (Val := Elt Ideal) (e' := .f32) Y (Rect.unit (s := S8x128) ![o, 0] ![1, 128] inb) (ix2 z l) : EReal) + f k' g')
    (x : S1x128.Idx) (h0 : (ix2 (n0 := 8) (n1 := 128) (Spec.head k g) l 0).val = o + (x 0).val) (h1 : (ix2 (n0 := 8) (n1 := 128) (Spec.head k g) l 1).val = (x 1).val) :
    P x = y0 + f k g := by
  have hx : (x 0).val < 1 := (x 0).isLt
  replace h0 : k.val * 4 + g.val = o + (x 0).val := h0
  replace h1 : l.val = (x 1).val := h1
  obtain rfl : k = k' := Fin.ext (by omega)
  obtain rfl : g = g' := Fin.ext (by omega)
  refine (congrArg P (ix2_eta x).symm).trans ((hP (x 0) (x 1)).trans (congrArg (· + f k g) (Eq.trans ?_ hY)))
  refine View.ld_unit_apply_of (Val := Elt Ideal) (e := .f32) Y _ _ inb _ _ fun a => ?_
  fin_cases a
  · show k.val * 4 + g.val = o + (x 0).val
    omega
  · show l.val = 0 + (x 1).val
    omega

theorem idx8 : ∀ t : Fin cfg0.N, win0_8.index t = ![0, 0] := (by decide +kernel : ∀ t : Fin grid0.N, _)

theorem zero_at (i : S8x128.Idx) : (k0_pay1 (F := Ideal) i : EReal) = 0 := by
  unfold k0_pay1
  pointwise

/-- What one grid point adds to a head's row. -/
def step (c : Dev nD) (n : Fin 64) (k : Fin 2) (g : Fin 4) : EReal :=
  (0 : EReal) - ∑ r : Fin 128, Spec.gsk (Qa m c) (Xa m c) (Da m c) (Za m c) n k g r

set_option maxHeartbeats 2000000 in
theorem row_A (c : Dev nD) (t : Fin cfg0.N) (h : t.val % 64 = 0) (k : Fin 2) (g : Fin 4) (l : Fin 128) :
    ((outsAt0 m c t.val t.isLt).2.2 (ix2 (Spec.head k g) l) : EReal) = (0 : EReal) + step m c ⟨t.val, t.isLt⟩ k g := by
  rw [outsAt0_A m c t h]
  frame_open
  simp (disch := decide) only [↓ View.readCov_skip, ↓ View.readCov_cons_toLoadRect, ↓ View.readCov_fill]
  frame_out
  refine (canon_front8 _ _ _ _ _ _ _ _ _ _ (View.cover_of_tiled_head _ _ _ rfl _)).trans ?_
  canon_tiles x hx
  · exact s_piece (step m c ⟨t.val, t.isLt⟩) k 1 g 3 l 7 rfl _ _ (zero_at _) _ _ ((held_hi m c t).gs3 _) x hx0 hx1
  · exact s_piece (step m c ⟨t.val, t.isLt⟩) k 1 g 2 l 6 rfl _ _ (zero_at _) _ _ ((held_hi m c t).gs2 _) x hx0 hx1
  · exact s_piece (step m c ⟨t.val, t.isLt⟩) k 1 g 1 l 5 rfl _ _ (zero_at _) inb_S8x128_S1x128_5_0 _
      ((held_hi m c t).gs1 (View.ld (k0_pay1 (F := Ideal)) (Rect.unit (s := S8x128) ![5, 0] ![1, 128] inb_S8x128_S1x128_5_0))) x hx0 hx1
  · exact s_piece (step m c ⟨t.val, t.isLt⟩) k 1 g 0 l 4 rfl _ _ (zero_at _) _ _ ((held_hi m c t).gs0 _) x hx0 hx1
  · exact s_piece (step m c ⟨t.val, t.isLt⟩) k 0 g 3 l 3 rfl _ _ (zero_at _) _ _ ((held_lo m c t).gs3 _) x hx0 hx1
  · exact s_piece (step m c ⟨t.val, t.isLt⟩) k 0 g 2 l 2 rfl _ _ (zero_at _) _ _ ((held_lo m c t).gs2 _) x hx0 hx1
  · exact s_piece (step m c ⟨t.val, t.isLt⟩) k 0 g 1 l 1 rfl _ _ (zero_at _) _ _ ((held_lo m c t).gs1 _) x hx0 hx1
  · exact s_piece (step m c ⟨t.val, t.isLt⟩) k 0 g 0 l 0 rfl _ _ (zero_at _) _ _ ((held_lo m c t).gs0 _) x (by simpa using hx0) hx1

set_option maxHeartbeats 2000000 in
theorem row_B (c : Dev nD) (t : Fin cfg0.N) (h : ¬ t.val % 64 = 0) (k : Fin 2) (g : Fin 4) (l : Fin 128) :
    ((outsAt0 m c t.val t.isLt).2.2 (ix2 (Spec.head k g) l) : EReal)
      = ((outsAt0 m c (t.val - 1) (by omega)).2.2 (ix2 (Spec.head k g) l) : EReal) + step m c ⟨t.val, t.isLt⟩ k g := by
  rw [outsAt0_B m c t h]
  frame_open
  simp (disch := decide) only [↓ View.readCov_skip, ↓ View.readCov_cons_toLoadRect, ↓ View.readCov_fill]
  frame_out
  canon_tiles x hx
  · exact s_piece (step m c ⟨t.val, t.isLt⟩) k 1 g 3 l 7 rfl _ _ rfl _ _ ((held_hi m c t).gs3 _) x hx0 hx1
  · exact s_piece (step m c ⟨t.val, t.isLt⟩) k 1 g 2 l 6 rfl _ _ rfl _ _ ((held_hi m c t).gs2 _) x hx0 hx1
  · exact s_piece (step m c ⟨t.val, t.isLt⟩) k 1 g 1 l 5 rfl _ _ rfl _ _ ((held_hi m c t).gs1 _) x hx0 hx1
  · exact s_piece (step m c ⟨t.val, t.isLt⟩) k 1 g 0 l 4 rfl _ _ rfl _ _ ((held_hi m c t).gs0 _) x hx0 hx1
  · exact s_piece (step m c ⟨t.val, t.isLt⟩) k 0 g 3 l 3 rfl _ _ rfl _ _ ((held_lo m c t).gs3 _) x hx0 hx1
  · exact s_piece (step m c ⟨t.val, t.isLt⟩) k 0 g 2 l 2 rfl _ _ rfl _ _ ((held_lo m c t).gs2 _) x hx0 hx1
  · exact s_piece (step m c ⟨t.val, t.isLt⟩) k 0 g 1 l 1 rfl _ _ rfl _ _ ((held_lo m c t).gs1 _) x hx0 hx1
  · exact s_piece (step m c ⟨t.val, t.isLt⟩) k 0 g 0 l 0 rfl _ _ rfl _ _ ((held_lo m c t).gs0 _) x (by simpa using hx0) hx1

/-- The kernel's gradient of the sinks. -/
theorem arr8 (c : Dev nD) (G : S8x128.Idx → EReal)
    (hG : ∀ k g l, G (ix2 (Spec.head k g) l)
      = ∑ n : Fin 64, ((0 : EReal) - ∑ r : Fin 128, Spec.gsk (Qa m c) (Xa m c) (Da m c) (Za m c) n k g r)) :
    (dats m 0 c).arrAt 8 cfg0.N = G := by
  refine (dats m 0 c).arrAt_eq_of_covers 8 _ (by decide +kernel) fun t hf y => ?_
  blk_simp
  rw [after0_8]
  have ht : t.val + 1 = cfg0.N := by
    have h1 : t.val % 64 = 63 := (flush0_8 t).mp hf
    have h2 : t.val < 64 := t.isLt
    show t.val + 1 = 64
    omega
  obtain ⟨k, g, l, rfl⟩ : ∃ (k : Fin 2) (g : Fin 4) (l : Fin 128), y = ix2 (Spec.head k g) l := by
    have h0 : (y 0).val < 8 := (y 0).isLt
    refine ⟨⟨(y 0).val / 4, by omega⟩, ⟨(y 0).val % 4, by omega⟩, y 1, ?_⟩
    refine (ix2_eta y).symm.trans (congrArg (ix2 · (y 1)) (Fin.ext ?_))
    show (y 0).val = (y 0).val / 4 * 4 + (y 0).val % 4
    omega
  refine (Pipeline.eq_sum_fin_of_reset_step_apply_last
    (fun n h (i : Fin 2 × Fin 4 × Fin 128) => ((outsAt0 m c n h).2.2 (ix2 (Spec.head i.1 i.2.1) i.2.2) : EReal)) 64 (fun _ => 0)
    (fun p i => step m c ⟨p.val, p.isLt⟩ i.1 i.2.1) (fun t h i => row_A m c t h _ _ _) (fun t h i => row_B m c t h _ _ _)
    (le_of_eq N_0) t ht (k, g, l)).trans ?_
  rw [zero_add]
  refine (hG k g l).symm.trans (congrArg G ?_)
  blk_ext [idx8 t]

end Cert.KernelIdeal.At

end
-- ==== Proof.Norm.lean ====
/- The feed-forward block's parts as functions on the extended reals: the norm of a row, the activation of a unit. -/
module

public import Idealize.ShloMosaic.Lib.Pointwise
public import Idealize.ShloMosaic.Lib.Tactic.CleanTypes
public import Idealize.ShloMosaic.Lib.Pipeline.ReadBack
public import Idealize.ShloMosaic.Lib.Pipeline.ValueKit

@[expose] public section

noncomputable section

namespace Cert.Norm

open Idealize.ShloMosaic

/-- The inverse of a row's root mean square. -/
def inv (x : Fin 1024 → EReal) : EReal :=
  Ideal.rsqrt (Ideal.div (∑ k, x k * x k) (Ideal.ofBits .f32 0x44800000#32) + Ideal.ofBits .f32 0x358637BD#32)

/-- An entry of a normed row. -/
def out (x : Fin 1024 → EReal) (g : EReal) (k : Fin 1024) : EReal := x k * inv x * g

/-- The activation of a unit: what the feed-forward block's second product takes. -/
def act (y : EReal) : EReal := max y 0 * max y 0

/-- The activation's root is the positive part. -/
theorem sqrt_act (y : EReal) : Ideal.sqrt (act y) = max y 0 := by
  unfold act
  rcases le_total y 0 with h | h
  · rw [max_eq_right h, mul_zero]
    show Ideal.sqrt ((0 : ℝ) : EReal) = ((0 : ℝ) : EReal)
    rw [Ideal.sqrt_coe, if_neg (lt_irrefl 0), Real.sqrt_zero]
  · rw [max_eq_left h]
    induction y using EReal.rec with
    | bot => simp at h
    | top => simp
    | coe r =>
      have hr : 0 ≤ r := by exact_mod_cast h
      rw [← EReal.coe_mul, Ideal.sqrt_coe, if_neg (not_lt.mpr (mul_self_nonneg r)), Real.sqrt_mul_self hr]

/-- The column that a piece's column is. -/
abbrev unit (b : Fin 4) (q : Fin 1024) : Fin 4096 := ⟨b.val * 1024 + q.val, by omega⟩

/-- A row's columns, stored in pieces of 1024. -/
theorem piece {n : Nat} (r : Fin n) (j : Fin 4096) (b : Fin 4) (o : Nat) (ho : o = b.val * 1024) (P : (⟨2, ![n, 1024]⟩ : Shape).Idx → EReal)
    (H : Fin 4096 → EReal) (hP : ∀ q, P (ix2 r q) = H (unit b q)) (x : (⟨2, ![n, 1024]⟩ : Shape).Idx)
    (h0 : (ix2 (n0 := n) (n1 := 4096) r j 0).val = (x 0).val) (h1 : (ix2 (n0 := n) (n1 := 4096) r j 1).val = o + (x 1).val) :
    P x = H j := by
  replace h0 : r.val = (x 0).val := h0
  replace h1 : j.val = o + (x 1).val := h1
  obtain rfl : r = x 0 := Fin.ext h0
  have hj : j = unit b (x 1) := Fin.ext (by show j.val = b.val * 1024 + (x 1).val; omega)
  exact (congrArg P (ix2_eta x).symm).trans ((hP (x 1)).trans (congrArg H hj.symm))

/-- A row's columns, stored in pieces of any width. -/
theorem part {n w N : Nat} (r : Fin n) (j : Fin N) (o : Nat) (P : (⟨2, ![n, w]⟩ : Shape).Idx → EReal) (H : Fin N → EReal)
    (hP : ∀ (q : Fin w) (hq : o + q.val < N), P (ix2 r q) = H ⟨o + q.val, hq⟩) (x : (⟨2, ![n, w]⟩ : Shape).Idx)
    (h0 : (ix2 (n0 := n) (n1 := N) r j 0).val = (x 0).val) (h1 : (ix2 (n0 := n) (n1 := N) r j 1).val = o + (x 1).val) : P x = H j := by
  replace h0 : r.val = (x 0).val := h0
  replace h1 : j.val = o + (x 1).val := h1
  obtain rfl : r = x 0 := Fin.ext h0
  have hj : j = ⟨o + (x 1).val, h1 ▸ j.isLt⟩ := Fin.ext h1
  exact (congrArg P (ix2_eta x).symm).trans ((hP (x 1) (h1 ▸ j.isLt)).trans (congrArg H hj.symm))

end Cert.Norm

end
-- ==== Proof.NormGrad.lean ====
/- The gradient of a row's norm, over the extended reals: the kernel's text and the one `jax.vjp` writes
   are equal where the inputs are real. -/
module

public import proofs.«01_k».proof.Proof.Norm
public import proofs.«01_k».proof.Proof.Row

@[expose] public section

noncomputable section

namespace Cert.Norm

open Idealize.ShloMosaic Cert.Row

/-- The mean of a row's squares, and the small constant. -/
def ms (x : Fin 1024 → EReal) : EReal :=
  Ideal.div (∑ k, x k * x k) (Ideal.ofBits .f32 0x44800000#32) + Ideal.ofBits .f32 0x358637BD#32

/-- The gradient of a row as the kernel writes it: `res` is what the residual stream brings, `gh` the gradient of the normed row. -/
def grad (x gh g res : Fin 1024 → EReal) (k : Fin 1024) : EReal :=
  res k + inv x * (gh k * g k - x k * inv x * Ideal.div (∑ k, gh k * g k * (x k * inv x)) (Ideal.ofBits .f32 0x44800000#32))

/-- What the gradient of the mean square brings to each of the row's squares, as `jax.vjp` writes it. -/
def pull (x gh g : Fin 1024 → EReal) : EReal :=
  Ideal.div ((∑ k, x k * (gh k * g k)) * (Ideal.ofBits .f32 0xBF000000#32 * Ideal.div (inv x) (ms x))) (Ideal.ofBits .f32 0x44800000#32)

/-- The gradient of a row as `jax.vjp` writes it. -/
def rgrad (x gh g res : Fin 1024 → EReal) (k : Fin 1024) : EReal :=
  res k + gh k * g k * inv x + x k * pull x gh g + pull x gh g * x k

theorem w1024 : (Ideal.ofBits .f32 0x44800000#32 : EReal) = ((1024 : ℝ) : EReal) := by
  simp [Ideal.ofBits, Ideal.ieee, -EReal.coe_mul] <;> norm_num [← EReal.coe_mul, -EReal.coe_mul]

theorem whalf : (Ideal.ofBits .f32 0xBF000000#32 : EReal) = ((-(1 / 2) : ℝ) : EReal) := by
  simp [Ideal.ofBits, Ideal.ieee, -EReal.coe_mul, -EReal.coe_neg] <;> norm_num [← EReal.coe_mul, -EReal.coe_mul, -EReal.coe_neg]

theorem weps : ∃ e : ℝ, 0 < e ∧ (Ideal.ofBits .f32 0x358637BD#32 : EReal) = (e : EReal) := by
  refine ⟨8796093 * 2 ^ (-43 : ℤ), by positivity, ?_⟩
  simp [Ideal.ofBits, Ideal.ieee, -EReal.coe_mul]

theorem div_real (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- The mean of a real row's squares is a positive real, and the row's inverse is its root's inverse. -/
theorem ms_real (x : Fin 1024 → ℝ) : ∃ q : ℝ, 0 < q ∧ ms (fun k => (x k : EReal)) = (q : EReal)
    ∧ inv (fun k => (x k : EReal)) = (((Real.sqrt q)⁻¹ : ℝ) : EReal) := by
  obtain ⟨e, he, hw⟩ := weps
  have hS : (0 : ℝ) ≤ ∑ k, x k * x k := Finset.sum_nonneg fun k _ => mul_self_nonneg _
  have hq : 0 < (∑ k, x k * x k) / 1024 + e := by positivity
  have hm : ms (fun k => (x k : EReal)) = (((∑ k, x k * x k) / 1024 + e : ℝ) : EReal) := by
    unfold ms
    rw [w1024, hw]
    simp only [← EReal.coe_mul, ← coe_sum]
    rw [div_real _ _ (by norm_num), ← EReal.coe_add]
  refine ⟨_, hq, hm, ?_⟩
  show Ideal.rsqrt (ms _) = _
  rw [hm, Ideal.rsqrt_coe, if_neg (not_lt.mpr hq.le), if_neg hq.ne']

/-- A row with an infinite entry has the inverse zero. -/
theorem inv_top (x : Fin 1024 → EReal) (k : Fin 1024) (h : x k = ⊤ ∨ x k = ⊥) : ms x = ⊤ ∧ inv x = 0 := by
  obtain ⟨e, he, hw⟩ := weps
  have hk : x k * x k = ⊤ := by rcases h with h | h <;> rw [h] <;> rfl
  have hn : ∀ j, 0 ≤ x j * x j := fun j => by
    rcases le_total 0 (x j) with h | h
    · exact mul_nonneg h h
    · have h' : 0 ≤ -x j := by rwa [EReal.neg_nonneg]
      have := mul_nonneg h' h'
      rwa [neg_mul_neg] at this
  have hS : ∑ j, x j * x j = ⊤ := top_le_iff.mp (hk ▸ Finset.single_le_sum (fun j _ => hn j) (Finset.mem_univ k))
  have hm : ms x = ⊤ := by
    unfold ms
    rw [hS, w1024, hw, Ideal.div, if_neg (by norm_num), ← EReal.coe_inv, EReal.top_mul_coe_of_pos (by norm_num), EReal.top_add_coe]
  refine ⟨hm, ?_⟩
  show Ideal.rsqrt (ms x) = 0
  rw [hm]
  rfl

/-- A positive real distributes over a sum. -/
theorem mul_sum_pos {ι : Type*} (s : Finset ι) (f : ι → EReal) (r : ℝ) (hr : 0 < r) : (r : EReal) * ∑ i ∈ s, f i = ∑ i ∈ s, (r : EReal) * f i := by
  classical
  induction s using Finset.induction_on with
  | empty => simp
  | insert a s h ih =>
    rw [Finset.sum_insert h, Finset.sum_insert h, ← ih]
    exact EReal.left_distrib_of_nonneg_of_ne_top (by exact_mod_cast hr.le) (EReal.coe_ne_top r) _ _

theorem add_self (z : EReal) : z + z = ((2 : ℝ) : EReal) * z := by
  induction z using EReal.rec with
  | bot => rw [EReal.coe_mul_bot_of_pos (by norm_num)]; rfl
  | top => rw [EReal.coe_mul_top_of_pos (by norm_num)]; rfl
  | coe r => rw [← EReal.coe_add, ← EReal.coe_mul, two_mul]

/-- The two texts of a row's gradient are equal. -/
theorem rgrad_eq (x gh g res : Fin 1024 → EReal) (k : Fin 1024) : rgrad x gh g res k = grad x gh g res k := by
  by_cases hf : ∃ k, x k = ⊤ ∨ x k = ⊥
  · obtain ⟨j, hj⟩ := hf
    obtain ⟨hm, hi⟩ := inv_top x j hj
    have hA : pull x gh g = 0 := by
      unfold pull
      rw [hm, hi, w1024]
      simp [Ideal.div]
    unfold rgrad grad
    rw [hA, hi]
    simp
  · have hx : ∀ k, ∃ r : ℝ, x k = (r : EReal) := fun k => by
      by_contra hc
      refine hf ⟨k, ?_⟩
      induction hxk : x k using EReal.rec with
      | bot => exact .inr rfl
      | top => exact .inl rfl
      | coe r => exact absurd ⟨r, hxk⟩ hc
    choose x' hx using hx
    obtain rfl : x = fun k => (x' k : EReal) := funext hx
    obtain ⟨q, hq, hm, hi⟩ := ms_real x'
    have hs : 0 < Real.sqrt q := Real.sqrt_pos.mpr hq
    have hqq : q = Real.sqrt q * Real.sqrt q := (Real.mul_self_sqrt hq.le).symm
    have hr : 0 < (Real.sqrt q)⁻¹ := inv_pos.mpr hs
    have e : ∑ k, gh k * g k * ((x' k : EReal) * (((Real.sqrt q)⁻¹ : ℝ) : EReal)) = (((Real.sqrt q)⁻¹ : ℝ) : EReal) * ∑ k, (x' k : EReal) * (gh k * g k) := by
      rw [mul_sum_pos _ _ _ hr]
      exact Finset.sum_congr rfl fun k _ => by rw [mul_comm, mul_comm (x' k : EReal), mul_assoc]
    have hd : ∀ z : EReal, Ideal.div z ((1024 : ℝ) : EReal) = z * (((1024 : ℝ)⁻¹ : ℝ) : EReal) := fun z => by
      rw [Ideal.div, if_neg (by norm_num), EReal.coe_inv]
    unfold rgrad grad pull
    rw [w1024, whalf, hm, hi]
    simp only [hd]
    rw [e, div_real _ _ hq.ne', ← EReal.coe_mul]
    generalize ∑ k, (x' k : EReal) * (gh k * g k) = S
    generalize Real.sqrt q = s at *
    subst hqq
    have hb : S * ((-(1 / 2) * (s⁻¹ / (s * s)) : ℝ) : EReal) * (((1024 : ℝ)⁻¹ : ℝ) : EReal) = ((-(1 / 2) * (s⁻¹ / (s * s)) * 1024⁻¹ : ℝ) : EReal) * S := by
      rw [mul_assoc, ← EReal.coe_mul, mul_comm]
    have ha : ((x' k : ℝ) : EReal) * ((s⁻¹ : ℝ) : EReal) * (((s⁻¹ : ℝ) : EReal) * S * (((1024 : ℝ)⁻¹ : ℝ) : EReal)) = ((x' k * s⁻¹ * s⁻¹ * 1024⁻¹ : ℝ) : EReal) * S := by
      rw [mul_comm ((s⁻¹ : ℝ) : EReal) S, mul_assoc S, mul_comm S, ← mul_assoc, ← EReal.coe_mul, ← EReal.coe_mul, ← EReal.coe_mul]
      congr 2
      ring
    rw [hb, ha, mul_comm _ (x' k : EReal), add_assoc, add_self, ← mul_assoc, ← mul_assoc, ← EReal.coe_mul, ← EReal.coe_mul, add_assoc,
      sub_eq_add_neg, EReal.left_distrib_of_nonneg_of_ne_top (by exact_mod_cast hr.le) (EReal.coe_ne_top _), ← EReal.neg_mul,
      ← EReal.coe_neg, ← mul_assoc ((s⁻¹ : ℝ) : EReal) _ S, ← EReal.coe_mul, mul_comm (gh k * g k)]
    congr 4
    field_simp

end Cert.Norm

end
-- ==== Proof.Bff1Val.lean ====
/- The gradient of the feed-forward block's first product and norm: kernel and reference hold the same arrays. -/
module

public import proofs.«01_k».proof.Proof.Gen.Bff1Ideal.Value
public import proofs.«01_k».proof.Proof.Gen.Bff1RefIdeal.Run
public import proofs.«01_k».proof.Defs
public import Idealize.ShloMosaic.Adequacy
public import Idealize.ShloMosaic.Init
public import proofs.«01_k».proof.Proof.NormGrad

@[expose] public section

set_option maxRecDepth 16384

noncomputable section

namespace Cert.Bff1Ideal.At

open Idealize.ShloMosaic Idealize.SL.Sem Idealize.ShloMosaic.TcCoe Cert.Bff1Ideal Cert.Bff1Ideal.Gen Cert.Norm

variable (m : (ℓ : Loc nD τ sig) → Buf (Elt Ideal) ℓ) (c : Dev nD)

abbrev Ga : S8192x4096.Idx → EReal := m ((c : Thread nD τ).loc main_arg0)
abbrev Wa : S1024x4096.Idx → EReal := m ((c : Thread nD τ).loc main_arg1)
abbrev Xa : S8192x1024.Idx → EReal := m ((c : Thread nD τ).loc main_arg2)
abbrev Na : S1024.Idx → EReal := m ((c : Thread nD τ).loc main_arg3)
abbrev Ra : S8192x1024.Idx → EReal := m ((c : Thread nD τ).loc main_arg4)

/-- The gradient of a normed row's entry. -/
def gh (G : S8192x4096.Idx → EReal) (W : S1024x4096.Idx → EReal) (i : Fin 8192) (k : Fin 1024) : EReal :=
  ∑ n : Fin 4096, G (ix2 i n) * W (ix2 k n)

/-- The gradient of a row's entry. -/
def gx (G : S8192x4096.Idx → EReal) (W : S1024x4096.Idx → EReal) (X : S8192x1024.Idx → EReal) (g : S1024.Idx → EReal)
    (R : S8192x1024.Idx → EReal) (i : Fin 8192) (k : Fin 1024) : EReal :=
  grad (fun k => X (ix2 i k)) (gh G W i) (fun k => g (ix1 k)) (fun k => R (ix2 i k)) k

/-- What one row brings to the gain's gradient. -/
def gt (G : S8192x4096.Idx → EReal) (W : S1024x4096.Idx → EReal) (X : S8192x1024.Idx → EReal) (i : Fin 8192) (k : Fin 1024) : EReal :=
  gh G W i k * (X (ix2 i k) * inv fun k => X (ix2 i k))

/-- The rows of one residue. -/
abbrev row8 (u : Fin 1024) (a : Fin 8) : Fin 8192 := ⟨u.val * 8 + a.val, by omega⟩

/-- The gain's gradient over the rows of one residue. -/
def gg (G : S8192x4096.Idx → EReal) (W : S1024x4096.Idx → EReal) (X : S8192x1024.Idx → EReal) (a : Fin 8) (k : Fin 1024) : EReal :=
  ∑ u : Fin 1024, gt G W X (row8 u a) k

theorem pay3_at (v21 : FVec Ideal S512x1024 .f32) (v22 : FVec Ideal S512x1024 .f32) (v33 : FVec Ideal S1x1024 .f32) (v37 : FVec Ideal S512x1024 .f32) (r : Fin 512) (k : Fin 1024) :
    (k0_pay3 (F := Ideal) v21 v22 (k0_pay8 v22) v33 v37 (ix2 r k) : EReal)
      = grad (fun k => v22 (ix2 r k)) (fun k => v21 (ix2 r k)) (fun k => v33 (ix2 0 k)) (fun k => v37 (ix2 r k)) k := by
  unfold k0_pay3 k0_pay2 k0_pay1 k0_pay8
  pointwise
  rfl

/-- A block's rows of one residue. -/
abbrev loc8 (u : Fin 64) (a : Fin 8) : Fin 512 := ⟨u.val * 8 + a.val, by omega⟩

theorem pay5_at (v21 : FVec Ideal S512x1024 .f32) (v22 : FVec Ideal S512x1024 .f32) (v52 : FVec Ideal S8x1024 .f32) (a : Fin 8) (k : Fin 1024) :
    (k0_pay5 (F := Ideal) v21 v22 (k0_pay8 v22) v52 (ix2 a k) : EReal)
      = v52 (ix2 a k) + ∑ u : Fin 64, v21 (ix2 (loc8 u a) k) * (v22 (ix2 (loc8 u a) k) * inv (fun k => v22 (ix2 (loc8 u a) k))) := by
  unfold k0_pay5 k0_pay2 k0_pay1 k0_pay8
  pointwise
  rfl

theorem pay7_at (g0 g1 g2 g3 : FVec Ideal S512x1024 .bf16) (w0 w1 w2 w3 : FVec Ideal S1x1x1024x1024 .bf16) (r : Fin 512) (k : Fin 1024) :
    (k0_pay7 (F := Ideal) g0 w0 g1 w1 g2 w2 g3 w3 (ix2 r k) : EReal)
      = (∑ n : Fin 1024, g0 (ix2 r n) * w0 (ix4 0 0 k n)) + (∑ n : Fin 1024, g1 (ix2 r n) * w1 (ix4 0 0 k n))
        + (∑ n : Fin 1024, g2 (ix2 r n) * w2 (ix4 0 0 k n)) + (∑ n : Fin 1024, g3 (ix2 r n) * w3 (ix4 0 0 k n)) := by
  unfold k0_pay7
  pointwise

theorem zero_at (i : S8x1024.Idx) : (k0_pay6 (F := Ideal) i : EReal) = 0 := by
  unfold k0_pay6
  pointwise

theorem V_w : V m c main_v3 = (broadcastInDim S1x4x1024x1024 ![1, 2, 3] bcast_S4x1024x1024_S1x4x1024x1024_1_2_3
    (transpose S4x1024x1024 [1, 0, 2] (shapeCast S1024x4x1024 (truncf (F := Ideal) (s := S1024x4096) (φ := .f32) .bf16 (Wa m c) bitsLt_bf16_f32 : FVec Ideal S1024x4096 .bf16)
      shapeCasts_S1024x4096_S1024x4x1024) transposes_S1024x4x1024_S4x1024x1024_1_0_2) : FVec Ideal S1x4x1024x1024 .bf16) := by
  unfold_abbrev_sides
  after_results
  rfl

theorem V_n : V m c main_v4 = (shapeCast S1x1024 (Na m c : FVec Ideal S1024 .f32) shapeCasts_S1024_S1x1024 : FVec Ideal S1x1024 .f32) := by
  unfold_abbrev_sides
  after_results
  rfl

theorem w_at (z : Fin 1) (b : Fin 4) (k q : Fin 1024) : (V m c main_v3 (ix4 z b k q) : EReal) = Wa m c (ix2 k (unit b q)) := by
  rw [V_w]
  pointwise

theorem n_at (z : Fin 1) (k : Fin 1024) : (V m c main_v4 (ix2 z k) : EReal) = Na m c (ix1 k) := by
  rw [V_n]
  pointwise

theorem idx : ∀ t : Fin cfg0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

/-- The row that a point's row is. -/
abbrev row (t : Fin cfg0.N) (r : Fin 512) : Fin 8192 := ⟨t.val * 512 + r.val, by have := t.isLt; have : cfg0.N = 16 := N_0; omega⟩

theorem g_blk (t : Fin cfg0.N) (r : Fin 512) (n : Fin 4096) : (iblk m c 0 t (ix2 r n) : EReal) = Ga m c (ix2 (row t r) n) := by
  blk_ext [iblk, V, idx t]

theorem x_blk (t : Fin cfg0.N) (r : Fin 512) (k : Fin 1024) : (iblk m c 2 t (ix2 r k) : EReal) = Xa m c (ix2 (row t r) k) := by
  blk_ext [iblk, V, idx t]

theorem r_blk (t : Fin cfg0.N) (r : Fin 512) (k : Fin 1024) : (iblk m c 4 t (ix2 r k) : EReal) = Ra m c (ix2 (row t r) k) := by
  blk_ext [iblk, V, idx t]

theorem n_blk (t : Fin cfg0.N) (z : Fin 1) (k : Fin 1024) : (iblk m c 3 t (ix2 z k) : EReal) = Na m c (ix1 k) := by
  refine Eq.trans ?_ (n_at m c z k)
  show (V m c main_v4 _ : EReal) = _
  blk_ext [iblk, idx t]

theorem w_blk (t : Fin cfg0.N) (z : Fin 1) (b : Fin 4) (k q : Fin 1024) : (iblk m c 1 t (ix4 z b k q) : EReal) = Wa m c (ix2 k (unit b q)) := by
  refine Eq.trans ?_ (w_at m c z b k q)
  show (V m c main_v3 _ : EReal) = _
  blk_ext [iblk, idx t]

theorem g_ld (t : Fin cfg0.N) (b : Fin 4) (o : Nat) (ho : o = b.val * 1024) (inb) (r : Fin 512) (q : Fin 1024) :
    (View.ld (iblk m c 0 t) (Rect.unit (s := S512x4096) ![0, o] ![512, 1024] inb) (ix2 r q) : EReal) = Ga m c (ix2 (row t r) (unit b q)) := by
  subst ho
  refine (View.ld_unit_apply_of _ _ _ inb (ix2 r q) (ix2 r (unit b q)) (fun a => by fin_cases a <;> simp)).trans ?_
  exact g_blk m c t r (unit b q)

theorem w_ld (t : Fin cfg0.N) (b : Fin 4) (inb) (k q : Fin 1024) :
    (View.ld (iblk m c 1 t) (Rect.unit (s := S1x4x1024x1024) ![0, b.val, 0, 0] ![1, 1, 1024, 1024] inb) (ix4 0 0 k q) : EReal) = Wa m c (ix2 k (unit b q)) := by
  refine (View.ld_unit_apply_of _ _ _ inb (ix4 0 0 k q) (ix4 0 b k q) (fun a => by fin_cases a <;> simp)).trans ?_
  exact w_blk m c t 0 b k q

/-- Four pieces' sums are the sum over the units. -/
theorem four (f : Fin 4096 → EReal) :
    (∑ q, f (unit 0 q)) + (∑ q, f (unit 1 q)) + (∑ q, f (unit 2 q)) + (∑ q, f (unit 3 q)) = ∑ n, f n := by
  have h : ∑ b : Fin 4, ∑ q : Fin 1024, f (unit b q) = ∑ n, f n :=
    Fin.sum_mul_add_congr (L := 4096) (S := 4) (n := 1024) (f := f) (fun b q hl => rfl) (by decide)
  rw [← h, Fin.sum_univ_four]

/-- A point's product. -/
abbrev prod (t : Fin cfg0.N) : FVec Ideal S512x1024 .f32 :=
  k0_pay7 (F := Ideal) (View.ld (iblk m c 0 t) (Rect.unit (s := S512x4096) ![0, 0] ![512, 1024] inb_S512x4096_S512x1024_0_0))
    (View.ld (iblk m c 1 t) (Rect.unit (s := S1x4x1024x1024) ![0, 0, 0, 0] ![1, 1, 1024, 1024] inb_S1x4x1024x1024_S1x1x1024x1024_0_0_0_0))
    (View.ld (iblk m c 0 t) (Rect.unit (s := S512x4096) ![0, 1024] ![512, 1024] inb_S512x4096_S512x1024_0_1024))
    (View.ld (iblk m c 1 t) (Rect.unit (s := S1x4x1024x1024) ![0, 1, 0, 0] ![1, 1, 1024, 1024] inb_S1x4x1024x1024_S1x1x1024x1024_0_1_0_0))
    (View.ld (iblk m c 0 t) (Rect.unit (s := S512x4096) ![0, 2048] ![512, 1024] inb_S512x4096_S512x1024_0_2048))
    (View.ld (iblk m c 1 t) (Rect.unit (s := S1x4x1024x1024) ![0, 2, 0, 0] ![1, 1, 1024, 1024] inb_S1x4x1024x1024_S1x1x1024x1024_0_2_0_0))
    (View.ld (iblk m c 0 t) (Rect.unit (s := S512x4096) ![0, 3072] ![512, 1024] inb_S512x4096_S512x1024_0_3072))
    (View.ld (iblk m c 1 t) (Rect.unit (s := S1x4x1024x1024) ![0, 3, 0, 0] ![1, 1, 1024, 1024] inb_S1x4x1024x1024_S1x1x1024x1024_0_3_0_0))

theorem prod_at (t : Fin cfg0.N) (r : Fin 512) (k : Fin 1024) :
    (prod m c t (ix2 r k) : EReal) = gh (Ga m c) (Wa m c) (row t r) k := by
  refine (pay7_at _ _ _ _ _ _ _ _ r k).trans ?_
  refine Eq.trans ?_ (four fun n => Ga m c (ix2 (row t r) n) * Wa m c (ix2 k n))
  refine congrArg₂ (· + ·) (congrArg₂ (· + ·) (congrArg₂ (· + ·) ?_ ?_) ?_) ?_ <;> refine Finset.sum_congr rfl fun n _ => congrArg₂ (· * ·) ?_ ?_
  · exact g_ld m c t 0 0 rfl _ r n
  · exact w_ld m c t 0 _ k n
  · exact g_ld m c t 1 1024 rfl _ r n
  · exact w_ld m c t 1 _ k n
  · exact g_ld m c t 2 2048 rfl _ r n
  · exact w_ld m c t 2 _ k n
  · exact g_ld m c t 3 3072 rfl _ r n
  · exact w_ld m c t 3 _ k n

/-- What a point stores of the rows' gradient. -/
theorem gx_at (t : Fin cfg0.N) (r : Fin 512) (k : Fin 1024) :
    (k0_pay3 (F := Ideal) (prod m c t) (iblk m c 2 t) (k0_pay8 (iblk m c 2 t)) (iblk m c 3 t) (iblk m c 4 t) (ix2 r k) : EReal)
      = gx (Ga m c) (Wa m c) (Xa m c) (Na m c) (Ra m c) (row t r) k := by
  refine (pay3_at _ _ _ _ r k).trans ?_
  simp only [prod_at, x_blk, n_blk, r_blk]
  rfl

/-- What a point adds to the gain's gradient. -/
def step (t : Fin cfg0.N) (a : Fin 8) (k : Fin 1024) : EReal :=
  ∑ u : Fin 64, gt (Ga m c) (Wa m c) (Xa m c) (row t (loc8 u a)) k

theorem gg_at (t : Fin cfg0.N) (v52 : FVec Ideal S8x1024 .f32) (a : Fin 8) (k : Fin 1024) :
    (k0_pay5 (F := Ideal) (prod m c t) (iblk m c 2 t) (k0_pay8 (iblk m c 2 t)) v52 (ix2 a k) : EReal)
      = v52 (ix2 a k) + step m c t a k := by
  refine (pay5_at _ _ _ a k).trans ?_
  simp only [prod_at, x_blk]
  rfl

theorem row5 (t : Fin cfg0.N) (r : Fin 512) (k : Fin 1024) :
    ((outsAt0 m c t.val t.isLt).1 (ix2 r k) : EReal) = gx (Ga m c) (Wa m c) (Xa m c) (Na m c) (Ra m c) (row t r) k := by
  by_cases h : t.val % 16 = 0
  · rw [outsAt0_A m c t h]
    dsimp only
    frame_out
    exact gx_at m c t r k
  · rw [outsAt0_B m c t h]
    dsimp only
    frame_out
    exact gx_at m c t r k

theorem row6 (t : Fin cfg0.N) (r : Fin 512) (k : Fin 1024) :
    ((outsAt0 m c t.val t.isLt).2.1 (ix2 r k) : EReal) = gx (Ga m c) (Wa m c) (Xa m c) (Na m c) (Ra m c) (row t r) k := by
  by_cases h : t.val % 16 = 0
  · rw [outsAt0_A m c t h]
    dsimp only
    frame_out
    exact gx_at m c t r k
  · rw [outsAt0_B m c t h]
    dsimp only
    frame_out
    exact gx_at m c t r k

theorem row7_A (t : Fin cfg0.N) (h : t.val % 16 = 0) (a : Fin 8) (k : Fin 1024) :
    ((outsAt0 m c t.val t.isLt).2.2 (ix2 a k) : EReal) = (0 : EReal) + step m c t a k := by
  rw [outsAt0_A m c t h]
  dsimp only
  frame_out
  refine (gg_at m c t _ a k).trans ?_
  rw [zero_at]

theorem row7_B (t : Fin cfg0.N) (h : ¬ t.val % 16 = 0) (a : Fin 8) (k : Fin 1024) :
    ((outsAt0 m c t.val t.isLt).2.2 (ix2 a k) : EReal)
      = ((outsAt0 m c (t.val - 1) (Nat.lt_of_le_of_lt (Nat.sub_le _ _) t.isLt)).2.2 (ix2 a k) : EReal) + step m c t a k := by
  rw [outsAt0_B m c t h]
  dsimp only
  frame_out
  exact gg_at m c t _ a k

/-- The kernel's rows' gradient. -/
theorem arr5 (G : S8192x1024.Idx → EReal) (hG : ∀ i k, G (ix2 i k) = gx (Ga m c) (Wa m c) (Xa m c) (Na m c) (Ra m c) i k) :
    (dats m 0 c).arrAt 5 cfg0.N = G := by
  refine (dats m 0 c).arrAt_eq_of_covers 5 _ (by decide +kernel) fun t hf y => ?_
  blk_simp
  rw [after0_5]
  obtain ⟨r, k, rfl⟩ : ∃ (r : Fin 512) (k : Fin 1024), y = ix2 r k := ⟨y 0, y 1, eq_ix2 y⟩
  refine (row5 m c t r k).trans ((hG (row t r) k).symm.trans (congrArg G ?_))
  blk_ext [idx t]

/-- The same in the half format. -/
theorem arr6 (G : S8192x1024.Idx → EReal) (hG : ∀ i k, G (ix2 i k) = gx (Ga m c) (Wa m c) (Xa m c) (Na m c) (Ra m c) i k) :
    (dats m 0 c).arrAt 6 cfg0.N = G := by
  refine (dats m 0 c).arrAt_eq_of_covers 6 _ (by decide +kernel) fun t hf y => ?_
  blk_simp
  rw [after0_6]
  obtain ⟨r, k, rfl⟩ : ∃ (r : Fin 512) (k : Fin 1024), y = ix2 r k := ⟨y 0, y 1, eq_ix2 y⟩
  refine (row6 m c t r k).trans ((hG (row t r) k).symm.trans (congrArg G ?_))
  blk_ext [idx t]

/-- The whole grid adds up to the gain's gradient. -/
theorem steps (a : Fin 8) (k : Fin 1024) (h : ∀ s : Fin 16, s.val < cfg0.N) :
    ∑ s : Fin 16, step m c ⟨s.val, h s⟩ a k = gg (Ga m c) (Wa m c) (Xa m c) a k := by
  unfold step gg
  refine Fin.sum_mul_add_congr (L := 1024) (S := 16) (n := 64)
    (f := fun u => gt (Ga m c) (Wa m c) (Xa m c) (row8 u a) k) (fun s u hl => ?_) (by decide)
  refine congrArg (fun i => gt (Ga m c) (Wa m c) (Xa m c) i k) (Fin.ext ?_)
  show s.val * 512 + (u.val * 8 + a.val) = (s.val * 64 + u.val) * 8 + a.val
  omega

/-- The kernel's gain's gradient. -/
theorem arr7 (G : S8x1024.Idx → EReal) (hG : ∀ a k, G (ix2 a k) = gg (Ga m c) (Wa m c) (Xa m c) a k) :
    (dats m 0 c).arrAt 7 cfg0.N = G := by
  refine (dats m 0 c).arrAt_eq_of_covers 7 _ (by decide +kernel) fun t hf y => ?_
  blk_simp
  rw [after0_7]
  obtain ⟨a, k, rfl⟩ : ∃ (a : Fin 8) (k : Fin 1024), y = ix2 a k := ⟨y 0, y 1, eq_ix2 y⟩
  have ht : t.val + 1 = 16 := by
    have := (flush0_7 t).mp hf
    have := t.isLt
    have : cfg0.N = 16 := N_0
    omega
  refine (Pipeline.eq_sum_fin_of_reset_step_apply_last
    (fun n h (i : Fin 8 × Fin 1024) => ((outsAt0 m c n h).2.2 (ix2 i.1 i.2) : EReal)) 16 (fun _ => 0)
    (fun t i => step m c t i.1 i.2) (fun t h i => row7_A m c t h _ _) (fun t h i => row7_B m c t h _ _)
    (le_of_eq N_0) t ht (a, k)).trans ?_
  rw [zero_add]
  refine Eq.trans (steps m c a k _) ((hG a k).symm.trans (congrArg G ?_))
  blk_ext [idx t]

end Cert.Bff1Ideal.At

namespace Cert.Bff1RefIdeal.At

open Idealize.ShloMosaic Idealize.SL.Sem Idealize.ShloMosaic.StableHlo Cert.Bff1RefIdeal Cert.Bff1RefIdeal.Gen Cert.Norm

variable (m : (ℓ : Loc nD τ sig) → Buf (Elt Ideal) ℓ) (c : Dev nD)

abbrev Ga : S8192x4096.Idx → EReal := m ((c.tc : Thread nD τ).loc main_arg0)
abbrev Wa : S1024x4096.Idx → EReal := m ((c.tc : Thread nD τ).loc main_arg1)
abbrev Xa : S8192x1024.Idx → EReal := m ((c.tc : Thread nD τ).loc main_arg2)
abbrev Na : S1024.Idx → EReal := m ((c.tc : Thread nD τ).loc main_arg3)
abbrev Ra : S8192x1024.Idx → EReal := m ((c.tc : Thread nD τ).loc main_arg4)

open Cert.Bff1Ideal.At (gh gx gg gt row8)

theorem res0_at (i : Fin 8192) (k : Fin 1024) :
    (Value.res_main_v45 m c (ix2 i k) : EReal)
      = rgrad (fun k => Xa m c (ix2 i k)) (gh (Ga m c) (Wa m c) i) (fun k => Na m c (ix1 k)) (fun k => Ra m c (ix2 i k)) k := by
  unfold Value.res_main_v45
  pointwise
  simp only [Fin.sum_univ_one]
  rfl

theorem res2_at (X : FVec Ideal S8192x1024 .f32) (G : FVec Ideal S8192x4096 .bf16) (W : FVec Ideal S1024x4096 .f32) (a : Fin 8) (k : Fin 1024) :
    (Host.reduceAdd (shapeCast S1x8x1024 (Host.reduceAdd (mulf (shapeCast _ (mulf X (broadcastInDim S8192x1024 ![0, 1] bcast_S8192x1_S8192x1024_0_1 (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) shapeCasts_S8192x1024_S1024x8x1024) (shapeCast S1024x8x1024 (Host.dotGeneral dot_S8192x4096_S1024x4096_S8192x1024_1_1_0_0_n_n none (extf .f32 G bitsLt_bf16_f32) W : FVec Ideal S8192x1024 .f32) shapeCasts_S8192x1024_S1024x8x1024)) (constant S_ .f32 0x00000000#32) reducesTo_S1024x8x1024_S8x1024_d0 h_S_ : FVec Ideal S8x1024 .f32) shapeCasts_S8x1024_S1x8x1024) (constant S_ .f32 0x00000000#32) reducesTo_S1x8x1024_S8x1024_d0 h_S_ (ix2 a k) : EReal)
      = gg G W X a k := by
  pointwise
  simp only [Fin.sum_univ_one]
  exact Finset.sum_congr rfl fun u _ => mul_comm _ _

end Cert.Bff1RefIdeal.At

namespace Cert.Proof.Bff1

open Idealize.ShloMosaic Idealize.SL.Sem Idealize.ShloMosaic.StableHlo Cert.Norm

theorem frame_r : Cert.quiescent_Bff1RefIdeal := fun m ρ _ =>
  (θ_run Cert.Bff1RefIdeal.defs _ _).mono (fun r h => ⟨fun c => (h c).2.2.2, sem_eq_zero_of_no_sems (by decide) r.2⟩)
    (Cert.Bff1RefIdeal.Value.run m ρ)

section
variable {m : (ℓ : Loc Cert.Bff1Ideal.nD Cert.Bff1Ideal.τ Cert.Bff1Ideal.sig) → Buf (Elt Ideal) ℓ}
  {m' : (ℓ : Loc Cert.Bff1RefIdeal.nD Cert.Bff1RefIdeal.τ Cert.Bff1RefIdeal.sig) → Buf (Elt Ideal) ℓ} {c : Dev Cert.Bff1Ideal.nD}

theorem same_gx (e0 : Cert.Bff1RefIdeal.At.Ga m' c = Cert.Bff1Ideal.At.Ga m c) (e1 : Cert.Bff1RefIdeal.At.Wa m' c = Cert.Bff1Ideal.At.Wa m c)
    (e2 : Cert.Bff1RefIdeal.At.Xa m' c = Cert.Bff1Ideal.At.Xa m c) (e3 : Cert.Bff1RefIdeal.At.Na m' c = Cert.Bff1Ideal.At.Na m c)
    (e4 : Cert.Bff1RefIdeal.At.Ra m' c = Cert.Bff1Ideal.At.Ra m c) (i : Fin 8192) (k : Fin 1024) :
    (Cert.Bff1RefIdeal.Value.res_main_v45 m' c (ix2 i k) : EReal)
      = Cert.Bff1Ideal.At.gx (Cert.Bff1Ideal.At.Ga m c) (Cert.Bff1Ideal.At.Wa m c) (Cert.Bff1Ideal.At.Xa m c) (Cert.Bff1Ideal.At.Na m c) (Cert.Bff1Ideal.At.Ra m c) i k := by
  refine (Cert.Bff1RefIdeal.At.res0_at m' c i k).trans ?_
  rw [rgrad_eq, e0, e1, e2, e3, e4]
  rfl

end

theorem algebraic : Cert.algebraic_Bff1Ideal_Bff1RefIdeal := fun m ρ m' ρ' _ hag => by
  refine ⟨fun c => (Cert.Bff1Ideal.Gen.dats m 0 c).arrAt 5 Cert.Bff1Ideal.cfg0.N,
    fun c => (Cert.Bff1Ideal.Gen.dats m 0 c).arrAt 6 Cert.Bff1Ideal.cfg0.N,
    fun c => (Cert.Bff1Ideal.Gen.dats m 0 c).arrAt 7 Cert.Bff1Ideal.cfg0.N, Cert.Bff1Ideal.Value.run_blocks m ρ, ?_⟩
  refine (θ_run _ _ _).mono (fun _ h c => ?_) (Cert.Bff1RefIdeal.Value.run m' ρ')
  obtain ⟨h0, h1, h2, hk⟩ := h c
  obtain ⟨e0, e1, e2, e3, e4⟩ := hag c
  refine ⟨h0.trans (Cert.Bff1Ideal.At.arr5 m c _ fun i j => ?_).symm, h1.trans (Cert.Bff1Ideal.At.arr6 m c _ fun i j => ?_).symm,
    h2.trans (Cert.Bff1Ideal.At.arr7 m c _ fun a k => ?_).symm, hk⟩
  · exact same_gx e0 e1 e2 e3 e4 i j
  · exact same_gx e0 e1 e2 e3 e4 i j
  · refine (Cert.Bff1RefIdeal.At.res2_at _ _ _ a k).trans ?_
    rw [e0, e1, e2]

end Cert.Proof.Bff1

end
-- ==== Proof.Bff2Val.lean ====
/- The gradient at the feed-forward block's first product: kernel and reference hold the same array. -/
module

public import proofs.«01_k».proof.Proof.Gen.Bff2Ideal.Value
public import proofs.«01_k».proof.Proof.Gen.Bff2RefIdeal.Run
public import proofs.«01_k».proof.Defs
public import Idealize.ShloMosaic.Adequacy
public import Idealize.ShloMosaic.Init
public import proofs.«01_k».proof.Proof.Norm

@[expose] public section

set_option maxRecDepth 16384

noncomputable section

namespace Cert.Bff2Ideal.At

open Idealize.ShloMosaic Idealize.SL.Sem Idealize.ShloMosaic.TcCoe Cert.Bff2Ideal Cert.Bff2Ideal.Gen Cert.Norm

variable (m : (ℓ : Loc nD τ sig) → Buf (Elt Ideal) ℓ) (c : Dev nD)

abbrev Ga : S8192x1024.Idx → EReal := m ((c : Thread nD τ).loc main_arg0)
abbrev Wa : S4096x1024.Idx → EReal := m ((c : Thread nD τ).loc main_arg1)
abbrev Ya : S8192x4096.Idx → EReal := m ((c : Thread nD τ).loc main_arg2)

/-- A unit's gradient: the product's gradient, times the derivative of the squared positive part. -/
def unitGrad (g y : EReal) : EReal := g * (Ideal.ofBits .f32 0x40000000#32 * max y 0)

/-- The gradient at a token's unit. -/
def spec (G : S8192x1024.Idx → EReal) (W : S4096x1024.Idx → EReal) (Y : S8192x4096.Idx → EReal) (i : Fin 8192) (n : Fin 4096) : EReal :=
  unitGrad (∑ k : Fin 1024, G (ix2 i k) * W (ix2 n k)) (Y (ix2 i n))

theorem pay_at (v0 : FVec Ideal S512x1024 .bf16) (v1 : FVec Ideal S1x1024x1024 .bf16) (v4 : FVec Ideal S512x1024 .bf16) (r : Fin 512) (q : Fin 1024) :
    (k0_pay3 (F := Ideal) v0 v1 v4 (ix2 r q) : EReal)
      = (∑ k : Fin 1024, v0 (ix2 r k) * v1 (ix3 0 q k)) * (Ideal.ofBits .f32 0x40000000#32 * Ideal.sqrt (v4 (ix2 r q))) := by
  unfold k0_pay3
  pointwise

/-- The four pieces are stored by one formula. -/
theorem pay4_eq (v0 : FVec Ideal S512x1024 .bf16) (v1 : FVec Ideal S1x1024x1024 .bf16) (v4 : FVec Ideal S512x1024 .bf16) :
    k0_pay4 (F := Ideal) v0 v1 v4 = k0_pay3 v0 v1 v4 := rfl

theorem pay1_eq (v0 : FVec Ideal S512x1024 .bf16) (v1 : FVec Ideal S1x1024x1024 .bf16) (v4 : FVec Ideal S512x1024 .bf16) :
    k0_pay1 (F := Ideal) (k0_pay5 v0 v1) (k0_pay6 v4) = k0_pay3 v0 v1 v4 := rfl

theorem pay2_eq (v0 : FVec Ideal S512x1024 .bf16) (v1 : FVec Ideal S1x1024x1024 .bf16) (v4 : FVec Ideal S512x1024 .bf16) :
    k0_pay2 (F := Ideal) v0 v1 v4 = k0_pay3 v0 v1 v4 := rfl

theorem V_w : V m c main_v4 = (broadcastInDim S1x4096x1024 ![1, 2] bcast_S4096x1024_S1x4096x1024_1_2
    (truncf (F := Ideal) (s := S4096x1024) (φ := .f32) .bf16 (Wa m c) bitsLt_bf16_f32 : FVec Ideal S4096x1024 .bf16) : FVec Ideal S1x4096x1024 .bf16) := by
  unfold_abbrev_sides
  simp only [hostOps0, hostOps0_1, List.flatten_cons, List.flatten_nil, List.cons_append, List.nil_append, StableHlo.TRef.binary, StableHlo.TRef.nullary, StableHlo.TRef.unary, StableHlo.TRef.toBuf, StableHlo.TRef.ofBuf, cast_eq]
  after_results

theorem V_a : V m c main_v2 = (truncf (F := Ideal) (s := S8192x4096) (φ := .f32) .bf16
    (mulf (maximumf (Ya m c) (broadcastInDim S8192x4096 ![] bcast_S_S8192x4096 (constant S_ .f32 0x00000000#32)))
      (maximumf (Ya m c) (broadcastInDim S8192x4096 ![] bcast_S_S8192x4096 (constant S_ .f32 0x00000000#32)))) bitsLt_bf16_f32 : FVec Ideal S8192x4096 .bf16) := by
  unfold_abbrev_sides
  simp only [hostOps0, hostOps0_1, List.flatten_cons, List.flatten_nil, List.cons_append, List.nil_append, StableHlo.TRef.binary, StableHlo.TRef.nullary, StableHlo.TRef.unary, StableHlo.TRef.toBuf, StableHlo.TRef.ofBuf, cast_eq]
  after_results

theorem w_at (z : Fin 1) (n : Fin 4096) (k : Fin 1024) : (V m c main_v4 (ix3 z n k) : EReal) = Wa m c (ix2 n k) := by
  rw [V_w]
  pointwise

theorem a_at (i : Fin 8192) (n : Fin 4096) : (V m c main_v2 (ix2 i n) : EReal) = act (Ya m c (ix2 i n)) := by
  rw [V_a]
  pointwise
  rfl

theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, _)

/-- The row that a point's row is. -/
abbrev row (t : Fin cfg0.N) (r : Fin 512) : Fin 8192 := ⟨t.val * 512 + r.val, by have := t.isLt; have : cfg0.N = 16 := N_0; omega⟩

theorem g_blk (t : Fin cfg0.N) (r : Fin 512) (k : Fin 1024) : (iblk m c 0 t (ix2 r k) : EReal) = Ga m c (ix2 (row t r) k) := by
  blk_ext [iblk, V, idx t]

theorem w_blk (t : Fin cfg0.N) (z : Fin 1) (n : Fin 4096) (k : Fin 1024) : (iblk m c 1 t (ix3 z n k) : EReal) = Wa m c (ix2 n k) := by
  refine Eq.trans ?_ (w_at m c z n k)
  show (V m c main_v4 _ : EReal) = _
  blk_ext [iblk, idx t]

theorem a_blk (t : Fin cfg0.N) (r : Fin 512) (n : Fin 4096) : (iblk m c 2 t (ix2 r n) : EReal) = act (Ya m c (ix2 (row t r) n)) := by
  refine Eq.trans ?_ (a_at m c (row t r) n)
  show (V m c main_v2 _ : EReal) = _
  blk_ext [iblk, idx t]

theorem w_ld (t : Fin cfg0.N) (b : Fin 4) (o : Nat) (ho : o = b.val * 1024) (inb) (q k : Fin 1024) :
    (View.ld (iblk m c 1 t) (Rect.unit (s := S1x4096x1024) ![0, o, 0] ![1, 1024, 1024] inb) (ix3 0 q k) : EReal) = Wa m c (ix2 (unit b q) k) := by
  subst ho
  refine (View.ld_unit_apply_of _ _ _ inb (ix3 0 q k) (ix3 0 (unit b q) k) (fun a => by fin_cases a <;> simp)).trans ?_
  exact w_blk m c t 0 (unit b q) k

theorem a_ld (t : Fin cfg0.N) (b : Fin 4) (o : Nat) (ho : o = b.val * 1024) (inb) (r : Fin 512) (q : Fin 1024) :
    (View.ld (iblk m c 2 t) (Rect.unit (s := S512x4096) ![0, o] ![512, 1024] inb) (ix2 r q) : EReal) = act (Ya m c (ix2 (row t r) (unit b q))) := by
  subst ho
  refine (View.ld_unit_apply_of _ _ _ inb (ix2 r q) (ix2 r (unit b q)) (fun a => by fin_cases a <;> simp)).trans ?_
  exact a_blk m c t r (unit b q)

theorem o_blk (t : Fin cfg0.N) (b : Fin 4) (o : Nat) (ho : o = b.val * 1024) (inb inb') (r : Fin 512) (q : Fin 1024) :
    (k0_pay3 (F := Ideal) (iblk m c 0 t) (View.ld (iblk m c 1 t) (Rect.unit (s := S1x4096x1024) ![0, o, 0] ![1, 1024, 1024] inb))
      (View.ld (iblk m c 2 t) (Rect.unit (s := S512x4096) ![0, o] ![512, 1024] inb')) (ix2 r q) : EReal)
      = spec (Ga m c) (Wa m c) (Ya m c) (row t r) (unit b q) := by
  refine (pay_at _ _ _ r q).trans ?_
  simp only [g_blk, w_ld m c t b o ho inb, a_ld m c t b o ho inb', sqrt_act]
  rfl

set_option maxHeartbeats 2000000 in
/-- The kernel's array. -/
theorem arr (G : S8192x4096.Idx → EReal) (hG : ∀ i n, G (ix2 i n) = spec (Ga m c) (Wa m c) (Ya m c) i n) :
    (dats m 0 c).arrAt 3 cfg0.N = G := by
  refine (dats m 0 c).arrAt_eq_of_covers 3 _ (by decide +kernel) fun t hf y => ?_
  blk_simp
  rw [after0_3]
  frame_out
  obtain ⟨r, n, rfl⟩ : ∃ (r : Fin 512) (n : Fin 4096), y = ix2 r n := ⟨y 0, y 1, eq_ix2 y⟩
  refine Eq.trans ?_ ((hG (row t r) n).symm.trans (congrArg G ?_))
  · simp only [pay1_eq, pay2_eq, pay4_eq]
    canon_tiles x hx
    · exact piece r n 3 3072 rfl _ (spec (Ga m c) (Wa m c) (Ya m c) (row t r)) (o_blk m c t 3 3072 rfl _ _ r) x (by simpa using hx0) hx1
    · exact piece r n 2 2048 rfl _ (spec (Ga m c) (Wa m c) (Ya m c) (row t r)) (o_blk m c t 2 2048 rfl _ _ r) x (by simpa using hx0) hx1
    · exact piece r n 1 1024 rfl _ (spec (Ga m c) (Wa m c) (Ya m c) (row t r)) (o_blk m c t 1 1024 rfl _ _ r) x (by simpa using hx0) hx1
    · exact piece r n 0 0 rfl _ (spec (Ga m c) (Wa m c) (Ya m c) (row t r)) (o_blk m c t 0 0 rfl _ _ r) x (by simpa using hx0) (by simpa using hx1)
  · blk_ext [idx t]

end Cert.Bff2Ideal.At

namespace Cert.Bff2RefIdeal.At

open Idealize.ShloMosaic Idealize.SL.Sem Idealize.ShloMosaic.StableHlo Cert.Bff2RefIdeal Cert.Bff2RefIdeal.Gen

/-- The reference's array. -/
theorem res_at (G : FVec Ideal S8192x1024 .bf16) (W : FVec Ideal S4096x1024 .f32) (Y : FVec Ideal S8192x4096 .f32) (i : Fin 8192) (n : Fin 4096) :
    (truncf .bf16 (select (cmpf .ogt Y (broadcastInDim S8192x4096 ![] bcast_S_S8192x4096 (constant S_ .f32 0x00000000#32)))
        (mulf (Host.dotGeneral dot_S8192x1024_S4096x1024_S8192x4096_1_1_0_0_n_n none (extf .f32 G bitsLt_bf16_f32) W)
          (mulf (broadcastInDim S8192x4096 ![] bcast_S_S8192x4096 (constant S_ .f32 0x40000000#32))
            (maximumf Y (broadcastInDim S8192x4096 ![] bcast_S_S8192x4096 (constant S_ .f32 0x00000000#32)))))
        (broadcastInDim S8192x4096 ![] bcast_S_S8192x4096 (constant S_ .f32 0x00000000#32))) bitsLt_bf16_f32 (ix2 i n) : EReal)
      = Cert.Bff2Ideal.At.spec G W Y i n := by
  pointwise
  unfold Cert.Bff2Ideal.At.spec Cert.Bff2Ideal.At.unitGrad
  split_ifs with h
  · rfl
  · rw [max_eq_right (not_lt.mp h), mul_zero, mul_zero]

end Cert.Bff2RefIdeal.At

namespace Cert.Proof.Bff2

open Idealize.ShloMosaic Idealize.SL.Sem Idealize.ShloMosaic.StableHlo

theorem frame_r : Cert.quiescent_Bff2RefIdeal := fun m ρ _ =>
  (θ_run Cert.Bff2RefIdeal.defs _ _).mono (fun r h => ⟨fun c => (h c).2, sem_eq_zero_of_no_sems (by decide) r.2⟩)
    (Cert.Bff2RefIdeal.Value.run m ρ)

theorem algebraic : Cert.algebraic_Bff2Ideal_Bff2RefIdeal := fun m ρ m' ρ' _ hag => by
  refine ⟨fun c => (Cert.Bff2Ideal.Gen.dats m 0 c).arrAt 3 Cert.Bff2Ideal.cfg0.N, Cert.Bff2Ideal.Value.run_blocks m ρ, ?_⟩
  refine (θ_run _ _ _).mono (fun _ h c => ?_) (Cert.Bff2RefIdeal.Value.run m' ρ')
  obtain ⟨h0, hk⟩ := h c
  refine ⟨h0.trans (Cert.Bff2Ideal.At.arr m c _ fun i j => ?_).symm, hk⟩
  obtain ⟨e0, e1, e2⟩ := hag c
  refine (Cert.Bff2RefIdeal.At.res_at _ _ _ i j).trans ?_
  rw [e0, e1, e2]

end Cert.Proof.Bff2

end
-- ==== Proof.Wff2Val.lean ====
/- The gradient of the second feed-forward weight: kernel and reference hold the same array. -/
module

public import proofs.«01_k».proof.Proof.Gen.Wff2Ideal.Value
public import proofs.«01_k».proof.Proof.Gen.Wff2RefIdeal.Run
public import proofs.«01_k».proof.Defs
public import Idealize.ShloMosaic.Adequacy
public import Idealize.ShloMosaic.Init
public import proofs.«01_k».proof.Proof.Norm

@[expose] public section

set_option maxRecDepth 16384

noncomputable section

namespace Cert.Wff2Ideal.At

open Idealize.ShloMosaic Idealize.SL.Sem Idealize.ShloMosaic.TcCoe Cert.Wff2Ideal Cert.Wff2Ideal.Gen Cert.Norm

variable (m : (ℓ : Loc nD τ sig) → Buf (Elt Ideal) ℓ) (c : Dev nD)

abbrev Ga : S8192x1024.Idx → EReal := m ((c : Thread nD τ).loc main_arg0)
abbrev Ya : S8192x4096.Idx → EReal := m ((c : Thread nD τ).loc main_arg1)

/-- A weight's gradient: over the tokens, its input's activation times its output's gradient. -/
def spec (G : S8192x1024.Idx → EReal) (Y : S8192x4096.Idx → EReal) (p : Fin 4096) (q : Fin 1024) : EReal :=
  ∑ s : Fin 8192, act (Y (ix2 s p)) * G (ix2 s q)

theorem zero_at (i : S1024x1024.Idx) : (k0_pay1 (F := Ideal) i : EReal) = 0 := by
  unfold k0_pay1
  pointwise

theorem pay_at (v3 v5 : FVec Ideal S2048x1024 .bf16) (v7 : FVec Ideal S1024x1024 .f32) (p q : Fin 1024) :
    (k0_pay2 (F := Ideal) v3 v5 v7 (ix2 p q) : EReal) = v7 (ix2 p q) + ∑ s : Fin 2048, v3 (ix2 s p) * v5 (ix2 s q) := by
  unfold k0_pay2
  pointwise

theorem V_a : V m c main_v2 = (truncf (F := Ideal) (s := S8192x4096) (φ := .f32) .bf16
    (mulf (maximumf (Ya m c) (broadcastInDim S8192x4096 ![] bcast_S_S8192x4096 (constant S_ .f32 0x00000000#32)))
      (maximumf (Ya m c) (broadcastInDim S8192x4096 ![] bcast_S_S8192x4096 (constant S_ .f32 0x00000000#32)))) bitsLt_bf16_f32 : FVec Ideal S8192x4096 .bf16) := by
  unfold_abbrev_sides
  simp only [hostOps0, hostOps0_1, List.flatten_cons, List.flatten_nil, List.cons_append, List.nil_append, StableHlo.TRef.binary, StableHlo.TRef.nullary, StableHlo.TRef.unary, StableHlo.TRef.toBuf, StableHlo.TRef.ofBuf, cast_eq]
  after_results

theorem a_at (s : Fin 8192) (p : Fin 4096) : (V m c main_v2 (ix2 s p) : EReal) = act (Ya m c (ix2 s p)) := by
  rw [V_a]
  pointwise
  rfl

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The token that a point's row is. -/
abbrev tok (n : Nat) (r : Fin 2048) : Fin 8192 := ⟨n % 4 * 2048 + r.val, by omega⟩

/-- The unit that a point's row of weights is. -/
abbrev unit (t : Fin cfg0.N) (p : Fin 1024) : Fin 4096 := ⟨t.val / 4 * 1024 + p.val, by have := t.isLt; have : cfg0.N = 16 := N_0; omega⟩

theorem a_blk (t : Fin cfg0.N) (r : Fin 2048) (p : Fin 1024) : (iblk m c 0 t (ix2 r p) : EReal) = act (Ya m c (ix2 (tok t.val r) (unit t p))) := by
  refine Eq.trans ?_ (a_at m c (tok t.val r) (unit t p))
  show (V m c main_v2 _ : EReal) = _
  blk_ext [iblk, idx t]

theorem g_blk (t : Fin cfg0.N) (r : Fin 2048) (q : Fin 1024) : (iblk m c 1 t (ix2 r q) : EReal) = Ga m c (ix2 (tok t.val r) q) := by
  blk_ext [iblk, V, idx t]

/-- What one grid point adds to a weight's gradient. -/
def step (t : Fin cfg0.N) (p q : Fin 1024) : EReal :=
  ∑ r : Fin 2048, act (Ya m c (ix2 (tok t.val r) (unit t p))) * Ga m c (ix2 (tok t.val r) q)

theorem row_A (t : Fin cfg0.N) (h : t.val % 4 = 0) (p q : Fin 1024) :
    (outsAt0 m c t.val t.isLt (ix2 p q) : EReal) = (0 : EReal) + step m c t p q := by
  rw [outsAt0_A m c t h]
  frame_out
  refine (pay_at _ _ _ p q).trans ?_
  rw [zero_at]
  simp only [a_blk, g_blk]
  rfl

theorem row_B (t : Fin cfg0.N) (h : ¬ t.val % 4 = 0) (p q : Fin 1024) :
    (outsAt0 m c t.val t.isLt (ix2 p q) : EReal) = (outsAt0 m c (t.val - 1) (Nat.lt_of_le_of_lt (Nat.sub_le _ _) t.isLt) (ix2 p q) : EReal) + step m c t p q := by
  rw [outsAt0_B m c t h]
  frame_out
  refine (pay_at _ _ _ p q).trans ?_
  simp only [a_blk, g_blk]
  rfl

/-- A run of points adds up to the weight's gradient. -/
theorem steps (t : Fin cfg0.N) (p q : Fin 1024) (h : ∀ s : Fin 4, 4 * (t.val / 4) + s.val < cfg0.N) :
    ∑ s : Fin 4, step m c ⟨4 * (t.val / 4) + s.val, h s⟩ p q = spec (Ga m c) (Ya m c) (unit t p) q := by
  unfold step spec
  refine Fin.sum_mul_add_congr (L := 8192) (S := 4) (n := 2048) (f := fun s => act (Ya m c (ix2 s (unit t p))) * Ga m c (ix2 s q)) (fun s k hl => ?_) (by decide)
  have hs : tok (4 * (t.val / 4) + s.val) k = ⟨s.val * 2048 + k.val, hl⟩ := Fin.ext (by
    show (4 * (t.val / 4) + s.val) % 4 * 2048 + k.val = s.val * 2048 + k.val
    omega)
  have hd : unit ⟨4 * (t.val / 4) + s.val, h s⟩ p = unit t p := Fin.ext (by
    show (4 * (t.val / 4) + s.val) / 4 * 1024 + p.val = t.val / 4 * 1024 + p.val
    omega)
  rw [hs, hd]

/-- The kernel's array. -/
theorem arr (G : S4096x1024.Idx → EReal) (hG : ∀ p q, G (ix2 p q) = spec (Ga m c) (Ya m c) p q) :
    (dats m 0 c).arrAt 2 cfg0.N = G := by
  refine (dats m 0 c).arrAt_eq_of_covers 2 _ (by decide +kernel) fun t hf y => ?_
  blk_simp
  rw [after0_2]
  obtain ⟨p, q, rfl⟩ : ∃ (p : Fin 1024) (q : Fin 1024), y = ix2 p q := ⟨y 0, y 1, eq_ix2 y⟩
  refine (Pipeline.eq_sum_fin_of_reset_step_apply_of_flush
    (fun n h (i : Fin 1024 × Fin 1024) => (outsAt0 m c n h (ix2 i.1 i.2) : EReal)) 4 (fun _ => 0)
    (fun t i => step m c t i.1 i.2) (fun t h i => row_A m c t h _ _) (fun t h i => row_B m c t h _ _)
    t ((flush0_2 t).mp hf) (p, q)).trans ?_
  rw [zero_add]
  refine Eq.trans ?_ ((hG (unit t p) q).symm.trans (congrArg G ?_))
  · exact steps m c t p q _
  · blk_ext [idx t]

end Cert.Wff2Ideal.At

namespace Cert.Wff2RefIdeal.At

open Idealize.ShloMosaic Idealize.SL.Sem Idealize.ShloMosaic.StableHlo Cert.Wff2RefIdeal Cert.Wff2RefIdeal.Gen

/-- The reference's array. -/
theorem res_at (G : FVec Ideal S8192x1024 .bf16) (Y : FVec Ideal S8192x4096 .f32) (p : Fin 4096) (q : Fin 1024) :
    (transpose S4096x1024 [1, 0] (Host.dotGeneral dot_S8192x1024_S8192x4096_S1024x4096_0_0_1_1_n_n none (extf .f32 G bitsLt_bf16_f32)
        (mulf (maximumf Y (broadcastInDim S8192x4096 ![] bcast_S_S8192x4096 (constant S_ .f32 0x00000000#32)))
          (maximumf Y (broadcastInDim S8192x4096 ![] bcast_S_S8192x4096 (constant S_ .f32 0x00000000#32)))))
        transposes_S1024x4096_S4096x1024_1_0 (ix2 p q) : EReal)
      = Cert.Wff2Ideal.At.spec G Y p q := by
  pointwise
  exact Finset.sum_congr rfl fun s _ => mul_comm _ _

end Cert.Wff2RefIdeal.At

namespace Cert.Proof.Wff2

open Idealize.ShloMosaic Idealize.SL.Sem Idealize.ShloMosaic.StableHlo

theorem frame_r : Cert.quiescent_Wff2RefIdeal := fun m ρ _ =>
  (θ_run Cert.Wff2RefIdeal.defs _ _).mono (fun r h => ⟨fun c => (h c).2, sem_eq_zero_of_no_sems (by decide) r.2⟩)
    (Cert.Wff2RefIdeal.Value.run m ρ)

theorem algebraic : Cert.algebraic_Wff2Ideal_Wff2RefIdeal := fun m ρ m' ρ' _ hag => by
  refine ⟨fun c => (Cert.Wff2Ideal.Gen.dats m 0 c).arrAt 2 Cert.Wff2Ideal.cfg0.N, Cert.Wff2Ideal.Value.run_blocks m ρ, ?_⟩
  refine (θ_run _ _ _).mono (fun _ h c => ?_) (Cert.Wff2RefIdeal.Value.run m' ρ')
  obtain ⟨h0, hk⟩ := h c
  refine ⟨h0.trans (Cert.Wff2Ideal.At.arr m c _ fun i j => ?_).symm, hk⟩
  obtain ⟨e0, e1⟩ := hag c
  refine (Cert.Wff2RefIdeal.At.res_at _ _ i j).trans ?_
  rw [e0, e1]

end Cert.Proof.Wff2

end
-- ==== Proof.Wff1Val.lean ====
/- The gradient of the first feed-forward weight, in the pieces that the chips hold: kernel and reference hold the same array. -/
module

public import proofs.«01_k».proof.Proof.Gen.Wff1Ideal.Value
public import proofs.«01_k».proof.Proof.Gen.Wff1RefIdeal.Run
public import proofs.«01_k».proof.Defs
public import Idealize.ShloMosaic.Adequacy
public import Idealize.ShloMosaic.Init
public import proofs.«01_k».proof.Proof.Norm

@[expose] public section

set_option maxRecDepth 16384

noncomputable section

namespace Cert.Wff1Ideal.At

open Idealize.ShloMosaic Idealize.SL.Sem Idealize.ShloMosaic.TcCoe Cert.Wff1Ideal Cert.Wff1Ideal.Gen Cert.Norm

variable (m : (ℓ : Loc nD τ sig) → Buf (Elt Ideal) ℓ) (c : Dev nD)

abbrev Ga : S8192x4096.Idx → EReal := m ((c : Thread nD τ).loc main_arg0)
abbrev Xa : S8192x1024.Idx → EReal := m ((c : Thread nD τ).loc main_arg1)
abbrev Na : S1024.Idx → EReal := m ((c : Thread nD τ).loc main_arg2)

/-- A weight's gradient: over the tokens, its input's normed entry times its output's gradient. -/
def spec (G : S8192x4096.Idx → EReal) (X : S8192x1024.Idx → EReal) (g : S1024.Idx → EReal) (b : Fin 4) (p q : Fin 1024) : EReal :=
  ∑ s : Fin 8192, out (fun k => X (ix2 s k)) (g (ix1 p)) p * G (ix2 s (unit b q))

theorem zero_at (i : S1x1024x1024.Idx) : (k0_pay1 (F := Ideal) i : EReal) = 0 := by
  unfold k0_pay1
  pointwise

theorem pay_at (v3 v5 : FVec Ideal S2048x1024 .bf16) (v7 : FVec Ideal S1x1024x1024 .f32) (z : Fin 1) (p q : Fin 1024) :
    (k0_pay2 (F := Ideal) v3 v5 v7 (ix3 z p q) : EReal) = v7 (ix3 0 p q) + ∑ s : Fin 2048, v3 (ix2 s p) * v5 (ix2 s q) := by
  unfold k0_pay2
  pointwise

theorem V_a : V m c main_v13 = (truncf (F := Ideal) (s := S8192x1024) (φ := .f32) .bf16
    (mulf (mulf (Xa m c) (broadcastInDim S8192x1024 ![0, 1] bcast_S8192x1_S8192x1024_0_1 (Host.rsqrt (addf (Host.divf (broadcastInDim S8192x1 ![0] bcast_S8192_S8192x1_0
      (Host.reduceAdd (mulf (Xa m c) (Xa m c)) (constant S_ .f32 0x00000000#32) reducesTo_S8192x1024_S8192_d1 h_S_)) (broadcastInDim S8192x1 ![] bcast_S_S8192x1 (constant S_ .f32 0x44800000#32)))
      (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (Na m c)))) bitsLt_bf16_f32 : FVec Ideal S8192x1024 .bf16) := by
  unfold_abbrev_sides
  after_results

theorem a_at (s : Fin 8192) (p : Fin 1024) : (V m c main_v13 (ix2 s p) : EReal) = out (fun k => Xa m c (ix2 s k)) (Na m c (ix1 p)) p := by
  rw [V_a]
  pointwise
  rfl

theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The token that a point's row is. -/
abbrev tok (n : Nat) (r : Fin 2048) : Fin 8192 := ⟨n % 4 * 2048 + r.val, by omega⟩

/-- The piece that a point works on. -/
abbrev piece (t : Fin cfg0.N) : Fin 4 := ⟨t.val / 4, by have := t.isLt; have : cfg0.N = 16 := N_0; omega⟩

theorem a_blk (t : Fin cfg0.N) (r : Fin 2048) (p : Fin 1024) :
    (iblk m c 0 t (ix2 r p) : EReal) = out (fun k => Xa m c (ix2 (tok t.val r) k)) (Na m c (ix1 p)) p := by
  refine Eq.trans ?_ (a_at m c (tok t.val r) p)
  show (V m c main_v13 _ : EReal) = _
  blk_ext [iblk, idx t]

theorem g_blk (t : Fin cfg0.N) (r : Fin 2048) (q : Fin 1024) : (iblk m c 1 t (ix2 r q) : EReal) = Ga m c (ix2 (tok t.val r) (unit (piece t) q)) := by
  blk_ext [iblk, V, idx t]

/-- What one grid point adds to a weight's gradient. -/
def step (t : Fin cfg0.N) (p q : Fin 1024) : EReal :=
  ∑ r : Fin 2048, out (fun k => Xa m c (ix2 (tok t.val r) k)) (Na m c (ix1 p)) p * Ga m c (ix2 (tok t.val r) (unit (piece t) q))

theorem row_A (t : Fin cfg0.N) (h : t.val % 4 = 0) (p q : Fin 1024) :
    (outsAt0 m c t.val t.isLt (ix3 0 p q) : EReal) = (0 : EReal) + step m c t p q := by
  rw [outsAt0_A m c t h]
  frame_out
  refine (pay_at _ _ _ 0 p q).trans ?_
  rw [zero_at]
  simp only [a_blk, g_blk]
  rfl

theorem row_B (t : Fin cfg0.N) (h : ¬ t.val % 4 = 0) (p q : Fin 1024) :
    (outsAt0 m c t.val t.isLt (ix3 0 p q) : EReal) = (outsAt0 m c (t.val - 1) (Nat.lt_of_le_of_lt (Nat.sub_le _ _) t.isLt) (ix3 0 p q) : EReal) + step m c t p q := by
  rw [outsAt0_B m c t h]
  frame_out
  refine (pay_at _ _ _ 0 p q).trans ?_
  simp only [a_blk, g_blk]
  rfl

/-- A run of points adds up to the weight's gradient. -/
theorem steps (t : Fin cfg0.N) (p q : Fin 1024) (h : ∀ s : Fin 4, 4 * (t.val / 4) + s.val < cfg0.N) :
    ∑ s : Fin 4, step m c ⟨4 * (t.val / 4) + s.val, h s⟩ p q = spec (Ga m c) (Xa m c) (Na m c) (piece t) p q := by
  unfold step spec
  refine Fin.sum_mul_add_congr (L := 8192) (S := 4) (n := 2048)
    (f := fun s => out (fun k => Xa m c (ix2 s k)) (Na m c (ix1 p)) p * Ga m c (ix2 s (unit (piece t) q))) (fun s k hl => ?_) (by decide)
  have hs : tok (4 * (t.val / 4) + s.val) k = ⟨s.val * 2048 + k.val, hl⟩ := Fin.ext (by
    show (4 * (t.val / 4) + s.val) % 4 * 2048 + k.val = s.val * 2048 + k.val
    omega)
  have hd : piece ⟨4 * (t.val / 4) + s.val, h s⟩ = piece t := Fin.ext (by
    show (4 * (t.val / 4) + s.val) / 4 = t.val / 4
    omega)
  rw [hs, hd]

/-- The kernel's array. -/
theorem arr (G : S4x1024x1024.Idx → EReal) (hG : ∀ b p q, G (ix3 b p q) = spec (Ga m c) (Xa m c) (Na m c) b p q) :
    (dats m 0 c).arrAt 2 cfg0.N = G := by
  refine (dats m 0 c).arrAt_eq_of_covers 2 _ (by decide +kernel) fun t hf y => ?_
  blk_simp
  rw [after0_2]
  obtain ⟨p, q, rfl⟩ : ∃ (p : Fin 1024) (q : Fin 1024), y = ix3 0 p q :=
    ⟨y 1, y 2, (eq_ix3 y).trans (congrArg (fun z : Fin 1 => ix3 z (y 1) (y 2)) (Subsingleton.elim (α := Fin 1) (y 0) 0))⟩
  refine (Pipeline.eq_sum_fin_of_reset_step_apply_of_flush
    (fun n h (i : Fin 1024 × Fin 1024) => (outsAt0 m c n h (ix3 0 i.1 i.2) : EReal)) 4 (fun _ => 0)
    (fun t i => step m c t i.1 i.2) (fun t h i => row_A m c t h _ _) (fun t h i => row_B m c t h _ _)
    t ((flush0_2 t).mp hf) (p, q)).trans ?_
  rw [zero_add]
  refine Eq.trans ?_ ((hG (piece t) p q).symm.trans (congrArg G ?_))
  · exact steps m c t p q _
  · blk_ext [idx t]

end Cert.Wff1Ideal.At

namespace Cert.Wff1RefIdeal.At

open Idealize.ShloMosaic Idealize.SL.Sem Idealize.ShloMosaic.StableHlo Cert.Wff1RefIdeal Cert.Wff1RefIdeal.Gen

/-- The reference's array. -/
theorem res_at (G : FVec Ideal S8192x4096 .bf16) (X : FVec Ideal S8192x1024 .f32) (g : FVec Ideal S1024 .f32) (b : Fin 4) (p q : Fin 1024) :
    (transpose S4x1024x1024 [1, 0, 2] (shapeCast _ (transpose S1024x4096 [1, 0] (Host.dotGeneral dot_S8192x4096_S8192x1024_S4096x1024_0_0_1_1_n_n none (extf .f32 G bitsLt_bf16_f32)
        (mulf (mulf X (broadcastInDim S8192x1024 ![0, 1] bcast_S8192x1_S8192x1024_0_1 (Host.rsqrt (addf (Host.divf (broadcastInDim S8192x1 ![0] bcast_S8192_S8192x1_0
      (Host.reduceAdd (mulf X X) (constant S_ .f32 0x00000000#32) reducesTo_S8192x1024_S8192_d1 h_S_)) (broadcastInDim S8192x1 ![] bcast_S_S8192x1 (constant S_ .f32 0x44800000#32)))
      (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g)))) transposes_S4096x1024_S1024x4096_1_0) shapeCasts_S1024x4096_S1024x4x1024)
        transposes_S1024x4x1024_S4x1024x1024_1_0_2 (ix3 b p q) : EReal)
      = Cert.Wff1Ideal.At.spec G X g b p q := by
  pointwise
  exact Finset.sum_congr rfl fun s _ => mul_comm _ _

end Cert.Wff1RefIdeal.At

namespace Cert.Proof.Wff1

open Idealize.ShloMosaic Idealize.SL.Sem Idealize.ShloMosaic.StableHlo

theorem frame_r : Cert.quiescent_Wff1RefIdeal := fun m ρ _ =>
  (θ_run Cert.Wff1RefIdeal.defs _ _).mono (fun r h => ⟨fun c => (h c).2, sem_eq_zero_of_no_sems (by decide) r.2⟩)
    (Cert.Wff1RefIdeal.Value.run m ρ)

theorem algebraic : Cert.algebraic_Wff1Ideal_Wff1RefIdeal := fun m ρ m' ρ' _ hag => by
  refine ⟨fun c => (Cert.Wff1Ideal.Gen.dats m 0 c).arrAt 2 Cert.Wff1Ideal.cfg0.N, Cert.Wff1Ideal.Value.run_blocks m ρ, ?_⟩
  refine (θ_run _ _ _).mono (fun _ h c => ?_) (Cert.Wff1RefIdeal.Value.run m' ρ')
  obtain ⟨h0, hk⟩ := h c
  refine ⟨h0.trans (Cert.Wff1Ideal.At.arr m c _ fun b p q => ?_).symm, hk⟩
  obtain ⟨e0, e1, e2⟩ := hag c
  refine (Cert.Wff1RefIdeal.At.res_at _ _ _ b p q).trans ?_
  rw [e0, e1, e2]

end Cert.Proof.Wff1

end
-- ==== Proof.Ff1Val.lean ====
/- The feed-forward block's norm, first product and activation: kernel and reference hold the same arrays. -/
module

public import proofs.«01_k».proof.Proof.Gen.Ff1Ideal.Value
public import proofs.«01_k».proof.Proof.Gen.Ff1RefIdeal.Run
public import proofs.«01_k».proof.Defs
public import Idealize.ShloMosaic.Adequacy
public import Idealize.ShloMosaic.Init
public import proofs.«01_k».proof.Proof.Norm

@[expose] public section

set_option maxRecDepth 16384

noncomputable section

namespace Cert.Ff1Ideal.At

open Idealize.ShloMosaic Idealize.SL.Sem Idealize.ShloMosaic.TcCoe Cert.Ff1Ideal Cert.Ff1Ideal.Gen Cert.Norm

variable (m : (ℓ : Loc nD τ sig) → Buf (Elt Ideal) ℓ) (c : Dev nD)

abbrev Xa : S8192x1024.Idx → EReal := m ((c : Thread nD τ).loc main_arg0)
abbrev Na : S1024.Idx → EReal := m ((c : Thread nD τ).loc main_arg1)
abbrev Wa : S1024x4096.Idx → EReal := m ((c : Thread nD τ).loc main_arg2)

/-- An entry of a normed row. -/
def normed (X : S8192x1024.Idx → EReal) (g : S1024.Idx → EReal) (i : Fin 8192) (k : Fin 1024) : EReal :=
  out (fun k => X (ix2 i k)) (g (ix1 k)) k

/-- The activation of a unit over a normed row. -/
def spec (X : S8192x1024.Idx → EReal) (g : S1024.Idx → EReal) (W : S1024x4096.Idx → EReal) (i : Fin 8192) (n : Fin 4096) : EReal :=
  act (∑ k : Fin 1024, normed X g i k * W (ix2 k n))

theorem norm_at (v0 : FVec Ideal S512x1024 .f32) (v11 : FVec Ideal S1x1024 .f32) (r : Fin 512) (k : Fin 1024) :
    (k0_pay3 (F := Ideal) v0 v11 (ix2 r k) : EReal) = out (fun k => v0 (ix2 r k)) (v11 (ix2 0 k)) k := by
  unfold k0_pay3
  pointwise
  rfl

theorem pay_at (h : FVec Ideal S512x1024 .bf16) (w : FVec Ideal S1x1x1024x1024 .bf16) (r : Fin 512) (q : Fin 1024) :
    (k0_pay1 (F := Ideal) h w (ix2 r q) : EReal) = act (∑ k : Fin 1024, h (ix2 r k) * w (ix4 0 0 k q)) := by
  unfold k0_pay1
  pointwise
  rfl

theorem V_w : V m c main_v3 = (broadcastInDim S1x4x1024x1024 ![1, 2, 3] bcast_S4x1024x1024_S1x4x1024x1024_1_2_3
    (transpose S4x1024x1024 [1, 0, 2] (shapeCast S1024x4x1024 (truncf (F := Ideal) (s := S1024x4096) (φ := .f32) .bf16 (Wa m c) bitsLt_bf16_f32 : FVec Ideal S1024x4096 .bf16)
      shapeCasts_S1024x4096_S1024x4x1024) transposes_S1024x4x1024_S4x1024x1024_1_0_2) : FVec Ideal S1x4x1024x1024 .bf16) := by
  unfold_abbrev_sides
  after_results
  rfl

theorem V_n : V m c main_v4 = (shapeCast S1x1024 (Na m c : FVec Ideal S1024 .f32) shapeCasts_S1024_S1x1024 : FVec Ideal S1x1024 .f32) := by
  unfold_abbrev_sides
  after_results
  rfl

theorem w_at (z : Fin 1) (b : Fin 4) (k q : Fin 1024) : (V m c main_v3 (ix4 z b k q) : EReal) = Wa m c (ix2 k (unit b q)) := by
  rw [V_w]
  pointwise

theorem n_at (z : Fin 1) (k : Fin 1024) : (V m c main_v4 (ix2 z k) : EReal) = Na m c (ix1 k) := by
  rw [V_n]
  pointwise

theorem idx : ∀ t : Fin cfg0.N, win0_0.index t = ![t.val, 0] ∧ win0_1.index t = ![0, 0] ∧ win0_2.index t = ![0, 0, 0, 0]
    ∧ win0_3.index t = ![t.val, 0] ∧ win0_4.index t = ![t.val, 0] :=
  (by decide +kernel : ∀ t : Fin grid0.N, _)

/-- The row that a point's row is. -/
abbrev row (t : Fin cfg0.N) (r : Fin 512) : Fin 8192 := ⟨t.val * 512 + r.val, by have := t.isLt; have : cfg0.N = 16 := N_0; omega⟩

theorem x_blk (t : Fin cfg0.N) (r : Fin 512) (k : Fin 1024) : (iblk m c 0 t (ix2 r k) : EReal) = Xa m c (ix2 (row t r) k) := by
  blk_ext [iblk, V, idx t]

theorem n_blk (t : Fin cfg0.N) (z : Fin 1) (k : Fin 1024) : (iblk m c 1 t (ix2 z k) : EReal) = Na m c (ix1 k) := by
  refine Eq.trans ?_ (n_at m c z k)
  show (V m c main_v4 _ : EReal) = _
  blk_ext [iblk, idx t]

theorem w_blk (t : Fin cfg0.N) (z : Fin 1) (b : Fin 4) (k q : Fin 1024) : (iblk m c 2 t (ix4 z b k q) : EReal) = Wa m c (ix2 k (unit b q)) := by
  refine Eq.trans ?_ (w_at m c z b k q)
  show (V m c main_v3 _ : EReal) = _
  blk_ext [iblk, idx t]

theorem w_ld (t : Fin cfg0.N) (b : Fin 4) (inb) (k q : Fin 1024) :
    (View.ld (iblk m c 2 t) (Rect.unit (s := S1x4x1024x1024) ![0, b.val, 0, 0] ![1, 1, 1024, 1024] inb) (ix4 0 0 k q) : EReal) = Wa m c (ix2 k (unit b q)) := by
  refine (View.ld_unit_apply_of _ _ _ inb (ix4 0 0 k q) (ix4 0 b k q) (fun a => by fin_cases a <;> simp)).trans ?_
  exact w_blk m c t 0 b k q

theorem h_blk (t : Fin cfg0.N) (r : Fin 512) (k : Fin 1024) :
    (k0_pay3 (F := Ideal) (iblk m c 0 t) (iblk m c 1 t) (ix2 r k) : EReal) = normed (Xa m c) (Na m c) (row t r) k := by
  refine (norm_at _ _ r k).trans ?_
  simp only [x_blk, n_blk]
  rfl

theorem a_blk (t : Fin cfg0.N) (b : Fin 4) (inb) (r : Fin 512) (q : Fin 1024) :
    (k0_pay1 (F := Ideal) (k0_pay3 (F := Ideal) (iblk m c 0 t) (iblk m c 1 t))
      (View.ld (iblk m c 2 t) (Rect.unit (s := S1x4x1024x1024) ![0, b.val, 0, 0] ![1, 1, 1024, 1024] inb)) (ix2 r q) : EReal)
      = spec (Xa m c) (Na m c) (Wa m c) (row t r) (unit b q) := by
  refine (pay_at _ _ r q).trans ?_
  simp only [h_blk, w_ld]
  rfl

/-- The four pieces are stored by one formula. -/
theorem pay2_eq (h : FVec Ideal S512x1024 .bf16) (w : FVec Ideal S1x1x1024x1024 .bf16) : k0_pay2 (F := Ideal) h w = k0_pay1 h w := rfl

theorem pay4_eq (x : FVec Ideal S512x1024 .f32) (g : FVec Ideal S1x1024 .f32) (w : FVec Ideal S1x1x1024x1024 .bf16) :
    k0_pay4 (F := Ideal) x g w = k0_pay1 (k0_pay3 x g) w := rfl

theorem pay5_eq (x : FVec Ideal S512x1024 .f32) (g : FVec Ideal S1x1024 .f32) (w : FVec Ideal S1x1x1024x1024 .bf16) :
    k0_pay5 (F := Ideal) x g w = k0_pay1 (k0_pay3 x g) w := rfl

theorem pay6_eq (x : FVec Ideal S512x1024 .f32) (g : FVec Ideal S1x1024 .f32) (w : FVec Ideal S1x4x1024x1024 .bf16) :
    k0_pay6 (F := Ideal) x g w = k0_pay3 x g := by
  unfold k0_pay6
  frame_out

/-- The kernel's normed rows. -/
theorem arr3 (G : S8192x1024.Idx → EReal) (hG : ∀ i k, G (ix2 i k) = normed (Xa m c) (Na m c) i k) :
    (dats m 0 c).arrAt 3 cfg0.N = G := by
  refine (dats m 0 c).arrAt_eq_of_covers 3 _ (by decide +kernel) fun t hf y => ?_
  blk_simp
  rw [after0_3]
  frame_out
  obtain ⟨r, k, rfl⟩ : ∃ (r : Fin 512) (k : Fin 1024), y = ix2 r k := ⟨y 0, y 1, eq_ix2 y⟩
  refine (h_blk m c t r k).trans ((hG (row t r) k).symm.trans (congrArg G ?_))
  blk_ext [idx t]

set_option maxHeartbeats 2000000 in
/-- The kernel's activations. -/
theorem arr4 (G : S8192x4096.Idx → EReal) (hG : ∀ i n, G (ix2 i n) = spec (Xa m c) (Na m c) (Wa m c) i n) :
    (dats m 0 c).arrAt 4 cfg0.N = G := by
  refine (dats m 0 c).arrAt_eq_of_covers 4 _ (by decide +kernel) fun t hf y => ?_
  blk_simp
  rw [after0_4]
  frame_out
  obtain ⟨r, n, rfl⟩ : ∃ (r : Fin 512) (n : Fin 4096), y = ix2 r n := ⟨y 0, y 1, eq_ix2 y⟩
  refine Eq.trans ?_ ((hG (row t r) n).symm.trans (congrArg G ?_))
  · simp only [pay6_eq, pay2_eq, pay4_eq, pay5_eq]
    canon_tiles x hx
    · exact piece r n 3 3072 rfl _ (spec (Xa m c) (Na m c) (Wa m c) (row t r)) (a_blk m c t 3 _ r) x (by simpa using hx0) hx1
    · exact piece r n 2 2048 rfl _ (spec (Xa m c) (Na m c) (Wa m c) (row t r)) (a_blk m c t 2 _ r) x (by simpa using hx0) hx1
    · exact piece r n 1 1024 rfl _ (spec (Xa m c) (Na m c) (Wa m c) (row t r)) (a_blk m c t 1 _ r) x (by simpa using hx0) hx1
    · exact piece r n 0 0 rfl _ (spec (Xa m c) (Na m c) (Wa m c) (row t r)) (a_blk m c t 0 _ r) x (by simpa using hx0) (by simpa using hx1)
  · blk_ext [idx t]

end Cert.Ff1Ideal.At

namespace Cert.Ff1RefIdeal.At

open Idealize.ShloMosaic Idealize.SL.Sem Idealize.ShloMosaic.StableHlo Cert.Ff1RefIdeal Cert.Ff1RefIdeal.Gen

/-- The reference's normed rows. -/
theorem res_h (X : FVec Ideal S8192x1024 .f32) (g : FVec Ideal S1024 .f32) (i : Fin 8192) (k : Fin 1024) :
    (truncf .bf16 (mulf (mulf X (broadcastInDim S8192x1024 ![0, 1] bcast_S8192x1_S8192x1024_0_1 (Host.rsqrt (addf (Host.divf (broadcastInDim S8192x1 ![0] bcast_S8192_S8192x1_0
      (Host.reduceAdd (mulf X X) (constant S_ .f32 0x00000000#32) reducesTo_S8192x1024_S8192_d1 h_S_)) (broadcastInDim S8192x1 ![] bcast_S_S8192x1 (constant S_ .f32 0x44800000#32)))
      (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32 (ix2 i k) : EReal)
      = Cert.Ff1Ideal.At.normed X g i k := by
  pointwise
  rfl

/-- The reference's activations. -/
theorem res_a (X : FVec Ideal S8192x1024 .f32) (g : FVec Ideal S1024 .f32) (W : FVec Ideal S1024x4096 .f32) (i : Fin 8192) (n : Fin 4096) :
    (truncf .bf16 (mulf (maximumf (Host.dotGeneral dot_S8192x1024_S1024x4096_S8192x4096_1_0_0_1_n_n none
        (mulf (mulf X (broadcastInDim S8192x1024 ![0, 1] bcast_S8192x1_S8192x1024_0_1 (Host.rsqrt (addf (Host.divf (broadcastInDim S8192x1 ![0] bcast_S8192_S8192x1_0
      (Host.reduceAdd (mulf X X) (constant S_ .f32 0x00000000#32) reducesTo_S8192x1024_S8192_d1 h_S_)) (broadcastInDim S8192x1 ![] bcast_S_S8192x1 (constant S_ .f32 0x44800000#32)))
      (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) W)
        (broadcastInDim S8192x4096 ![] bcast_S_S8192x4096 (constant S_ .f32 0x00000000#32)))
      (maximumf (Host.dotGeneral dot_S8192x1024_S1024x4096_S8192x4096_1_0_0_1_n_n none
        (mulf (mulf X (broadcastInDim S8192x1024 ![0, 1] bcast_S8192x1_S8192x1024_0_1 (Host.rsqrt (addf (Host.divf (broadcastInDim S8192x1 ![0] bcast_S8192_S8192x1_0
      (Host.reduceAdd (mulf X X) (constant S_ .f32 0x00000000#32) reducesTo_S8192x1024_S8192_d1 h_S_)) (broadcastInDim S8192x1 ![] bcast_S_S8192x1 (constant S_ .f32 0x44800000#32)))
      (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) W)
        (broadcastInDim S8192x4096 ![] bcast_S_S8192x4096 (constant S_ .f32 0x00000000#32)))) bitsLt_bf16_f32 (ix2 i n) : EReal)
      = Cert.Ff1Ideal.At.spec X g W i n := by
  pointwise
  rfl

end Cert.Ff1RefIdeal.At

namespace Cert.Proof.Ff1

open Idealize.ShloMosaic Idealize.SL.Sem Idealize.ShloMosaic.StableHlo

theorem frame_r : Cert.quiescent_Ff1RefIdeal := fun m ρ _ =>
  (θ_run Cert.Ff1RefIdeal.defs _ _).mono (fun r h => ⟨fun c => (h c).2.2, sem_eq_zero_of_no_sems (by decide) r.2⟩)
    (Cert.Ff1RefIdeal.Value.run m ρ)

theorem algebraic : Cert.algebraic_Ff1Ideal_Ff1RefIdeal := fun m ρ m' ρ' _ hag => by
  refine ⟨fun c => (Cert.Ff1Ideal.Gen.dats m 0 c).arrAt 3 Cert.Ff1Ideal.cfg0.N,
    fun c => (Cert.Ff1Ideal.Gen.dats m 0 c).arrAt 4 Cert.Ff1Ideal.cfg0.N, Cert.Ff1Ideal.Value.run_blocks m ρ, ?_⟩
  refine (θ_run _ _ _).mono (fun _ h c => ?_) (Cert.Ff1RefIdeal.Value.run m' ρ')
  obtain ⟨h0, h1, hk⟩ := h c
  obtain ⟨e0, e1, e2⟩ := hag c
  refine ⟨h0.trans (Cert.Ff1Ideal.At.arr3 m c _ fun i j => ?_).symm, h1.trans (Cert.Ff1Ideal.At.arr4 m c _ fun i j => ?_).symm, hk⟩
  · refine (Cert.Ff1RefIdeal.At.res_h _ _ i j).trans ?_
    rw [e0, e1]
  · refine (Cert.Ff1RefIdeal.At.res_a _ _ _ i j).trans ?_
    rw [e0, e1, e2]

end Cert.Proof.Ff1

end
-- ==== Proof.Ff2Val.lean ====
/- The feed-forward block's second product, added to the residual stream: kernel and reference hold the same array. -/
module

public import proofs.«01_k».proof.Proof.Gen.Ff2Ideal.Value
public import proofs.«01_k».proof.Proof.Gen.Ff2RefIdeal.Run
public import proofs.«01_k».proof.Defs
public import proofs.«01_k».proof.Proof.Gen.Ff2.Frame
public import Idealize.ShloMosaic.Adequacy
public import Idealize.ShloMosaic.Init
public import Idealize.ShloMosaic.Lib.Pointwise
public import Idealize.ShloMosaic.Lib.Tactic.CleanTypes
public import Idealize.ShloMosaic.Lib.Pipeline.ReadBack
public import Idealize.ShloMosaic.Lib.Pipeline.ValueKit

@[expose] public section

set_option maxRecDepth 16384

noncomputable section

namespace Cert.Ff2Ideal.At

open Idealize.ShloMosaic Idealize.SL.Sem Idealize.ShloMosaic.TcCoe Cert.Ff2Ideal Cert.Ff2Ideal.Gen

variable (m : (ℓ : Loc nD τ sig) → Buf (Elt Ideal) ℓ) (c : Dev nD)

abbrev Aa : S8192x4096.Idx → EReal := m ((c : Thread nD τ).loc main_arg0)
abbrev Wa : S4096x1024.Idx → EReal := m ((c : Thread nD τ).loc main_arg1)
abbrev Xa : S8192x1024.Idx → EReal := m ((c : Thread nD τ).loc main_arg2)

/-- A row of the residual stream with its product added, at a column. -/
def spec (A : S8192x4096.Idx → EReal) (W : S4096x1024.Idx → EReal) (X : S8192x1024.Idx → EReal) (i : Fin 8192) (j : Fin 1024) : EReal :=
  X (ix2 i j) + ∑ k : Fin 4096, A (ix2 i k) * W (ix2 k j)

theorem pay_at (v0 : FVec Ideal S512x1024 .f32) (v1 : FVec Ideal S512x4096 .bf16) (v2 : FVec Ideal S1x4096x1024 .bf16) (r : Fin 512) (j : Fin 1024) :
    (k0_pay1 (F := Ideal) v0 v1 v2 (ix2 r j) : EReal) = v0 (ix2 r j) + ∑ k : Fin 4096, v1 (ix2 r k) * v2 (ix3 0 k j) := by
  unfold k0_pay1
  pointwise

theorem V_w : V m c main_v1 = (broadcastInDim S1x4096x1024 ![1, 2] bcast_S4096x1024_S1x4096x1024_1_2
    (truncf (F := Ideal) (s := S4096x1024) (φ := .f32) .bf16 (Wa m c) bitsLt_bf16_f32 : FVec Ideal S4096x1024 .bf16) : FVec Ideal S1x4096x1024 .bf16) := by
  unfold_abbrev_sides
  after_results

theorem w_at (z : Fin 1) (k : Fin 4096) (j : Fin 1024) : (V m c main_v1 (ix3 z k j) : EReal) = Wa m c (ix2 k j) := by
  rw [V_w]
  pointwise

theorem idx : ∀ t : Fin cfg0.N, win0_0.index t = ![t.val, 0] ∧ win0_1.index t = ![0, 0, 0] ∧ win0_2.index t = ![t.val, 0]
    ∧ win0_3.index t = ![t.val, 0] :=
  (by decide +kernel : ∀ t : Fin grid0.N, _)

/-- The row that a point's row is. -/
abbrev row (t : Fin cfg0.N) (r : Fin 512) : Fin 8192 := ⟨t.val * 512 + r.val, by have := t.isLt; have : cfg0.N = 16 := N_0; omega⟩

theorem a_blk (t : Fin cfg0.N) (r : Fin 512) (k : Fin 4096) : (iblk m c 0 t (ix2 r k) : EReal) = Aa m c (ix2 (row t r) k) := by
  blk_ext [iblk, V, idx t]

theorem x_blk (t : Fin cfg0.N) (r : Fin 512) (j : Fin 1024) : (iblk m c 2 t (ix2 r j) : EReal) = Xa m c (ix2 (row t r) j) := by
  blk_ext [iblk, V, idx t]

theorem w_blk (t : Fin cfg0.N) (z : Fin 1) (k : Fin 4096) (j : Fin 1024) : (iblk m c 1 t (ix3 z k j) : EReal) = Wa m c (ix2 k j) := by
  refine Eq.trans ?_ (w_at m c z k j)
  show (V m c main_v1 _ : EReal) = _
  blk_ext [iblk, idx t]

/-- The kernel's array. -/
theorem arr (G : S8192x1024.Idx → EReal) (hG : ∀ i j, G (ix2 i j) = spec (Aa m c) (Wa m c) (Xa m c) i j) :
    (dats m 0 c).arrAt 3 cfg0.N = G := by
  refine (dats m 0 c).arrAt_eq_of_covers 3 _ (by decide +kernel) fun t hf y => ?_
  blk_simp
  rw [after0_3]
  frame_out
  obtain ⟨r, j, rfl⟩ : ∃ (r : Fin 512) (j : Fin 1024), y = ix2 r j := ⟨y 0, y 1, eq_ix2 y⟩
  refine (pay_at _ _ _ r j).trans ?_
  simp only [a_blk, x_blk, w_blk]
  refine (hG (row t r) j).symm.trans (congrArg G ?_)
  blk_ext [idx t]

end Cert.Ff2Ideal.At

namespace Cert.Ff2RefIdeal.At

open Idealize.ShloMosaic Idealize.SL.Sem Idealize.ShloMosaic.StableHlo Cert.Ff2RefIdeal Cert.Ff2RefIdeal.Gen

/-- The reference's array. -/
theorem res_at (A : FVec Ideal S8192x4096 .bf16) (W : FVec Ideal S4096x1024 .f32) (X : FVec Ideal S8192x1024 .f32) (i : Fin 8192) (j : Fin 1024) :
    (addf X (Host.dotGeneral dot_S8192x4096_S4096x1024_S8192x1024_1_0_0_1_n_n none (extf .f32 A bitsLt_bf16_f32) W) (ix2 i j) : EReal)
      = Cert.Ff2Ideal.At.spec A W X i j := by
  pointwise
  rfl

end Cert.Ff2RefIdeal.At

namespace Cert.Proof.Ff2

open Idealize.ShloMosaic Idealize.SL.Sem Idealize.ShloMosaic.StableHlo

theorem frame_r : Cert.quiescent_Ff2RefIdeal := fun m ρ _ =>
  (θ_run Cert.Ff2RefIdeal.defs _ _).mono (fun r h => ⟨fun c => (h c).2, sem_eq_zero_of_no_sems (by decide) r.2⟩)
    (Cert.Ff2RefIdeal.Value.run m ρ)

theorem algebraic : Cert.algebraic_Ff2Ideal_Ff2RefIdeal := fun m ρ m' ρ' _ hag => by
  refine ⟨fun c => (Cert.Ff2Ideal.Gen.dats m 0 c).arrAt 3 Cert.Ff2Ideal.cfg0.N, Cert.Ff2Ideal.Value.run_blocks m ρ, ?_⟩
  refine (θ_run _ _ _).mono (fun _ h c => ?_) (Cert.Ff2RefIdeal.Value.run m' ρ')
  obtain ⟨h0, hk⟩ := h c
  refine ⟨h0.trans (Cert.Ff2Ideal.At.arr m c _ fun i j => ?_).symm, hk⟩
  obtain ⟨e0, e1, e2⟩ := hag c
  refine (Cert.Ff2RefIdeal.At.res_at _ _ _ i j).trans ?_
  rw [e0, e1, e2]

end Cert.Proof.Ff2

end
-- ==== Proof.BinVal.lean ====
/- The gradient of the mixer's input product and norm: kernel and reference hold the same arrays. -/
module

public import proofs.«01_k».proof.Proof.Gen.BinIdeal.Value
public import proofs.«01_k».proof.Proof.Gen.BinRefIdeal.Run
public import proofs.«01_k».proof.Defs
public import Idealize.ShloMosaic.Adequacy
public import Idealize.ShloMosaic.Init
public import proofs.«01_k».proof.Proof.NormGrad

@[expose] public section

set_option maxRecDepth 16384

noncomputable section

namespace Cert.BinIdeal.At

open Idealize.ShloMosaic Idealize.SL.Sem Idealize.ShloMosaic.TcCoe Cert.BinIdeal Cert.BinIdeal.Gen Cert.Norm

variable (m : (ℓ : Loc nD τ sig) → Buf (Elt Ideal) ℓ) (c : Dev nD)

abbrev Ga : S8192x1280.Idx → EReal := m ((c : Thread nD τ).loc main_arg0)
abbrev Wa : S1024x1280.Idx → EReal := m ((c : Thread nD τ).loc main_arg1)
abbrev Xa : S8192x1024.Idx → EReal := m ((c : Thread nD τ).loc main_arg2)
abbrev Na : S1024.Idx → EReal := m ((c : Thread nD τ).loc main_arg3)
abbrev Ra : S8192x1024.Idx → EReal := m ((c : Thread nD τ).loc main_arg4)

/-- The gradient of a normed row's entry. -/
def gh (G : S8192x1280.Idx → EReal) (W : S1024x1280.Idx → EReal) (i : Fin 8192) (k : Fin 1024) : EReal :=
  ∑ n : Fin 1280, G (ix2 i n) * W (ix2 k n)

/-- The gradient of a row's entry. -/
def gx (G : S8192x1280.Idx → EReal) (W : S1024x1280.Idx → EReal) (X : S8192x1024.Idx → EReal) (g : S1024.Idx → EReal)
    (R : S8192x1024.Idx → EReal) (i : Fin 8192) (k : Fin 1024) : EReal :=
  grad (fun k => X (ix2 i k)) (gh G W i) (fun k => g (ix1 k)) (fun k => R (ix2 i k)) k

/-- What one row brings to the gain's gradient. -/
def gt (G : S8192x1280.Idx → EReal) (W : S1024x1280.Idx → EReal) (X : S8192x1024.Idx → EReal) (i : Fin 8192) (k : Fin 1024) : EReal :=
  gh G W i k * (X (ix2 i k) * inv fun k => X (ix2 i k))

/-- The rows of one residue. -/
abbrev row8 (u : Fin 1024) (a : Fin 8) : Fin 8192 := ⟨u.val * 8 + a.val, by omega⟩

/-- The gain's gradient over the rows of one residue. -/
def gg (G : S8192x1280.Idx → EReal) (W : S1024x1280.Idx → EReal) (X : S8192x1024.Idx → EReal) (a : Fin 8) (k : Fin 1024) : EReal :=
  ∑ u : Fin 1024, gt G W X (row8 u a) k

theorem pay6_at (g : FVec Ideal S512x1280 .bf16) (w : FVec Ideal S1x1024x1280 .bf16) (x : FVec Ideal S512x1024 .f32) (n : FVec Ideal S1x1024 .f32) (e : FVec Ideal S512x1024 .f32) (r : Fin 512) (k : Fin 1024) :
    (k0_pay6 (F := Ideal) g w x n e (ix2 r k) : EReal)
      = grad (fun k => x (ix2 r k)) (fun k => k0_pay3 (F := Ideal) g w (ix2 r k)) (fun k => n (ix2 0 k)) (fun k => e (ix2 r k)) k := by
  unfold k0_pay6 k0_pay5 k0_pay4
  pointwise
  rfl

/-- A block's rows of one residue. -/
abbrev loc8 (u : Fin 64) (a : Fin 8) : Fin 512 := ⟨u.val * 8 + a.val, by omega⟩

theorem pay1_at (y : FVec Ideal S512x1024 .f32) (x : FVec Ideal S512x1024 .f32) (v : FVec Ideal S8x1024 .f32) (a : Fin 8) (k : Fin 1024) :
    (k0_pay1 (F := Ideal) y (k0_pay5 x) v (ix2 a k) : EReal)
      = v (ix2 a k) + ∑ u : Fin 64, y (ix2 (loc8 u a) k) * (x (ix2 (loc8 u a) k) * inv (fun k => x (ix2 (loc8 u a) k))) := by
  unfold k0_pay1 k0_pay5 k0_pay4
  pointwise
  rfl

theorem pay3_at (g : FVec Ideal S512x1280 .bf16) (w : FVec Ideal S1x1024x1280 .bf16) (r : Fin 512) (k : Fin 1024) :
    (k0_pay3 (F := Ideal) g w (ix2 r k) : EReal) = ∑ n : Fin 1280, g (ix2 r n) * w (ix3 0 k n) := by
  unfold k0_pay3
  pointwise

theorem zero_at (i : S8x1024.Idx) : (k0_pay2 (F := Ideal) i : EReal) = 0 := by
  unfold k0_pay2
  pointwise

theorem V_w : V m c main_v1 = (broadcastInDim S1x1024x1280 ![1, 2] bcast_S1024x1280_S1x1024x1280_1_2
    (truncf (F := Ideal) (s := S1024x1280) (φ := .f32) .bf16 (Wa m c) bitsLt_bf16_f32 : FVec Ideal S1024x1280 .bf16) : FVec Ideal S1x1024x1280 .bf16) := by
  unfold_abbrev_sides
  after_results

theorem V_n : V m c main_v2 = (shapeCast S1x1024 (Na m c : FVec Ideal S1024 .f32) shapeCasts_S1024_S1x1024 : FVec Ideal S1x1024 .f32) := by
  unfold_abbrev_sides
  after_results
  rfl

theorem w_at (z : Fin 1) (k : Fin 1024) (q : Fin 1280) : (V m c main_v1 (ix3 z k q) : EReal) = Wa m c (ix2 k q) := by
  rw [V_w]
  pointwise

theorem n_at (z : Fin 1) (k : Fin 1024) : (V m c main_v2 (ix2 z k) : EReal) = Na m c (ix1 k) := by
  rw [V_n]
  pointwise

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

/-- The row that a point's row is. -/
abbrev row (t : Fin cfg0.N) (r : Fin 512) : Fin 8192 := ⟨t.val * 512 + r.val, by have := t.isLt; have : cfg0.N = 16 := N_0; omega⟩

theorem g_blk (t : Fin cfg0.N) (r : Fin 512) (n : Fin 1280) : (iblk m c 0 t (ix2 r n) : EReal) = Ga m c (ix2 (row t r) n) := by
  blk_ext [iblk, V, idx t]

theorem x_blk (t : Fin cfg0.N) (r : Fin 512) (k : Fin 1024) : (iblk m c 2 t (ix2 r k) : EReal) = Xa m c (ix2 (row t r) k) := by
  blk_ext [iblk, V, idx t]

theorem r_blk (t : Fin cfg0.N) (r : Fin 512) (k : Fin 1024) : (iblk m c 4 t (ix2 r k) : EReal) = Ra m c (ix2 (row t r) k) := by
  blk_ext [iblk, V, idx t]

theorem n_blk (t : Fin cfg0.N) (z : Fin 1) (k : Fin 1024) : (iblk m c 3 t (ix2 z k) : EReal) = Na m c (ix1 k) := by
  refine Eq.trans ?_ (n_at m c z k)
  show (V m c main_v2 _ : EReal) = _
  blk_ext [iblk, idx t]

theorem w_blk (t : Fin cfg0.N) (z : Fin 1) (k : Fin 1024) (q : Fin 1280) : (iblk m c 1 t (ix3 z k q) : EReal) = Wa m c (ix2 k q) := by
  refine Eq.trans ?_ (w_at m c z k q)
  show (V m c main_v1 _ : EReal) = _
  blk_ext [iblk, idx t]

theorem prod_at (t : Fin cfg0.N) (r : Fin 512) (k : Fin 1024) :
    (k0_pay3 (F := Ideal) (iblk m c 0 t) (iblk m c 1 t) (ix2 r k) : EReal) = gh (Ga m c) (Wa m c) (row t r) k := by
  refine (pay3_at _ _ r k).trans ?_
  simp only [g_blk, w_blk]
  rfl

/-- What a point stores of the rows' gradient. -/
theorem gx_at (t : Fin cfg0.N) (r : Fin 512) (k : Fin 1024) :
    (k0_pay6 (F := Ideal) (iblk m c 0 t) (iblk m c 1 t) (iblk m c 2 t) (iblk m c 3 t) (iblk m c 4 t) (ix2 r k) : EReal)
      = gx (Ga m c) (Wa m c) (Xa m c) (Na m c) (Ra m c) (row t r) k := by
  refine (pay6_at _ _ _ _ _ r k).trans ?_
  simp only [prod_at, x_blk, n_blk, r_blk]
  rfl

/-- What a point adds to the gain's gradient. -/
def step (t : Fin cfg0.N) (a : Fin 8) (k : Fin 1024) : EReal :=
  ∑ u : Fin 64, gt (Ga m c) (Wa m c) (Xa m c) (row t (loc8 u a)) k

theorem gg_at (t : Fin cfg0.N) (v52 : FVec Ideal S8x1024 .f32) (a : Fin 8) (k : Fin 1024) :
    (k0_pay1 (F := Ideal) (k0_pay3 (iblk m c 0 t) (iblk m c 1 t)) (k0_pay5 (iblk m c 2 t)) v52 (ix2 a k) : EReal)
      = v52 (ix2 a k) + step m c t a k := by
  refine (pay1_at _ _ _ a k).trans ?_
  simp only [prod_at, x_blk]
  rfl

theorem row5 (t : Fin cfg0.N) (r : Fin 512) (k : Fin 1024) :
    ((outsAt0 m c t.val t.isLt).1 (ix2 r k) : EReal) = gx (Ga m c) (Wa m c) (Xa m c) (Na m c) (Ra m c) (row t r) k := by
  by_cases h : t.val % 16 = 0
  · rw [outsAt0_A m c t h]
    dsimp only
    frame_out
    exact gx_at m c t r k
  · rw [outsAt0_B m c t h]
    dsimp only
    frame_out
    exact gx_at m c t r k

theorem row6 (t : Fin cfg0.N) (r : Fin 512) (k : Fin 1024) :
    ((outsAt0 m c t.val t.isLt).2.1 (ix2 r k) : EReal) = gx (Ga m c) (Wa m c) (Xa m c) (Na m c) (Ra m c) (row t r) k := by
  by_cases h : t.val % 16 = 0
  · rw [outsAt0_A m c t h]
    dsimp only
    frame_out
    exact gx_at m c t r k
  · rw [outsAt0_B m c t h]
    dsimp only
    frame_out
    exact gx_at m c t r k

theorem row7_A (t : Fin cfg0.N) (h : t.val % 16 = 0) (a : Fin 8) (k : Fin 1024) :
    ((outsAt0 m c t.val t.isLt).2.2 (ix2 a k) : EReal) = (0 : EReal) + step m c t a k := by
  rw [outsAt0_A m c t h]
  dsimp only
  frame_out
  refine (gg_at m c t _ a k).trans ?_
  rw [zero_at]

theorem row7_B (t : Fin cfg0.N) (h : ¬ t.val % 16 = 0) (a : Fin 8) (k : Fin 1024) :
    ((outsAt0 m c t.val t.isLt).2.2 (ix2 a k) : EReal)
      = ((outsAt0 m c (t.val - 1) (Nat.lt_of_le_of_lt (Nat.sub_le _ _) t.isLt)).2.2 (ix2 a k) : EReal) + step m c t a k := by
  rw [outsAt0_B m c t h]
  dsimp only
  frame_out
  exact gg_at m c t _ a k

/-- The kernel's rows' gradient. -/
theorem arr5 (G : S8192x1024.Idx → EReal) (hG : ∀ i k, G (ix2 i k) = gx (Ga m c) (Wa m c) (Xa m c) (Na m c) (Ra m c) i k) :
    (dats m 0 c).arrAt 5 cfg0.N = G := by
  refine (dats m 0 c).arrAt_eq_of_covers 5 _ (by decide +kernel) fun t hf y => ?_
  blk_simp
  rw [after0_5]
  obtain ⟨r, k, rfl⟩ : ∃ (r : Fin 512) (k : Fin 1024), y = ix2 r k := ⟨y 0, y 1, eq_ix2 y⟩
  refine (row5 m c t r k).trans ((hG (row t r) k).symm.trans (congrArg G ?_))
  blk_ext [idx t]

/-- The same in the half format. -/
theorem arr6 (G : S8192x1024.Idx → EReal) (hG : ∀ i k, G (ix2 i k) = gx (Ga m c) (Wa m c) (Xa m c) (Na m c) (Ra m c) i k) :
    (dats m 0 c).arrAt 6 cfg0.N = G := by
  refine (dats m 0 c).arrAt_eq_of_covers 6 _ (by decide +kernel) fun t hf y => ?_
  blk_simp
  rw [after0_6]
  obtain ⟨r, k, rfl⟩ : ∃ (r : Fin 512) (k : Fin 1024), y = ix2 r k := ⟨y 0, y 1, eq_ix2 y⟩
  refine (row6 m c t r k).trans ((hG (row t r) k).symm.trans (congrArg G ?_))
  blk_ext [idx t]

/-- The whole grid adds up to the gain's gradient. -/
theorem steps (a : Fin 8) (k : Fin 1024) (h : ∀ s : Fin 16, s.val < cfg0.N) :
    ∑ s : Fin 16, step m c ⟨s.val, h s⟩ a k = gg (Ga m c) (Wa m c) (Xa m c) a k := by
  unfold step gg
  refine Fin.sum_mul_add_congr (L := 1024) (S := 16) (n := 64)
    (f := fun u => gt (Ga m c) (Wa m c) (Xa m c) (row8 u a) k) (fun s u hl => ?_) (by decide)
  refine congrArg (fun i => gt (Ga m c) (Wa m c) (Xa m c) i k) (Fin.ext ?_)
  show s.val * 512 + (u.val * 8 + a.val) = (s.val * 64 + u.val) * 8 + a.val
  omega

/-- The kernel's gain's gradient. -/
theorem arr7 (G : S8x1024.Idx → EReal) (hG : ∀ a k, G (ix2 a k) = gg (Ga m c) (Wa m c) (Xa m c) a k) :
    (dats m 0 c).arrAt 7 cfg0.N = G := by
  refine (dats m 0 c).arrAt_eq_of_covers 7 _ (by decide +kernel) fun t hf y => ?_
  blk_simp
  rw [after0_7]
  obtain ⟨a, k, rfl⟩ : ∃ (a : Fin 8) (k : Fin 1024), y = ix2 a k := ⟨y 0, y 1, eq_ix2 y⟩
  have ht : t.val + 1 = 16 := by
    have := (flush0_7 t).mp hf
    have := t.isLt
    have : cfg0.N = 16 := N_0
    omega
  refine (Pipeline.eq_sum_fin_of_reset_step_apply_last
    (fun n h (i : Fin 8 × Fin 1024) => ((outsAt0 m c n h).2.2 (ix2 i.1 i.2) : EReal)) 16 (fun _ => 0)
    (fun t i => step m c t i.1 i.2) (fun t h i => row7_A m c t h _ _) (fun t h i => row7_B m c t h _ _)
    (le_of_eq N_0) t ht (a, k)).trans ?_
  rw [zero_add]
  refine Eq.trans (steps m c a k _) ((hG a k).symm.trans (congrArg G ?_))
  blk_ext [idx t]

end Cert.BinIdeal.At

namespace Cert.BinRefIdeal.At

open Idealize.ShloMosaic Idealize.SL.Sem Idealize.ShloMosaic.StableHlo Cert.BinRefIdeal Cert.BinRefIdeal.Gen Cert.Norm

variable (m : (ℓ : Loc nD τ sig) → Buf (Elt Ideal) ℓ) (c : Dev nD)

abbrev Ga : S8192x1280.Idx → EReal := m ((c.tc : Thread nD τ).loc main_arg0)
abbrev Wa : S1024x1280.Idx → EReal := m ((c.tc : Thread nD τ).loc main_arg1)
abbrev Xa : S8192x1024.Idx → EReal := m ((c.tc : Thread nD τ).loc main_arg2)
abbrev Na : S1024.Idx → EReal := m ((c.tc : Thread nD τ).loc main_arg3)
abbrev Ra : S8192x1024.Idx → EReal := m ((c.tc : Thread nD τ).loc main_arg4)

open Cert.BinIdeal.At (gh gx gg gt row8)

theorem res0_at (i : Fin 8192) (k : Fin 1024) :
    (Value.res_main_v45 m c (ix2 i k) : EReal)
      = rgrad (fun k => Xa m c (ix2 i k)) (gh (Ga m c) (Wa m c) i) (fun k => Na m c (ix1 k)) (fun k => Ra m c (ix2 i k)) k := by
  unfold Value.res_main_v45
  pointwise
  simp only [Fin.sum_univ_one]
  rfl

theorem res2_at (X : FVec Ideal S8192x1024 .f32) (G : FVec Ideal S8192x1280 .bf16) (W : FVec Ideal S1024x1280 .f32) (a : Fin 8) (k : Fin 1024) :
    (Host.reduceAdd (shapeCast S1x8x1024 (Host.reduceAdd (mulf (shapeCast _ (mulf X (broadcastInDim S8192x1024 ![0, 1] bcast_S8192x1_S8192x1024_0_1 (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) shapeCasts_S8192x1024_S1024x8x1024) (shapeCast S1024x8x1024 (Host.dotGeneral dot_S8192x1280_S1024x1280_S8192x1024_1_1_0_0_n_n none (extf .f32 G bitsLt_bf16_f32) W : FVec Ideal S8192x1024 .f32) shapeCasts_S8192x1024_S1024x8x1024)) (constant S_ .f32 0x00000000#32) reducesTo_S1024x8x1024_S8x1024_d0 h_S_ : FVec Ideal S8x1024 .f32) shapeCasts_S8x1024_S1x8x1024) (constant S_ .f32 0x00000000#32) reducesTo_S1x8x1024_S8x1024_d0 h_S_ (ix2 a k) : EReal)
      = gg G W X a k := by
  pointwise
  simp only [Fin.sum_univ_one]
  exact Finset.sum_congr rfl fun u _ => mul_comm _ _

end Cert.BinRefIdeal.At

namespace Cert.Proof.Bin

open Idealize.ShloMosaic Idealize.SL.Sem Idealize.ShloMosaic.StableHlo Cert.Norm

theorem frame_r : Cert.quiescent_BinRefIdeal := fun m ρ _ =>
  (θ_run Cert.BinRefIdeal.defs _ _).mono (fun r h => ⟨fun c => (h c).2.2.2, sem_eq_zero_of_no_sems (by decide) r.2⟩)
    (Cert.BinRefIdeal.Value.run m ρ)

section
variable {m : (ℓ : Loc Cert.BinIdeal.nD Cert.BinIdeal.τ Cert.BinIdeal.sig) → Buf (Elt Ideal) ℓ}
  {m' : (ℓ : Loc Cert.BinRefIdeal.nD Cert.BinRefIdeal.τ Cert.BinRefIdeal.sig) → Buf (Elt Ideal) ℓ} {c : Dev Cert.BinIdeal.nD}

theorem same_gx (e0 : Cert.BinRefIdeal.At.Ga m' c = Cert.BinIdeal.At.Ga m c) (e1 : Cert.BinRefIdeal.At.Wa m' c = Cert.BinIdeal.At.Wa m c)
    (e2 : Cert.BinRefIdeal.At.Xa m' c = Cert.BinIdeal.At.Xa m c) (e3 : Cert.BinRefIdeal.At.Na m' c = Cert.BinIdeal.At.Na m c)
    (e4 : Cert.BinRefIdeal.At.Ra m' c = Cert.BinIdeal.At.Ra m c) (i : Fin 8192) (k : Fin 1024) :
    (Cert.BinRefIdeal.Value.res_main_v45 m' c (ix2 i k) : EReal)
      = Cert.BinIdeal.At.gx (Cert.BinIdeal.At.Ga m c) (Cert.BinIdeal.At.Wa m c) (Cert.BinIdeal.At.Xa m c) (Cert.BinIdeal.At.Na m c) (Cert.BinIdeal.At.Ra m c) i k := by
  refine (Cert.BinRefIdeal.At.res0_at m' c i k).trans ?_
  rw [rgrad_eq, e0, e1, e2, e3, e4]
  rfl

end

theorem algebraic : Cert.algebraic_BinIdeal_BinRefIdeal := fun m ρ m' ρ' _ hag => by
  refine ⟨fun c => (Cert.BinIdeal.Gen.dats m 0 c).arrAt 5 Cert.BinIdeal.cfg0.N,
    fun c => (Cert.BinIdeal.Gen.dats m 0 c).arrAt 6 Cert.BinIdeal.cfg0.N,
    fun c => (Cert.BinIdeal.Gen.dats m 0 c).arrAt 7 Cert.BinIdeal.cfg0.N, Cert.BinIdeal.Value.run_blocks m ρ, ?_⟩
  refine (θ_run _ _ _).mono (fun _ h c => ?_) (Cert.BinRefIdeal.Value.run m' ρ')
  obtain ⟨h0, h1, h2, hk⟩ := h c
  obtain ⟨e0, e1, e2, e3, e4⟩ := hag c
  refine ⟨h0.trans (Cert.BinIdeal.At.arr5 m c _ fun i j => ?_).symm, h1.trans (Cert.BinIdeal.At.arr6 m c _ fun i j => ?_).symm,
    h2.trans (Cert.BinIdeal.At.arr7 m c _ fun a k => ?_).symm, hk⟩
  · exact same_gx e0 e1 e2 e3 e4 i j
  · exact same_gx e0 e1 e2 e3 e4 i j
  · refine (Cert.BinRefIdeal.At.res2_at _ _ _ a k).trans ?_
    rw [e0, e1, e2]

end Cert.Proof.Bin

end
-- ==== Proof.WinVal.lean ====
/- The gradient of the mixer's input weight: kernel and reference hold the same array. -/
module

public import proofs.«01_k».proof.Proof.Gen.WinIdeal.Value
public import proofs.«01_k».proof.Proof.Gen.WinRefIdeal.Run
public import proofs.«01_k».proof.Defs
public import Idealize.ShloMosaic.Adequacy
public import Idealize.ShloMosaic.Init
public import proofs.«01_k».proof.Proof.Norm

@[expose] public section

set_option maxRecDepth 16384

noncomputable section

namespace Cert.WinIdeal.At

open Idealize.ShloMosaic Idealize.SL.Sem Idealize.ShloMosaic.TcCoe Cert.WinIdeal Cert.WinIdeal.Gen Cert.Norm

variable (m : (ℓ : Loc nD τ sig) → Buf (Elt Ideal) ℓ) (c : Dev nD)

abbrev Ga : S8192x1280.Idx → EReal := m ((c : Thread nD τ).loc main_arg0)
abbrev Xa : S8192x1024.Idx → EReal := m ((c : Thread nD τ).loc main_arg1)
abbrev Na : S1024.Idx → EReal := m ((c : Thread nD τ).loc main_arg2)

/-- A weight's gradient: over the tokens, its input's normed entry times its output's gradient. -/
def spec (G : S8192x1280.Idx → EReal) (X : S8192x1024.Idx → EReal) (g : S1024.Idx → EReal) (p : Fin 1024) (q : Fin 1280) : EReal :=
  ∑ s : Fin 8192, out (fun k => X (ix2 s k)) (g (ix1 p)) p * G (ix2 s q)

theorem zero_at (i : S1024x640.Idx) : (k0_pay1 (F := Ideal) i : EReal) = 0 := by
  unfold k0_pay1
  pointwise

theorem pay_at (v3 : FVec Ideal S2048x1024 .bf16) (v5 : FVec Ideal S2048x640 .bf16) (v7 : FVec Ideal S1024x640 .f32) (p : Fin 1024) (q : Fin 640) :
    (k0_pay2 (F := Ideal) v3 v5 v7 (ix2 p q) : EReal) = v7 (ix2 p q) + ∑ s : Fin 2048, v3 (ix2 s p) * v5 (ix2 s q) := by
  unfold k0_pay2
  pointwise

theorem V_a : V m c main_v13 = (truncf (F := Ideal) (s := S8192x1024) (φ := .f32) .bf16
    (mulf (mulf (Xa m c) (broadcastInDim S8192x1024 ![0, 1] bcast_S8192x1_S8192x1024_0_1 (Host.rsqrt (addf (Host.divf (broadcastInDim S8192x1 ![0] bcast_S8192_S8192x1_0
      (Host.reduceAdd (mulf (Xa m c) (Xa m c)) (constant S_ .f32 0x00000000#32) reducesTo_S8192x1024_S8192_d1 h_S_)) (broadcastInDim S8192x1 ![] bcast_S_S8192x1 (constant S_ .f32 0x44800000#32)))
      (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (Na m c)))) bitsLt_bf16_f32 : FVec Ideal S8192x1024 .bf16) := by
  unfold_abbrev_sides
  after_results

theorem a_at (s : Fin 8192) (p : Fin 1024) : (V m c main_v13 (ix2 s p) : EReal) = out (fun k => Xa m c (ix2 s k)) (Na m c (ix1 p)) p := by
  rw [V_a]
  pointwise
  rfl

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The token that a point's row is. -/
abbrev tok (n : Nat) (r : Fin 2048) : Fin 8192 := ⟨n % 4 * 2048 + r.val, by omega⟩

/-- The column that a point's column is. -/
abbrev col (t : Fin cfg0.N) (q : Fin 640) : Fin 1280 := ⟨t.val / 4 * 640 + q.val, by have := t.isLt; have : cfg0.N = 8 := N_0; omega⟩

theorem a_blk (t : Fin cfg0.N) (r : Fin 2048) (p : Fin 1024) :
    (iblk m c 0 t (ix2 r p) : EReal) = out (fun k => Xa m c (ix2 (tok t.val r) k)) (Na m c (ix1 p)) p := by
  refine Eq.trans ?_ (a_at m c (tok t.val r) p)
  show (V m c main_v13 _ : EReal) = _
  blk_ext [iblk, idx t]

theorem g_blk (t : Fin cfg0.N) (r : Fin 2048) (q : Fin 640) : (iblk m c 1 t (ix2 r q) : EReal) = Ga m c (ix2 (tok t.val r) (col t q)) := by
  blk_ext [iblk, V, idx t]

/-- What one grid point adds to a weight's gradient. -/
def step (t : Fin cfg0.N) (p : Fin 1024) (q : Fin 640) : EReal :=
  ∑ r : Fin 2048, out (fun k => Xa m c (ix2 (tok t.val r) k)) (Na m c (ix1 p)) p * Ga m c (ix2 (tok t.val r) (col t q))

theorem row_A (t : Fin cfg0.N) (h : t.val % 4 = 0) (p : Fin 1024) (q : Fin 640) :
    (outsAt0 m c t.val t.isLt (ix2 p q) : EReal) = (0 : EReal) + step m c t p q := by
  rw [outsAt0_A m c t h]
  frame_out
  refine (pay_at _ _ _ p q).trans ?_
  rw [zero_at]
  simp only [a_blk, g_blk]
  rfl

theorem row_B (t : Fin cfg0.N) (h : ¬ t.val % 4 = 0) (p : Fin 1024) (q : Fin 640) :
    (outsAt0 m c t.val t.isLt (ix2 p q) : EReal) = (outsAt0 m c (t.val - 1) (Nat.lt_of_le_of_lt (Nat.sub_le _ _) t.isLt) (ix2 p q) : EReal) + step m c t p q := by
  rw [outsAt0_B m c t h]
  frame_out
  refine (pay_at _ _ _ p q).trans ?_
  simp only [a_blk, g_blk]
  rfl

/-- A run of points adds up to the weight's gradient. -/
theorem steps (t : Fin cfg0.N) (p : Fin 1024) (q : Fin 640) (h : ∀ s : Fin 4, 4 * (t.val / 4) + s.val < cfg0.N) :
    ∑ s : Fin 4, step m c ⟨4 * (t.val / 4) + s.val, h s⟩ p q = spec (Ga m c) (Xa m c) (Na m c) p (col t q) := by
  unfold step spec
  refine Fin.sum_mul_add_congr (L := 8192) (S := 4) (n := 2048)
    (f := fun s => out (fun k => Xa m c (ix2 s k)) (Na m c (ix1 p)) p * Ga m c (ix2 s (col t q))) (fun s k hl => ?_) (by decide)
  have hs : tok (4 * (t.val / 4) + s.val) k = ⟨s.val * 2048 + k.val, hl⟩ := Fin.ext (by
    show (4 * (t.val / 4) + s.val) % 4 * 2048 + k.val = s.val * 2048 + k.val
    omega)
  have hd : col ⟨4 * (t.val / 4) + s.val, h s⟩ q = col t q := Fin.ext (by
    show (4 * (t.val / 4) + s.val) / 4 * 640 + q.val = t.val / 4 * 640 + q.val
    omega)
  rw [hs, hd]

/-- The kernel's array. -/
theorem arr (G : S1024x1280.Idx → EReal) (hG : ∀ p q, G (ix2 p q) = spec (Ga m c) (Xa m c) (Na m c) p q) :
    (dats m 0 c).arrAt 2 cfg0.N = G := by
  refine (dats m 0 c).arrAt_eq_of_covers 2 _ (by decide +kernel) fun t hf y => ?_
  blk_simp
  rw [after0_2]
  obtain ⟨p, q, rfl⟩ : ∃ (p : Fin 1024) (q : Fin 640), y = ix2 p q := ⟨y 0, y 1, eq_ix2 y⟩
  refine (Pipeline.eq_sum_fin_of_reset_step_apply_of_flush
    (fun n h (i : Fin 1024 × Fin 640) => (outsAt0 m c n h (ix2 i.1 i.2) : EReal)) 4 (fun _ => 0)
    (fun t i => step m c t i.1 i.2) (fun t h i => row_A m c t h _ _) (fun t h i => row_B m c t h _ _)
    t ((flush0_2 t).mp hf) (p, q)).trans ?_
  rw [zero_add]
  refine Eq.trans ?_ ((hG p (col t q)).symm.trans (congrArg G ?_))
  · exact steps m c t p q _
  · blk_ext [idx t]

end Cert.WinIdeal.At

namespace Cert.WinRefIdeal.At

open Idealize.ShloMosaic Idealize.SL.Sem Idealize.ShloMosaic.StableHlo Cert.WinRefIdeal Cert.WinRefIdeal.Gen

/-- The reference's array. -/
theorem res_at (G : FVec Ideal S8192x1280 .bf16) (X : FVec Ideal S8192x1024 .f32) (g : FVec Ideal S1024 .f32) (p : Fin 1024) (q : Fin 1280) :
    (transpose S1024x1280 [1, 0] (Host.dotGeneral dot_S8192x1280_S8192x1024_S1280x1024_0_0_1_1_n_n none (extf .f32 G bitsLt_bf16_f32)
        (mulf (mulf X (broadcastInDim S8192x1024 ![0, 1] bcast_S8192x1_S8192x1024_0_1 (Host.rsqrt (addf (Host.divf (broadcastInDim S8192x1 ![0] bcast_S8192_S8192x1_0
      (Host.reduceAdd (mulf X X) (constant S_ .f32 0x00000000#32) reducesTo_S8192x1024_S8192_d1 h_S_)) (broadcastInDim S8192x1 ![] bcast_S_S8192x1 (constant S_ .f32 0x44800000#32)))
      (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g)))) transposes_S1280x1024_S1024x1280_1_0 (ix2 p q) : EReal)
      = Cert.WinIdeal.At.spec G X g p q := by
  pointwise
  exact Finset.sum_congr rfl fun s _ => mul_comm _ _

end Cert.WinRefIdeal.At

namespace Cert.Proof.Win

open Idealize.ShloMosaic Idealize.SL.Sem Idealize.ShloMosaic.StableHlo

theorem frame_r : Cert.quiescent_WinRefIdeal := fun m ρ _ =>
  (θ_run Cert.WinRefIdeal.defs _ _).mono (fun r h => ⟨fun c => (h c).2, sem_eq_zero_of_no_sems (by decide) r.2⟩)
    (Cert.WinRefIdeal.Value.run m ρ)

theorem algebraic : Cert.algebraic_WinIdeal_WinRefIdeal := fun m ρ m' ρ' _ hag => by
  refine ⟨fun c => (Cert.WinIdeal.Gen.dats m 0 c).arrAt 2 Cert.WinIdeal.cfg0.N, Cert.WinIdeal.Value.run_blocks m ρ, ?_⟩
  refine (θ_run _ _ _).mono (fun _ h c => ?_) (Cert.WinRefIdeal.Value.run m' ρ')
  obtain ⟨h0, hk⟩ := h c
  refine ⟨h0.trans (Cert.WinIdeal.At.arr m c _ fun p q => ?_).symm, hk⟩
  obtain ⟨e0, e1, e2⟩ := hag c
  refine (Cert.WinRefIdeal.At.res_at _ _ _ p q).trans ?_
  rw [e0, e1, e2]

end Cert.Proof.Win

end
-- ==== Proof.BoutVal.lean ====
/- The gradient at the mixer's output product: kernel and reference hold the same array. -/
module

public import proofs.«01_k».proof.Proof.Gen.BoutIdeal.Value
public import proofs.«01_k».proof.Proof.Gen.BoutRefIdeal.Run
public import proofs.«01_k».proof.Defs
public import proofs.«01_k».proof.Proof.Gen.Bout.Frame
public import Idealize.ShloMosaic.Adequacy
public import Idealize.ShloMosaic.Init
public import Idealize.ShloMosaic.Lib.Pointwise
public import Idealize.ShloMosaic.Lib.Tactic.CleanTypes
public import Idealize.ShloMosaic.Lib.Pipeline.ReadBack
public import Idealize.ShloMosaic.Lib.Pipeline.ValueKit

@[expose] public section

set_option maxRecDepth 16384

noncomputable section

namespace Cert.BoutIdeal.At

open Idealize.ShloMosaic Idealize.SL.Sem Idealize.ShloMosaic.TcCoe Cert.BoutIdeal Cert.BoutIdeal.Gen

variable (m : (ℓ : Loc nD τ sig) → Buf (Elt Ideal) ℓ) (c : Dev nD)

abbrev Aa : S8192x1024.Idx → EReal := m ((c : Thread nD τ).loc main_arg0)
abbrev Wa : S1024x1024.Idx → EReal := m ((c : Thread nD τ).loc main_arg1)

/-- A row's gradient: the product's gradient against the weight's rows. -/
def spec (A : S8192x1024.Idx → EReal) (W : S1024x1024.Idx → EReal) (i : Fin 8192) (j : Fin 1024) : EReal :=
  ∑ k : Fin 1024, A (ix2 i k) * W (ix2 j k)

theorem pay_at (v1 : FVec Ideal S512x1024 .bf16) (v2 : FVec Ideal S1x1024x1024 .bf16) (r : Fin 512) (j : Fin 1024) :
    (k0_pay1 (F := Ideal) v1 v2 (ix2 r j) : EReal) = ∑ k : Fin 1024, v1 (ix2 r k) * v2 (ix3 0 j k) := by
  unfold k0_pay1
  pointwise

theorem V_w : V m c main_v1 = (broadcastInDim S1x1024x1024 ![1, 2] bcast_S1024x1024_S1x1024x1024_1_2
    (truncf (F := Ideal) (s := S1024x1024) (φ := .f32) .bf16 (Wa m c) bitsLt_bf16_f32 : FVec Ideal S1024x1024 .bf16) : FVec Ideal S1x1024x1024 .bf16) := by
  unfold_abbrev_sides
  after_results

theorem w_at (z : Fin 1) (k : Fin 1024) (j : Fin 1024) : (V m c main_v1 (ix3 z k j) : EReal) = Wa m c (ix2 k j) := by
  rw [V_w]
  pointwise

theorem idx : ∀ t : Fin cfg0.N, win0_0.index t = ![t.val, 0] ∧ win0_1.index t = ![0, 0, 0] ∧ win0_2.index t = ![t.val, 0] :=
  (by decide +kernel : ∀ t : Fin grid0.N, _)

/-- The row that a point's row is. -/
abbrev row (t : Fin cfg0.N) (r : Fin 512) : Fin 8192 := ⟨t.val * 512 + r.val, by have := t.isLt; have : cfg0.N = 16 := N_0; omega⟩

theorem a_blk (t : Fin cfg0.N) (r : Fin 512) (k : Fin 1024) : (iblk m c 0 t (ix2 r k) : EReal) = Aa m c (ix2 (row t r) k) := by
  blk_ext [iblk, V, idx t]

theorem w_blk (t : Fin cfg0.N) (z : Fin 1) (k : Fin 1024) (j : Fin 1024) : (iblk m c 1 t (ix3 z k j) : EReal) = Wa m c (ix2 k j) := by
  refine Eq.trans ?_ (w_at m c z k j)
  show (V m c main_v1 _ : EReal) = _
  blk_ext [iblk, idx t]

/-- The kernel's array. -/
theorem arr (G : S8192x1024.Idx → EReal) (hG : ∀ i j, G (ix2 i j) = spec (Aa m c) (Wa m c) i j) :
    (dats m 0 c).arrAt 2 cfg0.N = G := by
  refine (dats m 0 c).arrAt_eq_of_covers 2 _ (by decide +kernel) fun t hf y => ?_
  blk_simp
  rw [after0_2]
  frame_out
  obtain ⟨r, j, rfl⟩ : ∃ (r : Fin 512) (j : Fin 1024), y = ix2 r j := ⟨y 0, y 1, eq_ix2 y⟩
  refine (pay_at _ _ r j).trans ?_
  simp only [a_blk, w_blk]
  refine (hG (row t r) j).symm.trans (congrArg G ?_)
  blk_ext [idx t]

end Cert.BoutIdeal.At

namespace Cert.BoutRefIdeal.At

open Idealize.ShloMosaic Idealize.SL.Sem Idealize.ShloMosaic.StableHlo Cert.BoutRefIdeal Cert.BoutRefIdeal.Gen

/-- The reference's array. -/
theorem res_at (A : FVec Ideal S8192x1024 .bf16) (W : FVec Ideal S1024x1024 .f32) (i : Fin 8192) (j : Fin 1024) :
    (Host.dotGeneral dot_S8192x1024_S1024x1024_S8192x1024_1_1_0_0_n_n none (extf .f32 A bitsLt_bf16_f32) W (ix2 i j) : EReal)
      = Cert.BoutIdeal.At.spec A W i j := by
  pointwise
  rfl

end Cert.BoutRefIdeal.At

namespace Cert.Proof.Bout

open Idealize.ShloMosaic Idealize.SL.Sem Idealize.ShloMosaic.StableHlo

theorem frame_r : Cert.quiescent_BoutRefIdeal := fun m ρ _ =>
  (θ_run Cert.BoutRefIdeal.defs _ _).mono (fun r h => ⟨fun c => (h c).2, sem_eq_zero_of_no_sems (by decide) r.2⟩)
    (Cert.BoutRefIdeal.Value.run m ρ)

theorem algebraic : Cert.algebraic_BoutIdeal_BoutRefIdeal := fun m ρ m' ρ' _ hag => by
  refine ⟨fun c => (Cert.BoutIdeal.Gen.dats m 0 c).arrAt 2 Cert.BoutIdeal.cfg0.N, Cert.BoutIdeal.Value.run_blocks m ρ, ?_⟩
  refine (θ_run _ _ _).mono (fun _ h c => ?_) (Cert.BoutRefIdeal.Value.run m' ρ')
  obtain ⟨h0, hk⟩ := h c
  refine ⟨h0.trans (Cert.BoutIdeal.At.arr m c _ fun i j => ?_).symm, hk⟩
  obtain ⟨e0, e1⟩ := hag c
  refine (Cert.BoutRefIdeal.At.res_at _ _ i j).trans ?_
  rw [e0, e1]

end Cert.Proof.Bout

end
-- ==== Proof.WoutVal.lean ====
/- The gradient of the mixer's output weight: kernel and reference hold the same array. -/
module

public import proofs.«01_k».proof.Proof.Gen.WoutIdeal.Value
public import proofs.«01_k».proof.Proof.Gen.WoutRefIdeal.Run
public import proofs.«01_k».proof.Defs
public import Idealize.ShloMosaic.Adequacy
public import Idealize.ShloMosaic.Init
public import proofs.«01_k».proof.Proof.Norm

@[expose] public section

set_option maxRecDepth 16384

noncomputable section

namespace Cert.WoutIdeal.At

open Idealize.ShloMosaic Idealize.SL.Sem Idealize.ShloMosaic.TcCoe Cert.WoutIdeal Cert.WoutIdeal.Gen Cert.Norm

variable (m : (ℓ : Loc nD τ sig) → Buf (Elt Ideal) ℓ) (c : Dev nD)

abbrev Ga : S8192x1024.Idx → EReal := m ((c : Thread nD τ).loc main_arg0)
abbrev Ya : S8192x1024.Idx → EReal := m ((c : Thread nD τ).loc main_arg1)

/-- A weight's gradient: over the tokens, its input's entry times its output's gradient. -/
def spec (G : S8192x1024.Idx → EReal) (Y : S8192x1024.Idx → EReal) (p : Fin 1024) (q : Fin 1024) : EReal :=
  ∑ s : Fin 8192, Y (ix2 s p) * G (ix2 s q)

theorem zero_at (i : S1024x1024.Idx) : (k0_pay1 (F := Ideal) i : EReal) = 0 := by
  unfold k0_pay1
  pointwise

theorem pay_at (v3 v5 : FVec Ideal S2048x1024 .bf16) (v7 : FVec Ideal S1024x1024 .f32) (p q : Fin 1024) :
    (k0_pay2 (F := Ideal) v3 v5 v7 (ix2 p q) : EReal) = v7 (ix2 p q) + ∑ s : Fin 2048, v3 (ix2 s p) * v5 (ix2 s q) := by
  unfold k0_pay2
  pointwise

theorem idx : ∀ t : Fin cfg0.N, win0_0.index t = ![t.val % 4, 0] ∧ win0_1.index t = ![t.val % 4, 0] ∧ win0_2.index t = ![0, 0] :=
  (by decide +kernel : ∀ t : Fin grid0.N, _)

/-- The token that a point's row is. -/
abbrev tok (n : Nat) (r : Fin 2048) : Fin 8192 := ⟨n % 4 * 2048 + r.val, by omega⟩

theorem a_blk (t : Fin cfg0.N) (r : Fin 2048) (p : Fin 1024) : (iblk m c 0 t (ix2 r p) : EReal) = Ya m c (ix2 (tok t.val r) p) := by
  blk_ext [iblk, V, idx t]

theorem g_blk (t : Fin cfg0.N) (r : Fin 2048) (q : Fin 1024) : (iblk m c 1 t (ix2 r q) : EReal) = Ga m c (ix2 (tok t.val r) q) := by
  blk_ext [iblk, V, idx t]

/-- What one grid point adds to a weight's gradient. -/
def step (t : Fin cfg0.N) (p q : Fin 1024) : EReal :=
  ∑ r : Fin 2048, Ya m c (ix2 (tok t.val r) p) * Ga m c (ix2 (tok t.val r) q)

theorem row_A (t : Fin cfg0.N) (h : t.val % 4 = 0) (p q : Fin 1024) :
    (outsAt0 m c t.val t.isLt (ix2 p q) : EReal) = (0 : EReal) + step m c t p q := by
  rw [outsAt0_A m c t h]
  frame_out
  refine (pay_at _ _ _ p q).trans ?_
  rw [zero_at]
  simp only [a_blk, g_blk]
  rfl

theorem row_B (t : Fin cfg0.N) (h : ¬ t.val % 4 = 0) (p q : Fin 1024) :
    (outsAt0 m c t.val t.isLt (ix2 p q) : EReal) = (outsAt0 m c (t.val - 1) (Nat.lt_of_le_of_lt (Nat.sub_le _ _) t.isLt) (ix2 p q) : EReal) + step m c t p q := by
  rw [outsAt0_B m c t h]
  frame_out
  refine (pay_at _ _ _ p q).trans ?_
  simp only [a_blk, g_blk]
  rfl

/-- A run of points adds up to the weight's gradient. -/
theorem steps (t : Fin cfg0.N) (p q : Fin 1024) (h : ∀ s : Fin 4, 4 * (t.val / 4) + s.val < cfg0.N) :
    ∑ s : Fin 4, step m c ⟨4 * (t.val / 4) + s.val, h s⟩ p q = spec (Ga m c) (Ya m c) p q := by
  unfold step spec
  refine Fin.sum_mul_add_congr (L := 8192) (S := 4) (n := 2048) (f := fun s => Ya m c (ix2 s p) * Ga m c (ix2 s q)) (fun s k hl => ?_) (by decide)
  have hs : tok (4 * (t.val / 4) + s.val) k = ⟨s.val * 2048 + k.val, hl⟩ := Fin.ext (by
    show (4 * (t.val / 4) + s.val) % 4 * 2048 + k.val = s.val * 2048 + k.val
    omega)
  rw [hs]

/-- The kernel's array. -/
theorem arr (G : S1024x1024.Idx → EReal) (hG : ∀ p q, G (ix2 p q) = spec (Ga m c) (Ya m c) p q) :
    (dats m 0 c).arrAt 2 cfg0.N = G := by
  refine (dats m 0 c).arrAt_eq_of_covers 2 _ (by decide +kernel) fun t hf y => ?_
  blk_simp
  rw [after0_2]
  obtain ⟨p, q, rfl⟩ : ∃ (p : Fin 1024) (q : Fin 1024), y = ix2 p q := ⟨y 0, y 1, eq_ix2 y⟩
  refine (Pipeline.eq_sum_fin_of_reset_step_apply_of_flush
    (fun n h (i : Fin 1024 × Fin 1024) => (outsAt0 m c n h (ix2 i.1 i.2) : EReal)) 4 (fun _ => 0)
    (fun t i => step m c t i.1 i.2) (fun t h i => row_A m c t h _ _) (fun t h i => row_B m c t h _ _)
    t ((flush0_2 t).mp hf) (p, q)).trans ?_
  rw [zero_add]
  refine Eq.trans ?_ ((hG p q).symm.trans (congrArg G ?_))
  · exact steps m c t p q _
  · blk_ext [idx t]

end Cert.WoutIdeal.At

namespace Cert.WoutRefIdeal.At

open Idealize.ShloMosaic Idealize.SL.Sem Idealize.ShloMosaic.StableHlo Cert.WoutRefIdeal Cert.WoutRefIdeal.Gen

/-- The reference's array. -/
theorem res_at (G Y : FVec Ideal S8192x1024 .bf16) (p q : Fin 1024) :
    (transpose S1024x1024 [1, 0] (Host.dotGeneral dot_S8192x1024_S8192x1024_S1024x1024_0_0_1_1_n_n none (extf .f32 G bitsLt_bf16_f32)
        (extf .f32 Y bitsLt_bf16_f32)) transposes_S1024x1024_S1024x1024_1_0 (ix2 p q) : EReal)
      = Cert.WoutIdeal.At.spec G Y p q := by
  pointwise
  exact Finset.sum_congr rfl fun s _ => mul_comm _ _

end Cert.WoutRefIdeal.At

namespace Cert.Proof.Wout

open Idealize.ShloMosaic Idealize.SL.Sem Idealize.ShloMosaic.StableHlo

theorem frame_r : Cert.quiescent_WoutRefIdeal := fun m ρ _ =>
  (θ_run Cert.WoutRefIdeal.defs _ _).mono (fun r h => ⟨fun c => (h c).2, sem_eq_zero_of_no_sems (by decide) r.2⟩)
    (Cert.WoutRefIdeal.Value.run m ρ)

theorem algebraic : Cert.algebraic_WoutIdeal_WoutRefIdeal := fun m ρ m' ρ' _ hag => by
  refine ⟨fun c => (Cert.WoutIdeal.Gen.dats m 0 c).arrAt 2 Cert.WoutIdeal.cfg0.N, Cert.WoutIdeal.Value.run_blocks m ρ, ?_⟩
  refine (θ_run _ _ _).mono (fun _ h c => ?_) (Cert.WoutRefIdeal.Value.run m' ρ')
  obtain ⟨h0, hk⟩ := h c
  refine ⟨h0.trans (Cert.WoutIdeal.At.arr m c _ fun i j => ?_).symm, hk⟩
  obtain ⟨e0, e1⟩ := hag c
  refine (Cert.WoutRefIdeal.At.res_at _ _ i j).trans ?_
  rw [e0, e1]

end Cert.Proof.Wout

end
-- ==== Proof.Gelu.lean ====
/- The activation before the GLU. -/
module

public import Idealize.ShloMosaic.Lib.Pointwise
public import Idealize.ShloMosaic.Lib.Tactic.CleanTypes
public import Idealize.ShloMosaic.Lib.Pipeline.ReadBack
public import Idealize.ShloMosaic.Lib.Pipeline.ValueKit

@[expose] public section

noncomputable section

namespace Cert.Gelu

open Idealize.ShloMosaic

/-- The argument of the activation's tanh. -/
def arg (y : EReal) : EReal := Ideal.ofBits .f32 0x3F4C422A#32 * (y + Ideal.ofBits .f32 0x3D372713#32 * (y * y * y))

/-- The activation, in its tanh form. -/
def gelu (y : EReal) : EReal := y * (Ideal.ofBits .f32 0x3F000000#32 * (1 + Ideal.tanh (arg y)))

end Cert.Gelu

end
-- ==== Proof.WgluVal.lean ====
/- The gradient of the GLU's weight, in the pieces that the chips hold: kernel and reference hold the same array. -/
module

public import proofs.«01_k».proof.Proof.Gen.WgluIdeal.Value
public import proofs.«01_k».proof.Proof.Gen.WgluRefIdeal.Run
public import proofs.«01_k».proof.Defs
public import Idealize.ShloMosaic.Adequacy
public import Idealize.ShloMosaic.Init
public import proofs.«01_k».proof.Proof.Gelu

@[expose] public section

set_option maxRecDepth 16384

noncomputable section

namespace Cert.WgluIdeal.At

open Idealize.ShloMosaic Idealize.SL.Sem Idealize.ShloMosaic.TcCoe Cert.WgluIdeal Cert.WgluIdeal.Gen Cert.Gelu

variable (m : (ℓ : Loc nD τ sig) → Buf (Elt Ideal) ℓ) (c : Dev nD)

abbrev Ga : S8192x1024.Idx → EReal := m ((c : Thread nD τ).loc main_arg0)
abbrev Ya : S8192x512.Idx → EReal := m ((c : Thread nD τ).loc main_arg1)

/-- The column that a piece's column is. -/
abbrev col (b : Fin 4) (q : Fin 256) : Fin 1024 := ⟨b.val * 256 + q.val, by omega⟩

/-- A weight's gradient: over the tokens, its input's activation times its output's gradient. -/
def spec (G : S8192x1024.Idx → EReal) (Y : S8192x512.Idx → EReal) (b : Fin 4) (p : Fin 512) (q : Fin 256) : EReal :=
  ∑ s : Fin 8192, gelu (Y (ix2 s p)) * G (ix2 s (col b q))

theorem zero_at (i : S1x512x256.Idx) : (k0_pay1 (F := Ideal) i : EReal) = 0 := by
  unfold k0_pay1
  pointwise

theorem pay_at (v3 : FVec Ideal S2048x512 .bf16) (v5 : FVec Ideal S2048x256 .bf16) (v7 : FVec Ideal S1x512x256 .f32) (z : Fin 1) (p : Fin 512) (q : Fin 256) :
    (k0_pay2 (F := Ideal) v3 v5 v7 (ix3 z p q) : EReal) = v7 (ix3 0 p q) + ∑ s : Fin 2048, v3 (ix2 s p) * v5 (ix2 s q) := by
  unfold k0_pay2
  pointwise

theorem V_a : V m c main_v13 = (truncf (F := Ideal) (s := S8192x512) (φ := .f32) .bf16
    (mulf (Ya m c) (mulf (broadcastInDim S8192x512 ![] bcast_S_S8192x512 (constant S_ .f32 0x3F000000#32)) (addf (broadcastInDim S8192x512 ![] bcast_S_S8192x512 (constant S_ .f32 0x3F800000#32))
      (Host.tanh (mulf (broadcastInDim S8192x512 ![] bcast_S_S8192x512 (constant S_ .f32 0x3F4C422A#32)) (addf (Ya m c) (mulf (broadcastInDim S8192x512 ![] bcast_S_S8192x512 (constant S_ .f32 0x3D372713#32)) (mulf (mulf (Ya m c) (Ya m c)) (Ya m c))))))))) bitsLt_bf16_f32 : FVec Ideal S8192x512 .bf16) := by
  unfold_abbrev_sides
  after_results

theorem a_at (s : Fin 8192) (p : Fin 512) : (V m c main_v13 (ix2 s p) : EReal) = gelu (Ya m c (ix2 s p)) := by
  rw [V_a]
  pointwise
  rfl

theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The token that a point's row is. -/
abbrev tok (n : Nat) (r : Fin 2048) : Fin 8192 := ⟨n % 4 * 2048 + r.val, by omega⟩

/-- The piece that a point works on. -/
abbrev piece (t : Fin cfg0.N) : Fin 4 := ⟨t.val / 4, by have := t.isLt; have : cfg0.N = 16 := N_0; omega⟩

theorem a_blk (t : Fin cfg0.N) (r : Fin 2048) (p : Fin 512) :
    (iblk m c 0 t (ix2 r p) : EReal) = gelu (Ya m c (ix2 (tok t.val r) p)) := by
  refine Eq.trans ?_ (a_at m c (tok t.val r) p)
  show (V m c main_v13 _ : EReal) = _
  blk_ext [iblk, idx t]

theorem g_blk (t : Fin cfg0.N) (r : Fin 2048) (q : Fin 256) : (iblk m c 1 t (ix2 r q) : EReal) = Ga m c (ix2 (tok t.val r) (col (piece t) q)) := by
  blk_ext [iblk, V, idx t]

/-- What one grid point adds to a weight's gradient. -/
def step (t : Fin cfg0.N) (p : Fin 512) (q : Fin 256) : EReal :=
  ∑ r : Fin 2048, gelu (Ya m c (ix2 (tok t.val r) p)) * Ga m c (ix2 (tok t.val r) (col (piece t) q))

theorem row_A (t : Fin cfg0.N) (h : t.val % 4 = 0) (p : Fin 512) (q : Fin 256) :
    (outsAt0 m c t.val t.isLt (ix3 0 p q) : EReal) = (0 : EReal) + step m c t p q := by
  rw [outsAt0_A m c t h]
  frame_out
  refine (pay_at _ _ _ 0 p q).trans ?_
  rw [zero_at]
  simp only [a_blk, g_blk]
  rfl

theorem row_B (t : Fin cfg0.N) (h : ¬ t.val % 4 = 0) (p : Fin 512) (q : Fin 256) :
    (outsAt0 m c t.val t.isLt (ix3 0 p q) : EReal) = (outsAt0 m c (t.val - 1) (Nat.lt_of_le_of_lt (Nat.sub_le _ _) t.isLt) (ix3 0 p q) : EReal) + step m c t p q := by
  rw [outsAt0_B m c t h]
  frame_out
  refine (pay_at _ _ _ 0 p q).trans ?_
  simp only [a_blk, g_blk]
  rfl

/-- A run of points adds up to the weight's gradient. -/
theorem steps (t : Fin cfg0.N) (p : Fin 512) (q : Fin 256) (h : ∀ s : Fin 4, 4 * (t.val / 4) + s.val < cfg0.N) :
    ∑ s : Fin 4, step m c ⟨4 * (t.val / 4) + s.val, h s⟩ p q = spec (Ga m c) (Ya m c) (piece t) p q := by
  unfold step spec
  refine Fin.sum_mul_add_congr (L := 8192) (S := 4) (n := 2048)
    (f := fun s => gelu (Ya m c (ix2 s p)) * Ga m c (ix2 s (col (piece t) q))) (fun s k hl => ?_) (by decide)
  have hs : tok (4 * (t.val / 4) + s.val) k = ⟨s.val * 2048 + k.val, hl⟩ := Fin.ext (by
    show (4 * (t.val / 4) + s.val) % 4 * 2048 + k.val = s.val * 2048 + k.val
    omega)
  have hd : piece ⟨4 * (t.val / 4) + s.val, h s⟩ = piece t := Fin.ext (by
    show (4 * (t.val / 4) + s.val) / 4 = t.val / 4
    omega)
  rw [hs, hd]

/-- The kernel's array. -/
theorem arr (G : S4x512x256.Idx → EReal) (hG : ∀ b p q, G (ix3 b p q) = spec (Ga m c) (Ya m c) b p q) :
    (dats m 0 c).arrAt 2 cfg0.N = G := by
  refine (dats m 0 c).arrAt_eq_of_covers 2 _ (by decide +kernel) fun t hf y => ?_
  blk_simp
  rw [after0_2]
  obtain ⟨p, q, rfl⟩ : ∃ (p : Fin 512) (q : Fin 256), y = ix3 0 p q :=
    ⟨y 1, y 2, (eq_ix3 y).trans (congrArg (fun z : Fin 1 => ix3 z (y 1) (y 2)) (Subsingleton.elim (α := Fin 1) (y 0) 0))⟩
  refine (Pipeline.eq_sum_fin_of_reset_step_apply_of_flush
    (fun n h (i : Fin 512 × Fin 256) => (outsAt0 m c n h (ix3 0 i.1 i.2) : EReal)) 4 (fun _ => 0)
    (fun t i => step m c t i.1 i.2) (fun t h i => row_A m c t h _ _) (fun t h i => row_B m c t h _ _)
    t ((flush0_2 t).mp hf) (p, q)).trans ?_
  rw [zero_add]
  refine Eq.trans ?_ ((hG (piece t) p q).symm.trans (congrArg G ?_))
  · exact steps m c t p q _
  · blk_ext [idx t]

end Cert.WgluIdeal.At

namespace Cert.WgluRefIdeal.At

open Idealize.ShloMosaic Idealize.SL.Sem Idealize.ShloMosaic.StableHlo Cert.WgluRefIdeal Cert.WgluRefIdeal.Gen

/-- The reference's array. -/
theorem res_at (G : FVec Ideal S8192x1024 .bf16) (Y : FVec Ideal S8192x512 .f32) (b : Fin 4) (p : Fin 512) (q : Fin 256) :
    (transpose S4x512x256 [1, 0, 2] (shapeCast _ (transpose S512x1024 [1, 0] (Host.dotGeneral dot_S8192x1024_S8192x512_S1024x512_0_0_1_1_n_n none (extf .f32 G bitsLt_bf16_f32)
        (mulf Y (mulf (broadcastInDim S8192x512 ![] bcast_S_S8192x512 (constant S_ .f32 0x3F000000#32)) (addf (broadcastInDim S8192x512 ![] bcast_S_S8192x512 (constant S_ .f32 0x3F800000#32))
      (Host.tanh (mulf (broadcastInDim S8192x512 ![] bcast_S_S8192x512 (constant S_ .f32 0x3F4C422A#32)) (addf Y (mulf (broadcastInDim S8192x512 ![] bcast_S_S8192x512 (constant S_ .f32 0x3D372713#32)) (mulf (mulf Y Y) Y))))))))) transposes_S1024x512_S512x1024_1_0) shapeCasts_S512x1024_S512x4x256) transposes_S512x4x256_S4x512x256_1_0_2 (ix3 b p q) : EReal)
      = Cert.WgluIdeal.At.spec G Y b p q := by
  pointwise
  exact Finset.sum_congr rfl fun s _ => mul_comm _ _

end Cert.WgluRefIdeal.At

namespace Cert.Proof.Wglu

open Idealize.ShloMosaic Idealize.SL.Sem Idealize.ShloMosaic.StableHlo

theorem frame_r : Cert.quiescent_WgluRefIdeal := fun m ρ _ =>
  (θ_run Cert.WgluRefIdeal.defs _ _).mono (fun r h => ⟨fun c => (h c).2, sem_eq_zero_of_no_sems (by decide) r.2⟩)
    (Cert.WgluRefIdeal.Value.run m ρ)

theorem algebraic : Cert.algebraic_WgluIdeal_WgluRefIdeal := fun m ρ m' ρ' _ hag => by
  refine ⟨fun c => (Cert.WgluIdeal.Gen.dats m 0 c).arrAt 2 Cert.WgluIdeal.cfg0.N, Cert.WgluIdeal.Value.run_blocks m ρ, ?_⟩
  refine (θ_run _ _ _).mono (fun _ h c => ?_) (Cert.WgluRefIdeal.Value.run m' ρ')
  obtain ⟨h0, hk⟩ := h c
  refine ⟨h0.trans (Cert.WgluIdeal.At.arr m c _ fun b p q => ?_).symm, hk⟩
  obtain ⟨e0, e1⟩ := hag c
  refine (Cert.WgluRefIdeal.At.res_at _ _ b p q).trans ?_
  rw [e0, e1]

end Cert.Proof.Wglu

end
-- ==== Proof.InVal.lean ====
/- The mixer's norm and input product: kernel and reference hold the same arrays. -/
module

public import proofs.«01_k».proof.Proof.Gen.InIdeal.Value
public import proofs.«01_k».proof.Proof.Gen.InRefIdeal.Run
public import proofs.«01_k».proof.Defs
public import Idealize.ShloMosaic.Adequacy
public import Idealize.ShloMosaic.Init
public import proofs.«01_k».proof.Proof.Norm

@[expose] public section

set_option maxRecDepth 16384

noncomputable section

namespace Cert.InIdeal.At

open Idealize.ShloMosaic Idealize.SL.Sem Idealize.ShloMosaic.TcCoe Cert.InIdeal Cert.InIdeal.Gen Cert.Norm

variable (m : (ℓ : Loc nD τ sig) → Buf (Elt Ideal) ℓ) (c : Dev nD)

abbrev Xa : S8192x1024.Idx → EReal := m ((c : Thread nD τ).loc main_arg0)
abbrev Na : S1024.Idx → EReal := m ((c : Thread nD τ).loc main_arg1)
abbrev Wa : S1024x1280.Idx → EReal := m ((c : Thread nD τ).loc main_arg2)

/-- An entry of a normed row. -/
def normed (X : S8192x1024.Idx → EReal) (g : S1024.Idx → EReal) (i : Fin 8192) (k : Fin 1024) : EReal :=
  out (fun k => X (ix2 i k)) (g (ix1 k)) k

/-- A column of a normed row's product. -/
def spec (X : S8192x1024.Idx → EReal) (g : S1024.Idx → EReal) (W : S1024x1280.Idx → EReal) (i : Fin 8192) (n : Fin 1280) : EReal :=
  ∑ k : Fin 1024, normed X g i k * W (ix2 k n)

theorem norm_at (v0 : FVec Ideal S512x1024 .f32) (v11 : FVec Ideal S1x1024 .f32) (r : Fin 512) (k : Fin 1024) :
    (k0_pay1 (F := Ideal) v0 v11 (ix2 r k) : EReal) = out (fun k => v0 (ix2 r k)) (v11 (ix2 0 k)) k := by
  unfold k0_pay1
  pointwise
  rfl

theorem pay_at (x : FVec Ideal S512x1024 .f32) (g : FVec Ideal S1x1024 .f32) (w : FVec Ideal S1x1024x1280 .bf16) (r : Fin 512) (q : Fin 1280) :
    (k0_pay2 (F := Ideal) x g w (ix2 r q) : EReal) = ∑ k : Fin 1024, k0_pay1 (F := Ideal) x g (ix2 r k) * w (ix3 0 k q) := by
  unfold k0_pay2
  pointwise

theorem V_w : V m c main_v1 = (broadcastInDim S1x1024x1280 ![1, 2] bcast_S1024x1280_S1x1024x1280_1_2
    (truncf (F := Ideal) (s := S1024x1280) (φ := .f32) .bf16 (Wa m c) bitsLt_bf16_f32 : FVec Ideal S1024x1280 .bf16) : FVec Ideal S1x1024x1280 .bf16) := by
  unfold_abbrev_sides
  after_results

theorem V_n : V m c main_v2 = (shapeCast S1x1024 (Na m c : FVec Ideal S1024 .f32) shapeCasts_S1024_S1x1024 : FVec Ideal S1x1024 .f32) := by
  unfold_abbrev_sides
  after_results
  rfl

theorem w_at (z : Fin 1) (k : Fin 1024) (q : Fin 1280) : (V m c main_v1 (ix3 z k q) : EReal) = Wa m c (ix2 k q) := by
  rw [V_w]
  pointwise

theorem n_at (z : Fin 1) (k : Fin 1024) : (V m c main_v2 (ix2 z k) : EReal) = Na m c (ix1 k) := by
  rw [V_n]
  pointwise

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

/-- The row that a point's row is. -/
abbrev row (t : Fin cfg0.N) (r : Fin 512) : Fin 8192 := ⟨t.val * 512 + r.val, by have := t.isLt; have : cfg0.N = 16 := N_0; omega⟩

theorem x_blk (t : Fin cfg0.N) (r : Fin 512) (k : Fin 1024) : (iblk m c 0 t (ix2 r k) : EReal) = Xa m c (ix2 (row t r) k) := by
  blk_ext [iblk, V, idx t]

theorem n_blk (t : Fin cfg0.N) (z : Fin 1) (k : Fin 1024) : (iblk m c 1 t (ix2 z k) : EReal) = Na m c (ix1 k) := by
  refine Eq.trans ?_ (n_at m c z k)
  show (V m c main_v2 _ : EReal) = _
  blk_ext [iblk, idx t]

theorem w_blk (t : Fin cfg0.N) (z : Fin 1) (k : Fin 1024) (q : Fin 1280) : (iblk m c 2 t (ix3 z k q) : EReal) = Wa m c (ix2 k q) := by
  refine Eq.trans ?_ (w_at m c z k q)
  show (V m c main_v1 _ : EReal) = _
  blk_ext [iblk, idx t]

theorem h_blk (t : Fin cfg0.N) (r : Fin 512) (k : Fin 1024) :
    (k0_pay1 (F := Ideal) (iblk m c 0 t) (iblk m c 1 t) (ix2 r k) : EReal) = normed (Xa m c) (Na m c) (row t r) k := by
  refine (norm_at _ _ r k).trans ?_
  simp only [x_blk, n_blk]
  rfl

/-- The kernel's normed rows. -/
theorem arr3 (G : S8192x1024.Idx → EReal) (hG : ∀ i k, G (ix2 i k) = normed (Xa m c) (Na m c) i k) :
    (dats m 0 c).arrAt 3 cfg0.N = G := by
  refine (dats m 0 c).arrAt_eq_of_covers 3 _ (by decide +kernel) fun t hf y => ?_
  blk_simp
  rw [after0_3]
  frame_out
  obtain ⟨r, k, rfl⟩ : ∃ (r : Fin 512) (k : Fin 1024), y = ix2 r k := ⟨y 0, y 1, eq_ix2 y⟩
  refine (h_blk m c t r k).trans ((hG (row t r) k).symm.trans (congrArg G ?_))
  blk_ext [idx t]

/-- The kernel's product. -/
theorem arr4 (G : S8192x1280.Idx → EReal) (hG : ∀ i n, G (ix2 i n) = spec (Xa m c) (Na m c) (Wa m c) i n) :
    (dats m 0 c).arrAt 4 cfg0.N = G := by
  refine (dats m 0 c).arrAt_eq_of_covers 4 _ (by decide +kernel) fun t hf y => ?_
  blk_simp
  rw [after0_4]
  frame_out
  obtain ⟨r, n, rfl⟩ : ∃ (r : Fin 512) (n : Fin 1280), y = ix2 r n := ⟨y 0, y 1, eq_ix2 y⟩
  refine (pay_at _ _ _ r n).trans ?_
  simp only [h_blk, w_blk]
  refine (hG (row t r) n).symm.trans (congrArg G ?_)
  blk_ext [idx t]

end Cert.InIdeal.At

namespace Cert.InRefIdeal.At

open Idealize.ShloMosaic Idealize.SL.Sem Idealize.ShloMosaic.StableHlo Cert.InRefIdeal Cert.InRefIdeal.Gen

/-- The reference's normed rows. -/
theorem res_h (X : FVec Ideal S8192x1024 .f32) (g : FVec Ideal S1024 .f32) (i : Fin 8192) (k : Fin 1024) :
    (truncf .bf16 (mulf (mulf X (broadcastInDim S8192x1024 ![0, 1] bcast_S8192x1_S8192x1024_0_1 (Host.rsqrt (addf (Host.divf (broadcastInDim S8192x1 ![0] bcast_S8192_S8192x1_0
      (Host.reduceAdd (mulf X X) (constant S_ .f32 0x00000000#32) reducesTo_S8192x1024_S8192_d1 h_S_)) (broadcastInDim S8192x1 ![] bcast_S_S8192x1 (constant S_ .f32 0x44800000#32)))
      (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32 (ix2 i k) : EReal)
      = Cert.InIdeal.At.normed X g i k := by
  pointwise
  rfl

/-- The reference's product. -/
theorem res_a (X : FVec Ideal S8192x1024 .f32) (g : FVec Ideal S1024 .f32) (W : FVec Ideal S1024x1280 .f32) (i : Fin 8192) (n : Fin 1280) :
    (Host.dotGeneral dot_S8192x1024_S1024x1280_S8192x1280_1_0_0_1_n_n none
        (mulf (mulf X (broadcastInDim S8192x1024 ![0, 1] bcast_S8192x1_S8192x1024_0_1 (Host.rsqrt (addf (Host.divf (broadcastInDim S8192x1 ![0] bcast_S8192_S8192x1_0
      (Host.reduceAdd (mulf X X) (constant S_ .f32 0x00000000#32) reducesTo_S8192x1024_S8192_d1 h_S_)) (broadcastInDim S8192x1 ![] bcast_S_S8192x1 (constant S_ .f32 0x44800000#32)))
      (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) W (ix2 i n) : EReal)
      = Cert.InIdeal.At.spec X g W i n := by
  pointwise
  rfl

end Cert.InRefIdeal.At

namespace Cert.Proof.In

open Idealize.ShloMosaic Idealize.SL.Sem Idealize.ShloMosaic.StableHlo

theorem frame_r : Cert.quiescent_InRefIdeal := fun m ρ _ =>
  (θ_run Cert.InRefIdeal.defs _ _).mono (fun r h => ⟨fun c => (h c).2.2, sem_eq_zero_of_no_sems (by decide) r.2⟩)
    (Cert.InRefIdeal.Value.run m ρ)

theorem algebraic : Cert.algebraic_InIdeal_InRefIdeal := fun m ρ m' ρ' _ hag => by
  refine ⟨fun c => (Cert.InIdeal.Gen.dats m 0 c).arrAt 3 Cert.InIdeal.cfg0.N,
    fun c => (Cert.InIdeal.Gen.dats m 0 c).arrAt 4 Cert.InIdeal.cfg0.N, Cert.InIdeal.Value.run_blocks m ρ, ?_⟩
  refine (θ_run _ _ _).mono (fun _ h c => ?_) (Cert.InRefIdeal.Value.run m' ρ')
  obtain ⟨h0, h1, hk⟩ := h c
  obtain ⟨e0, e1, e2⟩ := hag c
  refine ⟨h0.trans (Cert.InIdeal.At.arr3 m c _ fun i j => ?_).symm, h1.trans (Cert.InIdeal.At.arr4 m c _ fun i j => ?_).symm, hk⟩
  · refine (Cert.InRefIdeal.At.res_h _ _ i j).trans ?_
    rw [e0, e1]
  · refine (Cert.InRefIdeal.At.res_a _ _ _ i j).trans ?_
    rw [e0, e1, e2]

end Cert.Proof.In

end
-- ==== Proof.OutVal.lean ====
/- The mixer's output product, added to the residual stream: kernel and reference hold the same array. -/
module

public import proofs.«01_k».proof.Proof.Gen.OutIdeal.Value
public import proofs.«01_k».proof.Proof.Gen.OutRefIdeal.Run
public import proofs.«01_k».proof.Defs
public import proofs.«01_k».proof.Proof.Gen.Out.Frame
public import Idealize.ShloMosaic.Adequacy
public import Idealize.ShloMosaic.Init
public import Idealize.ShloMosaic.Lib.Pointwise
public import Idealize.ShloMosaic.Lib.Tactic.CleanTypes
public import Idealize.ShloMosaic.Lib.Pipeline.ReadBack
public import Idealize.ShloMosaic.Lib.Pipeline.ValueKit

@[expose] public section

set_option maxRecDepth 16384

noncomputable section

namespace Cert.OutIdeal.At

open Idealize.ShloMosaic Idealize.SL.Sem Idealize.ShloMosaic.TcCoe Cert.OutIdeal Cert.OutIdeal.Gen

variable (m : (ℓ : Loc nD τ sig) → Buf (Elt Ideal) ℓ) (c : Dev nD)

abbrev Aa : S8192x1024.Idx → EReal := m ((c : Thread nD τ).loc main_arg0)
abbrev Wa : S1024x1024.Idx → EReal := m ((c : Thread nD τ).loc main_arg1)
abbrev Xa : S8192x1024.Idx → EReal := m ((c : Thread nD τ).loc main_arg2)

/-- A row of the residual stream with its product added, at a column. -/
def spec (A : S8192x1024.Idx → EReal) (W : S1024x1024.Idx → EReal) (X : S8192x1024.Idx → EReal) (i : Fin 8192) (j : Fin 1024) : EReal :=
  X (ix2 i j) + ∑ k : Fin 1024, A (ix2 i k) * W (ix2 k j)

theorem pay_at (v0 : FVec Ideal S512x1024 .f32) (v1 : FVec Ideal S512x1024 .bf16) (v2 : FVec Ideal S1x1024x1024 .bf16) (r : Fin 512) (j : Fin 1024) :
    (k0_pay1 (F := Ideal) v0 v1 v2 (ix2 r j) : EReal) = v0 (ix2 r j) + ∑ k : Fin 1024, v1 (ix2 r k) * v2 (ix3 0 k j) := by
  unfold k0_pay1
  pointwise

theorem V_w : V m c main_v1 = (broadcastInDim S1x1024x1024 ![1, 2] bcast_S1024x1024_S1x1024x1024_1_2
    (truncf (F := Ideal) (s := S1024x1024) (φ := .f32) .bf16 (Wa m c) bitsLt_bf16_f32 : FVec Ideal S1024x1024 .bf16) : FVec Ideal S1x1024x1024 .bf16) := by
  unfold_abbrev_sides
  after_results

theorem w_at (z : Fin 1) (k : Fin 1024) (j : Fin 1024) : (V m c main_v1 (ix3 z k j) : EReal) = Wa m c (ix2 k j) := by
  rw [V_w]
  pointwise

theorem idx : ∀ t : Fin cfg0.N, win0_0.index t = ![t.val, 0] ∧ win0_1.index t = ![0, 0, 0] ∧ win0_2.index t = ![t.val, 0]
    ∧ win0_3.index t = ![t.val, 0] :=
  (by decide +kernel : ∀ t : Fin grid0.N, _)

/-- The row that a point's row is. -/
abbrev row (t : Fin cfg0.N) (r : Fin 512) : Fin 8192 := ⟨t.val * 512 + r.val, by have := t.isLt; have : cfg0.N = 16 := N_0; omega⟩

theorem a_blk (t : Fin cfg0.N) (r : Fin 512) (k : Fin 1024) : (iblk m c 0 t (ix2 r k) : EReal) = Aa m c (ix2 (row t r) k) := by
  blk_ext [iblk, V, idx t]

theorem x_blk (t : Fin cfg0.N) (r : Fin 512) (j : Fin 1024) : (iblk m c 2 t (ix2 r j) : EReal) = Xa m c (ix2 (row t r) j) := by
  blk_ext [iblk, V, idx t]

theorem w_blk (t : Fin cfg0.N) (z : Fin 1) (k : Fin 1024) (j : Fin 1024) : (iblk m c 1 t (ix3 z k j) : EReal) = Wa m c (ix2 k j) := by
  refine Eq.trans ?_ (w_at m c z k j)
  show (V m c main_v1 _ : EReal) = _
  blk_ext [iblk, idx t]

/-- The kernel's array. -/
theorem arr (G : S8192x1024.Idx → EReal) (hG : ∀ i j, G (ix2 i j) = spec (Aa m c) (Wa m c) (Xa m c) i j) :
    (dats m 0 c).arrAt 3 cfg0.N = G := by
  refine (dats m 0 c).arrAt_eq_of_covers 3 _ (by decide +kernel) fun t hf y => ?_
  blk_simp
  rw [after0_3]
  frame_out
  obtain ⟨r, j, rfl⟩ : ∃ (r : Fin 512) (j : Fin 1024), y = ix2 r j := ⟨y 0, y 1, eq_ix2 y⟩
  refine (pay_at _ _ _ r j).trans ?_
  simp only [a_blk, x_blk, w_blk]
  refine (hG (row t r) j).symm.trans (congrArg G ?_)
  blk_ext [idx t]

end Cert.OutIdeal.At

namespace Cert.OutRefIdeal.At

open Idealize.ShloMosaic Idealize.SL.Sem Idealize.ShloMosaic.StableHlo Cert.OutRefIdeal Cert.OutRefIdeal.Gen

/-- The reference's array. -/
theorem res_at (A : FVec Ideal S8192x1024 .bf16) (W : FVec Ideal S1024x1024 .f32) (X : FVec Ideal S8192x1024 .f32) (i : Fin 8192) (j : Fin 1024) :
    (addf X (Host.dotGeneral dot_S8192x1024_S1024x1024_S8192x1024_1_0_0_1_n_n none (extf .f32 A bitsLt_bf16_f32) W) (ix2 i j) : EReal)
      = Cert.OutIdeal.At.spec A W X i j := by
  pointwise
  rfl

end Cert.OutRefIdeal.At

namespace Cert.Proof.Out

open Idealize.ShloMosaic Idealize.SL.Sem Idealize.ShloMosaic.StableHlo

theorem frame_r : Cert.quiescent_OutRefIdeal := fun m ρ _ =>
  (θ_run Cert.OutRefIdeal.defs _ _).mono (fun r h => ⟨fun c => (h c).2, sem_eq_zero_of_no_sems (by decide) r.2⟩)
    (Cert.OutRefIdeal.Value.run m ρ)

theorem algebraic : Cert.algebraic_OutIdeal_OutRefIdeal := fun m ρ m' ρ' _ hag => by
  refine ⟨fun c => (Cert.OutIdeal.Gen.dats m 0 c).arrAt 3 Cert.OutIdeal.cfg0.N, Cert.OutIdeal.Value.run_blocks m ρ, ?_⟩
  refine (θ_run _ _ _).mono (fun _ h c => ?_) (Cert.OutRefIdeal.Value.run m' ρ')
  obtain ⟨h0, hk⟩ := h c
  refine ⟨h0.trans (Cert.OutIdeal.At.arr m c _ fun i j => ?_).symm, hk⟩
  obtain ⟨e0, e1, e2⟩ := hag c
  refine (Cert.OutRefIdeal.At.res_at _ _ _ i j).trans ?_
  rw [e0, e1, e2]

end Cert.Proof.Out

end
-- ==== Proof.GluVal.lean ====
/- The gated linear unit of the state space mixer: kernel and reference hold the same arrays. -/
module

public import proofs.«01_k».proof.Proof.Gen.GluIdeal.Value
public import proofs.«01_k».proof.Proof.Gen.GluRefIdeal.Run
public import proofs.«01_k».proof.Defs
public import Idealize.ShloMosaic.Adequacy
public import Idealize.ShloMosaic.Init
public import proofs.«01_k».proof.Proof.Gelu
public import proofs.«01_k».proof.Proof.Norm

@[expose] public section

set_option maxRecDepth 16384

noncomputable section

namespace Cert.GluIdeal.At

open Idealize.ShloMosaic Idealize.SL.Sem Idealize.ShloMosaic.TcCoe Cert.GluIdeal Cert.GluIdeal.Gen Cert.Gelu

variable (m : (ℓ : Loc nD τ sig) → Buf (Elt Ideal) ℓ) (c : Dev nD)

abbrev Fa : S8192x512.Idx → EReal := m ((c : Thread nD τ).loc main_arg0)
abbrev Ba : S8192x512.Idx → EReal := m ((c : Thread nD τ).loc main_arg1)
abbrev Za : S8192x1280.Idx → EReal := m ((c : Thread nD τ).loc main_arg2)
abbrev Ta : S8192x512.Idx → EReal := m ((c : Thread nD τ).loc main_arg3)
abbrev Da : S512.Idx → EReal := m ((c : Thread nD τ).loc main_arg4)
abbrev Wa : S512x1024.Idx → EReal := m ((c : Thread nD τ).loc main_arg5)

/-- The column of the projected row that a channel is fed from. -/
abbrev ucol (j : Fin 512) : Fin 1280 := ⟨768 + j.val, by omega⟩

/-- A channel before its activation. -/
def pre (F B : S8192x512.Idx → EReal) (Z : S8192x1280.Idx → EReal) (D : S512.Idx → EReal) (i : Fin 8192) (j : Fin 512) : EReal :=
  D (ix1 j) * Z (ix2 i (ucol j)) + F (ix2 i j) + B (ix2 i j)

/-- A unit's product. -/
def prod (F B : S8192x512.Idx → EReal) (Z : S8192x1280.Idx → EReal) (D : S512.Idx → EReal) (W : S512x1024.Idx → EReal) (i : Fin 8192) (n : Fin 1024) : EReal :=
  ∑ k : Fin 512, gelu (pre F B Z D i k) * W (ix2 k n)

/-- A row of the mixer: the attention's columns, then the gated products. -/
def mixed (F B : S8192x512.Idx → EReal) (Z : S8192x1280.Idx → EReal) (T : S8192x512.Idx → EReal) (D : S512.Idx → EReal) (W : S512x1024.Idx → EReal)
    (i : Fin 8192) (n : Fin 1024) : EReal :=
  if h : n.val < 512 then T (ix2 i ⟨n.val, h⟩) else prod F B Z D W i ⟨n.val - 512, by omega⟩ * Ideal.logistic (prod F B Z D W i n)

theorem pre_at (v0 v1 : FVec Ideal S512x256 .f32) (v3 : FVec Ideal S1x512 .f32) (v7 v9 : FVec Ideal S512x512 .f32) (r j : Fin 512) :
    (k0_pay5 (F := Ideal) v0 v1 v3 v7 v9 (ix2 r j) : EReal)
      = (v3 (ix2 0 j) * if h : j.val < 256 then v0 (ix2 r ⟨j.val, h⟩) else v1 (ix2 r ⟨j.val - 256, by omega⟩)) + v7 (ix2 r j) + v9 (ix2 r j) := by
  unfold k0_pay5
  pointwise

theorem half_mul (a y x : EReal) : a * y * x = y * (a * x) := by
  rw [mul_comm a y, mul_assoc]

theorem act_at (v0 v1 : FVec Ideal S512x256 .f32) (v3 : FVec Ideal S1x512 .f32) (v7 v9 : FVec Ideal S512x512 .f32) (r j : Fin 512) :
    (k0_pay6 (F := Ideal) v0 v1 v3 v7 v9 (ix2 r j) : EReal) = gelu (k0_pay5 (F := Ideal) v0 v1 v3 v7 v9 (ix2 r j)) := by
  unfold k0_pay6
  pointwise
  unfold gelu arg
  exact half_mul _ _ _

theorem prod_at (h : FVec Ideal S512x512 .bf16) (w : FVec Ideal S1x1x512x256 .bf16) (r : Fin 512) (q : Fin 256) :
    (k0_pay1 (F := Ideal) h w (ix2 r q) : EReal) = ∑ k : Fin 512, h (ix2 r k) * w (ix4 0 0 k q) := by
  unfold k0_pay1
  pointwise

theorem mix_at (v0 v1 : FVec Ideal S512x512 .f32) (r j : Fin 512) :
    (k0_pay4 (F := Ideal) v0 v1 (ix2 r j) : EReal) = v0 (ix2 r j) * Ideal.logistic (v1 (ix2 r j)) := by
  unfold k0_pay4
  pointwise

theorem V_w : V m c main_v3 = (broadcastInDim S1x4x512x256 ![1, 2, 3] bcast_S4x512x256_S1x4x512x256_1_2_3
    (transpose S4x512x256 [1, 0, 2] (shapeCast S512x4x256 (truncf (F := Ideal) (s := S512x1024) (φ := .f32) .bf16 (Wa m c) bitsLt_bf16_f32 : FVec Ideal S512x1024 .bf16)
      shapeCasts_S512x1024_S512x4x256) transposes_S512x4x256_S4x512x256_1_0_2) : FVec Ideal S1x4x512x256 .bf16) := by
  unfold_abbrev_sides
  after_results
  rfl

theorem V_d : V m c main_v4 = (shapeCast S1x512 (Da m c : FVec Ideal S512 .f32) shapeCasts_S512_S1x512 : FVec Ideal S1x512 .f32) := by
  unfold_abbrev_sides
  after_results
  rfl

/-- The column that a piece's column is. -/
abbrev col (b : Fin 4) (q : Fin 256) : Fin 1024 := ⟨b.val * 256 + q.val, by omega⟩

theorem w_at (z : Fin 1) (b : Fin 4) (k : Fin 512) (q : Fin 256) : (V m c main_v3 (ix4 z b k q) : EReal) = Wa m c (ix2 k (col b q)) := by
  rw [V_w]
  pointwise

theorem d_at (z : Fin 1) (k : Fin 512) : (V m c main_v4 (ix2 z k) : EReal) = Da m c (ix1 k) := by
  rw [V_d]
  pointwise

theorem idx : ∀ t : Fin cfg0.N, win0_0.index t = ![t.val, 0] ∧ win0_1.index t = ![t.val, 0] ∧ win0_2.index t = ![t.val, 3]
    ∧ win0_3.index t = ![t.val, 4] ∧ win0_4.index t = ![t.val, 0] ∧ win0_5.index t = ![0, 0] ∧ win0_6.index t = ![0, 0, 0, 0]
    ∧ win0_7.index t = ![t.val, 0] ∧ win0_8.index t = ![t.val, 0] ∧ win0_9.index t = ![t.val, 0] :=
  (by decide +kernel : ∀ t : Fin grid0.N, _)

/-- The row that a point's row is. -/
abbrev row (t : Fin cfg0.N) (r : Fin 512) : Fin 8192 := ⟨t.val * 512 + r.val, by have := t.isLt; have : cfg0.N = 16 := N_0; omega⟩

theorem f_blk (t : Fin cfg0.N) (r k : Fin 512) : (iblk m c 0 t (ix2 r k) : EReal) = Fa m c (ix2 (row t r) k) := by
  blk_ext [iblk, V, idx t]

theorem b_blk (t : Fin cfg0.N) (r k : Fin 512) : (iblk m c 1 t (ix2 r k) : EReal) = Ba m c (ix2 (row t r) k) := by
  blk_ext [iblk, V, idx t]

theorem u_blk (t : Fin cfg0.N) (r : Fin 512) (k : Fin 256) : (iblk m c 2 t (ix2 r k) : EReal) = Za m c (ix2 (row t r) ⟨768 + k.val, by omega⟩) := by
  blk_ext [iblk, V, idx t]

theorem u_blk' (t : Fin cfg0.N) (r : Fin 512) (k : Fin 256) : (iblk m c 3 t (ix2 r k) : EReal) = Za m c (ix2 (row t r) ⟨1024 + k.val, by omega⟩) := by
  blk_ext [iblk, V, idx t]

theorem t_blk (t : Fin cfg0.N) (r k : Fin 512) : (iblk m c 4 t (ix2 r k) : EReal) = Ta m c (ix2 (row t r) k) := by
  blk_ext [iblk, V, idx t]

theorem d_blk (t : Fin cfg0.N) (z : Fin 1) (k : Fin 512) : (iblk m c 5 t (ix2 z k) : EReal) = Da m c (ix1 k) := by
  refine Eq.trans ?_ (d_at m c z k)
  show (V m c main_v4 _ : EReal) = _
  blk_ext [iblk, idx t]

theorem w_blk (t : Fin cfg0.N) (z : Fin 1) (b : Fin 4) (k : Fin 512) (q : Fin 256) : (iblk m c 6 t (ix4 z b k q) : EReal) = Wa m c (ix2 k (col b q)) := by
  refine Eq.trans ?_ (w_at m c z b k q)
  show (V m c main_v3 _ : EReal) = _
  blk_ext [iblk, idx t]

theorem w_ld (t : Fin cfg0.N) (b : Fin 4) (inb) (k : Fin 512) (q : Fin 256) :
    (View.ld (iblk m c 6 t) (Rect.unit (s := S1x4x512x256) ![0, b.val, 0, 0] ![1, 1, 512, 256] inb) (ix4 0 0 k q) : EReal) = Wa m c (ix2 k (col b q)) := by
  refine (View.ld_unit_apply_of _ _ _ inb (ix4 0 0 k q) (ix4 0 b k q) (fun a => by fin_cases a <;> simp)).trans ?_
  exact w_blk m c t 0 b k q

theorem y_blk (t : Fin cfg0.N) (r k : Fin 512) :
    (k0_pay5 (F := Ideal) (iblk m c 2 t) (iblk m c 3 t) (iblk m c 5 t) (iblk m c 0 t) (iblk m c 1 t) (ix2 r k) : EReal)
      = pre (Fa m c) (Ba m c) (Za m c) (Da m c) (row t r) k := by
  refine (pre_at _ _ _ _ _ r k).trans ?_
  simp only [f_blk, b_blk, d_blk, u_blk, u_blk']
  unfold pre
  congr 3
  by_cases h : k.val < 256
  · rw [dif_pos h]
  · rw [dif_neg h]
    congr 2
    exact Fin.ext (by show 1024 + (k.val - 256) = 768 + k.val; omega)

theorem g_blk (t : Fin cfg0.N) (b : Fin 4) (inb) (r : Fin 512) (q : Fin 256) :
    (k0_pay1 (F := Ideal) (k0_pay6 (F := Ideal) (iblk m c 2 t) (iblk m c 3 t) (iblk m c 5 t) (iblk m c 0 t) (iblk m c 1 t))
      (View.ld (iblk m c 6 t) (Rect.unit (s := S1x4x512x256) ![0, b.val, 0, 0] ![1, 1, 512, 256] inb)) (ix2 r q) : EReal)
      = prod (Fa m c) (Ba m c) (Za m c) (Da m c) (Wa m c) (row t r) (col b q) := by
  refine (prod_at _ _ r q).trans ?_
  simp only [act_at, y_blk, w_ld]
  rfl

/-- The four pieces are stored by one formula. -/
theorem pay2_eq (h : FVec Ideal S512x512 .bf16) (w : FVec Ideal S1x1x512x256 .bf16) : k0_pay2 (F := Ideal) h w = k0_pay1 h w := rfl

theorem pay3_eq (h : FVec Ideal S512x512 .bf16) (w : FVec Ideal S1x1x512x256 .bf16) : k0_pay3 (F := Ideal) h w = k0_pay1 h w := rfl

theorem pay7_eq (v0 v1 : FVec Ideal S512x256 .f32) (v3 : FVec Ideal S1x512 .f32) (v7 v9 : FVec Ideal S512x512 .f32) (w : FVec Ideal S1x1x512x256 .bf16) :
    k0_pay7 (F := Ideal) v0 v1 v3 v7 v9 w = k0_pay1 (k0_pay6 v0 v1 v3 v7 v9) w := rfl

set_option maxHeartbeats 2000000 in
/-- The channels before their activation. -/
theorem arr7 (G : S8192x512.Idx → EReal) (hG : ∀ i k, G (ix2 i k) = pre (Fa m c) (Ba m c) (Za m c) (Da m c) i k) :
    (dats m 0 c).arrAt 7 cfg0.N = G := by
  refine (dats m 0 c).arrAt_eq_of_covers 7 _ (by decide +kernel) fun t hf y => ?_
  blk_simp
  rw [after0_7]
  simp only [outsAt0]
  frame_out
  obtain ⟨r, k, rfl⟩ : ∃ (r k : Fin 512), y = ix2 r k := ⟨y 0, y 1, eq_ix2 y⟩
  refine (y_blk m c t r k).trans ((hG (row t r) k).symm.trans (congrArg G ?_))
  blk_ext [idx t]

/-- What a point's row holds after the four products are stored. -/
theorem held (t : Fin cfg0.N) (r : Fin 512) (n : Fin 1024) :
    (View.canon (Val := Elt Ideal) (s := S512x1024) (e := .f32)
      [⟨Rect.unit ![0, 768] ![512, 256] inb_S512x1024_S512x256_0_768, k0_pay1 (k0_pay6 (F := Ideal) (iblk m c 2 t) (iblk m c 3 t) (iblk m c 5 t) (iblk m c 0 t) (iblk m c 1 t))
          (View.ld (iblk m c 6 t) (Rect.unit ![0, 3, 0, 0] ![1, 1, 512, 256] inb_S1x4x512x256_S1x1x512x256_0_3_0_0))⟩,
       ⟨Rect.unit ![0, 512] ![512, 256] inb_S512x1024_S512x256_0_512, k0_pay1 (k0_pay6 (F := Ideal) (iblk m c 2 t) (iblk m c 3 t) (iblk m c 5 t) (iblk m c 0 t) (iblk m c 1 t))
          (View.ld (iblk m c 6 t) (Rect.unit ![0, 2, 0, 0] ![1, 1, 512, 256] inb_S1x4x512x256_S1x1x512x256_0_2_0_0))⟩,
       ⟨Rect.unit ![0, 256] ![512, 256] inb_S512x1024_S512x256_0_256, k0_pay1 (k0_pay6 (F := Ideal) (iblk m c 2 t) (iblk m c 3 t) (iblk m c 5 t) (iblk m c 0 t) (iblk m c 1 t))
          (View.ld (iblk m c 6 t) (Rect.unit ![0, 1, 0, 0] ![1, 1, 512, 256] inb_S1x4x512x256_S1x1x512x256_0_1_0_0))⟩,
       ⟨Rect.unit ![0, 0] ![512, 256] inb_S512x1024_S512x256_0_0, k0_pay1 (k0_pay6 (F := Ideal) (iblk m c 2 t) (iblk m c 3 t) (iblk m c 5 t) (iblk m c 0 t) (iblk m c 1 t))
          (View.ld (iblk m c 6 t) (Rect.unit ![0, 0, 0, 0] ![1, 1, 512, 256] inb_S1x4x512x256_S1x1x512x256_0_0_0_0))⟩] (ix2 r n) : EReal)
      = prod (Fa m c) (Ba m c) (Za m c) (Da m c) (Wa m c) (row t r) n := by
  canon_tiles x hx
  · exact Norm.part r n 768 _ (prod (Fa m c) (Ba m c) (Za m c) (Da m c) (Wa m c) (row t r)) (fun q _ => g_blk m c t 3 _ r q) x (by simpa using hx0) hx1
  · exact Norm.part r n 512 _ (prod (Fa m c) (Ba m c) (Za m c) (Da m c) (Wa m c) (row t r)) (fun q _ => g_blk m c t 2 _ r q) x (by simpa using hx0) hx1
  · exact Norm.part r n 256 _ (prod (Fa m c) (Ba m c) (Za m c) (Da m c) (Wa m c) (row t r)) (fun q _ => g_blk m c t 1 _ r q) x (by simpa using hx0) hx1
  · exact Norm.part r n 0 _ (prod (Fa m c) (Ba m c) (Za m c) (Da m c) (Wa m c) (row t r)) (fun q hq => (g_blk m c t 0 _ r q).trans (congrArg _ (Fin.ext (by simp)))) x (by simpa using hx0) (by simpa using hx1)

theorem held_at (t : Fin cfg0.N) (r : Fin 512) (n : Fin 1024) (z : S512x1024.Idx) (h0 : (z 0).val = r.val) (h1 : (z 1).val = n.val) :
    (View.canon (Val := Elt Ideal) (s := S512x1024) (e := .f32)
      [⟨Rect.unit ![0, 768] ![512, 256] inb_S512x1024_S512x256_0_768, k0_pay1 (k0_pay6 (F := Ideal) (iblk m c 2 t) (iblk m c 3 t) (iblk m c 5 t) (iblk m c 0 t) (iblk m c 1 t))
          (View.ld (iblk m c 6 t) (Rect.unit ![0, 3, 0, 0] ![1, 1, 512, 256] inb_S1x4x512x256_S1x1x512x256_0_3_0_0))⟩,
       ⟨Rect.unit ![0, 512] ![512, 256] inb_S512x1024_S512x256_0_512, k0_pay1 (k0_pay6 (F := Ideal) (iblk m c 2 t) (iblk m c 3 t) (iblk m c 5 t) (iblk m c 0 t) (iblk m c 1 t))
          (View.ld (iblk m c 6 t) (Rect.unit ![0, 2, 0, 0] ![1, 1, 512, 256] inb_S1x4x512x256_S1x1x512x256_0_2_0_0))⟩,
       ⟨Rect.unit ![0, 256] ![512, 256] inb_S512x1024_S512x256_0_256, k0_pay1 (k0_pay6 (F := Ideal) (iblk m c 2 t) (iblk m c 3 t) (iblk m c 5 t) (iblk m c 0 t) (iblk m c 1 t))
          (View.ld (iblk m c 6 t) (Rect.unit ![0, 1, 0, 0] ![1, 1, 512, 256] inb_S1x4x512x256_S1x1x512x256_0_1_0_0))⟩,
       ⟨Rect.unit ![0, 0] ![512, 256] inb_S512x1024_S512x256_0_0, k0_pay1 (k0_pay6 (F := Ideal) (iblk m c 2 t) (iblk m c 3 t) (iblk m c 5 t) (iblk m c 0 t) (iblk m c 1 t))
          (View.ld (iblk m c 6 t) (Rect.unit ![0, 0, 0, 0] ![1, 1, 512, 256] inb_S1x4x512x256_S1x1x512x256_0_0_0_0))⟩] z : EReal)
      = prod (Fa m c) (Ba m c) (Za m c) (Da m c) (Wa m c) (row t r) n := by
  obtain rfl : z = ix2 r n := (eq_ix2 z).trans (congrArg₂ ix2 (Fin.ext h0) (Fin.ext h1))
  exact held m c t r n

/-- The products. -/
theorem arr8 (G : S8192x1024.Idx → EReal) (hG : ∀ i n, G (ix2 i n) = prod (Fa m c) (Ba m c) (Za m c) (Da m c) (Wa m c) i n) :
    (dats m 0 c).arrAt 8 cfg0.N = G := by
  refine (dats m 0 c).arrAt_eq_of_covers 8 _ (by decide +kernel) fun t hf y => ?_
  blk_simp
  rw [after0_8]
  frame_out
  obtain ⟨r, n, rfl⟩ : ∃ (r : Fin 512) (n : Fin 1024), y = ix2 r n := ⟨y 0, y 1, eq_ix2 y⟩
  refine Eq.trans ?_ ((hG (row t r) n).symm.trans (congrArg G ?_))
  · simp only [pay2_eq, pay3_eq, pay7_eq]
    exact held m c t r n
  · blk_ext [idx t]

set_option maxHeartbeats 2000000 in
/-- The mixer's rows. -/
theorem arr9 (G : S8192x1024.Idx → EReal) (hG : ∀ i n, G (ix2 i n) = mixed (Fa m c) (Ba m c) (Za m c) (Ta m c) (Da m c) (Wa m c) i n) :
    (dats m 0 c).arrAt 9 cfg0.N = G := by
  refine (dats m 0 c).arrAt_eq_of_covers 9 _ (by decide +kernel) fun t hf y => ?_
  blk_simp
  rw [after0_9]
  frame_out
  obtain ⟨r, n, rfl⟩ : ∃ (r : Fin 512) (n : Fin 1024), y = ix2 r n := ⟨y 0, y 1, eq_ix2 y⟩
  refine Eq.trans ?_ ((hG (row t r) n).symm.trans (congrArg G ?_))
  · simp only [pay2_eq, pay3_eq, pay7_eq, View.readCov_eq_canon']
    canon_tiles x hx
    · refine Norm.part r n 512 _ (mixed (Fa m c) (Ba m c) (Za m c) (Ta m c) (Da m c) (Wa m c) (row t r)) (fun q hq => ?_) x (by simpa using hx0) hx1
      refine (mix_at _ _ r q).trans ?_
      unfold mixed
      rw [dif_neg (by simp)]
      refine congrArg₂ (· * ·) ((held_at m c t r ⟨q.val, by omega⟩ _ ?_ ?_).trans (congrArg _ (Fin.ext ?_)))
        (congrArg Ideal.logistic (held_at m c t r ⟨512 + q.val, hq⟩ _ ?_ ?_)) <;> simp
    · refine Norm.part r n 0 _ (mixed (Fa m c) (Ba m c) (Za m c) (Ta m c) (Da m c) (Wa m c) (row t r)) (fun q hq => ?_) x (by simpa using hx0) (by simpa using hx1)
      refine (t_blk m c t r q).trans ?_
      unfold mixed
      rw [dif_pos (by simp)]
      exact congrArg _ (congrArg (ix2 _) (Fin.ext (by simp)))
  · blk_ext [idx t]

end Cert.GluIdeal.At

namespace Cert.GluRefIdeal.At

open Idealize.ShloMosaic Idealize.SL.Sem Idealize.ShloMosaic.StableHlo Cert.GluRefIdeal Cert.GluRefIdeal.Gen Cert.GluIdeal.At

variable (m : (ℓ : Loc nD τ sig) → Buf (Elt Ideal) ℓ) (c : Dev nD)

/-- The reference's channels before their activation. -/
theorem res_y (F B : FVec Ideal S8192x512 .f32) (Z : FVec Ideal S8192x1280 .f32) (D : FVec Ideal S512 .f32) (i : Fin 8192) (j : Fin 512) :
    (addf (addf (mulf (broadcastInDim S8192x512 ![0, 1] bcast_S1x512_S8192x512_0_1 (broadcastInDim S1x512 ![1] bcast_S512_S1x512_1 D))
      (extractStridedSlice S8192x512 ![0, 768] Z slices_S8192x1280_S8192x512_0_768)) F) B (ix2 i j) : EReal) = pre F B Z D i j := by
  pointwise
  rfl

/-- The product of the activated channels. -/
theorem res_p (Y : FVec Ideal S8192x512 .f32) (W : FVec Ideal S512x1024 .f32) (i : Fin 8192) (n : Fin 1024) :
    (Host.dotGeneral dot_S8192x512_S512x1024_S8192x1024_1_0_0_1_n_n none (mulf Y (mulf (broadcastInDim S8192x512 ![] bcast_S_S8192x512 (constant S_ .f32 0x3F000000#32))
      (addf (broadcastInDim S8192x512 ![] bcast_S_S8192x512 (constant S_ .f32 0x3F800000#32)) (Host.tanh (mulf (broadcastInDim S8192x512 ![] bcast_S_S8192x512 (constant S_ .f32 0x3F4C422A#32))
        (addf Y (mulf (broadcastInDim S8192x512 ![] bcast_S_S8192x512 (constant S_ .f32 0x3D372713#32)) (mulf (mulf Y Y) Y)))))))) W (ix2 i n) : EReal)
      = ∑ k : Fin 512, Gelu.gelu (Y (ix2 i k)) * W (ix2 k n) := by
  pointwise
  rfl

/-- The gate over any products. -/
theorem res_m (P : FVec Ideal S8192x1024 .f32) (T : FVec Ideal S8192x512 .bf16) (F B : FVec Ideal S8192x512 .f32) (Z : FVec Ideal S8192x1280 .f32) (D : FVec Ideal S512 .f32)
    (W : FVec Ideal S512x1024 .f32) (hP : ∀ i n, (P (ix2 i n) : EReal) = prod F B Z D W i n) (i : Fin 8192) (n : Fin 1024) :
    (truncf .bf16 (concatenate S8192x1024 1 [⟨S8192x512, (extf .f32 T bitsLt_bf16_f32)⟩, ⟨S8192x512, (mulf (extractStridedSlice S8192x512 ![0, 0] P slices_S8192x1024_S8192x512_0_0)
      (Host.divf (broadcastInDim S8192x512 ![] bcast_S_S8192x512 (constant S_ .f32 0x3F800000#32)) (addf (broadcastInDim S8192x512 ![] bcast_S_S8192x512 (constant S_ .f32 0x3F800000#32))
        (Host.exp (Host.negf (extractStridedSlice S8192x512 ![0, 512] P slices_S8192x1024_S8192x512_0_512))))))⟩] concatenates_S8192x512_S8192x512_S8192x1024_d1) bitsLt_bf16_f32 (ix2 i n) : EReal)
      = mixed F B Z T D W i n := by
  pointwise
  unfold mixed
  split
  · rfl
  · have e : (⟨512 + (n.val - 512), by omega⟩ : Fin 1024) = n := Fin.ext (by show 512 + (n.val - 512) = n.val; omega)
    rw [e, hP, hP]
    rfl

end Cert.GluRefIdeal.At

namespace Cert.Proof.Glu

open Idealize.ShloMosaic Idealize.SL.Sem Idealize.ShloMosaic.StableHlo

theorem frame_r : Cert.quiescent_GluRefIdeal := fun m ρ _ =>
  (θ_run Cert.GluRefIdeal.defs _ _).mono (fun r h => ⟨fun c => (h c).2.2.2, sem_eq_zero_of_no_sems (by decide) r.2⟩)
    (Cert.GluRefIdeal.Value.run m ρ)

theorem algebraic : Cert.algebraic_GluIdeal_GluRefIdeal := fun m ρ m' ρ' _ hag => by
  refine ⟨fun c => (Cert.GluIdeal.Gen.dats m 0 c).arrAt 7 Cert.GluIdeal.cfg0.N, fun c => (Cert.GluIdeal.Gen.dats m 0 c).arrAt 8 Cert.GluIdeal.cfg0.N,
    fun c => (Cert.GluIdeal.Gen.dats m 0 c).arrAt 9 Cert.GluIdeal.cfg0.N, Cert.GluIdeal.Value.run_blocks m ρ, ?_⟩
  refine (θ_run _ _ _).mono (fun _ h c => ?_) (Cert.GluRefIdeal.Value.run m' ρ')
  obtain ⟨h0, h1, h2, hk⟩ := h c
  obtain ⟨e0, e1, e2, e3, e4, e5⟩ := hag c
  have hp : ∀ i n, (_ : EReal) = Cert.GluIdeal.At.prod _ _ _ _ _ i n := fun i n =>
    (Cert.GluRefIdeal.At.res_p _ (m' ((c.tc : Thread Cert.GluRefIdeal.nD Cert.GluRefIdeal.τ).loc Cert.GluRefIdeal.main_arg5)) i n).trans
      (Finset.sum_congr rfl fun k _ => congrArg₂ (· * ·) (congrArg Gelu.gelu (Cert.GluRefIdeal.At.res_y
        (m' ((c.tc : Thread Cert.GluRefIdeal.nD Cert.GluRefIdeal.τ).loc Cert.GluRefIdeal.main_arg0))
        (m' ((c.tc : Thread Cert.GluRefIdeal.nD Cert.GluRefIdeal.τ).loc Cert.GluRefIdeal.main_arg1))
        (m' ((c.tc : Thread Cert.GluRefIdeal.nD Cert.GluRefIdeal.τ).loc Cert.GluRefIdeal.main_arg2))
        (m' ((c.tc : Thread Cert.GluRefIdeal.nD Cert.GluRefIdeal.τ).loc Cert.GluRefIdeal.main_arg4)) i k)) rfl)
  refine ⟨h0.trans (Cert.GluIdeal.At.arr7 m c _ fun i j => ?_).symm, h1.trans (Cert.GluIdeal.At.arr8 m c _ fun i j => ?_).symm,
    h2.trans (Cert.GluIdeal.At.arr9 m c _ fun i j => ?_).symm, hk⟩
  · refine (Cert.GluRefIdeal.At.res_y _ _ _ _ i j).trans ?_
    rw [e0, e1, e2, e4]
  · refine (hp i j).trans ?_
    rw [e0, e1, e2, e4, e5]
  · unfold Cert.GluRefIdeal.Value.res_main_v31
    refine (Cert.GluRefIdeal.At.res_m _ _ _ _ _ _ _ hp i j).trans ?_
    rw [e0, e1, e2, e3, e4, e5]

end Cert.Proof.Glu

end
-- ==== Proof.BgluVal.lean ====
/- The gradient of the gated linear unit: kernel and reference hold the same arrays. -/
module

public import proofs.«01_k».proof.Proof.Gen.BgluIdeal.Value
public import proofs.«01_k».proof.Proof.Gen.BgluRefIdeal.Run
public import proofs.«01_k».proof.Defs
public import Idealize.ShloMosaic.Adequacy
public import Idealize.ShloMosaic.Init
public import proofs.«01_k».proof.Proof.Norm
public import proofs.«01_k».proof.Proof.Fin

@[expose] public section

set_option maxRecDepth 16384

noncomputable section

namespace Cert.Gelu3

open Idealize.ShloMosaic Cert.Row

theorem half_eq : (Ideal.ofBits .f32 0x3F000000#32 : EReal) = ((1 / 2 : ℝ) : EReal) := by
  simp [Ideal.ofBits, Ideal.ieee, -EReal.coe_mul] <;> norm_num [← EReal.coe_mul, -EReal.coe_mul]

theorem three_eq : (Ideal.ofBits .f32 0x40400000#32 : EReal) = ((3 : ℝ) : EReal) := by
  simp [Ideal.ofBits, Ideal.ieee, -EReal.coe_mul] <;> norm_num [← EReal.coe_mul, -EReal.coe_mul]

theorem num_eq : (Ideal.ofBits .f32 0x472EAB00#32 : EReal) = ((44715 : ℝ) : EReal) := by
  simp [Ideal.ofBits, Ideal.ieee, -EReal.coe_mul] <;> norm_num [← EReal.coe_mul, -EReal.coe_mul]

theorem den_eq : (Ideal.ofBits .f32 0x49742400#32 : EReal) = ((1000000 : ℝ) : EReal) := by
  simp [Ideal.ofBits, Ideal.ieee, -EReal.coe_mul] <;> norm_num [← EReal.coe_mul, -EReal.coe_mul]

theorem root_real : IsReal (Ideal.ofBits .f32 0x3F4C422A#32) := by
  refine ⟨(13386282 : ℝ) * (2 : ℝ) ^ (-24 : ℤ), ?_⟩
  simp [Ideal.ofBits, Ideal.ieee, -EReal.coe_mul] <;> norm_num [← EReal.coe_mul, -EReal.coe_mul]

theorem div_den (x : ℝ) : Ideal.div (x : EReal) (Ideal.ofBits .f32 0x49742400#32) = ((x / 1000000 : ℝ) : EReal) := by
  rw [den_eq]
  unfold Ideal.div
  rw [if_neg (by exact_mod_cast (by norm_num : (1000000 : ℝ) ≠ 0)), ← EReal.coe_inv, ← EReal.coe_mul, div_eq_mul_inv]

/-- The argument of the activation's tanh, its coefficient a quotient. -/
def arg (y : EReal) : EReal :=
  Ideal.ofBits .f32 0x3F4C422A#32 * (y + Ideal.div (Ideal.ofBits .f32 0x472EAB00#32 * (y * y * y)) (Ideal.ofBits .f32 0x49742400#32))

/-- The same, its coefficient one number. -/
def karg (y : EReal) : EReal := Ideal.ofBits .f32 0x3F4C422A#32 * (y + ((8943 / 200000 : ℝ) : EReal) * (y * y * y))

theorem arg_eq {y : EReal} (h : IsReal y) : karg y = arg y := by
  obtain ⟨y, rfl⟩ := h
  unfold karg arg
  rw [num_eq, ← EReal.coe_mul, ← EReal.coe_mul, ← EReal.coe_mul, ← EReal.coe_mul, div_den]
  refine congrArg (fun z : ℝ => Ideal.ofBits .f32 0x3F4C422A#32 * ((y : EReal) + (z : EReal))) ?_
  ring

theorem tanh_real {y : EReal} (h : IsReal y) : IsReal (Ideal.tanh y) := by
  obtain ⟨y, rfl⟩ := h
  exact ⟨_, Ideal.tanh_coe y⟩

theorem logistic_real {y : EReal} (h : IsReal y) : IsReal (Ideal.logistic y) := by
  obtain ⟨y, rfl⟩ := h
  exact ⟨_, Ideal.logistic_coe y⟩

theorem arg_real {y : EReal} (h : IsReal y) : IsReal (karg y) :=
  root_real.mul (h.add ((IsReal.coe _).mul ((h.mul h).mul h)))

/-- The activation, in its tanh form. -/
def act (y : EReal) : EReal := Ideal.ofBits .f32 0x3F000000#32 * y * (1 + Ideal.tanh (arg y))

theorem act_real {y : EReal} (h : IsReal y) : IsReal (act y) := by
  unfold act
  rw [half_eq, ← arg_eq h]
  exact ((IsReal.coe _).mul h).mul (((IsReal.coe 1)).add (tanh_real (arg_real h)))

/-- What the activation hands back of a gradient, as the derivative of its quotient form. -/
def back (g y : EReal) : EReal :=
  Ideal.ofBits .f32 0x3F4C422A#32 * (Ideal.ofBits .f32 0x3F000000#32 * y * g * ((1 + Ideal.tanh (arg y)) * (1 - Ideal.tanh (arg y))))
    + Ideal.ofBits .f32 0x472EAB00#32 * Ideal.div (Ideal.ofBits .f32 0x3F4C422A#32 * (Ideal.ofBits .f32 0x3F000000#32 * y * g
        * ((1 + Ideal.tanh (arg y)) * (1 - Ideal.tanh (arg y))))) (Ideal.ofBits .f32 0x49742400#32) * (Ideal.ofBits .f32 0x40400000#32 * (y * y))
    + Ideal.ofBits .f32 0x3F000000#32 * (g * (1 + Ideal.tanh (arg y)))

/-- The same, as the gradient times the activation's slope. -/
def slope (g y : EReal) : EReal :=
  g * (Ideal.ofBits .f32 0x3F000000#32 * (1 + Ideal.tanh (karg y)) + Ideal.ofBits .f32 0x3F000000#32 * y * (1 - Ideal.tanh (karg y) * Ideal.tanh (karg y))
    * (Ideal.ofBits .f32 0x3F4C422A#32 * (1 + ((26829 / 200000 : ℝ) : EReal) * (y * y))))

theorem slope_eq {g y : EReal} (hg : IsReal g) (hy : IsReal y) : slope g y = back g y := by
  unfold slope back
  rw [← arg_eq hy]
  obtain ⟨T, hT⟩ := tanh_real (arg_real hy)
  obtain ⟨R, hR⟩ := root_real
  obtain ⟨g, rfl⟩ := hg
  obtain ⟨y, rfl⟩ := hy
  rw [hT, hR, half_eq, three_eq, num_eq]
  rw [show (1 : EReal) = ((1 : ℝ) : EReal) from rfl]
  simp only [← EReal.coe_mul, ← EReal.coe_add, ← EReal.coe_sub, div_den]
  refine congrArg _ ?_
  ring

end Cert.Gelu3

namespace Cert.Pre_finite_bglu

open Idealize.ShloMosaic

instance facts : Cert.Pre_finite_bglu.Facts where
  slices_S8192x1024_S8192x512_0_512 := by decide
  concatenates_S8192x512_S8192x512_S8192x1024_d1 := by decide
  concatenates_S8192x1024_S512x1024_S8704x1024_d0 := by decide
  bcast_S_S8704x1024 := by decide

variable (G : FVec Ideal S8192x1024 .f32) (Y : FVec Ideal S8192x512 .f32) (W : FVec Ideal S512x1024 .f32)

/-- What the precondition's array holds: the gate's gradients beside its arguments, then the weight. -/
def cat (i : Fin 8704) (n : Fin 1024) : EReal :=
  if h : i.val < 8192 then
    if h' : n.val < 512 then G (ix2 ⟨i.val, h⟩ ⟨512 + n.val, by omega⟩) else Y (ix2 ⟨i.val, h⟩ ⟨n.val - 512, by omega⟩)
  else W (ix2 ⟨i.val - 8192, by omega⟩ n)

theorem fn_at (i : Fin 8704) (n : Fin 1024) :
    fn G Y W (ix2 i n) = BitVec.ofBool (decide (max (cat G Y W i n) (-(cat G Y W i n)) < ⊤)) := by
  rw [← Cert.Pre_finite.pinf]
  unfold fn
  pointwise
  rfl

variable {G Y W}

theorem cat_real (h : fn (F := Ideal) G Y W = fun _ => 1#1) (i : Fin 8704) (n : Fin 1024) : Row.IsReal (cat G Y W i n) :=
  Cert.Pre_finite.isReal_of _ ((fn_at G Y W i n).symm.trans (congrFun h (ix2 i n)))

theorem g_real (h : fn (F := Ideal) G Y W = fun _ => 1#1) (i : Fin 8192) (j : Fin 512) : Row.IsReal (G (ix2 i ⟨512 + j.val, by omega⟩)) := by
  have hi := cat_real h ⟨i.val, by omega⟩ ⟨j.val, by omega⟩
  unfold cat at hi
  rw [dif_pos i.isLt, dif_pos j.isLt] at hi
  exact hi

theorem y_real (h : fn (F := Ideal) G Y W = fun _ => 1#1) (i : Fin 8192) (j : Fin 512) : Row.IsReal (Y (ix2 i j)) := by
  have hi := cat_real h ⟨i.val, by omega⟩ ⟨512 + j.val, by omega⟩
  unfold cat at hi
  rw [dif_pos i.isLt, dif_neg (by simp)] at hi
  refine Eq.mp (congrArg (fun j => Row.IsReal (Y (ix2 i j))) (Fin.ext ?_)) hi
  show 512 + j.val - 512 = j.val
  omega

theorem w_real (h : fn (F := Ideal) G Y W = fun _ => 1#1) (k : Fin 512) (n : Fin 1024) : Row.IsReal (W (ix2 k n)) := by
  have hi := cat_real h ⟨8192 + k.val, by omega⟩ n
  unfold cat at hi
  rw [dif_neg (by simp)] at hi
  refine Eq.mp (congrArg (fun j => Row.IsReal (W (ix2 j n))) (Fin.ext ?_)) hi
  show 8192 + k.val - 8192 = k.val
  omega

end Cert.Pre_finite_bglu

namespace Cert.BgluIdeal.At

open Idealize.ShloMosaic Idealize.SL.Sem Idealize.ShloMosaic.TcCoe Cert.BgluIdeal Cert.BgluIdeal.Gen

variable (m : (ℓ : Loc nD τ sig) → Buf (Elt Ideal) ℓ) (c : Dev nD)

abbrev Ga : S8192x1024.Idx → EReal := m ((c : Thread nD τ).loc main_arg0)
abbrev Ya : S8192x512.Idx → EReal := m ((c : Thread nD τ).loc main_arg1)
abbrev Wa : S512x1024.Idx → EReal := m ((c : Thread nD τ).loc main_arg2)

/-- A unit's product. -/
def prod (Y : S8192x512.Idx → EReal) (W : S512x1024.Idx → EReal) (i : Fin 8192) (n : Fin 1024) : EReal :=
  ∑ k : Fin 512, Gelu3.act (Y (ix2 i k)) * W (ix2 k n)

/-- The gradient of a unit's product: of the value's half, then of the gate's. -/
def gate (G : S8192x1024.Idx → EReal) (Y : S8192x512.Idx → EReal) (W : S512x1024.Idx → EReal) (i : Fin 8192) (n : Fin 1024) : EReal :=
  if h : n.val < 512 then G (ix2 i ⟨512 + n.val, by omega⟩) * Ideal.logistic (prod Y W i ⟨512 + n.val, by omega⟩)
  else prod Y W i ⟨n.val - 512, by omega⟩ * G (ix2 i ⟨512 + (n.val - 512), by omega⟩)
    * (Ideal.logistic (prod Y W i ⟨512 + (n.val - 512), by omega⟩) * (1 - Ideal.logistic (prod Y W i ⟨512 + (n.val - 512), by omega⟩)))

/-- The gradient of an activated channel. -/
def hid (G : S8192x1024.Idx → EReal) (Y : S8192x512.Idx → EReal) (W : S512x1024.Idx → EReal) (i : Fin 8192) (k : Fin 512) : EReal :=
  ∑ n : Fin 1024, gate G Y W i n * W (ix2 k n)

/-- The arrays hold real numbers where they are read. -/
structure AllReal (G : S8192x1024.Idx → EReal) (Y : S8192x512.Idx → EReal) (W : S512x1024.Idx → EReal) : Prop where
  g : ∀ (i : Fin 8192) (j : Fin 512), Row.IsReal (G (ix2 i ⟨512 + j.val, by omega⟩))
  y : ∀ (i : Fin 8192) (j : Fin 512), Row.IsReal (Y (ix2 i j))
  w : ∀ (k : Fin 512) (n : Fin 1024), Row.IsReal (W (ix2 k n))

section Reals

variable {G : S8192x1024.Idx → EReal} {Y : S8192x512.Idx → EReal} {W : S512x1024.Idx → EReal} (h : AllReal G Y W)
include h

theorem prod_real (i : Fin 8192) (n : Fin 1024) : Row.IsReal (prod Y W i n) :=
  Row.IsReal.sum _ _ fun k => (Gelu3.act_real (h.y i k)).mul (h.w k n)

theorem gate_real (i : Fin 8192) (n : Fin 1024) : Row.IsReal (gate G Y W i n) := by
  unfold gate
  split
  · next hn => exact (h.g i ⟨n.val, hn⟩).mul (Gelu3.logistic_real (prod_real h i _))
  · next hn =>
    refine ((prod_real h i _).mul (h.g i ⟨n.val - 512, by omega⟩)).mul ((Gelu3.logistic_real (prod_real h i _)).mul ?_)
    obtain ⟨x, hx⟩ := Gelu3.logistic_real (prod_real h i ⟨512 + (n.val - 512), by omega⟩)
    rw [hx]
    exact ⟨1 - x, rfl⟩

theorem hid_real (i : Fin 8192) (k : Fin 512) : Row.IsReal (hid G Y W i k) :=
  Row.IsReal.sum _ _ fun n => (gate_real h i n).mul (h.w k n)

end Reals

theorem val_at (g v1 : FVec Ideal S512x512 .f32) (r j : Fin 512) :
    (k0_pay3 (F := Ideal) g v1 (ix2 r j) : EReal) = g (ix2 r j) * Ideal.logistic (v1 (ix2 r j)) := by
  unfold k0_pay3 k0_pay2
  pointwise

theorem mul_four (a b x z : EReal) : a * b * x * z = b * a * (x * z) := by
  rw [mul_comm a b, mul_assoc]

theorem gate_at (g v0 v1 : FVec Ideal S512x512 .f32) (r j : Fin 512) :
    (k0_pay4 (F := Ideal) g v0 v1 (ix2 r j) : EReal)
      = v0 (ix2 r j) * g (ix2 r j) * (Ideal.logistic (v1 (ix2 r j)) * (1 - Ideal.logistic (v1 (ix2 r j)))) := by
  unfold k0_pay4 k0_pay2
  pointwise
  exact mul_four _ _ _ _

theorem kact_at (y : FVec Ideal S512x512 .f32) (r j : Fin 512) (h : Row.IsReal (y (ix2 r j))) :
    (k0_pay5 (F := Ideal) y (ix2 r j) : EReal) = Gelu3.act (y (ix2 r j)) := by
  unfold Gelu3.act
  rw [← Gelu3.arg_eq h]
  unfold k0_pay5
  pointwise
  rfl

theorem tanh_at (y : FVec Ideal S512x512 .f32) (r j : Fin 512) :
    (k0_pay8 (F := Ideal) y (ix2 r j) : EReal) = Ideal.tanh (Gelu3.karg (y (ix2 r j))) := by
  unfold k0_pay8
  pointwise
  rfl

theorem slope_at (y p : FVec Ideal S512x512 .f32) (r j : Fin 512) :
    (k0_pay1 (F := Ideal) y p (k0_pay8 y) (k0_pay9 y) (Scalar.ofBits .f32 0x3F000000#32) (ix2 r j) : EReal) = Gelu3.slope (p (ix2 r j)) (y (ix2 r j)) := by
  unfold Gelu3.slope
  rw [← tanh_at y r j]
  unfold k0_pay1 k0_pay9
  pointwise
  rfl

theorem hid_at (a0 a1 a2 a3 : FVec Ideal S512x256 .bf16) (w0 w1 w2 w3 : FVec Ideal S1x1x512x256 .bf16) (r k : Fin 512) :
    (k0_pay7 (F := Ideal) a0 w0 a1 w1 a2 w2 a3 w3 (ix2 r k) : EReal)
      = (∑ q : Fin 256, a0 (ix2 r q) * w0 (ix4 0 0 k q)) + (∑ q : Fin 256, a1 (ix2 r q) * w1 (ix4 0 0 k q))
        + (∑ q : Fin 256, a2 (ix2 r q) * w2 (ix4 0 0 k q)) + ∑ q : Fin 256, a3 (ix2 r q) * w3 (ix4 0 0 k q) := by
  unfold k0_pay7
  pointwise

/-- The product of the activated channels, as an array's term holds it. -/
theorem host_p (Y : FVec Ideal S8192x512 .f32) (W : FVec Ideal S512x1024 .f32) (i : Fin 8192) (n : Fin 1024) :
    (Host.dotGeneral dot_S8192x512_S512x1024_S8192x1024_1_0_0_1_n_n none (mulf (mulf (broadcastInDim S8192x512 ![] bcast_S_S8192x512 (constant S_ .f32 0x3F000000#32)) Y)
      (addf (broadcastInDim S8192x512 ![] bcast_S_S8192x512 (constant S_ .f32 0x3F800000#32)) (Host.tanh (mulf (broadcastInDim S8192x512 ![] bcast_S_S8192x512 (constant S_ .f32 0x3F4C422A#32))
        (addf Y (Host.divf (mulf (broadcastInDim S8192x512 ![] bcast_S_S8192x512 (constant S_ .f32 0x472EAB00#32)) (mulf (mulf Y Y) Y))
          (broadcastInDim S8192x512 ![] bcast_S_S8192x512 (constant S_ .f32 0x49742400#32)))))))) W (ix2 i n) : EReal)
      = prod Y W i n := by
  pointwise
  rfl

theorem V_w : V m c main_v19 = (broadcastInDim S1x4x512x256 ![1, 2, 3] bcast_S4x512x256_S1x4x512x256_1_2_3
    (transpose S4x512x256 [1, 0, 2] (shapeCast S512x4x256 (truncf (F := Ideal) (s := S512x1024) (φ := .f32) .bf16 (Wa m c) bitsLt_bf16_f32 : FVec Ideal S512x1024 .bf16)
      shapeCasts_S512x1024_S512x4x256) transposes_S512x4x256_S4x512x256_1_0_2) : FVec Ideal S1x4x512x256 .bf16) := by
  unfold_abbrev_sides
  after_results
  rfl

theorem gg_at (i : Fin 8192) (n : Fin 1024) : (V m c main_v15 (ix2 i n) : EReal) = prod (Ya m c) (Wa m c) i n := by
  refine Eq.trans (congrFun ?_ _) (host_p (Ya m c) (Wa m c) i n)
  unfold_abbrev_sides
  after_results
  try rfl

/-- The column that a piece's column is. -/
abbrev col (b : Fin 4) (q : Fin 256) : Fin 1024 := ⟨b.val * 256 + q.val, by omega⟩

theorem w_at (z : Fin 1) (b : Fin 4) (k : Fin 512) (q : Fin 256) : (V m c main_v19 (ix4 z b k q) : EReal) = Wa m c (ix2 k (col b q)) := by
  rw [V_w]
  pointwise

theorem idx : ∀ t : Fin cfg0.N, win0_0.index t = ![t.val, 1] ∧ win0_1.index t = ![t.val, 0] ∧ win0_2.index t = ![t.val, 0]
    ∧ win0_3.index t = ![0, 0, 0, 0] ∧ win0_4.index t = ![t.val, 0] ∧ win0_5.index t = ![t.val, 0] ∧ win0_6.index t = ![t.val, 0] :=
  (by decide +kernel : ∀ t : Fin grid0.N, _)

/-- The row that a point's row is. -/
abbrev row (t : Fin cfg0.N) (r : Fin 512) : Fin 8192 := ⟨t.val * 512 + r.val, by have := t.isLt; have : cfg0.N = 16 := N_0; omega⟩

theorem g_blk (t : Fin cfg0.N) (r k : Fin 512) : (iblk m c 0 t (ix2 r k) : EReal) = Ga m c (ix2 (row t r) ⟨512 + k.val, by omega⟩) := by
  blk_ext [iblk, V, idx t]

theorem p_blk (t : Fin cfg0.N) (r : Fin 512) (n : Fin 1024) : (iblk m c 1 t (ix2 r n) : EReal) = prod (Ya m c) (Wa m c) (row t r) n := by
  refine Eq.trans ?_ (gg_at m c (row t r) n)
  show (V m c main_v15 _ : EReal) = _
  blk_ext [iblk, idx t]

theorem y_blk (t : Fin cfg0.N) (r k : Fin 512) : (iblk m c 2 t (ix2 r k) : EReal) = Ya m c (ix2 (row t r) k) := by
  blk_ext [iblk, V, idx t]

theorem w_blk (t : Fin cfg0.N) (z : Fin 1) (b : Fin 4) (k : Fin 512) (q : Fin 256) : (iblk m c 3 t (ix4 z b k q) : EReal) = Wa m c (ix2 k (col b q)) := by
  refine Eq.trans ?_ (w_at m c z b k q)
  show (V m c main_v19 _ : EReal) = _
  blk_ext [iblk, idx t]

theorem w_ld (t : Fin cfg0.N) (b : Fin 4) (inb) (k : Fin 512) (q : Fin 256) :
    (View.ld (iblk m c 3 t) (Rect.unit (s := S1x4x512x256) ![0, b.val, 0, 0] ![1, 1, 512, 256] inb) (ix4 0 0 k q) : EReal) = Wa m c (ix2 k (col b q)) := by
  refine (View.ld_unit_apply_of _ _ _ inb (ix4 0 0 k q) (ix4 0 b k q) (fun a => by fin_cases a <;> simp)).trans ?_
  exact w_blk m c t 0 b k q

theorem v_ld (t : Fin cfg0.N) (inb) (r k : Fin 512) :
    (View.ld (iblk m c 1 t) (Rect.unit (s := S512x1024) ![0, 0] ![512, 512] inb) (ix2 r k) : EReal) = prod (Ya m c) (Wa m c) (row t r) ⟨k.val, by omega⟩ := by
  refine (View.ld_unit_apply_of _ _ _ inb (ix2 r k) (ix2 r ⟨k.val, by omega⟩) (fun a => by fin_cases a <;> simp)).trans ?_
  exact p_blk m c t r _

theorem s_ld (t : Fin cfg0.N) (inb) (r k : Fin 512) :
    (View.ld (iblk m c 1 t) (Rect.unit (s := S512x1024) ![0, 512] ![512, 512] inb) (ix2 r k) : EReal) = prod (Ya m c) (Wa m c) (row t r) ⟨512 + k.val, by omega⟩ := by
  refine (View.ld_unit_apply_of _ _ _ inb (ix2 r k) (ix2 r ⟨512 + k.val, by omega⟩) (fun a => by fin_cases a <;> simp)).trans ?_
  exact p_blk m c t r _

/-- What a point's row holds after the two halves are stored. -/
theorem held (t : Fin cfg0.N) (r : Fin 512) (n : Fin 1024) :
    (View.canon (Val := Elt Ideal) (s := S512x1024) (e := .bf16)
      [⟨Rect.unit ![0, 512] ![512, 512] inb_S512x1024_S512x512_0_512, k0_pay4 (F := Ideal) (iblk m c 0 t) (View.ld (iblk m c 1 t) (Rect.unit ![0, 0] ![512, 512] inb_S512x1024_S512x512_0_0)) (View.ld (iblk m c 1 t) (Rect.unit ![0, 512] ![512, 512] inb_S512x1024_S512x512_0_512))⟩,
       ⟨Rect.unit ![0, 0] ![512, 512] inb_S512x1024_S512x512_0_0, k0_pay3 (F := Ideal) (iblk m c 0 t) (View.ld (iblk m c 1 t) (Rect.unit ![0, 512] ![512, 512] inb_S512x1024_S512x512_0_512))⟩] (ix2 r n) : EReal) = gate (Ga m c) (Ya m c) (Wa m c) (row t r) n := by
  canon_tiles x hx
  · refine Norm.part r n 512 _ (gate (Ga m c) (Ya m c) (Wa m c) (row t r)) (fun q hq => ?_) x (by simpa using hx0) hx1
    refine (gate_at _ _ _ r q).trans ?_
    rw [g_blk, v_ld, s_ld]
    unfold gate
    rw [dif_neg (by simp)]
    have e : (⟨512 + q.val - 512, by omega⟩ : Fin 512) = q := Fin.ext (by show 512 + q.val - 512 = q.val; omega)
    have e' : 512 + q.val - 512 = q.val := by omega
    simp only [e']
  · refine Norm.part r n 0 _ (gate (Ga m c) (Ya m c) (Wa m c) (row t r)) (fun q hq => ?_) x (by simpa using hx0) (by simpa using hx1)
    refine (val_at _ _ r q).trans ?_
    rw [g_blk, s_ld]
    unfold gate
    rw [dif_pos (by simp)]
    simp only [Nat.zero_add]

theorem held_at (t : Fin cfg0.N) (r : Fin 512) (n : Fin 1024) (z : S512x1024.Idx) (h0 : (z 0).val = r.val) (h1 : (z 1).val = n.val) :
    (View.canon (Val := Elt Ideal) (s := S512x1024) (e := .bf16)
      [⟨Rect.unit ![0, 512] ![512, 512] inb_S512x1024_S512x512_0_512, k0_pay4 (F := Ideal) (iblk m c 0 t) (View.ld (iblk m c 1 t) (Rect.unit ![0, 0] ![512, 512] inb_S512x1024_S512x512_0_0)) (View.ld (iblk m c 1 t) (Rect.unit ![0, 512] ![512, 512] inb_S512x1024_S512x512_0_512))⟩,
       ⟨Rect.unit ![0, 0] ![512, 512] inb_S512x1024_S512x512_0_0, k0_pay3 (F := Ideal) (iblk m c 0 t) (View.ld (iblk m c 1 t) (Rect.unit ![0, 512] ![512, 512] inb_S512x1024_S512x512_0_512))⟩] z : EReal) = gate (Ga m c) (Ya m c) (Wa m c) (row t r) n := by
  obtain rfl : z = ix2 r n := (eq_ix2 z).trans (congrArg₂ ix2 (Fin.ext h0) (Fin.ext h1))
  exact held m c t r n

/-- The gradient of the products. -/
theorem arr4 (G : S8192x1024.Idx → EReal) (hG : ∀ i n, G (ix2 i n) = gate (Ga m c) (Ya m c) (Wa m c) i n) :
    (dats m 0 c).arrAt 4 cfg0.N = G := by
  refine (dats m 0 c).arrAt_eq_of_covers 4 _ (by decide +kernel) fun t hf y => ?_
  blk_simp
  rw [after0_4]
  simp only [outsAt0]
  frame_out
  obtain ⟨r, n, rfl⟩ : ∃ (r : Fin 512) (n : Fin 1024), y = ix2 r n := ⟨y 0, y 1, eq_ix2 y⟩
  refine Eq.trans ?_ ((hG (row t r) n).symm.trans (congrArg G ?_))
  · exact held m c t r n
  · blk_ext [idx t]

theorem kact_blk (hr : AllReal (Ga m c) (Ya m c) (Wa m c)) (t : Fin cfg0.N) (r k : Fin 512) :
    (k0_pay5 (F := Ideal) (iblk m c 2 t) (ix2 r k) : EReal) = Gelu3.act (Ya m c (ix2 (row t r) k)) := by
  have e := y_blk m c t r k
  refine (kact_at _ r k ?_).trans (congrArg Gelu3.act e)
  exact (congrArg Row.IsReal e).mpr (hr.y _ _)

theorem slope_blk (hr : AllReal (Ga m c) (Ya m c) (Wa m c)) (t : Fin cfg0.N) (p : FVec Ideal S512x512 .f32) (r k : Fin 512)
    (hp : (p (ix2 r k) : EReal) = hid (Ga m c) (Ya m c) (Wa m c) (row t r) k) :
    (k0_pay1 (F := Ideal) (iblk m c 2 t) p (k0_pay8 (iblk m c 2 t)) (k0_pay9 (iblk m c 2 t)) (Scalar.ofBits .f32 0x3F000000#32) (ix2 r k) : EReal)
      = Gelu3.back (hid (Ga m c) (Ya m c) (Wa m c) (row t r) k) (Ya m c (ix2 (row t r) k)) := by
  refine (slope_at _ _ r k).trans ((congrArg₂ Gelu3.slope hp (y_blk m c t r k)).trans ?_)
  exact Gelu3.slope_eq (hid_real hr _ _) (hr.y _ _)

/-- The activated channels. -/
theorem arr5 (hr : AllReal (Ga m c) (Ya m c) (Wa m c)) (G : S8192x512.Idx → EReal) (hG : ∀ i k, G (ix2 i k) = Gelu3.act (Ya m c (ix2 i k))) :
    (dats m 0 c).arrAt 5 cfg0.N = G := by
  refine (dats m 0 c).arrAt_eq_of_covers 5 _ (by decide +kernel) fun t hf y => ?_
  blk_simp
  rw [after0_5]
  simp only [outsAt0]
  frame_out
  obtain ⟨r, k, rfl⟩ : ∃ (r k : Fin 512), y = ix2 r k := ⟨y 0, y 1, eq_ix2 y⟩
  refine (kact_blk m c hr t r k).trans ((hG (row t r) k).symm.trans (congrArg G ?_))
  blk_ext [idx t]

set_option maxHeartbeats 2000000 in
/-- The gradient of the channels before their activation. -/
theorem arr6 (hr : AllReal (Ga m c) (Ya m c) (Wa m c)) (G : S8192x512.Idx → EReal)
    (hG : ∀ i k, G (ix2 i k) = Gelu3.back (hid (Ga m c) (Ya m c) (Wa m c) i k) (Ya m c (ix2 i k))) :
    (dats m 0 c).arrAt 6 cfg0.N = G := by
  refine (dats m 0 c).arrAt_eq_of_covers 6 _ (by decide +kernel) fun t hf y => ?_
  blk_simp
  rw [after0_6]
  simp only [outsAt0]
  frame_out
  obtain ⟨r, k, rfl⟩ : ∃ (r k : Fin 512), y = ix2 r k := ⟨y 0, y 1, eq_ix2 y⟩
  refine Eq.trans ?_ ((hG (row t r) k).symm.trans (congrArg G ?_))
  · refine slope_blk m c hr t _ r k ?_
    refine (hid_at _ _ _ _ _ _ _ _ r k).trans ?_
    have h : (∑ b : Fin 4, ∑ q : Fin 256, gate (Ga m c) (Ya m c) (Wa m c) (row t r) (col b q) * Wa m c (ix2 k (col b q))) = hid (Ga m c) (Ya m c) (Wa m c) (row t r) k :=
      Fin.sum_mul_add_congr (L := 1024) (S := 4) (n := 256) (f := fun n : Fin 1024 => gate (Ga m c) (Ya m c) (Wa m c) (row t r) n * Wa m c (ix2 k n)) (fun b q hl => rfl) (by decide)
    rw [← h, Fin.sum_univ_four]
    simp only [View.readCov_eq_canon']
    refine congrArg₂ (· + ·) (congrArg₂ (· + ·) (congrArg₂ (· + ·) ?_ ?_) ?_) ?_
    · exact Finset.sum_congr rfl fun q _ => congrArg₂ (· * ·) (held_at m c t r (col 0 q) _ (by simp) (by simp)) (w_ld m c t 0 _ k q)
    · exact Finset.sum_congr rfl fun q _ => congrArg₂ (· * ·) (held_at m c t r (col 1 q) _ (by simp) (by simp)) (w_ld m c t 1 _ k q)
    · exact Finset.sum_congr rfl fun q _ => congrArg₂ (· * ·) (held_at m c t r (col 2 q) _ (by simp) (by simp)) (w_ld m c t 2 _ k q)
    · exact Finset.sum_congr rfl fun q _ => congrArg₂ (· * ·) (held_at m c t r (col 3 q) _ (by simp) (by simp)) (w_ld m c t 3 _ k q)
  · blk_ext [idx t]

end Cert.BgluIdeal.At

namespace Cert.BgluRefIdeal.At

open Idealize.ShloMosaic Idealize.SL.Sem Idealize.ShloMosaic.StableHlo Cert.BgluRefIdeal Cert.BgluRefIdeal.Gen Cert.BgluIdeal.At

variable (m : (ℓ : Loc nD τ sig) → Buf (Elt Ideal) ℓ) (c : Dev nD)

/-- The product of the activated channels. -/
theorem res_p (Y : FVec Ideal S8192x512 .f32) (W : FVec Ideal S512x1024 .f32) (i : Fin 8192) (n : Fin 1024) :
    (Host.dotGeneral dot_S8192x512_S512x1024_S8192x1024_1_0_0_1_n_n none (mulf (mulf (broadcastInDim S8192x512 ![] bcast_S_S8192x512 (constant S_ .f32 0x3F000000#32)) Y)
      (addf (broadcastInDim S8192x512 ![] bcast_S_S8192x512 (constant S_ .f32 0x3F800000#32)) (Host.tanh (mulf (broadcastInDim S8192x512 ![] bcast_S_S8192x512 (constant S_ .f32 0x3F4C422A#32))
        (addf Y (Host.divf (mulf (broadcastInDim S8192x512 ![] bcast_S_S8192x512 (constant S_ .f32 0x472EAB00#32)) (mulf (mulf Y Y) Y))
          (broadcastInDim S8192x512 ![] bcast_S_S8192x512 (constant S_ .f32 0x49742400#32)))))))) W (ix2 i n) : EReal)
      = prod Y W i n := by
  pointwise
  rfl

/-- The activated channels. -/
theorem res_a (Y : FVec Ideal S8192x512 .f32) (i : Fin 8192) (k : Fin 512) :
    (truncf .bf16 (mulf (mulf (broadcastInDim S8192x512 ![] bcast_S_S8192x512 (constant S_ .f32 0x3F000000#32)) Y)
      (addf (broadcastInDim S8192x512 ![] bcast_S_S8192x512 (constant S_ .f32 0x3F800000#32)) (Host.tanh (mulf (broadcastInDim S8192x512 ![] bcast_S_S8192x512 (constant S_ .f32 0x3F4C422A#32))
        (addf Y (Host.divf (mulf (broadcastInDim S8192x512 ![] bcast_S_S8192x512 (constant S_ .f32 0x472EAB00#32)) (mulf (mulf Y Y) Y))
          (broadcastInDim S8192x512 ![] bcast_S_S8192x512 (constant S_ .f32 0x49742400#32)))))))) bitsLt_bf16_f32 (ix2 i k) : EReal) = Gelu3.act (Y (ix2 i k)) := by
  pointwise
  rfl

/-- The gate's gradient over any products. -/
theorem res_g (G : FVec Ideal S8192x1024 .f32) (P : FVec Ideal S8192x1024 .f32) (Y : FVec Ideal S8192x512 .f32) (W : FVec Ideal S512x1024 .f32)
    (hP : ∀ i n, (P (ix2 i n) : EReal) = prod Y W i n) (i : Fin 8192) (n : Fin 1024) :
    (concatenate S8192x1024 1 [⟨S8192x512, (mulf (extractStridedSlice S8192x512 ![0, 512] G slices_S8192x1024_S8192x512_0_512)
        (Host.divf (broadcastInDim S8192x512 ![] bcast_S_S8192x512 (constant S_ .f32 0x3F800000#32)) (addf (broadcastInDim S8192x512 ![] bcast_S_S8192x512 (constant S_ .f32 0x3F800000#32))
          (Host.exp (Host.negf (extractStridedSlice S8192x512 ![0, 512] P slices_S8192x1024_S8192x512_0_512))))))⟩,
      ⟨S8192x512, (mulf (mulf (extractStridedSlice S8192x512 ![0, 0] P slices_S8192x1024_S8192x512_0_0) (extractStridedSlice S8192x512 ![0, 512] G slices_S8192x1024_S8192x512_0_512))
        (mulf (Host.divf (broadcastInDim S8192x512 ![] bcast_S_S8192x512 (constant S_ .f32 0x3F800000#32)) (addf (broadcastInDim S8192x512 ![] bcast_S_S8192x512 (constant S_ .f32 0x3F800000#32))
          (Host.exp (Host.negf (extractStridedSlice S8192x512 ![0, 512] P slices_S8192x1024_S8192x512_0_512)))))
          (subf (broadcastInDim S8192x512 ![] bcast_S_S8192x512 (constant S_ .f32 0x3F800000#32)) (Host.divf (broadcastInDim S8192x512 ![] bcast_S_S8192x512 (constant S_ .f32 0x3F800000#32))
            (addf (broadcastInDim S8192x512 ![] bcast_S_S8192x512 (constant S_ .f32 0x3F800000#32))
              (Host.exp (Host.negf (extractStridedSlice S8192x512 ![0, 512] P slices_S8192x1024_S8192x512_0_512))))))))⟩] concatenates_S8192x512_S8192x512_S8192x1024_d1 (ix2 i n) : EReal)
      = gate G Y W i n := by
  pointwise
  unfold gate
  split
  · rw [hP]
    rfl
  · rw [hP, hP]
    rfl

theorem res_h (H : FVec Ideal S8192x1024 .f32) (G : FVec Ideal S8192x1024 .f32) (Y : FVec Ideal S8192x512 .f32) (W : FVec Ideal S512x1024 .f32)
    (hH : ∀ i n, (H (ix2 i n) : EReal) = gate G Y W i n) (i : Fin 8192) (k : Fin 512) :
    (Host.dotGeneral dot_S8192x1024_S512x1024_S8192x512_1_1_0_0_n_n none H W (ix2 i k) : EReal) = hid G Y W i k := by
  pointwise
  exact Finset.sum_congr rfl fun n _ => congrArg (· * _) (hH i n)

/-- The activation's derivative over any gradient. -/
theorem res_b (D Y : FVec Ideal S8192x512 .f32) (i : Fin 8192) (k : Fin 512) :
    ((addf (addf (mulf (broadcastInDim S8192x512 ![] bcast_S_S8192x512 (constant S_ .f32 0x3F4C422A#32)) (mulf (mulf (mulf (broadcastInDim S8192x512 ![] bcast_S_S8192x512 (constant S_ .f32 0x3F000000#32)) Y) D) (mulf (addf (broadcastInDim S8192x512 ![] bcast_S_S8192x512 (constant S_ .f32 0x3F800000#32)) (Host.tanh (mulf (broadcastInDim S8192x512 ![] bcast_S_S8192x512 (constant S_ .f32 0x3F4C422A#32)) (addf Y (Host.divf (mulf (broadcastInDim S8192x512 ![] bcast_S_S8192x512 (constant S_ .f32 0x472EAB00#32)) (mulf (mulf Y Y) Y)) (broadcastInDim S8192x512 ![] bcast_S_S8192x512 (constant S_ .f32 0x49742400#32))))))) (subf (broadcastInDim S8192x512 ![] bcast_S_S8192x512 (constant S_ .f32 0x3F800000#32)) (Host.tanh (mulf (broadcastInDim S8192x512 ![] bcast_S_S8192x512 (constant S_ .f32 0x3F4C422A#32)) (addf Y (Host.divf (mulf (broadcastInDim S8192x512 ![] bcast_S_S8192x512 (constant S_ .f32 0x472EAB00#32)) (mulf (mulf Y Y) Y)) (broadcastInDim S8192x512 ![] bcast_S_S8192x512 (constant S_ .f32 0x49742400#32)))))))))) (mulf (mulf (broadcastInDim S8192x512 ![] bcast_S_S8192x512 (constant S_ .f32 0x472EAB00#32)) (Host.divf (mulf (broadcastInDim S8192x512 ![] bcast_S_S8192x512 (constant S_ .f32 0x3F4C422A#32)) (mulf (mulf (mulf (broadcastInDim S8192x512 ![] bcast_S_S8192x512 (constant S_ .f32 0x3F000000#32)) Y) D) (mulf (addf (broadcastInDim S8192x512 ![] bcast_S_S8192x512 (constant S_ .f32 0x3F800000#32)) (Host.tanh (mulf (broadcastInDim S8192x512 ![] bcast_S_S8192x512 (constant S_ .f32 0x3F4C422A#32)) (addf Y (Host.divf (mulf (broadcastInDim S8192x512 ![] bcast_S_S8192x512 (constant S_ .f32 0x472EAB00#32)) (mulf (mulf Y Y) Y)) (broadcastInDim S8192x512 ![] bcast_S_S8192x512 (constant S_ .f32 0x49742400#32))))))) (subf (broadcastInDim S8192x512 ![] bcast_S_S8192x512 (constant S_ .f32 0x3F800000#32)) (Host.tanh (mulf (broadcastInDim S8192x512 ![] bcast_S_S8192x512 (constant S_ .f32 0x3F4C422A#32)) (addf Y (Host.divf (mulf (broadcastInDim S8192x512 ![] bcast_S_S8192x512 (constant S_ .f32 0x472EAB00#32)) (mulf (mulf Y Y) Y)) (broadcastInDim S8192x512 ![] bcast_S_S8192x512 (constant S_ .f32 0x49742400#32)))))))))) (broadcastInDim S8192x512 ![] bcast_S_S8192x512 (constant S_ .f32 0x49742400#32)))) (mulf (broadcastInDim S8192x512 ![] bcast_S_S8192x512 (constant S_ .f32 0x40400000#32)) (mulf Y Y)))) (mulf (broadcastInDim S8192x512 ![] bcast_S_S8192x512 (constant S_ .f32 0x3F000000#32)) (mulf D (addf (broadcastInDim S8192x512 ![] bcast_S_S8192x512 (constant S_ .f32 0x3F800000#32)) (Host.tanh (mulf (broadcastInDim S8192x512 ![] bcast_S_S8192x512 (constant S_ .f32 0x3F4C422A#32)) (addf Y (Host.divf (mulf (broadcastInDim S8192x512 ![] bcast_S_S8192x512 (constant S_ .f32 0x472EAB00#32)) (mulf (mulf Y Y) Y)) (broadcastInDim S8192x512 ![] bcast_S_S8192x512 (constant S_ .f32 0x49742400#32)))))))))) (ix2 i k) : EReal) = Gelu3.back (D (ix2 i k)) (Y (ix2 i k)) := by
  pointwise
  rfl

end Cert.BgluRefIdeal.At

namespace Cert.Proof.Bglu

open Idealize.ShloMosaic Idealize.SL.Sem Idealize.ShloMosaic.StableHlo

theorem frame_r : Cert.quiescent_BgluRefIdeal := fun m ρ _ =>
  (θ_run Cert.BgluRefIdeal.defs _ _).mono (fun r h => ⟨fun c => (h c).2.2.2, sem_eq_zero_of_no_sems (by decide) r.2⟩)
    (Cert.BgluRefIdeal.Value.run m ρ)

theorem algebraic : Cert.algebraic_BgluIdeal_BgluRefIdeal_pre_finite_bglu := fun m ρ m' ρ' hpre hag => by
  refine ⟨fun c => (Cert.BgluIdeal.Gen.dats m 0 c).arrAt 4 Cert.BgluIdeal.cfg0.N, fun c => (Cert.BgluIdeal.Gen.dats m 0 c).arrAt 5 Cert.BgluIdeal.cfg0.N,
    fun c => (Cert.BgluIdeal.Gen.dats m 0 c).arrAt 6 Cert.BgluIdeal.cfg0.N, Cert.BgluIdeal.Value.run_blocks m ρ, ?_⟩
  refine (θ_run _ _ _).mono (fun _ h c => ?_) (Cert.BgluRefIdeal.Value.run m' ρ')
  obtain ⟨h0, h1, h2, hk⟩ := h c
  obtain ⟨e0, e1, e2⟩ := hag c
  have hr : Cert.BgluIdeal.At.AllReal (Cert.BgluIdeal.At.Ga m c) (Cert.BgluIdeal.At.Ya m c) (Cert.BgluIdeal.At.Wa m c) :=
    ⟨Cert.Pre_finite_bglu.g_real (hpre c), Cert.Pre_finite_bglu.y_real (hpre c), Cert.Pre_finite_bglu.w_real (hpre c)⟩
  have hg : ∀ i n, (_ : EReal) = Cert.BgluIdeal.At.gate _ _ _ i n := Cert.BgluRefIdeal.At.res_g
    (m' ((c.tc : Thread Cert.BgluRefIdeal.nD Cert.BgluRefIdeal.τ).loc Cert.BgluRefIdeal.main_arg0)) _
    (m' ((c.tc : Thread Cert.BgluRefIdeal.nD Cert.BgluRefIdeal.τ).loc Cert.BgluRefIdeal.main_arg1))
    (m' ((c.tc : Thread Cert.BgluRefIdeal.nD Cert.BgluRefIdeal.τ).loc Cert.BgluRefIdeal.main_arg2)) (Cert.BgluRefIdeal.At.res_p _ _)
  refine ⟨h0.trans (Cert.BgluIdeal.At.arr4 m c _ fun i n => ?_).symm, h1.trans (Cert.BgluIdeal.At.arr5 m c hr _ fun i k => ?_).symm,
    h2.trans (Cert.BgluIdeal.At.arr6 m c hr _ fun i k => ?_).symm, hk⟩
  · unfold Cert.BgluRefIdeal.Value.res_main_v88
    refine Eq.trans (hg i n) ?_
    rw [e0, e1, e2]
  · refine (Cert.BgluRefIdeal.At.res_a _ i k).trans ?_
    rw [e1]
  · unfold Cert.BgluRefIdeal.Value.res_main_v87
    refine (Cert.BgluRefIdeal.At.res_b _ _ i k).trans (congrArg₂ Gelu3.back ((Cert.BgluRefIdeal.At.res_h _ _ _ _ hg i k).trans ?_) ?_)
    · rw [e0, e1, e2]
    · rw [e1]

end Cert.Proof.Bglu

end
-- ==== Proof.AttnRow.lean ====
/- The attention's forward pass: the reference's array at an index. -/
module

public import proofs.«01_k».proof.Proof.Gen.AttnRefIdeal.Run
public import proofs.«01_k».proof.Proof.RefRow
public import Idealize.ShloMosaic.Lib.Pointwise
public import proofs.«01_k».proof.Proof.Spec

@[expose] public section

set_option maxRecDepth 16384

noncomputable section

/-! ## The reference's arrays, by name -/

namespace Cert.AttnRefIdeal.At

open Cert.AttnRefIdeal Cert.AttnRefIdeal.Gen Cert.AttnRefIdeal.Value Idealize.ShloMosaic Idealize.ShloMosaic.TcCoe Idealize.SL.Sem
open Cert.ReferenceIdeal.At (pad_cases fp_zero pos_toInt ninf)

variable (A0 : FVec Ideal S8192x512 .bf16) (A1 : FVec Ideal S8192x256 .bf16) (A2 : FVec Ideal S8 .f32)

/-- The blocks of the padded keys, and those of the padded values. -/
def kblocks : FVec Ideal S1x66x128x2x64 .f32 :=
  shapeCast _ (pad S1x8448x2x64 ![0, 128, 0, 0] ![0, 128, 0, 0] ![0, 0, 0, 0] (shapeCast _ (extractStridedSlice S8192x128 ![0, 0] (extf .f32 A1 bitsLt_bf16_f32) slices_S8192x256_S8192x128_0_0) shapeCasts_S8192x128_S1x8192x2x64) (sitofp .f32 (constantI S_ 32 0#32)) pads_S1x8192x2x64_S1x8448x2x64_000_1281280_000_000 h_S_) shapeCasts_S1x8448x2x64_S1x66x128x2x64
def vblocks : FVec Ideal S1x66x128x2x64 .f32 :=
  shapeCast _ (pad S1x8448x2x64 ![0, 128, 0, 0] ![0, 128, 0, 0] ![0, 0, 0, 0] (shapeCast _ (extractStridedSlice S8192x128 ![0, 128] (extf .f32 A1 bitsLt_bf16_f32) slices_S8192x256_S8192x128_0_128) shapeCasts_S8192x128_S1x8192x2x64) (sitofp .f32 (constantI S_ 32 0#32)) pads_S1x8192x2x64_S1x8448x2x64_000_1281280_000_000 h_S_) shapeCasts_S1x8448x2x64_S1x66x128x2x64
/-- Three blocks in a row. -/
def band3 (y : FVec Ideal S1x66x128x2x64 .f32) : FVec Ideal S1x64x384x2x64 .f32 :=
  (concatenate S1x64x384x2x64 2 [⟨S1x64x128x2x64, ((extractStridedSlice S1x64x128x2x64 ![0, 0, 0, 0, 0] y slices_S1x66x128x2x64_S1x64x128x2x64_0_0_0_0_0) : (⟨S1x64x128x2x64, .f32⟩ : BufTy).Contents (Elt Ideal))⟩, ⟨S1x64x128x2x64, ((extractStridedSlice S1x64x128x2x64 ![0, 1, 0, 0, 0] y slices_S1x66x128x2x64_S1x64x128x2x64_0_1_0_0_0) : (⟨S1x64x128x2x64, .f32⟩ : BufTy).Contents (Elt Ideal))⟩, ⟨S1x64x128x2x64, ((extractStridedSlice S1x64x128x2x64 ![0, 2, 0, 0, 0] y slices_S1x66x128x2x64_S1x64x128x2x64_0_2_0_0_0) : (⟨S1x64x128x2x64, .f32⟩ : BufTy).Contents (Elt Ideal))⟩] concatenates_S1x64x128x2x64_S1x64x128x2x64_S1x64x128x2x64_S1x64x384x2x64_d2 : (⟨S1x64x384x2x64, .f32⟩ : BufTy).Contents (Elt Ideal))
/-- The queries by block and head. -/
def quer : FVec Ideal S1x64x128x2x4x64 .f32 :=
  shapeCast _ (shapeCast _ (extf .f32 A0 bitsLt_bf16_f32) shapeCasts_S8192x512_S1x8192x8x64) shapeCasts_S1x8192x8x64_S1x64x128x2x4x64
/-- The distance of a query's row from a key slot. -/
def gap : IVec S128x384 32 :=
  absi (addi (subi (broadcastInDim S128x384 ![0, 1] bcast_S128x1_S128x384_0_1 (broadcastInDim S128x1 ![0] bcast_S128_S128x1_0 (iotaInDim S128 32 0))) (broadcastInDim S128x384 ![0, 1] bcast_S1x384_S128x384_0_1 (broadcastInDim S1x384 ![1] bcast_S384_S1x384_1 (iotaInDim S384 32 0)))) (broadcastInDim S128x384 ![] bcast_S_S128x384 (constantI S_ 32 128#32)))
/-- The row at which a key slot lies. -/
def slotRow : IVec S64x384 32 :=
  addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0)))
/-- Which slots a query sees. -/
def seen : IVec S1x64x2x4x128x384 1 :=
  broadcastInDim S1x64x2x4x128x384 ![0, 1, 2, 3, 4, 5] bcast_S1x64x1x1x128x384_S1x64x2x4x128x384_0_1_2_3_4_5 (broadcastInDim S1x64x1x1x128x384 ![1, 4, 5] bcast_S64x128x384_S1x64x1x1x128x384_1_4_5 (andi (broadcastInDim S64x128x384 ![0, 1, 2] bcast_S1x128x384_S64x128x384_0_1_2 (broadcastInDim S1x128x384 ![1, 2] bcast_S128x384_S1x128x384_1_2 (cmpi .sle gap (broadcastInDim S128x384 ![] bcast_S_S128x384 (constantI S_ 32 128#32))))) (broadcastInDim S64x128x384 ![0, 1, 2] bcast_S64x1x384_S64x128x384_0_1_2 (broadcastInDim S64x1x384 ![0, 2] bcast_S64x384_S64x1x384_0_2 (andi (cmpi .sge slotRow (broadcastInDim S64x384 ![] bcast_S_S64x384 (constantI S_ 32 0#32))) (cmpi .slt slotRow (broadcastInDim S64x384 ![] bcast_S_S64x384 (constantI S_ 32 8192#32))))))))
/-- The scores. -/
def scores : FVec Ideal S1x64x2x4x128x384 .f32 :=
  select seen (addf (transpose S1x64x2x4x128x384 [0, 1, 2, 5, 4, 3] (Host.dotGeneral dot_S1x64x384x2x64_S1x64x128x2x4x64_S1x64x2x384x128x4_4_5_2_24_013_013 none (band3 (kblocks A1)) (quer A0)) transposes_S1x64x2x384x128x4_S1x64x2x4x128x384_0_1_2_5_4_3) (broadcastInDim S1x64x2x4x128x384 ![0, 1, 2, 3, 4, 5] bcast_S1x1x2x4x128x384_S1x64x2x4x128x384_0_1_2_3_4_5 (broadcastInDim S1x1x2x4x128x384 ![2, 3, 4, 5] bcast_S2x4x128x384_S1x1x2x4x128x384_2_3_4_5 (mulf (broadcastInDim S2x4x128x384 ![0, 1, 2, 3] bcast_S2x4x1x1_S2x4x128x384_0_1_2_3 (Host.negf (broadcastInDim S2x4x1x1 ![0, 1] bcast_S2x4_S2x4x1x1_0_1 (shapeCast _ ((fun i => FloatOps.ofBits .f32 (lit0 (S8.rowMajor i)))) shapeCasts_S8_S2x4)))) (broadcastInDim S2x4x128x384 ![0, 1, 2, 3] bcast_S1x1x128x384_S2x4x128x384_0_1_2_3 (broadcastInDim S1x1x128x384 ![2, 3] bcast_S128x384_S1x1x128x384_2_3 (sitofp .f32 gap))))))) (broadcastInDim S1x64x2x4x128x384 ![] bcast_S_S1x64x2x4x128x384 (id (constant S_ .f32 0xFF800000#32)))
/-- The sinks by head. -/
def sinks : FVec Ideal S1x1x2x4x1x1 .f32 := shapeCast _ A2 shapeCasts_S8_S1x1x2x4x1x1
/-- The largest score of a row, and the larger of that and the row's sink. -/
def peak : FVec Ideal S1x64x2x4x128 .f32 :=
  Host.reduce FloatOps.maximumf (scores A0 A1) (constant S_ .f32 0xFF800000#32) reducesTo_S1x64x2x4x128x384_S1x64x2x4x128_d5 h_S_
def wide : FVec Ideal S1x64x2x4x128x1 .f32 :=
  broadcastInDim S1x64x2x4x128x1 ![0, 1, 2, 3, 4] bcast_S1x64x2x4x128_S1x64x2x4x128x1_0_1_2_3_4 (peak A0 A1)
def top : FVec Ideal S1x64x2x4x128x1 .f32 :=
  maximumf (wide A0 A1) (broadcastInDim S1x64x2x4x128x1 ![0, 1, 2, 3, 4, 5] bcast_S1x1x2x4x1x1_S1x64x2x4x128x1_0_1_2_3_4_5 (sinks A2))
/-- The exponentials. -/
def exps : FVec Ideal S1x64x2x4x128x384 .f32 :=
  Host.exp (subf (scores A0 A1) (broadcastInDim S1x64x2x4x128x384 ![0, 1, 2, 3, 4, 5] bcast_S1x64x2x4x128x1_S1x64x2x4x128x384_0_1_2_3_4_5 (top A0 A1 A2)))
def den : FVec Ideal S1x64x2x4x128x1 .f32 :=
  addf (broadcastInDim S1x64x2x4x128x1 ![0, 1, 2, 3, 4] bcast_S1x64x2x4x128_S1x64x2x4x128x1_0_1_2_3_4 (Host.reduceAdd (exps A0 A1 A2) (constant S_ .f32 0x00000000#32) reducesTo_S1x64x2x4x128x384_S1x64x2x4x128_d5 h_S_)) (Host.exp (subf (broadcastInDim S1x64x2x4x128x1 ![0, 1, 2, 3, 4, 5] bcast_S1x1x2x4x1x1_S1x64x2x4x128x1_0_1_2_3_4_5 (sinks A2)) (top A0 A1 A2)))
def prob : FVec Ideal S1x64x2x4x128x384 .f32 :=
  Host.divf (exps A0 A1 A2) (broadcastInDim S1x64x2x4x128x384 ![0, 1, 2, 3, 4, 5] bcast_S1x64x2x4x128x1_S1x64x2x4x128x384_0_1_2_3_4_5 (den A0 A1 A2))

set_option maxRecDepth 100000 in
set_option maxHeartbeats 2000000 in
theorem res_eq (m : (ℓ : Loc nD τ sig) → Buf (Elt Ideal) ℓ) (c : Dev nD) (A0 : FVec Ideal S8192x512 .bf16) (A1 : FVec Ideal S8192x256 .bf16) (A2 : FVec Ideal S8 .f32)
    (h0 : m ((c.tc : Thread nD τ).loc main_arg0) = A0) (h1 : m ((c.tc : Thread nD τ).loc main_arg1) = A1)
    (h2 : m ((c.tc : Thread nD τ).loc main_arg2) = A2) :
    (res_main_v88 (F := Ideal) m c : FVec Ideal S8192x512 .bf16) =
      truncf .bf16 (shapeCast _ (shapeCast _ (transpose S1x64x128x2x4x64 [0, 1, 5, 2, 4, 3] (Host.dotGeneral dot_S1x64x384x2x64_S1x64x2x4x128x384_S1x64x2x64x4x128_2_5_4_34_013_012 none (band3 (vblocks A1)) (prob A0 A1 A2)) transposes_S1x64x2x64x4x128_S1x64x128x2x4x64_0_1_5_2_4_3) shapeCasts_S1x64x128x2x4x64_S1x8192x512) shapeCasts_S1x8192x512_S8192x512) bitsLt_bf16_f32 := by
  unfold res_main_v88
  rw [h0, h1, h2]
  rfl

theorem v12 (n : Fin 64) (c : Fin 384) (k : Fin 2) (d : Fin 64) : (band3 (kblocks A1) (ix5 0 n c k d) : EReal) = Spec.pad A1 n c (Spec.kcol k d) := by
  unfold band3 kblocks
  pointwise [fp_zero]
  exact pad_cases A1 n c (Spec.kcol k d) (fun h => h.2) (fun h => h.2) (fun h => h.2)

theorem v18 (n : Fin 64) (c : Fin 384) (k : Fin 2) (d : Fin 64) : (band3 (vblocks A1) (ix5 0 n c k d) : EReal) = Spec.pad A1 n c (Spec.vcol k d) := by
  unfold band3 vblocks
  pointwise [fp_zero]
  exact pad_cases A1 n c (Spec.vcol k d) (fun h => h.2) (fun h => h.2) (fun h => h.2)

theorem v19 (n : Fin 64) (r : Fin 128) (k : Fin 2) (g : Fin 4) (d : Fin 64) :
    (quer A0 (ix6 0 n r k g d) : EReal) = A0 (ix2 (Spec.qrow n r) (Spec.qcol k g d)) := by
  unfold quer
  pointwise

theorem v31 (r : Fin 128) (c : Fin 384) : gap (ix2 r c) = Spec.adist r.val c.val := by
  unfold gap
  pointwise

theorem v42 (n : Fin 64) (c : Fin 384) : slotRow (ix2 n c)
    = IntOp.addi (IntOp.muli (IntOp.subi (BitVec.ofNat 32 n) 1#32) 128#32) (BitVec.ofNat 32 c) := by
  unfold slotRow
  pointwise

theorem seen_at (n : Fin 64) (k : Fin 2) (g : Fin 4) (r : Fin 128) (c : Fin 384) :
    (seen (ix6 0 n k g r c)) = if Spec.Valid n r c then 1#1 else 0#1 := by
  unfold seen
  pointwise [v31, v42]
  unfold IntOp.andi IntOp.cmpi
  have hn := Spec.near r.val c.val r.isLt c.isLt
  have hp := pos_toInt n c
  have hlo : (0#32).sle (IntOp.addi (IntOp.muli (IntOp.subi (BitVec.ofNat 32 n.val) 1#32) 128#32) (BitVec.ofNat 32 c.val)) = true
      ↔ 128 ≤ n.val * 128 + c.val := by
    rw [BitVec.sle_iff_toInt_le, hp, show (0#32 : BitVec 32).toInt = 0 by decide]; omega
  have hhi : (IntOp.addi (IntOp.muli (IntOp.subi (BitVec.ofNat 32 n.val) 1#32) 128#32) (BitVec.ofNat 32 c.val)).slt 8192#32 = true
      ↔ n.val * 128 + c.val < 8320 := by
    rw [BitVec.slt_iff_toInt_lt, hp, show (8192#32 : BitVec 32).toInt = 8192 by decide]; omega
  dsimp only
  have hv : Spec.Valid n r c ↔ _ ∧ _ ∧ _ := and_congr hn.symm (and_congr hlo.symm hhi.symm)
  clear hn hp hlo hhi
  revert hv
  generalize (Spec.adist r.val c.val).sle 128#32 = a
  generalize (0#32).sle (IntOp.addi (IntOp.muli (IntOp.subi (BitVec.ofNat 32 n.val) 1#32) 128#32) (BitVec.ofNat 32 c.val)) = b
  generalize (IntOp.addi (IntOp.muli (IntOp.subi (BitVec.ofNat 32 n.val) 1#32) 128#32) (BitVec.ofNat 32 c.val)).slt 8192#32 = e
  intro hv
  by_cases h : Spec.Valid n r c
  · obtain ⟨rfl, rfl, rfl⟩ := hv.1 h
    rw [if_pos h]
    rfl
  · rw [if_neg h]
    cases a <;> cases b <;> cases e <;> first | rfl | exact absurd (hv.2 ⟨rfl, rfl, rfl⟩) h

theorem slope_at (k : Fin 2) (g : Fin 4) :
    (Ideal.ofBits FTy.f32 (lit0 (S8.rowMajor (ix1 (Spec.head k g)))) : EReal) = Spec.slope k g := by
  have : ∀ h : Fin 8, (Ideal.ofBits FTy.f32 (lit0 h) : EReal) = (((2 : ℝ) ^ (h.val + 1))⁻¹ : ℝ)
    | 0 => Spec.slope0 | 1 => Spec.slope1 | 2 => Spec.slope2 | 3 => Spec.slope3
    | 4 => Spec.slope4 | 5 => Spec.slope5 | 6 => Spec.slope6 | 7 => Spec.slope7
  have e : S8.rowMajor (ix1 (Spec.head k g)) = Spec.head k g := Fin.ext (Shape.rowMajor_val_one _)
  rw [e]
  exact this _

theorem score_at (n : Fin 64) (k : Fin 2) (g : Fin 4) (r : Fin 128) (c : Fin 384) :
    (scores A0 A1 (ix6 0 n k g r c) : EReal) = Spec.Sr A0 A1 n k g r c := by
  unfold scores Spec.Sr
  pointwise [v12, v19, seen_at, v31, slope_at]
  by_cases hv : Spec.Valid n r c
  · rw [if_pos hv, if_pos hv]
    rfl
  · rw [if_neg hv, if_neg hv]
    exact ninf

theorem sink_at (k : Fin 2) (g : Fin 4) : (sinks A2 (ix6 0 0 k g 0 0) : EReal) = Spec.snk A2 k g := by
  unfold sinks Spec.snk
  pointwise

theorem peak_at (n : Fin 64) (k : Fin 2) (g : Fin 4) (r : Fin 128) : (peak A0 A1 (ix5 0 n k g r) : EReal) = Row.top (Spec.Sr A0 A1 n k g r) := by
  unfold peak Row.top
  pointwise [Cert.ReferenceIdeal.At.fold_d5, ninf, score_at]

theorem wide_at (n : Fin 64) (k : Fin 2) (g : Fin 4) (r : Fin 128) : (wide A0 A1 (ix6 0 n k g r 0) : EReal) = Row.top (Spec.Sr A0 A1 n k g r) := by
  unfold wide
  pointwise [peak_at]

theorem top_at (n : Fin 64) (k : Fin 2) (g : Fin 4) (r : Fin 128) :
    (top A0 A1 A2 (ix6 0 n k g r 0) : EReal) = Row.mx (Spec.Sr A0 A1 n k g r) (Spec.snk A2 k g) := by
  unfold top
  rw [Cert.ReferenceIdeal.At.max_at, Cert.ReferenceIdeal.At.bc68, sink_at, wide_at]
  rfl

theorem exp_at (n : Fin 64) (k : Fin 2) (g : Fin 4) (r : Fin 128) (c : Fin 384) :
    (exps A0 A1 A2 (ix6 0 n k g r c) : EReal) = Row.ex (Spec.Sr A0 A1 n k g r) (Spec.snk A2 k g) c := by
  unfold exps Row.ex
  pointwise [top_at, score_at]

theorem den_at (n : Fin 64) (k : Fin 2) (g : Fin 4) (r : Fin 128) :
    (den A0 A1 A2 (ix6 0 n k g r 0) : EReal) = Row.den (Spec.Sr A0 A1 n k g r) (Spec.snk A2 k g) := by
  unfold den Row.den Row.es
  pointwise [Cert.ReferenceIdeal.At.sum_d5, exp_at, top_at, sink_at]

theorem prob_at (n : Fin 64) (k : Fin 2) (g : Fin 4) (r : Fin 128) (c : Fin 384) :
    (prob A0 A1 A2 (ix6 0 n k g r c) : EReal)
      = Ideal.div (Row.ex (Spec.Sr A0 A1 n k g r) (Spec.snk A2 k g) c) (Row.den (Spec.Sr A0 A1 n k g r) (Spec.snk A2 k g)) := by
  unfold prob
  pointwise [exp_at, den_at]

theorem res_at (m : (ℓ : Loc nD τ sig) → Buf (Elt Ideal) ℓ) (c : Dev nD) (A0 : FVec Ideal S8192x512 .bf16) (A1 : FVec Ideal S8192x256 .bf16) (A2 : FVec Ideal S8 .f32)
    (h0 : m ((c.tc : Thread nD τ).loc main_arg0) = A0) (h1 : m ((c.tc : Thread nD τ).loc main_arg1) = A1)
    (h2 : m ((c.tc : Thread nD τ).loc main_arg2) = A2) (n : Fin 64) (k : Fin 2) (g : Fin 4) (r : Fin 128) (d : Fin 64) :
    (res_main_v88 (F := Ideal) m c (ix2 (Spec.qrow n r) (Spec.qcol k g d)) : EReal)
      = ∑ e : Fin 384, Spec.pad A1 n e (Spec.vcol k d) * Spec.pr A0 A1 A2 n k g r e := by
  refine (congrFun (res_eq m c A0 A1 A2 h0 h1 h2) _).trans ?_
  pointwise [v18, prob_at]
  have en : ∀ h, (⟨(n.val * 128 + r.val) / 128, h⟩ : Fin 64) = n := fun h => Fin.ext (by dsimp only; omega)
  have er : ∀ h, (⟨(n.val * 128 + r.val) % 128, h⟩ : Fin 128) = r := fun h => Fin.ext (by dsimp only; omega)
  have ek : ∀ h, (⟨(k.val * 256 + g.val * 64 + d.val) / 256, h⟩ : Fin 2) = k := fun h => Fin.ext (by dsimp only; omega)
  have eg : ∀ h, (⟨(k.val * 256 + g.val * 64 + d.val) / 64 % 4, h⟩ : Fin 4) = g := fun h => Fin.ext (by dsimp only; omega)
  have ed : ∀ h, (⟨(k.val * 256 + g.val * 64 + d.val) % 64, h⟩ : Fin 64) = d := fun h => Fin.ext (by dsimp only; omega)
  simp only [en, er, ek, eg, ed]
  rfl

end Cert.AttnRefIdeal.At

end
-- ==== Proof.AttnVal.lean ====
/- The attention's forward call: the kernel's array and the reference's, at an index, and that they are equal. -/
module

public import proofs.«01_k».proof.Proof.Gen.AttnIdeal.Value
public import proofs.«01_k».proof.Proof.AttnRow
public import proofs.«01_k».proof.Pre_finite_attn
public import proofs.«01_k».proof.Proof.KerHeld
public import proofs.«01_k».proof.Proof.Fin
public import proofs.«01_k».proof.Defs
public import Idealize.ShloMosaic.Lib.Pointwise
public import Idealize.ShloMosaic.Lib.Tactic.CleanTypes
public import Idealize.ShloMosaic.Lib.Pipeline.ReadBack
public import Idealize.ShloMosaic.Lib.Pipeline.ValueKit

@[expose] public section

set_option maxRecDepth 16384

noncomputable section

namespace Cert.AttnIdeal.At

open Idealize.ShloMosaic Idealize.SL.Sem Idealize.ShloMosaic.TcCoe Cert.AttnIdeal Cert.AttnIdeal.Gen
open Cert.KernelIdeal.At (stk kslot low7 pick stack ninf)

/-! ## The softmax of a row -/

/-- The probabilities from the masked scores and the sinks. -/
def prob (s : FVec Ideal S512x384 .f32) (k : FVec Ideal S512x1 .f32) : FVec Ideal S512x384 .f32 :=
  have mx : FVec Ideal S512x1 .f32 := maximumf (shapeCast S512x1 (multiReduction .maximumf [1] S512 s 0xFF800000#32 reduces_S512x384_S512 (.inl rfl) rfl) shapeCasts_S512_S512x1) k
  have ex : FVec Ideal S512x384 .f32 := exp (subf s (broadcastTo S512x384 mx broadcasts_S512x1_S512x384))
  have den : FVec Ideal S512x1 .f32 := addf (shapeCast S512x1 (multiReduction .add [1] S512 ex 0x00000000#32 reduces_S512x384_S512 (.inl rfl) rfl) shapeCasts_S512_S512x1) (exp (subf k mx))
  mulf ex (broadcastTo S512x384 (divf (broadcast S512x1 (Scalar.ofBits (F := Ideal) .f32 0x3F800000#32)) den) broadcasts_S512x1_S512x384)

theorem prob_at (s : FVec Ideal S512x384 .f32) (k : FVec Ideal S512x1 .f32) (S : Fin 384 → EReal) (sk : EReal) (x : Fin 512)
    (hS : ∀ c, (s (ix2 x c) : EReal) = S c) (hk : (k (ix2 x 0) : EReal) = sk) (c : Fin 384) : (prob s k (ix2 x c) : EReal) = Row.p S sk c := by
  unfold prob
  pointwise [hS, hk, ninf]
  rfl

/-! ## The payloads at an index -/

theorem dist_at (g : Fin 4) (r : Fin 128) (c : Fin 384) : (k0_pay6 (ix2 (stk g r) c) : BitVec 32) = Spec.adist r.val c.val := by
  unfold k0_pay6
  pointwise [low7]
  try rfl

theorem fdist_at (g : Fin 4) (r : Fin 128) (c : Fin 384) : (k0_pay8 (F := Ideal) (ix2 (stk g r) c) : EReal) = Spec.dist r c := by
  unfold k0_pay8
  pointwise [dist_at]
  rfl

theorem valid_at (i : grid0.Coords) (n : Fin 64) (hi : (i 0).val = n.val) (g : Fin 4) (r : Fin 128) (c : Fin 384) :
    (k0_pay7 i (ix2 (stk g r) c) : BitVec 1) = 1#1 ↔ Spec.Valid n r c := by
  unfold k0_pay7
  pointwise [dist_at]
  rw [hi]
  have h := Spec.near r.val c.val r.isLt c.isLt
  rw [show IntOp.cmpi .sle (Spec.adist r.val c.val) 128#32 = BitVec.ofBool ((Spec.adist r.val c.val).sle 128#32) from rfl]
  generalize (Spec.adist r.val c.val).sle 128#32 = b at h ⊢
  unfold Spec.Valid
  rw [← h]
  simp only [WordCmp.scalar_cmpi_eq, WordCmp.cmpi_sge_ofNat (w := 32) (a := c.val) (b := 128) (by omega) (by omega),
    WordCmp.cmpi_slt_ofNat (w := 32) (a := c.val) (b := 256) (by omega) (by omega),
    WordCmp.cmpi_sge_ofNat (w := 32) (a := n.val) (b := 1) (by omega) (by omega),
    WordCmp.cmpi_sle_ofNat (w := 32) (a := n.val) (b := 62) (by omega) (by omega),
    WordCmp.andi_ofBool, WordCmp.ori_ofBool, WordCmp.ofBool_eq_one_iff, Bool.and_eq_true, Bool.or_eq_true, decide_eq_true_iff, and_assoc]
  have hn := n.isLt
  have hc := c.isLt
  refine and_congr_right fun _ => ?_
  omega

/-- Three blocks of keys and values one under the other. -/
theorem kv_at {x1 x2 x3 : Vec Ideal S128x256 .bf16} {f : Fin 384 → Fin 256 → EReal}
    (h1 : ∀ j w, (x1 (ix2 j w) : EReal) = f (kslot 0 j) w) (h2 : ∀ j w, (x2 (ix2 j w) : EReal) = f (kslot 1 j) w)
    (h3 : ∀ j w, (x3 (ix2 j w) : EReal) = f (kslot 2 j) w) (c : Fin 384) (w : Fin 256) :
    (k0_pay9 x1 x2 x3 (ix2 c w) : EReal) = f c w := by
  unfold k0_pay9
  pointwise
  by_cases a : c.val < 128
  · rw [dif_pos a, h1]
    exact congrArg (f · w) (Fin.ext (by show 0 * 128 + c.val = c.val; omega))
  · rw [dif_neg a]
    by_cases b : c.val - 128 < 128
    · rw [dif_pos b, h2]
      exact congrArg (f · w) (Fin.ext (by show 1 * 128 + (c.val - 128) = c.val; omega))
    · rw [dif_neg b, h3]
      exact congrArg (f · w) (Fin.ext (by show 2 * 128 + (c.val - 128 - 128) = c.val; omega))

/-- The four heads' queries one under the other. -/
def stacked (a0 a1 a2 a3 : Vec Ideal S128x64 .bf16) : FVec Ideal S512x64 .bf16 :=
  concatenate S512x64 0 [⟨S128x64, a0⟩, ⟨S128x64, a1⟩, ⟨S128x64, a2⟩, ⟨S128x64, a3⟩] concatenates_S128x64_S128x64_S128x64_S128x64_S512x64_d0

theorem stack_q {a0 a1 a2 a3 : Vec Ideal S128x64 .bf16} {f : Fin 4 → Fin 128 → Fin 64 → EReal}
    (h0 : ∀ r d, (a0 (ix2 r d) : EReal) = f 0 r d) (h1 : ∀ r d, (a1 (ix2 r d) : EReal) = f 1 r d)
    (h2 : ∀ r d, (a2 (ix2 r d) : EReal) = f 2 r d) (h3 : ∀ r d, (a3 (ix2 r d) : EReal) = f 3 r d)
    (g : Fin 4) (r : Fin 128) (d : Fin 64) : (stacked a0 a1 a2 a3 (ix2 (stk g r) d) : EReal) = f g r d := by
  unfold stacked
  pointwise
  exact stack h0 h1 h2 h3 g r d

/-- The rows of the stack, as a column. -/
abbrev rows : IVec S512x1 32 := iota .tc S512x1 32 [0] iota_S512x1_d0_w32

/-- A column that holds one number for each of the stack's heads. -/
def heads (a b c d : Elt Ideal .f32) : FVec Ideal S512x1 .f32 :=
  select (cmpi .sge rows (broadcast S512x1 384#32)) (broadcast S512x1 d) (select (cmpi .sge rows (broadcast S512x1 256#32)) (broadcast S512x1 c)
    (select (cmpi .sge rows (broadcast S512x1 128#32)) (broadcast S512x1 b) (broadcast S512x1 a)))

theorem heads_at (f : Fin 4 → EReal) (s0 s1 s2 s3 : Elt Ideal .f32) (h0 : s0 = f 0) (h1 : s1 = f 1) (h2 : s2 = f 2) (h3 : s3 = f 3)
    (g : Fin 4) (r : Fin 128) : (heads s0 s1 s2 s3 (ix2 (stk g r) 0) : EReal) = f g := by
  unfold heads
  pointwise
  exact pick f _ _ _ _ h0 h1 h2 h3 g r

/-- The masked scores from the products, the distances and the slopes. -/
def masked (v : IVec S512x384 1) (f s : FVec Ideal S512x384 .f32) (l : FVec Ideal S512x1 .f32) : FVec Ideal S512x384 .f32 :=
  select v (subf s (mulf (broadcastTo S512x384 l broadcasts_S512x1_S512x384) f)) (broadcast S512x384 (Named.named (F := Ideal) κ "mask" 0xFF61B1E6#32))

theorem masked_at (v : IVec S512x384 1) (f s : FVec Ideal S512x384 .f32) (l : FVec Ideal S512x1 .f32) (x : Fin 512) (c : Fin 384) :
    (masked v f s l (ix2 x c) : EReal) = if v (ix2 x c) = 1#1 then s (ix2 x c) - l (ix2 x 0) * f (ix2 x c) else ⊥ := by
  unfold masked
  pointwise
  rfl

/-- The products of the stacked queries with the keys. -/
def products (q : FVec Ideal S512x64 .bf16) (k : FVec Ideal S384x64 .bf16) : FVec Ideal S512x384 .f32 :=
  matmul dot_S512x64_S384x64_S512x384_1_1_0_0_n_n none q k (constant S512x384 .f32 0x00000000#32)

theorem products_at (q : FVec Ideal S512x64 .bf16) (k : FVec Ideal S384x64 .bf16) (x : Fin 512) (c : Fin 384) :
    (products q k (ix2 x c) : EReal) = ∑ d : Fin 64, q (ix2 x d) * k (ix2 c d) := by
  unfold products
  pointwise

/-- A key head's result from its probabilities and values. -/
def weighted (p : FVec Ideal S512x384 .f32) (v : FVec Ideal S384x64 .bf16) : FVec Ideal S512x64 .f32 :=
  matmul dot_S512x384_S384x64_S512x64_1_0_0_1_n_n none (truncf .bf16 p bitsLt_bf16_f32) v (constant S512x64 .f32 0x00000000#32)

theorem weighted_at (p : FVec Ideal S512x384 .f32) (v : FVec Ideal S384x64 .bf16) (x : Fin 512) (d : Fin 64) :
    (weighted p v (ix2 x d) : EReal) = ∑ c : Fin 384, p (ix2 x c) * v (ix2 c d) := by
  unfold weighted
  pointwise

section
variable {Q : (⟨2, ![8192, 512]⟩ : Shape).Idx → EReal} {X : (⟨2, ![8192, 256]⟩ : Shape).Idx → EReal}
  {Z : (⟨1, ![8]⟩ : Shape).Idx → EReal}
  {n : Fin 64} {i : grid0.Coords} {x1 x2 x3 : Vec Ideal S128x256 .bf16} {q0 q1 q2 q3 : Vec Ideal S128x64 .bf16}
  {s0 s1 s2 s3 : Elt Ideal .f32} {kv : FVec Ideal S384x256 .bf16}

variable (Q X Z n i) in
/-- What the kernel loads for a key head at a query block. -/
structure Loads (k : Fin 2) (q0 q1 q2 q3 : Vec Ideal S128x64 .bf16) (s0 s1 s2 s3 : Elt Ideal .f32) (kv : FVec Ideal S384x256 .bf16) : Prop where
  i : (i 0).val = n.val
  q0 : ∀ r d, (q0 (ix2 r d) : EReal) = Q (ix2 (Spec.qrow n r) (Spec.qcol k 0 d))
  q1 : ∀ r d, (q1 (ix2 r d) : EReal) = Q (ix2 (Spec.qrow n r) (Spec.qcol k 1 d))
  q2 : ∀ r d, (q2 (ix2 r d) : EReal) = Q (ix2 (Spec.qrow n r) (Spec.qcol k 2 d))
  q3 : ∀ r d, (q3 (ix2 r d) : EReal) = Q (ix2 (Spec.qrow n r) (Spec.qcol k 3 d))
  s0 : (s0 : EReal) = Spec.snk Z k 0
  s1 : (s1 : EReal) = Spec.snk Z k 1
  s2 : (s2 : EReal) = Spec.snk Z k 2
  s3 : (s3 : EReal) = Spec.snk Z k 3
  kv : ∀ e w, (kv (ix2 e w) : EReal) = X (ix2 (Spec.slot n e) w)

theorem out_at {k : Fin 2} (h : Loads Q X Z n i k q0 q1 q2 q3 s0 s1 s2 s3 kv) (l0 l1 l2 l3 : Elt Ideal .f32)
    (h0 : (l0 : EReal) = Spec.slope k 0) (h1 : (l1 : EReal) = Spec.slope k 1) (h2 : (l2 : EReal) = Spec.slope k 2) (h3 : (l3 : EReal) = Spec.slope k 3)
    (u v : FVec Ideal S384x64 .bf16) (hu : ∀ e d, (u (ix2 e d) : EReal) = kv (ix2 e (Spec.kcol k d)))
    (hv : ∀ e d, (v (ix2 e d) : EReal) = kv (ix2 e (Spec.vcol k d))) (g : Fin 4) (r : Fin 128) (d : Fin 64) :
    (weighted (prob (masked (k0_pay7 i) (k0_pay8 (F := Ideal)) (products (stacked q0 q1 q2 q3) u) (heads l0 l1 l2 l3)) (heads s0 s1 s2 s3)) v
        (ix2 (stk g r) d) : EReal)
      = ∑ e : Fin 384, Spec.pk Q X Z n k g r e * X (ix2 (Spec.slot n e) (Spec.vcol k d)) := by
  refine (weighted_at _ _ _ _).trans (Finset.sum_congr rfl fun e _ => congrArg₂ (· * ·) ?_ ((hv e d).trans (h.kv _ _)))
  refine prob_at _ _ _ _ _ (fun e => ?_) (heads_at (Spec.snk Z k) _ _ _ _ h.s0 h.s1 h.s2 h.s3 g r) e
  rw [masked_at, heads_at (Spec.slope k) _ _ _ _ h0 h1 h2 h3 g r, fdist_at, products_at]
  simp only [stack_q (f := fun g r d => Q (ix2 (Spec.qrow n r) (Spec.qcol k g d))) h.q0 h.q1 h.q2 h.q3, hu, h.kv]
  unfold Spec.Sk
  by_cases hv : Spec.Valid n r e
  · rw [if_pos ((valid_at i n h.i g r e).mpr hv), if_pos hv]
  · rw [if_neg (fun e => hv ((valid_at i n h.i g r _).mp e)), if_neg hv]

/-- A key head's probabilities before the division, its sink's, and their sum, as the kernel's payloads name them. -/
abbrev exLo (i : grid0.Coords) (x1 x2 x3 : Vec Ideal S128x256 .bf16) (q0 q1 q2 q3 : Vec Ideal S128x64 .bf16) (s0 s1 s2 s3 : Elt Ideal .f32) :=
  k0_pay15 (k0_pay7 i) (k0_pay8 (F := Ideal)) (k0_pay11 x1 x2 x3 q0 q1 q2 q3) rows (Scalar.ofBits (F := Ideal) .f32 0x3F000000#32) s0 s1 s2 s3
abbrev esLo (i : grid0.Coords) (x1 x2 x3 : Vec Ideal S128x256 .bf16) (q0 q1 q2 q3 : Vec Ideal S128x64 .bf16) (s0 s1 s2 s3 : Elt Ideal .f32) :=
  k0_pay16 (k0_pay7 i) (k0_pay8 (F := Ideal)) (k0_pay11 x1 x2 x3 q0 q1 q2 q3) rows (Scalar.ofBits (F := Ideal) .f32 0x3F000000#32) s0 s1 s2 s3
abbrev sumLo (i : grid0.Coords) (x1 x2 x3 : Vec Ideal S128x256 .bf16) (q0 q1 q2 q3 : Vec Ideal S128x64 .bf16) (s0 s1 s2 s3 : Elt Ideal .f32) :=
  k0_pay17 (k0_pay7 i) (k0_pay8 (F := Ideal)) (k0_pay11 x1 x2 x3 q0 q1 q2 q3) rows (Scalar.ofBits (F := Ideal) .f32 0x3F000000#32) s0 s1 s2 s3

theorem heads_eq (a b c d : Elt Ideal .f32) : k0_pay12 rows a b c d = heads a b c d := by
  unfold k0_pay12 heads
  rfl

theorem masked_eq (v : IVec S512x384 1) (f s : FVec Ideal S512x384 .f32) (l : Elt Ideal .f32) :
    k0_pay13 v f s rows l = masked v f s (heads l (Scalar.ofBits (F := Ideal) .f32 0x3E800000#32) (Scalar.ofBits (F := Ideal) .f32 0x3E000000#32)
      (Scalar.ofBits (F := Ideal) .f32 0x3D800000#32)) := by
  unfold k0_pay13 masked heads
  rfl

theorem products_eq : k0_pay11 x1 x2 x3 q0 q1 q2 q3
    = products (stacked q0 q1 q2 q3) (extractStridedSlice S384x64 ![0, 0] (k0_pay9 x1 x2 x3) slices_S384x256_o0_0_S384x64) := by
  unfold k0_pay11 products stacked
  rfl

theorem lo_eq (w : FVec Ideal S384x64 .bf16) (v : IVec S512x384 1) (f s : FVec Ideal S512x384 .f32) (l : Elt Ideal .f32) :
    k0_pay18 w (k0_pay15 v f s rows l s0 s1 s2 s3) (k0_pay16 v f s rows l s0 s1 s2 s3) (k0_pay17 v f s rows l s0 s1 s2 s3)
      = weighted (prob (k0_pay13 v f s rows l) (k0_pay12 rows s0 s1 s2 s3)) w := by
  unfold k0_pay18 k0_pay17 k0_pay16 k0_pay15 k0_pay14
  generalize k0_pay13 v f s rows l = a
  generalize k0_pay12 rows s0 s1 s2 s3 = b
  unfold weighted prob
  rfl

theorem hi_eq (v : IVec S512x384 1) (f s : FVec Ideal S512x384 .f32) :
    k0_pay28 v f s rows (k0_pay25 (F := Ideal)) (k0_pay26 s0) k0_pay27 s1 s2 s3
      = prob (masked v f s (heads (Scalar.ofBits (F := Ideal) .f32 0x3D000000#32) (Scalar.ofBits (F := Ideal) .f32 0x3C800000#32)
          (Scalar.ofBits (F := Ideal) .f32 0x3C000000#32) (Scalar.ofBits (F := Ideal) .f32 0x3B800000#32))) (heads s0 s1 s2 s3) := by
  unfold k0_pay28 k0_pay25 k0_pay26 k0_pay27
  unfold prob masked heads
  rfl

theorem products_eq' : k0_pay24 kv q0 q1 q2 q3
    = products (stacked q0 q1 q2 q3) (extractStridedSlice S384x64 ![0, 64] kv slices_S384x256_o0_64_S384x64) := by
  unfold k0_pay24 products stacked
  rfl

theorem hi_out (p : FVec Ideal S512x384 .f32) (w : FVec Ideal S384x64 .bf16) : k0_pay1 w p = weighted p w := by
  unfold k0_pay1 weighted
  rfl

theorem lo_key (e : Fin 384) (d : Fin 64) :
    (extractStridedSlice S384x64 ![0, 0] (k0_pay9 x1 x2 x3) slices_S384x256_o0_0_S384x64 (ix2 e d) : EReal) = k0_pay9 x1 x2 x3 (ix2 e (Spec.kcol 0 d)) := by
  generalize k0_pay9 x1 x2 x3 = y
  pointwise
  exact congrArg _ (congrArg (ix2 e) (Fin.ext (by show d.val = 0 * 64 + d.val; omega)))

theorem lo_val (e : Fin 384) (d : Fin 64) : (k0_pay10 x1 x2 x3 (ix2 e d) : EReal) = k0_pay9 x1 x2 x3 (ix2 e (Spec.vcol 0 d)) := by
  unfold k0_pay10
  generalize k0_pay9 x1 x2 x3 = y
  pointwise
  exact congrArg _ (congrArg (ix2 e) (Fin.ext (by show 128 + d.val = 128 + (0 * 64 + d.val); omega)))

theorem hi_key (e : Fin 384) (d : Fin 64) :
    (extractStridedSlice S384x64 ![0, 64] kv slices_S384x256_o0_64_S384x64 (ix2 e d) : EReal) = kv (ix2 e (Spec.kcol 1 d)) := by
  pointwise
  try exact congrArg _ (congrArg (ix2 e) (Fin.ext (by show 64 + d.val = 1 * 64 + d.val; omega)))

theorem hi_val (e : Fin 384) (d : Fin 64) : (k0_pay23 kv (ix2 e d) : EReal) = kv (ix2 e (Spec.vcol 1 d)) := by
  unfold k0_pay23
  pointwise
  try exact congrArg _ (congrArg (ix2 e) (Fin.ext (by show 192 + d.val = 128 + (1 * 64 + d.val); omega)))

theorem lo_fun : k0_pay18 (k0_pay10 x1 x2 x3) (exLo i x1 x2 x3 q0 q1 q2 q3 s0 s1 s2 s3) (esLo i x1 x2 x3 q0 q1 q2 q3 s0 s1 s2 s3)
        (sumLo i x1 x2 x3 q0 q1 q2 q3 s0 s1 s2 s3)
    = weighted (prob (masked (k0_pay7 i) (k0_pay8 (F := Ideal)) (products (stacked q0 q1 q2 q3)
        (extractStridedSlice S384x64 ![0, 0] (k0_pay9 x1 x2 x3) slices_S384x256_o0_0_S384x64))
        (heads (Scalar.ofBits (F := Ideal) .f32 0x3F000000#32) (Scalar.ofBits (F := Ideal) .f32 0x3E800000#32) (Scalar.ofBits (F := Ideal) .f32 0x3E000000#32)
      (Scalar.ofBits (F := Ideal) .f32 0x3D800000#32))) (heads s0 s1 s2 s3)) (k0_pay10 x1 x2 x3) := by
  unfold exLo esLo sumLo
  rw [lo_eq, heads_eq, masked_eq, products_eq]

theorem lo_at (h : Loads Q X Z n i 0 q0 q1 q2 q3 s0 s1 s2 s3 (k0_pay9 x1 x2 x3)) (g : Fin 4) (r : Fin 128) (d : Fin 64) :
    (k0_pay18 (k0_pay10 x1 x2 x3) (exLo i x1 x2 x3 q0 q1 q2 q3 s0 s1 s2 s3) (esLo i x1 x2 x3 q0 q1 q2 q3 s0 s1 s2 s3)
        (sumLo i x1 x2 x3 q0 q1 q2 q3 s0 s1 s2 s3) (ix2 (stk g r) d) : EReal)
      = ∑ e : Fin 384, Spec.pk Q X Z n 0 g r e * X (ix2 (Spec.slot n e) (Spec.vcol 0 d)) := by
  rw [lo_fun]
  exact out_at h _ _ _ _ Spec.slope0 Spec.slope1 Spec.slope2 Spec.slope3 _ _ lo_key lo_val g r d

/-- The second key head's probabilities. -/
abbrev prHi (i : grid0.Coords) (kv : FVec Ideal S384x256 .bf16) (q0 q1 q2 q3 : Vec Ideal S128x64 .bf16) (s0 s1 s2 s3 : Elt Ideal .f32) :=
  k0_pay28 (k0_pay7 i) (k0_pay8 (F := Ideal)) (k0_pay24 kv q0 q1 q2 q3) rows (k0_pay25 (F := Ideal)) (k0_pay26 s0) k0_pay27 s1 s2 s3

theorem hi_fun : k0_pay1 (k0_pay23 kv) (prHi i kv q0 q1 q2 q3 s0 s1 s2 s3)
    = weighted (prob (masked (k0_pay7 i) (k0_pay8 (F := Ideal)) (products (stacked q0 q1 q2 q3)
        (extractStridedSlice S384x64 ![0, 64] kv slices_S384x256_o0_64_S384x64))
        (heads (Scalar.ofBits (F := Ideal) .f32 0x3D000000#32) (Scalar.ofBits (F := Ideal) .f32 0x3C800000#32)
          (Scalar.ofBits (F := Ideal) .f32 0x3C000000#32) (Scalar.ofBits (F := Ideal) .f32 0x3B800000#32))) (heads s0 s1 s2 s3)) (k0_pay23 kv) := by
  unfold prHi
  rw [hi_out, hi_eq, products_eq']

theorem hi_at (h : Loads Q X Z n i 1 q0 q1 q2 q3 s0 s1 s2 s3 kv) (g : Fin 4) (r : Fin 128) (d : Fin 64) :
    (k0_pay1 (k0_pay23 kv) (prHi i kv q0 q1 q2 q3 s0 s1 s2 s3) (ix2 (stk g r) d) : EReal)
      = ∑ e : Fin 384, Spec.pk Q X Z n 1 g r e * X (ix2 (Spec.slot n e) (Spec.vcol 1 d)) := by
  rw [hi_fun]
  exact out_at h _ _ _ _ Spec.slope4 Spec.slope5 Spec.slope6 Spec.slope7 _ _ hi_key hi_val g r d

theorem lo0 (h : Loads Q X Z n i 0 q0 q1 q2 q3 s0 s1 s2 s3 (k0_pay9 x1 x2 x3)) (r : Fin 128) (d : Fin 64) :
    (k0_pay19 (k0_pay10 x1 x2 x3) (exLo i x1 x2 x3 q0 q1 q2 q3 s0 s1 s2 s3) (esLo i x1 x2 x3 q0 q1 q2 q3 s0 s1 s2 s3) (sumLo i x1 x2 x3 q0 q1 q2 q3 s0 s1 s2 s3) (ix2 r d) : EReal)
      = ∑ e : Fin 384, Spec.pk Q X Z n 0 0 r e * X (ix2 (Spec.slot n e) (Spec.vcol 0 d)) := by
  rw [← lo_at h]
  unfold k0_pay19
  pointwise
  exact congrArg _ (congrArg (ix2 · d) (Fin.ext (by simp [stk])))

theorem lo1 (h : Loads Q X Z n i 0 q0 q1 q2 q3 s0 s1 s2 s3 (k0_pay9 x1 x2 x3)) (r : Fin 128) (d : Fin 64) :
    (k0_pay20 (k0_pay10 x1 x2 x3) (exLo i x1 x2 x3 q0 q1 q2 q3 s0 s1 s2 s3) (esLo i x1 x2 x3 q0 q1 q2 q3 s0 s1 s2 s3) (sumLo i x1 x2 x3 q0 q1 q2 q3 s0 s1 s2 s3) (ix2 r d) : EReal)
      = ∑ e : Fin 384, Spec.pk Q X Z n 0 1 r e * X (ix2 (Spec.slot n e) (Spec.vcol 0 d)) := by
  rw [← lo_at h]
  unfold k0_pay20
  pointwise
  exact congrArg _ (congrArg (ix2 · d) (Fin.ext (by simp [stk])))

theorem lo2 (h : Loads Q X Z n i 0 q0 q1 q2 q3 s0 s1 s2 s3 (k0_pay9 x1 x2 x3)) (r : Fin 128) (d : Fin 64) :
    (k0_pay21 (k0_pay10 x1 x2 x3) (exLo i x1 x2 x3 q0 q1 q2 q3 s0 s1 s2 s3) (esLo i x1 x2 x3 q0 q1 q2 q3 s0 s1 s2 s3) (sumLo i x1 x2 x3 q0 q1 q2 q3 s0 s1 s2 s3) (ix2 r d) : EReal)
      = ∑ e : Fin 384, Spec.pk Q X Z n 0 2 r e * X (ix2 (Spec.slot n e) (Spec.vcol 0 d)) := by
  rw [← lo_at h]
  unfold k0_pay21
  pointwise
  exact congrArg _ (congrArg (ix2 · d) (Fin.ext (by simp [stk])))

theorem lo3 (h : Loads Q X Z n i 0 q0 q1 q2 q3 s0 s1 s2 s3 (k0_pay9 x1 x2 x3)) (r : Fin 128) (d : Fin 64) :
    (k0_pay22 (k0_pay10 x1 x2 x3) (exLo i x1 x2 x3 q0 q1 q2 q3 s0 s1 s2 s3) (esLo i x1 x2 x3 q0 q1 q2 q3 s0 s1 s2 s3) (sumLo i x1 x2 x3 q0 q1 q2 q3 s0 s1 s2 s3) (ix2 r d) : EReal)
      = ∑ e : Fin 384, Spec.pk Q X Z n 0 3 r e * X (ix2 (Spec.slot n e) (Spec.vcol 0 d)) := by
  rw [← lo_at h]
  unfold k0_pay22
  pointwise
  exact congrArg _ (congrArg (ix2 · d) (Fin.ext (by simp [stk])))

theorem hi0 (h : Loads Q X Z n i 1 q0 q1 q2 q3 s0 s1 s2 s3 kv) (r : Fin 128) (d : Fin 64) :
    (k0_pay2 (k0_pay23 kv) (prHi i kv q0 q1 q2 q3 s0 s1 s2 s3) (ix2 r d) : EReal)
      = ∑ e : Fin 384, Spec.pk Q X Z n 1 0 r e * X (ix2 (Spec.slot n e) (Spec.vcol 1 d)) := by
  rw [← hi_at h]
  unfold k0_pay2
  pointwise
  exact congrArg _ (congrArg (ix2 · d) (Fin.ext (by simp [stk])))

theorem hi1 (h : Loads Q X Z n i 1 q0 q1 q2 q3 s0 s1 s2 s3 kv) (r : Fin 128) (d : Fin 64) :
    (k0_pay3 (k0_pay23 kv) (prHi i kv q0 q1 q2 q3 s0 s1 s2 s3) (ix2 r d) : EReal)
      = ∑ e : Fin 384, Spec.pk Q X Z n 1 1 r e * X (ix2 (Spec.slot n e) (Spec.vcol 1 d)) := by
  rw [← hi_at h]
  unfold k0_pay3
  pointwise
  exact congrArg _ (congrArg (ix2 · d) (Fin.ext (by simp [stk])))

theorem hi2 (h : Loads Q X Z n i 1 q0 q1 q2 q3 s0 s1 s2 s3 kv) (r : Fin 128) (d : Fin 64) :
    (k0_pay4 (k0_pay23 kv) (prHi i kv q0 q1 q2 q3 s0 s1 s2 s3) (ix2 r d) : EReal)
      = ∑ e : Fin 384, Spec.pk Q X Z n 1 2 r e * X (ix2 (Spec.slot n e) (Spec.vcol 1 d)) := by
  rw [← hi_at h]
  unfold k0_pay4
  pointwise
  exact congrArg _ (congrArg (ix2 · d) (Fin.ext (by simp [stk])))

theorem hi3 (h : Loads Q X Z n i 1 q0 q1 q2 q3 s0 s1 s2 s3 kv) (r : Fin 128) (d : Fin 64) :
    (k0_pay5 (k0_pay23 kv) (prHi i kv q0 q1 q2 q3 s0 s1 s2 s3) (ix2 r d) : EReal)
      = ∑ e : Fin 384, Spec.pk Q X Z n 1 3 r e * X (ix2 (Spec.slot n e) (Spec.vcol 1 d)) := by
  rw [← hi_at h]
  unfold k0_pay5
  pointwise
  exact congrArg _ (congrArg (ix2 · d) (Fin.ext (by simp [stk])))

end

/-! ## The kernel's array -/

variable (m : (ℓ : Loc nD τ sig) → Buf (Elt Ideal) ℓ)

abbrev Qa (c : Dev nD) : (⟨2, ![8192, 512]⟩ : Shape).Idx → EReal := m ((c : Thread nD τ).loc main_arg0)
abbrev Xa (c : Dev nD) : (⟨2, ![8192, 256]⟩ : Shape).Idx → EReal := m ((c : Thread nD τ).loc main_arg1)
abbrev Za (c : Dev nD) : (⟨1, ![8]⟩ : Shape).Idx → EReal := m ((c : Thread nD τ).loc main_arg2)

/-- The blocks that the windows read at a point. -/
theorem idx : ∀ t : Fin cfg0.N, win0_0.index t = ![t.val, 0] ∧ win0_1.index t = ![t.val - 1, 0] ∧ win0_2.index t = ![t.val, 0]
    ∧ win0_3.index t = ![min (t.val + 1) 63, 0] ∧ win0_4.index t = ![0] ∧ win0_5.index t = ![t.val, 0]
    ∧ ((grid0.coords t) 0).val = t.val :=
  (by decide +kernel : ∀ t : Fin grid0.N, _)

section
variable (c : Dev nD) (t : Fin cfg0.N) (n : Fin 64) (hn : n.val = t.val)

include hn in
theorem q_at (o : Nat) (inb) (k : Fin 2) (g : Fin 4) (ho : o = k.val * 256 + g.val * 64) (r : Fin 128) (d : Fin 64) :
    (View.ld (iblk m c 0 t) (Rect.unit (s := S128x512) ![0, o] ![128, 64] inb) (ix2 r d) : EReal)
      = Qa m c (ix2 (Spec.qrow n r) (Spec.qcol k g d)) := by
  subst ho
  refine (View.ld_unit_apply_of _ _ _ inb (ix2 r d) (ix2 r ⟨k.val * 256 + g.val * 64 + d.val, by omega⟩)
    (fun a => by fin_cases a <;> simp)).trans ?_
  blk_ext [iblk, V, idx t]
  all_goals simp [Spec.qrow, Spec.qcol, hn]

include hn in
theorem x1_at (j : Fin 128) (w : Fin 256) : (iblk m c 1 t (ix2 j w) : EReal) = Xa m c (ix2 (Spec.slot n (kslot 0 j)) w) := by
  blk_ext [iblk, V, idx t]
  simp [Spec.slot, kslot, hn]

include hn in
theorem x2_at (j : Fin 128) (w : Fin 256) : (iblk m c 2 t (ix2 j w) : EReal) = Xa m c (ix2 (Spec.slot n (kslot 1 j)) w) := by
  blk_ext [iblk, V, idx t]
  simp [Spec.slot, kslot, hn]
  omega

include hn in
theorem x3_at (j : Fin 128) (w : Fin 256) : (iblk m c 3 t (ix2 j w) : EReal) = Xa m c (ix2 (Spec.slot n (kslot 2 j)) w) := by
  blk_ext [iblk, V, idx t]
  simp [Spec.slot, kslot, hn]
  omega

theorem s_at (o : Nat) (inb) (k : Fin 2) (g : Fin 4) (ho : o = k.val * 4 + g.val) (h) :
    (View.ld (iblk m c 4 t) (Rect.unit (s := S8) ![o] ![1] inb) (Shape.Idx.first h) : EReal) = Spec.snk (Za m c) k g := by
  subst ho
  refine (View.ld_unit_apply_of _ _ _ inb _ (ix1 ⟨k.val * 4 + g.val, by omega⟩)
    (fun a => by fin_cases a; simp [Shape.Idx.first])).trans ?_
  blk_ext [iblk, V, idx t]
  all_goals simp [Spec.head]

include hn in
/-- The keys and values at a key slot. -/
theorem kv_blk (e : Fin 384) (w : Fin 256) :
    (k0_pay9 (iblk m c 1 t) (iblk m c 2 t) (iblk m c 3 t) (ix2 e w) : EReal) = Xa m c (ix2 (Spec.slot n e) w) :=
  kv_at (f := fun e w => Xa m c (ix2 (Spec.slot n e) w)) (x1_at m c t n hn) (x2_at m c t n hn) (x3_at m c t n hn) e w
end

/-- What the body loads at a point for a key head. -/
theorem loads (c : Dev nD) (t : Fin cfg0.N) (k : Fin 2) (a0 a1 a2 a3 : Nat) (z0 z1 z2 z3 : Nat) (i0 i1 i2 i3 w0 w1 w2 w3 f0 f1 f2 f3)
    (ha0 : a0 = k.val * 256 + 0 * 64) (ha1 : a1 = k.val * 256 + 1 * 64) (ha2 : a2 = k.val * 256 + 2 * 64) (ha3 : a3 = k.val * 256 + 3 * 64)
    (hz0 : z0 = k.val * 4 + 0) (hz1 : z1 = k.val * 4 + 1) (hz2 : z2 = k.val * 4 + 2) (hz3 : z3 = k.val * 4 + 3) :
    Loads (Qa m c) (Xa m c) (Za m c) ⟨t.val, t.isLt⟩ (grid0.coords t) k
      (View.ld (iblk m c 0 t) (Rect.unit (s := S128x512) ![0, a0] ![128, 64] i0))
      (View.ld (iblk m c 0 t) (Rect.unit (s := S128x512) ![0, a1] ![128, 64] i1))
      (View.ld (iblk m c 0 t) (Rect.unit (s := S128x512) ![0, a2] ![128, 64] i2))
      (View.ld (iblk m c 0 t) (Rect.unit (s := S128x512) ![0, a3] ![128, 64] i3))
      (View.ld (iblk m c 4 t) (Rect.unit (s := S8) ![z0] ![1] w0) (Shape.Idx.first f0))
      (View.ld (iblk m c 4 t) (Rect.unit (s := S8) ![z1] ![1] w1) (Shape.Idx.first f1))
      (View.ld (iblk m c 4 t) (Rect.unit (s := S8) ![z2] ![1] w2) (Shape.Idx.first f2))
      (View.ld (iblk m c 4 t) (Rect.unit (s := S8) ![z3] ![1] w3) (Shape.Idx.first f3))
      (k0_pay9 (iblk m c 1 t) (iblk m c 2 t) (iblk m c 3 t)) where
  i := (idx t).2.2.2.2.2.2
  q0 := q_at m c t _ rfl _ _ k 0 ha0
  q1 := q_at m c t _ rfl _ _ k 1 ha1
  q2 := q_at m c t _ rfl _ _ k 2 ha2
  q3 := q_at m c t _ rfl _ _ k 3 ha3
  s0 := s_at m c t _ _ k 0 hz0 _
  s1 := s_at m c t _ _ k 1 hz1 _
  s2 := s_at m c t _ _ k 2 hz2 _
  s3 := s_at m c t _ _ k 3 hz3 _
  kv := kv_blk m c t _ rfl

theorem q_piece (c : Dev nD) (G : S8192x512.Idx → EReal) (t : Fin cfg0.N) (y : ((cfg0.win 5).xblock (cfg0.grid.coords t)).Idx)
    (x : S128x64.Idx) (k : Fin 2) (g : Fin 4) (f : Fin 64 → Fin 2 → Fin 4 → Fin 128 → Fin 64 → EReal)
    (hG : ∀ n k g r d, G (ix2 (Spec.qrow n r) (Spec.qcol k g d)) = f n k g r d)
    (P : S128x64.Idx → EReal) (hP : ∀ r d, P (ix2 r d) = f ⟨t.val, t.isLt⟩ k g r d) (h0 : (y 0).val = (x 0).val)
    (h1 : (y 1).val = k.val * 256 + g.val * 64 + (x 1).val) : P x = G (((View.whole main_v0).slice (win0_5.rect t)).emb y) := by
  refine (congrArg P (ix2_eta x).symm).trans ((hP (x 0) (x 1)).trans ((hG _ _ _ _ _).symm.trans ?_))
  blk_ext [idx t]

set_option maxHeartbeats 2000000 in
/-- The kernel's array. -/
theorem arr5 (c : Dev nD) (G : S8192x512.Idx → EReal)
    (hG : ∀ n k g r d, G (ix2 (Spec.qrow n r) (Spec.qcol k g d))
      = ∑ e : Fin 384, Spec.pk (Qa m c) (Xa m c) (Za m c) n k g r e * Xa m c (ix2 (Spec.slot n e) (Spec.vcol k d))) :
    (dats m 0 c).arrAt 5 cfg0.N = G := by
  refine (dats m 0 c).arrAt_eq_of_covers 5 _ (by decide +kernel) fun t hf y => ?_
  blk_simp
  rw [after0_5]
  simp only [outsAt0]
  frame_out
  canon_tiles x hx
  · exact q_piece c G t y x 1 3 _ hG _ (hi3 (loads m c t 1 256 320 384 448 4 5 6 7 _ _ _ _ _ _ _ _ _ _ _ _ (by decide) (by decide) (by decide) (by decide) (by decide) (by decide) (by decide) (by decide))) hx0 hx1
  · exact q_piece c G t y x 1 2 _ hG _ (hi2 (loads m c t 1 256 320 384 448 4 5 6 7 _ _ _ _ _ _ _ _ _ _ _ _ (by decide) (by decide) (by decide) (by decide) (by decide) (by decide) (by decide) (by decide))) hx0 hx1
  · exact q_piece c G t y x 1 1 _ hG _ (hi1 (loads m c t 1 256 320 384 448 4 5 6 7 _ _ _ _ _ _ _ _ _ _ _ _ (by decide) (by decide) (by decide) (by decide) (by decide) (by decide) (by decide) (by decide))) hx0 hx1
  · exact q_piece c G t y x 1 0 _ hG _ (hi0 (loads m c t 1 256 320 384 448 4 5 6 7 _ _ _ _ _ _ _ _ _ _ _ _ (by decide) (by decide) (by decide) (by decide) (by decide) (by decide) (by decide) (by decide))) hx0 hx1
  · exact q_piece c G t y x 0 3 _ hG _ (lo3 (loads m c t 0 0 64 128 192 0 1 2 3 _ _ _ _ _ _ _ _ _ _ _ _ (by decide) (by decide) (by decide) (by decide) (by decide) (by decide) (by decide) (by decide))) hx0 hx1
  · exact q_piece c G t y x 0 2 _ hG _ (lo2 (loads m c t 0 0 64 128 192 0 1 2 3 _ _ _ _ _ _ _ _ _ _ _ _ (by decide) (by decide) (by decide) (by decide) (by decide) (by decide) (by decide) (by decide))) hx0 hx1
  · exact q_piece c G t y x 0 1 _ hG _ (lo1 (loads m c t 0 0 64 128 192 0 1 2 3 _ _ _ _ _ _ _ _ _ _ _ _ (by decide) (by decide) (by decide) (by decide) (by decide) (by decide) (by decide) (by decide))) hx0 hx1
  · exact q_piece c G t y x 0 0 _ hG _ (lo0 (loads m c t 0 0 64 128 192 0 1 2 3 _ _ _ _ _ _ _ _ _ _ _ _ (by decide) (by decide) (by decide) (by decide) (by decide) (by decide) (by decide) (by decide))) hx0 (by simpa using hx1)

end Cert.AttnIdeal.At

/-! ## The precondition -/

namespace Cert.Pre_finite_attn

open Idealize.ShloMosaic

instance facts : Cert.Pre_finite_attn.Facts where
  bcast_S8_S1x8_1 := by decide
  bcast_S1x8_S8192x8_0_1 := by decide
  bitsLt_bf16_f32 := by decide
  concatenates_S8192x512_S8192x256_S8192x8_S8192x776_d1 := by decide
  bcast_S_S8192x776 := by decide

variable (Q : FVec Ideal S8192x512 .bf16) (X : FVec Ideal S8192x256 .bf16) (Z : FVec Ideal S8 .f32)

/-- What a row holds: the two arrays' rows, then the sinks. -/
def cat (n : Fin 8192) (w : Fin 776) : EReal :=
  if h : w.val < 512 then Q (ix2 n ⟨w.val, h⟩)
  else if h : w.val - 512 < 256 then X (ix2 n ⟨w.val - 512, h⟩)
  else Z (ix1 ⟨w.val - 512 - 256, by omega⟩)

theorem fn_at (n : Fin 8192) (w : Fin 776) :
    fn Q X Z (ix2 n w) = BitVec.ofBool (decide (max (cat Q X Z n w) (-(cat Q X Z n w)) < ⊤)) := by
  rw [← Cert.Pre_finite.pinf]
  unfold fn
  pointwise
  rfl

theorem allReal (h : fn (F := Ideal) Q X Z = fun _ => 1#1) : Spec.AllReal Q X (fun _ => 0) Z := by
  have hr : ∀ n w, Row.IsReal (cat Q X Z n w) := fun n w =>
    Cert.Pre_finite.isReal_of _ ((fn_at Q X Z n w).symm.trans (congrFun h (ix2 n w)))
  refine ⟨fun i => ?_, fun i => ?_, fun i => Row.IsReal.zero, fun i => ?_⟩
  · have hi := hr (i 0) ⟨(i 1).val, by have : (i 1).val < 512 := (i 1).isLt; omega⟩
    have hl : (i 1).val < 512 := (i 1).isLt
    unfold cat at hi
    rw [dif_pos hl] at hi
    rw [eq_ix2 i]
    exact hi
  · have hl : (i 1).val < 256 := (i 1).isLt
    have hi := hr (i 0) ⟨512 + (i 1).val, by omega⟩
    unfold cat at hi
    rw [dif_neg (by show ¬ 512 + (i 1).val < 512; omega), dif_pos (show 512 + (i 1).val - 512 < 256 by omega)] at hi
    rw [eq_ix2 i]
    refine Eq.mp (congrArg (fun j => Row.IsReal (X (ix2 (i 0) j))) (Fin.ext ?_)) hi
    show 512 + (i 1).val - 512 = (i 1).val
    omega
  · have hl : (i 0).val < 8 := (i 0).isLt
    have hi := hr 0 ⟨768 + (i 0).val, by omega⟩
    unfold cat at hi
    rw [dif_neg (by show ¬ 768 + (i 0).val < 512; omega), dif_neg (show ¬ 768 + (i 0).val - 512 < 256 by omega)] at hi
    rw [eq_ix1 i]
    refine Eq.mp (congrArg (fun j => Row.IsReal (Z (ix1 j))) (Fin.ext ?_)) hi
    show 768 + (i 0).val - 512 - 256 = (i 0).val
    omega

end Cert.Pre_finite_attn

/-! ## The claims -/

namespace Cert.Proof.Attn

open Idealize.ShloMosaic Idealize.SL.Sem Idealize.ShloMosaic.StableHlo

theorem frame_r : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run m ρ)

/-- A slot that a query does not see adds nothing on either side; one that it sees holds the padded array's row. -/
theorem term_eq {Q : (⟨2, ![8192, 512]⟩ : Shape).Idx → EReal} {X : (⟨2, ![8192, 256]⟩ : Shape).Idx → EReal}
    {Z : (⟨1, ![8]⟩ : Shape).Idx → EReal} (h : Spec.AllReal Q X (fun _ => 0) Z) (n : Fin 64) (k : Fin 2) (g : Fin 4) (r : Fin 128)
    (e : Fin 384) (w : Fin 256) : Spec.pad X n e w * Spec.pr Q X Z n k g r e = Spec.pk Q X Z n k g r e * X (ix2 (Spec.slot n e) w) := by
  rw [← Spec.p_eq h]
  by_cases hv : Spec.Valid n r e
  · rw [Spec.pad_eq X n r e w hv, mul_comm]
  · have h0 : Spec.pk Q X Z n k g r e = 0 :=
      (Row.p_masked (G := Spec.Gr X (fun _ => 0) n k g r) (G' := Spec.Gr X (fun _ => 0) n k g r) (Spec.ok h n k g r)
        (fun c => Spec.grads_real h n k g r c) (fun _ _ => rfl) e (Spec.masked n k g r e hv)).1
    rw [h0, mul_zero, zero_mul]

theorem sum_eq {Q : (⟨2, ![8192, 512]⟩ : Shape).Idx → EReal} {X : (⟨2, ![8192, 256]⟩ : Shape).Idx → EReal}
    {Z : (⟨1, ![8]⟩ : Shape).Idx → EReal} (h : Spec.AllReal Q X (fun _ => 0) Z) (n : Fin 64) (k : Fin 2) (g : Fin 4) (r : Fin 128) (w : Fin 256) :
    ∑ e : Fin 384, Spec.pad X n e w * Spec.pr Q X Z n k g r e = ∑ e : Fin 384, Spec.pk Q X Z n k g r e * X (ix2 (Spec.slot n e) w) :=
  Finset.sum_congr rfl fun e _ => term_eq h n k g r e w

theorem algebraic : Cert.algebraic_AttnIdeal_AttnRefIdeal_pre_finite_attn := fun m ρ m' ρ' hpre hag => by
  refine ⟨fun c => (Cert.AttnIdeal.Gen.dats m 0 c).arrAt 5 Cert.AttnIdeal.cfg0.N, Cert.AttnIdeal.Value.run_blocks m ρ, ?_⟩
  refine (θ_run _ _ _).mono (fun _ h c => ?_) (Cert.AttnRefIdeal.Value.run m' ρ')
  obtain ⟨h0, hk⟩ := h c
  obtain ⟨e0, e1, e2⟩ := hag c
  have hr : Spec.AllReal (Cert.AttnIdeal.At.Qa m c) (Cert.AttnIdeal.At.Xa m c) (fun _ => 0) (Cert.AttnIdeal.At.Za m c) :=
    Cert.Pre_finite_attn.allReal _ _ _ (hpre c)
  refine ⟨h0.trans (Cert.AttnIdeal.At.arr5 m c _ fun n k g r d => ?_).symm, hk⟩
  refine (Cert.AttnRefIdeal.At.res_at m' c _ _ _ e0 e1 e2 n k g r d).trans ?_
  exact sum_eq hr n k g r _

end Cert.Proof.Attn

end
-- ==== Proof.LossVal.lean ====
/- The loss head: the gradient of the loss, its half-format copy and the squared errors' sums are the same arrays in kernel and reference. -/
module

public import proofs.«01_k».proof.Proof.Gen.LossIdeal.Value
public import proofs.«01_k».proof.Proof.Gen.LossRefIdeal.Run
public import proofs.«01_k».proof.Defs
public import Idealize.ShloMosaic.Adequacy
public import Idealize.ShloMosaic.Init
public import Idealize.ShloMosaic.Lib.Pointwise
public import Idealize.ShloMosaic.Lib.Tactic.CleanTypes
public import Idealize.ShloMosaic.Lib.Pipeline.ReadBack
public import Idealize.ShloMosaic.Lib.Pipeline.ValueKit
public import proofs.«01_k».proof.Proof.Norm

@[expose] public section

set_option maxRecDepth 16384

noncomputable section

namespace Cert.LossIdeal.At

open Idealize.ShloMosaic Idealize.SL.Sem Idealize.ShloMosaic.TcCoe Cert.LossIdeal Cert.LossIdeal.Gen

variable (m : (ℓ : Loc nD τ sig) → Buf (Elt Ideal) ℓ) (c : Dev nD)

abbrev Xa : S8192x1024.Idx → EReal := m ((c : Thread nD τ).loc main_arg0)
abbrev Ya : S8192x1024.Idx → EReal := m ((c : Thread nD τ).loc main_arg1)

/-- An entry of the loss's gradient. -/
def gx (X Y : S8192x1024.Idx → EReal) (i : Fin 8192) (k : Fin 1024) : EReal :=
  (X (ix2 i k) - Y (ix2 i k)) * Ideal.ofBits .f32 0x3A800000#32

/-- A squared error. -/
def sq (X Y : S8192x1024.Idx → EReal) (i : Fin 8192) (k : Fin 1024) : EReal :=
  (X (ix2 i k) - Y (ix2 i k)) * (X (ix2 i k) - Y (ix2 i k))

abbrev row8 (u : Fin 1024) (a : Fin 8) : Fin 8192 := ⟨u.val * 8 + a.val, by omega⟩
abbrev loc8 (u : Fin 64) (a : Fin 8) : Fin 512 := ⟨u.val * 8 + a.val, by omega⟩

/-- The squared errors over the rows of one residue. -/
def gg (X Y : S8192x1024.Idx → EReal) (a : Fin 8) (k : Fin 1024) : EReal := ∑ u : Fin 1024, sq X Y (row8 u a) k

theorem pay3_at (v3 v4 : FVec Ideal S512x1024 .f32) (r : Fin 512) (k : Fin 1024) :
    (k0_pay3 (F := Ideal) v3 v4 (ix2 r k) : EReal) = (v3 (ix2 r k) - v4 (ix2 r k)) * Ideal.ofBits .f32 0x3A800000#32 := by
  unfold k0_pay3 k0_pay2
  pointwise

theorem pay4_at (v3 v4 : FVec Ideal S512x1024 .f32) (r : Fin 512) (k : Fin 1024) :
    (k0_pay4 (F := Ideal) v3 v4 (ix2 r k) : EReal) = (v3 (ix2 r k) - v4 (ix2 r k)) * Ideal.ofBits .f32 0x3A800000#32 := by
  unfold k0_pay4 k0_pay3 k0_pay2
  pointwise

theorem pay5_at (v3 v4 : FVec Ideal S512x1024 .f32) (v11 : FVec Ideal S8x1024 .f32) (a : Fin 8) (k : Fin 1024) :
    (k0_pay5 (F := Ideal) v3 v4 v11 (ix2 a k) : EReal)
      = v11 (ix2 a k) + ∑ u : Fin 64, (v3 (ix2 (loc8 u a) k) - v4 (ix2 (loc8 u a) k)) * (v3 (ix2 (loc8 u a) k) - v4 (ix2 (loc8 u a) k)) := by
  unfold k0_pay5 k0_pay2
  pointwise

theorem zero_at (i : S8x1024.Idx) : (k0_pay1 (F := Ideal) i : EReal) = 0 := by
  unfold k0_pay1
  pointwise

theorem idx : ∀ t : Fin cfg0.N, win0_0.index t = ![t.val, 0] ∧ win0_1.index t = ![t.val, 0] ∧ win0_2.index t = ![t.val, 0]
    ∧ win0_3.index t = ![t.val, 0] ∧ win0_4.index t = ![0, 0] :=
  (by decide +kernel : ∀ t : Fin grid0.N, _)

/-- The row that a point's row is. -/
abbrev row (t : Fin cfg0.N) (r : Fin 512) : Fin 8192 := ⟨t.val * 512 + r.val, by have := t.isLt; have : cfg0.N = 16 := N_0; omega⟩

theorem x_blk (t : Fin cfg0.N) (r : Fin 512) (k : Fin 1024) : (iblk m c 0 t (ix2 r k) : EReal) = Xa m c (ix2 (row t r) k) := by
  blk_ext [iblk, V, idx t]

theorem y_blk (t : Fin cfg0.N) (r : Fin 512) (k : Fin 1024) : (iblk m c 1 t (ix2 r k) : EReal) = Ya m c (ix2 (row t r) k) := by
  blk_ext [iblk, V, idx t]

theorem gx_at (t : Fin cfg0.N) (r : Fin 512) (k : Fin 1024) :
    (k0_pay3 (F := Ideal) (iblk m c 0 t) (iblk m c 1 t) (ix2 r k) : EReal) = gx (Xa m c) (Ya m c) (row t r) k := by
  refine (pay3_at _ _ r k).trans ?_
  simp only [x_blk, y_blk]
  rfl

theorem gb_at (t : Fin cfg0.N) (r : Fin 512) (k : Fin 1024) :
    (k0_pay4 (F := Ideal) (iblk m c 0 t) (iblk m c 1 t) (ix2 r k) : EReal) = gx (Xa m c) (Ya m c) (row t r) k := by
  refine (pay4_at _ _ r k).trans ?_
  simp only [x_blk, y_blk]
  rfl

/-- What a point adds to the squared errors. -/
def step (t : Fin cfg0.N) (a : Fin 8) (k : Fin 1024) : EReal := ∑ u : Fin 64, sq (Xa m c) (Ya m c) (row t (loc8 u a)) k

theorem gg_at (t : Fin cfg0.N) (v : FVec Ideal S8x1024 .f32) (a : Fin 8) (k : Fin 1024) :
    (k0_pay5 (F := Ideal) (iblk m c 0 t) (iblk m c 1 t) v (ix2 a k) : EReal) = v (ix2 a k) + step m c t a k := by
  refine (pay5_at _ _ _ a k).trans ?_
  simp only [x_blk, y_blk]
  rfl

theorem row2 (t : Fin cfg0.N) (r : Fin 512) (k : Fin 1024) :
    ((outsAt0 m c t.val t.isLt).1 (ix2 r k) : EReal) = gx (Xa m c) (Ya m c) (row t r) k := by
  by_cases h : t.val % 16 = 0
  · rw [outsAt0_A m c t h]
    dsimp only
    frame_out
    exact gx_at m c t r k
  · rw [outsAt0_B m c t h]
    dsimp only
    frame_out
    exact gx_at m c t r k

theorem row3 (t : Fin cfg0.N) (r : Fin 512) (k : Fin 1024) :
    ((outsAt0 m c t.val t.isLt).2.1 (ix2 r k) : EReal) = gx (Xa m c) (Ya m c) (row t r) k := by
  by_cases h : t.val % 16 = 0
  · rw [outsAt0_A m c t h]
    dsimp only
    frame_out
    exact gb_at m c t r k
  · rw [outsAt0_B m c t h]
    dsimp only
    frame_out
    exact gb_at m c t r k

theorem row4_A (t : Fin cfg0.N) (h : t.val % 16 = 0) (a : Fin 8) (k : Fin 1024) :
    ((outsAt0 m c t.val t.isLt).2.2 (ix2 a k) : EReal) = (0 : EReal) + step m c t a k := by
  rw [outsAt0_A m c t h]
  dsimp only
  frame_out
  refine (gg_at m c t _ a k).trans ?_
  rw [zero_at]

theorem row4_B (t : Fin cfg0.N) (h : ¬ t.val % 16 = 0) (a : Fin 8) (k : Fin 1024) :
    ((outsAt0 m c t.val t.isLt).2.2 (ix2 a k) : EReal)
      = ((outsAt0 m c (t.val - 1) (Nat.lt_of_le_of_lt (Nat.sub_le _ _) t.isLt)).2.2 (ix2 a k) : EReal) + step m c t a k := by
  rw [outsAt0_B m c t h]
  dsimp only
  frame_out
  exact gg_at m c t _ a k

/-- The kernel's gradient of the loss. -/
theorem arr2 (G : S8192x1024.Idx → EReal) (hG : ∀ i k, G (ix2 i k) = gx (Xa m c) (Ya m c) i k) : (dats m 0 c).arrAt 2 cfg0.N = G := by
  refine (dats m 0 c).arrAt_eq_of_covers 2 _ (by decide +kernel) fun t hf y => ?_
  blk_simp
  rw [after0_2]
  obtain ⟨r, k, rfl⟩ : ∃ (r : Fin 512) (k : Fin 1024), y = ix2 r k := ⟨y 0, y 1, eq_ix2 y⟩
  refine (row2 m c t r k).trans ((hG (row t r) k).symm.trans (congrArg G ?_))
  blk_ext [idx t]

/-- The same in the half format. -/
theorem arr3 (G : S8192x1024.Idx → EReal) (hG : ∀ i k, G (ix2 i k) = gx (Xa m c) (Ya m c) i k) : (dats m 0 c).arrAt 3 cfg0.N = G := by
  refine (dats m 0 c).arrAt_eq_of_covers 3 _ (by decide +kernel) fun t hf y => ?_
  blk_simp
  rw [after0_3]
  obtain ⟨r, k, rfl⟩ : ∃ (r : Fin 512) (k : Fin 1024), y = ix2 r k := ⟨y 0, y 1, eq_ix2 y⟩
  refine (row3 m c t r k).trans ((hG (row t r) k).symm.trans (congrArg G ?_))
  blk_ext [idx t]

/-- The whole grid adds up to the squared errors. -/
theorem steps (a : Fin 8) (k : Fin 1024) (h : ∀ s : Fin 16, s.val < cfg0.N) :
    ∑ s : Fin 16, step m c ⟨s.val, h s⟩ a k = gg (Xa m c) (Ya m c) a k := by
  unfold step gg
  refine Fin.sum_mul_add_congr (L := 1024) (S := 16) (n := 64)
    (f := fun u => sq (Xa m c) (Ya m c) (row8 u a) k) (fun s u hl => ?_) (by decide)
  refine congrArg (fun i => sq (Xa m c) (Ya m c) i k) (Fin.ext ?_)
  show s.val * 512 + (u.val * 8 + a.val) = (s.val * 64 + u.val) * 8 + a.val
  omega

/-- The kernel's squared errors. -/
theorem arr4 (G : S8x1024.Idx → EReal) (hG : ∀ a k, G (ix2 a k) = gg (Xa m c) (Ya m c) a k) : (dats m 0 c).arrAt 4 cfg0.N = G := by
  refine (dats m 0 c).arrAt_eq_of_covers 4 _ (by decide +kernel) fun t hf y => ?_
  blk_simp
  rw [after0_4]
  obtain ⟨a, k, rfl⟩ : ∃ (a : Fin 8) (k : Fin 1024), y = ix2 a k := ⟨y 0, y 1, eq_ix2 y⟩
  have ht : t.val + 1 = 16 := by
    have := (flush0_4 t).mp hf
    have := t.isLt
    have : cfg0.N = 16 := N_0
    omega
  refine (Pipeline.eq_sum_fin_of_reset_step_apply_last
    (fun n h (i : Fin 8 × Fin 1024) => ((outsAt0 m c n h).2.2 (ix2 i.1 i.2) : EReal)) 16 (fun _ => 0)
    (fun t i => step m c t i.1 i.2) (fun t h i => row4_A m c t h _ _) (fun t h i => row4_B m c t h _ _)
    (le_of_eq N_0) t ht (a, k)).trans ?_
  rw [zero_add]
  refine Eq.trans (steps m c a k _) ((hG a k).symm.trans (congrArg G ?_))
  blk_ext [idx t]

end Cert.LossIdeal.At

namespace Cert.LossRefIdeal.At

open Idealize.ShloMosaic Idealize.SL.Sem Idealize.ShloMosaic.StableHlo Cert.LossRefIdeal Cert.LossRefIdeal.Gen

/-- Half of the mean's share, times two, is the mean's share. -/
theorem share : Ideal.div (Ideal.ofBits .f32 0x3F000000#32) (Ideal.ofBits .f32 0x44800000#32) * Ideal.ofBits .f32 0x40000000#32
    = Ideal.ofBits .f32 0x3A800000#32 := by
  have h1 : Ideal.ofBits .f32 0x3F000000#32 = (((1 : ℝ) / 2 : ℝ) : EReal) := by
    simp [Ideal.ofBits, Ideal.ieee, -EReal.coe_mul] <;> norm_num [← EReal.coe_mul, -EReal.coe_mul]
  have h2 : Ideal.ofBits .f32 0x44800000#32 = ((1024 : ℝ) : EReal) := by
    simp [Ideal.ofBits, Ideal.ieee, -EReal.coe_mul] <;> norm_num [← EReal.coe_mul, -EReal.coe_mul]
  have h3 : Ideal.ofBits .f32 0x40000000#32 = ((2 : ℝ) : EReal) := by
    simp [Ideal.ofBits, Ideal.ieee, -EReal.coe_mul] <;> norm_num [← EReal.coe_mul, -EReal.coe_mul]
  have h4 : Ideal.ofBits .f32 0x3A800000#32 = (((1 : ℝ) / 1024 : ℝ) : EReal) := by
    simp [Ideal.ofBits, Ideal.ieee, -EReal.coe_mul] <;> norm_num [← EReal.coe_mul, -EReal.coe_mul]
  rw [h1, h2, h3, h4]
  unfold Ideal.div
  rw [if_neg (by exact_mod_cast (by norm_num : (1024 : ℝ) ≠ 0)), ← EReal.coe_inv, ← EReal.coe_mul, ← EReal.coe_mul]
  norm_num

theorem res0_at (A B : FVec Ideal S8192x1024 .f32) (i : Fin 8192) (k : Fin 1024) :
    (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf A B)) (ix2 i k) : EReal)
      = Cert.LossIdeal.At.gx A B i k := by
  pointwise
  unfold Cert.LossIdeal.At.gx
  rw [← mul_assoc, mul_comm (A (ix2 i k) - B (ix2 i k)), ← share]

theorem res1_at (A B : FVec Ideal S8192x1024 .f32) (i : Fin 8192) (k : Fin 1024) :
    (truncf .bf16 (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf A B))) bitsLt_bf16_f32 (ix2 i k) : EReal)
      = Cert.LossIdeal.At.gx A B i k :=
  res0_at A B i k

theorem res2_at (A B : FVec Ideal S8192x1024 .f32) (a : Fin 8) (k : Fin 1024) :
    (Host.reduceAdd (shapeCast _ (mulf (subf A B) (subf A B)) shapeCasts_S8192x1024_S1024x8x1024) (constant S_ .f32 0x00000000#32) reducesTo_S1024x8x1024_S8x1024_d0 h_S_ (ix2 a k) : EReal)
      = Cert.LossIdeal.At.gg A B a k := by
  pointwise
  rfl

end Cert.LossRefIdeal.At

namespace Cert.Proof.Loss

open Idealize.ShloMosaic Idealize.SL.Sem Idealize.ShloMosaic.StableHlo

theorem frame_r : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run m ρ)

theorem algebraic : Cert.algebraic_LossIdeal_LossRefIdeal := fun m ρ m' ρ' _ hag => by
  refine ⟨fun c => (Cert.LossIdeal.Gen.dats m 0 c).arrAt 2 Cert.LossIdeal.cfg0.N,
    fun c => (Cert.LossIdeal.Gen.dats m 0 c).arrAt 3 Cert.LossIdeal.cfg0.N,
    fun c => (Cert.LossIdeal.Gen.dats m 0 c).arrAt 4 Cert.LossIdeal.cfg0.N, Cert.LossIdeal.Value.run_blocks m ρ, ?_⟩
  refine (θ_run _ _ _).mono (fun _ h c => ?_) (Cert.LossRefIdeal.Value.run m' ρ')
  obtain ⟨h0, h1, h2, hk⟩ := h c
  obtain ⟨e0, e1⟩ := hag c
  refine ⟨h0.trans (Cert.LossIdeal.At.arr2 m c _ fun i j => ?_).symm, h1.trans (Cert.LossIdeal.At.arr3 m c _ fun i j => ?_).symm,
    h2.trans (Cert.LossIdeal.At.arr4 m c _ fun a k => ?_).symm, hk⟩
  · refine (Cert.LossRefIdeal.At.res0_at _ _ i j).trans ?_
    rw [e0, e1]
  · refine (Cert.LossRefIdeal.At.res1_at _ _ i j).trans ?_
    rw [e0, e1]
  · refine (Cert.LossRefIdeal.At.res2_at _ _ a k).trans ?_
    rw [e0, e1]

end Cert.Proof.Loss

end
-- ==== Proof.AdamVal.lean ====
/- The optimiser on a matrix that two cores hold halves of: gathered gradient, step and the two moments are the same arrays in kernel and reference. -/
module

public import proofs.«01_k».proof.Proof.Gen.AdamIdeal.Value
public import proofs.«01_k».proof.Proof.Gen.AdamRefIdeal.Run
public import proofs.«01_k».proof.Defs
public import Idealize.ShloMosaic.Adequacy
public import Idealize.ShloMosaic.Init
public import Idealize.ShloMosaic.Lib.Pointwise
public import Idealize.ShloMosaic.Lib.Tactic.CleanTypes
public import Idealize.ShloMosaic.Lib.Pipeline.ReadBack
public import Idealize.ShloMosaic.Lib.Pipeline.ValueKit

@[expose] public section

set_option maxRecDepth 16384

noncomputable section

namespace Cert.AdamIdeal.At

open Idealize.ShloMosaic Idealize.SL.Sem Idealize.ShloMosaic.TcCoe Cert.AdamIdeal Cert.AdamIdeal.Gen

variable (m : (ℓ : Loc nD τ sig) → Buf (Elt Ideal) ℓ) (c : Dev nD)

abbrev Ca : S1.Idx → BitVec 32 := m ((c : Thread nD τ).loc main_arg0)
abbrev Pa : S4x1024x1024.Idx → EReal := m ((c : Thread nD τ).loc main_arg1)
abbrev Oa : S4x512x1024.Idx → EReal := m ((c : Thread nD τ).loc main_arg2)
abbrev Sa : S4x512x1024.Idx → EReal := m ((c : Thread nD τ).loc main_arg3)
abbrev Ma : S4x1024x1024.Idx → EReal := m ((c : Thread nD τ).loc main_arg4)
abbrev Va : S4x1024x1024.Idx → EReal := m ((c : Thread nD τ).loc main_arg5)

/-- A row of a half, in the whole matrix. -/
abbrev full (h : Fin 2) (r : Fin 512) : Fin 1024 := ⟨h.val * 512 + r.val, by omega⟩

/-- An entry of the gathered gradient: the own half where it belongs to the core, the sibling's elsewhere. -/
def gr (C : S1.Idx → BitVec 32) (O S : S4x512x1024.Idx → EReal) (l : Fin 4) (h : Fin 2) (r : Fin 512) (j : Fin 1024) : EReal :=
  if C (ix1 0) = BitVec.ofNat 32 h.val then O (ix3 l r j) else S (ix3 l r j)

/-- A first moment. -/
def mo (b g : EReal) : EReal := Ideal.ofBits .f32 0x3F666666#32 * b + Ideal.ofBits .f32 0x3DCCCCCD#32 * g

/-- A second moment. -/
def vo (b g : EReal) : EReal := Ideal.ofBits .f32 0x3F7FBE77#32 * b + Ideal.ofBits .f32 0x3A83126F#32 * (g * g)

/-- A step. -/
def st (p a b : EReal) : EReal :=
  Ideal.ofBits .f32 0xBA83126F#32 * (Ideal.div (Ideal.div a (Ideal.ofBits .f32 0x3F26BD02#32))
    (Ideal.sqrt (Ideal.div b (Ideal.ofBits .f32 0x3C231ACC#32)) + Ideal.ofBits .f32 0x322BCC77#32) + Ideal.ofBits .f32 0x3C23D70A#32 * p)

def mw (C : S1.Idx → BitVec 32) (O S : S4x512x1024.Idx → EReal) (M : S4x1024x1024.Idx → EReal) (l : Fin 4) (h : Fin 2) (r : Fin 512) (j : Fin 1024) : EReal :=
  mo (M (ix3 l (full h r) j)) (gr C O S l h r j)

def vw (C : S1.Idx → BitVec 32) (O S : S4x512x1024.Idx → EReal) (V : S4x1024x1024.Idx → EReal) (l : Fin 4) (h : Fin 2) (r : Fin 512) (j : Fin 1024) : EReal :=
  vo (V (ix3 l (full h r) j)) (gr C O S l h r j)

def sw (C : S1.Idx → BitVec 32) (P : S4x1024x1024.Idx → EReal) (O S : S4x512x1024.Idx → EReal) (M V : S4x1024x1024.Idx → EReal) (l : Fin 4) (h : Fin 2) (r : Fin 512) (j : Fin 1024) : EReal :=
  st (P (ix3 l (full h r) j)) (mw C O S M l h r j) (vw C O S V l h r j)

theorem same (x y : BitVec 32) (a b : EReal) : Scalar.select (IntOp.cmpi .eq x y) a b = if x = y then a else b := by
  by_cases h : x = y
  · subst h
    simp [Scalar.select, IntOp.cmpi]
  · have hb : (x == y) = false := by simpa using h
    simp [Scalar.select, IntOp.cmpi, hb, h]

theorem pick (x y : BitVec 32) (a b : EReal) : Scalar.select (Scalar.cmpi .eq x y) a b = if y = x then a else b := by
  refine (same x y a b).trans ?_
  by_cases h : x = y
  · rw [if_pos h, if_pos h.symm]
  · rw [if_neg h, if_neg (Ne.symm h)]

theorem pay4_at (i : grid0.Coords) (v0 : BitVec 32) (v2 v4 : FVec Ideal S1x256x1024 .f32) (r : Fin 256) (j : Fin 1024) :
    (k0_pay4 (F := Ideal) i v0 v2 v4 (ix2 r j) : EReal) = if v0 = BitVec.ofNat 32 (i 1).val then v2 (ix3 0 r j) else v4 (ix3 0 r j) := by
  unfold k0_pay4
  pointwise
  exact pick _ _ _ _

theorem pay7_at (i : grid0.Coords) (v0 : BitVec 32) (v2 v4 : FVec Ideal S1x256x1024 .f32) (v : FVec Ideal S1x1x256x1024 .f32) (r : Fin 256) (j : Fin 1024) :
    (k0_pay7 (F := Ideal) i v0 v2 v4 v (ix2 r j) : EReal) = mo (v (ix4 0 0 r j)) (k0_pay4 (F := Ideal) i v0 v2 v4 (ix2 r j)) := by
  unfold k0_pay7
  pointwise
  rfl

theorem pay8_at (i : grid0.Coords) (v0 : BitVec 32) (v2 v4 : FVec Ideal S1x256x1024 .f32) (v : FVec Ideal S1x1x256x1024 .f32) (r : Fin 256) (j : Fin 1024) :
    (k0_pay8 (F := Ideal) i v0 v2 v4 v (ix2 r j) : EReal) = vo (v (ix4 0 0 r j)) (k0_pay4 (F := Ideal) i v0 v2 v4 (ix2 r j)) := by
  unfold k0_pay8
  pointwise
  rfl

theorem pay5_at (i : grid0.Coords) (v0 : BitVec 32) (v2 v4 : FVec Ideal S1x256x1024 .f32) (z z' : Fin 1) (r : Fin 256) (j : Fin 1024) :
    (k0_pay5 (F := Ideal) i v0 v2 v4 (ix4 z z' r j) : EReal) = k0_pay4 (F := Ideal) i v0 v2 v4 (ix2 r j) := by
  unfold k0_pay5
  pointwise

theorem pay1_at (v11 : FVec Ideal S1x1x256x1024 .f32) (v20 v26 : FVec Ideal S256x1024 .f32) (z z' : Fin 1) (r : Fin 256) (j : Fin 1024) :
    (k0_pay1 (F := Ideal) (k0_pay6 v11) v20 v26 k0_pay9 (ix4 z z' r j) : EReal) = st (v11 (ix4 0 0 r j)) (v20 (ix2 r j)) (v26 (ix2 r j)) := by
  unfold k0_pay1 k0_pay6 k0_pay9
  pointwise
  rfl

theorem pay2_at (v20 : FVec Ideal S256x1024 .f32) (z z' : Fin 1) (r : Fin 256) (j : Fin 1024) :
    (k0_pay2 (F := Ideal) v20 (ix4 z z' r j) : EReal) = v20 (ix2 r j) := by
  unfold k0_pay2
  pointwise

theorem pay3_at (v20 : FVec Ideal S256x1024 .f32) (z z' : Fin 1) (r : Fin 256) (j : Fin 1024) :
    (k0_pay3 (F := Ideal) v20 (ix4 z z' r j) : EReal) = v20 (ix2 r j) := by
  unfold k0_pay3
  pointwise

/-- A point's layer, half and tile of rows. -/
abbrev lay (t : Fin cfg0.N) : Fin 4 := ⟨t.val / 4, by have := t.isLt; have : cfg0.N = 16 := N_0; omega⟩
abbrev half (t : Fin cfg0.N) : Fin 2 := ⟨t.val / 2 % 2, by omega⟩
abbrev row (t : Fin cfg0.N) (r : Fin 256) : Fin 512 := ⟨t.val % 2 * 256 + r.val, by omega⟩

theorem idx : ∀ t : Fin cfg0.N, win0_0.index t = ![0] ∧ win0_1.index t = ![t.val / 4, t.val / 2 % 2, t.val % 2, 0]
    ∧ win0_2.index t = ![t.val / 4, t.val % 2, 0] ∧ win0_3.index t = ![t.val / 4, t.val % 2, 0]
    ∧ win0_4.index t = ![t.val / 4, t.val / 2 % 2, t.val % 2, 0] ∧ win0_5.index t = ![t.val / 4, t.val / 2 % 2, t.val % 2, 0]
    ∧ win0_6.index t = ![t.val / 4, t.val / 2 % 2, t.val % 2, 0] ∧ win0_7.index t = ![t.val / 4, t.val / 2 % 2, t.val % 2, 0]
    ∧ win0_8.index t = ![t.val / 4, t.val / 2 % 2, t.val % 2, 0] ∧ win0_9.index t = ![t.val / 4, t.val / 2 % 2, t.val % 2, 0]
    ∧ (grid0.coords t 1).val = t.val / 2 % 2 :=
  (by decide +kernel : ∀ t : Fin grid0.N, _)

theorem V_Pa : V m c main_v0 = (shapeCast S4x2x512x1024 (Pa m c : FVec Ideal S4x1024x1024 .f32) shapeCasts_S4x1024x1024_S4x2x512x1024 : FVec Ideal S4x2x512x1024 .f32) := by
  unfold_abbrev_sides
  after_results
  try rfl

theorem Pa_at (l : Fin 4) (h : Fin 2) (r : Fin 512) (j : Fin 1024) : (V m c main_v0 (ix4 l h r j) : EReal) = Pa m c (ix3 l (full h r) j) := by
  rw [V_Pa]
  pointwise

theorem V_Ma : V m c main_v1 = (shapeCast S4x2x512x1024 (Ma m c : FVec Ideal S4x1024x1024 .f32) shapeCasts_S4x1024x1024_S4x2x512x1024 : FVec Ideal S4x2x512x1024 .f32) := by
  unfold_abbrev_sides
  after_results
  try rfl

theorem Ma_at (l : Fin 4) (h : Fin 2) (r : Fin 512) (j : Fin 1024) : (V m c main_v1 (ix4 l h r j) : EReal) = Ma m c (ix3 l (full h r) j) := by
  rw [V_Ma]
  pointwise

theorem V_Va : V m c main_v2 = (shapeCast S4x2x512x1024 (Va m c : FVec Ideal S4x1024x1024 .f32) shapeCasts_S4x1024x1024_S4x2x512x1024 : FVec Ideal S4x2x512x1024 .f32) := by
  unfold_abbrev_sides
  after_results
  try rfl

theorem Va_at (l : Fin 4) (h : Fin 2) (r : Fin 512) (j : Fin 1024) : (V m c main_v2 (ix4 l h r j) : EReal) = Va m c (ix3 l (full h r) j) := by
  rw [V_Va]
  pointwise

theorem c_blk (t : Fin cfg0.N) : (iblk m c 0 t (ix1 0) : BitVec 32) = Ca m c (ix1 0) := by
  blk_ext [iblk, V, idx t]

theorem Oa_blk (t : Fin cfg0.N) (r : Fin 256) (j : Fin 1024) : (iblk m c 2 t (ix3 0 r j) : EReal) = Oa m c (ix3 (lay t) (row t r) j) := by
  blk_ext [iblk, V, idx t]

theorem Sa_blk (t : Fin cfg0.N) (r : Fin 256) (j : Fin 1024) : (iblk m c 3 t (ix3 0 r j) : EReal) = Sa m c (ix3 (lay t) (row t r) j) := by
  blk_ext [iblk, V, idx t]

theorem Pa_blk (t : Fin cfg0.N) (r : Fin 256) (j : Fin 1024) :
    (iblk m c 1 t (ix4 0 0 r j) : EReal) = Pa m c (ix3 (lay t) (full (half t) (row t r)) j) := by
  refine Eq.trans ?_ (Pa_at m c (lay t) (half t) (row t r) j)
  show (V m c main_v0 _ : EReal) = _
  blk_ext [iblk, idx t]

theorem Ma_blk (t : Fin cfg0.N) (r : Fin 256) (j : Fin 1024) :
    (iblk m c 4 t (ix4 0 0 r j) : EReal) = Ma m c (ix3 (lay t) (full (half t) (row t r)) j) := by
  refine Eq.trans ?_ (Ma_at m c (lay t) (half t) (row t r) j)
  show (V m c main_v1 _ : EReal) = _
  blk_ext [iblk, idx t]

theorem Va_blk (t : Fin cfg0.N) (r : Fin 256) (j : Fin 1024) :
    (iblk m c 5 t (ix4 0 0 r j) : EReal) = Va m c (ix3 (lay t) (full (half t) (row t r)) j) := by
  refine Eq.trans ?_ (Va_at m c (lay t) (half t) (row t r) j)
  show (V m c main_v2 _ : EReal) = _
  blk_ext [iblk, idx t]

theorem core (t : Fin cfg0.N) (x : (Rect.unit (s := S1) ![0] ![1] inb_S1_S1_0).shape.Idx) :
    (View.ld (iblk m c 0 t) (Rect.unit (s := S1) ![0] ![1] inb_S1_S1_0) x : BitVec 32) = Ca m c (ix1 0) := by
  refine (View.ld_unit_apply_of _ _ _ inb_S1_S1_0 x (ix1 0) (fun a => ?_)).trans (c_blk m c t)
  fin_cases a
  have : (x 0).val < 1 := (x 0).isLt
  show 0 = 0 + (x 0).val
  omega

/-- The gathered gradient and the two moments at a point. -/
abbrev gp (t : Fin cfg0.N) (v : BitVec 32) : FVec Ideal S256x1024 .f32 := k0_pay4 (F := Ideal) (grid0.coords t) v (iblk m c 2 t) (iblk m c 3 t)
abbrev mp (t : Fin cfg0.N) (v : BitVec 32) : FVec Ideal S256x1024 .f32 := k0_pay7 (F := Ideal) (grid0.coords t) v (iblk m c 2 t) (iblk m c 3 t) (iblk m c 4 t)
abbrev vp (t : Fin cfg0.N) (v : BitVec 32) : FVec Ideal S256x1024 .f32 := k0_pay8 (F := Ideal) (grid0.coords t) v (iblk m c 2 t) (iblk m c 3 t) (iblk m c 5 t)

theorem g_blk (t : Fin cfg0.N) (v : BitVec 32) (hv : v = Ca m c (ix1 0)) (r : Fin 256) (j : Fin 1024) :
    (gp m c t v (ix2 r j) : EReal) = gr (Ca m c) (Oa m c) (Sa m c) (lay t) (half t) (row t r) j := by
  refine (pay4_at _ _ _ _ r j).trans ?_
  obtain ⟨-, -, -, -, -, -, -, -, -, -, h1⟩ := idx t
  rw [Oa_blk, Sa_blk, hv, h1]
  rfl

theorem m_blk (t : Fin cfg0.N) (v : BitVec 32) (hv : v = Ca m c (ix1 0)) (r : Fin 256) (j : Fin 1024) :
    (mp m c t v (ix2 r j) : EReal) = mw (Ca m c) (Oa m c) (Sa m c) (Ma m c) (lay t) (half t) (row t r) j :=
  (pay7_at _ _ _ _ _ r j).trans (congrArg₂ mo (Ma_blk m c t r j) (g_blk m c t v hv r j))

theorem v_blk (t : Fin cfg0.N) (v : BitVec 32) (hv : v = Ca m c (ix1 0)) (r : Fin 256) (j : Fin 1024) :
    (vp m c t v (ix2 r j) : EReal) = vw (Ca m c) (Oa m c) (Sa m c) (Va m c) (lay t) (half t) (row t r) j :=
  (pay8_at _ _ _ _ _ r j).trans (congrArg₂ vo (Va_blk m c t r j) (g_blk m c t v hv r j))

theorem s_blk (t : Fin cfg0.N) (v : BitVec 32) (hv : v = Ca m c (ix1 0)) (z z' : Fin 1) (r : Fin 256) (j : Fin 1024) :
    (k0_pay1 (F := Ideal) (k0_pay6 (iblk m c 1 t)) (mp m c t v) (vp m c t v) k0_pay9 (ix4 z z' r j) : EReal)
      = sw (Ca m c) (Pa m c) (Oa m c) (Sa m c) (Ma m c) (Va m c) (lay t) (half t) (row t r) j := by
  refine (pay1_at _ _ _ z z' r j).trans ?_
  rw [Pa_blk, m_blk m c t v hv, v_blk m c t v hv]
  rfl

set_option maxHeartbeats 1000000 in
theorem arr6 (G : S4x2x512x1024.Idx → EReal) (hG : ∀ l h r j, G (ix4 l h r j) = gr (Ca m c) (Oa m c) (Sa m c) l h r j) :
    (dats m 0 c).arrAt 6 cfg0.N = G := by
  refine (dats m 0 c).arrAt_eq_of_covers 6 _ (by decide +kernel) fun t hf y => ?_
  blk_simp
  rw [after0_6]
  simp only [outsAt0]
  frame_out
  obtain ⟨z, z', r, j, rfl⟩ : ∃ (z z' : Fin 1) (r : Fin 256) (j : Fin 1024), y = ix4 z z' r j := ⟨y 0, y 1, y 2, y 3, eq_ix4 y⟩
  refine Eq.trans ?_ ((hG (lay t) (half t) (row t r) j).symm.trans (congrArg G ?_))
  · exact (pay5_at _ _ _ _ z z' r j).trans (g_blk m c t _ (core m c t _) r j)
  · have := z.isLt
    have := z'.isLt
    blk_ext [idx t]

set_option maxHeartbeats 1000000 in
theorem arr7 (G : S4x2x512x1024.Idx → EReal) (hG : ∀ l h r j, G (ix4 l h r j) = sw (Ca m c) (Pa m c) (Oa m c) (Sa m c) (Ma m c) (Va m c) l h r j) :
    (dats m 0 c).arrAt 7 cfg0.N = G := by
  refine (dats m 0 c).arrAt_eq_of_covers 7 _ (by decide +kernel) fun t hf y => ?_
  blk_simp
  rw [after0_7]
  simp only [outsAt0]
  frame_out
  obtain ⟨z, z', r, j, rfl⟩ : ∃ (z z' : Fin 1) (r : Fin 256) (j : Fin 1024), y = ix4 z z' r j := ⟨y 0, y 1, y 2, y 3, eq_ix4 y⟩
  refine Eq.trans ?_ ((hG (lay t) (half t) (row t r) j).symm.trans (congrArg G ?_))
  · exact s_blk m c t _ (core m c t _) z z' r j
  · have := z.isLt
    have := z'.isLt
    blk_ext [idx t]

set_option maxHeartbeats 1000000 in
theorem arr8 (G : S4x2x512x1024.Idx → EReal) (hG : ∀ l h r j, G (ix4 l h r j) = mw (Ca m c) (Oa m c) (Sa m c) (Ma m c) l h r j) :
    (dats m 0 c).arrAt 8 cfg0.N = G := by
  refine (dats m 0 c).arrAt_eq_of_covers 8 _ (by decide +kernel) fun t hf y => ?_
  blk_simp
  rw [after0_8]
  simp only [outsAt0]
  frame_out
  obtain ⟨z, z', r, j, rfl⟩ : ∃ (z z' : Fin 1) (r : Fin 256) (j : Fin 1024), y = ix4 z z' r j := ⟨y 0, y 1, y 2, y 3, eq_ix4 y⟩
  refine Eq.trans ?_ ((hG (lay t) (half t) (row t r) j).symm.trans (congrArg G ?_))
  · exact (pay2_at _ z z' r j).trans (m_blk m c t _ (core m c t _) r j)
  · have := z.isLt
    have := z'.isLt
    blk_ext [idx t]

set_option maxHeartbeats 1000000 in
theorem arr9 (G : S4x2x512x1024.Idx → EReal) (hG : ∀ l h r j, G (ix4 l h r j) = vw (Ca m c) (Oa m c) (Sa m c) (Va m c) l h r j) :
    (dats m 0 c).arrAt 9 cfg0.N = G := by
  refine (dats m 0 c).arrAt_eq_of_covers 9 _ (by decide +kernel) fun t hf y => ?_
  blk_simp
  rw [after0_9]
  simp only [outsAt0]
  frame_out
  obtain ⟨z, z', r, j, rfl⟩ : ∃ (z z' : Fin 1) (r : Fin 256) (j : Fin 1024), y = ix4 z z' r j := ⟨y 0, y 1, y 2, y 3, eq_ix4 y⟩
  refine Eq.trans ?_ ((hG (lay t) (half t) (row t r) j).symm.trans (congrArg G ?_))
  · exact (pay3_at _ z z' r j).trans (v_blk m c t _ (core m c t _) r j)
  · have := z.isLt
    have := z'.isLt
    blk_ext [idx t]

end Cert.AdamIdeal.At

namespace Cert.AdamRefIdeal.At

open Idealize.ShloMosaic Idealize.SL.Sem Idealize.ShloMosaic.StableHlo Cert.AdamRefIdeal Cert.AdamRefIdeal.Gen
open Cert.AdamIdeal.At (gr mo vo st mw vw sw full same)

theorem g_at (C : Vec Ideal S1 .i32) (O S : FVec Ideal S4x512x1024 .f32) (l : Fin 4) (h : Fin 2) (r : Fin 512) (j : Fin 1024) :
    ((concatenate S4x2x512x1024 1 [⟨S4x1x512x1024, (broadcastInDim S4x1x512x1024 ![0, 2, 3] bcast_S4x512x1024_S4x1x512x1024_0_2_3 (select (broadcastInDim S4x512x1024 ![] bcast_S_S4x512x1024 (cmpi .eq (shapeCast _ C shapeCasts_S1_S_) (constantI S_ 32 0#32))) O S))⟩, ⟨S4x1x512x1024, (broadcastInDim S4x1x512x1024 ![0, 2, 3] bcast_S4x512x1024_S4x1x512x1024_0_2_3 (select (broadcastInDim S4x512x1024 ![] bcast_S_S4x512x1024 (cmpi .eq (shapeCast _ C shapeCasts_S1_S_) (constantI S_ 32 1#32))) O S))⟩] concatenates_S4x1x512x1024_S4x1x512x1024_S4x2x512x1024_d1) (ix4 l h r j) : EReal) = gr C O S l h r j := by
  pointwise
  unfold gr
  by_cases hh : h.val < 1
  · rw [dif_pos hh, show h.val = 0 by omega]
    exact same _ _ _ _
  · rw [dif_neg hh, show h.val = 1 by omega]
    exact same _ _ _ _

theorem m_at (M : FVec Ideal S4x1024x1024 .f32) (G : FVec Ideal S4x2x512x1024 .f32) (l : Fin 4) (h : Fin 2) (r : Fin 512) (j : Fin 1024) :
    ((addf (mulf (broadcastInDim S4x2x512x1024 ![] bcast_S_S4x2x512x1024 (constant S_ .f32 0x3F666666#32)) (shapeCast _ M shapeCasts_S4x1024x1024_S4x2x512x1024)) (mulf (broadcastInDim S4x2x512x1024 ![] bcast_S_S4x2x512x1024 (constant S_ .f32 0x3DCCCCCD#32)) G)) (ix4 l h r j) : EReal) = mo (M (ix3 l (full h r) j)) (G (ix4 l h r j)) := by
  pointwise
  rfl

theorem v_at (V : FVec Ideal S4x1024x1024 .f32) (G : FVec Ideal S4x2x512x1024 .f32) (l : Fin 4) (h : Fin 2) (r : Fin 512) (j : Fin 1024) :
    ((addf (mulf (broadcastInDim S4x2x512x1024 ![] bcast_S_S4x2x512x1024 (constant S_ .f32 0x3F7FBE77#32)) (shapeCast _ V shapeCasts_S4x1024x1024_S4x2x512x1024)) (mulf (broadcastInDim S4x2x512x1024 ![] bcast_S_S4x2x512x1024 (constant S_ .f32 0x3A83126F#32)) (mulf G G))) (ix4 l h r j) : EReal) = vo (V (ix3 l (full h r) j)) (G (ix4 l h r j)) := by
  pointwise
  rfl

theorem s_at (P : FVec Ideal S4x1024x1024 .f32) (A B : FVec Ideal S4x2x512x1024 .f32) (l : Fin 4) (h : Fin 2) (r : Fin 512) (j : Fin 1024) :
    ((mulf (broadcastInDim S4x2x512x1024 ![] bcast_S_S4x2x512x1024 (constant S_ .f32 0xBA83126F#32)) (addf (Host.divf (Host.divf A (broadcastInDim S4x2x512x1024 ![] bcast_S_S4x2x512x1024 (constant S_ .f32 0x3F26BD02#32))) (addf (Host.sqrt (Host.divf B (broadcastInDim S4x2x512x1024 ![] bcast_S_S4x2x512x1024 (constant S_ .f32 0x3C231ACC#32)))) (broadcastInDim S4x2x512x1024 ![] bcast_S_S4x2x512x1024 (constant S_ .f32 0x322BCC77#32)))) (mulf (broadcastInDim S4x2x512x1024 ![] bcast_S_S4x2x512x1024 (constant S_ .f32 0x3C23D70A#32)) (shapeCast _ P shapeCasts_S4x1024x1024_S4x2x512x1024)))) (ix4 l h r j) : EReal) = st (P (ix3 l (full h r) j)) (A (ix4 l h r j)) (B (ix4 l h r j)) := by
  pointwise
  rfl

end Cert.AdamRefIdeal.At

namespace Cert.Proof.Adam

open Idealize.ShloMosaic Idealize.SL.Sem Idealize.ShloMosaic.StableHlo

theorem st3 {p p' a a' b b' : EReal} (h : p = p') (ha : a = a') (hb : b = b') : Cert.AdamIdeal.At.st p a b = Cert.AdamIdeal.At.st p' a' b' := by
  rw [h, ha, hb]

theorem frame_r : Cert.quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Value.run m ρ)

theorem algebraic : Cert.algebraic_AdamIdeal_AdamRefIdeal := fun m ρ m' ρ' _ hag => by
  refine ⟨fun c => (Cert.AdamIdeal.Gen.dats m 0 c).arrAt 6 Cert.AdamIdeal.cfg0.N,
    fun c => (Cert.AdamIdeal.Gen.dats m 0 c).arrAt 7 Cert.AdamIdeal.cfg0.N,
    fun c => (Cert.AdamIdeal.Gen.dats m 0 c).arrAt 8 Cert.AdamIdeal.cfg0.N,
    fun c => (Cert.AdamIdeal.Gen.dats m 0 c).arrAt 9 Cert.AdamIdeal.cfg0.N, Cert.AdamIdeal.Value.run_blocks m ρ, ?_⟩
  refine (θ_run _ _ _).mono (fun _ h c => ?_) (Cert.AdamRefIdeal.Value.run m' ρ')
  obtain ⟨h0, h1, h2, h3, hk⟩ := h c
  obtain ⟨e0, e1, e2, e3, e4, e5⟩ := hag c
  refine ⟨h0.trans (Cert.AdamIdeal.At.arr6 m c _ fun l h r j => ?_).symm, h1.trans (Cert.AdamIdeal.At.arr7 m c _ fun l h r j => ?_).symm,
    h2.trans (Cert.AdamIdeal.At.arr8 m c _ fun l h r j => ?_).symm, h3.trans (Cert.AdamIdeal.At.arr9 m c _ fun l h r j => ?_).symm, hk⟩
  · refine (Cert.AdamRefIdeal.At.g_at _ _ _ l h r j).trans ?_
    rw [e0, e2, e3]
  · refine (Cert.AdamRefIdeal.At.s_at _ _ _ l h r j).trans (st3 ?_
      ((Cert.AdamRefIdeal.At.m_at _ _ l h r j).trans (congrArg₂ Cert.AdamIdeal.At.mo ?_ ((Cert.AdamRefIdeal.At.g_at _ _ _ l h r j).trans ?_)))
      ((Cert.AdamRefIdeal.At.v_at _ _ l h r j).trans (congrArg₂ Cert.AdamIdeal.At.vo ?_ ((Cert.AdamRefIdeal.At.g_at _ _ _ l h r j).trans ?_))))
    · rw [e1]
    · rw [e4]
    · rw [e0, e2, e3]
    · rw [e5]
    · rw [e0, e2, e3]
  · refine (Cert.AdamRefIdeal.At.m_at _ _ l h r j).trans (congrArg₂ Cert.AdamIdeal.At.mo ?_ ((Cert.AdamRefIdeal.At.g_at _ _ _ l h r j).trans ?_))
    · rw [e4]
    · rw [e0, e2, e3]
  · refine (Cert.AdamRefIdeal.At.v_at _ _ l h r j).trans (congrArg₂ Cert.AdamIdeal.At.vo ?_ ((Cert.AdamRefIdeal.At.g_at _ _ _ l h r j).trans ?_))
    · rw [e5]
    · rw [e0, e2, e3]

end Cert.Proof.Adam

end
-- ==== Proof.Heads.lean ====
/- The norm of a head and its gradient, over the extended reals: the kernel's means are products with a matrix of
   equal blocks, the reference's are means over a head's 64 entries. -/
module

public import proofs.«01_k».proof.Proof.NormGrad

@[expose] public section

noncomputable section

namespace Cert.Heads

open Idealize.ShloMosaic Cert.Row Cert.Norm

/-- The column of a query head's entry. -/
abbrev col8 (g : Fin 8) (e : Fin 64) : Fin 512 := ⟨g.val * 64 + e.val, by omega⟩

/-- The column of a key head's entry. -/
abbrev col2 (g : Fin 2) (e : Fin 64) : Fin 128 := ⟨g.val * 64 + e.val, by omega⟩

theorem exists_col8 (k : Fin 512) : ∃ g e, k = col8 g e :=
  ⟨⟨k.val / 64, by omega⟩, ⟨k.val % 64, by omega⟩, Fin.ext (by show k.val = k.val / 64 * 64 + k.val % 64; omega)⟩

theorem exists_col2 (k : Fin 128) : ∃ g e, k = col2 g e :=
  ⟨⟨k.val / 64, by omega⟩, ⟨k.val % 64, by omega⟩, Fin.ext (by show k.val = k.val / 64 * 64 + k.val % 64; omega)⟩

theorem w64 : (Ideal.ofBits .f32 0x42800000#32 : EReal) = ((64 : ℝ) : EReal) := by
  simp [Ideal.ofBits, Ideal.ieee, -EReal.coe_mul] <;> norm_num [← EReal.coe_mul, -EReal.coe_mul]

theorem w8 : (Ideal.ofBits .f32 0x41000000#32 : EReal) = ((8 : ℝ) : EReal) := by
  simp [Ideal.ofBits, Ideal.ieee, -EReal.coe_mul] <;> norm_num [← EReal.coe_mul, -EReal.coe_mul]

theorem weighth : (Ideal.ofBits .f32 0x3E000000#32 : EReal) = ((1 / 8 : ℝ) : EReal) := by
  simp [Ideal.ofBits, Ideal.ieee, -EReal.coe_mul] <;> norm_num [← EReal.coe_mul, -EReal.coe_mul]

theorem wfrac : (Ideal.ofBits .f32 0x3C800000#32 : EReal) = ((1 / 64 : ℝ) : EReal) := by
  simp [Ideal.ofBits, Ideal.ieee, -EReal.coe_mul] <;> norm_num [← EReal.coe_mul, -EReal.coe_mul]

theorem div64 (z : EReal) : Ideal.div z (Ideal.ofBits .f32 0x42800000#32) = z * ((1 / 64 : ℝ) : EReal) := by
  rw [w64, Ideal.div, if_neg (by norm_num), ← EReal.coe_inv, one_div]

/-- The quotient by 8 is the product with an eighth. -/
theorem div8 (z : EReal) : Ideal.div z (Ideal.ofBits .f32 0x41000000#32) = z * Ideal.ofBits .f32 0x3E000000#32 := by
  rw [w8, weighth, Ideal.div, if_neg (by norm_num), ← EReal.coe_inv, one_div]

/-- A matrix of equal blocks: a 64th where row and column are of one head, zero elsewhere. -/
def Blocks {W : Nat} (E : Fin W → Fin W → EReal) : Prop :=
  ∀ j k, E j k = if j.val / 64 = k.val / 64 then ((1 / 64 : ℝ) : EReal) else 0

/-- The kernel's mean: the product with the matrix, and that of what rounding left. -/
def kmean {W : Nat} (T : Fin W → EReal) (E : Fin W → Fin W → EReal) (k : Fin W) : EReal :=
  (∑ j, T j * E j k) + ∑ j, (T j - T j) * E j k

/-- A product with the matrix is a mean over the column's head. -/
theorem sum_blocks {H W : Nat} (hW : H * 64 = W) (T : Fin W → EReal) {E : Fin W → Fin W → EReal} (hE : Blocks E) (c : Fin H → Fin 64 → Fin W)
    (hc : ∀ g e, (c g e).val = g.val * 64 + e.val) (g : Fin H) (e : Fin 64) :
    ∑ j, T j * E j (c g e) = Ideal.div (∑ e, T (c g e)) (Ideal.ofBits .f32 0x42800000#32) := by
  have h : ∑ b : Fin H, ∑ q : Fin 64, T (c b q) * E (c b q) (c g e) = ∑ j, T j * E j (c g e) :=
    Fin.sum_mul_add_congr (L := W) (S := H) (n := 64) (f := fun j => T j * E j (c g e))
      (fun b q hl => by have : c b q = ⟨b.val * 64 + q.val, hl⟩ := Fin.ext (hc b q); rw [this]) (by omega)
  rw [← h, Finset.sum_eq_single g]
  · rw [div64, mul_comm, mul_sum_pos _ _ _ (by norm_num : (0 : ℝ) < 1 / 64)]
    refine Finset.sum_congr rfl fun q _ => ?_
    rw [hE, if_pos (by rw [hc, hc]; omega), mul_comm]
  · intro b _ hb
    refine Finset.sum_eq_zero fun q _ => ?_
    rw [hE, if_neg, mul_zero]
    rw [hc, hc]
    intro h
    exact hb (Fin.ext (by omega))
  · exact fun h => absurd (Finset.mem_univ g) h

theorem kmean_eq {H W : Nat} (hW : H * 64 = W) {T : Fin W → EReal} (hT : ∀ j, IsReal (T j)) {E : Fin W → Fin W → EReal} (hE : Blocks E) (c : Fin H → Fin 64 → Fin W)
    (hc : ∀ g e, (c g e).val = g.val * 64 + e.val) (g : Fin H) (e : Fin 64) :
    kmean T E (c g e) = Ideal.div (∑ e, T (c g e)) (Ideal.ofBits .f32 0x42800000#32) := by
  have h0 : ∑ j, (T j - T j) * E j (c g e) = 0 := Finset.sum_eq_zero fun j _ => by
    obtain ⟨r, hr⟩ := hT j
    rw [hr, ← EReal.coe_sub, sub_self, EReal.coe_zero, zero_mul]
  unfold kmean
  rw [h0, add_zero, sum_blocks hW T hE c hc]

/-- The mean of a head's squares, and the small constant. -/
def ms (x : Fin 64 → EReal) : EReal :=
  Ideal.div (∑ e, x e * x e) (Ideal.ofBits .f32 0x42800000#32) + Ideal.ofBits .f32 0x358637BD#32

/-- The inverse of a head's root mean square. -/
def inv (x : Fin 64 → EReal) : EReal := Ideal.rsqrt (ms x)

/-- The kernel's inverse, over a row. -/
def kinv {W : Nat} (Z : Fin W → EReal) (E : Fin W → Fin W → EReal) (k : Fin W) : EReal :=
  Ideal.rsqrt (kmean (fun j => Z j * Z j) E k + Ideal.ofBits .f32 0x358637BD#32)

theorem kinv_eq {H W : Nat} (hW : H * 64 = W) {Z : Fin W → EReal} (hZ : ∀ j, IsReal (Z j)) {E : Fin W → Fin W → EReal} (hE : Blocks E) (c : Fin H → Fin 64 → Fin W)
    (hc : ∀ g e, (c g e).val = g.val * 64 + e.val) (g : Fin H) (e : Fin 64) :
    kinv Z E (c g e) = inv fun e => Z (c g e) := by
  unfold kinv inv ms
  rw [kmean_eq hW (fun j => (hZ j).mul (hZ j)) hE c hc]

/-- A head's gradient as the kernel writes it: `t` is the gradient of the normed head times the gain. -/
def grad (x t : Fin 64 → EReal) (e : Fin 64) : EReal :=
  inv x * (t e - x e * inv x * Ideal.div (∑ e, t e * (x e * inv x)) (Ideal.ofBits .f32 0x42800000#32))

/-- What the gradient of the mean square brings to each of the head's squares, as `jax.vjp` writes it. -/
def pull (x t : Fin 64 → EReal) : EReal :=
  Ideal.div ((∑ e, x e * t e) * (Ideal.ofBits .f32 0xBF000000#32 * Ideal.div (inv x) (ms x))) (Ideal.ofBits .f32 0x42800000#32)

/-- A head's gradient as `jax.vjp` writes it. -/
def rgrad (x t : Fin 64 → EReal) (e : Fin 64) : EReal :=
  t e * inv x + x e * pull x t + pull x t * x e

/-- The mean of a real head's squares is a positive real, and the head's inverse is its root's inverse. -/
theorem ms_real (x : Fin 64 → ℝ) : ∃ q : ℝ, 0 < q ∧ ms (fun k => (x k : EReal)) = (q : EReal)
    ∧ inv (fun k => (x k : EReal)) = (((Real.sqrt q)⁻¹ : ℝ) : EReal) := by
  obtain ⟨e, he, hw⟩ := weps
  have hS : (0 : ℝ) ≤ ∑ k, x k * x k := Finset.sum_nonneg fun k _ => mul_self_nonneg _
  have hq : 0 < (∑ k, x k * x k) / 64 + e := by positivity
  have hm : ms (fun k => (x k : EReal)) = (((∑ k, x k * x k) / 64 + e : ℝ) : EReal) := by
    unfold ms
    rw [w64, hw]
    simp only [← EReal.coe_mul, ← coe_sum]
    rw [div_real _ _ (by norm_num), ← EReal.coe_add]
  refine ⟨_, hq, hm, ?_⟩
  unfold inv
  rw [hm, Ideal.rsqrt_coe, if_neg (not_lt.mpr hq.le), if_neg hq.ne']

theorem inv_real {x : Fin 64 → EReal} (hx : ∀ e, IsReal (x e)) : IsReal (inv x) := by
  choose x' hx using hx
  obtain rfl : x = fun k => (x' k : EReal) := funext hx
  obtain ⟨q, hq, hm, hi⟩ := ms_real x'
  exact ⟨_, hi⟩

/-- The two texts of a head's gradient are equal. -/
theorem rgrad_eq {x t : Fin 64 → EReal} (hx : ∀ e, IsReal (x e)) (ht : ∀ e, IsReal (t e)) (e : Fin 64) : rgrad x t e = grad x t e := by
  choose x' hx using hx
  choose t' ht using ht
  obtain rfl : x = fun k => (x' k : EReal) := funext hx
  obtain rfl : t = fun k => (t' k : EReal) := funext ht
  obtain ⟨q, hq, hm, hi⟩ := ms_real x'
  have hs : 0 < Real.sqrt q := Real.sqrt_pos.mpr hq
  have hqq : q = Real.sqrt q * Real.sqrt q := (Real.mul_self_sqrt hq.le).symm
  have hsum : ∑ k, t' k * (x' k * (Real.sqrt q)⁻¹) = (Real.sqrt q)⁻¹ * ∑ k, x' k * t' k := by
    rw [Finset.mul_sum]
    exact Finset.sum_congr rfl fun k _ => by ring
  unfold rgrad grad pull
  rw [w64, whalf, hm, hi]
  simp only [← EReal.coe_mul, ← coe_sum]
  rw [div_real _ _ hq.ne', hsum]
  simp only [← EReal.coe_mul]
  rw [div_real _ _ (by norm_num), div_real _ _ (by norm_num)]
  simp only [← EReal.coe_mul, ← EReal.coe_add, ← EReal.coe_sub]
  refine congrArg _ ?_
  generalize ∑ k, x' k * t' k = S
  generalize Real.sqrt q = s at *
  subst hqq
  field_simp
  ring

/-- The kernel's gradient of a row's entry, through a head. -/
theorem kgrad_eq {H W : Nat} (hW : H * 64 = W) {Z t : Fin W → EReal} (hZ : ∀ j, IsReal (Z j)) (ht : ∀ j, IsReal (t j)) {E : Fin W → Fin W → EReal} (hE : Blocks E)
    (c : Fin H → Fin 64 → Fin W) (hc : ∀ g e, (c g e).val = g.val * 64 + e.val) (hs : ∀ j, ∃ g e, j = c g e) (g : Fin H) (e : Fin 64) :
    kinv Z E (c g e) * (t (c g e) - Z (c g e) * kinv Z E (c g e) * kmean (fun j => t j * (Z j * kinv Z E j)) E (c g e))
      = grad (fun e => Z (c g e)) (fun e => t (c g e)) e := by
  have hr : ∀ j, IsReal (t j * (Z j * kinv Z E j)) := fun j => by
    obtain ⟨g, e, rfl⟩ := hs j
    rw [kinv_eq hW hZ hE c hc]
    exact (ht _).mul ((hZ _).mul (inv_real fun e => hZ _))
  rw [kmean_eq hW hr hE c hc]
  simp only [kinv_eq hW hZ hE c hc]
  rfl

end Cert.Heads

end
-- ==== Proof.QkVal.lean ====
/- The norms of the query and key heads: kernel and reference hold the same arrays. -/
module

public import proofs.«01_k».proof.Proof.Gen.QkIdeal.Value
public import proofs.«01_k».proof.Proof.Gen.QkRefIdeal.Run
public import proofs.«01_k».proof.Defs
public import Idealize.ShloMosaic.Adequacy
public import Idealize.ShloMosaic.Init
public import proofs.«01_k».proof.Proof.Heads
public import proofs.«01_k».proof.Proof.Fin

@[expose] public section

set_option maxRecDepth 16384

noncomputable section

namespace Cert.Pre_finite_qk

open Idealize.ShloMosaic

instance facts : Cert.Pre_finite_qk.Facts where
  slices_S8192x1280_S8192x640_0_0 := by decide
  bcast_S_S8192x640 := by decide

variable {Z : FVec Ideal S8192x1280 .f32} {g h : FVec Ideal S64 .f32}

theorem fn_at (i : Fin 8192) (n : Fin 640) :
    fn Z g h (ix2 i n) = BitVec.ofBool (decide (max (Z (ix2 i ⟨n.val, by omega⟩) : EReal) (-(Z (ix2 i ⟨n.val, by omega⟩) : EReal)) < ⊤)) := by
  rw [← Cert.Pre_finite.pinf]
  unfold fn
  pointwise
  rfl

theorem real (hf : fn (F := Ideal) Z g h = fun _ => 1#1) (i : Fin 8192) (n : Fin 1280) (hn : n.val < 640) : Row.IsReal (Z (ix2 i n)) :=
  Cert.Pre_finite.isReal_of _ ((fn_at i ⟨n.val, hn⟩).symm.trans (congrFun hf (ix2 i ⟨n.val, hn⟩)))

end Cert.Pre_finite_qk

namespace Cert.QkIdeal.At

open Idealize.ShloMosaic Idealize.SL.Sem Idealize.ShloMosaic.TcCoe Cert.QkIdeal Cert.QkIdeal.Gen Cert.Heads Cert.Row

variable (m : (ℓ : Loc nD τ sig) → Buf (Elt Ideal) ℓ) (c : Dev nD)

abbrev Za : S8192x1280.Idx → EReal := m ((c : Thread nD τ).loc main_arg0)
abbrev Qa : S64.Idx → EReal := m ((c : Thread nD τ).loc main_arg1)
abbrev Ka : S64.Idx → EReal := m ((c : Thread nD τ).loc main_arg2)

/-- The columns of the queries, of the keys and of the values. -/
abbrev zq (j : Fin 512) : Fin 1280 := ⟨j.val, by omega⟩
abbrev zk (j : Fin 128) : Fin 1280 := ⟨512 + j.val, by omega⟩
abbrev zv (j : Fin 128) : Fin 1280 := ⟨640 + j.val, by omega⟩

/-- A query head of a row, and a key head. -/
abbrev qh (Z : S8192x1280.Idx → EReal) (i : Fin 8192) (g : Fin 8) (e : Fin 64) : EReal := Z (ix2 i (zq (col8 g e)))
abbrev kh (Z : S8192x1280.Idx → EReal) (i : Fin 8192) (g : Fin 2) (e : Fin 64) : EReal := Z (ix2 i (zk (col2 g e)))

/-- The normed queries, scaled. -/
def q (Z : S8192x1280.Idx → EReal) (w : S64.Idx → EReal) (i : Fin 8192) (g : Fin 8) (e : Fin 64) : EReal :=
  qh Z i g e * inv (qh Z i g) * w (ix1 e) * Ideal.ofBits .f32 0x3E000000#32

/-- The normed keys. -/
def k (Z : S8192x1280.Idx → EReal) (w : S64.Idx → EReal) (i : Fin 8192) (g : Fin 2) (e : Fin 64) : EReal :=
  kh Z i g e * inv (kh Z i g) * w (ix1 e)

/-- The host's matrices of equal blocks. -/
def blocks8 : FVec Ideal S512x512 .bf16 :=
  truncf .bf16 (shapeCast S512x512 (mulf
    (broadcastInDim S8x64x8x64 ![0, 1, 2, 3] bcast_S8x1x8x1_S8x64x8x64_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)) : FVec Ideal S8x8 .f32)))
    (broadcastInDim S8x64x8x64 ![0, 1, 2, 3] bcast_S1x64x1x64_S8x64x8x64_0_1_2_3 (broadcastInDim S1x64x1x64 ![1, 3] bcast_S64x64_S1x64x1x64_1_3
      (broadcastInDim S64x64 ![] bcast_S_S64x64 (constant S_ .f32 0x3C800000#32) : FVec Ideal S64x64 .f32))) : FVec Ideal S8x64x8x64 .f32)
    shapeCasts_S8x64x8x64_S512x512 : FVec Ideal S512x512 .f32) bitsLt_bf16_f32

def blocks2 : FVec Ideal S128x128 .bf16 :=
  truncf .bf16 (shapeCast S128x128 (mulf
    (broadcastInDim S2x64x2x64 ![0, 1, 2, 3] bcast_S2x1x2x1_S2x64x2x64_0_1_2_3 (broadcastInDim S2x1x2x1 ![0, 2] bcast_S2x2_S2x1x2x1_0_2
      (uitofp .f32 (cmpi .eq (addi (iotaInDim S2x2 32 0) (broadcastInDim S2x2 ![] bcast_S_S2x2 (constantI S_ 32 0#32))) (iotaInDim S2x2 32 1)) : FVec Ideal S2x2 .f32)))
    (broadcastInDim S2x64x2x64 ![0, 1, 2, 3] bcast_S1x64x1x64_S2x64x2x64_0_1_2_3 (broadcastInDim S1x64x1x64 ![1, 3] bcast_S64x64_S1x64x1x64_1_3
      (broadcastInDim S64x64 ![] bcast_S_S64x64 (constant S_ .f32 0x3C800000#32) : FVec Ideal S64x64 .f32))) : FVec Ideal S2x64x2x64 .f32)
    shapeCasts_S2x64x2x64_S128x128 : FVec Ideal S128x128 .f32) bitsLt_bf16_f32

/-- A query head's gain, repeated for the heads. -/
def tile8 (w : S64.Idx → EReal) : FVec Ideal S1x512 .f32 :=
  shapeCast S1x512 (broadcastInDim S1x1x8x64 ![0, 1, 2, 3] bcast_S1x1x1x64_S1x1x8x64_0_1_2_3
    (shapeCast S1x1x1x64 (shapeCast S1x64 (w : FVec Ideal S64 .f32) shapeCasts_S64_S1x64 : FVec Ideal S1x64 .f32) shapeCasts_S1x64_S1x1x1x64 : FVec Ideal S1x1x1x64 .f32) : FVec Ideal S1x1x8x64 .f32)
    shapeCasts_S1x1x8x64_S1x512

def tile2 (w : S64.Idx → EReal) : FVec Ideal S1x128 .f32 :=
  shapeCast S1x128 (broadcastInDim S1x1x2x64 ![0, 1, 2, 3] bcast_S1x1x1x64_S1x1x2x64_0_1_2_3
    (shapeCast S1x1x1x64 (shapeCast S1x64 (w : FVec Ideal S64 .f32) shapeCasts_S64_S1x64 : FVec Ideal S1x64 .f32) shapeCasts_S1x64_S1x1x1x64 : FVec Ideal S1x1x1x64 .f32) : FVec Ideal S1x1x2x64 .f32)
    shapeCasts_S1x1x2x64_S1x128

theorem eye (a b : Nat) (ha : a < 512) (hb : b < 512) :
    (FloatOps.uitofp (F := Ideal) .f32 (IntOp.cmpi .eq (IntOp.addi (BitVec.ofNat 32 a) 0#32) (BitVec.ofNat 32 b)) : EReal) = if a = b then 1 else 0 := by
  have h0 : IntOp.addi (BitVec.ofNat 32 a) 0#32 = BitVec.ofNat 32 a := BitVec.add_zero _
  rw [h0]
  by_cases h : a = b
  · subst h
    rw [if_pos rfl]
    have hc : IntOp.cmpi .eq (BitVec.ofNat 32 a) (BitVec.ofNat 32 a) = 1#1 := by simp [IntOp.cmpi]
    rw [hc]
    show (((1 : ℕ) : ℝ) : EReal) = 1
    simp
  · rw [if_neg h]
    have hn : BitVec.ofNat 32 a ≠ BitVec.ofNat 32 b := fun hh => h (by
      have := congrArg BitVec.toNat hh
      simp only [BitVec.toNat_ofNat] at this
      omega)
    have hc : IntOp.cmpi .eq (BitVec.ofNat 32 a) (BitVec.ofNat 32 b) = 0#1 := by
      show BitVec.ofBool (BitVec.ofNat 32 a == BitVec.ofNat 32 b) = 0#1
      rw [beq_eq_false_iff_ne.mpr hn]
      rfl
    rw [hc]
    show (((0 : ℕ) : ℝ) : EReal) = 0
    simp

theorem blocks8_at (j k : Fin 512) : (blocks8 (ix2 j k) : EReal) = if j.val / 64 = k.val / 64 then ((1 / 64 : ℝ) : EReal) else 0 := by
  unfold blocks8
  pointwise
  rw [eye _ _ (by omega) (by omega), wfrac]
  split_ifs
  · rw [one_mul]
  · rw [zero_mul]

theorem blocks2_at (j k : Fin 128) : (blocks2 (ix2 j k) : EReal) = if j.val / 64 = k.val / 64 then ((1 / 64 : ℝ) : EReal) else 0 := by
  unfold blocks2
  pointwise
  rw [eye _ _ (by omega) (by omega), wfrac]
  split_ifs
  · rw [one_mul]
  · rw [zero_mul]

theorem tile8_at (w : S64.Idx → EReal) (z : Fin 1) (g : Fin 8) (e : Fin 64) : (tile8 w (ix2 z (col8 g e)) : EReal) = w (ix1 e) := by
  unfold tile8
  pointwise
  have h : (g.val * 64 + e.val) % 64 = e.val := by omega
  simp only [h]

theorem tile2_at (w : S64.Idx → EReal) (z : Fin 1) (g : Fin 2) (e : Fin 64) : (tile2 w (ix2 z (col2 g e)) : EReal) = w (ix1 e) := by
  unfold tile2
  pointwise
  have h : (g.val * 64 + e.val) % 64 = e.val := by omega
  simp only [h]

theorem V_e8 : V m c main_v8 = blocks8 := by
  unfold_abbrev_sides
  simp only [List.flatten_cons, List.flatten_nil, hostOps0, hostOps0_1, hostOps0_2, hostOps0_3, hostOps0_4, List.cons_append, List.nil_append, List.append_nil]
  after_results
  rfl

theorem V_e2 : V m c main_v17 = blocks2 := by
  unfold_abbrev_sides
  simp only [List.flatten_cons, List.flatten_nil, hostOps0, hostOps0_1, hostOps0_2, hostOps0_3, hostOps0_4, List.cons_append, List.nil_append, List.append_nil]
  after_results
  rfl

theorem V_q : V m c main_v21 = tile8 (Qa m c) := by
  unfold_abbrev_sides
  simp only [List.flatten_cons, List.flatten_nil, hostOps0, hostOps0_1, hostOps0_2, hostOps0_3, hostOps0_4, List.cons_append, List.nil_append, List.append_nil]
  after_results
  rfl

theorem V_k : V m c main_v25 = tile2 (Ka m c) := by
  unfold_abbrev_sides
  simp only [List.flatten_cons, List.flatten_nil, hostOps0, hostOps0_1, hostOps0_2, hostOps0_3, hostOps0_4, List.cons_append, List.nil_append, List.append_nil]
  after_results
  rfl

theorem pay3_at (Z : FVec Ideal S512x512 .f32) (E : FVec Ideal S512x512 .bf16) (g : FVec Ideal S1x512 .f32) (r : Fin 512) (k : Fin 512) :
    (k0_pay3 (F := Ideal) Z E E g (ix2 r k) : EReal)
      = Z (ix2 r k) * kinv (fun j => Z (ix2 r j)) (fun j k => E (ix2 j k)) k * g (ix2 0 k) * Ideal.ofBits .f32 0x3E000000#32 := by
  unfold k0_pay3
  pointwise
  rfl

theorem pay1_at (Z : FVec Ideal S512x128 .f32) (E : FVec Ideal S128x128 .bf16) (g : FVec Ideal S1x128 .f32) (r : Fin 512) (k : Fin 128) :
    (k0_pay1 (F := Ideal) Z (k0_pay6 Z) (k0_pay7 Z E) (k0_pay8 E) (constant S512x128 .f32 0x00000000#32) g (ix2 r k) : EReal)
      = Z (ix2 r k) * kinv (fun j => Z (ix2 r j)) (fun j k => E (ix2 j k)) k * g (ix2 0 k) := by
  unfold k0_pay1 k0_pay6 k0_pay7 k0_pay8 k0_pay5 k0_pay4
  pointwise
  rfl

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- The row that a point's row is. -/
abbrev row (t : Fin cfg0.N) (r : Fin 512) : Fin 8192 := ⟨t.val * 512 + r.val, by have := t.isLt; have : cfg0.N = 16 := N_0; omega⟩

theorem z_blk (t : Fin cfg0.N) (r : Fin 512) (n : Fin 1280) : (iblk m c 0 t (ix2 r n) : EReal) = Za m c (ix2 (row t r) n) := by
  blk_ext [iblk, V, idx t]

theorem q_blk (t : Fin cfg0.N) (z : Fin 1) (g : Fin 8) (e : Fin 64) : (iblk m c 1 t (ix2 z (col8 g e)) : EReal) = Qa m c (ix1 e) := by
  refine Eq.trans ?_ ((congrFun (V_q m c) (ix2 z (col8 g e))).trans (tile8_at _ z g e))
  show (V m c main_v21 _ : EReal) = _
  blk_ext [iblk, idx t]

theorem k_blk (t : Fin cfg0.N) (z : Fin 1) (g : Fin 2) (e : Fin 64) : (iblk m c 2 t (ix2 z (col2 g e)) : EReal) = Ka m c (ix1 e) := by
  refine Eq.trans ?_ ((congrFun (V_k m c) (ix2 z (col2 g e))).trans (tile2_at _ z g e))
  show (V m c main_v25 _ : EReal) = _
  blk_ext [iblk, idx t]

theorem e8_blk (t : Fin cfg0.N) : Blocks fun j k => (iblk m c 3 t (ix2 j k) : EReal) := fun j k => by
  refine Eq.trans ?_ ((congrFun (V_e8 m c) (ix2 j k)).trans (blocks8_at j k))
  show (V m c main_v8 _ : EReal) = _
  blk_ext [iblk, idx t]

theorem e2_blk (t : Fin cfg0.N) : Blocks fun j k => (iblk m c 4 t (ix2 j k) : EReal) := fun j k => by
  refine Eq.trans ?_ ((congrFun (V_e2 m c) (ix2 j k)).trans (blocks2_at j k))
  show (V m c main_v17 _ : EReal) = _
  blk_ext [iblk, idx t]

theorem zq_ld (t : Fin cfg0.N) (inb) (r : Fin 512) (j : Fin 512) :
    (View.ld (iblk m c 0 t) (Rect.unit (s := S512x1280) ![0, 0] ![512, 512] inb) (ix2 r j) : EReal) = Za m c (ix2 (row t r) (zq j)) := by
  refine (View.ld_unit_apply_of _ _ _ inb (ix2 r j) (ix2 r (zq j)) (fun a => by fin_cases a <;> simp)).trans ?_
  exact z_blk m c t r (zq j)

theorem zk_ld (t : Fin cfg0.N) (inb) (r : Fin 512) (j : Fin 128) :
    (View.ld (iblk m c 0 t) (Rect.unit (s := S512x1280) ![0, 512] ![512, 128] inb) (ix2 r j) : EReal) = Za m c (ix2 (row t r) (zk j)) := by
  refine (View.ld_unit_apply_of _ _ _ inb (ix2 r j) (ix2 r (zk j)) (fun a => by fin_cases a <;> simp)).trans ?_
  exact z_blk m c t r (zk j)

theorem zv_ld (t : Fin cfg0.N) (inb) (r : Fin 512) (j : Fin 128) :
    (View.ld (iblk m c 0 t) (Rect.unit (s := S512x1280) ![0, 640] ![512, 128] inb) (ix2 r j) : EReal) = Za m c (ix2 (row t r) (zv j)) := by
  refine (View.ld_unit_apply_of _ _ _ inb (ix2 r j) (ix2 r (zv j)) (fun a => by fin_cases a <;> simp)).trans ?_
  exact z_blk m c t r (zv j)

/-- The queries' and keys' columns are real. -/
abbrev Real (Z : S8192x1280.Idx → EReal) : Prop := ∀ (i : Fin 8192) (n : Fin 1280), n.val < 640 → IsReal (Z (ix2 i n))

theorem q_at (hr : Real (Za m c)) (t : Fin cfg0.N) (inb) (r : Fin 512) (g : Fin 8) (e : Fin 64) :
    (k0_pay3 (F := Ideal) (View.ld (iblk m c 0 t) (Rect.unit (s := S512x1280) ![0, 0] ![512, 512] inb)) (iblk m c 3 t) (iblk m c 3 t) (iblk m c 1 t) (ix2 r (col8 g e)) : EReal)
      = q (Za m c) (Qa m c) (row t r) g e := by
  refine (pay3_at _ _ _ r _).trans ?_
  simp only [zq_ld, q_blk]
  rw [kinv_eq (H := 8) rfl (fun j => hr _ _ (by show j.val < 640; omega)) (e8_blk m c t) col8 (fun _ _ => rfl)]
  rfl

theorem k_at (hr : Real (Za m c)) (t : Fin cfg0.N) (inb) (r : Fin 512) (g : Fin 2) (e : Fin 64) :
    (k0_pay1 (F := Ideal) (View.ld (iblk m c 0 t) (Rect.unit (s := S512x1280) ![0, 512] ![512, 128] inb))
      (k0_pay6 (View.ld (iblk m c 0 t) (Rect.unit (s := S512x1280) ![0, 512] ![512, 128] inb)))
      (k0_pay7 (View.ld (iblk m c 0 t) (Rect.unit (s := S512x1280) ![0, 512] ![512, 128] inb)) (iblk m c 4 t))
      (k0_pay8 (iblk m c 4 t)) (constant S512x128 .f32 0x00000000#32) (iblk m c 2 t) (ix2 r (col2 g e)) : EReal)
      = k (Za m c) (Ka m c) (row t r) g e := by
  refine (pay1_at _ _ _ r _).trans ?_
  simp only [zk_ld, k_blk]
  rw [kinv_eq (H := 2) rfl (fun j => hr _ _ (by show 512 + j.val < 640; omega)) (e2_blk m c t) col2 (fun _ _ => rfl)]
  rfl

/-- The kernel's queries. -/
theorem arr5 (hr : Real (Za m c)) (G : S8192x512.Idx → EReal) (hG : ∀ i g e, G (ix2 i (col8 g e)) = q (Za m c) (Qa m c) i g e) :
    (dats m 0 c).arrAt 5 cfg0.N = G := by
  refine (dats m 0 c).arrAt_eq_of_covers 5 _ (by decide +kernel) fun t hf y => ?_
  blk_simp
  rw [after0_5]
  frame_out
  obtain ⟨r, j, rfl⟩ : ∃ (r : Fin 512) (j : Fin 512), y = ix2 r j := ⟨y 0, y 1, eq_ix2 y⟩
  obtain ⟨g, e, rfl⟩ := exists_col8 j
  refine (q_at m c hr t _ r g e).trans ((hG (row t r) g e).symm.trans (congrArg G ?_))
  blk_ext [idx t]

/-- The kernel's keys beside its values. -/
theorem arr6 (hr : Real (Za m c)) (G : S8192x256.Idx → EReal) (hG : ∀ i g e, G (ix2 i ⟨g.val * 64 + e.val, by omega⟩) = k (Za m c) (Ka m c) i g e)
    (hV : ∀ i j, G (ix2 i ⟨128 + j.val, by omega⟩) = Za m c (ix2 i (zv j))) :
    (dats m 0 c).arrAt 6 cfg0.N = G := by
  refine (dats m 0 c).arrAt_eq_of_covers 6 _ (by decide +kernel) fun t hf y => ?_
  blk_simp
  rw [after0_6]
  frame_out
  obtain ⟨r, j, rfl⟩ : ∃ (r : Fin 512) (j : Fin 256), y = ix2 r j := ⟨y 0, y 1, eq_ix2 y⟩
  refine Eq.trans (b := G (ix2 (row t r) j)) ?_ (congrArg G ?_)
  · canon_tiles x hx
    · refine Norm.part r j 128 _ (fun j => G (ix2 (row t r) j)) (fun w hq => ?_) x (by simpa using hx0) hx1
      refine Eq.trans ?_ (hV (row t r) w).symm
      exact zv_ld m c t _ r w
    · refine Norm.part r j 0 _ (fun j => G (ix2 (row t r) j)) (fun w hq => ?_) x (by simpa using hx0) (by simpa using hx1)
      obtain ⟨g, e, rfl⟩ := exists_col2 w
      refine Eq.trans ?_ ((hG (row t r) g e).symm.trans (congrArg (fun j => G (ix2 (row t r) j)) (Fin.ext (by simp))))
      exact k_at m c hr t _ r g e
  · blk_ext [idx t]

end Cert.QkIdeal.At

namespace Cert.QkRefIdeal.At

open Idealize.ShloMosaic Idealize.SL.Sem Idealize.ShloMosaic.StableHlo Cert.QkRefIdeal Cert.QkRefIdeal.Gen Cert.Heads

open Cert.QkIdeal.At (q k zv)

variable (m : (ℓ : Loc nD τ sig) → Buf (Elt Ideal) ℓ) (c : Dev nD)

abbrev Za : S8192x1280.Idx → EReal := m ((c.tc : Thread nD τ).loc main_arg0)
abbrev Qa : S64.Idx → EReal := m ((c.tc : Thread nD τ).loc main_arg1)
abbrev Ka : S64.Idx → EReal := m ((c.tc : Thread nD τ).loc main_arg2)

/-- The reference's queries, its keys, and the keys beside the values. -/
def refQ (Z : FVec Ideal S8192x1280 .f32) (w : FVec Ideal S64 .f32) : FVec Ideal S8192x512 .bf16 :=
  truncf .bf16 (shapeCast _ (Host.divf (mulf (mulf (shapeCast _ (extractStridedSlice S8192x512 ![0, 0] Z slices_S8192x1280_S8192x512_0_0) shapeCasts_S8192x512_S8192x8x64) (broadcastInDim S8192x8x64 ![0, 1, 2] bcast_S8192x8x1_S8192x8x64_0_1_2 (Host.rsqrt (addf (Host.divf (broadcastInDim S8192x8x1 ![0, 1] bcast_S8192x8_S8192x8x1_0_1 (Host.reduceAdd (mulf (shapeCast _ (extractStridedSlice S8192x512 ![0, 0] Z slices_S8192x1280_S8192x512_0_0) shapeCasts_S8192x512_S8192x8x64) (shapeCast _ (extractStridedSlice S8192x512 ![0, 0] Z slices_S8192x1280_S8192x512_0_0) shapeCasts_S8192x512_S8192x8x64)) (constant S_ .f32 0x00000000#32) reducesTo_S8192x8x64_S8192x8_d2 h_S_)) (broadcastInDim S8192x8x1 ![] bcast_S_S8192x8x1 (constant S_ .f32 0x42800000#32))) (broadcastInDim S8192x8x1 ![] bcast_S_S8192x8x1 (constant S_ .f32 0x358637BD#32)))))) (broadcastInDim S8192x8x64 ![0, 1, 2] bcast_S1x1x64_S8192x8x64_0_1_2 (broadcastInDim S1x1x64 ![2] bcast_S64_S1x1x64_2 w))) (broadcastInDim S8192x8x64 ![] bcast_S_S8192x8x64 (constant S_ .f32 0x41000000#32))) shapeCasts_S8192x8x64_S8192x512) bitsLt_bf16_f32

def refK (Z : FVec Ideal S8192x1280 .f32) (w : FVec Ideal S64 .f32) : FVec Ideal S8192x128 .f32 :=
  shapeCast _ (mulf (mulf (shapeCast _ (extractStridedSlice S8192x128 ![0, 512] Z slices_S8192x1280_S8192x128_0_512) shapeCasts_S8192x128_S8192x2x64) (broadcastInDim S8192x2x64 ![0, 1, 2] bcast_S8192x2x1_S8192x2x64_0_1_2 (Host.rsqrt (addf (Host.divf (broadcastInDim S8192x2x1 ![0, 1] bcast_S8192x2_S8192x2x1_0_1 (Host.reduceAdd (mulf (shapeCast _ (extractStridedSlice S8192x128 ![0, 512] Z slices_S8192x1280_S8192x128_0_512) shapeCasts_S8192x128_S8192x2x64) (shapeCast _ (extractStridedSlice S8192x128 ![0, 512] Z slices_S8192x1280_S8192x128_0_512) shapeCasts_S8192x128_S8192x2x64)) (constant S_ .f32 0x00000000#32) reducesTo_S8192x2x64_S8192x2_d2 h_S_)) (broadcastInDim S8192x2x1 ![] bcast_S_S8192x2x1 (constant S_ .f32 0x42800000#32))) (broadcastInDim S8192x2x1 ![] bcast_S_S8192x2x1 (constant S_ .f32 0x358637BD#32)))))) (broadcastInDim S8192x2x64 ![0, 1, 2] bcast_S1x1x64_S8192x2x64_0_1_2 (broadcastInDim S1x1x64 ![2] bcast_S64_S1x1x64_2 w))) shapeCasts_S8192x2x64_S8192x128

def refKV (Z : FVec Ideal S8192x1280 .f32) (w : FVec Ideal S64 .f32) : FVec Ideal S8192x256 .bf16 :=
  truncf .bf16 (concatenate S8192x256 1 [⟨S8192x128, refK Z w⟩, ⟨S8192x128, (extractStridedSlice S8192x128 ![0, 640] Z slices_S8192x1280_S8192x128_0_640)⟩] concatenates_S8192x128_S8192x128_S8192x256_d1) bitsLt_bf16_f32

theorem refQ_at (Z : FVec Ideal S8192x1280 .f32) (w : FVec Ideal S64 .f32) (i : Fin 8192) (g : Fin 8) (e : Fin 64) : (refQ Z w (ix2 i (col8 g e)) : EReal) = q Z w i g e := by
  unfold refQ
  pointwise
  have h : (g.val * 64 + e.val) % 64 = e.val := by omega
  have h' : (g.val * 64 + e.val) / 64 = g.val := by omega
  simp only [h, h']
  exact div8 _

theorem refK_at (Z : FVec Ideal S8192x1280 .f32) (w : FVec Ideal S64 .f32) (i : Fin 8192) (g : Fin 2) (e : Fin 64) : (refK Z w (ix2 i (col2 g e)) : EReal) = k Z w i g e := by
  unfold refK
  pointwise
  have h : (g.val * 64 + e.val) % 64 = e.val := by omega
  have h' : (g.val * 64 + e.val) / 64 = g.val := by omega
  simp only [h, h']
  rfl

theorem res_k (Z : FVec Ideal S8192x1280 .f32) (w : FVec Ideal S64 .f32) (i : Fin 8192) (g : Fin 2) (e : Fin 64) : (refKV Z w (ix2 i ⟨g.val * 64 + e.val, by omega⟩) : EReal) = k Z w i g e := by
  rw [← refK_at]
  unfold refKV
  pointwise
  exact dif_pos (by omega)

theorem res_v (Z : FVec Ideal S8192x1280 .f32) (w : FVec Ideal S64 .f32) (i : Fin 8192) (j : Fin 128) : (refKV Z w (ix2 i ⟨128 + j.val, by omega⟩) : EReal) = Z (ix2 i (zv j)) := by
  unfold refKV
  pointwise

end Cert.QkRefIdeal.At

namespace Cert.Proof.Qk

open Idealize.ShloMosaic Idealize.SL.Sem Idealize.ShloMosaic.StableHlo

theorem frame_r : Cert.quiescent_QkRefIdeal := fun m ρ _ =>
  (θ_run Cert.QkRefIdeal.defs _ _).mono (fun r h => ⟨fun c => (h c).2.2, sem_eq_zero_of_no_sems (by decide) r.2⟩)
    (Cert.QkRefIdeal.Value.run m ρ)

theorem algebraic : Cert.algebraic_QkIdeal_QkRefIdeal_pre_finite_qk := fun m ρ m' ρ' hpre hag => by
  refine ⟨fun c => (Cert.QkIdeal.Gen.dats m 0 c).arrAt 5 Cert.QkIdeal.cfg0.N,
    fun c => (Cert.QkIdeal.Gen.dats m 0 c).arrAt 6 Cert.QkIdeal.cfg0.N, Cert.QkIdeal.Value.run_blocks m ρ, ?_⟩
  refine (θ_run _ _ _).mono (fun _ h c => ?_) (Cert.QkRefIdeal.Value.run m' ρ')
  obtain ⟨h0, h1, hk⟩ := h c
  obtain ⟨e0, e1, e2⟩ := hag c
  have hr : Cert.QkIdeal.At.Real (Cert.QkIdeal.At.Za m c) := fun i n hn => Cert.Pre_finite_qk.real (hpre c) i n hn
  refine ⟨h0.trans (Cert.QkIdeal.At.arr5 m c hr _ fun i g e => ?_).symm, h1.trans (Cert.QkIdeal.At.arr6 m c hr _ (fun i g e => ?_) fun i j => ?_).symm, hk⟩
  · refine (Cert.QkRefIdeal.At.refQ_at _ _ i g e).trans ?_
    rw [e0, e1]
  · refine (Cert.QkRefIdeal.At.res_k _ _ i g e).trans ?_
    rw [e0, e2]
  · refine (Cert.QkRefIdeal.At.res_v _ (Cert.QkRefIdeal.At.Ka m' c) i j).trans ?_
    rw [e0]

end Cert.Proof.Qk

end
-- ==== Proof.GzVal.lean ====
/- The gradient through the heads' norms and the split of the projected rows: kernel and reference hold the same arrays. -/
module

public import proofs.«01_k».proof.Proof.Gen.GzIdeal.Value
public import proofs.«01_k».proof.Proof.Gen.GzRefIdeal.Run
public import proofs.«01_k».proof.Defs
public import Idealize.ShloMosaic.Adequacy
public import Idealize.ShloMosaic.Init
public import proofs.«01_k».proof.Proof.QkVal

@[expose] public section

set_option maxRecDepth 16384

noncomputable section

namespace Cert.GzIdeal.At

open Idealize.ShloMosaic Idealize.SL.Sem Idealize.ShloMosaic.TcCoe Cert.GzIdeal Cert.GzIdeal.Gen Cert.Heads Cert.Row

open Cert.QkIdeal.At (zq zk zv qh kh blocks8 blocks2 tile8 tile2 blocks8_at blocks2_at tile8_at tile2_at)

variable (m : (ℓ : Loc nD τ sig) → Buf (Elt Ideal) ℓ) (c : Dev nD)

abbrev Ga : S8192x512.Idx → EReal := m ((c : Thread nD τ).loc main_arg0)
abbrev Da : S3x8192x256.Idx → EReal := m ((c : Thread nD τ).loc main_arg1)
abbrev Za : S8192x1280.Idx → EReal := m ((c : Thread nD τ).loc main_arg2)
abbrev Qa : S64.Idx → EReal := m ((c : Thread nD τ).loc main_arg3)
abbrev Ka : S64.Idx → EReal := m ((c : Thread nD τ).loc main_arg4)
abbrev Fa : S8192x512.Idx → EReal := m ((c : Thread nD τ).loc main_arg5)
abbrev Ra : S8192x512.Idx → EReal := m ((c : Thread nD τ).loc main_arg6)
abbrev Ya : S8192x512.Idx → EReal := m ((c : Thread nD τ).loc main_arg7)
abbrev Sa : S512.Idx → EReal := m ((c : Thread nD τ).loc main_arg8)

/-- The eighth by which the queries are scaled. -/
abbrev eighth : EReal := Ideal.ofBits .f32 0x3E000000#32

/-- The skip's columns. -/
abbrev zu (j : Fin 512) : Fin 1280 := ⟨768 + j.val, by omega⟩

/-- A row's part of the gradient of keys and values, from the query block before its own, its own and the next. -/
def gkv (D : S3x8192x256.Idx → EReal) (i : Fin 8192) (j : Fin 256) : EReal :=
  D (ix3 1 i j) + (if h : i.val / 128 + 1 < 64 then D (ix3 0 ⟨i.val + 128, by omega⟩ j) else 0)
    + (if 1 ≤ i.val / 128 then D (ix3 2 ⟨i.val - 128, by omega⟩ j) else 0)

abbrev ck (g : Fin 2) (e : Fin 64) : Fin 256 := ⟨g.val * 64 + e.val, by omega⟩

/-- The gradients of a scaled query head and of a key head, times the gain. -/
def tq (G : S8192x512.Idx → EReal) (w : S64.Idx → EReal) (i : Fin 8192) (g : Fin 8) (e : Fin 64) : EReal :=
  G (ix2 i (col8 g e)) * eighth * w (ix1 e)
def tk (D : S3x8192x256.Idx → EReal) (w : S64.Idx → EReal) (i : Fin 8192) (g : Fin 2) (e : Fin 64) : EReal :=
  gkv D i (ck g e) * w (ix1 e)

/-- The gradients of a row's query head and key head. -/
def gq (G : S8192x512.Idx → EReal) (Z : S8192x1280.Idx → EReal) (w : S64.Idx → EReal) (i : Fin 8192) (g : Fin 8) (e : Fin 64) : EReal :=
  grad (qh Z i g) (tq G w i g) e
def gk (D : S3x8192x256.Idx → EReal) (Z : S8192x1280.Idx → EReal) (w : S64.Idx → EReal) (i : Fin 8192) (g : Fin 2) (e : Fin 64) : EReal :=
  grad (kh Z i g) (tk D w i g) e

/-- The gradient of the state space mixer's argument. -/
def gu (A B Y : S8192x512.Idx → EReal) (s : S512.Idx → EReal) (i : Fin 8192) (j : Fin 512) : EReal :=
  A (ix2 i j) + B (ix2 i j) + s (ix1 j) * Y (ix2 i j)

/-- What one row brings to the gradients of the two gains and of the skip's weight. -/
def pq (G : S8192x512.Idx → EReal) (Z : S8192x1280.Idx → EReal) (i : Fin 8192) (g : Fin 8) (e : Fin 64) : EReal :=
  G (ix2 i (col8 g e)) * eighth * (qh Z i g e * inv (qh Z i g))
def pk (D : S3x8192x256.Idx → EReal) (Z : S8192x1280.Idx → EReal) (i : Fin 8192) (g : Fin 2) (e : Fin 64) : EReal :=
  gkv D i (ck g e) * (kh Z i g e * inv (kh Z i g))
def pd (Y : S8192x512.Idx → EReal) (Z : S8192x1280.Idx → EReal) (i : Fin 8192) (j : Fin 512) : EReal :=
  Y (ix2 i j) * Z (ix2 i (zu j))

/-- The rows of one residue, and a block's. -/
abbrev row8 (u : Fin 1024) (a : Fin 8) : Fin 8192 := ⟨u.val * 8 + a.val, by omega⟩
abbrev loc8 (u : Fin 16) (a : Fin 8) : Fin 128 := ⟨u.val * 8 + a.val, by omega⟩

/-- A sum over the rows of one residue. -/
def res (f : Fin 8192 → EReal) (a : Fin 8) : EReal := ∑ u : Fin 1024, f (row8 u a)

theorem pay17_at (Z G : FVec Ideal S128x512 .f32) (E : FVec Ideal S512x512 .bf16) (w : FVec Ideal S1x512 .f32) (r : Fin 128) (k : Fin 512) :
    (k0_pay17 (F := Ideal) (k0_pay9 Z E E) (k0_pay10 Z E E) (k0_pay11 G w) (k0_pay14 Z G E E w) (k0_pay15 Z G E E w E) (k0_pay16 E) (ix2 r k) : EReal)
      = kinv (fun j => Z (ix2 r j)) (fun j k => E (ix2 j k)) k * (G (ix2 r k) * eighth * w (ix2 0 k)
        - Z (ix2 r k) * kinv (fun j => Z (ix2 r j)) (fun j k => E (ix2 j k)) k
          * kmean (fun j => G (ix2 r j) * eighth * w (ix2 0 j) * (Z (ix2 r j) * kinv (fun j => Z (ix2 r j)) (fun j k => E (ix2 j k)) j)) (fun j k => E (ix2 j k)) k) := by
  unfold k0_pay17 k0_pay16 k0_pay15 k0_pay14 k0_pay13 k0_pay12 k0_pay11 k0_pay10 k0_pay9 k0_pay8
  pointwise
  rfl

theorem pay18_at (Z G : FVec Ideal S128x512 .f32) (E : FVec Ideal S512x512 .bf16) (v : FVec Ideal S8x512 .f32) (a : Fin 8) (k : Fin 512) :
    (k0_pay18 (F := Ideal) (k0_pay8 G) (k0_pay10 Z E E) v (ix2 a k) : EReal)
      = v (ix2 a k) + ∑ u : Fin 16, G (ix2 (loc8 u a) k) * eighth
          * (Z (ix2 (loc8 u a) k) * kinv (fun j => Z (ix2 (loc8 u a) j)) (fun j k => E (ix2 j k)) k) := by
  unfold k0_pay18 k0_pay10 k0_pay9 k0_pay8
  pointwise
  rfl

theorem pay26_at (Z T : FVec Ideal S128x128 .f32) (E : FVec Ideal S128x128 .bf16) (w : FVec Ideal S1x128 .f32) (r : Fin 128) (k : Fin 128) :
    (k0_pay26 (F := Ideal) Z T (k0_pay21 Z) (k0_pay22 Z) (k0_pay23 Z) E E w E E (ix2 r k) : EReal)
      = kinv (fun j => Z (ix2 r j)) (fun j k => E (ix2 j k)) k * (T (ix2 r k) * w (ix2 0 k)
        - Z (ix2 r k) * kinv (fun j => Z (ix2 r j)) (fun j k => E (ix2 j k)) k
          * kmean (fun j => T (ix2 r j) * w (ix2 0 j) * (Z (ix2 r j) * kinv (fun j => Z (ix2 r j)) (fun j k => E (ix2 j k)) j)) (fun j k => E (ix2 j k)) k) := by
  unfold k0_pay26 k0_pay25 k0_pay24 k0_pay23 k0_pay22 k0_pay21
  pointwise
  rfl

theorem pay20_at (b : BitVec 32) (x y z : FVec Ideal S1x128x256 .f32) (r : Fin 128) (j : Fin 128) :
    (k0_pay20 (F := Ideal) b x y z (ix2 r j) : EReal) = k0_pay19 (F := Ideal) b x y z (ix2 r ⟨j.val, by omega⟩) := by
  unfold k0_pay20
  generalize k0_pay19 (F := Ideal) b x y z = T
  pointwise

/-- The two gradients over arrays. -/
theorem q_gen (Z G : FVec Ideal S128x512 .f32) (E : FVec Ideal S512x512 .bf16) (w : FVec Ideal S1x512 .f32) (r : Fin 128) (hZ : ∀ j, IsReal (Z (ix2 r j)))
    (ht : ∀ j, IsReal ((G (ix2 r j) : EReal) * eighth * w (ix2 0 j))) (hE : Blocks fun j k => (E (ix2 j k) : EReal)) (g : Fin 8) (e : Fin 64) :
    (k0_pay17 (F := Ideal) (k0_pay9 Z E E) (k0_pay10 Z E E) (k0_pay11 G w) (k0_pay14 Z G E E w) (k0_pay15 Z G E E w E) (k0_pay16 E) (ix2 r (col8 g e)) : EReal)
      = grad (fun e => (Z (ix2 r (col8 g e)) : EReal)) (fun e => (G (ix2 r (col8 g e)) : EReal) * eighth * w (ix2 0 (col8 g e))) e :=
  (pay17_at Z G E w r _).trans (kgrad_eq (H := 8) (W := 512) rfl (Z := fun j => (Z (ix2 r j) : EReal)) (t := fun j => (G (ix2 r j) : EReal) * eighth * w (ix2 0 j)) hZ ht
    (E := fun j k => (E (ix2 j k) : EReal)) hE col8 (fun _ _ => rfl) exists_col8 g e)

theorem k_gen (Z T : FVec Ideal S128x128 .f32) (E : FVec Ideal S128x128 .bf16) (w : FVec Ideal S1x128 .f32) (r : Fin 128) (hZ : ∀ j, IsReal (Z (ix2 r j)))
    (ht : ∀ j, IsReal ((T (ix2 r j) : EReal) * w (ix2 0 j))) (hE : Blocks fun j k => (E (ix2 j k) : EReal)) (g : Fin 2) (e : Fin 64) :
    (k0_pay26 (F := Ideal) Z T (k0_pay21 Z) (k0_pay22 Z) (k0_pay23 Z) E E w E E (ix2 r (col2 g e)) : EReal)
      = grad (fun e => (Z (ix2 r (col2 g e)) : EReal)) (fun e => (T (ix2 r (col2 g e)) : EReal) * w (ix2 0 (col2 g e))) e :=
  (pay26_at Z T E w r _).trans (kgrad_eq (H := 2) (W := 128) rfl (Z := fun j => (Z (ix2 r j) : EReal)) (t := fun j => (T (ix2 r j) : EReal) * w (ix2 0 j)) hZ ht
    (E := fun j k => (E (ix2 j k) : EReal)) hE col2 (fun _ _ => rfl) exists_col2 g e)

theorem pay28_at (Z T : FVec Ideal S128x128 .f32) (E : FVec Ideal S128x128 .bf16) (v : FVec Ideal S8x128 .f32) (a : Fin 8) (k : Fin 128) :
    (k0_pay1 (F := Ideal) (k0_pay27 v) (k0_pay28 Z T (k0_pay21 Z) (k0_pay22 Z) (k0_pay23 Z) E E) (ix2 a k) : EReal)
      = v (ix2 a k) + ∑ u : Fin 16, T (ix2 (loc8 u a) k)
          * (Z (ix2 (loc8 u a) k) * kinv (fun j => Z (ix2 (loc8 u a) j)) (fun j k => E (ix2 j k)) k) := by
  unfold k0_pay1 k0_pay27 k0_pay28 k0_pay25 k0_pay24 k0_pay23 k0_pay22 k0_pay21
  pointwise
  rfl

theorem pay3_at (Y A B : FVec Ideal S128x512 .f32) (s : FVec Ideal S1x512 .f32) (r : Fin 128) (k : Fin 512) :
    (k0_pay3 (F := Ideal) Y A B s (ix2 r k) : EReal) = A (ix2 r k) + B (ix2 r k) + s (ix2 0 k) * Y (ix2 r k) := by
  unfold k0_pay3
  pointwise

theorem pay4_at (Y U : FVec Ideal S128x512 .f32) (v : FVec Ideal S8x512 .f32) (a : Fin 8) (k : Fin 512) :
    (k0_pay4 (F := Ideal) Y v U (ix2 a k) : EReal) = v (ix2 a k) + ∑ u : Fin 16, Y (ix2 (loc8 u a) k) * U (ix2 (loc8 u a) k) := by
  unfold k0_pay4
  pointwise

theorem pay19_at (t : Nat) (ht : t < 64) (d1 d0 d2 : FVec Ideal S1x128x256 .f32) (r : Fin 128) (j : Fin 256) :
    (k0_pay19 (F := Ideal) (BitVec.ofNat 32 t) d1 d0 d2 (ix2 r j) : EReal)
      = d1 (ix3 0 r j) + (if t + 1 < 64 then d0 (ix3 0 r j) else 0) + (if 1 ≤ t then d2 (ix3 0 r j) else 0) := by
  have h1 : Scalar.cmpi .slt (Scalar.addi (BitVec.ofNat 32 t) 1#32) 64#32 = if t + 1 < 64 then 1#1 else 0#1 :=
    (by decide +kernel : ∀ t : Fin 64, Scalar.cmpi .slt (Scalar.addi (BitVec.ofNat 32 t.val) 1#32) 64#32 = if t.val + 1 < 64 then 1#1 else 0#1) ⟨t, ht⟩
  have h2 : Scalar.cmpi .sge (BitVec.ofNat 32 t) 1#32 = if 1 ≤ t then 1#1 else 0#1 :=
    (by decide +kernel : ∀ t : Fin 64, Scalar.cmpi .sge (BitVec.ofNat 32 t.val) 1#32 = if 1 ≤ t.val then 1#1 else 0#1) ⟨t, ht⟩
  unfold k0_pay19
  rw [h1, h2]
  by_cases a : t + 1 < 64 <;> by_cases b : 1 ≤ t <;> simp only [a, b, if_true, if_false] <;> pointwise <;> rfl

theorem pay5_zero (i : S8x512.Idx) : (k0_pay5 (F := Ideal) i : EReal) = 0 := by
  unfold k0_pay5
  pointwise

theorem pay6_zero (i : S8x128.Idx) : (k0_pay6 (F := Ideal) i : EReal) = 0 := by
  unfold k0_pay6
  pointwise

theorem pay7_zero (i : S8x512.Idx) : (k0_pay7 (F := Ideal) i : EReal) = 0 := by
  unfold k0_pay7
  pointwise

theorem V_e8 : V m c main_v8 = blocks8 := by
  unfold_abbrev_sides
  simp only [List.flatten_cons, List.flatten_nil, hostOps0, hostOps0_1, hostOps0_2, hostOps0_3, hostOps0_4, List.cons_append, List.nil_append, List.append_nil]
  after_results
  rfl

theorem V_e2 : V m c main_v17 = blocks2 := by
  unfold_abbrev_sides
  simp only [List.flatten_cons, List.flatten_nil, hostOps0, hostOps0_1, hostOps0_2, hostOps0_3, hostOps0_4, List.cons_append, List.nil_append, List.append_nil]
  after_results
  rfl

theorem V_q : V m c main_v21 = tile8 (Qa m c) := by
  unfold_abbrev_sides
  simp only [List.flatten_cons, List.flatten_nil, hostOps0, hostOps0_1, hostOps0_2, hostOps0_3, hostOps0_4, List.cons_append, List.nil_append, List.append_nil]
  after_results
  rfl

theorem V_k : V m c main_v25 = tile2 (Ka m c) := by
  unfold_abbrev_sides
  simp only [List.flatten_cons, List.flatten_nil, hostOps0, hostOps0_1, hostOps0_2, hostOps0_3, hostOps0_4, List.cons_append, List.nil_append, List.append_nil]
  after_results
  rfl

theorem V_s : V m c main_v26 = (shapeCast S1x512 (Sa m c : FVec Ideal S512 .f32) shapeCasts_S512_S1x512 : FVec Ideal S1x512 .f32) := by
  unfold_abbrev_sides
  simp only [List.flatten_cons, List.flatten_nil, hostOps0, hostOps0_1, hostOps0_2, hostOps0_3, hostOps0_4, List.cons_append, List.nil_append, List.append_nil]
  after_results
  rfl

theorem s_at (z : Fin 1) (k : Fin 512) : (V m c main_v26 (ix2 z k) : EReal) = Sa m c (ix1 k) := by
  rw [V_s]
  pointwise

theorem idx : ∀ t : Fin cfg0.N, win0_0.index t = ![t.val, 0] ∧ win0_1.index t = ![0, min (t.val + 1) 63, 0] ∧ win0_2.index t = ![1, t.val, 0]
    ∧ win0_3.index t = ![2, t.val - 1, 0] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![0, 0] ∧ win0_13.index t = ![t.val, 0] ∧ win0_14.index t = ![0, 0]
    ∧ win0_15.index t = ![0, 0] ∧ win0_16.index t = ![0, 0] :=
  (by decide +kernel : ∀ t : Fin grid0.N, _)

theorem lt64 (t : Fin cfg0.N) : t.val < 64 := by
  have := t.isLt
  have : cfg0.N = 64 := N_0
  omega

/-- The row that a point's row is. -/
abbrev row (t : Fin cfg0.N) (r : Fin 128) : Fin 8192 := ⟨t.val * 128 + r.val, by have := lt64 t; omega⟩

theorem g_blk (t : Fin cfg0.N) (r : Fin 128) (k : Fin 512) : (iblk m c 0 t (ix2 r k) : EReal) = Ga m c (ix2 (row t r) k) := by
  blk_ext [iblk, V, idx t]

theorem d0_blk (t : Fin cfg0.N) (z : Fin 1) (r : Fin 128) (j : Fin 256) :
    (iblk m c 1 t (ix3 z r j) : EReal) = Da m c (ix3 0 ⟨min (t.val + 1) 63 * 128 + r.val, by omega⟩ j) := by
  blk_ext [iblk, V, idx t]

theorem d1_blk (t : Fin cfg0.N) (z : Fin 1) (r : Fin 128) (j : Fin 256) : (iblk m c 2 t (ix3 z r j) : EReal) = Da m c (ix3 1 (row t r) j) := by
  blk_ext [iblk, V, idx t]

theorem d2_blk (t : Fin cfg0.N) (z : Fin 1) (r : Fin 128) (j : Fin 256) :
    (iblk m c 3 t (ix3 z r j) : EReal) = Da m c (ix3 2 ⟨(t.val - 1) * 128 + r.val, by have := lt64 t; omega⟩ j) := by
  blk_ext [iblk, V, idx t]

theorem z_blk (t : Fin cfg0.N) (r : Fin 128) (n : Fin 1280) : (iblk m c 4 t (ix2 r n) : EReal) = Za m c (ix2 (row t r) n) := by
  blk_ext [iblk, V, idx t]

theorem f_blk (t : Fin cfg0.N) (r : Fin 128) (k : Fin 512) : (iblk m c 9 t (ix2 r k) : EReal) = Fa m c (ix2 (row t r) k) := by
  blk_ext [iblk, V, idx t]

theorem r_blk (t : Fin cfg0.N) (r : Fin 128) (k : Fin 512) : (iblk m c 10 t (ix2 r k) : EReal) = Ra m c (ix2 (row t r) k) := by
  blk_ext [iblk, V, idx t]

theorem y_blk (t : Fin cfg0.N) (r : Fin 128) (k : Fin 512) : (iblk m c 11 t (ix2 r k) : EReal) = Ya m c (ix2 (row t r) k) := by
  blk_ext [iblk, V, idx t]

theorem s_blk (t : Fin cfg0.N) (z : Fin 1) (k : Fin 512) : (iblk m c 12 t (ix2 z k) : EReal) = Sa m c (ix1 k) := by
  refine Eq.trans ?_ (s_at m c z k)
  show (V m c main_v26 _ : EReal) = _
  blk_ext [iblk, idx t]

theorem q_blk (t : Fin cfg0.N) (z : Fin 1) (g : Fin 8) (e : Fin 64) : (iblk m c 5 t (ix2 z (col8 g e)) : EReal) = Qa m c (ix1 e) := by
  refine Eq.trans ?_ ((congrFun (V_q m c) (ix2 z (col8 g e))).trans (tile8_at _ z g e))
  show (V m c main_v21 _ : EReal) = _
  blk_ext [iblk, idx t]

theorem k_blk (t : Fin cfg0.N) (z : Fin 1) (g : Fin 2) (e : Fin 64) : (iblk m c 6 t (ix2 z (col2 g e)) : EReal) = Ka m c (ix1 e) := by
  refine Eq.trans ?_ ((congrFun (V_k m c) (ix2 z (col2 g e))).trans (tile2_at _ z g e))
  show (V m c main_v25 _ : EReal) = _
  blk_ext [iblk, idx t]

theorem e8_blk (t : Fin cfg0.N) : Blocks fun j k => (iblk m c 7 t (ix2 j k) : EReal) := fun j k => by
  refine Eq.trans ?_ ((congrFun (V_e8 m c) (ix2 j k)).trans (blocks8_at j k))
  show (V m c main_v8 _ : EReal) = _
  blk_ext [iblk, idx t]

theorem e2_blk (t : Fin cfg0.N) : Blocks fun j k => (iblk m c 8 t (ix2 j k) : EReal) := fun j k => by
  refine Eq.trans ?_ ((congrFun (V_e2 m c) (ix2 j k)).trans (blocks2_at j k))
  show (V m c main_v17 _ : EReal) = _
  blk_ext [iblk, idx t]

/-- A point's columns of the projected rows. -/
abbrev ZQ (t : Fin cfg0.N) : FVec Ideal S128x512 .f32 := View.ld (iblk m c 4 t) (Rect.unit (s := S128x1280) ![0, 0] ![128, 512] inb_S128x1280_S128x512_0_0)
abbrev ZK (t : Fin cfg0.N) : FVec Ideal S128x128 .f32 := View.ld (iblk m c 4 t) (Rect.unit (s := S128x1280) ![0, 512] ![128, 128] inb_S128x1280_S128x128_0_512)
abbrev ZU (t : Fin cfg0.N) : FVec Ideal S128x512 .f32 := View.ld (iblk m c 4 t) (Rect.unit (s := S128x1280) ![0, 768] ![128, 512] inb_S128x1280_S128x512_0_768)

theorem ZQ_at (t : Fin cfg0.N) (r : Fin 128) (j : Fin 512) : (ZQ m c t (ix2 r j) : EReal) = Za m c (ix2 (row t r) (zq j)) := by
  refine (View.ld_unit_apply_of _ _ _ inb_S128x1280_S128x512_0_0 (ix2 r j) (ix2 r (zq j)) (fun a => by fin_cases a <;> simp)).trans ?_
  exact z_blk m c t r (zq j)

theorem ZK_at (t : Fin cfg0.N) (r : Fin 128) (j : Fin 128) : (ZK m c t (ix2 r j) : EReal) = Za m c (ix2 (row t r) (zk j)) := by
  refine (View.ld_unit_apply_of _ _ _ inb_S128x1280_S128x128_0_512 (ix2 r j) (ix2 r (zk j)) (fun a => by fin_cases a <;> simp)).trans ?_
  exact z_blk m c t r (zk j)

theorem ZU_at (t : Fin cfg0.N) (r : Fin 128) (j : Fin 512) : (ZU m c t (ix2 r j) : EReal) = Za m c (ix2 (row t r) (zu j)) := by
  refine (View.ld_unit_apply_of _ _ _ inb_S128x1280_S128x512_0_768 (ix2 r j) (ix2 r (zu j)) (fun a => by fin_cases a <;> simp)).trans ?_
  exact z_blk m c t r (zu j)

/-- A point's gradient of keys and values. -/
abbrev KV (t : Fin cfg0.N) : FVec Ideal S128x256 .f32 :=
  k0_pay19 (F := Ideal) (BitVec.ofNat 32 (grid0.coords t 0).val) (iblk m c 2 t) (iblk m c 1 t) (iblk m c 3 t)

theorem coord : ∀ t : Fin cfg0.N, (grid0.coords t 0).val = t.val :=
  (by decide +kernel : ∀ t : Fin grid0.N, _)

theorem KV_at (t : Fin cfg0.N) (r : Fin 128) (j : Fin 256) : (KV m c t (ix2 r j) : EReal) = gkv (Da m c) (row t r) j := by
  have ht := lt64 t
  have hd : (t.val * 128 + r.val) / 128 = t.val := by omega
  unfold KV
  rw [coord t, pay19_at t.val ht, d1_blk, d0_blk, d2_blk]
  unfold gkv
  simp only [hd]
  refine congrArg₂ (· + ·) (congrArg₂ (· + ·) rfl ?_) ?_
  · by_cases h : t.val + 1 < 64
    · rw [if_pos h, dif_pos h]
      refine congrArg (fun i => Da m c (ix3 0 i j)) (Fin.ext ?_)
      show min (t.val + 1) 63 * 128 + r.val = t.val * 128 + r.val + 128
      omega
    · rw [if_neg h, dif_neg h]
  · by_cases h : 1 ≤ t.val
    · rw [if_pos h, if_pos h]
      refine congrArg (fun i => Da m c (ix3 2 i j)) (Fin.ext ?_)
      show (t.val - 1) * 128 + r.val = t.val * 128 + r.val - 128
      omega
    · rw [if_neg h, if_neg h]

/-- The key columns of it. -/
abbrev KK (t : Fin cfg0.N) : FVec Ideal S128x128 .f32 :=
  k0_pay20 (F := Ideal) (BitVec.ofNat 32 (grid0.coords t 0).val) (iblk m c 2 t) (iblk m c 1 t) (iblk m c 3 t)

theorem KK_at (t : Fin cfg0.N) (r : Fin 128) (j : Fin 128) : (KK m c t (ix2 r j) : EReal) = gkv (Da m c) (row t r) ⟨j.val, by omega⟩ := by
  refine Eq.trans ?_ (KV_at m c t r ⟨j.val, by omega⟩)
  exact pay20_at _ _ _ _ r j

theorem VV_at (t : Fin cfg0.N) (r : Fin 128) (j : Fin 128) :
    (k0_pay2 (F := Ideal) (KV m c t) (ix2 r j) : EReal) = gkv (Da m c) (row t r) ⟨128 + j.val, by omega⟩ := by
  refine Eq.trans ?_ (KV_at m c t r ⟨128 + j.val, by omega⟩)
  unfold k0_pay2
  generalize KV m c t = T
  pointwise

/-- What is real: the queries' and keys' columns, their gradients and the gains. -/
structure Real (G : S8192x512.Idx → EReal) (D : S3x8192x256.Idx → EReal) (Z : S8192x1280.Idx → EReal) (q k : S64.Idx → EReal) : Prop where
  z : ∀ (i : Fin 8192) (n : Fin 1280), n.val < 640 → IsReal (Z (ix2 i n))
  g : ∀ (i : Fin 8192) (n : Fin 512), IsReal (G (ix2 i n))
  d : ∀ (p : Fin 3) (i : Fin 8192) (n : Fin 256), n.val < 128 → IsReal (D (ix3 p i n))
  q : ∀ e : Fin 64, IsReal (q (ix1 e))
  k : ∀ e : Fin 64, IsReal (k (ix1 e))

theorem Real.kv {G : S8192x512.Idx → EReal} {D : S3x8192x256.Idx → EReal} {Z : S8192x1280.Idx → EReal} {q k : S64.Idx → EReal} (h : Real G D Z q k)
    (i : Fin 8192) (n : Fin 256) (hn : n.val < 128) : IsReal (gkv D i n) := by
  unfold gkv
  refine IsReal.add (IsReal.add (h.d _ _ _ hn) ?_) ?_
  · split_ifs
    · exact h.d _ _ _ hn
    · exact IsReal.zero
  · split_ifs
    · exact h.d _ _ _ hn
    · exact IsReal.zero

theorem eighth_real : IsReal eighth := by
  unfold eighth
  rw [weighth]
  exact IsReal.coe _

variable (hr : Real (Ga m c) (Da m c) (Za m c) (Qa m c) (Ka m c))
include hr

/-- A point's gradients of the queries' and keys' columns. -/
theorem q_at (t : Fin cfg0.N) (r : Fin 128) (g : Fin 8) (e : Fin 64) :
    (k0_pay17 (F := Ideal) (k0_pay9 (ZQ m c t) (iblk m c 7 t) (iblk m c 7 t)) (k0_pay10 (ZQ m c t) (iblk m c 7 t) (iblk m c 7 t)) (k0_pay11 (iblk m c 0 t) (iblk m c 5 t))
      (k0_pay14 (ZQ m c t) (iblk m c 0 t) (iblk m c 7 t) (iblk m c 7 t) (iblk m c 5 t))
      (k0_pay15 (ZQ m c t) (iblk m c 0 t) (iblk m c 7 t) (iblk m c 7 t) (iblk m c 5 t) (iblk m c 7 t)) (k0_pay16 (iblk m c 7 t)) (ix2 r (col8 g e)) : EReal)
      = gq (Ga m c) (Za m c) (Qa m c) (row t r) g e := by
  refine (q_gen _ _ _ _ r (fun j => ?_) (fun j => ?_) (e8_blk m c t) g e).trans ?_
  · rw [ZQ_at]
    exact hr.z _ _ (by show j.val < 640; omega)
  · obtain ⟨g, e, rfl⟩ := exists_col8 j
    rw [g_blk, q_blk]
    exact ((hr.g _ _).mul eighth_real).mul (hr.q _)
  · simp only [ZQ_at, g_blk, q_blk]
    rfl

theorem k_at (t : Fin cfg0.N) (r : Fin 128) (g : Fin 2) (e : Fin 64) :
    (k0_pay26 (F := Ideal) (ZK m c t) (KK m c t) (k0_pay21 (ZK m c t)) (k0_pay22 (ZK m c t)) (k0_pay23 (ZK m c t)) (iblk m c 8 t) (iblk m c 8 t)
      (iblk m c 6 t) (iblk m c 8 t) (iblk m c 8 t) (ix2 r (col2 g e)) : EReal)
      = gk (Da m c) (Za m c) (Ka m c) (row t r) g e := by
  refine (k_gen _ _ _ _ r (fun j => ?_) (fun j => ?_) (e2_blk m c t) g e).trans ?_
  · rw [ZK_at]
    exact hr.z _ _ (by show 512 + j.val < 640; omega)
  · obtain ⟨g, e, rfl⟩ := exists_col2 j
    rw [KK_at, k_blk]
    exact (hr.kv _ _ (by show g.val * 64 + e.val < 128; omega)).mul (hr.k _)
  · simp only [ZK_at, KK_at, k_blk]
    rfl

/-- A point's sum over its rows of one residue. -/
def step (f : Fin 8192 → EReal) (t : Fin cfg0.N) (a : Fin 8) : EReal := ∑ u : Fin 16, f (row t (loc8 u a))

theorem pq_at (t : Fin cfg0.N) (v : FVec Ideal S8x512 .f32) (a : Fin 8) (g : Fin 8) (e : Fin 64) :
    (k0_pay18 (F := Ideal) (k0_pay8 (iblk m c 0 t)) (k0_pay10 (ZQ m c t) (iblk m c 7 t) (iblk m c 7 t)) v (ix2 a (col8 g e)) : EReal)
      = v (ix2 a (col8 g e)) + step (fun i => pq (Ga m c) (Za m c) i g e) t a := by
  refine (pay18_at _ _ _ _ a _).trans (congrArg₂ (· + ·) rfl (Finset.sum_congr rfl fun u _ => ?_))
  rw [kinv_eq (H := 8) rfl (fun j => ?_) (e8_blk m c t) col8 (fun _ _ => rfl)]
  · simp only [ZQ_at, g_blk]
    rfl
  · rw [ZQ_at]
    exact hr.z _ _ (by show j.val < 640; omega)

theorem pk_at (t : Fin cfg0.N) (v : FVec Ideal S8x128 .f32) (a : Fin 8) (g : Fin 2) (e : Fin 64) :
    (k0_pay1 (F := Ideal) (k0_pay27 v) (k0_pay28 (ZK m c t) (KK m c t) (k0_pay21 (ZK m c t)) (k0_pay22 (ZK m c t)) (k0_pay23 (ZK m c t)) (iblk m c 8 t) (iblk m c 8 t))
      (ix2 a (col2 g e)) : EReal)
      = v (ix2 a (col2 g e)) + step (fun i => pk (Da m c) (Za m c) i g e) t a := by
  refine (pay28_at _ _ _ _ a _).trans (congrArg₂ (· + ·) rfl (Finset.sum_congr rfl fun u _ => ?_))
  rw [kinv_eq (H := 2) rfl (fun j => ?_) (e2_blk m c t) col2 (fun _ _ => rfl)]
  · simp only [ZK_at, KK_at]
    rfl
  · rw [ZK_at]
    exact hr.z _ _ (by show 512 + j.val < 640; omega)

omit hr

theorem pd_at (t : Fin cfg0.N) (v : FVec Ideal S8x512 .f32) (a : Fin 8) (k : Fin 512) :
    (k0_pay4 (F := Ideal) (iblk m c 11 t) v (ZU m c t) (ix2 a k) : EReal)
      = v (ix2 a k) + step (fun i => pd (Ya m c) (Za m c) i k) t a := by
  refine (pay4_at _ _ _ a k).trans ?_
  simp only [ZU_at, y_blk]
  rfl

theorem u_at (t : Fin cfg0.N) (r : Fin 128) (k : Fin 512) :
    (k0_pay3 (F := Ideal) (iblk m c 11 t) (iblk m c 9 t) (iblk m c 10 t) (iblk m c 12 t) (ix2 r k) : EReal)
      = gu (Fa m c) (Ra m c) (Ya m c) (Sa m c) (row t r) k := by
  refine (pay3_at _ _ _ _ r k).trans ?_
  rw [y_blk, f_blk, r_blk, s_blk]
  rfl

/-- The whole grid adds up to the sum over all rows of a residue. -/
theorem steps (f : Fin 8192 → EReal) (a : Fin 8) (h : ∀ s : Fin 64, s.val < cfg0.N) :
    ∑ s : Fin 64, step f ⟨s.val, h s⟩ a = res f a := by
  unfold step res
  refine Fin.sum_mul_add_congr (L := 1024) (S := 64) (n := 16) (f := fun u => f (row8 u a)) (fun s u hl => ?_) (by decide)
  refine congrArg f (Fin.ext ?_)
  show s.val * 128 + (u.val * 8 + a.val) = (s.val * 16 + u.val) * 8 + a.val
  omega

theorem cover13 (P0 : FVec Ideal S128x512 .bf16) (P1 P2 : FVec Ideal S128x128 .bf16) (P3 : FVec Ideal S128x512 .bf16) (y : S128x1280.Idx) :
    ∃ p ∈ ([⟨Rect.unit ![0, 768] ![128, 512] inb_S128x1280_S128x512_0_768, P0⟩, ⟨Rect.unit ![0, 640] ![128, 128] inb_S128x1280_S128x128_0_640, P1⟩,
      ⟨Rect.unit ![0, 512] ![128, 128] inb_S128x1280_S128x128_0_512, P2⟩, ⟨Rect.unit ![0, 0] ![128, 512] inb_S128x1280_S128x512_0_0, P3⟩] :
      List (View.Piece (Elt Ideal) S128x1280 .bf16)), y ∈ p.1.set :=
  View.cover_of_tiledBy _ ![128, 128] (by sl_kernel_rfl) y

section out
variable (G : S8192x1280.Idx → EReal)
  (hQ : ∀ i g e, G (ix2 i (zq (col8 g e))) = gq (Ga m c) (Za m c) (Qa m c) i g e)
  (hK : ∀ i g e, G (ix2 i (zk (col2 g e))) = gk (Da m c) (Za m c) (Ka m c) i g e)
  (hV : ∀ i j, G (ix2 i (zv j)) = gkv (Da m c) i ⟨128 + j.val, by omega⟩)
  (hU : ∀ i j, G (ix2 i (zu j)) = gu (Fa m c) (Ra m c) (Ya m c) (Sa m c) i j)
include hr hQ hK hV hU

theorem row13 (t : Fin cfg0.N) (r : Fin 128) (j : Fin 1280) :
    ((outsAt0 m c t.val t.isLt).1 (ix2 r j) : EReal) = G (ix2 (row t r) j) := by
  by_cases h : t.val % 64 = 0
  · rw [outsAt0_A m c t h]
    dsimp only
    frame_out
    canon_tiles x hx using (cover13 _ _ _ _ _)
    · refine Norm.part r j 768 _ (fun j => G (ix2 (row t r) j)) (fun w hq => ?_) x (by simpa using hx0) hx1
      exact (u_at m c t r w).trans (hU (row t r) w).symm
    · refine Norm.part r j 640 _ (fun j => G (ix2 (row t r) j)) (fun w hq => ?_) x (by simpa using hx0) hx1
      exact (VV_at m c t r w).trans (hV (row t r) w).symm
    · refine Norm.part r j 512 _ (fun j => G (ix2 (row t r) j)) (fun w hq => ?_) x (by simpa using hx0) hx1
      obtain ⟨g, e, rfl⟩ := exists_col2 w
      exact (k_at m c hr t r g e).trans (hK (row t r) g e).symm
    · refine Norm.part r j 0 _ (fun j => G (ix2 (row t r) j)) (fun w hq => ?_) x (by simpa using hx0) (by simpa using hx1)
      obtain ⟨g, e, rfl⟩ := exists_col8 w
      exact (q_at m c hr t r g e).trans ((hQ (row t r) g e).symm.trans (congrArg (fun j => G (ix2 (row t r) j)) (Fin.ext (by simp))))
  · rw [outsAt0_B m c t h]
    dsimp only
    frame_out
    canon_tiles x hx using (cover13 _ _ _ _ _)
    · refine Norm.part r j 768 _ (fun j => G (ix2 (row t r) j)) (fun w hq => ?_) x (by simpa using hx0) hx1
      exact (u_at m c t r w).trans (hU (row t r) w).symm
    · refine Norm.part r j 640 _ (fun j => G (ix2 (row t r) j)) (fun w hq => ?_) x (by simpa using hx0) hx1
      exact (VV_at m c t r w).trans (hV (row t r) w).symm
    · refine Norm.part r j 512 _ (fun j => G (ix2 (row t r) j)) (fun w hq => ?_) x (by simpa using hx0) hx1
      obtain ⟨g, e, rfl⟩ := exists_col2 w
      exact (k_at m c hr t r g e).trans (hK (row t r) g e).symm
    · refine Norm.part r j 0 _ (fun j => G (ix2 (row t r) j)) (fun w hq => ?_) x (by simpa using hx0) (by simpa using hx1)
      obtain ⟨g, e, rfl⟩ := exists_col8 w
      exact (q_at m c hr t r g e).trans ((hQ (row t r) g e).symm.trans (congrArg (fun j => G (ix2 (row t r) j)) (Fin.ext (by simp))))

/-- The kernel's gradient of the projected rows. -/
theorem arr13 : (dats m 0 c).arrAt 13 cfg0.N = G := by
  refine (dats m 0 c).arrAt_eq_of_covers 13 _ (by decide +kernel) fun t hf y => ?_
  blk_simp
  rw [after0_13]
  obtain ⟨r, j, rfl⟩ : ∃ (r : Fin 128) (j : Fin 1280), y = ix2 r j := ⟨y 0, y 1, eq_ix2 y⟩
  refine (row13 m c hr G hQ hK hV hU t r j).trans (congrArg G ?_)
  blk_ext [idx t]

end out

theorem row16_A (t : Fin cfg0.N) (h : t.val % 64 = 0) (a : Fin 8) (k : Fin 512) :
    ((outsAt0 m c t.val t.isLt).2.2.2 (ix2 a k) : EReal) = (0 : EReal) + step (fun i => pd (Ya m c) (Za m c) i k) t a := by
  rw [outsAt0_A m c t h]
  dsimp only
  frame_out
  refine (pd_at m c t _ a k).trans ?_
  rw [pay7_zero]

theorem row16_B (t : Fin cfg0.N) (h : ¬ t.val % 64 = 0) (a : Fin 8) (k : Fin 512) :
    ((outsAt0 m c t.val t.isLt).2.2.2 (ix2 a k) : EReal)
      = ((outsAt0 m c (t.val - 1) (Nat.lt_of_le_of_lt (Nat.sub_le _ _) t.isLt)).2.2.2 (ix2 a k) : EReal) + step (fun i => pd (Ya m c) (Za m c) i k) t a := by
  rw [outsAt0_B m c t h]
  dsimp only
  frame_out
  exact pd_at m c t _ a k

/-- The kernel's gradient of the skip's weight. -/
theorem arr16 (G : S8x512.Idx → EReal) (hG : ∀ a k, G (ix2 a k) = res (fun i => pd (Ya m c) (Za m c) i k) a) :
    (dats m 0 c).arrAt 16 cfg0.N = G := by
  refine (dats m 0 c).arrAt_eq_of_covers 16 _ (by decide +kernel) fun t hf y => ?_
  blk_simp
  rw [after0_16]
  obtain ⟨a, k, rfl⟩ : ∃ (a : Fin 8) (k : Fin 512), y = ix2 a k := ⟨y 0, y 1, eq_ix2 y⟩
  have ht : t.val + 1 = 64 := by
    have := (flush0_16 t).mp hf
    have := lt64 t
    have : cfg0.N = 64 := N_0
    omega
  refine (Pipeline.eq_sum_fin_of_reset_step_apply_last
    (fun n h (i : Fin 8 × Fin 512) => ((outsAt0 m c n h).2.2.2 (ix2 i.1 i.2) : EReal)) 64 (fun _ => 0)
    (fun t i => step (fun r => pd (Ya m c) (Za m c) r i.2) t i.1) (fun t h i => row16_A m c t h _ _) (fun t h i => row16_B m c t h _ _)
    (le_of_eq N_0) t ht (a, k)).trans ?_
  rw [zero_add]
  refine Eq.trans (steps _ a _) ((hG a k).symm.trans (congrArg G ?_))
  blk_ext [idx t]

include hr

theorem row14_A (t : Fin cfg0.N) (h : t.val % 64 = 0) (a : Fin 8) (g : Fin 8) (e : Fin 64) :
    ((outsAt0 m c t.val t.isLt).2.1 (ix2 a (col8 g e)) : EReal) = (0 : EReal) + step (fun i => pq (Ga m c) (Za m c) i g e) t a := by
  rw [outsAt0_A m c t h]
  dsimp only
  frame_out
  refine (pq_at m c hr t _ a g e).trans ?_
  rw [pay5_zero]

theorem row14_B (t : Fin cfg0.N) (h : ¬ t.val % 64 = 0) (a : Fin 8) (g : Fin 8) (e : Fin 64) :
    ((outsAt0 m c t.val t.isLt).2.1 (ix2 a (col8 g e)) : EReal)
      = ((outsAt0 m c (t.val - 1) (Nat.lt_of_le_of_lt (Nat.sub_le _ _) t.isLt)).2.1 (ix2 a (col8 g e)) : EReal) + step (fun i => pq (Ga m c) (Za m c) i g e) t a := by
  rw [outsAt0_B m c t h]
  dsimp only
  frame_out
  exact pq_at m c hr t _ a g e

/-- The kernel's gradient of the queries' gain, of each head's copy. -/
theorem arr14 (G : S8x512.Idx → EReal) (hG : ∀ a g e, G (ix2 a (col8 g e)) = res (fun i => pq (Ga m c) (Za m c) i g e) a) :
    (dats m 0 c).arrAt 14 cfg0.N = G := by
  refine (dats m 0 c).arrAt_eq_of_covers 14 _ (by decide +kernel) fun t hf y => ?_
  blk_simp
  rw [after0_14]
  obtain ⟨a, k, rfl⟩ : ∃ (a : Fin 8) (k : Fin 512), y = ix2 a k := ⟨y 0, y 1, eq_ix2 y⟩
  obtain ⟨g, e, rfl⟩ := exists_col8 k
  have ht : t.val + 1 = 64 := by
    have := (flush0_14 t).mp hf
    have := lt64 t
    have : cfg0.N = 64 := N_0
    omega
  refine (Pipeline.eq_sum_fin_of_reset_step_apply_last
    (fun n h (i : Fin 8 × Fin 8 × Fin 64) => ((outsAt0 m c n h).2.1 (ix2 i.1 (col8 i.2.1 i.2.2)) : EReal)) 64 (fun _ => 0)
    (fun t i => step (fun r => pq (Ga m c) (Za m c) r i.2.1 i.2.2) t i.1) (fun t h i => row14_A m c hr t h _ _ _) (fun t h i => row14_B m c hr t h _ _ _)
    (le_of_eq N_0) t ht (a, g, e)).trans ?_
  rw [zero_add]
  refine Eq.trans (steps _ a _) ((hG a g e).symm.trans (congrArg G ?_))
  blk_ext [idx t]

theorem row15_A (t : Fin cfg0.N) (h : t.val % 64 = 0) (a : Fin 8) (g : Fin 2) (e : Fin 64) :
    ((outsAt0 m c t.val t.isLt).2.2.1 (ix2 a (col2 g e)) : EReal) = (0 : EReal) + step (fun i => pk (Da m c) (Za m c) i g e) t a := by
  rw [outsAt0_A m c t h]
  dsimp only
  frame_out
  refine (pk_at m c hr t _ a g e).trans ?_
  rw [pay6_zero]

theorem row15_B (t : Fin cfg0.N) (h : ¬ t.val % 64 = 0) (a : Fin 8) (g : Fin 2) (e : Fin 64) :
    ((outsAt0 m c t.val t.isLt).2.2.1 (ix2 a (col2 g e)) : EReal)
      = ((outsAt0 m c (t.val - 1) (Nat.lt_of_le_of_lt (Nat.sub_le _ _) t.isLt)).2.2.1 (ix2 a (col2 g e)) : EReal) + step (fun i => pk (Da m c) (Za m c) i g e) t a := by
  rw [outsAt0_B m c t h]
  dsimp only
  frame_out
  exact pk_at m c hr t _ a g e

/-- The kernel's gradient of the keys' gain, of each head's copy. -/
theorem arr15 (G : S8x128.Idx → EReal) (hG : ∀ a g e, G (ix2 a (col2 g e)) = res (fun i => pk (Da m c) (Za m c) i g e) a) :
    (dats m 0 c).arrAt 15 cfg0.N = G := by
  refine (dats m 0 c).arrAt_eq_of_covers 15 _ (by decide +kernel) fun t hf y => ?_
  blk_simp
  rw [after0_15]
  obtain ⟨a, k, rfl⟩ : ∃ (a : Fin 8) (k : Fin 128), y = ix2 a k := ⟨y 0, y 1, eq_ix2 y⟩
  obtain ⟨g, e, rfl⟩ := exists_col2 k
  have ht : t.val + 1 = 64 := by
    have := (flush0_15 t).mp hf
    have := lt64 t
    have : cfg0.N = 64 := N_0
    omega
  refine (Pipeline.eq_sum_fin_of_reset_step_apply_last
    (fun n h (i : Fin 8 × Fin 2 × Fin 64) => ((outsAt0 m c n h).2.2.1 (ix2 i.1 (col2 i.2.1 i.2.2)) : EReal)) 64 (fun _ => 0)
    (fun t i => step (fun r => pk (Da m c) (Za m c) r i.2.1 i.2.2) t i.1) (fun t h i => row15_A m c hr t h _ _ _) (fun t h i => row15_B m c hr t h _ _ _)
    (le_of_eq N_0) t ht (a, g, e)).trans ?_
  rw [zero_add]
  refine Eq.trans (steps _ a _) ((hG a g e).symm.trans (congrArg G ?_))
  blk_ext [idx t]

end Cert.GzIdeal.At

namespace Cert.Pre_finite_gz

open Idealize.ShloMosaic

instance facts : Cert.Pre_finite_gz.Facts where
  concatenates_S64_S64_S128_d0 := by decide
  bcast_S128_S1x128_1 := by decide
  bcast_S1x128_S8192x128_0_1 := by decide
  slices_S3x8192x256_S1x8192x128_0_0_0 := by decide
  shapeCasts_S1x8192x128_S8192x128 := by decide
  slices_S3x8192x256_S1x8192x128_1_0_0 := by decide
  slices_S3x8192x256_S1x8192x128_2_0_0 := by decide
  slices_S8192x1280_S8192x640_0_0 := by decide
  concatenates_S8192x512_S8192x128_S8192x128_S8192x128_S8192x640_S8192x128_S8192x1664_d1 := by decide
  bcast_S_S8192x1664 := by decide

variable {G : FVec Ideal S8192x512 .f32} {D : FVec Ideal S3x8192x256 .f32} {Z : FVec Ideal S8192x1280 .f32} {q k : FVec Ideal S64 .f32}
  {A B Y : FVec Ideal S8192x512 .f32} {s : FVec Ideal S512 .f32}

/-- What a row holds: the queries' gradient, the three parts of the keys', the queries and keys, the gains. -/
def cat (G : FVec Ideal S8192x512 .f32) (D : FVec Ideal S3x8192x256 .f32) (Z : FVec Ideal S8192x1280 .f32) (q k : FVec Ideal S64 .f32)
    (i : Fin 8192) (w : Fin 1664) : EReal :=
  if h : w.val < 512 then G (ix2 i ⟨w.val, h⟩)
  else if h : w.val - 512 < 128 then D (ix3 0 i ⟨w.val - 512, by omega⟩)
  else if h : w.val - 512 - 128 < 128 then D (ix3 1 i ⟨w.val - 512 - 128, by omega⟩)
  else if h : w.val - 512 - 128 - 128 < 128 then D (ix3 2 i ⟨w.val - 512 - 128 - 128, by omega⟩)
  else if h : w.val - 512 - 128 - 128 - 128 < 640 then Z (ix2 i ⟨w.val - 512 - 128 - 128 - 128, by omega⟩)
  else if h : w.val - 512 - 128 - 128 - 128 - 640 < 64 then q (ix1 ⟨w.val - 512 - 128 - 128 - 128 - 640, h⟩)
  else k (ix1 ⟨w.val - 512 - 128 - 128 - 128 - 640 - 64, by omega⟩)

theorem fn_at (i : Fin 8192) (w : Fin 1664) :
    fn G D Z q k A B Y s (ix2 i w) = BitVec.ofBool (decide (max (cat G D Z q k i w) (-(cat G D Z q k i w)) < ⊤)) := by
  rw [← Cert.Pre_finite.pinf]
  unfold fn
  pointwise
  rfl

theorem cat_real (hf : fn (F := Ideal) G D Z q k A B Y s = fun _ => 1#1) (i : Fin 8192) (w : Fin 1664) : Row.IsReal (cat G D Z q k i w) :=
  Cert.Pre_finite.isReal_of _ ((fn_at i w).symm.trans (congrFun hf (ix2 i w)))

theorem g_real (hf : fn (F := Ideal) G D Z q k A B Y s = fun _ => 1#1) (i : Fin 8192) (n : Fin 512) : Row.IsReal (G (ix2 i n)) := by
  have h := cat_real hf i ⟨n.val, by omega⟩
  unfold cat at h
  rw [dif_pos n.isLt] at h
  exact h

theorem d_real (hf : fn (F := Ideal) G D Z q k A B Y s = fun _ => 1#1) (p : Fin 3) (i : Fin 8192) (n : Fin 256) (hn : n.val < 128) : Row.IsReal (D (ix3 p i n)) := by
  have h := cat_real hf i ⟨512 + (p.val * 128 + n.val), by omega⟩
  have e : ∀ o, o = p.val * 128 → 512 + (p.val * 128 + n.val) - 512 - o = n.val := fun o ho => by omega
  unfold cat at h
  rw [dif_neg (by show ¬ 512 + (p.val * 128 + n.val) < 512; omega)] at h
  fin_cases p
  · rw [dif_pos (by simp; omega)] at h
    refine Eq.mp (congrArg (fun n => Row.IsReal (D (ix3 0 i n))) (Fin.ext ?_)) h
    simp
  · rw [dif_neg (by simp), dif_pos (by simp; omega)] at h
    refine Eq.mp (congrArg (fun n => Row.IsReal (D (ix3 1 i n))) (Fin.ext ?_)) h
    simp
  · rw [dif_neg (by simp; omega), dif_neg (by simp; omega), dif_pos (by simp; omega)] at h
    refine Eq.mp (congrArg (fun n => Row.IsReal (D (ix3 2 i n))) (Fin.ext ?_)) h
    simp
    omega

theorem z_real (hf : fn (F := Ideal) G D Z q k A B Y s = fun _ => 1#1) (i : Fin 8192) (n : Fin 1280) (hn : n.val < 640) : Row.IsReal (Z (ix2 i n)) := by
  have h := cat_real hf i ⟨896 + n.val, by omega⟩
  unfold cat at h
  rw [dif_neg (by show ¬ 896 + n.val < 512; omega), dif_neg (by show ¬ 896 + n.val - 512 < 128; omega), dif_neg (by show ¬ 896 + n.val - 512 - 128 < 128; omega),
    dif_neg (by show ¬ 896 + n.val - 512 - 128 - 128 < 128; omega), dif_pos (show 896 + n.val - 512 - 128 - 128 - 128 < 640 by omega)] at h
  refine Eq.mp (congrArg (fun n => Row.IsReal (Z (ix2 i n))) (Fin.ext ?_)) h
  show 896 + n.val - 512 - 128 - 128 - 128 = n.val
  omega

theorem q_real (hf : fn (F := Ideal) G D Z q k A B Y s = fun _ => 1#1) (e : Fin 64) : Row.IsReal (q (ix1 e)) := by
  have h := cat_real hf 0 ⟨1536 + e.val, by omega⟩
  unfold cat at h
  rw [dif_neg (by show ¬ 1536 + e.val < 512; omega), dif_neg (by show ¬ 1536 + e.val - 512 < 128; omega), dif_neg (by show ¬ 1536 + e.val - 512 - 128 < 128; omega),
    dif_neg (by show ¬ 1536 + e.val - 512 - 128 - 128 < 128; omega), dif_neg (by show ¬ 1536 + e.val - 512 - 128 - 128 - 128 < 640; omega),
    dif_pos (show 1536 + e.val - 512 - 128 - 128 - 128 - 640 < 64 by omega)] at h
  refine Eq.mp (congrArg (fun e => Row.IsReal (q (ix1 e))) (Fin.ext ?_)) h
  show 1536 + e.val - 512 - 128 - 128 - 128 - 640 = e.val
  omega

theorem k_real (hf : fn (F := Ideal) G D Z q k A B Y s = fun _ => 1#1) (e : Fin 64) : Row.IsReal (k (ix1 e)) := by
  have h := cat_real hf 0 ⟨1600 + e.val, by omega⟩
  unfold cat at h
  rw [dif_neg (by show ¬ 1600 + e.val < 512; omega), dif_neg (by show ¬ 1600 + e.val - 512 < 128; omega), dif_neg (by show ¬ 1600 + e.val - 512 - 128 < 128; omega),
    dif_neg (by show ¬ 1600 + e.val - 512 - 128 - 128 < 128; omega), dif_neg (by show ¬ 1600 + e.val - 512 - 128 - 128 - 128 < 640; omega),
    dif_neg (by show ¬ 1600 + e.val - 512 - 128 - 128 - 128 - 640 < 64; omega)] at h
  refine Eq.mp (congrArg (fun e => Row.IsReal (k (ix1 e))) (Fin.ext ?_)) h
  show 1600 + e.val - 512 - 128 - 128 - 128 - 640 - 64 = e.val
  omega

theorem real (hf : fn (F := Ideal) G D Z q k A B Y s = fun _ => 1#1) : Cert.GzIdeal.At.Real G D Z q k :=
  ⟨z_real hf, g_real hf, d_real hf, q_real hf, k_real hf⟩

end Cert.Pre_finite_gz

namespace Cert.GzRefIdeal.At

open Idealize.ShloMosaic Idealize.SL.Sem Idealize.ShloMosaic.StableHlo Cert.GzRefIdeal Cert.GzRefIdeal.Gen Cert.GzRefIdeal.Value Cert.Heads Cert.Row

open Cert.QkIdeal.At (zq zk zv qh kh)
open Cert.GzIdeal.At (eighth zu gkv ck tq tk gq gk gu pq pk pd row8 res)

variable (V : Valuation τ sig (Elt Ideal))

abbrev Ga : S8192x512.Idx → EReal := V (Proc.devRef .tc main_arg0)
abbrev Da : S3x8192x256.Idx → EReal := V (Proc.devRef .tc main_arg1)
abbrev Za : S8192x1280.Idx → EReal := V (Proc.devRef .tc main_arg2)
abbrev Qa : S64.Idx → EReal := V (Proc.devRef .tc main_arg3)
abbrev Ka : S64.Idx → EReal := V (Proc.devRef .tc main_arg4)
abbrev Fa : S8192x512.Idx → EReal := V (Proc.devRef .tc main_arg5)
abbrev Ra : S8192x512.Idx → EReal := V (Proc.devRef .tc main_arg6)
abbrev Ya : S8192x512.Idx → EReal := V (Proc.devRef .tc main_arg7)
abbrev Sa : S512.Idx → EReal := V (Proc.devRef .tc main_arg8)

theorem v4 (i : Fin 8192) (g : Fin 8) (e : Fin 64) : (res_main_v4 V (ix3 i g e) : EReal) = qh (Za V) i g e := by
  unfold res_main_v4
  pointwise

theorem v11 (i : Fin 8192) (g : Fin 8) (z : Fin 1) : (res_main_v11 V (ix3 i g z) : EReal) = ms (qh (Za V) i g) := by
  unfold res_main_v11
  pointwise
  simp only [v4]
  rfl

theorem v12 (i : Fin 8192) (g : Fin 8) (z : Fin 1) : (res_main_v12 V (ix3 i g z) : EReal) = inv (qh (Za V) i g) := by
  unfold res_main_v12
  pointwise
  rw [v11]
  rfl

theorem v18 (u : Fin 1024) (a : Fin 8) (g : Fin 8) (e : Fin 64) :
    (res_main_v18 V (ix4 u a g e) : EReal) = qh (Za V) (row8 u a) g e * inv (qh (Za V) (row8 u a) g) := by
  unfold res_main_v18
  pointwise
  simp only [v4, v12]

theorem v19 (z : Fin 1) (a : Fin 8) (g : Fin 8) (e : Fin 64) : (res_main_v19 V (ix4 z a g e) : EReal) = Qa V (ix1 e) := by
  unfold res_main_v19
  pointwise

theorem v149 (u : Fin 1024) (a : Fin 8) (g : Fin 8) (e : Fin 64) :
    (res_main_v149 V (ix4 u a g e) : EReal) = Ga V (ix2 (row8 u a) (col8 g e)) * eighth := by
  unfold res_main_v149
  pointwise
  exact div8 _

theorem v156 (i : Fin 8192) (g : Fin 8) (e : Fin 64) : (res_main_v156 V (ix3 i g e) : EReal) = tq (Ga V) (Qa V) i g e := by
  unfold res_main_v156
  pointwise
  simp only [v149, v19]
  unfold tq
  refine congrArg₂ (· * ·) (congrArg₂ (· * ·) (congrArg (fun i => Ga V (ix2 i (col8 g e))) (Fin.ext ?_)) rfl) rfl
  show i.val / 8 * 8 + i.val % 8 = i.val
  omega

theorem v166 (i : Fin 8192) (g : Fin 8) (e : Fin 64) : (res_main_v166 V (ix3 i g e) : EReal) = pull (qh (Za V) i g) (tq (Ga V) (Qa V) i g) := by
  unfold res_main_v166
  pointwise
  simp only [v4, v11, v12, v156, Fin.sum_univ_one]
  rfl

theorem v26 (i : Fin 8192) (g : Fin 2) (e : Fin 64) : (res_main_v26 V (ix3 i g e) : EReal) = kh (Za V) i g e := by
  unfold res_main_v26
  pointwise

theorem v33 (i : Fin 8192) (g : Fin 2) (z : Fin 1) : (res_main_v33 V (ix3 i g z) : EReal) = ms (kh (Za V) i g) := by
  unfold res_main_v33
  pointwise
  simp only [v26]
  rfl

theorem v34 (i : Fin 8192) (g : Fin 2) (z : Fin 1) : (res_main_v34 V (ix3 i g z) : EReal) = inv (kh (Za V) i g) := by
  unfold res_main_v34
  pointwise
  rw [v33]
  rfl

theorem v40 (u : Fin 1024) (a : Fin 8) (g : Fin 2) (e : Fin 64) :
    (res_main_v40 V (ix4 u a g e) : EReal) = kh (Za V) (row8 u a) g e * inv (kh (Za V) (row8 u a) g) := by
  unfold res_main_v40
  pointwise
  simp only [v26, v34]

theorem v41 (z : Fin 1) (a : Fin 8) (g : Fin 2) (e : Fin 64) : (res_main_v41 V (ix4 z a g e) : EReal) = Ka V (ix1 e) := by
  unfold res_main_v41
  pointwise

/-- The bands of the keys' gradient, and of the values'. -/
theorem v77 (z : Fin 1) (n : Fin 64) (p : Fin 3) (r : Fin 128) (g : Fin 2) (e : Fin 64) :
    (res_main_v77 V (ix5 z n ⟨p.val * 128 + r.val, by omega⟩ g e) : EReal) = Da V (ix3 p ⟨n.val * 128 + r.val, by omega⟩ (ck g e)) := by
  unfold res_main_v77
  pointwise

theorem v81 (z : Fin 1) (n : Fin 64) (p : Fin 3) (r : Fin 128) (g : Fin 2) (e : Fin 64) :
    (res_main_v81 V (ix5 z n ⟨p.val * 128 + r.val, by omega⟩ g e) : EReal) = Da V (ix3 p ⟨n.val * 128 + r.val, by omega⟩ ⟨128 + (g.val * 64 + e.val), by omega⟩) := by
  unfold res_main_v81
  pointwise

theorem v77_at (g : Fin 2) (e : Fin 64) (n : Fin 64) (p : Fin 3) (r : Fin 128) (w : Fin 384) (i : Fin 8192) (hw : w.val = p.val * 128 + r.val)
    (hi : i.val = n.val * 128 + r.val) : (res_main_v77 V (ix5 0 n w g e) : EReal) = Da V (ix3 p i (ck g e)) := by
  have ew : w = ⟨p.val * 128 + r.val, by omega⟩ := Fin.ext hw
  have ei : (⟨n.val * 128 + r.val, by omega⟩ : Fin 8192) = i := Fin.ext hi.symm
  exact (congrArg (fun w => (res_main_v77 V (ix5 0 n w g e) : EReal)) ew).trans ((v77 V 0 n p r g e).trans (congrArg (fun i => Da V (ix3 p i (ck g e))) ei))

theorem v81_at (g : Fin 2) (e : Fin 64) (n : Fin 64) (p : Fin 3) (r : Fin 128) (w : Fin 384) (i : Fin 8192) (hw : w.val = p.val * 128 + r.val)
    (hi : i.val = n.val * 128 + r.val) : (res_main_v81 V (ix5 0 n w g e) : EReal) = Da V (ix3 p i ⟨128 + (g.val * 64 + e.val), by omega⟩) := by
  have ew : w = ⟨p.val * 128 + r.val, by omega⟩ := Fin.ext hw
  have ei : (⟨n.val * 128 + r.val, by omega⟩ : Fin 8192) = i := Fin.ext hi.symm
  exact (congrArg (fun w => (res_main_v81 V (ix5 0 n w g e) : EReal)) ew).trans ((v81 V 0 n p r g e).trans (congrArg (fun i => Da V (ix3 p i ⟨128 + (g.val * 64 + e.val), by omega⟩)) ei))

/-- A row is the third part of the band one block above, the second of its own and the first of the one below. -/
theorem bands (f : Fin 64 → Fin 384 → EReal) (D : S3x8192x256.Idx → EReal) (j : Fin 256)
    (hf : ∀ (n : Fin 64) (p : Fin 3) (r : Fin 128) (w : Fin 384) (i : Fin 8192), w.val = p.val * 128 + r.val → i.val = n.val * 128 + r.val → f n w = D (ix3 p i j))
    (i : Fin 8192) :
    (((if h : (2 ≤ (128 + i.val) / 128 ∧ (128 + i.val) / 128 - 2 < 64) ∧ (128 + i.val) % 128 < 128 then
          f ⟨(128 + i.val) / 128 - 2, by omega⟩ ⟨256 + (128 + i.val) % 128, by omega⟩ else 0)
        + if h : (1 ≤ (128 + i.val) / 128 ∧ (128 + i.val) / 128 - 1 < 64) ∧ (128 + i.val) % 128 < 128 then
          f ⟨(128 + i.val) / 128 - 1, by omega⟩ ⟨128 + (128 + i.val) % 128, by omega⟩ else 0)
        + if h : (128 + i.val) / 128 < 64 ∧ (128 + i.val) % 128 < 128 then
          f ⟨(128 + i.val) / 128, by omega⟩ ⟨(128 + i.val) % 128, by omega⟩ else 0) = gkv D i j := by
  have hi := i.isLt
  rw [dif_pos (c := (1 ≤ (128 + i.val) / 128 ∧ (128 + i.val) / 128 - 1 < 64) ∧ (128 + i.val) % 128 < 128) ⟨⟨by omega, by omega⟩, by omega⟩,
    hf _ 1 ⟨(128 + i.val) % 128, by omega⟩ _ i (by show 128 + (128 + i.val) % 128 = 1 * 128 + (128 + i.val) % 128; omega)
      (by show i.val = ((128 + i.val) / 128 - 1) * 128 + (128 + i.val) % 128; omega)]
  unfold gkv
  rw [add_comm (dite _ _ _) (D _), add_right_comm]
  refine congrArg₂ (· + ·) (congrArg₂ (· + ·) rfl ?_) ?_
  · by_cases h : i.val / 128 + 1 < 64
    · rw [dif_pos h, dif_pos ⟨by omega, by omega⟩]
      exact hf _ 0 ⟨(128 + i.val) % 128, by omega⟩ _ _ (by show (128 + i.val) % 128 = 0 * 128 + (128 + i.val) % 128; omega)
        (by show i.val + 128 = (128 + i.val) / 128 * 128 + (128 + i.val) % 128; omega)
    · rw [dif_neg h, dif_neg (by omega)]
  · by_cases h : 1 ≤ i.val / 128
    · rw [if_pos h, dif_pos ⟨⟨by omega, by omega⟩, by omega⟩]
      exact hf _ 2 ⟨(128 + i.val) % 128, by omega⟩ _ _ (by show 256 + (128 + i.val) % 128 = 2 * 128 + (128 + i.val) % 128; omega)
        (by show i.val - 128 = ((128 + i.val) / 128 - 2) * 128 + (128 + i.val) % 128; omega)
    · rw [if_neg h, dif_neg (by omega)]

theorem v113 (z : Fin 1) (i : Fin 8192) (g : Fin 2) (e : Fin 64) : (res_main_v113 V (ix4 z ⟨128 + i.val, by omega⟩ g e) : EReal) = gkv (Da V) i (ck g e) := by
  unfold res_main_v113
  pointwise
  exact bands (fun n w => res_main_v77 V (ix5 0 n w g e)) (Da V) (ck g e) (v77_at V g e) i

theorem v100 (z : Fin 1) (i : Fin 8192) (g : Fin 2) (e : Fin 64) :
    (res_main_v100 V (ix4 z ⟨128 + i.val, by omega⟩ g e) : EReal) = gkv (Da V) i ⟨128 + (g.val * 64 + e.val), by omega⟩ := by
  unfold res_main_v100
  pointwise
  exact bands (fun n w => res_main_v81 V (ix5 0 n w g e)) (Da V) _ (v81_at V g e) i

theorem v122 (u : Fin 1024) (a : Fin 8) (g : Fin 2) (e : Fin 64) : (res_main_v122 V (ix4 u a g e) : EReal) = gkv (Da V) (row8 u a) (ck g e) := by
  unfold res_main_v122
  pointwise
  simp only [Fin.sum_univ_one]
  exact v113 V 0 (row8 u a) g e

theorem v129 (i : Fin 8192) (g : Fin 2) (e : Fin 64) : (res_main_v129 V (ix3 i g e) : EReal) = tk (Da V) (Ka V) i g e := by
  unfold res_main_v129
  pointwise
  simp only [v122, v41]
  unfold tk
  refine congrArg₂ (· * ·) (congrArg (fun i => gkv (Da V) i (ck g e)) (Fin.ext ?_)) rfl
  show i.val / 8 * 8 + i.val % 8 = i.val
  omega

theorem v139 (i : Fin 8192) (g : Fin 2) (e : Fin 64) : (res_main_v139 V (ix3 i g e) : EReal) = pull (kh (Za V) i g) (tk (Da V) (Ka V) i g) := by
  unfold res_main_v139
  pointwise
  simp only [v26, v33, v34, v129, Fin.sum_univ_one]
  rfl

theorem v68 (u : Fin 1024) (a : Fin 8) (j : Fin 512) : (res_main_v68 V (ix3 u a j) : EReal) = Za V (ix2 (row8 u a) (zu j)) := by
  unfold res_main_v68
  pointwise

theorem v69 (z : Fin 1) (a : Fin 8) (j : Fin 512) : (res_main_v69 V (ix3 z a j) : EReal) = Sa V (ix1 j) := by
  unfold res_main_v69
  pointwise

theorem v83 (u : Fin 1024) (a : Fin 8) (j : Fin 512) : (res_main_v83 V (ix3 u a j) : EReal) = Ya V (ix2 (row8 u a) j) := by
  unfold res_main_v83
  pointwise

/-- The four groups of columns of the first result, and the results. -/
def gU : FVec Ideal S8192x512 .f32 :=
  addf (addf (Fa V : FVec Ideal S8192x512 .f32) (Ra V : FVec Ideal S8192x512 .f32)) (shapeCast _ (mulf (res_main_v83 V) (broadcastInDim S1024x8x512 ![0, 1, 2] bcast_S1x8x512_S1024x8x512_0_1_2 (res_main_v69 V))) shapeCasts_S1024x8x512_S8192x512)
def gV : FVec Ideal S8192x128 .f32 :=
  shapeCast _ (Host.reduceAdd (extractStridedSlice S1x8192x2x64 ![0, 128, 0, 0] (res_main_v100 V) slices_S1x8448x2x64_S1x8192x2x64_0_128_0_0) (constant S_ .f32 0x00000000#32) reducesTo_S1x8192x2x64_S8192x2x64_d0 h_S_) shapeCasts_S8192x2x64_S8192x128
def gK : FVec Ideal S8192x128 .f32 :=
  shapeCast _ (addf (addf (mulf (res_main_v129 V) (broadcastInDim S8192x2x64 ![0, 1, 2] bcast_S8192x2x1_S8192x2x64_0_1_2 (res_main_v34 V))) (mulf (res_main_v26 V) (res_main_v139 V))) (mulf (res_main_v139 V) (res_main_v26 V))) shapeCasts_S8192x2x64_S8192x128
def gQ : FVec Ideal S8192x512 .f32 :=
  shapeCast _ (addf (addf (mulf (res_main_v156 V) (broadcastInDim S8192x8x64 ![0, 1, 2] bcast_S8192x8x1_S8192x8x64_0_1_2 (res_main_v12 V))) (mulf (res_main_v4 V) (res_main_v166 V))) (mulf (res_main_v166 V) (res_main_v4 V))) shapeCasts_S8192x8x64_S8192x512
def gZ : FVec Ideal S8192x1280 .bf16 :=
  truncf .bf16 (addf (addf (addf (pad S8192x1280 ![0, 768] ![0, 0] ![0, 0] (gU V) (constant S_ .f32 0x00000000#32) pads_S8192x512_S8192x1280_000_76800 h_S_)
    (pad S8192x1280 ![0, 640] ![0, 512] ![0, 0] (gV V) (constant S_ .f32 0x00000000#32) pads_S8192x128_S8192x1280_000_6405120 h_S_))
    (pad S8192x1280 ![0, 512] ![0, 640] ![0, 0] (gK V) (constant S_ .f32 0x00000000#32) pads_S8192x128_S8192x1280_000_5126400 h_S_))
    (pad S8192x1280 ![0, 0] ![0, 768] ![0, 0] (gQ V) (constant S_ .f32 0x00000000#32) pads_S8192x512_S8192x1280_000_07680 h_S_)) bitsLt_bf16_f32
def gA : FVec Ideal S8x512 .f32 :=
  shapeCast _ (Host.reduceAdd (shapeCast _ (Host.reduceAdd (mulf (res_main_v18 V) (res_main_v149 V)) (constant S_ .f32 0x00000000#32) reducesTo_S1024x8x8x64_S8x8x64_d0 h_S_) shapeCasts_S8x8x64_S1x8x8x64) (constant S_ .f32 0x00000000#32) reducesTo_S1x8x8x64_S8x8x64_d0 h_S_) shapeCasts_S8x8x64_S8x512
def gB : FVec Ideal S8x128 .f32 :=
  shapeCast _ (Host.reduceAdd (shapeCast _ (Host.reduceAdd (mulf (res_main_v40 V) (res_main_v122 V)) (constant S_ .f32 0x00000000#32) reducesTo_S1024x8x2x64_S8x2x64_d0 h_S_) shapeCasts_S8x2x64_S1x8x2x64) (constant S_ .f32 0x00000000#32) reducesTo_S1x8x2x64_S8x2x64_d0 h_S_) shapeCasts_S8x2x64_S8x128
def gD : FVec Ideal S8x512 .f32 :=
  Host.reduceAdd (shapeCast _ (Host.reduceAdd (mulf (res_main_v68 V) (res_main_v83 V)) (constant S_ .f32 0x00000000#32) reducesTo_S1024x8x512_S8x512_d0 h_S_) shapeCasts_S8x512_S1x8x512) (constant S_ .f32 0x00000000#32) reducesTo_S1x8x512_S8x512_d0 h_S_

theorem gU_at (i : Fin 8192) (j : Fin 512) : (gU V (ix2 i j) : EReal) = gu (Fa V) (Ra V) (Ya V) (Sa V) i j := by
  unfold gU
  pointwise
  simp only [v83, v69]
  unfold gu
  refine congrArg₂ (· + ·) rfl ?_
  rw [mul_comm]
  refine congrArg₂ (· * ·) rfl (congrArg (fun i => Ya V (ix2 i j)) (Fin.ext ?_))
  show i.val / 8 * 8 + i.val % 8 = i.val
  omega

theorem gV_at (i : Fin 8192) (j : Fin 128) : (gV V (ix2 i j) : EReal) = gkv (Da V) i ⟨128 + j.val, by omega⟩ := by
  obtain ⟨g, e, rfl⟩ := exists_col2 j
  unfold gV
  pointwise
  simp only [Fin.sum_univ_one]
  have h : (g.val * 64 + e.val) % 64 = e.val := by omega
  have h' : (g.val * 64 + e.val) / 64 = g.val := by omega
  simp only [h, h']
  exact v100 V 0 i g e

theorem gK_at (i : Fin 8192) (g : Fin 2) (e : Fin 64) : (gK V (ix2 i (col2 g e)) : EReal) = rgrad (kh (Za V) i g) (tk (Da V) (Ka V) i g) e := by
  unfold gK
  pointwise
  have h : (g.val * 64 + e.val) % 64 = e.val := by omega
  have h' : (g.val * 64 + e.val) / 64 = g.val := by omega
  simp only [h, h', v26, v34, v129, v139]
  rfl

theorem gQ_at (i : Fin 8192) (g : Fin 8) (e : Fin 64) : (gQ V (ix2 i (col8 g e)) : EReal) = rgrad (qh (Za V) i g) (tq (Ga V) (Qa V) i g) e := by
  unfold gQ
  pointwise
  have h : (g.val * 64 + e.val) % 64 = e.val := by omega
  have h' : (g.val * 64 + e.val) / 64 = g.val := by omega
  simp only [h, h', v4, v12, v156, v166]
  rfl

theorem gA_at (a : Fin 8) (g : Fin 8) (e : Fin 64) : (gA V (ix2 a (col8 g e)) : EReal) = Cert.GzIdeal.At.res (fun i => pq (Ga V) (Za V) i g e) a := by
  unfold gA
  pointwise
  have h : (g.val * 64 + e.val) % 64 = e.val := by omega
  have h' : (g.val * 64 + e.val) / 64 = g.val := by omega
  simp only [h, h', Fin.sum_univ_one, v18, v149]
  exact Finset.sum_congr rfl fun u _ => mul_comm _ _

theorem gB_at (a : Fin 8) (g : Fin 2) (e : Fin 64) : (gB V (ix2 a (col2 g e)) : EReal) = Cert.GzIdeal.At.res (fun i => pk (Da V) (Za V) i g e) a := by
  unfold gB
  pointwise
  have h : (g.val * 64 + e.val) % 64 = e.val := by omega
  have h' : (g.val * 64 + e.val) / 64 = g.val := by omega
  simp only [h, h', Fin.sum_univ_one, v40, v122]
  exact Finset.sum_congr rfl fun u _ => mul_comm _ _

theorem gD_at (a : Fin 8) (k : Fin 512) : (gD V (ix2 a k) : EReal) = Cert.GzIdeal.At.res (fun i => pd (Ya V) (Za V) i k) a := by
  unfold gD
  pointwise
  simp only [Fin.sum_univ_one, v68, v83]
  exact Finset.sum_congr rfl fun u _ => mul_comm _ _

theorem gZ_u (i : Fin 8192) (j : Fin 512) : (gZ V (ix2 i (zu j)) : EReal) = gU V (ix2 i j) := by
  unfold gZ
  generalize gU V = A
  generalize gV V = B
  generalize gK V = C
  generalize gQ V = D
  pointwise
  split_ifs <;> first | (exfalso; omega) | (exfalso; tauto) | simp

theorem gZ_v (i : Fin 8192) (j : Fin 128) : (gZ V (ix2 i (zv j)) : EReal) = gV V (ix2 i j) := by
  unfold gZ
  generalize gU V = A
  generalize gV V = B
  generalize gK V = C
  generalize gQ V = D
  pointwise
  split_ifs <;> first | (exfalso; omega) | (exfalso; tauto) | simp

theorem gZ_k (i : Fin 8192) (j : Fin 128) : (gZ V (ix2 i (zk j)) : EReal) = gK V (ix2 i j) := by
  unfold gZ
  generalize gU V = A
  generalize gV V = B
  generalize gK V = C
  generalize gQ V = D
  pointwise
  split_ifs <;> first | (exfalso; omega) | (exfalso; tauto) | simp

theorem gZ_q (i : Fin 8192) (j : Fin 512) : (gZ V (ix2 i (zq j)) : EReal) = gQ V (ix2 i j) := by
  unfold gZ
  generalize gU V = A
  generalize gV V = B
  generalize gK V = C
  generalize gQ V = D
  pointwise
  split_ifs <;> first | (exfalso; omega) | (exfalso; tauto) | simp

end Cert.GzRefIdeal.At

namespace Cert.Proof.Gz

open Idealize.ShloMosaic Idealize.SL.Sem Idealize.ShloMosaic.StableHlo Cert.Heads Cert.Row

theorem frame_r : Cert.quiescent_GzRefIdeal := fun m ρ _ =>
  (θ_run Cert.GzRefIdeal.defs _ _).mono (fun r h => ⟨fun c => (h c).2.2.2.2, sem_eq_zero_of_no_sems (by decide) r.2⟩)
    (Cert.GzRefIdeal.Value.run m ρ)

theorem algebraic : Cert.algebraic_GzIdeal_GzRefIdeal_pre_finite_gz := fun m ρ m' ρ' hpre hag => by
  refine ⟨fun c => (Cert.GzIdeal.Gen.dats m 0 c).arrAt 13 Cert.GzIdeal.cfg0.N,
    fun c => (Cert.GzIdeal.Gen.dats m 0 c).arrAt 14 Cert.GzIdeal.cfg0.N,
    fun c => (Cert.GzIdeal.Gen.dats m 0 c).arrAt 15 Cert.GzIdeal.cfg0.N,
    fun c => (Cert.GzIdeal.Gen.dats m 0 c).arrAt 16 Cert.GzIdeal.cfg0.N, Cert.GzIdeal.Value.run_blocks m ρ, ?_⟩
  refine (θ_run _ _ _).mono (fun _ h c => ?_) (Cert.GzRefIdeal.Value.run m' ρ')
  obtain ⟨h0, h1, h2, h3, hk⟩ := h c
  obtain ⟨e0, e1, e2, e3, e4, e5, e6, e7, e8⟩ := hag c
  have hr : Cert.GzIdeal.At.Real (Cert.GzIdeal.At.Ga m c) (Cert.GzIdeal.At.Da m c) (Cert.GzIdeal.At.Za m c) (Cert.GzIdeal.At.Qa m c) (Cert.GzIdeal.At.Ka m c) :=
    Cert.Pre_finite_gz.real (hpre c)
  have g0 : Cert.GzRefIdeal.At.Ga (launchContents m' c) = Cert.GzIdeal.At.Ga m c := e0
  have g1 : Cert.GzRefIdeal.At.Da (launchContents m' c) = Cert.GzIdeal.At.Da m c := e1
  have g2 : Cert.GzRefIdeal.At.Za (launchContents m' c) = Cert.GzIdeal.At.Za m c := e2
  have g3 : Cert.GzRefIdeal.At.Qa (launchContents m' c) = Cert.GzIdeal.At.Qa m c := e3
  have g4 : Cert.GzRefIdeal.At.Ka (launchContents m' c) = Cert.GzIdeal.At.Ka m c := e4
  have g5 : Cert.GzRefIdeal.At.Fa (launchContents m' c) = Cert.GzIdeal.At.Fa m c := e5
  have g6 : Cert.GzRefIdeal.At.Ra (launchContents m' c) = Cert.GzIdeal.At.Ra m c := e6
  have g7 : Cert.GzRefIdeal.At.Ya (launchContents m' c) = Cert.GzIdeal.At.Ya m c := e7
  have g8 : Cert.GzRefIdeal.At.Sa (launchContents m' c) = Cert.GzIdeal.At.Sa m c := e8
  refine ⟨h0.trans (Cert.GzIdeal.At.arr13 m c hr (Cert.GzRefIdeal.At.gZ (launchContents m' c)) (fun i g e => ?_) (fun i g e => ?_) (fun i j => ?_) fun i j => ?_).symm,
    h1.trans (Cert.GzIdeal.At.arr14 m c hr (Cert.GzRefIdeal.At.gA (launchContents m' c)) fun a g e => ?_).symm,
    h2.trans (Cert.GzIdeal.At.arr15 m c hr (Cert.GzRefIdeal.At.gB (launchContents m' c)) fun a g e => ?_).symm,
    h3.trans (Cert.GzIdeal.At.arr16 m c (Cert.GzRefIdeal.At.gD (launchContents m' c)) fun a k => ?_).symm, hk⟩
  · rw [Cert.GzRefIdeal.At.gZ_q, Cert.GzRefIdeal.At.gQ_at, g0, g2, g3]
    exact rgrad_eq (fun e => hr.z _ _ (by show g.val * 64 + e.val < 640; omega)) (fun e => ((hr.g _ _).mul Cert.GzIdeal.At.eighth_real).mul (hr.q _)) e
  · rw [Cert.GzRefIdeal.At.gZ_k, Cert.GzRefIdeal.At.gK_at, g1, g2, g4]
    exact rgrad_eq (fun e => hr.z _ _ (by show 512 + (g.val * 64 + e.val) < 640; omega))
      (fun e => (hr.kv _ _ (by show g.val * 64 + e.val < 128; omega)).mul (hr.k _)) e
  · rw [Cert.GzRefIdeal.At.gZ_v, Cert.GzRefIdeal.At.gV_at, g1]
  · rw [Cert.GzRefIdeal.At.gZ_u, Cert.GzRefIdeal.At.gU_at, g5, g6, g7, g8]
  · rw [Cert.GzRefIdeal.At.gA_at, g0, g2]
  · rw [Cert.GzRefIdeal.At.gB_at, g1, g2]
  · rw [Cert.GzRefIdeal.At.gD_at, g2, g7]

end Cert.Proof.Gz

end
-- ==== Proof.lean ====
/- The claims, assembled. -/
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Bff1
public import proofs.«01_k».proof.Proof.Gen.Bff1.Skeleton
public import proofs.«01_k».proof.Proof.Gen.Bff1.Launch
public import proofs.«01_k».proof.Proof.Gen.Bff1.Points
public import proofs.«01_k».proof.Proof.Gen.Bff1.Frame
public import proofs.«01_k».proof.Proof.Gen.Bff1Ideal
public import proofs.«01_k».proof.Proof.Gen.Bff1Ideal.Skeleton
public import proofs.«01_k».proof.Proof.Gen.Bff1Ideal.Launch
public import proofs.«01_k».proof.Proof.Gen.Bff1Ideal.Points
public import proofs.«01_k».proof.Proof.Gen.Bff1Ideal.Frame
public import proofs.«01_k».proof.Proof.Gen.Bff1Ideal.Value
public import proofs.«01_k».proof.Proof.Gen.Bff1RefIdeal
public import proofs.«01_k».proof.Proof.Gen.Bff1RefIdeal.Run
public import proofs.«01_k».proof.Proof.Gen.Bff2
public import proofs.«01_k».proof.Proof.Gen.Bff2.Skeleton
public import proofs.«01_k».proof.Proof.Gen.Bff2.Launch
public import proofs.«01_k».proof.Proof.Gen.Bff2.Points
public import proofs.«01_k».proof.Proof.Gen.Bff2.Frame
public import proofs.«01_k».proof.Proof.Gen.Bff2Ideal
public import proofs.«01_k».proof.Proof.Gen.Bff2Ideal.Skeleton
public import proofs.«01_k».proof.Proof.Gen.Bff2Ideal.Launch
public import proofs.«01_k».proof.Proof.Gen.Bff2Ideal.Points
public import proofs.«01_k».proof.Proof.Gen.Bff2Ideal.Frame
public import proofs.«01_k».proof.Proof.Gen.Bff2Ideal.Value
public import proofs.«01_k».proof.Proof.Gen.Bff2RefIdeal
public import proofs.«01_k».proof.Proof.Gen.Bff2RefIdeal.Run
public import proofs.«01_k».proof.Proof.Gen.Wff2
public import proofs.«01_k».proof.Proof.Gen.Wff2.Skeleton
public import proofs.«01_k».proof.Proof.Gen.Wff2.Launch
public import proofs.«01_k».proof.Proof.Gen.Wff2.Points
public import proofs.«01_k».proof.Proof.Gen.Wff2.Frame
public import proofs.«01_k».proof.Proof.Gen.Wff2Ideal
public import proofs.«01_k».proof.Proof.Gen.Wff2Ideal.Skeleton
public import proofs.«01_k».proof.Proof.Gen.Wff2Ideal.Launch
public import proofs.«01_k».proof.Proof.Gen.Wff2Ideal.Points
public import proofs.«01_k».proof.Proof.Gen.Wff2Ideal.Frame
public import proofs.«01_k».proof.Proof.Gen.Wff2Ideal.Value
public import proofs.«01_k».proof.Proof.Gen.Wff2RefIdeal
public import proofs.«01_k».proof.Proof.Gen.Wff2RefIdeal.Run
public import proofs.«01_k».proof.Proof.Gen.Wff1
public import proofs.«01_k».proof.Proof.Gen.Wff1.Skeleton
public import proofs.«01_k».proof.Proof.Gen.Wff1.Launch
public import proofs.«01_k».proof.Proof.Gen.Wff1.Points
public import proofs.«01_k».proof.Proof.Gen.Wff1.Frame
public import proofs.«01_k».proof.Proof.Gen.Wff1Ideal
public import proofs.«01_k».proof.Proof.Gen.Wff1Ideal.Skeleton
public import proofs.«01_k».proof.Proof.Gen.Wff1Ideal.Launch
public import proofs.«01_k».proof.Proof.Gen.Wff1Ideal.Points
public import proofs.«01_k».proof.Proof.Gen.Wff1Ideal.Frame
public import proofs.«01_k».proof.Proof.Gen.Wff1Ideal.Value
public import proofs.«01_k».proof.Proof.Gen.Wff1RefIdeal
public import proofs.«01_k».proof.Proof.Gen.Wff1RefIdeal.Run
public import proofs.«01_k».proof.Proof.Gen.Ff1
public import proofs.«01_k».proof.Proof.Gen.Ff1.Skeleton
public import proofs.«01_k».proof.Proof.Gen.Ff1.Launch
public import proofs.«01_k».proof.Proof.Gen.Ff1.Points
public import proofs.«01_k».proof.Proof.Gen.Ff1.Frame
public import proofs.«01_k».proof.Proof.Gen.Ff1Ideal
public import proofs.«01_k».proof.Proof.Gen.Ff1Ideal.Skeleton
public import proofs.«01_k».proof.Proof.Gen.Ff1Ideal.Launch
public import proofs.«01_k».proof.Proof.Gen.Ff1Ideal.Points
public import proofs.«01_k».proof.Proof.Gen.Ff1Ideal.Frame
public import proofs.«01_k».proof.Proof.Gen.Ff1Ideal.Value
public import proofs.«01_k».proof.Proof.Gen.Ff1RefIdeal
public import proofs.«01_k».proof.Proof.Gen.Ff1RefIdeal.Run
public import proofs.«01_k».proof.Proof.Gen.Ff2
public import proofs.«01_k».proof.Proof.Gen.Ff2.Skeleton
public import proofs.«01_k».proof.Proof.Gen.Ff2.Launch
public import proofs.«01_k».proof.Proof.Gen.Ff2.Points
public import proofs.«01_k».proof.Proof.Gen.Ff2.Frame
public import proofs.«01_k».proof.Proof.Gen.Ff2Ideal
public import proofs.«01_k».proof.Proof.Gen.Ff2Ideal.Skeleton
public import proofs.«01_k».proof.Proof.Gen.Ff2Ideal.Launch
public import proofs.«01_k».proof.Proof.Gen.Ff2Ideal.Points
public import proofs.«01_k».proof.Proof.Gen.Ff2Ideal.Frame
public import proofs.«01_k».proof.Proof.Gen.Ff2Ideal.Value
public import proofs.«01_k».proof.Proof.Gen.Ff2RefIdeal
public import proofs.«01_k».proof.Proof.Gen.Ff2RefIdeal.Run
public import proofs.«01_k».proof.Proof.Gen.Bin
public import proofs.«01_k».proof.Proof.Gen.Bin.Skeleton
public import proofs.«01_k».proof.Proof.Gen.Bin.Launch
public import proofs.«01_k».proof.Proof.Gen.Bin.Points
public import proofs.«01_k».proof.Proof.Gen.Bin.Frame
public import proofs.«01_k».proof.Proof.Gen.BinIdeal
public import proofs.«01_k».proof.Proof.Gen.BinIdeal.Skeleton
public import proofs.«01_k».proof.Proof.Gen.BinIdeal.Launch
public import proofs.«01_k».proof.Proof.Gen.BinIdeal.Points
public import proofs.«01_k».proof.Proof.Gen.BinIdeal.Frame
public import proofs.«01_k».proof.Proof.Gen.BinIdeal.Value
public import proofs.«01_k».proof.Proof.Gen.BinRefIdeal
public import proofs.«01_k».proof.Proof.Gen.BinRefIdeal.Run
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinIdeal.Value
public import proofs.«01_k».proof.Proof.Gen.WinRefIdeal
public import proofs.«01_k».proof.Proof.Gen.WinRefIdeal.Run
public import proofs.«01_k».proof.Proof.Gen.Bout
public import proofs.«01_k».proof.Proof.Gen.Bout.Skeleton
public import proofs.«01_k».proof.Proof.Gen.Bout.Launch
public import proofs.«01_k».proof.Proof.Gen.Bout.Points
public import proofs.«01_k».proof.Proof.Gen.Bout.Frame
public import proofs.«01_k».proof.Proof.Gen.BoutIdeal
public import proofs.«01_k».proof.Proof.Gen.BoutIdeal.Skeleton
public import proofs.«01_k».proof.Proof.Gen.BoutIdeal.Launch
public import proofs.«01_k».proof.Proof.Gen.BoutIdeal.Points
public import proofs.«01_k».proof.Proof.Gen.BoutIdeal.Frame
public import proofs.«01_k».proof.Proof.Gen.BoutIdeal.Value
public import proofs.«01_k».proof.Proof.Gen.BoutRefIdeal
public import proofs.«01_k».proof.Proof.Gen.BoutRefIdeal.Run
public import proofs.«01_k».proof.Proof.Gen.Wout
public import proofs.«01_k».proof.Proof.Gen.Wout.Skeleton
public import proofs.«01_k».proof.Proof.Gen.Wout.Launch
public import proofs.«01_k».proof.Proof.Gen.Wout.Points
public import proofs.«01_k».proof.Proof.Gen.Wout.Frame
public import proofs.«01_k».proof.Proof.Gen.WoutIdeal
public import proofs.«01_k».proof.Proof.Gen.WoutIdeal.Skeleton
public import proofs.«01_k».proof.Proof.Gen.WoutIdeal.Launch
public import proofs.«01_k».proof.Proof.Gen.WoutIdeal.Points
public import proofs.«01_k».proof.Proof.Gen.WoutIdeal.Frame
public import proofs.«01_k».proof.Proof.Gen.WoutIdeal.Value
public import proofs.«01_k».proof.Proof.Gen.WoutRefIdeal
public import proofs.«01_k».proof.Proof.Gen.WoutRefIdeal.Run
public import proofs.«01_k».proof.Proof.Gen.Wglu
public import proofs.«01_k».proof.Proof.Gen.Wglu.Skeleton
public import proofs.«01_k».proof.Proof.Gen.Wglu.Launch
public import proofs.«01_k».proof.Proof.Gen.Wglu.Points
public import proofs.«01_k».proof.Proof.Gen.Wglu.Frame
public import proofs.«01_k».proof.Proof.Gen.WgluIdeal
public import proofs.«01_k».proof.Proof.Gen.WgluIdeal.Skeleton
public import proofs.«01_k».proof.Proof.Gen.WgluIdeal.Launch
public import proofs.«01_k».proof.Proof.Gen.WgluIdeal.Points
public import proofs.«01_k».proof.Proof.Gen.WgluIdeal.Frame
public import proofs.«01_k».proof.Proof.Gen.WgluIdeal.Value
public import proofs.«01_k».proof.Proof.Gen.WgluRefIdeal
public import proofs.«01_k».proof.Proof.Gen.WgluRefIdeal.Run
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.Bglu
public import proofs.«01_k».proof.Proof.Gen.Bglu.Skeleton
public import proofs.«01_k».proof.Proof.Gen.Bglu.Launch
public import proofs.«01_k».proof.Proof.Gen.Bglu.Points
public import proofs.«01_k».proof.Proof.Gen.Bglu.Frame
public import proofs.«01_k».proof.Proof.Gen.BgluIdeal
public import proofs.«01_k».proof.Proof.Gen.BgluIdeal.Skeleton
public import proofs.«01_k».proof.Proof.Gen.BgluIdeal.Launch
public import proofs.«01_k».proof.Proof.Gen.BgluIdeal.Points
public import proofs.«01_k».proof.Proof.Gen.BgluIdeal.Frame
public import proofs.«01_k».proof.Proof.Gen.BgluIdeal.Value
public import proofs.«01_k».proof.Proof.Gen.BgluRefIdeal
public import proofs.«01_k».proof.Proof.Gen.BgluRefIdeal.Run
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.Qk
public import proofs.«01_k».proof.Proof.Gen.Qk.Skeleton
public import proofs.«01_k».proof.Proof.Gen.Qk.Launch
public import proofs.«01_k».proof.Proof.Gen.Qk.Points
public import proofs.«01_k».proof.Proof.Gen.Qk.Frame
public import proofs.«01_k».proof.Proof.Gen.QkIdeal
public import proofs.«01_k».proof.Proof.Gen.QkIdeal.Skeleton
public import proofs.«01_k».proof.Proof.Gen.QkIdeal.Launch
public import proofs.«01_k».proof.Proof.Gen.QkIdeal.Points
public import proofs.«01_k».proof.Proof.Gen.QkIdeal.Frame
public import proofs.«01_k».proof.Proof.Gen.QkIdeal.Value
public import proofs.«01_k».proof.Proof.Gen.QkRefIdeal
public import proofs.«01_k».proof.Proof.Gen.QkRefIdeal.Run
public import proofs.«01_k».proof.Proof.Gen.Gz
public import proofs.«01_k».proof.Proof.Gen.Gz.Skeleton
public import proofs.«01_k».proof.Proof.Gen.Gz.Launch
public import proofs.«01_k».proof.Proof.Gen.Gz.Points
public import proofs.«01_k».proof.Proof.Gen.Gz.Frame
public import proofs.«01_k».proof.Proof.Gen.GzIdeal
public import proofs.«01_k».proof.Proof.Gen.GzIdeal.Skeleton
public import proofs.«01_k».proof.Proof.Gen.GzIdeal.Launch
public import proofs.«01_k».proof.Proof.Gen.GzIdeal.Points
public import proofs.«01_k».proof.Proof.Gen.GzIdeal.Frame
public import proofs.«01_k».proof.Proof.Gen.GzIdeal.Value
public import proofs.«01_k».proof.Proof.Gen.GzRefIdeal
public import proofs.«01_k».proof.Proof.Gen.GzRefIdeal.Run
public import Idealize.ShloMosaic.Adequacy
public import Idealize.ShloMosaic.Init
public import proofs.«01_k».proof.Proof.Fin
public import proofs.«01_k».proof.Proof.RefRes
public import proofs.«01_k».proof.Proof.KerSum
public import proofs.«01_k».proof.Proof.Bff1Val
public import proofs.«01_k».proof.Proof.Bff2Val
public import proofs.«01_k».proof.Proof.Wff2Val
public import proofs.«01_k».proof.Proof.Wff1Val
public import proofs.«01_k».proof.Proof.Ff1Val
public import proofs.«01_k».proof.Proof.Ff2Val
public import proofs.«01_k».proof.Proof.BinVal
public import proofs.«01_k».proof.Proof.WinVal
public import proofs.«01_k».proof.Proof.BoutVal
public import proofs.«01_k».proof.Proof.WoutVal
public import proofs.«01_k».proof.Proof.WgluVal
public import proofs.«01_k».proof.Proof.InVal
public import proofs.«01_k».proof.Proof.OutVal
public import proofs.«01_k».proof.Proof.GluVal
public import proofs.«01_k».proof.Proof.BgluVal
public import proofs.«01_k».proof.Proof.AttnVal
public import proofs.«01_k».proof.Proof.LossVal
public import proofs.«01_k».proof.Proof.AdamVal
public import proofs.«01_k».proof.Proof.QkVal
public import proofs.«01_k».proof.Proof.GzVal

@[expose] public section

noncomputable section

namespace Cert.Proof

open Idealize.ShloMosaic Idealize.SL.Sem Idealize.ShloMosaic.StableHlo

theorem preserves : Cert.preserves_Kernel_KernelIdeal :=
  IdealRules.named_const.statement Cert.KernelIdeal.κ "mask" .f32 0xFF61B1E6#32 ⊥ rfl

/-- The reference runs, and no semaphore is left raised, for it declares none. -/
theorem frame_r (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2.2.2, sem_eq_zero_of_no_sems (by decide) r.2⟩)
    (Cert.ReferenceIdeal.Value.run m ρ)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs start from the same four arrays, and these are real. -/
structure Same : Prop where
  q : Cert.ReferenceIdeal.At.Qa (launchContents m' c) = Cert.KernelIdeal.At.Qa m c
  x : Cert.ReferenceIdeal.At.Xa (launchContents m' c) = Cert.KernelIdeal.At.Xa m c
  d : Cert.ReferenceIdeal.At.Da (launchContents m' c) = Cert.KernelIdeal.At.Da m c
  z : Cert.ReferenceIdeal.At.Za (launchContents m' c) = Cert.KernelIdeal.At.Za m c
  real : Spec.AllReal (Cert.KernelIdeal.At.Qa m c) (Cert.KernelIdeal.At.Xa m c) (Cert.KernelIdeal.At.Da m c) (Cert.KernelIdeal.At.Za m c)

variable {m m' c} (h : Same m m' c)

include h in
theorem Same.real' : Spec.AllReal (Cert.ReferenceIdeal.At.Qa (launchContents m' c)) (Cert.ReferenceIdeal.At.Xa (launchContents m' c))
    (Cert.ReferenceIdeal.At.Da (launchContents m' c)) (Cert.ReferenceIdeal.At.Za (launchContents m' c)) := by
  rw [h.q, h.x, h.d, h.z]
  exact h.real

include h in
theorem same_gq : (Cert.KernelIdeal.Gen.dats m 0 c).arrAt 6 Cert.KernelIdeal.cfg0.N = Cert.ReferenceIdeal.At.gq (launchContents m' c) :=
  Cert.KernelIdeal.At.arr6 m c _ fun n k g r d => by
    have e := Cert.ReferenceIdeal.At.gq_res (V := launchContents m' c) h.real' n k g r d
    rw [h.q, h.x, h.d, h.z] at e
    exact e

include h in
theorem same_dkv : (Cert.KernelIdeal.Gen.dats m 0 c).arrAt 7 Cert.KernelIdeal.cfg0.N = Cert.ReferenceIdeal.At.dkv (launchContents m' c) :=
  Cert.KernelIdeal.At.arr7 m c _ (fun b n j k d => by
    have e := Cert.ReferenceIdeal.At.dk_res (V := launchContents m' c) h.real' b n j k d
    rw [h.q, h.x, h.d, h.z] at e
    exact e) fun b n j k d => by
    have e := Cert.ReferenceIdeal.At.dv_res (V := launchContents m' c) h.real' b n j k d
    rw [h.q, h.x, h.d, h.z] at e
    exact e

include h in
theorem same_gs : (Cert.KernelIdeal.Gen.dats m 0 c).arrAt 8 Cert.KernelIdeal.cfg0.N = Cert.ReferenceIdeal.At.gs (launchContents m' c) :=
  Cert.KernelIdeal.At.arr8 m c _ fun k g l => by
    have e := Cert.ReferenceIdeal.At.gs_res (V := launchContents m' c) h.real' k g l
    rw [h.q, h.x, h.d, h.z] at e
    exact e

end

theorem algebraic : Cert.algebraic_KernelIdeal_ReferenceIdeal_pre_finite := fun m ρ m' ρ' hpre hag => by
  have hs : ∀ c : Dev Cert.KernelIdeal.nD, Same m m' c := fun c =>
    ⟨(hag c).1, (hag c).2.1, (hag c).2.2.1, (hag c).2.2.2, Cert.Pre_finite.allReal _ _ _ _ (hpre c)⟩
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks m ρ, ?_⟩
  refine (θ_run _ _ _).mono (fun _ h c => ?_) (Cert.ReferenceIdeal.Value.run m' ρ')
  obtain ⟨h0, h1, h2, hk⟩ := h c
  exact ⟨h0.trans (same_gq (hs c)).symm, h1.trans (same_dkv (hs c)).symm, h2.trans (same_gs (hs c)).symm, hk⟩

theorem claim : Cert.Claim :=
  ⟨Cert.Kernel.Gen.facts, Cert.KernelIdeal.Gen.facts, Cert.ReferenceIdeal.Gen.facts, Cert.Bff1.Gen.facts, Cert.Bff1Ideal.Gen.facts, Cert.Bff1RefIdeal.Gen.facts, Cert.Bff2.Gen.facts, Cert.Bff2Ideal.Gen.facts, Cert.Bff2RefIdeal.Gen.facts, Cert.Wff2.Gen.facts, Cert.Wff2Ideal.Gen.facts, Cert.Wff2RefIdeal.Gen.facts, Cert.Wff1.Gen.facts, Cert.Wff1Ideal.Gen.facts, Cert.Wff1RefIdeal.Gen.facts, Cert.Ff1.Gen.facts, Cert.Ff1Ideal.Gen.facts, Cert.Ff1RefIdeal.Gen.facts, Cert.Ff2.Gen.facts, Cert.Ff2Ideal.Gen.facts, Cert.Ff2RefIdeal.Gen.facts, Cert.Bin.Gen.facts, Cert.BinIdeal.Gen.facts, Cert.BinRefIdeal.Gen.facts, Cert.Win.Gen.facts, Cert.WinIdeal.Gen.facts, Cert.WinRefIdeal.Gen.facts, Cert.Bout.Gen.facts, Cert.BoutIdeal.Gen.facts, Cert.BoutRefIdeal.Gen.facts, Cert.Wout.Gen.facts, Cert.WoutIdeal.Gen.facts, Cert.WoutRefIdeal.Gen.facts, Cert.Wglu.Gen.facts, Cert.WgluIdeal.Gen.facts, Cert.WgluRefIdeal.Gen.facts, Cert.In.Gen.facts, Cert.InIdeal.Gen.facts, Cert.InRefIdeal.Gen.facts, Cert.Out.Gen.facts, Cert.OutIdeal.Gen.facts, Cert.OutRefIdeal.Gen.facts, Cert.Glu.Gen.facts, Cert.GluIdeal.Gen.facts, Cert.GluRefIdeal.Gen.facts, Cert.Bglu.Gen.facts, Cert.BgluIdeal.Gen.facts, Cert.BgluRefIdeal.Gen.facts, Cert.Attn.Gen.facts, Cert.AttnIdeal.Gen.facts, Cert.AttnRefIdeal.Gen.facts, Cert.Loss.Gen.facts, Cert.LossIdeal.Gen.facts, Cert.LossRefIdeal.Gen.facts, Cert.Adam.Gen.facts, Cert.AdamIdeal.Gen.facts, Cert.AdamRefIdeal.Gen.facts, Cert.Qk.Gen.facts, Cert.QkIdeal.Gen.facts, Cert.QkRefIdeal.Gen.facts, Cert.Gz.Gen.facts, Cert.GzIdeal.Gen.facts, Cert.GzRefIdeal.Gen.facts, Cert.Pre_finite.facts, Cert.Pre_finite_bglu.facts, Cert.Pre_finite_attn.facts, Cert.Pre_finite_qk.facts, Cert.Pre_finite_gz.facts,
    fun m ρ _ => Cert.Kernel.Gen.frame m ρ, fun m ρ _ => Cert.KernelIdeal.Gen.frame m ρ, fun m ρ _ => Cert.KernelIdeal.Gen.frame m ρ, fun m ρ _ => frame_r m ρ, fun m ρ _ => frame_r m ρ,
    fun m ρ _ => Cert.Bff1.Gen.frame m ρ, fun m ρ _ => Cert.Bff1Ideal.Gen.frame m ρ, Bff1.frame_r,
    fun m ρ _ => Cert.Bff2.Gen.frame m ρ, fun m ρ _ => Cert.Bff2Ideal.Gen.frame m ρ, Bff2.frame_r,
    fun m ρ _ => Cert.Wff2.Gen.frame m ρ, fun m ρ _ => Cert.Wff2Ideal.Gen.frame m ρ, Wff2.frame_r,
    fun m ρ _ => Cert.Wff1.Gen.frame m ρ, fun m ρ _ => Cert.Wff1Ideal.Gen.frame m ρ, Wff1.frame_r,
    fun m ρ _ => Cert.Ff1.Gen.frame m ρ, fun m ρ _ => Cert.Ff1Ideal.Gen.frame m ρ, Ff1.frame_r,
    fun m ρ _ => Cert.Ff2.Gen.frame m ρ, fun m ρ _ => Cert.Ff2Ideal.Gen.frame m ρ, Ff2.frame_r,
    fun m ρ _ => Cert.Bin.Gen.frame m ρ, fun m ρ _ => Cert.BinIdeal.Gen.frame m ρ, Bin.frame_r,
    fun m ρ _ => Cert.Win.Gen.frame m ρ, fun m ρ _ => Cert.WinIdeal.Gen.frame m ρ, Win.frame_r,
    fun m ρ _ => Cert.Bout.Gen.frame m ρ, fun m ρ _ => Cert.BoutIdeal.Gen.frame m ρ, Bout.frame_r,
    fun m ρ _ => Cert.Wout.Gen.frame m ρ, fun m ρ _ => Cert.WoutIdeal.Gen.frame m ρ, Wout.frame_r,
    fun m ρ _ => Cert.Wglu.Gen.frame m ρ, fun m ρ _ => Cert.WgluIdeal.Gen.frame m ρ, Wglu.frame_r,
    fun m ρ _ => Cert.In.Gen.frame m ρ, fun m ρ _ => Cert.InIdeal.Gen.frame m ρ, In.frame_r,
    fun m ρ _ => Cert.Out.Gen.frame m ρ, fun m ρ _ => Cert.OutIdeal.Gen.frame m ρ, Out.frame_r,
    fun m ρ _ => Cert.Glu.Gen.frame m ρ, fun m ρ _ => Cert.GluIdeal.Gen.frame m ρ, Glu.frame_r,
    fun m ρ _ => Cert.Bglu.Gen.frame m ρ, fun m ρ _ => Cert.BgluIdeal.Gen.frame m ρ, fun m ρ _ => Cert.BgluIdeal.Gen.frame m ρ, Bglu.frame_r, fun m ρ _ => Bglu.frame_r m ρ trivial,
    fun m ρ _ => Cert.Attn.Gen.frame m ρ, fun m ρ _ => Cert.AttnIdeal.Gen.frame m ρ, fun m ρ _ => Cert.AttnIdeal.Gen.frame m ρ, Attn.frame_r, fun m ρ _ => Attn.frame_r m ρ trivial,
    fun m ρ _ => Cert.Loss.Gen.frame m ρ, fun m ρ _ => Cert.LossIdeal.Gen.frame m ρ, Loss.frame_r,
    fun m ρ _ => Cert.Adam.Gen.frame m ρ, fun m ρ _ => Cert.AdamIdeal.Gen.frame m ρ, Adam.frame_r,
    fun m ρ _ => Cert.Qk.Gen.frame m ρ, fun m ρ _ => Cert.QkIdeal.Gen.frame m ρ, fun m ρ _ => Cert.QkIdeal.Gen.frame m ρ, Qk.frame_r, fun m ρ _ => Qk.frame_r m ρ trivial,
    fun m ρ _ => Cert.Gz.Gen.frame m ρ, fun m ρ _ => Cert.GzIdeal.Gen.frame m ρ, fun m ρ _ => Cert.GzIdeal.Gen.frame m ρ, Gz.frame_r, fun m ρ _ => Gz.frame_r m ρ trivial,
    preserves, algebraic, trivial, Bff1.algebraic, trivial, Bff2.algebraic, trivial, Wff2.algebraic, trivial, Wff1.algebraic, trivial, Ff1.algebraic, trivial, Ff2.algebraic, trivial, Bin.algebraic, trivial, Win.algebraic, trivial, Bout.algebraic, trivial, Wout.algebraic, trivial, Wglu.algebraic, trivial, In.algebraic, trivial, Out.algebraic, trivial, Glu.algebraic, ⟨IdealRules.named_const.statement Cert.BgluIdeal.κ "gelu" .f32 0x3D372713#32 _ rfl, IdealRules.named_const.statement Cert.BgluIdeal.κ "gelu3" .f32 0x3E095D4F#32 _ rfl⟩, Bglu.algebraic, IdealRules.named_const.statement Cert.AttnIdeal.κ "mask" .f32 0xFF61B1E6#32 _ rfl, Attn.algebraic, trivial, Loss.algebraic, trivial, Adam.algebraic, trivial, Qk.algebraic, trivial, Gz.algebraic⟩

end Cert.Proof

end
